-- ==== Defs.lean ====
def Pre_MixNorm (m : (ℓ : Loc Cert.MixNorm.nD Cert.MixNorm.τ Cert.MixNorm.sig) → Buf (Elt Bits) ℓ) : Prop :=
  True

def Pre_MixNormIdeal (m : (ℓ : Loc Cert.MixNormIdeal.nD Cert.MixNormIdeal.τ Cert.MixNormIdeal.sig) → Buf (Elt Ideal) ℓ) : Prop :=
  True

def Pre_MixNormRefIdeal (m : (ℓ : Loc Cert.MixNormRefIdeal.nD Cert.MixNormRefIdeal.τ Cert.MixNormRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Att (m : (ℓ : Loc Cert.Att.nD Cert.Att.τ Cert.Att.sig) → Buf (Elt Bits) ℓ) : Prop :=
  True

def Pre_AttIdeal (m : (ℓ : Loc Cert.AttIdeal.nD Cert.AttIdeal.τ Cert.AttIdeal.sig) → Buf (Elt Ideal) ℓ) : Prop :=
  True

def Pre_AttIdeal_att_finite [hPre_att_finite : Cert.Pre_att_finite.Facts] (m : (ℓ : Loc Cert.AttIdeal.nD Cert.AttIdeal.τ Cert.AttIdeal.sig) → Buf (Elt Ideal) ℓ) : Prop :=
  ∀ c : Dev Cert.AttIdeal.nD,
    (Cert.Pre_att_finite.fn (F := Ideal) (m ((c.tc : Thread Cert.AttIdeal.nD Cert.AttIdeal.τ).loc Cert.AttIdeal.main_arg0)) (m ((c.tc : Thread Cert.AttIdeal.nD Cert.AttIdeal.τ).loc Cert.AttIdeal.main_arg1)) (m ((c.tc : Thread Cert.AttIdeal.nD Cert.AttIdeal.τ).loc Cert.AttIdeal.main_arg2))).1 = (fun _ => 1#1)
    ∧ (Cert.Pre_att_finite.fn (F := Ideal) (m ((c.tc : Thread Cert.AttIdeal.nD Cert.AttIdeal.τ).loc Cert.AttIdeal.main_arg0)) (m ((c.tc : Thread Cert.AttIdeal.nD Cert.AttIdeal.τ).loc Cert.AttIdeal.main_arg1)) (m ((c.tc : Thread Cert.AttIdeal.nD Cert.AttIdeal.τ).loc Cert.AttIdeal.main_arg2))).2.1 = (fun _ => 1#1)
    ∧ (Cert.Pre_att_finite.fn (F := Ideal) (m ((c.tc : Thread Cert.AttIdeal.nD Cert.AttIdeal.τ).loc Cert.AttIdeal.main_arg0)) (m ((c.tc : Thread Cert.AttIdeal.nD Cert.AttIdeal.τ).loc Cert.AttIdeal.main_arg1)) (m ((c.tc : Thread Cert.AttIdeal.nD Cert.AttIdeal.τ).loc Cert.AttIdeal.main_arg2))).2.2 = (fun _ => 1#1)

def Pre_AttRefIdeal (m : (ℓ : Loc Cert.AttRefIdeal.nD Cert.AttRefIdeal.τ Cert.AttRefIdeal.sig) → Buf (Elt Ideal) ℓ) : Prop :=
  True

def Pre_AttRefIdeal_att_finite [hPre_att_finite : Cert.Pre_att_finite.Facts] (m : (ℓ : Loc Cert.AttRefIdeal.nD Cert.AttRefIdeal.τ Cert.AttRefIdeal.sig) → Buf (Elt Ideal) ℓ) : Prop :=
  ∀ c : Dev Cert.AttRefIdeal.nD,
    (Cert.Pre_att_finite.fn (F := Ideal) (m ((c.tc : Thread Cert.AttRefIdeal.nD Cert.AttRefIdeal.τ).loc Cert.AttRefIdeal.main_arg0)) (m ((c.tc : Thread Cert.AttRefIdeal.nD Cert.AttRefIdeal.τ).loc Cert.AttRefIdeal.main_arg1)) (m ((c.tc : Thread Cert.AttRefIdeal.nD Cert.AttRefIdeal.τ).loc Cert.AttRefIdeal.main_arg2))).1 = (fun _ => 1#1)
    ∧ (Cert.Pre_att_finite.fn (F := Ideal) (m ((c.tc : Thread Cert.AttRefIdeal.nD Cert.AttRefIdeal.τ).loc Cert.AttRefIdeal.main_arg0)) (m ((c.tc : Thread Cert.AttRefIdeal.nD Cert.AttRefIdeal.τ).loc Cert.AttRefIdeal.main_arg1)) (m ((c.tc : Thread Cert.AttRefIdeal.nD Cert.AttRefIdeal.τ).loc Cert.AttRefIdeal.main_arg2))).2.1 = (fun _ => 1#1)
    ∧ (Cert.Pre_att_finite.fn (F := Ideal) (m ((c.tc : Thread Cert.AttRefIdeal.nD Cert.AttRefIdeal.τ).loc Cert.AttRefIdeal.main_arg0)) (m ((c.tc : Thread Cert.AttRefIdeal.nD Cert.AttRefIdeal.τ).loc Cert.AttRefIdeal.main_arg1)) (m ((c.tc : Thread Cert.AttRefIdeal.nD Cert.AttRefIdeal.τ).loc Cert.AttRefIdeal.main_arg2))).2.2 = (fun _ => 1#1)

def Pre_AttFwd (m : (ℓ : Loc Cert.AttFwd.nD Cert.AttFwd.τ Cert.AttFwd.sig) → Buf (Elt Bits) ℓ) : Prop :=
  True

def Pre_AttFwdIdeal (m : (ℓ : Loc Cert.AttFwdIdeal.nD Cert.AttFwdIdeal.τ Cert.AttFwdIdeal.sig) → Buf (Elt Ideal) ℓ) : Prop :=
  True

def Pre_AttFwdIdeal_attfwd_finite [hPre_attfwd_finite : Cert.Pre_attfwd_finite.Facts] (m : (ℓ : Loc Cert.AttFwdIdeal.nD Cert.AttFwdIdeal.τ Cert.AttFwdIdeal.sig) → Buf (Elt Ideal) ℓ) : Prop :=
  ∀ c : Dev Cert.AttFwdIdeal.nD,
    (Cert.Pre_attfwd_finite.fn (F := Ideal) (m ((c.tc : Thread Cert.AttFwdIdeal.nD Cert.AttFwdIdeal.τ).loc Cert.AttFwdIdeal.main_arg0)) (m ((c.tc : Thread Cert.AttFwdIdeal.nD Cert.AttFwdIdeal.τ).loc Cert.AttFwdIdeal.main_arg1))).1 = (fun _ => 1#1)
    ∧ (Cert.Pre_attfwd_finite.fn (F := Ideal) (m ((c.tc : Thread Cert.AttFwdIdeal.nD Cert.AttFwdIdeal.τ).loc Cert.AttFwdIdeal.main_arg0)) (m ((c.tc : Thread Cert.AttFwdIdeal.nD Cert.AttFwdIdeal.τ).loc Cert.AttFwdIdeal.main_arg1))).2 = (fun _ => 1#1)

def Pre_AttFwdRefIdeal (m : (ℓ : Loc Cert.AttFwdRefIdeal.nD Cert.AttFwdRefIdeal.τ Cert.AttFwdRefIdeal.sig) → Buf (Elt Ideal) ℓ) : Prop :=
  True

def Pre_AttFwdRefIdeal_attfwd_finite [hPre_attfwd_finite : Cert.Pre_attfwd_finite.Facts] (m : (ℓ : Loc Cert.AttFwdRefIdeal.nD Cert.AttFwdRefIdeal.τ Cert.AttFwdRefIdeal.sig) → Buf (Elt Ideal) ℓ) : Prop :=
  ∀ c : Dev Cert.AttFwdRefIdeal.nD,
    (Cert.Pre_attfwd_finite.fn (F := Ideal) (m ((c.tc : Thread Cert.AttFwdRefIdeal.nD Cert.AttFwdRefIdeal.τ).loc Cert.AttFwdRefIdeal.main_arg0)) (m ((c.tc : Thread Cert.AttFwdRefIdeal.nD Cert.AttFwdRefIdeal.τ).loc Cert.AttFwdRefIdeal.main_arg1))).1 = (fun _ => 1#1)
    ∧ (Cert.Pre_attfwd_finite.fn (F := Ideal) (m ((c.tc : Thread Cert.AttFwdRefIdeal.nD Cert.AttFwdRefIdeal.τ).loc Cert.AttFwdRefIdeal.main_arg0)) (m ((c.tc : Thread Cert.AttFwdRefIdeal.nD Cert.AttFwdRefIdeal.τ).loc Cert.AttFwdRefIdeal.main_arg1))).2 = (fun _ => 1#1)

def Pre_Bias (m : (ℓ : Loc Cert.Bias.nD Cert.Bias.τ Cert.Bias.sig) → Buf (Elt Bits) ℓ) : Prop :=
  True

def Pre_BiasIdeal (m : (ℓ : Loc Cert.BiasIdeal.nD Cert.BiasIdeal.τ Cert.BiasIdeal.sig) → Buf (Elt Ideal) ℓ) : Prop :=
  True

def Pre_BiasIdeal_bias_finite [hPre_bias_finite : Cert.Pre_bias_finite.Facts] (m : (ℓ : Loc Cert.BiasIdeal.nD Cert.BiasIdeal.τ Cert.BiasIdeal.sig) → Buf (Elt Ideal) ℓ) : Prop :=
  ∀ c : Dev Cert.BiasIdeal.nD,
    (Cert.Pre_bias_finite.fn (F := Ideal) (m ((c.tc : Thread Cert.BiasIdeal.nD Cert.BiasIdeal.τ).loc Cert.BiasIdeal.main_arg0))) = (fun _ => 1#1)

def Pre_BiasRefIdeal (m : (ℓ : Loc Cert.BiasRefIdeal.nD Cert.BiasRefIdeal.τ Cert.BiasRefIdeal.sig) → Buf (Elt Ideal) ℓ) : Prop :=
  True

def Pre_BiasRefIdeal_bias_finite [hPre_bias_finite : Cert.Pre_bias_finite.Facts] (m : (ℓ : Loc Cert.BiasRefIdeal.nD Cert.BiasRefIdeal.τ Cert.BiasRefIdeal.sig) → Buf (Elt Ideal) ℓ) : Prop :=
  ∀ c : Dev Cert.BiasRefIdeal.nD,
    (Cert.Pre_bias_finite.fn (F := Ideal) (m ((c.tc : Thread Cert.BiasRefIdeal.nD Cert.BiasRefIdeal.τ).loc Cert.BiasRefIdeal.main_arg0))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.2.2.2 = (fun _ => 1#1)

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_BiasFwd (m : (ℓ : Loc Cert.BiasFwd.nD Cert.BiasFwd.τ Cert.BiasFwd.sig) → Buf (Elt Bits) ℓ) : Prop :=
  True

def Pre_BiasFwdIdeal (m : (ℓ : Loc Cert.BiasFwdIdeal.nD Cert.BiasFwdIdeal.τ Cert.BiasFwdIdeal.sig) → Buf (Elt Ideal) ℓ) : Prop :=
  True

def Pre_BiasFwdIdeal_biasfwd_finite [hPre_biasfwd_finite : Cert.Pre_biasfwd_finite.Facts] (m : (ℓ : Loc Cert.BiasFwdIdeal.nD Cert.BiasFwdIdeal.τ Cert.BiasFwdIdeal.sig) → Buf (Elt Ideal) ℓ) : Prop :=
  ∀ c : Dev Cert.BiasFwdIdeal.nD,
    (Cert.Pre_biasfwd_finite.fn (F := Ideal) (m ((c.tc : Thread Cert.BiasFwdIdeal.nD Cert.BiasFwdIdeal.τ).loc Cert.BiasFwdIdeal.main_arg0))) = (fun _ => 1#1)

def Pre_BiasFwdRefIdeal (m : (ℓ : Loc Cert.BiasFwdRefIdeal.nD Cert.BiasFwdRefIdeal.τ Cert.BiasFwdRefIdeal.sig) → Buf (Elt Ideal) ℓ) : Prop :=
  True

def Pre_BiasFwdRefIdeal_biasfwd_finite [hPre_biasfwd_finite : Cert.Pre_biasfwd_finite.Facts] (m : (ℓ : Loc Cert.BiasFwdRefIdeal.nD Cert.BiasFwdRefIdeal.τ Cert.BiasFwdRefIdeal.sig) → Buf (Elt Ideal) ℓ) : Prop :=
  ∀ c : Dev Cert.BiasFwdRefIdeal.nD,
    (Cert.Pre_biasfwd_finite.fn (F := Ideal) (m ((c.tc : Thread Cert.BiasFwdRefIdeal.nD Cert.BiasFwdRefIdeal.τ).loc Cert.BiasFwdRefIdeal.main_arg0))) = (fun _ => 1#1)

def Pre_OutDm (m : (ℓ : Loc Cert.OutDm.nD Cert.OutDm.τ Cert.OutDm.sig) → Buf (Elt Bits) ℓ) : Prop :=
  True

def Pre_OutDmIdeal (m : (ℓ : Loc Cert.OutDmIdeal.nD Cert.OutDmIdeal.τ Cert.OutDmIdeal.sig) → Buf (Elt Ideal) ℓ) : Prop :=
  True

def Pre_OutDmRefIdeal (m : (ℓ : Loc Cert.OutDmRefIdeal.nD Cert.OutDmRefIdeal.τ Cert.OutDmRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def quiescent_MixNorm [hMixNorm : Cert.MixNorm.Facts] : Prop :=
  ∀ (m : (ℓ : Loc Cert.MixNorm.nD Cert.MixNorm.τ Cert.MixNorm.sig) → Buf (Elt Bits) ℓ) (g : Dev Cert.MixNorm.nD → PrngReg), Pre_MixNorm m →
    θ_run (Cert.MixNorm.defs (F := Bits)) (onTc (τ := Cert.MixNorm.τ) (Cert.MixNorm.main (F := Bits))) ⟨m, fun _ => 0, g⟩ (fun r => (∀ c : Dev Cert.MixNorm.nD,
      r.2.mem ((c.tc : Thread Cert.MixNorm.nD Cert.MixNorm.τ).loc Cert.MixNorm.main_arg0) = m ((c.tc : Thread Cert.MixNorm.nD Cert.MixNorm.τ).loc Cert.MixNorm.main_arg0)
      ∧ r.2.mem ((c.tc : Thread Cert.MixNorm.nD Cert.MixNorm.τ).loc Cert.MixNorm.main_arg1) = m ((c.tc : Thread Cert.MixNorm.nD Cert.MixNorm.τ).loc Cert.MixNorm.main_arg1)
      ∧ r.2.mem ((c.tc : Thread Cert.MixNorm.nD Cert.MixNorm.τ).loc Cert.MixNorm.main_arg2) = m ((c.tc : Thread Cert.MixNorm.nD Cert.MixNorm.τ).loc Cert.MixNorm.main_arg2)
      ∧ r.2.mem ((c.tc : Thread Cert.MixNorm.nD Cert.MixNorm.τ).loc Cert.MixNorm.main_arg3) = m ((c.tc : Thread Cert.MixNorm.nD Cert.MixNorm.τ).loc Cert.MixNorm.main_arg3))
      ∧ r.2.sem = fun _ => 0)

def quiescent_MixNormIdeal [hMixNormIdeal : Cert.MixNormIdeal.Facts] : Prop :=
  ∀ (m : (ℓ : Loc Cert.MixNormIdeal.nD Cert.MixNormIdeal.τ Cert.MixNormIdeal.sig) → Buf (Elt Ideal) ℓ) (g : Dev Cert.MixNormIdeal.nD → PrngReg), Pre_MixNormIdeal m →
    θ_run (Cert.MixNormIdeal.defs (F := Ideal)) (onTc (τ := Cert.MixNormIdeal.τ) (Cert.MixNormIdeal.main (F := Ideal))) ⟨m, fun _ => 0, g⟩ (fun r => (∀ c : Dev Cert.MixNormIdeal.nD,
      r.2.mem ((c.tc : Thread Cert.MixNormIdeal.nD Cert.MixNormIdeal.τ).loc Cert.MixNormIdeal.main_arg0) = m ((c.tc : Thread Cert.MixNormIdeal.nD Cert.MixNormIdeal.τ).loc Cert.MixNormIdeal.main_arg0)
      ∧ r.2.mem ((c.tc : Thread Cert.MixNormIdeal.nD Cert.MixNormIdeal.τ).loc Cert.MixNormIdeal.main_arg1) = m ((c.tc : Thread Cert.MixNormIdeal.nD Cert.MixNormIdeal.τ).loc Cert.MixNormIdeal.main_arg1)
      ∧ r.2.mem ((c.tc : Thread Cert.MixNormIdeal.nD Cert.MixNormIdeal.τ).loc Cert.MixNormIdeal.main_arg2) = m ((c.tc : Thread Cert.MixNormIdeal.nD Cert.MixNormIdeal.τ).loc Cert.MixNormIdeal.main_arg2)
      ∧ r.2.mem ((c.tc : Thread Cert.MixNormIdeal.nD Cert.MixNormIdeal.τ).loc Cert.MixNormIdeal.main_arg3) = m ((c.tc : Thread Cert.MixNormIdeal.nD Cert.MixNormIdeal.τ).loc Cert.MixNormIdeal.main_arg3))
      ∧ r.2.sem = fun _ => 0)

def quiescent_MixNormRefIdeal [hMixNormRefIdeal : Cert.MixNormRefIdeal.Facts] : Prop :=
  ∀ (m : (ℓ : Loc Cert.MixNormRefIdeal.nD Cert.MixNormRefIdeal.τ Cert.MixNormRefIdeal.sig) → Buf (Elt Ideal) ℓ) (g : Dev Cert.MixNormRefIdeal.nD → PrngReg), Pre_MixNormRefIdeal m →
    θ_run (Cert.MixNormRefIdeal.defs (F := Ideal)) (onTc (τ := Cert.MixNormRefIdeal.τ) (Cert.MixNormRefIdeal.main (F := Ideal))) ⟨m, fun _ => 0, g⟩ (fun r => (∀ c : Dev Cert.MixNormRefIdeal.nD,
      r.2.mem ((c.tc : Thread Cert.MixNormRefIdeal.nD Cert.MixNormRefIdeal.τ).loc Cert.MixNormRefIdeal.main_arg0) = m ((c.tc : Thread Cert.MixNormRefIdeal.nD Cert.MixNormRefIdeal.τ).loc Cert.MixNormRefIdeal.main_arg0)
      ∧ r.2.mem ((c.tc : Thread Cert.MixNormRefIdeal.nD Cert.MixNormRefIdeal.τ).loc Cert.MixNormRefIdeal.main_arg1) = m ((c.tc : Thread Cert.MixNormRefIdeal.nD Cert.MixNormRefIdeal.τ).loc Cert.MixNormRefIdeal.main_arg1)
      ∧ r.2.mem ((c.tc : Thread Cert.MixNormRefIdeal.nD Cert.MixNormRefIdeal.τ).loc Cert.MixNormRefIdeal.main_arg2) = m ((c.tc : Thread Cert.MixNormRefIdeal.nD Cert.MixNormRefIdeal.τ).loc Cert.MixNormRefIdeal.main_arg2)
      ∧ r.2.mem ((c.tc : Thread Cert.MixNormRefIdeal.nD Cert.MixNormRefIdeal.τ).loc Cert.MixNormRefIdeal.main_arg3) = m ((c.tc : Thread Cert.MixNormRefIdeal.nD Cert.MixNormRefIdeal.τ).loc Cert.MixNormRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_Att [hAtt : Cert.Att.Facts] : Prop :=
  ∀ (m : (ℓ : Loc Cert.Att.nD Cert.Att.τ Cert.Att.sig) → Buf (Elt Bits) ℓ) (g : Dev Cert.Att.nD → PrngReg), Pre_Att m →
    θ_run (Cert.Att.defs (F := Bits)) (onTc (τ := Cert.Att.τ) (Cert.Att.main (F := Bits))) ⟨m, fun _ => 0, g⟩ (fun r => (∀ c : Dev Cert.Att.nD,
      r.2.mem ((c.tc : Thread Cert.Att.nD Cert.Att.τ).loc Cert.Att.main_arg0) = m ((c.tc : Thread Cert.Att.nD Cert.Att.τ).loc Cert.Att.main_arg0)
      ∧ r.2.mem ((c.tc : Thread Cert.Att.nD Cert.Att.τ).loc Cert.Att.main_arg1) = m ((c.tc : Thread Cert.Att.nD Cert.Att.τ).loc Cert.Att.main_arg1)
      ∧ r.2.mem ((c.tc : Thread Cert.Att.nD Cert.Att.τ).loc Cert.Att.main_arg2) = m ((c.tc : Thread Cert.Att.nD Cert.Att.τ).loc Cert.Att.main_arg2))
      ∧ r.2.sem = fun _ => 0)

def quiescent_AttIdeal [hAttIdeal : Cert.AttIdeal.Facts] : Prop :=
  ∀ (m : (ℓ : Loc Cert.AttIdeal.nD Cert.AttIdeal.τ Cert.AttIdeal.sig) → Buf (Elt Ideal) ℓ) (g : Dev Cert.AttIdeal.nD → PrngReg), Pre_AttIdeal m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
      ∧ r.2.mem ((c.tc : Thread Cert.AttIdeal.nD Cert.AttIdeal.τ).loc Cert.AttIdeal.main_arg2) = m ((c.tc : Thread Cert.AttIdeal.nD Cert.AttIdeal.τ).loc Cert.AttIdeal.main_arg2))
      ∧ r.2.sem = fun _ => 0)

def quiescent_AttIdeal_pre_att_finite [hAttIdeal : Cert.AttIdeal.Facts] [hPre_att_finite : Cert.Pre_att_finite.Facts] : Prop :=
  ∀ (m : (ℓ : Loc Cert.AttIdeal.nD Cert.AttIdeal.τ Cert.AttIdeal.sig) → Buf (Elt Ideal) ℓ) (g : Dev Cert.AttIdeal.nD → PrngReg), Pre_AttIdeal_att_finite m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
      ∧ r.2.mem ((c.tc : Thread Cert.AttIdeal.nD Cert.AttIdeal.τ).loc Cert.AttIdeal.main_arg2) = m ((c.tc : Thread Cert.AttIdeal.nD Cert.AttIdeal.τ).loc Cert.AttIdeal.main_arg2))
      ∧ r.2.sem = fun _ => 0)

def quiescent_AttRefIdeal [hAttRefIdeal : Cert.AttRefIdeal.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1)
      ∧ r.2.mem ((c.tc : Thread Cert.AttRefIdeal.nD Cert.AttRefIdeal.τ).loc Cert.AttRefIdeal.main_arg2) = m ((c.tc : Thread Cert.AttRefIdeal.nD Cert.AttRefIdeal.τ).loc Cert.AttRefIdeal.main_arg2))
      ∧ r.2.sem = fun _ => 0)

def quiescent_AttRefIdeal_pre_att_finite [hAttRefIdeal : Cert.AttRefIdeal.Facts] [hPre_att_finite : Cert.Pre_att_finite.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal_att_finite m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1)
      ∧ r.2.mem ((c.tc : Thread Cert.AttRefIdeal.nD Cert.AttRefIdeal.τ).loc Cert.AttRefIdeal.main_arg2) = m ((c.tc : Thread Cert.AttRefIdeal.nD Cert.AttRefIdeal.τ).loc Cert.AttRefIdeal.main_arg2))
      ∧ r.2.sem = fun _ => 0)

def quiescent_AttFwd [hAttFwd : Cert.AttFwd.Facts] : Prop :=
  ∀ (m : (ℓ : Loc Cert.AttFwd.nD Cert.AttFwd.τ Cert.AttFwd.sig) → Buf (Elt Bits) ℓ) (g : Dev Cert.AttFwd.nD → PrngReg), Pre_AttFwd m →
    θ_run (Cert.AttFwd.defs (F := Bits)) (onTc (τ := Cert.AttFwd.τ) (Cert.AttFwd.main (F := Bits))) ⟨m, fun _ => 0, g⟩ (fun r => (∀ c : Dev Cert.AttFwd.nD,
      r.2.mem ((c.tc : Thread Cert.AttFwd.nD Cert.AttFwd.τ).loc Cert.AttFwd.main_arg0) = m ((c.tc : Thread Cert.AttFwd.nD Cert.AttFwd.τ).loc Cert.AttFwd.main_arg0)
      ∧ r.2.mem ((c.tc : Thread Cert.AttFwd.nD Cert.AttFwd.τ).loc Cert.AttFwd.main_arg1) = m ((c.tc : Thread Cert.AttFwd.nD Cert.AttFwd.τ).loc Cert.AttFwd.main_arg1))
      ∧ r.2.sem = fun _ => 0)

def quiescent_AttFwdIdeal [hAttFwdIdeal : Cert.AttFwdIdeal.Facts] : Prop :=
  ∀ (m : (ℓ : Loc Cert.AttFwdIdeal.nD Cert.AttFwdIdeal.τ Cert.AttFwdIdeal.sig) → Buf (Elt Ideal) ℓ) (g : Dev Cert.AttFwdIdeal.nD → PrngReg), Pre_AttFwdIdeal m →
    θ_run (Cert.AttFwdIdeal.defs (F := Ideal)) (onTc (τ := Cert.AttFwdIdeal.τ) (Cert.AttFwdIdeal.main (F := Ideal))) ⟨m, fun _ => 0, g⟩ (fun r => (∀ c : Dev Cert.AttFwdIdeal.nD,
      r.2.mem ((c.tc : Thread Cert.AttFwdIdeal.nD Cert.AttFwdIdeal.τ).loc Cert.AttFwdIdeal.main_arg0) = m ((c.tc : Thread Cert.AttFwdIdeal.nD Cert.AttFwdIdeal.τ).loc Cert.AttFwdIdeal.main_arg0)
      ∧ r.2.mem ((c.tc : Thread Cert.AttFwdIdeal.nD Cert.AttFwdIdeal.τ).loc Cert.AttFwdIdeal.main_arg1) = m ((c.tc : Thread Cert.AttFwdIdeal.nD Cert.AttFwdIdeal.τ).loc Cert.AttFwdIdeal.main_arg1))
      ∧ r.2.sem = fun _ => 0)

def quiescent_AttFwdIdeal_pre_attfwd_finite [hAttFwdIdeal : Cert.AttFwdIdeal.Facts] [hPre_attfwd_finite : Cert.Pre_attfwd_finite.Facts] : Prop :=
  ∀ (m : (ℓ : Loc Cert.AttFwdIdeal.nD Cert.AttFwdIdeal.τ Cert.AttFwdIdeal.sig) → Buf (Elt Ideal) ℓ) (g : Dev Cert.AttFwdIdeal.nD → PrngReg), Pre_AttFwdIdeal_attfwd_finite m →
    θ_run (Cert.AttFwdIdeal.defs (F := Ideal)) (onTc (τ := Cert.AttFwdIdeal.τ) (Cert.AttFwdIdeal.main (F := Ideal))) ⟨m, fun _ => 0, g⟩ (fun r => (∀ c : Dev Cert.AttFwdIdeal.nD,
      r.2.mem ((c.tc : Thread Cert.AttFwdIdeal.nD Cert.AttFwdIdeal.τ).loc Cert.AttFwdIdeal.main_arg0) = m ((c.tc : Thread Cert.AttFwdIdeal.nD Cert.AttFwdIdeal.τ).loc Cert.AttFwdIdeal.main_arg0)
      ∧ r.2.mem ((c.tc : Thread Cert.AttFwdIdeal.nD Cert.AttFwdIdeal.τ).loc Cert.AttFwdIdeal.main_arg1) = m ((c.tc : Thread Cert.AttFwdIdeal.nD Cert.AttFwdIdeal.τ).loc Cert.AttFwdIdeal.main_arg1))
      ∧ r.2.sem = fun _ => 0)

def quiescent_AttFwdRefIdeal [hAttFwdRefIdeal : Cert.AttFwdRefIdeal.Facts] : Prop :=
  ∀ (m : (ℓ : Loc Cert.AttFwdRefIdeal.nD Cert.AttFwdRefIdeal.τ Cert.AttFwdRefIdeal.sig) → Buf (Elt Ideal) ℓ) (g : Dev Cert.AttFwdRefIdeal.nD → PrngReg), Pre_AttFwdRefIdeal m →
    θ_run (Cert.AttFwdRefIdeal.defs (F := Ideal)) (onTc (τ := Cert.AttFwdRefIdeal.τ) (Cert.AttFwdRefIdeal.main (F := Ideal))) ⟨m, fun _ => 0, g⟩ (fun r => (∀ c : Dev Cert.AttFwdRefIdeal.nD,
      r.2.mem ((c.tc : Thread Cert.AttFwdRefIdeal.nD Cert.AttFwdRefIdeal.τ).loc Cert.AttFwdRefIdeal.main_arg0) = m ((c.tc : Thread Cert.AttFwdRefIdeal.nD Cert.AttFwdRefIdeal.τ).loc Cert.AttFwdRefIdeal.main_arg0)
      ∧ r.2.mem ((c.tc : Thread Cert.AttFwdRefIdeal.nD Cert.AttFwdRefIdeal.τ).loc Cert.AttFwdRefIdeal.main_arg1) = m ((c.tc : Thread Cert.AttFwdRefIdeal.nD Cert.AttFwdRefIdeal.τ).loc Cert.AttFwdRefIdeal.main_arg1))
      ∧ r.2.sem = fun _ => 0)

def quiescent_AttFwdRefIdeal_pre_attfwd_finite [hAttFwdRefIdeal : Cert.AttFwdRefIdeal.Facts] [hPre_attfwd_finite : Cert.Pre_attfwd_finite.Facts] : Prop :=
  ∀ (m : (ℓ : Loc Cert.AttFwdRefIdeal.nD Cert.AttFwdRefIdeal.τ Cert.AttFwdRefIdeal.sig) → Buf (Elt Ideal) ℓ) (g : Dev Cert.AttFwdRefIdeal.nD → PrngReg), Pre_AttFwdRefIdeal_attfwd_finite m →
    θ_run (Cert.AttFwdRefIdeal.defs (F := Ideal)) (onTc (τ := Cert.AttFwdRefIdeal.τ) (Cert.AttFwdRefIdeal.main (F := Ideal))) ⟨m, fun _ => 0, g⟩ (fun r => (∀ c : Dev Cert.AttFwdRefIdeal.nD,
      r.2.mem ((c.tc : Thread Cert.AttFwdRefIdeal.nD Cert.AttFwdRefIdeal.τ).loc Cert.AttFwdRefIdeal.main_arg0) = m ((c.tc : Thread Cert.AttFwdRefIdeal.nD Cert.AttFwdRefIdeal.τ).loc Cert.AttFwdRefIdeal.main_arg0)
      ∧ r.2.mem ((c.tc : Thread Cert.AttFwdRefIdeal.nD Cert.AttFwdRefIdeal.τ).loc Cert.AttFwdRefIdeal.main_arg1) = m ((c.tc : Thread Cert.AttFwdRefIdeal.nD Cert.AttFwdRefIdeal.τ).loc Cert.AttFwdRefIdeal.main_arg1))
      ∧ r.2.sem = fun _ => 0)

def quiescent_Bias [hBias : Cert.Bias.Facts] : Prop :=
  ∀ (m : (ℓ : Loc Cert.Bias.nD Cert.Bias.τ Cert.Bias.sig) → Buf (Elt Bits) ℓ) (g : Dev Cert.Bias.nD → PrngReg), Pre_Bias m →
    θ_run (Cert.Bias.defs (F := Bits)) (onTc (τ := Cert.Bias.τ) (Cert.Bias.main (F := Bits))) ⟨m, fun _ => 0, g⟩ (fun r => (∀ c : Dev Cert.Bias.nD,
      r.2.mem ((c.tc : Thread Cert.Bias.nD Cert.Bias.τ).loc Cert.Bias.main_arg0) = m ((c.tc : Thread Cert.Bias.nD Cert.Bias.τ).loc Cert.Bias.main_arg0))
      ∧ r.2.sem = fun _ => 0)

def quiescent_BiasIdeal [hBiasIdeal : Cert.BiasIdeal.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ r.2.sem = fun _ => 0)

def quiescent_BiasIdeal_pre_bias_finite [hBiasIdeal : Cert.BiasIdeal.Facts] [hPre_bias_finite : Cert.Pre_bias_finite.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal_bias_finite m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ r.2.sem = fun _ => 0)

def quiescent_BiasRefIdeal [hBiasRefIdeal : Cert.BiasRefIdeal.Facts] : Prop :=
  ∀ (m : (ℓ : Loc Cert.BiasRefIdeal.nD Cert.BiasRefIdeal.τ Cert.BiasRefIdeal.sig) → Buf (Elt Ideal) ℓ) (g : Dev Cert.BiasRefIdeal.nD → PrngReg), Pre_BiasRefIdeal m →
    θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0))
      ∧ r.2.sem = fun _ => 0)

def quiescent_BiasRefIdeal_pre_bias_finite [hBiasRefIdeal : Cert.BiasRefIdeal.Facts] [hPre_bias_finite : Cert.Pre_bias_finite.Facts] : Prop :=
  ∀ (m : (ℓ : Loc Cert.BiasRefIdeal.nD Cert.BiasRefIdeal.τ Cert.BiasRefIdeal.sig) → Buf (Elt Ideal) ℓ) (g : Dev Cert.BiasRefIdeal.nD → PrngReg), Pre_BiasRefIdeal_bias_finite m →
    θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1))
      ∧ r.2.sem = fun _ => 0)

def quiescent_BiasFwd [hBiasFwd : Cert.BiasFwd.Facts] : Prop :=
  ∀ (m : (ℓ : Loc Cert.BiasFwd.nD Cert.BiasFwd.τ Cert.BiasFwd.sig) → Buf (Elt Bits) ℓ) (g : Dev Cert.BiasFwd.nD → PrngReg), Pre_BiasFwd m →
    θ_run (Cert.BiasFwd.defs (F := Bits)) (onTc (τ := Cert.BiasFwd.τ) (Cert.BiasFwd.main (F := Bits))) ⟨m, fun _ => 0, g⟩ (fun r => (∀ c : Dev Cert.BiasFwd.nD,
      r.2.mem ((c.tc : Thread Cert.BiasFwd.nD Cert.BiasFwd.τ).loc Cert.BiasFwd.main_arg0) = m ((c.tc : Thread Cert.BiasFwd.nD Cert.BiasFwd.τ).loc Cert.BiasFwd.main_arg0))
      ∧ r.2.sem = fun _ => 0)

def quiescent_BiasFwdIdeal [hBiasFwdIdeal : Cert.BiasFwdIdeal.Facts] : Prop :=
  ∀ (m : (ℓ : Loc Cert.BiasFwdIdeal.nD Cert.BiasFwdIdeal.τ Cert.BiasFwdIdeal.sig) → Buf (Elt Ideal) ℓ) (g : Dev Cert.BiasFwdIdeal.nD → PrngReg), Pre_BiasFwdIdeal m →
    θ_run (Cert.BiasFwdIdeal.defs (F := Ideal)) (onTc (τ := Cert.BiasFwdIdeal.τ) (Cert.BiasFwdIdeal.main (F := Ideal))) ⟨m, fun _ => 0, g⟩ (fun r => (∀ c : Dev Cert.BiasFwdIdeal.nD,
      r.2.mem ((c.tc : Thread Cert.BiasFwdIdeal.nD Cert.BiasFwdIdeal.τ).loc Cert.BiasFwdIdeal.main_arg0) = m ((c.tc : Thread Cert.BiasFwdIdeal.nD Cert.BiasFwdIdeal.τ).loc Cert.BiasFwdIdeal.main_arg0))
      ∧ r.2.sem = fun _ => 0)

def quiescent_BiasFwdIdeal_pre_biasfwd_finite [hBiasFwdIdeal : Cert.BiasFwdIdeal.Facts] [hPre_biasfwd_finite : Cert.Pre_biasfwd_finite.Facts] : Prop :=
  ∀ (m : (ℓ : Loc Cert.BiasFwdIdeal.nD Cert.BiasFwdIdeal.τ Cert.BiasFwdIdeal.sig) → Buf (Elt Ideal) ℓ) (g : Dev Cert.BiasFwdIdeal.nD → PrngReg), Pre_BiasFwdIdeal_biasfwd_finite m →
    θ_run (Cert.BiasFwdIdeal.defs (F := Ideal)) (onTc (τ := Cert.BiasFwdIdeal.τ) (Cert.BiasFwdIdeal.main (F := Ideal))) ⟨m, fun _ => 0, g⟩ (fun r => (∀ c : Dev Cert.BiasFwdIdeal.nD,
      r.2.mem ((c.tc : Thread Cert.BiasFwdIdeal.nD Cert.BiasFwdIdeal.τ).loc Cert.BiasFwdIdeal.main_arg0) = m ((c.tc : Thread Cert.BiasFwdIdeal.nD Cert.BiasFwdIdeal.τ).loc Cert.BiasFwdIdeal.main_arg0))
      ∧ r.2.sem = fun _ => 0)

def quiescent_BiasFwdRefIdeal [hBiasFwdRefIdeal : Cert.BiasFwdRefIdeal.Facts] : Prop :=
  ∀ (m : (ℓ : Loc Cert.BiasFwdRefIdeal.nD Cert.BiasFwdRefIdeal.τ Cert.BiasFwdRefIdeal.sig) → Buf (Elt Ideal) ℓ) (g : Dev Cert.BiasFwdRefIdeal.nD → PrngReg), Pre_BiasFwdRefIdeal m →
    θ_run (Cert.BiasFwdRefIdeal.defs (F := Ideal)) (onTc (τ := Cert.BiasFwdRefIdeal.τ) (Cert.BiasFwdRefIdeal.main (F := Ideal))) ⟨m, fun _ => 0, g⟩ (fun r => (∀ c : Dev Cert.BiasFwdRefIdeal.nD,
      r.2.mem ((c.tc : Thread Cert.BiasFwdRefIdeal.nD Cert.BiasFwdRefIdeal.τ).loc Cert.BiasFwdRefIdeal.main_arg0) = m ((c.tc : Thread Cert.BiasFwdRefIdeal.nD Cert.BiasFwdRefIdeal.τ).loc Cert.BiasFwdRefIdeal.main_arg0))
      ∧ r.2.sem = fun _ => 0)

def quiescent_BiasFwdRefIdeal_pre_biasfwd_finite [hBiasFwdRefIdeal : Cert.BiasFwdRefIdeal.Facts] [hPre_biasfwd_finite : Cert.Pre_biasfwd_finite.Facts] : Prop :=
  ∀ (m : (ℓ : Loc Cert.BiasFwdRefIdeal.nD Cert.BiasFwdRefIdeal.τ Cert.BiasFwdRefIdeal.sig) → Buf (Elt Ideal) ℓ) (g : Dev Cert.BiasFwdRefIdeal.nD → PrngReg), Pre_BiasFwdRefIdeal_biasfwd_finite m →
    θ_run (Cert.BiasFwdRefIdeal.defs (F := Ideal)) (onTc (τ := Cert.BiasFwdRefIdeal.τ) (Cert.BiasFwdRefIdeal.main (F := Ideal))) ⟨m, fun _ => 0, g⟩ (fun r => (∀ c : Dev Cert.BiasFwdRefIdeal.nD,
      r.2.mem ((c.tc : Thread Cert.BiasFwdRefIdeal.nD Cert.BiasFwdRefIdeal.τ).loc Cert.BiasFwdRefIdeal.main_arg0) = m ((c.tc : Thread Cert.BiasFwdRefIdeal.nD Cert.BiasFwdRefIdeal.τ).loc Cert.BiasFwdRefIdeal.main_arg0))
      ∧ r.2.sem = fun _ => 0)

def quiescent_OutDm [hOutDm : Cert.OutDm.Facts] : Prop :=
  ∀ (m : (ℓ : Loc Cert.OutDm.nD Cert.OutDm.τ Cert.OutDm.sig) → Buf (Elt Bits) ℓ) (g : Dev Cert.OutDm.nD → PrngReg), Pre_OutDm m →
    θ_run (Cert.OutDm.defs (F := Bits)) (onTc (τ := Cert.OutDm.τ) (Cert.OutDm.main (F := Bits))) ⟨m, fun _ => 0, g⟩ (fun r => (∀ c : Dev Cert.OutDm.nD,
      r.2.mem ((c.tc : Thread Cert.OutDm.nD Cert.OutDm.τ).loc Cert.OutDm.main_arg0) = m ((c.tc : Thread Cert.OutDm.nD Cert.OutDm.τ).loc Cert.OutDm.main_arg0)
      ∧ r.2.mem ((c.tc : Thread Cert.OutDm.nD Cert.OutDm.τ).loc Cert.OutDm.main_arg1) = m ((c.tc : Thread Cert.OutDm.nD Cert.OutDm.τ).loc Cert.OutDm.main_arg1))
      ∧ r.2.sem = fun _ => 0)

def quiescent_OutDmIdeal [hOutDmIdeal : Cert.OutDmIdeal.Facts] : Prop :=
  ∀ (m : (ℓ : Loc Cert.OutDmIdeal.nD Cert.OutDmIdeal.τ Cert.OutDmIdeal.sig) → Buf (Elt Ideal) ℓ) (g : Dev Cert.OutDmIdeal.nD → PrngReg), Pre_OutDmIdeal m →
    θ_run (Cert.OutDmIdeal.defs (F := Ideal)) (onTc (τ := Cert.OutDmIdeal.τ) (Cert.OutDmIdeal.main (F := Ideal))) ⟨m, fun _ => 0, g⟩ (fun r => (∀ c : Dev Cert.OutDmIdeal.nD,
      r.2.mem ((c.tc : Thread Cert.OutDmIdeal.nD Cert.OutDmIdeal.τ).loc Cert.OutDmIdeal.main_arg0) = m ((c.tc : Thread Cert.OutDmIdeal.nD Cert.OutDmIdeal.τ).loc Cert.OutDmIdeal.main_arg0)
      ∧ r.2.mem ((c.tc : Thread Cert.OutDmIdeal.nD Cert.OutDmIdeal.τ).loc Cert.OutDmIdeal.main_arg1) = m ((c.tc : Thread Cert.OutDmIdeal.nD Cert.OutDmIdeal.τ).loc Cert.OutDmIdeal.main_arg1))
      ∧ r.2.sem = fun _ => 0)

def quiescent_OutDmRefIdeal [hOutDmRefIdeal : Cert.OutDmRefIdeal.Facts] : Prop :=
  ∀ (m : (ℓ : Loc Cert.OutDmRefIdeal.nD Cert.OutDmRefIdeal.τ Cert.OutDmRefIdeal.sig) → Buf (Elt Ideal) ℓ) (g : Dev Cert.OutDmRefIdeal.nD → PrngReg), Pre_OutDmRefIdeal m →
    θ_run (Cert.OutDmRefIdeal.defs (F := Ideal)) (onTc (τ := Cert.OutDmRefIdeal.τ) (Cert.OutDmRefIdeal.main (F := Ideal))) ⟨m, fun _ => 0, g⟩ (fun r => (∀ c : Dev Cert.OutDmRefIdeal.nD,
      r.2.mem ((c.tc : Thread Cert.OutDmRefIdeal.nD Cert.OutDmRefIdeal.τ).loc Cert.OutDmRefIdeal.main_arg0) = m ((c.tc : Thread Cert.OutDmRefIdeal.nD Cert.OutDmRefIdeal.τ).loc Cert.OutDmRefIdeal.main_arg0)
      ∧ r.2.mem ((c.tc : Thread Cert.OutDmRefIdeal.nD Cert.OutDmRefIdeal.τ).loc Cert.OutDmRefIdeal.main_arg1) = m ((c.tc : Thread Cert.OutDmRefIdeal.nD Cert.OutDmRefIdeal.τ).loc Cert.OutDmRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1))
      ∧ r.2.sem = fun _ => 0)

def preserves_MixNorm_MixNormIdeal : Prop :=
  True

def algebraic_MixNormIdeal_MixNormRefIdeal [hMixNormIdeal : Cert.MixNormIdeal.Facts] [hMixNormRefIdeal : Cert.MixNormRefIdeal.Facts] : Prop :=
  ∀ (m : (ℓ : Loc Cert.MixNormIdeal.nD Cert.MixNormIdeal.τ Cert.MixNormIdeal.sig) → Buf (Elt Ideal) ℓ) (g : Dev Cert.MixNormIdeal.nD → PrngReg)
    (m' : (ℓ : Loc Cert.MixNormRefIdeal.nD Cert.MixNormRefIdeal.τ Cert.MixNormRefIdeal.sig) → Buf (Elt Ideal) ℓ) (g' : Dev Cert.MixNormRefIdeal.nD → PrngReg), Pre_MixNormIdeal m →
    (∀ c : Dev Cert.MixNormIdeal.nD,
      m' ((c.tc : Thread Cert.MixNormRefIdeal.nD Cert.MixNormRefIdeal.τ).loc Cert.MixNormRefIdeal.main_arg0) = m ((c.tc : Thread Cert.MixNormIdeal.nD Cert.MixNormIdeal.τ).loc Cert.MixNormIdeal.main_arg0)
      ∧ m' ((c.tc : Thread Cert.MixNormRefIdeal.nD Cert.MixNormRefIdeal.τ).loc Cert.MixNormRefIdeal.main_arg1) = m ((c.tc : Thread Cert.MixNormIdeal.nD Cert.MixNormIdeal.τ).loc Cert.MixNormIdeal.main_arg1)
      ∧ m' ((c.tc : Thread Cert.MixNormRefIdeal.nD Cert.MixNormRefIdeal.τ).loc Cert.MixNormRefIdeal.main_arg2) = m ((c.tc : Thread Cert.MixNormIdeal.nD Cert.MixNormIdeal.τ).loc Cert.MixNormIdeal.main_arg2)
      ∧ m' ((c.tc : Thread Cert.MixNormRefIdeal.nD Cert.MixNormRefIdeal.τ).loc Cert.MixNormRefIdeal.main_arg3) = m ((c.tc : Thread Cert.MixNormIdeal.nD Cert.MixNormIdeal.τ).loc Cert.MixNormIdeal.main_arg3)) →
    ∃ (v0 : (c : Dev Cert.MixNormIdeal.nD) → Buf (Elt Ideal) ((c.tc : Thread Cert.MixNormIdeal.nD Cert.MixNormIdeal.τ).loc Cert.MixNormIdeal.main_v1_0)) (v1 : (c : Dev Cert.MixNormIdeal.nD) → Buf (Elt Ideal) ((c.tc : Thread Cert.MixNormIdeal.nD Cert.MixNormIdeal.τ).loc Cert.MixNormIdeal.main_v1_1)),
      θ_run (Cert.MixNormIdeal.defs (F := Ideal)) (onTc (τ := Cert.MixNormIdeal.τ) (Cert.MixNormIdeal.main (F := Ideal))) ⟨m, fun _ => 0, g⟩ (fun r => ∀ c : Dev Cert.MixNormIdeal.nD,
          r.2.mem ((c.tc : Thread Cert.MixNormIdeal.nD Cert.MixNormIdeal.τ).loc Cert.MixNormIdeal.main_v1_0) = v0 c
          ∧ r.2.mem ((c.tc : Thread Cert.MixNormIdeal.nD Cert.MixNormIdeal.τ).loc Cert.MixNormIdeal.main_v1_1) = v1 c
          ∧ r.2.mem ((c.tc : Thread Cert.MixNormIdeal.nD Cert.MixNormIdeal.τ).loc Cert.MixNormIdeal.main_arg0) = m ((c.tc : Thread Cert.MixNormIdeal.nD Cert.MixNormIdeal.τ).loc Cert.MixNormIdeal.main_arg0)
          ∧ r.2.mem ((c.tc : Thread Cert.MixNormIdeal.nD Cert.MixNormIdeal.τ).loc Cert.MixNormIdeal.main_arg1) = m ((c.tc : Thread Cert.MixNormIdeal.nD Cert.MixNormIdeal.τ).loc Cert.MixNormIdeal.main_arg1)
          ∧ r.2.mem ((c.tc : Thread Cert.MixNormIdeal.nD Cert.MixNormIdeal.τ).loc Cert.MixNormIdeal.main_arg2) = m ((c.tc : Thread Cert.MixNormIdeal.nD Cert.MixNormIdeal.τ).loc Cert.MixNormIdeal.main_arg2)
          ∧ r.2.mem ((c.tc : Thread Cert.MixNormIdeal.nD Cert.MixNormIdeal.τ).loc Cert.MixNormIdeal.main_arg3) = m ((c.tc : Thread Cert.MixNormIdeal.nD Cert.MixNormIdeal.τ).loc Cert.MixNormIdeal.main_arg3))
      ∧ θ_run (Cert.MixNormRefIdeal.defs (F := Ideal)) (onTc (τ := Cert.MixNormRefIdeal.τ) (Cert.MixNormRefIdeal.main (F := Ideal))) ⟨m', fun _ => 0, g'⟩ (fun r => ∀ c : Dev Cert.MixNormRefIdeal.nD,
          r.2.mem ((c.tc : Thread Cert.MixNormRefIdeal.nD Cert.MixNormRefIdeal.τ).loc Cert.MixNormRefIdeal.main_v36) = v0 c
          ∧ r.2.mem ((c.tc : Thread Cert.MixNormRefIdeal.nD Cert.MixNormRefIdeal.τ).loc Cert.MixNormRefIdeal.main_v37) = v1 c
          ∧ r.2.mem ((c.tc : Thread Cert.MixNormRefIdeal.nD Cert.MixNormRefIdeal.τ).loc Cert.MixNormRefIdeal.main_arg0) = m' ((c.tc : Thread Cert.MixNormRefIdeal.nD Cert.MixNormRefIdeal.τ).loc Cert.MixNormRefIdeal.main_arg0)
          ∧ r.2.mem ((c.tc : Thread Cert.MixNormRefIdeal.nD Cert.MixNormRefIdeal.τ).loc Cert.MixNormRefIdeal.main_arg1) = m' ((c.tc : Thread Cert.MixNormRefIdeal.nD Cert.MixNormRefIdeal.τ).loc Cert.MixNormRefIdeal.main_arg1)
          ∧ r.2.mem ((c.tc : Thread Cert.MixNormRefIdeal.nD Cert.MixNormRefIdeal.τ).loc Cert.MixNormRefIdeal.main_arg2) = m' ((c.tc : Thread Cert.MixNormRefIdeal.nD Cert.MixNormRefIdeal.τ).loc Cert.MixNormRefIdeal.main_arg2)
          ∧ r.2.mem ((c.tc : Thread Cert.MixNormRefIdeal.nD Cert.MixNormRefIdeal.τ).loc Cert.MixNormRefIdeal.main_arg3) = m' ((c.tc : Thread Cert.MixNormRefIdeal.nD Cert.MixNormRefIdeal.τ).loc Cert.MixNormRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v50) = v0 c
          ∧ r.2.mem ((c.tc : Thread Cert.LossRefIdeal.nD Cert.LossRefIdeal.τ).loc Cert.LossRefIdeal.main_v51) = v1 c
          ∧ r.2.mem ((c.tc : Thread Cert.LossRefIdeal.nD Cert.LossRefIdeal.τ).loc Cert.LossRefIdeal.main_v52) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v23_0)) (v1 : (c : Dev Cert.ConvIdeal.nD) → Buf (Elt Ideal) ((c.tc : Thread Cert.ConvIdeal.nD Cert.ConvIdeal.τ).loc Cert.ConvIdeal.main_v23_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v23_0) = v0 c
          ∧ r.2.mem ((c.tc : Thread Cert.ConvIdeal.nD Cert.ConvIdeal.τ).loc Cert.ConvIdeal.main_v23_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v82) = v0 c
          ∧ r.2.mem ((c.tc : Thread Cert.ConvRefIdeal.nD Cert.ConvRefIdeal.τ).loc Cert.ConvRefIdeal.main_v70) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v42_0)) (v1 : (c : Dev Cert.MergeIdeal.nD) → Buf (Elt Ideal) ((c.tc : Thread Cert.MergeIdeal.nD Cert.MergeIdeal.τ).loc Cert.MergeIdeal.main_v42_1)) (v2 : (c : Dev Cert.MergeIdeal.nD) → Buf (Elt Ideal) ((c.tc : Thread Cert.MergeIdeal.nD Cert.MergeIdeal.τ).loc Cert.MergeIdeal.main_v42_2)) (v3 : (c : Dev Cert.MergeIdeal.nD) → Buf (Elt Ideal) ((c.tc : Thread Cert.MergeIdeal.nD Cert.MergeIdeal.τ).loc Cert.MergeIdeal.main_v42_3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v42_0) = v0 c
          ∧ r.2.mem ((c.tc : Thread Cert.MergeIdeal.nD Cert.MergeIdeal.τ).loc Cert.MergeIdeal.main_v42_1) = v1 c
          ∧ r.2.mem ((c.tc : Thread Cert.MergeIdeal.nD Cert.MergeIdeal.τ).loc Cert.MergeIdeal.main_v42_2) = v2 c
          ∧ r.2.mem ((c.tc : Thread Cert.MergeIdeal.nD Cert.MergeIdeal.τ).loc Cert.MergeIdeal.main_v42_3) = v3 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v138) = v0 c
          ∧ r.2.mem ((c.tc : Thread Cert.MergeRefIdeal.nD Cert.MergeRefIdeal.τ).loc Cert.MergeRefIdeal.main_v143) = v1 c
          ∧ r.2.mem ((c.tc : Thread Cert.MergeRefIdeal.nD Cert.MergeRefIdeal.τ).loc Cert.MergeRefIdeal.main_v148) = v2 c
          ∧ r.2.mem ((c.tc : Thread Cert.MergeRefIdeal.nD Cert.MergeRefIdeal.τ).loc Cert.MergeRefIdeal.main_v133) = v3 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_Att_AttIdeal : Prop :=
  IdealRules.named_const.Statement Cert.AttIdeal.κ "mask" .f32 0xF149F2CA#32 ⊥

def algebraic_AttIdeal_AttRefIdeal_pre_att_finite [hAttIdeal : Cert.AttIdeal.Facts] [hAttRefIdeal : Cert.AttRefIdeal.Facts] [hPre_att_finite : Cert.Pre_att_finite.Facts] : Prop :=
  ∀ (m : (ℓ : Loc Cert.AttIdeal.nD Cert.AttIdeal.τ Cert.AttIdeal.sig) → Buf (Elt Ideal) ℓ) (g : Dev Cert.AttIdeal.nD → PrngReg)
    (m' : (ℓ : Loc Cert.AttRefIdeal.nD Cert.AttRefIdeal.τ Cert.AttRefIdeal.sig) → Buf (Elt Ideal) ℓ) (g' : Dev Cert.AttRefIdeal.nD → PrngReg), Pre_AttIdeal_att_finite m →
    (∀ c : Dev Cert.AttIdeal.nD,
      m' ((c.tc : Thread Cert.AttRefIdeal.nD Cert.AttRefIdeal.τ).loc Cert.AttRefIdeal.main_arg0) = m ((c.tc : Thread Cert.AttIdeal.nD Cert.AttIdeal.τ).loc Cert.AttIdeal.main_arg0)
      ∧ m' ((c.tc : Thread Cert.AttRefIdeal.nD Cert.AttRefIdeal.τ).loc Cert.AttRefIdeal.main_arg1) = m ((c.tc : Thread Cert.AttIdeal.nD Cert.AttIdeal.τ).loc Cert.AttIdeal.main_arg1)
      ∧ m' ((c.tc : Thread Cert.AttRefIdeal.nD Cert.AttRefIdeal.τ).loc Cert.AttRefIdeal.main_arg2) = m ((c.tc : Thread Cert.AttIdeal.nD Cert.AttIdeal.τ).loc Cert.AttIdeal.main_arg2)) →
    ∃ (v0 : (c : Dev Cert.AttIdeal.nD) → Buf (Elt Ideal) ((c.tc : Thread Cert.AttIdeal.nD Cert.AttIdeal.τ).loc Cert.AttIdeal.main_v132_0)) (v1 : (c : Dev Cert.AttIdeal.nD) → Buf (Elt Ideal) ((c.tc : Thread Cert.AttIdeal.nD Cert.AttIdeal.τ).loc Cert.AttIdeal.main_v132_1)),
      θ_run (Cert.AttIdeal.defs (F := Ideal)) (onTc (τ := Cert.AttIdeal.τ) (Cert.AttIdeal.main (F := Ideal))) ⟨m, fun _ => 0, g⟩ (fun r => ∀ c : Dev Cert.AttIdeal.nD,
          r.2.mem ((c.tc : Thread Cert.AttIdeal.nD Cert.AttIdeal.τ).loc Cert.AttIdeal.main_v132_0) = v0 c
          ∧ r.2.mem ((c.tc : Thread Cert.AttIdeal.nD Cert.AttIdeal.τ).loc Cert.AttIdeal.main_v132_1) = v1 c
          ∧ r.2.mem ((c.tc : Thread Cert.AttIdeal.nD Cert.AttIdeal.τ).loc Cert.AttIdeal.main_arg0) = m ((c.tc : Thread Cert.AttIdeal.nD Cert.AttIdeal.τ).loc Cert.AttIdeal.main_arg0)
          ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
          ∧ r.2.mem ((c.tc : Thread Cert.AttIdeal.nD Cert.AttIdeal.τ).loc Cert.AttIdeal.main_arg2) = m ((c.tc : Thread Cert.AttIdeal.nD Cert.AttIdeal.τ).loc Cert.AttIdeal.main_arg2))
      ∧ θ_run (Cert.AttRefIdeal.defs (F := Ideal)) (onTc (τ := Cert.AttRefIdeal.τ) (Cert.AttRefIdeal.main (F := Ideal))) ⟨m', fun _ => 0, g'⟩ (fun r => ∀ c : Dev Cert.AttRefIdeal.nD,
          r.2.mem ((c.tc : Thread Cert.AttRefIdeal.nD Cert.AttRefIdeal.τ).loc Cert.AttRefIdeal.main_v146) = v0 c
          ∧ r.2.mem ((c.tc : Thread Cert.AttRefIdeal.nD Cert.AttRefIdeal.τ).loc Cert.AttRefIdeal.main_v134) = v1 c
          ∧ r.2.mem ((c.tc : Thread Cert.AttRefIdeal.nD Cert.AttRefIdeal.τ).loc Cert.AttRefIdeal.main_arg0) = m' ((c.tc : Thread Cert.AttRefIdeal.nD Cert.AttRefIdeal.τ).loc Cert.AttRefIdeal.main_arg0)
          ∧ r.2.mem ((c.tc : Thread Cert.AttRefIdeal.nD Cert.AttRefIdeal.τ).loc Cert.AttRefIdeal.main_arg1) = m' ((c.tc : Thread Cert.AttRefIdeal.nD Cert.AttRefIdeal.τ).loc Cert.AttRefIdeal.main_arg1)
          ∧ r.2.mem ((c.tc : Thread Cert.AttRefIdeal.nD Cert.AttRefIdeal.τ).loc Cert.AttRefIdeal.main_arg2) = m' ((c.tc : Thread Cert.AttRefIdeal.nD Cert.AttRefIdeal.τ).loc Cert.AttRefIdeal.main_arg2))

def preserves_AttFwd_AttFwdIdeal : Prop :=
  True

def algebraic_AttFwdIdeal_AttFwdRefIdeal_pre_attfwd_finite [hAttFwdIdeal : Cert.AttFwdIdeal.Facts] [hAttFwdRefIdeal : Cert.AttFwdRefIdeal.Facts] [hPre_attfwd_finite : Cert.Pre_attfwd_finite.Facts] : Prop :=
  ∀ (m : (ℓ : Loc Cert.AttFwdIdeal.nD Cert.AttFwdIdeal.τ Cert.AttFwdIdeal.sig) → Buf (Elt Ideal) ℓ) (g : Dev Cert.AttFwdIdeal.nD → PrngReg)
    (m' : (ℓ : Loc Cert.AttFwdRefIdeal.nD Cert.AttFwdRefIdeal.τ Cert.AttFwdRefIdeal.sig) → Buf (Elt Ideal) ℓ) (g' : Dev Cert.AttFwdRefIdeal.nD → PrngReg), Pre_AttFwdIdeal_attfwd_finite m →
    (∀ c : Dev Cert.AttFwdIdeal.nD,
      m' ((c.tc : Thread Cert.AttFwdRefIdeal.nD Cert.AttFwdRefIdeal.τ).loc Cert.AttFwdRefIdeal.main_arg0) = m ((c.tc : Thread Cert.AttFwdIdeal.nD Cert.AttFwdIdeal.τ).loc Cert.AttFwdIdeal.main_arg0)
      ∧ m' ((c.tc : Thread Cert.AttFwdRefIdeal.nD Cert.AttFwdRefIdeal.τ).loc Cert.AttFwdRefIdeal.main_arg1) = m ((c.tc : Thread Cert.AttFwdIdeal.nD Cert.AttFwdIdeal.τ).loc Cert.AttFwdIdeal.main_arg1)) →
    ∃ (v0 : (c : Dev Cert.AttFwdIdeal.nD) → Buf (Elt Ideal) ((c.tc : Thread Cert.AttFwdIdeal.nD Cert.AttFwdIdeal.τ).loc Cert.AttFwdIdeal.main_v50_0)) (v1 : (c : Dev Cert.AttFwdIdeal.nD) → Buf (Elt Ideal) ((c.tc : Thread Cert.AttFwdIdeal.nD Cert.AttFwdIdeal.τ).loc Cert.AttFwdIdeal.main_v50_1)),
      θ_run (Cert.AttFwdIdeal.defs (F := Ideal)) (onTc (τ := Cert.AttFwdIdeal.τ) (Cert.AttFwdIdeal.main (F := Ideal))) ⟨m, fun _ => 0, g⟩ (fun r => ∀ c : Dev Cert.AttFwdIdeal.nD,
          r.2.mem ((c.tc : Thread Cert.AttFwdIdeal.nD Cert.AttFwdIdeal.τ).loc Cert.AttFwdIdeal.main_v50_0) = v0 c
          ∧ r.2.mem ((c.tc : Thread Cert.AttFwdIdeal.nD Cert.AttFwdIdeal.τ).loc Cert.AttFwdIdeal.main_v50_1) = v1 c
          ∧ r.2.mem ((c.tc : Thread Cert.AttFwdIdeal.nD Cert.AttFwdIdeal.τ).loc Cert.AttFwdIdeal.main_arg0) = m ((c.tc : Thread Cert.AttFwdIdeal.nD Cert.AttFwdIdeal.τ).loc Cert.AttFwdIdeal.main_arg0)
          ∧ r.2.mem ((c.tc : Thread Cert.AttFwdIdeal.nD Cert.AttFwdIdeal.τ).loc Cert.AttFwdIdeal.main_arg1) = m ((c.tc : Thread Cert.AttFwdIdeal.nD Cert.AttFwdIdeal.τ).loc Cert.AttFwdIdeal.main_arg1))
      ∧ θ_run (Cert.AttFwdRefIdeal.defs (F := Ideal)) (onTc (τ := Cert.AttFwdRefIdeal.τ) (Cert.AttFwdRefIdeal.main (F := Ideal))) ⟨m', fun _ => 0, g'⟩ (fun r => ∀ c : Dev Cert.AttFwdRefIdeal.nD,
          r.2.mem ((c.tc : Thread Cert.AttFwdRefIdeal.nD Cert.AttFwdRefIdeal.τ).loc Cert.AttFwdRefIdeal.main_v102) = v0 c
          ∧ r.2.mem ((c.tc : Thread Cert.AttFwdRefIdeal.nD Cert.AttFwdRefIdeal.τ).loc Cert.AttFwdRefIdeal.main_v172) = v1 c
          ∧ r.2.mem ((c.tc : Thread Cert.AttFwdRefIdeal.nD Cert.AttFwdRefIdeal.τ).loc Cert.AttFwdRefIdeal.main_arg0) = m' ((c.tc : Thread Cert.AttFwdRefIdeal.nD Cert.AttFwdRefIdeal.τ).loc Cert.AttFwdRefIdeal.main_arg0)
          ∧ r.2.mem ((c.tc : Thread Cert.AttFwdRefIdeal.nD Cert.AttFwdRefIdeal.τ).loc Cert.AttFwdRefIdeal.main_arg1) = m' ((c.tc : Thread Cert.AttFwdRefIdeal.nD Cert.AttFwdRefIdeal.τ).loc Cert.AttFwdRefIdeal.main_arg1))

def preserves_Bias_BiasIdeal : Prop :=
  True

def algebraic_BiasIdeal_BiasRefIdeal_pre_bias_finite [hBiasIdeal : Cert.BiasIdeal.Facts] [hBiasRefIdeal : Cert.BiasRefIdeal.Facts] [hPre_bias_finite : Cert.Pre_bias_finite.Facts] : Prop :=
  ∀ (m : (ℓ : Loc Cert.BiasIdeal.nD Cert.BiasIdeal.τ Cert.BiasIdeal.sig) → Buf (Elt Ideal) ℓ) (g : Dev Cert.BiasIdeal.nD → PrngReg)
    (m' : (ℓ : Loc Cert.BiasRefIdeal.nD Cert.BiasRefIdeal.τ Cert.BiasRefIdeal.sig) → Buf (Elt Ideal) ℓ) (g' : Dev Cert.BiasRefIdeal.nD → PrngReg), Pre_BiasIdeal_bias_finite m →
    (∀ c : Dev Cert.BiasIdeal.nD,
      m' ((c.tc : Thread Cert.BiasRefIdeal.nD Cert.BiasRefIdeal.τ).loc Cert.BiasRefIdeal.main_arg0) = m ((c.tc : Thread Cert.BiasIdeal.nD Cert.BiasIdeal.τ).loc Cert.BiasIdeal.main_arg0)) →
    ∃ (v0 : (c : Dev Cert.BiasIdeal.nD) → Buf (Elt Ideal) ((c.tc : Thread Cert.BiasIdeal.nD Cert.BiasIdeal.τ).loc Cert.BiasIdeal.main_v1)),
      θ_run (Cert.BiasIdeal.defs (F := Ideal)) (onTc (τ := Cert.BiasIdeal.τ) (Cert.BiasIdeal.main (F := Ideal))) ⟨m, fun _ => 0, g⟩ (fun r => ∀ c : Dev Cert.BiasIdeal.nD,
          r.2.mem ((c.tc : Thread Cert.BiasIdeal.nD Cert.BiasIdeal.τ).loc Cert.BiasIdeal.main_v1) = v0 c
          ∧ r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ θ_run (Cert.BiasRefIdeal.defs (F := Ideal)) (onTc (τ := Cert.BiasRefIdeal.τ) (Cert.BiasRefIdeal.main (F := Ideal))) ⟨m', fun _ => 0, g'⟩ (fun r => ∀ c : Dev Cert.BiasRefIdeal.nD,
          r.2.mem ((c.tc : Thread Cert.BiasRefIdeal.nD Cert.BiasRefIdeal.τ).loc Cert.BiasRefIdeal.main_v27) = v0 c
          ∧ r.2.mem ((c.tc : Thread Cert.BiasRefIdeal.nD Cert.BiasRefIdeal.τ).loc Cert.BiasRefIdeal.main_arg0) = m' ((c.tc : Thread Cert.BiasRefIdeal.nD Cert.BiasRefIdeal.τ).loc Cert.BiasRefIdeal.main_arg0))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v24_0)) (v1 : (c : Dev Cert.FfnIdeal.nD) → Buf (Elt Ideal) ((c.tc : Thread Cert.FfnIdeal.nD Cert.FfnIdeal.τ).loc Cert.FfnIdeal.main_v24_1)) (v2 : (c : Dev Cert.FfnIdeal.nD) → Buf (Elt Ideal) ((c.tc : Thread Cert.FfnIdeal.nD Cert.FfnIdeal.τ).loc Cert.FfnIdeal.main_v24_2)) (v3 : (c : Dev Cert.FfnIdeal.nD) → Buf (Elt Ideal) ((c.tc : Thread Cert.FfnIdeal.nD Cert.FfnIdeal.τ).loc Cert.FfnIdeal.main_v24_3)) (v4 : (c : Dev Cert.FfnIdeal.nD) → Buf (Elt Ideal) ((c.tc : Thread Cert.FfnIdeal.nD Cert.FfnIdeal.τ).loc Cert.FfnIdeal.main_v24_4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v24_0) = v0 c
          ∧ r.2.mem ((c.tc : Thread Cert.FfnIdeal.nD Cert.FfnIdeal.τ).loc Cert.FfnIdeal.main_v24_1) = v1 c
          ∧ r.2.mem ((c.tc : Thread Cert.FfnIdeal.nD Cert.FfnIdeal.τ).loc Cert.FfnIdeal.main_v24_2) = v2 c
          ∧ r.2.mem ((c.tc : Thread Cert.FfnIdeal.nD Cert.FfnIdeal.τ).loc Cert.FfnIdeal.main_v24_3) = v3 c
          ∧ r.2.mem ((c.tc : Thread Cert.FfnIdeal.nD Cert.FfnIdeal.τ).loc Cert.FfnIdeal.main_v24_4) = v4 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v86) = v0 c
          ∧ r.2.mem ((c.tc : Thread Cert.FfnRefIdeal.nD Cert.FfnRefIdeal.τ).loc Cert.FfnRefIdeal.main_v87) = v1 c
          ∧ r.2.mem ((c.tc : Thread Cert.FfnRefIdeal.nD Cert.FfnRefIdeal.τ).loc Cert.FfnRefIdeal.main_v88) = v2 c
          ∧ r.2.mem ((c.tc : Thread Cert.FfnRefIdeal.nD Cert.FfnRefIdeal.τ).loc Cert.FfnRefIdeal.main_v89) = v3 c
          ∧ r.2.mem ((c.tc : Thread Cert.FfnRefIdeal.nD Cert.FfnRefIdeal.τ).loc Cert.FfnRefIdeal.main_v90) = v4 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)) →
    ∃ (v0 : (c : Dev Cert.FfnFwdIdeal.nD) → Buf (Elt Ideal) ((c.tc : Thread Cert.FfnFwdIdeal.nD Cert.FfnFwdIdeal.τ).loc Cert.FfnFwdIdeal.main_v6_0)) (v1 : (c : Dev Cert.FfnFwdIdeal.nD) → Buf (Elt Ideal) ((c.tc : Thread Cert.FfnFwdIdeal.nD Cert.FfnFwdIdeal.τ).loc Cert.FfnFwdIdeal.main_v6_1)) (v2 : (c : Dev Cert.FfnFwdIdeal.nD) → Buf (Elt Ideal) ((c.tc : Thread Cert.FfnFwdIdeal.nD Cert.FfnFwdIdeal.τ).loc Cert.FfnFwdIdeal.main_v6_2)) (v3 : (c : Dev Cert.FfnFwdIdeal.nD) → Buf (Elt Ideal) ((c.tc : Thread Cert.FfnFwdIdeal.nD Cert.FfnFwdIdeal.τ).loc Cert.FfnFwdIdeal.main_v6_3)) (v4 : (c : Dev Cert.FfnFwdIdeal.nD) → Buf (Elt Ideal) ((c.tc : Thread Cert.FfnFwdIdeal.nD Cert.FfnFwdIdeal.τ).loc Cert.FfnFwdIdeal.main_v6_4)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v6_0) = v0 c
          ∧ r.2.mem ((c.tc : Thread Cert.FfnFwdIdeal.nD Cert.FfnFwdIdeal.τ).loc Cert.FfnFwdIdeal.main_v6_1) = v1 c
          ∧ r.2.mem ((c.tc : Thread Cert.FfnFwdIdeal.nD Cert.FfnFwdIdeal.τ).loc Cert.FfnFwdIdeal.main_v6_2) = v2 c
          ∧ r.2.mem ((c.tc : Thread Cert.FfnFwdIdeal.nD Cert.FfnFwdIdeal.τ).loc Cert.FfnFwdIdeal.main_v6_3) = v3 c
          ∧ r.2.mem ((c.tc : Thread Cert.FfnFwdIdeal.nD Cert.FfnFwdIdeal.τ).loc Cert.FfnFwdIdeal.main_v6_4) = v4 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v20) = v0 c
          ∧ r.2.mem ((c.tc : Thread Cert.FfnFwdRefIdeal.nD Cert.FfnFwdRefIdeal.τ).loc Cert.FfnFwdRefIdeal.main_v21) = v1 c
          ∧ r.2.mem ((c.tc : Thread Cert.FfnFwdRefIdeal.nD Cert.FfnFwdRefIdeal.τ).loc Cert.FfnFwdRefIdeal.main_v22) = v2 c
          ∧ r.2.mem ((c.tc : Thread Cert.FfnFwdRefIdeal.nD Cert.FfnFwdRefIdeal.τ).loc Cert.FfnFwdRefIdeal.main_v23) = v3 c
          ∧ r.2.mem ((c.tc : Thread Cert.FfnFwdRefIdeal.nD Cert.FfnFwdRefIdeal.τ).loc Cert.FfnFwdRefIdeal.main_v24) = v4 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)
      ∧ m' ((c.tc : Thread Cert.MergeFwdRefIdeal.nD Cert.MergeFwdRefIdeal.τ).loc Cert.MergeFwdRefIdeal.main_arg5) = m ((c.tc : Thread Cert.MergeFwdIdeal.nD Cert.MergeFwdIdeal.τ).loc Cert.MergeFwdIdeal.main_arg5)) →
    ∃ (v0 : (c : Dev Cert.MergeFwdIdeal.nD) → Buf (Elt Ideal) ((c.tc : Thread Cert.MergeFwdIdeal.nD Cert.MergeFwdIdeal.τ).loc Cert.MergeFwdIdeal.main_v7_0)) (v1 : (c : Dev Cert.MergeFwdIdeal.nD) → Buf (Elt Ideal) ((c.tc : Thread Cert.MergeFwdIdeal.nD Cert.MergeFwdIdeal.τ).loc Cert.MergeFwdIdeal.main_v7_1)) (v2 : (c : Dev Cert.MergeFwdIdeal.nD) → Buf (Elt Ideal) ((c.tc : Thread Cert.MergeFwdIdeal.nD Cert.MergeFwdIdeal.τ).loc Cert.MergeFwdIdeal.main_v7_2)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v7_0) = v0 c
          ∧ r.2.mem ((c.tc : Thread Cert.MergeFwdIdeal.nD Cert.MergeFwdIdeal.τ).loc Cert.MergeFwdIdeal.main_v7_1) = v1 c
          ∧ r.2.mem ((c.tc : Thread Cert.MergeFwdIdeal.nD Cert.MergeFwdIdeal.τ).loc Cert.MergeFwdIdeal.main_v7_2) = v2 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v43) = v0 c
          ∧ r.2.mem ((c.tc : Thread Cert.MergeFwdRefIdeal.nD Cert.MergeFwdRefIdeal.τ).loc Cert.MergeFwdRefIdeal.main_v48) = v1 c
          ∧ r.2.mem ((c.tc : Thread Cert.MergeFwdRefIdeal.nD Cert.MergeFwdRefIdeal.τ).loc Cert.MergeFwdRefIdeal.main_v53) = v2 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4)
          ∧ r.2.mem ((c.tc : Thread Cert.MergeFwdRefIdeal.nD Cert.MergeFwdRefIdeal.τ).loc Cert.MergeFwdRefIdeal.main_arg5) = m' ((c.tc : Thread Cert.MergeFwdRefIdeal.nD Cert.MergeFwdRefIdeal.τ).loc Cert.MergeFwdRefIdeal.main_arg5))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v1)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v1) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v13) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)) →
    ∃ (v0 : (c : Dev Cert.ConvFwdIdeal.nD) → Buf (Elt Ideal) ((c.tc : Thread Cert.ConvFwdIdeal.nD Cert.ConvFwdIdeal.τ).loc Cert.ConvFwdIdeal.main_v22)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v22) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v34) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1))

def preserves_BiasFwd_BiasFwdIdeal : Prop :=
  True

def algebraic_BiasFwdIdeal_BiasFwdRefIdeal_pre_biasfwd_finite [hBiasFwdIdeal : Cert.BiasFwdIdeal.Facts] [hBiasFwdRefIdeal : Cert.BiasFwdRefIdeal.Facts] [hPre_biasfwd_finite : Cert.Pre_biasfwd_finite.Facts] : Prop :=
  ∀ (m : (ℓ : Loc Cert.BiasFwdIdeal.nD Cert.BiasFwdIdeal.τ Cert.BiasFwdIdeal.sig) → Buf (Elt Ideal) ℓ) (g : Dev Cert.BiasFwdIdeal.nD → PrngReg)
    (m' : (ℓ : Loc Cert.BiasFwdRefIdeal.nD Cert.BiasFwdRefIdeal.τ Cert.BiasFwdRefIdeal.sig) → Buf (Elt Ideal) ℓ) (g' : Dev Cert.BiasFwdRefIdeal.nD → PrngReg), Pre_BiasFwdIdeal_biasfwd_finite m →
    (∀ c : Dev Cert.BiasFwdIdeal.nD,
      m' ((c.tc : Thread Cert.BiasFwdRefIdeal.nD Cert.BiasFwdRefIdeal.τ).loc Cert.BiasFwdRefIdeal.main_arg0) = m ((c.tc : Thread Cert.BiasFwdIdeal.nD Cert.BiasFwdIdeal.τ).loc Cert.BiasFwdIdeal.main_arg0)) →
    ∃ (v0 : (c : Dev Cert.BiasFwdIdeal.nD) → Buf (Elt Ideal) ((c.tc : Thread Cert.BiasFwdIdeal.nD Cert.BiasFwdIdeal.τ).loc Cert.BiasFwdIdeal.main_v1)),
      θ_run (Cert.BiasFwdIdeal.defs (F := Ideal)) (onTc (τ := Cert.BiasFwdIdeal.τ) (Cert.BiasFwdIdeal.main (F := Ideal))) ⟨m, fun _ => 0, g⟩ (fun r => ∀ c : Dev Cert.BiasFwdIdeal.nD,
          r.2.mem ((c.tc : Thread Cert.BiasFwdIdeal.nD Cert.BiasFwdIdeal.τ).loc Cert.BiasFwdIdeal.main_v1) = v0 c
          ∧ r.2.mem ((c.tc : Thread Cert.BiasFwdIdeal.nD Cert.BiasFwdIdeal.τ).loc Cert.BiasFwdIdeal.main_arg0) = m ((c.tc : Thread Cert.BiasFwdIdeal.nD Cert.BiasFwdIdeal.τ).loc Cert.BiasFwdIdeal.main_arg0))
      ∧ θ_run (Cert.BiasFwdRefIdeal.defs (F := Ideal)) (onTc (τ := Cert.BiasFwdRefIdeal.τ) (Cert.BiasFwdRefIdeal.main (F := Ideal))) ⟨m', fun _ => 0, g'⟩ (fun r => ∀ c : Dev Cert.BiasFwdRefIdeal.nD,
          r.2.mem ((c.tc : Thread Cert.BiasFwdRefIdeal.nD Cert.BiasFwdRefIdeal.τ).loc Cert.BiasFwdRefIdeal.main_v42) = v0 c
          ∧ r.2.mem ((c.tc : Thread Cert.BiasFwdRefIdeal.nD Cert.BiasFwdRefIdeal.τ).loc Cert.BiasFwdRefIdeal.main_arg0) = m' ((c.tc : Thread Cert.BiasFwdRefIdeal.nD Cert.BiasFwdRefIdeal.τ).loc Cert.BiasFwdRefIdeal.main_arg0))

def preserves_OutDm_OutDmIdeal : Prop :=
  True

def algebraic_OutDmIdeal_OutDmRefIdeal [hOutDmIdeal : Cert.OutDmIdeal.Facts] [hOutDmRefIdeal : Cert.OutDmRefIdeal.Facts] : Prop :=
  ∀ (m : (ℓ : Loc Cert.OutDmIdeal.nD Cert.OutDmIdeal.τ Cert.OutDmIdeal.sig) → Buf (Elt Ideal) ℓ) (g : Dev Cert.OutDmIdeal.nD → PrngReg)
    (m' : (ℓ : Loc Cert.OutDmRefIdeal.nD Cert.OutDmRefIdeal.τ Cert.OutDmRefIdeal.sig) → Buf (Elt Ideal) ℓ) (g' : Dev Cert.OutDmRefIdeal.nD → PrngReg), Pre_OutDmIdeal m →
    (∀ c : Dev Cert.OutDmIdeal.nD,
      m' ((c.tc : Thread Cert.OutDmRefIdeal.nD Cert.OutDmRefIdeal.τ).loc Cert.OutDmRefIdeal.main_arg0) = m ((c.tc : Thread Cert.OutDmIdeal.nD Cert.OutDmIdeal.τ).loc Cert.OutDmIdeal.main_arg0)
      ∧ m' ((c.tc : Thread Cert.OutDmRefIdeal.nD Cert.OutDmRefIdeal.τ).loc Cert.OutDmRefIdeal.main_arg1) = m ((c.tc : Thread Cert.OutDmIdeal.nD Cert.OutDmIdeal.τ).loc Cert.OutDmIdeal.main_arg1)) →
    ∃ (v0 : (c : Dev Cert.OutDmIdeal.nD) → Buf (Elt Ideal) ((c.tc : Thread Cert.OutDmIdeal.nD Cert.OutDmIdeal.τ).loc Cert.OutDmIdeal.main_v1)),
      θ_run (Cert.OutDmIdeal.defs (F := Ideal)) (onTc (τ := Cert.OutDmIdeal.τ) (Cert.OutDmIdeal.main (F := Ideal))) ⟨m, fun _ => 0, g⟩ (fun r => ∀ c : Dev Cert.OutDmIdeal.nD,
          r.2.mem ((c.tc : Thread Cert.OutDmIdeal.nD Cert.OutDmIdeal.τ).loc Cert.OutDmIdeal.main_v1) = v0 c
          ∧ r.2.mem ((c.tc : Thread Cert.OutDmIdeal.nD Cert.OutDmIdeal.τ).loc Cert.OutDmIdeal.main_arg0) = m ((c.tc : Thread Cert.OutDmIdeal.nD Cert.OutDmIdeal.τ).loc Cert.OutDmIdeal.main_arg0)
          ∧ r.2.mem ((c.tc : Thread Cert.OutDmIdeal.nD Cert.OutDmIdeal.τ).loc Cert.OutDmIdeal.main_arg1) = m ((c.tc : Thread Cert.OutDmIdeal.nD Cert.OutDmIdeal.τ).loc Cert.OutDmIdeal.main_arg1))
      ∧ θ_run (Cert.OutDmRefIdeal.defs (F := Ideal)) (onTc (τ := Cert.OutDmRefIdeal.τ) (Cert.OutDmRefIdeal.main (F := Ideal))) ⟨m', fun _ => 0, g'⟩ (fun r => ∀ c : Dev Cert.OutDmRefIdeal.nD,
          r.2.mem ((c.tc : Thread Cert.OutDmRefIdeal.nD Cert.OutDmRefIdeal.τ).loc Cert.OutDmRefIdeal.main_v3) = v0 c
          ∧ r.2.mem ((c.tc : Thread Cert.OutDmRefIdeal.nD Cert.OutDmRefIdeal.τ).loc Cert.OutDmRefIdeal.main_arg0) = m' ((c.tc : Thread Cert.OutDmRefIdeal.nD Cert.OutDmRefIdeal.τ).loc Cert.OutDmRefIdeal.main_arg0)
          ∧ r.2.mem ((c.tc : Thread Cert.OutDmRefIdeal.nD Cert.OutDmRefIdeal.τ).loc Cert.OutDmRefIdeal.main_arg1) = m' ((c.tc : Thread Cert.OutDmRefIdeal.nD Cert.OutDmRefIdeal.τ).loc Cert.OutDmRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v22) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v23) = v0 c
          ∧ r.2.mem ((c.tc : Thread Cert.AdamRefIdeal.nD Cert.AdamRefIdeal.τ).loc Cert.AdamRefIdeal.main_v4) = v1 c
          ∧ r.2.mem ((c.tc : Thread Cert.AdamRefIdeal.nD Cert.AdamRefIdeal.τ).loc Cert.AdamRefIdeal.main_v10) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_Dw_DwIdeal : Prop :=
  True

def algebraic_DwIdeal_DwRefIdeal [hDwIdeal : Cert.DwIdeal.Facts] [hDwRefIdeal : Cert.DwRefIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)) →
    ∃ (v0 : (c : Dev Cert.DwIdeal.nD) → Buf (Elt Ideal) ((c.tc : Thread Cert.DwIdeal.nD Cert.DwIdeal.τ).loc Cert.DwIdeal.main_v2)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v2) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v4) = v0 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1))

def Claim : Prop :=
  ∃ (hMixNorm : Cert.MixNorm.Facts) (hMixNormIdeal : Cert.MixNormIdeal.Facts) (hMixNormRefIdeal : Cert.MixNormRefIdeal.Facts) (hLoss : Cert.Loss.Facts) (hLossIdeal : Cert.LossIdeal.Facts) (hLossRefIdeal : Cert.LossRefIdeal.Facts) (hConv : Cert.Conv.Facts) (hConvIdeal : Cert.ConvIdeal.Facts) (hConvRefIdeal : Cert.ConvRefIdeal.Facts) (hMerge : Cert.Merge.Facts) (hMergeIdeal : Cert.MergeIdeal.Facts) (hMergeRefIdeal : Cert.MergeRefIdeal.Facts) (hAtt : Cert.Att.Facts) (hAttIdeal : Cert.AttIdeal.Facts) (hAttRefIdeal : Cert.AttRefIdeal.Facts) (hAttFwd : Cert.AttFwd.Facts) (hAttFwdIdeal : Cert.AttFwdIdeal.Facts) (hAttFwdRefIdeal : Cert.AttFwdRefIdeal.Facts) (hBias : Cert.Bias.Facts) (hBiasIdeal : Cert.BiasIdeal.Facts) (hBiasRefIdeal : Cert.BiasRefIdeal.Facts) (hFfn : Cert.Ffn.Facts) (hFfnIdeal : Cert.FfnIdeal.Facts) (hFfnRefIdeal : Cert.FfnRefIdeal.Facts) (hFfnFwd : Cert.FfnFwd.Facts) (hFfnFwdIdeal : Cert.FfnFwdIdeal.Facts) (hFfnFwdRefIdeal : Cert.FfnFwdRefIdeal.Facts) (hMergeFwd : Cert.MergeFwd.Facts) (hMergeFwdIdeal : Cert.MergeFwdIdeal.Facts) (hMergeFwdRefIdeal : Cert.MergeFwdRefIdeal.Facts) (hNormFwd : Cert.NormFwd.Facts) (hNormFwdIdeal : Cert.NormFwdIdeal.Facts) (hNormFwdRefIdeal : Cert.NormFwdRefIdeal.Facts) (hConvFwd : Cert.ConvFwd.Facts) (hConvFwdIdeal : Cert.ConvFwdIdeal.Facts) (hConvFwdRefIdeal : Cert.ConvFwdRefIdeal.Facts) (hBiasFwd : Cert.BiasFwd.Facts) (hBiasFwdIdeal : Cert.BiasFwdIdeal.Facts) (hBiasFwdRefIdeal : Cert.BiasFwdRefIdeal.Facts) (hOutDm : Cert.OutDm.Facts) (hOutDmIdeal : Cert.OutDmIdeal.Facts) (hOutDmRefIdeal : Cert.OutDmRefIdeal.Facts) (hInProj : Cert.InProj.Facts) (hInProjIdeal : Cert.InProjIdeal.Facts) (hInProjRefIdeal : Cert.InProjRefIdeal.Facts) (hAdam : Cert.Adam.Facts) (hAdamIdeal : Cert.AdamIdeal.Facts) (hAdamRefIdeal : Cert.AdamRefIdeal.Facts) (hDw : Cert.Dw.Facts) (hDwIdeal : Cert.DwIdeal.Facts) (hDwRefIdeal : Cert.DwRefIdeal.Facts) (hPre_att_finite : Cert.Pre_att_finite.Facts) (hPre_attfwd_finite : Cert.Pre_attfwd_finite.Facts) (hPre_bias_finite : Cert.Pre_bias_finite.Facts) (hPre_ffn_finite : Cert.Pre_ffn_finite.Facts) (hPre_biasfwd_finite : Cert.Pre_biasfwd_finite.Facts),
    quiescent_MixNorm (hMixNorm := hMixNorm)
    ∧ quiescent_MixNormIdeal (hMixNormIdeal := hMixNormIdeal)
    ∧ quiescent_MixNormRefIdeal (hMixNormRefIdeal := hMixNormRefIdeal)
    ∧ quiescent_Loss (hLoss := hLoss)
    ∧ quiescent_LossIdeal (hLossIdeal := hLossIdeal)
    ∧ quiescent_LossRefIdeal (hLossRefIdeal := hLossRefIdeal)
    ∧ quiescent_Conv (hConv := hConv)
    ∧ quiescent_ConvIdeal (hConvIdeal := hConvIdeal)
    ∧ quiescent_ConvRefIdeal (hConvRefIdeal := hConvRefIdeal)
    ∧ quiescent_Merge (hMerge := hMerge)
    ∧ quiescent_MergeIdeal (hMergeIdeal := hMergeIdeal)
    ∧ quiescent_MergeRefIdeal (hMergeRefIdeal := hMergeRefIdeal)
    ∧ quiescent_Att (hAtt := hAtt)
    ∧ quiescent_AttIdeal (hAttIdeal := hAttIdeal)
    ∧ quiescent_AttIdeal_pre_att_finite (hAttIdeal := hAttIdeal) (hPre_att_finite := hPre_att_finite)
    ∧ quiescent_AttRefIdeal (hAttRefIdeal := hAttRefIdeal)
    ∧ quiescent_AttRefIdeal_pre_att_finite (hAttRefIdeal := hAttRefIdeal) (hPre_att_finite := hPre_att_finite)
    ∧ quiescent_AttFwd (hAttFwd := hAttFwd)
    ∧ quiescent_AttFwdIdeal (hAttFwdIdeal := hAttFwdIdeal)
    ∧ quiescent_AttFwdIdeal_pre_attfwd_finite (hAttFwdIdeal := hAttFwdIdeal) (hPre_attfwd_finite := hPre_attfwd_finite)
    ∧ quiescent_AttFwdRefIdeal (hAttFwdRefIdeal := hAttFwdRefIdeal)
    ∧ quiescent_AttFwdRefIdeal_pre_attfwd_finite (hAttFwdRefIdeal := hAttFwdRefIdeal) (hPre_attfwd_finite := hPre_attfwd_finite)
    ∧ quiescent_Bias (hBias := hBias)
    ∧ quiescent_BiasIdeal (hBiasIdeal := hBiasIdeal)
    ∧ quiescent_BiasIdeal_pre_bias_finite (hBiasIdeal := hBiasIdeal) (hPre_bias_finite := hPre_bias_finite)
    ∧ quiescent_BiasRefIdeal (hBiasRefIdeal := hBiasRefIdeal)
    ∧ quiescent_BiasRefIdeal_pre_bias_finite (hBiasRefIdeal := hBiasRefIdeal) (hPre_bias_finite := hPre_bias_finite)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_BiasFwd (hBiasFwd := hBiasFwd)
    ∧ quiescent_BiasFwdIdeal (hBiasFwdIdeal := hBiasFwdIdeal)
    ∧ quiescent_BiasFwdIdeal_pre_biasfwd_finite (hBiasFwdIdeal := hBiasFwdIdeal) (hPre_biasfwd_finite := hPre_biasfwd_finite)
    ∧ quiescent_BiasFwdRefIdeal (hBiasFwdRefIdeal := hBiasFwdRefIdeal)
    ∧ quiescent_BiasFwdRefIdeal_pre_biasfwd_finite (hBiasFwdRefIdeal := hBiasFwdRefIdeal) (hPre_biasfwd_finite := hPre_biasfwd_finite)
    ∧ quiescent_OutDm (hOutDm := hOutDm)
    ∧ quiescent_OutDmIdeal (hOutDmIdeal := hOutDmIdeal)
    ∧ quiescent_OutDmRefIdeal (hOutDmRefIdeal := hOutDmRefIdeal)
    ∧ quiescent_InProj (hInProj := hInProj)
    ∧ quiescent_InProjIdeal (hInProjIdeal := hInProjIdeal)
    ∧ quiescent_InProjRefIdeal (hInProjRefIdeal := hInProjRefIdeal)
    ∧ quiescent_Adam (hAdam := hAdam)
    ∧ quiescent_AdamIdeal (hAdamIdeal := hAdamIdeal)
    ∧ quiescent_AdamRefIdeal (hAdamRefIdeal := hAdamRefIdeal)
    ∧ quiescent_Dw (hDw := hDw)
    ∧ quiescent_DwIdeal (hDwIdeal := hDwIdeal)
    ∧ quiescent_DwRefIdeal (hDwRefIdeal := hDwRefIdeal)
    ∧ preserves_MixNorm_MixNormIdeal
    ∧ algebraic_MixNormIdeal_MixNormRefIdeal (hMixNormIdeal := hMixNormIdeal) (hMixNormRefIdeal := hMixNormRefIdeal)
    ∧ preserves_Loss_LossIdeal
    ∧ algebraic_LossIdeal_LossRefIdeal (hLossIdeal := hLossIdeal) (hLossRefIdeal := hLossRefIdeal)
    ∧ preserves_Conv_ConvIdeal
    ∧ algebraic_ConvIdeal_ConvRefIdeal (hConvIdeal := hConvIdeal) (hConvRefIdeal := hConvRefIdeal)
    ∧ preserves_Merge_MergeIdeal
    ∧ algebraic_MergeIdeal_MergeRefIdeal (hMergeIdeal := hMergeIdeal) (hMergeRefIdeal := hMergeRefIdeal)
    ∧ preserves_Att_AttIdeal
    ∧ algebraic_AttIdeal_AttRefIdeal_pre_att_finite (hAttIdeal := hAttIdeal) (hAttRefIdeal := hAttRefIdeal) (hPre_att_finite := hPre_att_finite)
    ∧ preserves_AttFwd_AttFwdIdeal
    ∧ algebraic_AttFwdIdeal_AttFwdRefIdeal_pre_attfwd_finite (hAttFwdIdeal := hAttFwdIdeal) (hAttFwdRefIdeal := hAttFwdRefIdeal) (hPre_attfwd_finite := hPre_attfwd_finite)
    ∧ preserves_Bias_BiasIdeal
    ∧ algebraic_BiasIdeal_BiasRefIdeal_pre_bias_finite (hBiasIdeal := hBiasIdeal) (hBiasRefIdeal := hBiasRefIdeal) (hPre_bias_finite := hPre_bias_finite)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_NormFwd_NormFwdIdeal
    ∧ algebraic_NormFwdIdeal_NormFwdRefIdeal (hNormFwdIdeal := hNormFwdIdeal) (hNormFwdRefIdeal := hNormFwdRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_BiasFwd_BiasFwdIdeal
    ∧ algebraic_BiasFwdIdeal_BiasFwdRefIdeal_pre_biasfwd_finite (hBiasFwdIdeal := hBiasFwdIdeal) (hBiasFwdRefIdeal := hBiasFwdRefIdeal) (hPre_biasfwd_finite := hPre_biasfwd_finite)
    ∧ preserves_OutDm_OutDmIdeal
    ∧ algebraic_OutDmIdeal_OutDmRefIdeal (hOutDmIdeal := hOutDmIdeal) (hOutDmRefIdeal := hOutDmRefIdeal)
    ∧ preserves_InProj_InProjIdeal
    ∧ algebraic_InProjIdeal_InProjRefIdeal (hInProjIdeal := hInProjIdeal) (hInProjRefIdeal := hInProjRefIdeal)
    ∧ preserves_Adam_AdamIdeal
    ∧ algebraic_AdamIdeal_AdamRefIdeal (hAdamIdeal := hAdamIdeal) (hAdamRefIdeal := hAdamRefIdeal)
    ∧ preserves_Dw_DwIdeal
    ∧ algebraic_DwIdeal_DwRefIdeal (hDwIdeal := hDwIdeal) (hDwRefIdeal := hDwRefIdeal)
-- ==== Pre_att_finite.lean ====
abbrev S8192x5120 : Shape := ⟨2, ![8192, 5120]⟩
abbrev S8x257 : Shape := ⟨2, ![8, 257]⟩
abbrev S3x8192x512 : Shape := ⟨3, ![3, 8192, 512]⟩
abbrev S8192x1536 : Shape := ⟨2, ![8192, 1536]⟩
abbrev S_ : Shape := ⟨0, ![]⟩
abbrev S1x8192x512 : Shape := ⟨3, ![1, 8192, 512]⟩
abbrev S8192x512 : Shape := ⟨2, ![8192, 512]⟩

class Facts : Prop where
  slices_S8192x5120_S8192x1536_0_3584 : S8192x5120.Slices ![0, 3584] S8192x1536
  bcast_S_S8192x1536 : S_.BroadcastsInDim S8192x1536 (![] : Fin 0 → Fin S8192x1536.rank)
  bcast_S_S8x257 : S_.BroadcastsInDim S8x257 (![] : Fin 0 → Fin S8x257.rank)
  slices_S3x8192x512_S1x8192x512_2_0_0 : S3x8192x512.Slices ![2, 0, 0] S1x8192x512
  shapeCasts_S1x8192x512_S8192x512 : S1x8192x512.ShapeCasts S8192x512
  bcast_S_S8192x512 : S_.BroadcastsInDim S8192x512 (![] : Fin 0 → Fin S8192x512.rank)

variable [Facts]

def fn {F : FTy → Type} [FloatOps F] (main_arg0 : FVec F S8192x5120 .f32) (main_arg1 : FVec F S8x257 .f32) (main_arg2 : FVec F S3x8192x512 .f32) : IVec S8192x1536 1 × IVec S8x257 1 × IVec S8192x512 1 :=
  let main_v0 : FVec F S8192x1536 .f32 := (extractStridedSlice S8192x1536 ![0, 3584] · slices_S8192x5120_S8192x1536_0_3584) main_arg0
  let main_v1 : FVec F S8192x1536 .f32 := Host.absf main_v0
  let main_cst : FVec F S_ .f32 := constant S_ .f32 0x7F800000#32
  let main_v2 : FVec F S8192x1536 .f32 := broadcastInDim S8192x1536 ![] bcast_S_S8192x1536 main_cst
  let main_v3 : IVec S8192x1536 1 := cmpf .olt main_v1 main_v2
  let main_v4 : FVec F S8x257 .f32 := Host.absf main_arg1
  let main_cst_0 : FVec F S_ .f32 := constant S_ .f32 0x7F800000#32
  let main_v5 : FVec F S8x257 .f32 := broadcastInDim S8x257 ![] bcast_S_S8x257 main_cst_0
  let main_v6 : IVec S8x257 1 := cmpf .olt main_v4 main_v5
  let main_v7 : FVec F S1x8192x512 .f32 := (extractStridedSlice S1x8192x512 ![2, 0, 0] · slices_S3x8192x512_S1x8192x512_2_0_0) main_arg2
  let main_v8 : FVec F S8192x512 .f32 := shapeCast S8192x512 main_v7 shapeCasts_S1x8192x512_S8192x512
  let main_v9 : FVec F S8192x512 .f32 := Host.absf main_v8
  let main_cst_1 : FVec F S_ .f32 := constant S_ .f32 0x7F800000#32
  let main_v10 : FVec F S8192x512 .f32 := broadcastInDim S8192x512 ![] bcast_S_S8192x512 main_cst_1
  let main_v11 : IVec S8192x512 1 := cmpf .olt main_v9 main_v10
  (main_v3, main_v6, main_v11)
-- ==== Pre_attfwd_finite.lean ====
abbrev S8192x5120 : Shape := ⟨2, ![8192, 5120]⟩
abbrev S8x257 : Shape := ⟨2, ![8, 257]⟩
abbrev S8192x1536 : Shape := ⟨2, ![8192, 1536]⟩
abbrev S_ : Shape := ⟨0, ![]⟩

class Facts : Prop where
  slices_S8192x5120_S8192x1536_0_3584 : S8192x5120.Slices ![0, 3584] S8192x1536
  bcast_S_S8192x1536 : S_.BroadcastsInDim S8192x1536 (![] : Fin 0 → Fin S8192x1536.rank)
  bcast_S_S8x257 : S_.BroadcastsInDim S8x257 (![] : Fin 0 → Fin S8x257.rank)

variable [Facts]

def fn {F : FTy → Type} [FloatOps F] (main_arg0 : FVec F S8192x5120 .f32) (main_arg1 : FVec F S8x257 .f32) : IVec S8192x1536 1 × IVec S8x257 1 :=
  let main_v0 : FVec F S8192x1536 .f32 := (extractStridedSlice S8192x1536 ![0, 3584] · slices_S8192x5120_S8192x1536_0_3584) main_arg0
  let main_v1 : FVec F S8192x1536 .f32 := Host.absf main_v0
  let main_cst : FVec F S_ .f32 := constant S_ .f32 0x7F800000#32
  let main_v2 : FVec F S8192x1536 .f32 := broadcastInDim S8192x1536 ![] bcast_S_S8192x1536 main_cst
  let main_v3 : IVec S8192x1536 1 := cmpf .olt main_v1 main_v2
  let main_v4 : FVec F S8x257 .f32 := Host.absf main_arg1
  let main_cst_0 : FVec F S_ .f32 := constant S_ .f32 0x7F800000#32
  let main_v5 : FVec F S8x257 .f32 := broadcastInDim S8x257 ![] bcast_S_S8x257 main_cst_0
  let main_v6 : IVec S8x257 1 := cmpf .olt main_v4 main_v5
  (main_v3, main_v6)
-- ==== Pre_bias_finite.lean ====
abbrev S3x8x256x768 : Shape := ⟨4, ![3, 8, 256, 768]⟩
abbrev S_ : Shape := ⟨0, ![]⟩

class Facts : Prop where
  bcast_S_S3x8x256x768 : S_.BroadcastsInDim S3x8x256x768 (![] : Fin 0 → Fin S3x8x256x768.rank)

variable [Facts]

def fn {F : FTy → Type} [FloatOps F] (main_arg0 : FVec F S3x8x256x768 .f32) : IVec S3x8x256x768 1 :=
  let main_v0 : FVec F S3x8x256x768 .f32 := Host.absf main_arg0
  let main_cst : FVec F S_ .f32 := constant S_ .f32 0x7F800000#32
  let main_v1 : FVec F S3x8x256x768 .f32 := broadcastInDim S3x8x256x768 ![] bcast_S_S3x8x256x768 main_cst
  let main_v2 : IVec S3x8x256x768 1 := cmpf .olt main_v0 main_v1
  main_v2
-- ==== Pre_biasfwd_finite.lean ====
abbrev S2x8x257 : Shape := ⟨3, ![2, 8, 257]⟩
abbrev S_ : Shape := ⟨0, ![]⟩

class Facts : Prop where
  bcast_S_S2x8x257 : S_.BroadcastsInDim S2x8x257 (![] : Fin 0 → Fin S2x8x257.rank)

variable [Facts]

def fn {F : FTy → Type} [FloatOps F] (main_arg0 : FVec F S2x8x257 .f32) : IVec S2x8x257 1 :=
  let main_v0 : FVec F S2x8x257 .f32 := Host.absf main_arg0
  let main_cst : FVec F S_ .f32 := constant S_ .f32 0x7F800000#32
  let main_v1 : FVec F S2x8x257 .f32 := broadcastInDim S2x8x257 ![] bcast_S_S2x8x257 main_cst
  let main_v2 : IVec S2x8x257 1 := cmpf .olt main_v0 main_v1
  main_v2
-- ==== Pre_ffn_finite.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S1024 .f32) (main_arg2 : FVec F S1024x2816 .f32) (main_arg3 : FVec F S1024x2816 .f32) (main_arg4 : FVec F S2816x1024 .f32) (main_arg5 : FVec F S8192x1024 .f32) : IVec S8192x1024 1 × IVec S1024 1 × IVec S1024x2816 1 × IVec S1024x2816 1 × IVec S2816x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S8192x1024 .f32 := Host.absf main_arg5
  let main_cst_4 : FVec F S_ .f32 := constant S_ .f32 0x7F800000#32
  let main_v16 : FVec F S8192x1024 .f32 := broadcastInDim S8192x1024 ![] bcast_S_S8192x1024 main_cst_4
  let main_v17 : IVec S8192x1024 1 := cmpf .olt main_v15 main_v16
  (main_v2, main_v5, main_v8, main_v11, main_v14, main_v17)
-- ==== MixNorm.lean ====
abbrev S8192x1024 : Shape := ⟨2, ![8192, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_14 : BitVec 32 := 0#32
  let v34 : BitVec 1 := Scalar.cmpi .ne v33 c0_i32_14
  v34

def k0_cond2 (i : grid0.Coords) : BitVec 1 :=
  let arg0 : BitVec 32 := BitVec.ofNat 32 (i 0).val
  let c0_i32_15 : BitVec 32 := 0#32
  let v35 : BitVec 1 := Scalar.cmpi .sgt arg0 c0_i32_15
  let v36 : BitVec 32 := Scalar.extui v35
  let c0_i32_16 : BitVec 32 := 0#32
  let v37 : BitVec 1 := Scalar.cmpi .ne v36 c0_i32_16
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== MixNormRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Loss.lean ====
abbrev S8192x1024 : Shape := ⟨2, ![8192, 1024]⟩
abbrev S1024 : Shape := ⟨1, ![1024]⟩
abbrev S1x1024 : Shape := ⟨2, ![1, 1024]⟩
abbrev S1x128 : Shape := ⟨2, ![1, 128]⟩
abbrev S1024x1024 : Shape := ⟨2, ![1024, 1024]⟩
abbrev S1024x1 : Shape := ⟨2, ![1024, 1]⟩
abbrev S1x1024x1024 : Shape := ⟨3, ![1, 1024, 1024]⟩
abbrev S1 : Shape := ⟨1, ![1]⟩
abbrev S1x1x1 : Shape := ⟨3, ![1, 1, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1x1024, .f32⟩
  | .hbm, ⟨6, _⟩ => ⟨S1x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v43 : BitVec 1 := Scalar.cmpi .eq arg0 c0_i32
  let v44 : BitVec 32 := Scalar.extui v43
  let c0_i32_15 : BitVec 32 := 0#32
  let v45 : BitVec 1 := Scalar.cmpi .ne v44 c0_i32_15
  v45

def k0_cond2 (i : grid0.Coords) : BitVec 1 :=
  let arg0 : BitVec 32 := BitVec.ofNat 32 (i 0).val
  let c0_i32_16 : BitVec 32 := 0#32
  let v46 : BitVec 1 := Scalar.cmpi .sgt arg0 c0_i32_16
  let v47 : BitVec 32 := Scalar.extui v46
  let c0_i32_17 : BitVec 32 := 0#32
  let v48 : BitVec 1 := Scalar.cmpi .ne v47 c0_i32_17
  v48

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S1x1024, .f32⟩
  | .hbm, ⟨72, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Conv.lean ====
abbrev S8192x5120 : Shape := ⟨2, ![8192, 5120]⟩
abbrev S3x512 : Shape := ⟨2, ![3, 512]⟩
abbrev S3x8192x512 : Shape := ⟨3, ![3, 8192, 512]⟩
abbrev S8192x512 : Shape := ⟨2, ![8192, 512]⟩
abbrev S1x8192x512 : Shape := ⟨3, ![1, 8192, 512]⟩
abbrev S10x8192x512 : Shape := ⟨3, ![10, 8192, 512]⟩
abbrev S1x1024x128 : Shape := ⟨3, ![1, 1024, 128]⟩
abbrev S1x16x128 : Shape := ⟨3, ![1, 16, 128]⟩
abbrev S3x128 : Shape := ⟨2, ![3, 128]⟩
abbrev S3x1024x128 : Shape := ⟨3, ![3, 1024, 128]⟩
abbrev S1024x128 : Shape := ⟨2, ![1024, 128]⟩
abbrev S16x128 : Shape := ⟨2, ![16, 128]⟩
abbrev S1040x128 : Shape := ⟨2, ![1040, 128]⟩
abbrev S1x128 : Shape := ⟨2, ![1, 128]⟩
abbrev S128 : Shape := ⟨1, ![128]⟩

abbrev nBuf : Space → Nat
  | .hbm => 28
  | .vmem => 22
  | .smem => 0
  | _ => 0

abbrev bufTy : (tb : Table) → Fin (tcTables nBuf tb) → BufTy
  | .hbm, ⟨0, _⟩ => ⟨S8192x5120, .f32⟩
  | .hbm, ⟨1, _⟩ => ⟨S3x512, .f32⟩
  | .hbm, ⟨2, _⟩ => ⟨S3x8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S1x8192x512, .f32⟩
  | .hbm, ⟨14, _⟩ => ⟨S1x8192x512, .f32⟩
  | .hbm, ⟨15, _⟩ => ⟨S1x8192x512, .f32⟩
  | .hbm, ⟨16, _⟩ => ⟨S1x8192x512, .f32⟩
  | .hbm, ⟨17, _⟩ => ⟨S1x8192x512, .f32⟩
  | .hbm, ⟨18, _⟩ => ⟨S1x8192x512, .f32⟩
  | .hbm, ⟨19, _⟩ => ⟨S1x8192x512, .f32⟩
  | .hbm, ⟨20, _⟩ => ⟨S1x8192x512, .f32⟩
  | .hbm, ⟨21, _⟩ => ⟨S1x8192x512, .f32⟩
  | .hbm, ⟨22, _⟩ => ⟨S1x8192x512, .f32⟩
  | .hbm, ⟨23, _⟩ => ⟨S10x8192x512, .f32⟩
  | .hbm, ⟨24, _⟩ => ⟨S10x8192x512, .bf16⟩
  | .hbm, ⟨25, _⟩ => ⟨S3x8192x512, .bf16⟩
  | .hbm, ⟨26, _⟩ => ⟨S3x8192x512, .bf16⟩
  | .hbm, ⟨27, _⟩ => ⟨S3x512, .f32⟩
  | .local _ .vmem, ⟨0, _⟩ => ⟨S1x1024x128, .bf16⟩
  | .local _ .vmem, ⟨1, _⟩ => ⟨S1x1024x128, .bf16⟩
  | .local _ .vmem, ⟨2, _⟩ => ⟨S1x1024x128, .bf16⟩
  | .local _ .vmem, ⟨3, _⟩ => ⟨S1x1024x128, .bf16⟩
  | .local _ .vmem, ⟨4, _⟩ => ⟨S1x1024x128, .bf16⟩
  | .local _ .vmem, ⟨5, _⟩ => ⟨S1x1024x128, .bf16⟩
  | .local _ .vmem, ⟨6, _⟩ => ⟨S1x16x128, .bf16⟩
  | .local _ .vmem, ⟨7, _⟩ => ⟨S1x16x128, .bf16⟩
  | .local _ .vmem, ⟨8, _⟩ => ⟨S1x16x128, .bf16⟩
  | .local _ .vmem, ⟨9, _⟩ => ⟨S1x16x128, .bf16⟩
  | .local _ .vmem, ⟨10, _⟩ => ⟨S1x16x128, .bf16⟩
  | .local _ .vmem, ⟨11, _⟩ => ⟨S1x16x128, .bf16⟩
  | .local _ .vmem, ⟨12, _⟩ => ⟨S1x1024x128, .bf16⟩
  | .local _ .vmem, ⟨13, _⟩ => ⟨S1x1024x128, .bf16⟩
  | .local _ .vmem, ⟨14, _⟩ => ⟨S1x16x128, .bf16⟩
  | .local _ .vmem, ⟨15, _⟩ => ⟨S1x16x128, .bf16⟩
  | .local _ .vmem, ⟨16, _⟩ => ⟨S3x128, .f32⟩
  | .local _ .vmem, ⟨17, _⟩ => ⟨S3x128, .f32⟩
  | .local _ .vmem, ⟨18, _⟩ => ⟨S3x1024x128, .bf16⟩
  | .local _ .vmem, ⟨19, _⟩ => ⟨S3x1024x128, .bf16⟩
  | .local _ .vmem, ⟨20, _⟩ => ⟨S3x128, .f32⟩
  | .local _ .vmem, ⟨21, _⟩ => ⟨S3x128, .f32⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23_0 : Ref sig .tc := ⟨.hbm, 26, rfl⟩
abbrev main_v23_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32_40 : BitVec 32 := 0#32
  let v89 : BitVec 1 := Scalar.cmpi .eq arg1 c0_i32_40
  let v90 : BitVec 32 := Scalar.extui v89
  let c0_i32_41 : BitVec 32 := 0#32
  let v91 : BitVec 1 := Scalar.cmpi .ne v90 c0_i32_41
  v91

def k0_cond2 (i : grid0.Coords) : BitVec 1 :=
  let arg1 : BitVec 32 := BitVec.ofNat 32 (i 1).val
  let c0_i32_42 : BitVec 32 := 0#32
  let v92 : BitVec 1 := Scalar.cmpi .sgt arg1 c0_i32_42
  let v93 : BitVec 32 := Scalar.extui v92
  let c0_i32_43 : BitVec 32 := 0#32
  let v94 : BitVec 1 := Scalar.cmpi .ne v93 c0_i32_43
  v94

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg0.toNat]

def cc0_transform_4 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![c2_i32.toNat, v2.toNat, arg0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c1_i32_0 : BitVec 32 := 1#32
  let c0_i32 : BitVec 32 := 0#32
  ![c1_i32_0.toNat, v2.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![c0_i32.toNat, v2.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S3x1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S3x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ConvRefIdeal.lean ====
abbrev S8192x5120 : Shape := ⟨2, ![8192, 5120]⟩
abbrev S3x512 : Shape := ⟨2, ![3, 512]⟩
abbrev S3x8192x512 : Shape := ⟨3, ![3, 8192, 512]⟩
abbrev S8192x512 : Shape := ⟨2, ![8192, 512]⟩
abbrev S1x8192x512 : Shape := ⟨3, ![1, 8192, 512]⟩
abbrev S1x2x512 : Shape := ⟨3, ![1, 2, 512]⟩
abbrev S_ : Shape := ⟨0, ![]⟩
abbrev S1x8194x512 : Shape := ⟨3, ![1, 8194, 512]⟩
abbrev S1x512 : Shape := ⟨2, ![1, 512]⟩
abbrev S512 : Shape := ⟨1, ![512]⟩
abbrev S1x1x512 : Shape := ⟨3, ![1, 1, 512]⟩

abbrev nBuf : Space → Nat
  | .hbm => 104
  | .vmem => 0
  | .smem => 0
  | _ => 0

abbrev bufTy : (tb : Table) → Fin (tcTables nBuf tb) → BufTy
  | .hbm, ⟨0, _⟩ => ⟨S8192x5120, .f32⟩
  | .hbm, ⟨1, _⟩ => ⟨S3x512, .f32⟩
  | .hbm, ⟨2, _⟩ => ⟨S3x8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S1x8192x512, .f32⟩
  | .hbm, ⟨7, _⟩ => ⟨S1x8192x512, .f32⟩
  | .hbm, ⟨8, _⟩ => ⟨S1x8192x512, .f32⟩
  | .hbm, ⟨9, _⟩ => ⟨S1x8192x512, .f32⟩
  | .hbm, ⟨10, _⟩ => ⟨S1x2x512, .f32⟩
  | .hbm, ⟨11, _⟩ => ⟨S_, .f32⟩
  | .hbm, ⟨12, _⟩ => ⟨S1x2x512, .f32⟩
  | .hbm, ⟨13, _⟩ => ⟨S1x8194x512, .f32⟩
  | .hbm, ⟨14, _⟩ => ⟨S_, .f32⟩
  | .hbm, ⟨15, _⟩ => ⟨S1x2x512, .f32⟩
  | .hbm, ⟨16, _⟩ => ⟨S1x512, .f32⟩
  | .hbm, ⟨17, _⟩ => ⟨S512, .f32⟩
  | .hbm, ⟨18, _⟩ => ⟨S1x8192x512, .f32⟩
  | .hbm, ⟨19, _⟩ => ⟨S1x1x512, .f32⟩
  | .hbm, ⟨20, _⟩ => ⟨S1x8192x512, .f32⟩
  | .hbm, ⟨21, _⟩ => ⟨S1x8192x512, .f32⟩
  | .hbm, ⟨22, _⟩ => ⟨S_, .f32⟩
  | .hbm, ⟨23, _⟩ => ⟨S1x8192x512, .f32⟩
  | .hbm, ⟨24, _⟩ => ⟨S1x8192x512, .f32⟩
  | .hbm, ⟨25, _⟩ => ⟨S1x512, .f32⟩
  | .hbm, ⟨26, _⟩ => ⟨S512, .f32⟩
  | .hbm, ⟨27, _⟩ => ⟨S1x8192x512, .f32⟩
  | .hbm, ⟨28, _⟩ => ⟨S1x1x512, .f32⟩
  | .hbm, ⟨29, _⟩ => ⟨S1x8192x512, .f32⟩
  | .hbm, ⟨30, _⟩ => ⟨S1x8192x512, .f32⟩
  | .hbm, ⟨31, _⟩ => ⟨S1x8192x512, .f32⟩
  | .hbm, ⟨32, _⟩ => ⟨S1x512, .f32⟩
  | .hbm, ⟨33, _⟩ => ⟨S512, .f32⟩
  | .hbm, ⟨34, _⟩ => ⟨S1x8192x512, .f32⟩
  | .hbm, ⟨35, _⟩ => ⟨S1x1x512, .f32⟩
  | .hbm, ⟨36, _⟩ => ⟨S1x8192x512, .f32⟩
  | .hbm, ⟨37, _⟩ => ⟨S1x8192x512, .f32⟩
  | .hbm, ⟨38, _⟩ => ⟨S1x8192x512, .f32⟩
  | .hbm, ⟨39, _⟩ => ⟨S1x8192x512, .f32⟩
  | .hbm, ⟨40, _⟩ => ⟨S8192x512, .f32⟩
  | .hbm, ⟨41, _⟩ => ⟨S1x8192x512, .f32⟩
  | .hbm, ⟨42, _⟩ => ⟨S8192x512, .f32⟩
  | .hbm, ⟨43, _⟩ => ⟨S1x8192x512, .f32⟩
  | .hbm, ⟨44, _⟩ => ⟨S1x8192x512, .f32⟩
  | .hbm, ⟨45, _⟩ => ⟨S1x8192x512, .f32⟩
  | .hbm, ⟨46, _⟩ => ⟨S1x8192x512, .f32⟩
  | .hbm, ⟨47, _⟩ => ⟨S1x8192x512, .f32⟩
  | .hbm, ⟨48, _⟩ => ⟨S1x8192x512, .f32⟩
  | .hbm, ⟨49, _⟩ => ⟨S_, .f32⟩
  | .hbm, ⟨50, _⟩ => ⟨S1x512, .f32⟩
  | .hbm, ⟨51, _⟩ => ⟨S1x1x512, .f32⟩
  | .hbm, ⟨52, _⟩ => ⟨S_, .f32⟩
  | .hbm, ⟨53, _⟩ => ⟨S512, .f32⟩
  | .hbm, ⟨54, _⟩ => ⟨S_, .f32⟩
  | .hbm, ⟨55, _⟩ => ⟨S1x8194x512, .f32⟩
  | .hbm, ⟨56, _⟩ => ⟨S1x512, .f32⟩
  | .hbm, ⟨57, _⟩ => ⟨S_, .f32⟩
  | .hbm, ⟨58, _⟩ => ⟨S3x512, .f32⟩
  | .hbm, ⟨59, _⟩ => ⟨S1x8192x512, .f32⟩
  | .hbm, ⟨60, _⟩ => ⟨S1x8192x512, .f32⟩
  | .hbm, ⟨61, _⟩ => ⟨S1x8192x512, .f32⟩
  | .hbm, ⟨62, _⟩ => ⟨S_, .f32⟩
  | .hbm, ⟨63, _⟩ => ⟨S1x512, .f32⟩
  | .hbm, ⟨64, _⟩ => ⟨S1x1x512, .f32⟩
  | .hbm, ⟨65, _⟩ => ⟨S_, .f32⟩
  | .hbm, ⟨66, _⟩ => ⟨S512, .f32⟩
  | .hbm, ⟨67, _⟩ => ⟨S_, .f32⟩
  | .hbm, ⟨68, _⟩ => ⟨S1x8194x512, .f32⟩
  | .hbm, ⟨69, _⟩ => ⟨S1x8194x512, .f32⟩
  | .hbm, ⟨70, _⟩ => ⟨S1x512, .f32⟩
  | .hbm, ⟨71, _⟩ => ⟨S_, .f32⟩
  | .hbm, ⟨72, _⟩ => ⟨S3x512, .f32⟩
  | .hbm, ⟨73, _⟩ => ⟨S3x512, .f32⟩
  | .hbm, ⟨74, _⟩ => ⟨S1x8192x512, .f32⟩
  | .hbm, ⟨75, _⟩ => ⟨S1x8192x512, .f32⟩
  | .hbm, ⟨76, _⟩ => ⟨S1x8192x512, .f32⟩
  | .hbm, ⟨77, _⟩ => ⟨S_, .f32⟩
  | .hbm, ⟨78, _⟩ => ⟨S1x512, .f32⟩
  | .hbm, ⟨79, _⟩ => ⟨S1x1x512, .f32⟩
  | .hbm, ⟨80, _⟩ => ⟨S_, .f32⟩
  | .hbm, ⟨81, _⟩ => ⟨S512, .f32⟩
  | .hbm, ⟨82, _⟩ => ⟨S_, .f32⟩
  | .hbm, ⟨83, _⟩ => ⟨S1x8194x512, .f32⟩
  | .hbm, ⟨84, _⟩ => ⟨S1x8194x512, .f32⟩
  | .hbm, ⟨85, _⟩ => ⟨S1x512, .f32⟩
  | .hbm, ⟨86, _⟩ => ⟨S_, .f32⟩
  | .hbm, ⟨87, _⟩ => ⟨S3x512, .f32⟩
  | .hbm, ⟨88, _⟩ => ⟨S3x512, .f32⟩
  | .hbm, ⟨89, _⟩ => ⟨S1x2x512, .f32⟩
  | .hbm, ⟨90, _⟩ => ⟨S1x8192x512, .f32⟩
  | .hbm, ⟨91, _⟩ => ⟨S1x8192x512, .f32⟩
  | .hbm, ⟨92, _⟩ => ⟨S1x8192x512, .f32⟩
  | .hbm, ⟨93, _⟩ => ⟨S_, .f32⟩
  | .hbm, ⟨94, _⟩ => ⟨S8192x512, .f32⟩
  | .hbm, ⟨95, _⟩ => ⟨S_, .f32⟩
  | .hbm, ⟨96, _⟩ => ⟨S8192x512, .f32⟩
  | .hbm, ⟨97, _⟩ => ⟨S_, .f32⟩
  | .hbm, ⟨98, _⟩ => ⟨S8192x512, .f32⟩
  | .hbm, ⟨99, _⟩ => ⟨S1x8192x512, .f32⟩
  | .hbm, ⟨100, _⟩ => ⟨S1x8192x512, .f32⟩
  | .hbm, ⟨101, _⟩ => ⟨S1x8192x512, .f32⟩
  | .hbm, ⟨102, _⟩ => ⟨S3x8192x512, .f32⟩
  | .hbm, ⟨103, _⟩ => ⟨S3x8192x512, .bf16⟩
  | _, _ => ⟨S8192x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_cst_2 : Ref sig .tc := ⟨.hbm, 49, rfl⟩
abbrev main_v43 : Ref sig .tc := ⟨.hbm, 50, rfl⟩
abbrev main_v44 : Ref sig .tc := ⟨.hbm, 51, rfl⟩
abbrev main_cst_3 : Ref sig .tc := ⟨.hbm, 52, rfl⟩
abbrev main_v45 : Ref sig .tc := ⟨.hbm, 53, rfl⟩
abbrev main_cst_4 : Ref sig .tc := ⟨.hbm, 54, rfl⟩
abbrev main_v46 : Ref sig .tc := ⟨.hbm, 55, rfl⟩
abbrev main_v47 : Ref sig .tc := ⟨.hbm, 56, rfl⟩
abbrev main_cst_5 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_cst_6 : Ref sig .tc := ⟨.hbm, 62, rfl⟩
abbrev main_v52 : Ref sig .tc := ⟨.hbm, 63, rfl⟩
abbrev main_v53 : Ref sig .tc := ⟨.hbm, 64, rfl⟩
abbrev main_cst_7 : Ref sig .tc := ⟨.hbm, 65, rfl⟩
abbrev main_v54 : Ref sig .tc := ⟨.hbm, 66, rfl⟩
abbrev main_cst_8 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_9 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_10 : Ref sig .tc := ⟨.hbm, 77, rfl⟩
abbrev main_v63 : Ref sig .tc := ⟨.hbm, 78, rfl⟩
abbrev main_v64 : Ref sig .tc := ⟨.hbm, 79, rfl⟩
abbrev main_cst_11 : Ref sig .tc := ⟨.hbm, 80, rfl⟩
abbrev main_v65 : Ref sig .tc := ⟨.hbm, 81, rfl⟩
abbrev main_cst_12 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_13 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_14 : Ref sig .tc := ⟨.hbm, 93, rfl⟩
abbrev main_v75 : Ref sig .tc := ⟨.hbm, 94, rfl⟩
abbrev main_cst_15 : Ref sig .tc := ⟨.hbm, 95, rfl⟩
abbrev main_v76 : Ref sig .tc := ⟨.hbm, 96, rfl⟩
abbrev main_cst_16 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩

abbrev nD : Nat := 1
abbrev τ : Topo := Topo.v7x

variable {F : FTy → Type} [FloatOps F]
-- ==== Merge.lean ====
abbrev S8192x1024 : Shape := ⟨2, ![8192, 1024]⟩
abbrev S8192x512 : Shape := ⟨2, ![8192, 512]⟩
abbrev S3x1024x1024 : Shape := ⟨3, ![3, 1024, 1024]⟩
abbrev S3x512x1024 : Shape := ⟨3, ![3, 512, 1024]⟩
abbrev S3x1024x512 : Shape := ⟨3, ![3, 1024, 512]⟩
abbrev S1x1024x1024 : Shape := ⟨3, ![1, 1024, 1024]⟩
abbrev S1024x1024 : Shape := ⟨2, ![1024, 1024]⟩
abbrev S1x8192x1024 : Shape := ⟨3, ![1, 8192, 1024]⟩
abbrev S3x8192x1024 : Shape := ⟨3, ![3, 8192, 1024]⟩
abbrev S_ : Shape := ⟨0, ![]⟩
abbrev S1x1024x512 : Shape := ⟨3, ![1, 1024, 512]⟩
abbrev S1024x512 : Shape := ⟨2, ![1024, 512]⟩
abbrev S3x8192x512 : Shape := ⟨3, ![3, 8192, 512]⟩
abbrev S512x1024 : Shape := ⟨2, ![512, 1024]⟩
abbrev S3x512x512 : Shape := ⟨3, ![3, 512, 512]⟩
abbrev S1x512x1024 : Shape := ⟨3, ![1, 512, 1024]⟩
abbrev S512x512 : Shape := ⟨2, ![512, 512]⟩
abbrev S1x512x512 : Shape := ⟨3, ![1, 512, 512]⟩

abbrev nBuf : Space → Nat
  | .hbm => 55
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S3x1024x1024, .f32⟩
  | .hbm, ⟨5, _⟩ => ⟨S3x512x1024, .f32⟩
  | .hbm, ⟨6, _⟩ => ⟨S8192x1024, .f32⟩
  | .hbm, ⟨7, _⟩ => ⟨S8192x1024, .bf16⟩
  | .hbm, ⟨8, _⟩ => ⟨S3x1024x1024, .bf16⟩
  | .hbm, ⟨9, _⟩ => ⟨S3x1024x512, .f32⟩
  | .hbm, ⟨10, _⟩ => ⟨S3x1024x512, .bf16⟩
  | .hbm, ⟨11, _⟩ => ⟨S1x1024x1024, .bf16⟩
  | .hbm, ⟨12, _⟩ => ⟨S1024x1024, .bf16⟩
  | .hbm, ⟨13, _⟩ => ⟨S8192x1024, .f32⟩
  | .hbm, ⟨14, _⟩ => ⟨S1x1024x1024, .bf16⟩
  | .hbm, ⟨15, _⟩ => ⟨S1024x1024, .bf16⟩
  | .hbm, ⟨16, _⟩ => ⟨S8192x1024, .f32⟩
  | .hbm, ⟨17, _⟩ => ⟨S1x1024x1024, .bf16⟩
  | .hbm, ⟨18, _⟩ => ⟨S1024x1024, .bf16⟩
  | .hbm, ⟨19, _⟩ => ⟨S8192x1024, .f32⟩
  | .hbm, ⟨20, _⟩ => ⟨S1x8192x1024, .f32⟩
  | .hbm, ⟨21, _⟩ => ⟨S1x8192x1024, .f32⟩
  | .hbm, ⟨22, _⟩ => ⟨S1x8192x1024, .f32⟩
  | .hbm, ⟨23, _⟩ => ⟨S3x8192x1024, .f32⟩
  | .hbm, ⟨24, _⟩ => ⟨S3x8192x1024, .f32⟩
  | .hbm, ⟨25, _⟩ => ⟨S3x8192x1024, .f32⟩
  | .hbm, ⟨26, _⟩ => ⟨S_, .f32⟩
  | .hbm, ⟨27, _⟩ => ⟨S3x8192x1024, .f32⟩
  | .hbm, ⟨28, _⟩ => ⟨S3x8192x1024, .f32⟩
  | .hbm, ⟨29, _⟩ => ⟨S_, .f32⟩
  | .hbm, ⟨30, _⟩ => ⟨S3x8192x1024, .f32⟩
  | .hbm, ⟨31, _⟩ => ⟨S3x8192x1024, .f32⟩
  | .hbm, ⟨32, _⟩ => ⟨S3x8192x1024, .bf16⟩
  | .hbm, ⟨33, _⟩ => ⟨S8192x512, .bf16⟩
  | .hbm, ⟨34, _⟩ => ⟨S1x1024x512, .bf16⟩
  | .hbm, ⟨35, _⟩ => ⟨S1024x512, .bf16⟩
  | .hbm, ⟨36, _⟩ => ⟨S8192x1024, .f32⟩
  | .hbm, ⟨37, _⟩ => ⟨S8192x512, .bf16⟩
  | .hbm, ⟨38, _⟩ => ⟨S1x1024x512, .bf16⟩
  | .hbm, ⟨39, _⟩ => ⟨S1024x512, .bf16⟩
  | .hbm, ⟨40, _⟩ => ⟨S8192x1024, .f32⟩
  | .hbm, ⟨41, _⟩ => ⟨S8192x512, .bf16⟩
  | .hbm, ⟨42, _⟩ => ⟨S1x1024x512, .bf16⟩
  | .hbm, ⟨43, _⟩ => ⟨S1024x512, .bf16⟩
  | .hbm, ⟨44, _⟩ => ⟨S8192x1024, .f32⟩
  | .hbm, ⟨45, _⟩ => ⟨S1x8192x1024, .f32⟩
  | .hbm, ⟨46, _⟩ => ⟨S1x8192x1024, .f32⟩
  | .hbm, ⟨47, _⟩ => ⟨S1x8192x1024, .f32⟩
  | .hbm, ⟨48, _⟩ => ⟨S3x8192x1024, .f32⟩
  | .hbm, ⟨49, _⟩ => ⟨S3x8192x1024, .bf16⟩
  | .hbm, ⟨50, _⟩ => ⟨S8192x1024, .bf16⟩
  | .hbm, ⟨51, _⟩ => ⟨S3x8192x1024, .bf16⟩
  | .hbm, ⟨52, _⟩ => ⟨S3x8192x1024, .bf16⟩
  | .hbm, ⟨53, _⟩ => ⟨S3x8192x512, .bf16⟩
  | .hbm, ⟨54, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S3x512x1024, .bf16⟩
  | .local _ .vmem, ⟨3, _⟩ => ⟨S3x512x1024, .bf16⟩
  | .local _ .vmem, ⟨4, _⟩ => ⟨S3x512x1024, .bf16⟩
  | .local _ .vmem, ⟨5, _⟩ => ⟨S3x512x1024, .bf16⟩
  | .local _ .vmem, ⟨6, _⟩ => ⟨S3x1024x1024, .bf16⟩
  | .local _ .vmem, ⟨7, _⟩ => ⟨S3x1024x512, .bf16⟩
  | .local _ .vmem, ⟨8, _⟩ => ⟨S3x512x1024, .bf16⟩
  | .local _ .vmem, ⟨9, _⟩ => ⟨S3x512x1024, .bf16⟩
  | .local _ .vmem, ⟨10, _⟩ => ⟨S3x512x1024, .bf16⟩
  | .local _ .vmem, ⟨11, _⟩ => ⟨S3x512x1024, .bf16⟩
  | .local _ .vmem, ⟨12, _⟩ => ⟨S3x512x512, .bf16⟩
  | .local _ .vmem, ⟨13, _⟩ => ⟨S3x512x512, .bf16⟩
  | .local _ .vmem, ⟨14, _⟩ => ⟨S512x1024, .f32⟩
  | .local _ .vmem, ⟨15, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42_0 : Ref sig .tc := ⟨.hbm, 51, rfl⟩
abbrev main_v42_1 : Ref sig .tc := ⟨.hbm, 52, rfl⟩
abbrev main_v42_2 : Ref sig .tc := ⟨.hbm, 53, rfl⟩
abbrev main_v42_3 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S3x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeRefIdeal.lean ====
abbrev S8192x1024 : Shape := ⟨2, ![8192, 1024]⟩
abbrev S8192x512 : Shape := ⟨2, ![8192, 512]⟩
abbrev S3x1024x1024 : Shape := ⟨3, ![3, 1024, 1024]⟩
abbrev S3x512x1024 : Shape := ⟨3, ![3, 512, 1024]⟩
abbrev S1x1024x1024 : Shape := ⟨3, ![1, 1024, 1024]⟩
abbrev S1024x1024 : Shape := ⟨2, ![1024, 1024]⟩
abbrev S1x512x1024 : Shape := ⟨3, ![1, 512, 1024]⟩
abbrev S512x1024 : Shape := ⟨2, ![512, 1024]⟩
abbrev S_ : Shape := ⟨0, ![]⟩
abbrev S1x8192x1024 : Shape := ⟨3, ![1, 8192, 1024]⟩
abbrev S3x8192x1024 : Shape := ⟨3, ![3, 8192, 1024]⟩
abbrev S1x8192x512 : Shape := ⟨3, ![1, 8192, 512]⟩
abbrev S3x8192x512 : Shape := ⟨3, ![3, 8192, 512]⟩

abbrev nBuf : Space → Nat
  | .hbm => 176
  | .vmem => 0
  | .smem => 0
  | _ => 0

abbrev hbmTy0_0 (i : Nat) : BufTy := match i % 128 with
  | 0 => ⟨S8192x1024, .f32⟩
  | 1 => ⟨S8192x512, .f32⟩
  | 2 => ⟨S8192x512, .f32⟩
  | 3 => ⟨S8192x512, .f32⟩
  | 4 => ⟨S3x1024x1024, .f32⟩
  | 5 => ⟨S3x512x1024, .f32⟩
  | 6 => ⟨S8192x1024, .f32⟩
  | 7 => ⟨S1x1024x1024, .f32⟩
  | 8 => ⟨S1024x1024, .f32⟩
  | 9 => ⟨S8192x1024, .f32⟩
  | 10 => ⟨S1x1024x1024, .f32⟩
  | 11 => ⟨S1024x1024, .f32⟩
  | 12 => ⟨S8192x1024, .f32⟩
  | 13 => ⟨S1x1024x1024, .f32⟩
  | 14 => ⟨S1024x1024, .f32⟩
  | 15 => ⟨S8192x1024, .f32⟩
  | 16 => ⟨S1x512x1024, .f32⟩
  | 17 => ⟨S512x1024, .f32⟩
  | 18 => ⟨S8192x1024, .f32⟩
  | 19 => ⟨S1x512x1024, .f32⟩
  | 20 => ⟨S512x1024, .f32⟩
  | 21 => ⟨S8192x1024, .f32⟩
  | 22 => ⟨S1x512x1024, .f32⟩
  | 23 => ⟨S512x1024, .f32⟩
  | 24 => ⟨S8192x1024, .f32⟩
  | 25 => ⟨S8192x1024, .f32⟩
  | 26 => ⟨S8192x1024, .f32⟩
  | 27 => ⟨S_, .f32⟩
  | 28 => ⟨S8192x1024, .f32⟩
  | 29 => ⟨S8192x1024, .f32⟩
  | 30 => ⟨S_, .f32⟩
  | 31 => ⟨S8192x1024, .f32⟩
  | 32 => ⟨S8192x1024, .f32⟩
  | 33 => ⟨S_, .f32⟩
  | 34 => ⟨S8192x1024, .f32⟩
  | 35 => ⟨S8192x1024, .f32⟩
  | 36 => ⟨S8192x1024, .f32⟩
  | 37 => ⟨S8192x1024, .f32⟩
  | 38 => ⟨S_, .f32⟩
  | 39 => ⟨S8192x1024, .f32⟩
  | 40 => ⟨S8192x1024, .f32⟩
  | 41 => ⟨S8192x1024, .f32⟩
  | 42 => ⟨S8192x1024, .f32⟩
  | 43 => ⟨S_, .f32⟩
  | 44 => ⟨S8192x1024, .f32⟩
  | 45 => ⟨S8192x1024, .f32⟩
  | 46 => ⟨S_, .f32⟩
  | 47 => ⟨S8192x1024, .f32⟩
  | 48 => ⟨S8192x1024, .f32⟩
  | 49 => ⟨S_, .f32⟩
  | 50 => ⟨S8192x1024, .f32⟩
  | 51 => ⟨S8192x1024, .f32⟩
  | 52 => ⟨S8192x1024, .f32⟩
  | 53 => ⟨S8192x1024, .f32⟩
  | 54 => ⟨S8192x1024, .f32⟩
  | 55 => ⟨S8192x1024, .f32⟩
  | 56 => ⟨S8192x1024, .f32⟩
  | 57 => ⟨S_, .f32⟩
  | 58 => ⟨S8192x1024, .f32⟩
  | 59 => ⟨S8192x1024, .f32⟩
  | 60 => ⟨S_, .f32⟩
  | 61 => ⟨S8192x1024, .f32⟩
  | 62 => ⟨S8192x1024, .f32⟩
  | 63 => ⟨S_, .f32⟩
  | 64 => ⟨S8192x1024, .f32⟩
  | 65 => ⟨S8192x1024, .f32⟩
  | 66 => ⟨S8192x1024, .f32⟩
  | 67 => ⟨S8192x1024, .f32⟩
  | 68 => ⟨S8192x1024, .f32⟩
  | 69 => ⟨S8192x1024, .f32⟩
  | 70 => ⟨S8192x1024, .f32⟩
  | 71 => ⟨S8192x1024, .f32⟩
  | 72 => ⟨S8192x1024, .f32⟩
  | 73 => ⟨S8192x1024, .f32⟩
  | 74 => ⟨S8192x1024, .f32⟩
  | 75 => ⟨S8192x1024, .f32⟩
  | 76 => ⟨S8192x1024, .f32⟩
  | 77 => ⟨S8192x1024, .f32⟩
  | 78 => ⟨S8192x1024, .f32⟩
  | 79 => ⟨S8192x1024, .f32⟩
  | 80 => ⟨S1x1024x1024, .f32⟩
  | 81 => ⟨S1024x1024, .f32⟩
  | 82 => ⟨S8192x1024, .f32⟩
  | 83 => ⟨S8192x1024, .f32⟩
  | 84 => ⟨S8192x1024, .f32⟩
  | 85 => ⟨S_, .f32⟩
  | 86 => ⟨S8192x1024, .f32⟩
  | 87 => ⟨S8192x1024, .f32⟩
  | 88 => ⟨S_, .f32⟩
  | 89 => ⟨S8192x1024, .f32⟩
  | 90 => ⟨S8192x1024, .f32⟩
  | 91 => ⟨S_, .f32⟩
  | 92 => ⟨S8192x1024, .f32⟩
  | 93 => ⟨S8192x1024, .f32⟩
  | 94 => ⟨S8192x1024, .f32⟩
  | 95 => ⟨S1x512x1024, .f32⟩
  | 96 => ⟨S512x1024, .f32⟩
  | 97 => ⟨S8192x1024, .f32⟩
  | 98 => ⟨S8192x1024, .f32⟩
  | 99 => ⟨S_, .f32⟩
  | 100 => ⟨S8192x1024, .f32⟩
  | 101 => ⟨S8192x1024, .f32⟩
  | 102 => ⟨S1x1024x1024, .f32⟩
  | 103 => ⟨S1024x1024, .f32⟩
  | 104 => ⟨S8192x1024, .f32⟩
  | 105 => ⟨S8192x1024, .f32⟩
  | 106 => ⟨S8192x1024, .f32⟩
  | 107 => ⟨S_, .f32⟩
  | 108 => ⟨S8192x1024, .f32⟩
  | 109 => ⟨S8192x1024, .f32⟩
  | 110 => ⟨S_, .f32⟩
  | 111 => ⟨S8192x1024, .f32⟩
  | 112 => ⟨S8192x1024, .f32⟩
  | 113 => ⟨S_, .f32⟩
  | 114 => ⟨S8192x1024, .f32⟩
  | 115 => ⟨S8192x1024, .f32⟩
  | 116 => ⟨S8192x1024, .f32⟩
  | 117 => ⟨S1x512x1024, .f32⟩
  | 118 => ⟨S512x1024, .f32⟩
  | 119 => ⟨S8192x1024, .f32⟩
  | 120 => ⟨S8192x1024, .f32⟩
  | 121 => ⟨S8192x1024, .f32⟩
  | 122 => ⟨S1x1024x1024, .f32⟩
  | 123 => ⟨S1024x1024, .f32⟩
  | 124 => ⟨S8192x1024, .f32⟩
  | 125 => ⟨S8192x1024, .f32⟩
  | 126 => ⟨S8192x1024, .f32⟩
  | 127 => ⟨S_, .f32⟩
  | _ => ⟨S8192x1024, .f32⟩

abbrev hbmTy0_1 (i : Nat) : BufTy := match i % 128 with
  | 0 => ⟨S8192x1024, .f32⟩
  | 1 => ⟨S8192x1024, .f32⟩
  | 2 => ⟨S_, .f32⟩
  | 3 => ⟨S8192x1024, .f32⟩
  | 4 => ⟨S8192x1024, .f32⟩
  | 5 => ⟨S_, .f32⟩
  | 6 => ⟨S8192x1024, .f32⟩
  | 7 => ⟨S8192x1024, .f32⟩
  | 8 => ⟨S8192x1024, .f32⟩
  | 9 => ⟨S1x512x1024, .f32⟩
  | 10 => ⟨S512x1024, .f32⟩
  | 11 => ⟨S8192x1024, .f32⟩
  | 12 => ⟨S8192x1024, .f32⟩
  | 13 => ⟨S8192x1024, .f32⟩
  | 14 => ⟨S8192x1024, .f32⟩
  | 15 => ⟨S8192x1024, .f32⟩
  | 16 => ⟨S8192x1024, .f32⟩
  | 17 => ⟨S8192x1024, .f32⟩
  | 18 => ⟨S8192x512, .f32⟩
  | 19 => ⟨S8192x1024, .f32⟩
  | 20 => ⟨S8192x1024, .f32⟩
  | 21 => ⟨S8192x1024, .f32⟩
  | 22 => ⟨S8192x1024, .f32⟩
  | 23 => ⟨S8192x512, .f32⟩
  | 24 => ⟨S8192x1024, .f32⟩
  | 25 => ⟨S8192x1024, .f32⟩
  | 26 => ⟨S8192x1024, .f32⟩
  | 27 => ⟨S8192x1024, .f32⟩
  | 28 => ⟨S8192x1024, .f32⟩
  | 29 => ⟨S8192x512, .f32⟩
  | 30 => ⟨S8192x1024, .f32⟩
  | 31 => ⟨S8192x1024, .f32⟩
  | 32 => ⟨S8192x1024, .f32⟩
  | 33 => ⟨S1x8192x1024, .f32⟩
  | 34 => ⟨S1x8192x1024, .f32⟩
  | 35 => ⟨S1x8192x1024, .f32⟩
  | 36 => ⟨S3x8192x1024, .f32⟩
  | 37 => ⟨S3x8192x1024, .bf16⟩
  | 38 => ⟨S1x8192x1024, .f32⟩
  | 39 => ⟨S1x8192x1024, .f32⟩
  | 40 => ⟨S1x8192x1024, .f32⟩
  | 41 => ⟨S3x8192x1024, .f32⟩
  | 42 => ⟨S3x8192x1024, .bf16⟩
  | 43 => ⟨S1x8192x512, .f32⟩
  | 44 => ⟨S1x8192x512, .f32⟩
  | 45 => ⟨S1x8192x512, .f32⟩
  | 46 => ⟨S3x8192x512, .f32⟩
  | 47 => ⟨S3x8192x512, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_9 : Ref sig .tc := ⟨.hbm, 85, rfl⟩
abbrev main_v68 : Ref sig .tc := ⟨.hbm, 86, rfl⟩
abbrev main_v69 : Ref sig .tc := ⟨.hbm, 87, rfl⟩
abbrev main_cst_10 : Ref sig .tc := ⟨.hbm, 88, rfl⟩
abbrev main_v70 : Ref sig .tc := ⟨.hbm, 89, rfl⟩
abbrev main_v71 : Ref sig .tc := ⟨.hbm, 90, rfl⟩
abbrev main_cst_11 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_12 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_cst_13 : Ref sig .tc := ⟨.hbm, 107, rfl⟩
abbrev main_v86 : Ref sig .tc := ⟨.hbm, 108, rfl⟩
abbrev main_v87 : Ref sig .tc := ⟨.hbm, 109, rfl⟩
abbrev main_cst_14 : Ref sig .tc := ⟨.hbm, 110, rfl⟩
abbrev main_v88 : Ref sig .tc := ⟨.hbm, 111, rfl⟩
abbrev main_v89 : Ref sig .tc := ⟨.hbm, 112, rfl⟩
abbrev main_cst_15 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_cst_16 : Ref sig .tc := ⟨.hbm, 127, rfl⟩
abbrev main_v103 : Ref sig .tc := ⟨.hbm, 128, rfl⟩
abbrev main_v104 : Ref sig .tc := ⟨.hbm, 129, rfl⟩
abbrev main_cst_17 : Ref sig .tc := ⟨.hbm, 130, rfl⟩
abbrev main_v105 : Ref sig .tc := ⟨.hbm, 131, rfl⟩
abbrev main_v106 : Ref sig .tc := ⟨.hbm, 132, rfl⟩
abbrev main_cst_18 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩

abbrev nD : Nat := 1
abbrev τ : Topo := Topo.v7x

variable {F : FTy → Type} [FloatOps F]
-- ==== Att.lean ====
abbrev S8192x5120 : Shape := ⟨2, ![8192, 5120]⟩
abbrev S8x257 : Shape := ⟨2, ![8, 257]⟩
abbrev S3x8192x512 : Shape := ⟨3, ![3, 8192, 512]⟩
abbrev S8192x10x512 : Shape := ⟨3, ![8192, 10, 512]⟩
abbrev S10x8192x512 : Shape := ⟨3, ![10, 8192, 512]⟩
abbrev S3 : Shape := ⟨1, ![3]⟩
abbrev S3x1x1 : Shape := ⟨3, ![3, 1, 1]⟩
abbrev S256 : Shape := ⟨1, ![256]⟩
abbrev S1x256x1 : Shape := ⟨3, ![1, 256, 1]⟩
abbrev S768 : Shape := ⟨1, ![768]⟩
abbrev S1x1x768 : Shape := ⟨3, ![1, 1, 768]⟩
abbrev S_ : Shape := ⟨0, ![]⟩
abbrev S3x256x1 : Shape := ⟨3, ![3, 256, 1]⟩
abbrev S3x256x768 : Shape := ⟨3, ![3, 256, 768]⟩
abbrev S3x256x768x1 : Shape := ⟨4, ![3, 256, 768, 1]⟩
abbrev S8x3x256x768 : Shape := ⟨4, ![8, 3, 256, 768]⟩
abbrev S3x8x256x768 : Shape := ⟨4, ![3, 8, 256, 768]⟩
abbrev S12 : Shape := ⟨1, ![12]⟩
abbrev S12x1 : Shape := ⟨2, ![12, 1]⟩
abbrev S12x64 : Shape := ⟨2, ![12, 64]⟩
abbrev S3x1x256x768 : Shape := ⟨4, ![3, 1, 256, 768]⟩
abbrev S8192x512 : Shape := ⟨2, ![8192, 512]⟩
abbrev S8192x8x64 : Shape := ⟨3, ![8192, 8, 64]⟩
abbrev S8x8192x8192 : Shape := ⟨3, ![8, 8192, 8192]⟩
abbrev S3x1x1x1 : Shape := ⟨4, ![3, 1, 1, 1]⟩
abbrev S32 : Shape := ⟨1, ![32]⟩
abbrev S1x32x1x1 : Shape := ⟨4, ![1, 32, 1, 1]⟩
abbrev S1x1x3x1 : Shape := ⟨4, ![1, 1, 3, 1]⟩
abbrev S1x1x1x32 : Shape := ⟨4, ![1, 1, 1, 32]⟩
abbrev S3x32x1x1 : Shape := ⟨4, ![3, 32, 1, 1]⟩
abbrev S1x32x3x1 : Shape := ⟨4, ![1, 32, 3, 1]⟩
abbrev S1x32x3x32 : Shape := ⟨4, ![1, 32, 3, 32]⟩
abbrev S3x32x3x32 : Shape := ⟨4, ![3, 32, 3, 32]⟩
abbrev S3x8x1x256x3x1x256 : Shape := ⟨7, ![3, 8, 1, 256, 3, 1, 256]⟩
abbrev S3x1x32x1x3x32x1 : Shape := ⟨7, ![3, 1, 32, 1, 3, 32, 1]⟩
abbrev S3x8x32x256x3x32x256 : Shape := ⟨7, ![3, 8, 32, 256, 3, 32, 256]⟩
abbrev S8x32x256x32x256 : Shape := ⟨5, ![8, 32, 256, 32, 256]⟩
abbrev S128 : Shape := ⟨1, ![128]⟩
abbrev S128x1 : Shape := ⟨2, ![128, 1]⟩
abbrev S128x64 : Shape := ⟨2, ![128, 64]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S8x8192 : Shape := ⟨2, ![8, 8192]⟩
abbrev S8x8192x1 : Shape := ⟨3, ![8, 8192, 1]⟩
abbrev S8x64x8192 : Shape := ⟨3, ![8, 64, 8192]⟩
abbrev S4x2x8192 : Shape := ⟨3, ![4, 2, 8192]⟩
abbrev S4x8192x2 : Shape := ⟨3, ![4, 8192, 2]⟩
abbrev S4x8192x2x1 : Shape := ⟨4, ![4, 8192, 2, 1]⟩
abbrev S4x8192x2x64 : Shape := ⟨4, ![4, 8192, 2, 64]⟩
abbrev S4x8192x128 : Shape := ⟨3, ![4, 8192, 128]⟩
abbrev S1x3x8x256x768 : Shape := ⟨5, ![1, 3, 8, 256, 768]⟩
abbrev S1x256x128 : Shape := ⟨3, ![1, 256, 128]⟩
abbrev S1x8192x128 : Shape := ⟨3, ![1, 8192, 128]⟩
abbrev S1x1x2x256x768 : Shape := ⟨5, ![1, 1, 2, 256, 768]⟩
abbrev S256x128 : Shape := ⟨2, ![256, 128]⟩
abbrev S3x8192x128 : Shape := ⟨3, ![3, 8192, 128]⟩
abbrev S1x2x256x768 : Shape := ⟨4, ![1, 2, 256, 768]⟩
abbrev S8192x128 : Shape := ⟨2, ![8192, 128]⟩
abbrev S1x768x128 : Shape := ⟨3, ![1, 768, 128]⟩
abbrev S768x128 : Shape := ⟨2, ![768, 128]⟩
abbrev S256x768 : Shape := ⟨2, ![256, 768]⟩
abbrev S1x1x1x256x768 : Shape := ⟨5, ![1, 1, 1, 256, 768]⟩
abbrev S256x1 : Shape := ⟨2, ![256, 1]⟩
abbrev S1x1x256x768 : Shape := ⟨4, ![1, 1, 256, 768]⟩

abbrev nBuf : Space → Nat
  | .hbm => 158
  | .vmem => 20
  | .smem => 0
  | _ => 0

abbrev hbmTy0_0 (i : Nat) : BufTy := match i % 128 with
  | 0 => ⟨S8192x5120, .f32⟩
  | 1 => ⟨S8x257, .f32⟩
  | 2 => ⟨S3x8192x512, .f32⟩
  | 3 => ⟨S8192x10x512, .f32⟩
  | 4 => ⟨S10x8192x512, .f32⟩
  | 5 => ⟨S10x8192x512, .bf16⟩
  | 6 => ⟨S3, .i32⟩
  | 7 => ⟨S3x1x1, .i32⟩
  | 8 => ⟨S256, .i32⟩
  | 9 => ⟨S1x256x1, .i32⟩
  | 10 => ⟨S768, .i32⟩
  | 11 => ⟨S1x1x768, .i32⟩
  | 12 => ⟨S_, .i32⟩
  | 13 => ⟨S3x1x1, .i32⟩
  | 14 => ⟨S3x1x1, .i32⟩
  | 15 => ⟨S3x256x1, .i32⟩
  | 16 => ⟨S3x256x1, .i32⟩
  | 17 => ⟨S3x256x1, .i32⟩
  | 18 => ⟨S3x256x768, .i32⟩
  | 19 => ⟨S3x256x768, .i32⟩
  | 20 => ⟨S3x256x768, .i32⟩
  | 21 => ⟨S_, .i32⟩
  | 22 => ⟨S3x256x768, .i32⟩
  | 23 => ⟨S3x256x768, .i32⟩
  | 24 => ⟨S_, .i32⟩
  | 25 => ⟨S3x256x768, .i32⟩
  | 26 => ⟨S3x256x768, .i32⟩
  | 27 => ⟨S_, .i32⟩
  | 28 => ⟨S3x256x768, .i32⟩
  | 29 => ⟨S3x256x768, .i32⟩
  | 30 => ⟨S_, .i32⟩
  | 31 => ⟨S3x256x768, .i32⟩
  | 32 => ⟨S3x256x768, .i1⟩
  | 33 => ⟨S_, .i32⟩
  | 34 => ⟨S3x256x768, .i32⟩
  | 35 => ⟨S3x256x768, .i32⟩
  | 36 => ⟨S3x256x768, .i32⟩
  | 37 => ⟨S3x256x768x1, .i32⟩
  | 38 => ⟨S8x3x256x768, .f32⟩
  | 39 => ⟨S3x8x256x768, .f32⟩
  | 40 => ⟨S12, .i32⟩
  | 41 => ⟨S12x1, .i32⟩
  | 42 => ⟨S12x64, .i32⟩
  | 43 => ⟨S768, .i32⟩
  | 44 => ⟨S3x256x1, .i32⟩
  | 45 => ⟨S1x1x768, .i32⟩
  | 46 => ⟨S3x256x768, .i32⟩
  | 47 => ⟨S3x256x768, .i32⟩
  | 48 => ⟨S3x256x768, .i1⟩
  | 49 => ⟨S_, .i32⟩
  | 50 => ⟨S3x256x1, .i32⟩
  | 51 => ⟨S3x256x1, .i32⟩
  | 52 => ⟨S1x1x768, .i32⟩
  | 53 => ⟨S3x256x768, .i32⟩
  | 54 => ⟨S3x256x768, .i32⟩
  | 55 => ⟨S3x256x768, .i1⟩
  | 56 => ⟨S3x256x768, .i1⟩
  | 57 => ⟨S3x1x256x768, .i1⟩
  | 58 => ⟨S_, .f32⟩
  | 59 => ⟨S_, .f32⟩
  | 60 => ⟨S3x8x256x768, .i1⟩
  | 61 => ⟨S3x8x256x768, .f32⟩
  | 62 => ⟨S3x8x256x768, .f32⟩
  | 63 => ⟨S8192x512, .f32⟩
  | 64 => ⟨S8192x8x64, .f32⟩
  | 65 => ⟨S8192x512, .f32⟩
  | 66 => ⟨S8192x8x64, .f32⟩
  | 67 => ⟨S8192x512, .f32⟩
  | 68 => ⟨S8192x8x64, .f32⟩
  | 69 => ⟨S8x8192x8192, .f32⟩
  | 70 => ⟨S_, .f32⟩
  | 71 => ⟨S8x8192x8192, .f32⟩
  | 72 => ⟨S8x8192x8192, .f32⟩
  | 73 => ⟨S3, .i32⟩
  | 74 => ⟨S3x1x1x1, .i32⟩
  | 75 => ⟨S32, .i32⟩
  | 76 => ⟨S1x32x1x1, .i32⟩
  | 77 => ⟨S3, .i32⟩
  | 78 => ⟨S1x1x3x1, .i32⟩
  | 79 => ⟨S32, .i32⟩
  | 80 => ⟨S1x1x1x32, .i32⟩
  | 81 => ⟨S_, .i32⟩
  | 82 => ⟨S1x32x1x1, .i32⟩
  | 83 => ⟨S1x32x1x1, .i32⟩
  | 84 => ⟨S3x32x1x1, .i32⟩
  | 85 => ⟨S3x32x1x1, .i32⟩
  | 86 => ⟨S3x32x1x1, .i1⟩
  | 87 => ⟨S_, .i32⟩
  | 88 => ⟨S1x32x1x1, .i32⟩
  | 89 => ⟨S1x32x1x1, .i32⟩
  | 90 => ⟨S_, .i32⟩
  | 91 => ⟨S1x32x1x1, .i32⟩
  | 92 => ⟨S1x32x1x1, .i32⟩
  | 93 => ⟨S1x32x3x1, .i32⟩
  | 94 => ⟨S1x32x3x1, .i32⟩
  | 95 => ⟨S1x32x3x1, .i32⟩
  | 96 => ⟨S1x32x3x32, .i32⟩
  | 97 => ⟨S1x32x3x32, .i32⟩
  | 98 => ⟨S1x32x3x32, .i1⟩
  | 99 => ⟨S3x32x3x32, .i1⟩
  | 100 => ⟨S3x32x3x32, .i1⟩
  | 101 => ⟨S3x32x3x32, .i1⟩
  | 102 => ⟨S3x8x1x256x3x1x256, .f32⟩
  | 103 => ⟨S3x1x32x1x3x32x1, .i1⟩
  | 104 => ⟨S3x8x32x256x3x32x256, .i1⟩
  | 105 => ⟨S3x8x32x256x3x32x256, .f32⟩
  | 106 => ⟨S_, .f32⟩
  | 107 => ⟨S3x8x32x256x3x32x256, .f32⟩
  | 108 => ⟨S3x8x32x256x3x32x256, .f32⟩
  | 109 => ⟨S_, .f32⟩
  | 110 => ⟨S8x32x256x32x256, .f32⟩
  | 111 => ⟨S8x8192x8192, .f32⟩
  | 112 => ⟨S8x8192x8192, .f32⟩
  | 113 => ⟨S128, .i32⟩
  | 114 => ⟨S128x1, .i32⟩
  | 115 => ⟨S128x64, .i32⟩
  | 116 => ⟨S8192, .i32⟩
  | 117 => ⟨S8192x1, .i32⟩
  | 118 => ⟨S1x8192, .i32⟩
  | 119 => ⟨S8192x8192, .i32⟩
  | 120 => ⟨S8192x8192, .i32⟩
  | 121 => ⟨S8192x8192, .i1⟩
  | 122 => ⟨S_, .i32⟩
  | 123 => ⟨S8192x1, .i32⟩
  | 124 => ⟨S8192x1, .i32⟩
  | 125 => ⟨S8192x8192, .i32⟩
  | 126 => ⟨S8192x8192, .i32⟩
  | 127 => ⟨S8192x8192, .i1⟩
  | _ => ⟨S8192x5120, .f32⟩

abbrev hbmTy0_1 (i : Nat) : BufTy := match i % 128 with
  | 0 => ⟨S8192x8192, .i1⟩
  | 1 => ⟨S8x8192x8192, .i1⟩
  | 2 => ⟨S_, .f32⟩
  | 3 => ⟨S8x8192x8192, .f32⟩
  | 4 => ⟨S8x8192x8192, .f32⟩
  | 5 => ⟨S_, .f32⟩
  | 6 => ⟨S8x8192, .f32⟩
  | 7 => ⟨S8x8192x1, .f32⟩
  | 8 => ⟨S8x8192x8192, .f32⟩
  | 9 => ⟨S8x8192x8192, .f32⟩
  | 10 => ⟨S8x8192x8192, .f32⟩
  | 11 => ⟨S_, .f32⟩
  | 12 => ⟨S8x8192, .f32⟩
  | 13 => ⟨S8x8192x1, .f32⟩
  | 14 => ⟨S8x8192x8192, .f32⟩
  | 15 => ⟨S8x8192x8192, .f32⟩
  | 16 => ⟨S8x64x8192, .f32⟩
  | 17 => ⟨S8192x8x64, .f32⟩
  | 18 => ⟨S8192x512, .f32⟩
  | 19 => ⟨S8192x512, .bf16⟩
  | 20 => ⟨S8x8192x1, .f32⟩
  | 21 => ⟨S8x8192x1, .f32⟩
  | 22 => ⟨S4x2x8192, .f32⟩
  | 23 => ⟨S4x8192x2, .f32⟩
  | 24 => ⟨S4x8192x2x1, .f32⟩
  | 25 => ⟨S4x8192x2x64, .f32⟩
  | 26 => ⟨S4x8192x128, .f32⟩
  | 27 => ⟨S1x3x8x256x768, .f32⟩
  | 28 => ⟨S3x8192x512, .bf16⟩
  | 29 => ⟨S3x8x256x768, .f32⟩
  | _ => ⟨S8192x5120, .f32⟩

abbrev hbmTy (i : Nat) : BufTy := match i / 128 with
  | 0 => hbmTy0_0 i
  | 1 => hbmTy0_1 i
  | _ => ⟨S8192x5120, .f32⟩

abbrev bufTy : (tb : Table) → Fin (tcTables nBuf tb) → BufTy
  | .hbm, ⟨i, _⟩ => hbmTy i
  | .local _ .vmem, ⟨0, _⟩ => ⟨S1x256x128, .bf16⟩
  | .local _ .vmem, ⟨1, _⟩ => ⟨S1x256x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x1x2x256x768, .f32⟩
  | .local _ .vmem, ⟨7, _⟩ => ⟨S1x1x2x256x768, .f32⟩
  | .local _ .vmem, ⟨8, _⟩ => ⟨S256x128, .bf16⟩
  | .local _ .vmem, ⟨9, _⟩ => ⟨S256x128, .bf16⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S3x8192x128, .bf16⟩
  | .local _ .vmem, ⟨15, _⟩ => ⟨S3x8192x128, .bf16⟩
  | .local _ .vmem, ⟨16, _⟩ => ⟨S1x2x256x768, .f32⟩
  | .local _ .vmem, ⟨17, _⟩ => ⟨S1x2x256x768, .f32⟩
  | .local _ .vmem, ⟨18, _⟩ => ⟨S8192x128, .f32⟩
  | .local _ .vmem, ⟨19, _⟩ => ⟨S8192x128, .f32⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c_0 : Ref sig .tc := ⟨.hbm, 21, rfl⟩
abbrev main_v17 : Ref sig .tc := ⟨.hbm, 22, rfl⟩
abbrev main_v18 : Ref sig .tc := ⟨.hbm, 23, rfl⟩
abbrev main_c_1 : Ref sig .tc := ⟨.hbm, 24, rfl⟩
abbrev main_v19 : Ref sig .tc := ⟨.hbm, 25, rfl⟩
abbrev main_v20 : Ref sig .tc := ⟨.hbm, 26, rfl⟩
abbrev main_c_2 : Ref sig .tc := ⟨.hbm, 27, rfl⟩
abbrev main_v21 : Ref sig .tc := ⟨.hbm, 28, rfl⟩
abbrev main_v22 : Ref sig .tc := ⟨.hbm, 29, rfl⟩
abbrev main_c_3 : Ref sig .tc := ⟨.hbm, 30, rfl⟩
abbrev main_v23 : Ref sig .tc := ⟨.hbm, 31, rfl⟩
abbrev main_v24 : Ref sig .tc := ⟨.hbm, 32, rfl⟩
abbrev main_c_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_c_5 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_6 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_c_7 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_c_8 : Ref sig .tc := ⟨.hbm, 87, rfl⟩
abbrev main_v71 : Ref sig .tc := ⟨.hbm, 88, rfl⟩
abbrev main_v72 : Ref sig .tc := ⟨.hbm, 89, rfl⟩
abbrev main_c_9 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_cst_10 : Ref sig .tc := ⟨.hbm, 106, rfl⟩
abbrev main_v88 : Ref sig .tc := ⟨.hbm, 107, rfl⟩
abbrev main_v89 : Ref sig .tc := ⟨.hbm, 108, rfl⟩
abbrev main_cst_11 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_c_12 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_cst_13 : Ref sig .tc := ⟨.hbm, 130, rfl⟩
abbrev main_v109 : Ref sig .tc := ⟨.hbm, 131, rfl⟩
abbrev main_v110 : Ref sig .tc := ⟨.hbm, 132, rfl⟩
abbrev main_cst_14 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_cst_15 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132_0 : Ref sig .tc := ⟨.hbm, 156, rfl⟩
abbrev main_v132_1 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 32], ![false, false]⟩

def k0_mult1 (i : grid0.Coords) : BitVec 32 :=
  let arg1 : BitVec 32 := BitVec.ofNat 32 (i 1).val
  let c2_i32 : BitVec 32 := 2#32
  let v3 : BitVec 32 := Scalar.subi arg1 c2_i32
  let c0_i32_1 : BitVec 32 := 0#32
  let v4 : BitVec 32 := Scalar.maxsi v3 c0_i32_1
  let c256_i32 : BitVec 32 := 256#32
  let v5 : BitVec 32 := Scalar.muli v4 c256_i32
  v5
def k0_off1 (i : grid0.Coords) : Fin 3 → Nat :=
  let c0_4 : Index := 0#32
  let arg1 : BitVec 32 := BitVec.ofNat 32 (i 1).val
  let c2_i32 : BitVec 32 := 2#32
  let v3 : BitVec 32 := Scalar.subi arg1 c2_i32
  let c0_i32_1 : BitVec 32 := 0#32
  let v4 : BitVec 32 := Scalar.maxsi v3 c0_i32_1
  let c256_i32 : BitVec 32 := 256#32
  let v5 : BitVec 32 := Scalar.muli v4 c256_i32
  let v6 : BitVec 32 := v5
  let v10 : Index := Scalar.indexCast v6
  let c0_5 : Index := 0#32
  ![0, v10.toNat, 0]
def k0_mult2 (i : grid0.Coords) : BitVec 32 :=
  let arg1 : BitVec 32 := BitVec.ofNat 32 (i 1).val
  let c256_i32_66 : BitVec 32 := 256#32
  let v142 : BitVec 32 := Scalar.muli arg1 c256_i32_66
  v142
def k0_off2 (i : grid0.Coords) : Fin 3 → Nat :=
  let c0_67 : Index := 0#32
  let arg1 : BitVec 32 := BitVec.ofNat 32 (i 1).val
  let c256_i32_66 : BitVec 32 := 256#32
  let v142 : BitVec 32 := Scalar.muli arg1 c256_i32_66
  let v143 : BitVec 32 := v142
  let v144 : Index := Scalar.indexCast v143
  let c0_68 : Index := 0#32
  ![0, v144.toNat, 0]
def k0_off3 (i : grid0.Coords) : Fin 2 → Nat :=
  let arg1 : BitVec 32 := BitVec.ofNat 32 (i 1).val
  let c2_i32 : BitVec 32 := 2#32
  let v3 : BitVec 32 := Scalar.subi arg1 c2_i32
  let c0_i32_1 : BitVec 32 := 0#32
  let v4 : BitVec 32 := Scalar.maxsi v3 c0_i32_1
  let c256_i32 : BitVec 32 := 256#32
  let v5 : BitVec 32 := Scalar.muli v4 c256_i32
  let v6 : BitVec 32 := v5
  let v148 : Index := Scalar.indexCast v6
  let c0_69 : Index := 0#32
  ![v148.toNat, 0]
def k0_cond2 (i : grid0.Coords) : BitVec 1 :=
  let arg1 : BitVec 32 := BitVec.ofNat 32 (i 1).val
  let c2_i32_23 : BitVec 32 := 2#32
  let v52 : BitVec 1 := Scalar.cmpi .sle arg1 c2_i32_23
  let v82 : BitVec 32 := Scalar.extui v52
  let c0_i32_39 : BitVec 32 := 0#32
  let v83 : BitVec 1 := Scalar.cmpi .ne v82 c0_i32_39
  v83

def k0_cond3 (i : grid0.Coords) : BitVec 1 :=
  let arg1 : BitVec 32 := BitVec.ofNat 32 (i 1).val
  let c2_i32_23 : BitVec 32 := 2#32
  let v52 : BitVec 1 := Scalar.cmpi .sle arg1 c2_i32_23
  let v_true : BitVec 1 := 1#1
  let v84 : BitVec 1 := Scalar.xori v52 v_true
  let v85 : BitVec 32 := Scalar.extui v84
  let c0_i32_40 : BitVec 32 := 0#32
  let v86 : BitVec 1 := Scalar.cmpi .ne v85 c0_i32_40
  v86

def k0_cond4 (i : grid0.Coords) : BitVec 1 :=
  let arg1 : BitVec 32 := BitVec.ofNat 32 (i 1).val
  let c2_i32_23 : BitVec 32 := 2#32
  let v52 : BitVec 1 := Scalar.cmpi .sle arg1 c2_i32_23
  let v126 : BitVec 32 := Scalar.extui v52
  let c0_i32_59 : BitVec 32 := 0#32
  let v127 : BitVec 1 := Scalar.cmpi .ne v126 c0_i32_59
  v127

def k0_cond5 (i : grid0.Coords) : BitVec 1 :=
  let arg1 : BitVec 32 := BitVec.ofNat 32 (i 1).val
  let c2_i32_23 : BitVec 32 := 2#32
  let v52 : BitVec 1 := Scalar.cmpi .sle arg1 c2_i32_23
  let true_60 : BitVec 1 := 1#1
  let v128 : BitVec 1 := Scalar.xori v52 true_60
  let v129 : BitVec 32 := Scalar.extui v128
  let c0_i32_61 : BitVec 32 := 0#32
  let v130 : BitVec 1 := Scalar.cmpi .ne v129 c0_i32_61
  v130

def cc0_transform_0 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![c7_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let c0_i32_0 : BitVec 32 := 0#32
  ![c8_i32.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  let c0_i32_0 : BitVec 32 := 0#32
  ![c9_i32.toNat, c0_i32.toNat, arg0.toNat]

def cc0_transform_3 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.minsi arg1 c2_i32
  let c0_i32 : BitVec 32 := 0#32
  let c0_i32_0 : BitVec 32 := 0#32
  let c0_i32_1 : BitVec 32 := 0#32
  let c0_i32_2 : BitVec 32 := 0#32
  ![c0_i32.toNat, v0.toNat, arg0.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.minsi arg1 c2_i32
  let c0_i32 : BitVec 32 := 0#32
  let c0_i32_0 : BitVec 32 := 0#32
  let c0_i32_1 : BitVec 32 := 0#32
  ![v0.toNat, arg0.toNat, c0_i32.toNat, c0_i32_0.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S3x8192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttIdeal.lean ====
variable {F : FTy → Type} [FloatOps F] [Named F]
def κ : String → Option EReal := fun
  | "mask" => some ⊥
  | _ => none
-- ==== AttRefIdeal.lean ====
abbrev S8192x5120 : Shape := ⟨2, ![8192, 5120]⟩
abbrev S8x257 : Shape := ⟨2, ![8, 257]⟩
abbrev S3x8192x512 : Shape := ⟨3, ![3, 8192, 512]⟩
abbrev S8192x512 : Shape := ⟨2, ![8192, 512]⟩
abbrev S8192x8x64 : Shape := ⟨3, ![8192, 8, 64]⟩
abbrev S3 : Shape := ⟨1, ![3]⟩
abbrev S3x1x1 : Shape := ⟨3, ![3, 1, 1]⟩
abbrev S256 : Shape := ⟨1, ![256]⟩
abbrev S1x256x1 : Shape := ⟨3, ![1, 256, 1]⟩
abbrev S768 : Shape := ⟨1, ![768]⟩
abbrev S1x1x768 : Shape := ⟨3, ![1, 1, 768]⟩
abbrev S_ : Shape := ⟨0, ![]⟩
abbrev S3x256x1 : Shape := ⟨3, ![3, 256, 1]⟩
abbrev S3x256x768 : Shape := ⟨3, ![3, 256, 768]⟩
abbrev S3x256x768x1 : Shape := ⟨4, ![3, 256, 768, 1]⟩
abbrev S8x3x256x768 : Shape := ⟨4, ![8, 3, 256, 768]⟩
abbrev S3x8x256x768 : Shape := ⟨4, ![3, 8, 256, 768]⟩
abbrev S8x8192x8192 : Shape := ⟨3, ![8, 8192, 8192]⟩
abbrev S3x1x1x1 : Shape := ⟨4, ![3, 1, 1, 1]⟩
abbrev S32 : Shape := ⟨1, ![32]⟩
abbrev S1x32x1x1 : Shape := ⟨4, ![1, 32, 1, 1]⟩
abbrev S1x1x3x1 : Shape := ⟨4, ![1, 1, 3, 1]⟩
abbrev S1x1x1x32 : Shape := ⟨4, ![1, 1, 1, 32]⟩
abbrev S3x32x1x1 : Shape := ⟨4, ![3, 32, 1, 1]⟩
abbrev S1x32x3x1 : Shape := ⟨4, ![1, 32, 3, 1]⟩
abbrev S1x32x3x32 : Shape := ⟨4, ![1, 32, 3, 32]⟩
abbrev S3x32x3x32 : Shape := ⟨4, ![3, 32, 3, 32]⟩
abbrev S3x8x1x256x3x1x256 : Shape := ⟨7, ![3, 8, 1, 256, 3, 1, 256]⟩
abbrev S3x1x32x1x3x32x1 : Shape := ⟨7, ![3, 1, 32, 1, 3, 32, 1]⟩
abbrev S3x8x32x256x3x32x256 : Shape := ⟨7, ![3, 8, 32, 256, 3, 32, 256]⟩
abbrev S8x32x256x32x256 : Shape := ⟨5, ![8, 32, 256, 32, 256]⟩
abbrev S128 : Shape := ⟨1, ![128]⟩
abbrev S128x1 : Shape := ⟨2, ![128, 1]⟩
abbrev S128x64 : Shape := ⟨2, ![128, 64]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S8x8192 : Shape := ⟨2, ![8, 8192]⟩
abbrev S8x8192x1 : Shape := ⟨3, ![8, 8192, 1]⟩
abbrev S8x64x8192 : Shape := ⟨3, ![8, 64, 8192]⟩
abbrev S1x8192x512 : Shape := ⟨3, ![1, 8192, 512]⟩
abbrev S3x8x256x3x256 : Shape := ⟨5, ![3, 8, 256, 3, 256]⟩
abbrev S8x8192x64 : Shape := ⟨3, ![8, 8192, 64]⟩
abbrev S1x8192x8x64 : Shape := ⟨4, ![1, 8192, 8, 64]⟩
abbrev S3x8192x8x64 : Shape := ⟨4, ![3, 8192, 8, 64]⟩

abbrev nBuf : Space → Nat
  | .hbm => 175
  | .vmem => 0
  | .smem => 0
  | _ => 0

abbrev hbmTy0_0 (i : Nat) : BufTy := match i % 128 with
  | 0 => ⟨S8192x5120, .f32⟩
  | 1 => ⟨S8x257, .f32⟩
  | 2 => ⟨S3x8192x512, .f32⟩
  | 3 => ⟨S8192x512, .f32⟩
  | 4 => ⟨S8192x8x64, .f32⟩
  | 5 => ⟨S8192x512, .f32⟩
  | 6 => ⟨S8192x8x64, .f32⟩
  | 7 => ⟨S8192x512, .f32⟩
  | 8 => ⟨S8192x8x64, .f32⟩
  | 9 => ⟨S3, .i32⟩
  | 10 => ⟨S3x1x1, .i32⟩
  | 11 => ⟨S256, .i32⟩
  | 12 => ⟨S1x256x1, .i32⟩
  | 13 => ⟨S768, .i32⟩
  | 14 => ⟨S1x1x768, .i32⟩
  | 15 => ⟨S_, .i32⟩
  | 16 => ⟨S3x1x1, .i32⟩
  | 17 => ⟨S3x1x1, .i32⟩
  | 18 => ⟨S3x256x1, .i32⟩
  | 19 => ⟨S3x256x1, .i32⟩
  | 20 => ⟨S3x256x1, .i32⟩
  | 21 => ⟨S3x256x768, .i32⟩
  | 22 => ⟨S3x256x768, .i32⟩
  | 23 => ⟨S3x256x768, .i32⟩
  | 24 => ⟨S_, .i32⟩
  | 25 => ⟨S3x256x768, .i32⟩
  | 26 => ⟨S3x256x768, .i32⟩
  | 27 => ⟨S_, .i32⟩
  | 28 => ⟨S3x256x768, .i32⟩
  | 29 => ⟨S3x256x768, .i32⟩
  | 30 => ⟨S_, .i32⟩
  | 31 => ⟨S3x256x768, .i32⟩
  | 32 => ⟨S3x256x768, .i32⟩
  | 33 => ⟨S_, .i32⟩
  | 34 => ⟨S3x256x768, .i32⟩
  | 35 => ⟨S3x256x768, .i1⟩
  | 36 => ⟨S_, .i32⟩
  | 37 => ⟨S3x256x768, .i32⟩
  | 38 => ⟨S3x256x768, .i32⟩
  | 39 => ⟨S3x256x768, .i32⟩
  | 40 => ⟨S3x256x768x1, .i32⟩
  | 41 => ⟨S8x3x256x768, .f32⟩
  | 42 => ⟨S3x8x256x768, .f32⟩
  | 43 => ⟨S8x8192x8192, .f32⟩
  | 44 => ⟨S_, .f32⟩
  | 45 => ⟨S8x8192x8192, .f32⟩
  | 46 => ⟨S8x8192x8192, .f32⟩
  | 47 => ⟨S3, .i32⟩
  | 48 => ⟨S3x1x1x1, .i32⟩
  | 49 => ⟨S32, .i32⟩
  | 50 => ⟨S1x32x1x1, .i32⟩
  | 51 => ⟨S3, .i32⟩
  | 52 => ⟨S1x1x3x1, .i32⟩
  | 53 => ⟨S32, .i32⟩
  | 54 => ⟨S1x1x1x32, .i32⟩
  | 55 => ⟨S_, .i32⟩
  | 56 => ⟨S1x32x1x1, .i32⟩
  | 57 => ⟨S1x32x1x1, .i32⟩
  | 58 => ⟨S3x32x1x1, .i32⟩
  | 59 => ⟨S3x32x1x1, .i32⟩
  | 60 => ⟨S3x32x1x1, .i1⟩
  | 61 => ⟨S_, .i32⟩
  | 62 => ⟨S1x32x1x1, .i32⟩
  | 63 => ⟨S1x32x1x1, .i32⟩
  | 64 => ⟨S_, .i32⟩
  | 65 => ⟨S1x32x1x1, .i32⟩
  | 66 => ⟨S1x32x1x1, .i32⟩
  | 67 => ⟨S1x32x3x1, .i32⟩
  | 68 => ⟨S1x32x3x1, .i32⟩
  | 69 => ⟨S1x32x3x1, .i32⟩
  | 70 => ⟨S1x32x3x32, .i32⟩
  | 71 => ⟨S1x32x3x32, .i32⟩
  | 72 => ⟨S1x32x3x32, .i1⟩
  | 73 => ⟨S3x32x3x32, .i1⟩
  | 74 => ⟨S3x32x3x32, .i1⟩
  | 75 => ⟨S3x32x3x32, .i1⟩
  | 76 => ⟨S3x8x1x256x3x1x256, .f32⟩
  | 77 => ⟨S3x1x32x1x3x32x1, .i1⟩
  | 78 => ⟨S3x8x32x256x3x32x256, .i1⟩
  | 79 => ⟨S3x8x32x256x3x32x256, .f32⟩
  | 80 => ⟨S_, .f32⟩
  | 81 => ⟨S3x8x32x256x3x32x256, .f32⟩
  | 82 => ⟨S3x8x32x256x3x32x256, .f32⟩
  | 83 => ⟨S_, .f32⟩
  | 84 => ⟨S3x8x32x256x3x32x256, .f32⟩
  | 85 => ⟨S_, .f32⟩
  | 86 => ⟨S8x32x256x32x256, .f32⟩
  | 87 => ⟨S8x8192x8192, .f32⟩
  | 88 => ⟨S8x8192x8192, .f32⟩
  | 89 => ⟨S128, .i32⟩
  | 90 => ⟨S128x1, .i32⟩
  | 91 => ⟨S128x64, .i32⟩
  | 92 => ⟨S8192, .i32⟩
  | 93 => ⟨S8192x1, .i32⟩
  | 94 => ⟨S1x8192, .i32⟩
  | 95 => ⟨S8192x8192, .i32⟩
  | 96 => ⟨S8192x8192, .i32⟩
  | 97 => ⟨S8192x8192, .i1⟩
  | 98 => ⟨S_, .i32⟩
  | 99 => ⟨S8192x1, .i32⟩
  | 100 => ⟨S8192x1, .i32⟩
  | 101 => ⟨S8192x8192, .i32⟩
  | 102 => ⟨S8192x8192, .i32⟩
  | 103 => ⟨S8192x8192, .i1⟩
  | 104 => ⟨S8192x8192, .i1⟩
  | 105 => ⟨S8x8192x8192, .i1⟩
  | 106 => ⟨S_, .f32⟩
  | 107 => ⟨S8x8192x8192, .f32⟩
  | 108 => ⟨S8x8192x8192, .f32⟩
  | 109 => ⟨S_, .f32⟩
  | 110 => ⟨S8x8192x8192, .f32⟩
  | 111 => ⟨S_, .f32⟩
  | 112 => ⟨S8x8192, .f32⟩
  | 113 => ⟨S8x8192x1, .f32⟩
  | 114 => ⟨S8x8192x8192, .f32⟩
  | 115 => ⟨S8x8192x8192, .f32⟩
  | 116 => ⟨S8x8192x8192, .f32⟩
  | 117 => ⟨S_, .f32⟩
  | 118 => ⟨S8x8192, .f32⟩
  | 119 => ⟨S8x8192x1, .f32⟩
  | 120 => ⟨S8x8192x8192, .f32⟩
  | 121 => ⟨S8x8192x8192, .f32⟩
  | 122 => ⟨S8x8192x1, .f32⟩
  | 123 => ⟨S_, .f32⟩
  | 124 => ⟨S8x8192x1, .f32⟩
  | 125 => ⟨S8x8192x1, .f32⟩
  | 126 => ⟨S8x64x8192, .f32⟩
  | 127 => ⟨S8192x8x64, .f32⟩
  | _ => ⟨S8192x5120, .f32⟩

abbrev hbmTy0_1 (i : Nat) : BufTy := match i % 128 with
  | 0 => ⟨S8192x512, .f32⟩
  | 1 => ⟨S1x8192x512, .f32⟩
  | 2 => ⟨S8192x512, .f32⟩
  | 3 => ⟨S8192x8x64, .f32⟩
  | 4 => ⟨S8x64x8192, .f32⟩
  | 5 => ⟨S8x8192x8192, .f32⟩
  | 6 => ⟨S8x64x8192, .f32⟩
  | 7 => ⟨S8192x8x64, .f32⟩
  | 8 => ⟨S8x8192x8192, .f32⟩
  | 9 => ⟨S8x8192x8192, .f32⟩
  | 10 => ⟨S8x8192x8192, .f32⟩
  | 11 => ⟨S_, .f32⟩
  | 12 => ⟨S8x8192, .f32⟩
  | 13 => ⟨S8x8192x1, .f32⟩
  | 14 => ⟨S8x8192x1, .f32⟩
  | 15 => ⟨S8x8192x8192, .f32⟩
  | 16 => ⟨S8x8192x8192, .f32⟩
  | 17 => ⟨S_, .f32⟩
  | 18 => ⟨S8x8192, .f32⟩
  | 19 => ⟨S8x8192x8192, .f32⟩
  | 20 => ⟨S8x8192x8192, .f32⟩
  | 21 => ⟨S8x8192x8192, .f32⟩
  | 22 => ⟨S_, .f32⟩
  | 23 => ⟨S8x8192x8192, .f32⟩
  | 24 => ⟨S8x8192x8192, .f32⟩
  | 25 => ⟨S8x32x256x32x256, .f32⟩
  | 26 => ⟨S3x8x32x256x3x32x256, .f32⟩
  | 27 => ⟨S_, .f32⟩
  | 28 => ⟨S3x8x32x256x3x32x256, .f32⟩
  | 29 => ⟨S3x8x32x256x3x32x256, .f32⟩
  | 30 => ⟨S_, .f32⟩
  | 31 => ⟨S3x8x256x3x256, .f32⟩
  | 32 => ⟨S3x8x1x256x3x1x256, .f32⟩
  | 33 => ⟨S3x8x256x768, .f32⟩
  | 34 => ⟨S_, .f32⟩
  | 35 => ⟨S8x8192x8192, .f32⟩
  | 36 => ⟨S8x8192x8192, .f32⟩
  | 37 => ⟨S8x8192x64, .f32⟩
  | 38 => ⟨S8192x8x64, .f32⟩
  | 39 => ⟨S8x8192x64, .f32⟩
  | 40 => ⟨S8192x8x64, .f32⟩
  | 41 => ⟨S1x8192x8x64, .f32⟩
  | 42 => ⟨S1x8192x8x64, .f32⟩
  | 43 => ⟨S1x8192x8x64, .f32⟩
  | 44 => ⟨S3x8192x8x64, .f32⟩
  | 45 => ⟨S3x8192x512, .f32⟩
  | 46 => ⟨S3x8192x512, .bf16⟩
  | _ => ⟨S8192x5120, .f32⟩

abbrev hbmTy (i : Nat) : BufTy := match i / 128 with
  | 0 => hbmTy0_0 i
  | 1 => hbmTy0_1 i
  | _ => ⟨S8192x5120, .f32⟩

abbrev bufTy : (tb : Table) → Fin (tcTables nBuf tb) → BufTy
  | .hbm, ⟨i, _⟩ => hbmTy i
  | _, _ => ⟨S8192x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_c_0 : Ref sig .tc := ⟨.hbm, 24, rfl⟩
abbrev main_v20 : Ref sig .tc := ⟨.hbm, 25, rfl⟩
abbrev main_v21 : Ref sig .tc := ⟨.hbm, 26, rfl⟩
abbrev main_c_1 : Ref sig .tc := ⟨.hbm, 27, rfl⟩
abbrev main_v22 : Ref sig .tc := ⟨.hbm, 28, rfl⟩
abbrev main_v23 : Ref sig .tc := ⟨.hbm, 29, rfl⟩
abbrev main_c_2 : Ref sig .tc := ⟨.hbm, 30, rfl⟩
abbrev main_v24 : Ref sig .tc := ⟨.hbm, 31, rfl⟩
abbrev main_v25 : Ref sig .tc := ⟨.hbm, 32, rfl⟩
abbrev main_c_3 : Ref sig .tc := ⟨.hbm, 33, rfl⟩
abbrev main_v26 : Ref sig .tc := ⟨.hbm, 34, rfl⟩
abbrev main_v27 : Ref sig .tc := ⟨.hbm, 35, rfl⟩
abbrev main_c_4 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_c_5 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_c_6 : Ref sig .tc := ⟨.hbm, 61, rfl⟩
abbrev main_v50 : Ref sig .tc := ⟨.hbm, 62, rfl⟩
abbrev main_v51 : Ref sig .tc := ⟨.hbm, 63, rfl⟩
abbrev main_c_7 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_cst_8 : Ref sig .tc := ⟨.hbm, 80, rfl⟩
abbrev main_v67 : Ref sig .tc := ⟨.hbm, 81, rfl⟩
abbrev main_v68 : Ref sig .tc := ⟨.hbm, 82, rfl⟩
abbrev main_cst_9 : Ref sig .tc := ⟨.hbm, 83, rfl⟩
abbrev main_v69 : Ref sig .tc := ⟨.hbm, 84, rfl⟩
abbrev main_cst_10 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_c_11 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_cst_12 : Ref sig .tc := ⟨.hbm, 106, rfl⟩
abbrev main_v89 : Ref sig .tc := ⟨.hbm, 107, rfl⟩
abbrev main_v90 : Ref sig .tc := ⟨.hbm, 108, rfl⟩
abbrev main_cst_13 : Ref sig .tc := ⟨.hbm, 109, rfl⟩
abbrev main_v91 : Ref sig .tc := ⟨.hbm, 110, rfl⟩
abbrev main_cst_14 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_cst_15 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_cst_16 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_cst_17 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_cst_18 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_cst_19 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_cst_20 : Ref sig .tc := ⟨.hbm, 155, rfl⟩
abbrev main_v130 : Ref sig .tc := ⟨.hbm, 156, rfl⟩
abbrev main_v131 : Ref sig .tc := ⟨.hbm, 157, rfl⟩
abbrev main_cst_21 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_cst_22 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩

abbrev nD : Nat := 1
abbrev τ : Topo := Topo.v7x

variable {F : FTy → Type} [FloatOps F]

def κ : String → Option EReal := fun
  | "mask" => some ⊥
  | _ => none
-- ==== AttFwd.lean ====
abbrev S8192x5120 : Shape := ⟨2, ![8192, 5120]⟩
abbrev S8x257 : Shape := ⟨2, ![8, 257]⟩
abbrev S8192x10x512 : Shape := ⟨3, ![8192, 10, 512]⟩
abbrev S10x8192x512 : Shape := ⟨3, ![10, 8192, 512]⟩
abbrev S3 : Shape := ⟨1, ![3]⟩
abbrev S3x1x1 : Shape := ⟨3, ![3, 1, 1]⟩
abbrev S256 : Shape := ⟨1, ![256]⟩
abbrev S1x256x1 : Shape := ⟨3, ![1, 256, 1]⟩
abbrev S768 : Shape := ⟨1, ![768]⟩
abbrev S1x1x768 : Shape := ⟨3, ![1, 1, 768]⟩
abbrev S_ : Shape := ⟨0, ![]⟩
abbrev S3x256x1 : Shape := ⟨3, ![3, 256, 1]⟩
abbrev S3x256x768 : Shape := ⟨3, ![3, 256, 768]⟩
abbrev S3x256x768x1 : Shape := ⟨4, ![3, 256, 768, 1]⟩
abbrev S8x3x256x768 : Shape := ⟨4, ![8, 3, 256, 768]⟩
abbrev S3x8x256x768 : Shape := ⟨4, ![3, 8, 256, 768]⟩
abbrev S12 : Shape := ⟨1, ![12]⟩
abbrev S12x1 : Shape := ⟨2, ![12, 1]⟩
abbrev S12x64 : Shape := ⟨2, ![12, 64]⟩
abbrev S3x1x256x768 : Shape := ⟨4, ![3, 1, 256, 768]⟩
abbrev S1x3x8x256x768 : Shape := ⟨5, ![1, 3, 8, 256, 768]⟩
abbrev S8192x512 : Shape := ⟨2, ![8192, 512]⟩
abbrev S4x8192x128 : Shape := ⟨3, ![4, 8192, 128]⟩
abbrev S1x256x128 : Shape := ⟨3, ![1, 256, 128]⟩
abbrev S1x8192x128 : Shape := ⟨3, ![1, 8192, 128]⟩
abbrev S1x1x2x256x768 : Shape := ⟨5, ![1, 1, 2, 256, 768]⟩
abbrev S256x128 : Shape := ⟨2, ![256, 128]⟩
abbrev S1x768x128 : Shape := ⟨3, ![1, 768, 128]⟩
abbrev S768x128 : Shape := ⟨2, ![768, 128]⟩
abbrev S256x768 : Shape := ⟨2, ![256, 768]⟩
abbrev S1x1x1x256x768 : Shape := ⟨5, ![1, 1, 1, 256, 768]⟩
abbrev S256x1 : Shape := ⟨2, ![256, 1]⟩

abbrev nBuf : Space → Nat
  | .hbm => 65
  | .vmem => 12
  | .smem => 0
  | _ => 0

abbrev bufTy : (tb : Table) → Fin (tcTables nBuf tb) → BufTy
  | .hbm, ⟨0, _⟩ => ⟨S8192x5120, .f32⟩
  | .hbm, ⟨1, _⟩ => ⟨S8x257, .f32⟩
  | .hbm, ⟨2, _⟩ => ⟨S8192x10x512, .f32⟩
  | .hbm, ⟨3, _⟩ => ⟨S10x8192x512, .f32⟩
  | .hbm, ⟨4, _⟩ => ⟨S10x8192x512, .bf16⟩
  | .hbm, ⟨5, _⟩ => ⟨S3, .i32⟩
  | .hbm, ⟨6, _⟩ => ⟨S3x1x1, .i32⟩
  | .hbm, ⟨7, _⟩ => ⟨S256, .i32⟩
  | .hbm, ⟨8, _⟩ => ⟨S1x256x1, .i32⟩
  | .hbm, ⟨9, _⟩ => ⟨S768, .i32⟩
  | .hbm, ⟨10, _⟩ => ⟨S1x1x768, .i32⟩
  | .hbm, ⟨11, _⟩ => ⟨S_, .i32⟩
  | .hbm, ⟨12, _⟩ => ⟨S3x1x1, .i32⟩
  | .hbm, ⟨13, _⟩ => ⟨S3x1x1, .i32⟩
  | .hbm, ⟨14, _⟩ => ⟨S3x256x1, .i32⟩
  | .hbm, ⟨15, _⟩ => ⟨S3x256x1, .i32⟩
  | .hbm, ⟨16, _⟩ => ⟨S3x256x1, .i32⟩
  | .hbm, ⟨17, _⟩ => ⟨S3x256x768, .i32⟩
  | .hbm, ⟨18, _⟩ => ⟨S3x256x768, .i32⟩
  | .hbm, ⟨19, _⟩ => ⟨S3x256x768, .i32⟩
  | .hbm, ⟨20, _⟩ => ⟨S_, .i32⟩
  | .hbm, ⟨21, _⟩ => ⟨S3x256x768, .i32⟩
  | .hbm, ⟨22, _⟩ => ⟨S3x256x768, .i32⟩
  | .hbm, ⟨23, _⟩ => ⟨S_, .i32⟩
  | .hbm, ⟨24, _⟩ => ⟨S3x256x768, .i32⟩
  | .hbm, ⟨25, _⟩ => ⟨S3x256x768, .i32⟩
  | .hbm, ⟨26, _⟩ => ⟨S_, .i32⟩
  | .hbm, ⟨27, _⟩ => ⟨S3x256x768, .i32⟩
  | .hbm, ⟨28, _⟩ => ⟨S3x256x768, .i32⟩
  | .hbm, ⟨29, _⟩ => ⟨S_, .i32⟩
  | .hbm, ⟨30, _⟩ => ⟨S3x256x768, .i32⟩
  | .hbm, ⟨31, _⟩ => ⟨S3x256x768, .i1⟩
  | .hbm, ⟨32, _⟩ => ⟨S_, .i32⟩
  | .hbm, ⟨33, _⟩ => ⟨S3x256x768, .i32⟩
  | .hbm, ⟨34, _⟩ => ⟨S3x256x768, .i32⟩
  | .hbm, ⟨35, _⟩ => ⟨S3x256x768, .i32⟩
  | .hbm, ⟨36, _⟩ => ⟨S3x256x768x1, .i32⟩
  | .hbm, ⟨37, _⟩ => ⟨S8x3x256x768, .f32⟩
  | .hbm, ⟨38, _⟩ => ⟨S3x8x256x768, .f32⟩
  | .hbm, ⟨39, _⟩ => ⟨S12, .i32⟩
  | .hbm, ⟨40, _⟩ => ⟨S12x1, .i32⟩
  | .hbm, ⟨41, _⟩ => ⟨S12x64, .i32⟩
  | .hbm, ⟨42, _⟩ => ⟨S768, .i32⟩
  | .hbm, ⟨43, _⟩ => ⟨S3x256x1, .i32⟩
  | .hbm, ⟨44, _⟩ => ⟨S1x1x768, .i32⟩
  | .hbm, ⟨45, _⟩ => ⟨S3x256x768, .i32⟩
  | .hbm, ⟨46, _⟩ => ⟨S3x256x768, .i32⟩
  | .hbm, ⟨47, _⟩ => ⟨S3x256x768, .i1⟩
  | .hbm, ⟨48, _⟩ => ⟨S_, .i32⟩
  | .hbm, ⟨49, _⟩ => ⟨S3x256x1, .i32⟩
  | .hbm, ⟨50, _⟩ => ⟨S3x256x1, .i32⟩
  | .hbm, ⟨51, _⟩ => ⟨S1x1x768, .i32⟩
  | .hbm, ⟨52, _⟩ => ⟨S3x256x768, .i32⟩
  | .hbm, ⟨53, _⟩ => ⟨S3x256x768, .i32⟩
  | .hbm, ⟨54, _⟩ => ⟨S3x256x768, .i1⟩
  | .hbm, ⟨55, _⟩ => ⟨S3x256x768, .i1⟩
  | .hbm, ⟨56, _⟩ => ⟨S3x1x256x768, .i1⟩
  | .hbm, ⟨57, _⟩ => ⟨S_, .f32⟩
  | .hbm, ⟨58, _⟩ => ⟨S_, .f32⟩
  | .hbm, ⟨59, _⟩ => ⟨S3x8x256x768, .i1⟩
  | .hbm, ⟨60, _⟩ => ⟨S3x8x256x768, .f32⟩
  | .hbm, ⟨61, _⟩ => ⟨S3x8x256x768, .f32⟩
  | .hbm, ⟨62, _⟩ => ⟨S1x3x8x256x768, .f32⟩
  | .hbm, ⟨63, _⟩ => ⟨S8192x512, .bf16⟩
  | .hbm, ⟨64, _⟩ => ⟨S4x8192x128, .f32⟩
  | .local _ .vmem, ⟨0, _⟩ => ⟨S1x256x128, .bf16⟩
  | .local _ .vmem, ⟨1, _⟩ => ⟨S1x256x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x1x2x256x768, .f32⟩
  | .local _ .vmem, ⟨7, _⟩ => ⟨S1x1x2x256x768, .f32⟩
  | .local _ .vmem, ⟨8, _⟩ => ⟨S256x128, .bf16⟩
  | .local _ .vmem, ⟨9, _⟩ => ⟨S256x128, .bf16⟩
  | .local _ .vmem, ⟨10, _⟩ => ⟨S1x256x128, .f32⟩
  | .local _ .vmem, ⟨11, _⟩ => ⟨S1x256x128, .f32⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_c_0 : Ref sig .tc := ⟨.hbm, 20, rfl⟩
abbrev main_v17 : Ref sig .tc := ⟨.hbm, 21, rfl⟩
abbrev main_v18 : Ref sig .tc := ⟨.hbm, 22, rfl⟩
abbrev main_c_1 : Ref sig .tc := ⟨.hbm, 23, rfl⟩
abbrev main_v19 : Ref sig .tc := ⟨.hbm, 24, rfl⟩
abbrev main_v20 : Ref sig .tc := ⟨.hbm, 25, rfl⟩
abbrev main_c_2 : Ref sig .tc := ⟨.hbm, 26, rfl⟩
abbrev main_v21 : Ref sig .tc := ⟨.hbm, 27, rfl⟩
abbrev main_v22 : Ref sig .tc := ⟨.hbm, 28, rfl⟩
abbrev main_c_3 : Ref sig .tc := ⟨.hbm, 29, rfl⟩
abbrev main_v23 : Ref sig .tc := ⟨.hbm, 30, rfl⟩
abbrev main_v24 : Ref sig .tc := ⟨.hbm, 31, rfl⟩
abbrev main_c_4 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_c_5 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_v48 : Ref sig .tc := ⟨.hbm, 61, rfl⟩
abbrev main_v49 : Ref sig .tc := ⟨.hbm, 62, rfl⟩
abbrev main_v50_0 : Ref sig .tc := ⟨.hbm, 63, rfl⟩
abbrev main_v50_1 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 32], ![false, false]⟩

def k0_mult1 (i : grid0.Coords) : BitVec 32 :=
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c256_i32 : BitVec 32 := 256#32
  let v2 : BitVec 32 := Scalar.muli v1 c256_i32
  v2
def k0_off1 (i : grid0.Coords) : Fin 3 → Nat :=
  let c0_2 : Index := 0#32
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c256_i32 : BitVec 32 := 256#32
  let v2 : BitVec 32 := Scalar.muli v1 c256_i32
  let v3 : BitVec 32 := v2
  let v7 : Index := Scalar.indexCast v3
  let c0_3 : Index := 0#32
  ![0, v7.toNat, 0]
def cc0_transform_0 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![c7_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let c0_i32_0 : BitVec 32 := 0#32
  ![c8_i32.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  let c0_i32_0 : BitVec 32 := 0#32
  ![c9_i32.toNat, c0_i32.toNat, arg0.toNat]

def cc0_transform_3 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.minsi arg1 c2_i32
  let c0_i32 : BitVec 32 := 0#32
  let c0_i32_0 : BitVec 32 := 0#32
  let c0_i32_1 : BitVec 32 := 0#32
  let c0_i32_2 : BitVec 32 := 0#32
  ![c0_i32.toNat, v0.toNat, arg0.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttFwdRefIdeal.lean ====
abbrev S8192x5120 : Shape := ⟨2, ![8192, 5120]⟩
abbrev S8x257 : Shape := ⟨2, ![8, 257]⟩
abbrev S8192x512 : Shape := ⟨2, ![8192, 512]⟩
abbrev S8192x8x64 : Shape := ⟨3, ![8192, 8, 64]⟩
abbrev S3 : Shape := ⟨1, ![3]⟩
abbrev S3x1x1 : Shape := ⟨3, ![3, 1, 1]⟩
abbrev S256 : Shape := ⟨1, ![256]⟩
abbrev S1x256x1 : Shape := ⟨3, ![1, 256, 1]⟩
abbrev S768 : Shape := ⟨1, ![768]⟩
abbrev S1x1x768 : Shape := ⟨3, ![1, 1, 768]⟩
abbrev S_ : Shape := ⟨0, ![]⟩
abbrev S3x256x1 : Shape := ⟨3, ![3, 256, 1]⟩
abbrev S3x256x768 : Shape := ⟨3, ![3, 256, 768]⟩
abbrev S3x256x768x1 : Shape := ⟨4, ![3, 256, 768, 1]⟩
abbrev S8x3x256x768 : Shape := ⟨4, ![8, 3, 256, 768]⟩
abbrev S3x8x256x768 : Shape := ⟨4, ![3, 8, 256, 768]⟩
abbrev S8x8192x8192 : Shape := ⟨3, ![8, 8192, 8192]⟩
abbrev S3x1x1x1 : Shape := ⟨4, ![3, 1, 1, 1]⟩
abbrev S32 : Shape := ⟨1, ![32]⟩
abbrev S1x32x1x1 : Shape := ⟨4, ![1, 32, 1, 1]⟩
abbrev S1x1x3x1 : Shape := ⟨4, ![1, 1, 3, 1]⟩
abbrev S1x1x1x32 : Shape := ⟨4, ![1, 1, 1, 32]⟩
abbrev S3x32x1x1 : Shape := ⟨4, ![3, 32, 1, 1]⟩
abbrev S1x32x3x1 : Shape := ⟨4, ![1, 32, 3, 1]⟩
abbrev S1x32x3x32 : Shape := ⟨4, ![1, 32, 3, 32]⟩
abbrev S3x32x3x32 : Shape := ⟨4, ![3, 32, 3, 32]⟩
abbrev S3x8x1x256x3x1x256 : Shape := ⟨7, ![3, 8, 1, 256, 3, 1, 256]⟩
abbrev S3x1x32x1x3x32x1 : Shape := ⟨7, ![3, 1, 32, 1, 3, 32, 1]⟩
abbrev S3x8x32x256x3x32x256 : Shape := ⟨7, ![3, 8, 32, 256, 3, 32, 256]⟩
abbrev S8x32x256x32x256 : Shape := ⟨5, ![8, 32, 256, 32, 256]⟩
abbrev S128 : Shape := ⟨1, ![128]⟩
abbrev S128x1 : Shape := ⟨2, ![128, 1]⟩
abbrev S128x64 : Shape := ⟨2, ![128, 64]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S8x8192 : Shape := ⟨2, ![8, 8192]⟩
abbrev S8x8192x1 : Shape := ⟨3, ![8, 8192, 1]⟩
abbrev S8x64x8192 : Shape := ⟨3, ![8, 64, 8192]⟩
abbrev S4x2x8192 : Shape := ⟨3, ![4, 2, 8192]⟩
abbrev S4x8192x2 : Shape := ⟨3, ![4, 8192, 2]⟩
abbrev S4x8192x2x1 : Shape := ⟨4, ![4, 8192, 2, 1]⟩
abbrev S4x8192x2x64 : Shape := ⟨4, ![4, 8192, 2, 64]⟩
abbrev S4x8192x128 : Shape := ⟨3, ![4, 8192, 128]⟩

abbrev nBuf : Space → Nat
  | .hbm => 201
  | .vmem => 0
  | .smem => 0
  | _ => 0

abbrev hbmTy0_0 (i : Nat) : BufTy := match i % 128 with
  | 0 => ⟨S8192x5120, .f32⟩
  | 1 => ⟨S8x257, .f32⟩
  | 2 => ⟨S8192x512, .f32⟩
  | 3 => ⟨S8192x8x64, .f32⟩
  | 4 => ⟨S8192x512, .f32⟩
  | 5 => ⟨S8192x8x64, .f32⟩
  | 6 => ⟨S8192x512, .f32⟩
  | 7 => ⟨S8192x8x64, .f32⟩
  | 8 => ⟨S3, .i32⟩
  | 9 => ⟨S3x1x1, .i32⟩
  | 10 => ⟨S256, .i32⟩
  | 11 => ⟨S1x256x1, .i32⟩
  | 12 => ⟨S768, .i32⟩
  | 13 => ⟨S1x1x768, .i32⟩
  | 14 => ⟨S_, .i32⟩
  | 15 => ⟨S3x1x1, .i32⟩
  | 16 => ⟨S3x1x1, .i32⟩
  | 17 => ⟨S3x256x1, .i32⟩
  | 18 => ⟨S3x256x1, .i32⟩
  | 19 => ⟨S3x256x1, .i32⟩
  | 20 => ⟨S3x256x768, .i32⟩
  | 21 => ⟨S3x256x768, .i32⟩
  | 22 => ⟨S3x256x768, .i32⟩
  | 23 => ⟨S_, .i32⟩
  | 24 => ⟨S3x256x768, .i32⟩
  | 25 => ⟨S3x256x768, .i32⟩
  | 26 => ⟨S_, .i32⟩
  | 27 => ⟨S3x256x768, .i32⟩
  | 28 => ⟨S3x256x768, .i32⟩
  | 29 => ⟨S_, .i32⟩
  | 30 => ⟨S3x256x768, .i32⟩
  | 31 => ⟨S3x256x768, .i32⟩
  | 32 => ⟨S_, .i32⟩
  | 33 => ⟨S3x256x768, .i32⟩
  | 34 => ⟨S3x256x768, .i1⟩
  | 35 => ⟨S_, .i32⟩
  | 36 => ⟨S3x256x768, .i32⟩
  | 37 => ⟨S3x256x768, .i32⟩
  | 38 => ⟨S3x256x768, .i32⟩
  | 39 => ⟨S3x256x768x1, .i32⟩
  | 40 => ⟨S8x3x256x768, .f32⟩
  | 41 => ⟨S3x8x256x768, .f32⟩
  | 42 => ⟨S8x8192x8192, .f32⟩
  | 43 => ⟨S_, .f32⟩
  | 44 => ⟨S8x8192x8192, .f32⟩
  | 45 => ⟨S8x8192x8192, .f32⟩
  | 46 => ⟨S3, .i32⟩
  | 47 => ⟨S3x1x1x1, .i32⟩
  | 48 => ⟨S32, .i32⟩
  | 49 => ⟨S1x32x1x1, .i32⟩
  | 50 => ⟨S3, .i32⟩
  | 51 => ⟨S1x1x3x1, .i32⟩
  | 52 => ⟨S32, .i32⟩
  | 53 => ⟨S1x1x1x32, .i32⟩
  | 54 => ⟨S_, .i32⟩
  | 55 => ⟨S1x32x1x1, .i32⟩
  | 56 => ⟨S1x32x1x1, .i32⟩
  | 57 => ⟨S3x32x1x1, .i32⟩
  | 58 => ⟨S3x32x1x1, .i32⟩
  | 59 => ⟨S3x32x1x1, .i1⟩
  | 60 => ⟨S_, .i32⟩
  | 61 => ⟨S1x32x1x1, .i32⟩
  | 62 => ⟨S1x32x1x1, .i32⟩
  | 63 => ⟨S_, .i32⟩
  | 64 => ⟨S1x32x1x1, .i32⟩
  | 65 => ⟨S1x32x1x1, .i32⟩
  | 66 => ⟨S1x32x3x1, .i32⟩
  | 67 => ⟨S1x32x3x1, .i32⟩
  | 68 => ⟨S1x32x3x1, .i32⟩
  | 69 => ⟨S1x32x3x32, .i32⟩
  | 70 => ⟨S1x32x3x32, .i32⟩
  | 71 => ⟨S1x32x3x32, .i1⟩
  | 72 => ⟨S3x32x3x32, .i1⟩
  | 73 => ⟨S3x32x3x32, .i1⟩
  | 74 => ⟨S3x32x3x32, .i1⟩
  | 75 => ⟨S3x8x1x256x3x1x256, .f32⟩
  | 76 => ⟨S3x1x32x1x3x32x1, .i1⟩
  | 77 => ⟨S3x8x32x256x3x32x256, .i1⟩
  | 78 => ⟨S3x8x32x256x3x32x256, .f32⟩
  | 79 => ⟨S_, .f32⟩
  | 80 => ⟨S3x8x32x256x3x32x256, .f32⟩
  | 81 => ⟨S3x8x32x256x3x32x256, .f32⟩
  | 82 => ⟨S_, .f32⟩
  | 83 => ⟨S8x32x256x32x256, .f32⟩
  | 84 => ⟨S8x8192x8192, .f32⟩
  | 85 => ⟨S8x8192x8192, .f32⟩
  | 86 => ⟨S128, .i32⟩
  | 87 => ⟨S128x1, .i32⟩
  | 88 => ⟨S128x64, .i32⟩
  | 89 => ⟨S8192, .i32⟩
  | 90 => ⟨S8192x1, .i32⟩
  | 91 => ⟨S1x8192, .i32⟩
  | 92 => ⟨S8192x8192, .i32⟩
  | 93 => ⟨S8192x8192, .i32⟩
  | 94 => ⟨S8192x8192, .i1⟩
  | 95 => ⟨S_, .i32⟩
  | 96 => ⟨S8192x1, .i32⟩
  | 97 => ⟨S8192x1, .i32⟩
  | 98 => ⟨S8192x8192, .i32⟩
  | 99 => ⟨S8192x8192, .i32⟩
  | 100 => ⟨S8192x8192, .i1⟩
  | 101 => ⟨S8192x8192, .i1⟩
  | 102 => ⟨S8x8192x8192, .i1⟩
  | 103 => ⟨S_, .f32⟩
  | 104 => ⟨S8x8192x8192, .f32⟩
  | 105 => ⟨S8x8192x8192, .f32⟩
  | 106 => ⟨S_, .f32⟩
  | 107 => ⟨S8x8192, .f32⟩
  | 108 => ⟨S8x8192x1, .f32⟩
  | 109 => ⟨S8x8192x8192, .f32⟩
  | 110 => ⟨S8x8192x8192, .f32⟩
  | 111 => ⟨S8x8192x8192, .f32⟩
  | 112 => ⟨S_, .f32⟩
  | 113 => ⟨S8x8192, .f32⟩
  | 114 => ⟨S8x8192x1, .f32⟩
  | 115 => ⟨S8x8192x8192, .f32⟩
  | 116 => ⟨S8x8192x8192, .f32⟩
  | 117 => ⟨S8x64x8192, .f32⟩
  | 118 => ⟨S8192x8x64, .f32⟩
  | 119 => ⟨S8192x512, .f32⟩
  | 120 => ⟨S8192x512, .bf16⟩
  | 121 => ⟨S8x8192x8192, .f32⟩
  | 122 => ⟨S_, .f32⟩
  | 123 => ⟨S8x8192x8192, .f32⟩
  | 124 => ⟨S8x8192x8192, .f32⟩
  | 125 => ⟨S3, .i32⟩
  | 126 => ⟨S3x1x1x1, .i32⟩
  | 127 => ⟨S32, .i32⟩
  | _ => ⟨S8192x5120, .f32⟩

abbrev hbmTy0_1 (i : Nat) : BufTy := match i % 128 with
  | 0 => ⟨S1x32x1x1, .i32⟩
  | 1 => ⟨S3, .i32⟩
  | 2 => ⟨S1x1x3x1, .i32⟩
  | 3 => ⟨S32, .i32⟩
  | 4 => ⟨S1x1x1x32, .i32⟩
  | 5 => ⟨S_, .i32⟩
  | 6 => ⟨S1x32x1x1, .i32⟩
  | 7 => ⟨S1x32x1x1, .i32⟩
  | 8 => ⟨S3x32x1x1, .i32⟩
  | 9 => ⟨S3x32x1x1, .i32⟩
  | 10 => ⟨S3x32x1x1, .i1⟩
  | 11 => ⟨S_, .i32⟩
  | 12 => ⟨S1x32x1x1, .i32⟩
  | 13 => ⟨S1x32x1x1, .i32⟩
  | 14 => ⟨S_, .i32⟩
  | 15 => ⟨S1x32x1x1, .i32⟩
  | 16 => ⟨S1x32x1x1, .i32⟩
  | 17 => ⟨S1x32x3x1, .i32⟩
  | 18 => ⟨S1x32x3x1, .i32⟩
  | 19 => ⟨S1x32x3x1, .i32⟩
  | 20 => ⟨S1x32x3x32, .i32⟩
  | 21 => ⟨S1x32x3x32, .i32⟩
  | 22 => ⟨S1x32x3x32, .i1⟩
  | 23 => ⟨S3x32x3x32, .i1⟩
  | 24 => ⟨S3x32x3x32, .i1⟩
  | 25 => ⟨S3x32x3x32, .i1⟩
  | 26 => ⟨S3x8x1x256x3x1x256, .f32⟩
  | 27 => ⟨S3x1x32x1x3x32x1, .i1⟩
  | 28 => ⟨S3x8x32x256x3x32x256, .i1⟩
  | 29 => ⟨S3x8x32x256x3x32x256, .f32⟩
  | 30 => ⟨S_, .f32⟩
  | 31 => ⟨S3x8x32x256x3x32x256, .f32⟩
  | 32 => ⟨S3x8x32x256x3x32x256, .f32⟩
  | 33 => ⟨S_, .f32⟩
  | 34 => ⟨S8x32x256x32x256, .f32⟩
  | 35 => ⟨S8x8192x8192, .f32⟩
  | 36 => ⟨S8x8192x8192, .f32⟩
  | 37 => ⟨S128, .i32⟩
  | 38 => ⟨S128x1, .i32⟩
  | 39 => ⟨S128x64, .i32⟩
  | 40 => ⟨S8192, .i32⟩
  | 41 => ⟨S8192x1, .i32⟩
  | 42 => ⟨S1x8192, .i32⟩
  | 43 => ⟨S8192x8192, .i32⟩
  | 44 => ⟨S8192x8192, .i32⟩
  | 45 => ⟨S8192x8192, .i1⟩
  | 46 => ⟨S_, .i32⟩
  | 47 => ⟨S8192x1, .i32⟩
  | 48 => ⟨S8192x1, .i32⟩
  | 49 => ⟨S8192x8192, .i32⟩
  | 50 => ⟨S8192x8192, .i32⟩
  | 51 => ⟨S8192x8192, .i1⟩
  | 52 => ⟨S8192x8192, .i1⟩
  | 53 => ⟨S8x8192x8192, .i1⟩
  | 54 => ⟨S_, .f32⟩
  | 55 => ⟨S8x8192x8192, .f32⟩
  | 56 => ⟨S8x8192x8192, .f32⟩
  | 57 => ⟨S_, .f32⟩
  | 58 => ⟨S8x8192, .f32⟩
  | 59 => ⟨S8x8192x1, .f32⟩
  | 60 => ⟨S8x8192x8192, .f32⟩
  | 61 => ⟨S8x8192x8192, .f32⟩
  | 62 => ⟨S8x8192x8192, .f32⟩
  | 63 => ⟨S_, .f32⟩
  | 64 => ⟨S8x8192, .f32⟩
  | 65 => ⟨S8x8192x1, .f32⟩
  | 66 => ⟨S8x8192x1, .f32⟩
  | 67 => ⟨S8x8192x1, .f32⟩
  | 68 => ⟨S4x2x8192, .f32⟩
  | 69 => ⟨S4x8192x2, .f32⟩
  | 70 => ⟨S4x8192x2x1, .f32⟩
  | 71 => ⟨S4x8192x2x64, .f32⟩
  | 72 => ⟨S4x8192x128, .f32⟩
  | _ => ⟨S8192x5120, .f32⟩

abbrev hbmTy (i : Nat) : BufTy := match i / 128 with
  | 0 => hbmTy0_0 i
  | 1 => hbmTy0_1 i
  | _ => ⟨S8192x5120, .f32⟩

abbrev bufTy : (tb : Table) → Fin (tcTables nBuf tb) → BufTy
  | .hbm, ⟨i, _⟩ => hbmTy i
  | _, _ => ⟨S8192x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_c_0 : Ref sig .tc := ⟨.hbm, 23, rfl⟩
abbrev main_v20 : Ref sig .tc := ⟨.hbm, 24, rfl⟩
abbrev main_v21 : Ref sig .tc := ⟨.hbm, 25, rfl⟩
abbrev main_c_1 : Ref sig .tc := ⟨.hbm, 26, rfl⟩
abbrev main_v22 : Ref sig .tc := ⟨.hbm, 27, rfl⟩
abbrev main_v23 : Ref sig .tc := ⟨.hbm, 28, rfl⟩
abbrev main_c_2 : Ref sig .tc := ⟨.hbm, 29, rfl⟩
abbrev main_v24 : Ref sig .tc := ⟨.hbm, 30, rfl⟩
abbrev main_v25 : Ref sig .tc := ⟨.hbm, 31, rfl⟩
abbrev main_c_3 : Ref sig .tc := ⟨.hbm, 32, rfl⟩
abbrev main_v26 : Ref sig .tc := ⟨.hbm, 33, rfl⟩
abbrev main_v27 : Ref sig .tc := ⟨.hbm, 34, rfl⟩
abbrev main_c_4 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_c_5 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_c_6 : Ref sig .tc := ⟨.hbm, 60, rfl⟩
abbrev main_v50 : Ref sig .tc := ⟨.hbm, 61, rfl⟩
abbrev main_v51 : Ref sig .tc := ⟨.hbm, 62, rfl⟩
abbrev main_c_7 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_cst_8 : Ref sig .tc := ⟨.hbm, 79, rfl⟩
abbrev main_v67 : Ref sig .tc := ⟨.hbm, 80, rfl⟩
abbrev main_v68 : Ref sig .tc := ⟨.hbm, 81, rfl⟩
abbrev main_cst_9 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_c_10 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_cst_11 : Ref sig .tc := ⟨.hbm, 103, rfl⟩
abbrev main_v88 : Ref sig .tc := ⟨.hbm, 104, rfl⟩
abbrev main_v89 : Ref sig .tc := ⟨.hbm, 105, rfl⟩
abbrev main_cst_12 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_cst_13 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_cst_14 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_c_15 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_c_16 : Ref sig .tc := ⟨.hbm, 139, rfl⟩
abbrev main_v119 : Ref sig .tc := ⟨.hbm, 140, rfl⟩
abbrev main_v120 : Ref sig .tc := ⟨.hbm, 141, rfl⟩
abbrev main_c_17 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_cst_18 : Ref sig .tc := ⟨.hbm, 158, rfl⟩
abbrev main_v136 : Ref sig .tc := ⟨.hbm, 159, rfl⟩
abbrev main_v137 : Ref sig .tc := ⟨.hbm, 160, rfl⟩
abbrev main_cst_19 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_c_20 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_cst_21 : Ref sig .tc := ⟨.hbm, 182, rfl⟩
abbrev main_v157 : Ref sig .tc := ⟨.hbm, 183, rfl⟩
abbrev main_v158 : Ref sig .tc := ⟨.hbm, 184, rfl⟩
abbrev main_cst_22 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_cst_23 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩

abbrev nD : Nat := 1
abbrev τ : Topo := Topo.v7x

variable {F : FTy → Type} [FloatOps F]
-- ==== Bias.lean ====
abbrev S3x8x256x768 : Shape := ⟨4, ![3, 8, 256, 768]⟩
abbrev S8x384 : Shape := ⟨2, ![8, 384]⟩
abbrev S1x8x256x768 : Shape := ⟨4, ![1, 8, 256, 768]⟩
abbrev S8x1024 : Shape := ⟨2, ![8, 1024]⟩
abbrev S1x1x256x768 : Shape := ⟨4, ![1, 1, 256, 768]⟩
abbrev S256x768 : Shape := ⟨2, ![256, 768]⟩
abbrev S256x256 : Shape := ⟨2, ![256, 256]⟩
abbrev S256x1024 : Shape := ⟨2, ![256, 1024]⟩
abbrev S128x1024 : Shape := ⟨2, ![128, 1024]⟩
abbrev S64x1024 : Shape := ⟨2, ![64, 1024]⟩
abbrev S32x1024 : Shape := ⟨2, ![32, 1024]⟩
abbrev S16x1024 : Shape := ⟨2, ![16, 1024]⟩
abbrev S1024 : Shape := ⟨1, ![1024]⟩
abbrev S1x1024 : Shape := ⟨2, ![1, 1024]⟩
abbrev S384x1024 : Shape := ⟨2, ![384, 1024]⟩
abbrev S8x257 : Shape := ⟨2, ![8, 257]⟩

abbrev nBuf : Space → Nat
  | .hbm => 3
  | .vmem => 4
  | .smem => 0
  | _ => 0

abbrev bufTy : (tb : Table) → Fin (tcTables nBuf tb) → BufTy
  | .hbm, ⟨0, _⟩ => ⟨S3x8x256x768, .f32⟩
  | .hbm, ⟨1, _⟩ => ⟨S8x384, .f32⟩
  | .hbm, ⟨2, _⟩ => ⟨S8x257, .f32⟩
  | .local _ .vmem, ⟨0, _⟩ => ⟨S1x8x256x768, .f32⟩
  | .local _ .vmem, ⟨1, _⟩ => ⟨S1x8x256x768, .f32⟩
  | .local _ .vmem, ⟨2, _⟩ => ⟨S8x384, .f32⟩
  | .local _ .vmem, ⟨3, _⟩ => ⟨S8x1024, .f32⟩
  | _, _ => ⟨S3x8x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![3], ![false]⟩

def k0_cond1 (i : grid0.Coords) : BitVec 1 :=
  let arg0 : BitVec 32 := BitVec.ofNat 32 (i 0).val
  let c0_i32_190 : BitVec 32 := 0#32
  let v470 : BitVec 1 := Scalar.cmpi .eq arg0 c0_i32_190
  let v471 : BitVec 32 := Scalar.extui v470
  let c0_i32_191 : BitVec 32 := 0#32
  let v472 : BitVec 1 := Scalar.cmpi .ne v471 c0_i32_191
  v472

def k0_cond2 (i : grid0.Coords) : BitVec 1 :=
  let arg0 : BitVec 32 := BitVec.ofNat 32 (i 0).val
  let c0_i32_192 : BitVec 32 := 0#32
  let v473 : BitVec 1 := Scalar.cmpi .sgt arg0 c0_i32_192
  let v474 : BitVec 32 := Scalar.extui v473
  let c0_i32_193 : BitVec 32 := 0#32
  let v475 : BitVec 1 := Scalar.cmpi .ne v474 c0_i32_193
  v475

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x8x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== BiasRefIdeal.lean ====
abbrev S3x8x256x768 : Shape := ⟨4, ![3, 8, 256, 768]⟩
abbrev S_ : Shape := ⟨0, ![]⟩
abbrev S8x257 : Shape := ⟨2, ![8, 257]⟩
abbrev S3 : Shape := ⟨1, ![3]⟩
abbrev S3x1x1 : Shape := ⟨3, ![3, 1, 1]⟩
abbrev S256 : Shape := ⟨1, ![256]⟩
abbrev S1x256x1 : Shape := ⟨3, ![1, 256, 1]⟩
abbrev S768 : Shape := ⟨1, ![768]⟩
abbrev S1x1x768 : Shape := ⟨3, ![1, 1, 768]⟩
abbrev S3x256x1 : Shape := ⟨3, ![3, 256, 1]⟩
abbrev S3x256x768 : Shape := ⟨3, ![3, 256, 768]⟩
abbrev S3x256x768x1 : Shape := ⟨4, ![3, 256, 768, 1]⟩
abbrev S8x3x256x768 : Shape := ⟨4, ![8, 3, 256, 768]⟩

abbrev nBuf : Space → Nat
  | .hbm => 42
  | .vmem => 0
  | .smem => 0
  | _ => 0

abbrev bufTy : (tb : Table) → Fin (tcTables nBuf tb) → BufTy
  | .hbm, ⟨0, _⟩ => ⟨S3x8x256x768, .f32⟩
  | .hbm, ⟨1, _⟩ => ⟨S_, .f32⟩
  | .hbm, ⟨2, _⟩ => ⟨S8x257, .f32⟩
  | .hbm, ⟨3, _⟩ => ⟨S3, .i32⟩
  | .hbm, ⟨4, _⟩ => ⟨S3x1x1, .i32⟩
  | .hbm, ⟨5, _⟩ => ⟨S256, .i32⟩
  | .hbm, ⟨6, _⟩ => ⟨S1x256x1, .i32⟩
  | .hbm, ⟨7, _⟩ => ⟨S768, .i32⟩
  | .hbm, ⟨8, _⟩ => ⟨S1x1x768, .i32⟩
  | .hbm, ⟨9, _⟩ => ⟨S_, .i32⟩
  | .hbm, ⟨10, _⟩ => ⟨S3x1x1, .i32⟩
  | .hbm, ⟨11, _⟩ => ⟨S3x1x1, .i32⟩
  | .hbm, ⟨12, _⟩ => ⟨S3x256x1, .i32⟩
  | .hbm, ⟨13, _⟩ => ⟨S3x256x1, .i32⟩
  | .hbm, ⟨14, _⟩ => ⟨S3x256x1, .i32⟩
  | .hbm, ⟨15, _⟩ => ⟨S3x256x768, .i32⟩
  | .hbm, ⟨16, _⟩ => ⟨S3x256x768, .i32⟩
  | .hbm, ⟨17, _⟩ => ⟨S3x256x768, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S3x256x768, .i32⟩
  | .hbm, ⟨22, _⟩ => ⟨S3x256x768, .i32⟩
  | .hbm, ⟨23, _⟩ => ⟨S_, .i32⟩
  | .hbm, ⟨24, _⟩ => ⟨S3x256x768, .i32⟩
  | .hbm, ⟨25, _⟩ => ⟨S3x256x768, .i32⟩
  | .hbm, ⟨26, _⟩ => ⟨S_, .i32⟩
  | .hbm, ⟨27, _⟩ => ⟨S3x256x768, .i32⟩
  | .hbm, ⟨28, _⟩ => ⟨S3x256x768, .i32⟩
  | .hbm, ⟨29, _⟩ => ⟨S_, .i32⟩
  | .hbm, ⟨30, _⟩ => ⟨S3x256x768, .i32⟩
  | .hbm, ⟨31, _⟩ => ⟨S3x256x768, .i1⟩
  | .hbm, ⟨32, _⟩ => ⟨S_, .i32⟩
  | .hbm, ⟨33, _⟩ => ⟨S3x256x768, .i32⟩
  | .hbm, ⟨34, _⟩ => ⟨S3x256x768, .i32⟩
  | .hbm, ⟨35, _⟩ => ⟨S3x256x768, .i32⟩
  | .hbm, ⟨36, _⟩ => ⟨S3x256x768x1, .i32⟩
  | .hbm, ⟨37, _⟩ => ⟨S8x3x256x768, .f32⟩
  | .hbm, ⟨38, _⟩ => ⟨S8x3x256x768, .f32⟩
  | .hbm, ⟨39, _⟩ => ⟨S_, .f32⟩
  | .hbm, ⟨40, _⟩ => ⟨S8x257, .f32⟩
  | .hbm, ⟨41, _⟩ => ⟨S8x257, .f32⟩
  | _, _ => ⟨S3x8x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c_0 : Ref sig .tc := ⟨.hbm, 18, rfl⟩
abbrev main_c_1 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Ffn.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S512x1024 : Shape := ⟨2, ![512, 1024]⟩
abbrev S512x1408 : Shape := ⟨2, ![512, 1408]⟩
abbrev S1408x1024 : Shape := ⟨2, ![1408, 1024]⟩
abbrev S512 : Shape := ⟨1, ![512]⟩
abbrev S512x1 : Shape := ⟨2, ![512, 1]⟩

abbrev nBuf : Space → Nat
  | .hbm => 38
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S2816x1024, .f32⟩
  | .hbm, ⟨7, _⟩ => ⟨S2816x1024, .bf16⟩
  | .hbm, ⟨8, _⟩ => ⟨S2816x1024, .f32⟩
  | .hbm, ⟨9, _⟩ => ⟨S2816x1024, .bf16⟩
  | .hbm, ⟨10, _⟩ => ⟨S2816x1024, .bf16⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .bf16⟩
  | .hbm, ⟨28, _⟩ => ⟨S8192x2816, .f32⟩
  | .hbm, ⟨29, _⟩ => ⟨S8192x2816, .bf16⟩
  | .hbm, ⟨30, _⟩ => ⟨S8192x2816, .f32⟩
  | .hbm, ⟨31, _⟩ => ⟨S8192x2816, .bf16⟩
  | .hbm, ⟨32, _⟩ => ⟨S1x1024, .f32⟩
  | .hbm, ⟨33, _⟩ => ⟨S8192x1024, .f32⟩
  | .hbm, ⟨34, _⟩ => ⟨S8192x1024, .bf16⟩
  | .hbm, ⟨35, _⟩ => ⟨S8192x2816, .bf16⟩
  | .hbm, ⟨36, _⟩ => ⟨S8192x2816, .bf16⟩
  | .hbm, ⟨37, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S1408x1024, .bf16⟩
  | .local _ .vmem, ⟨10, _⟩ => ⟨S1408x1024, .bf16⟩
  | .local _ .vmem, ⟨11, _⟩ => ⟨S1408x1024, .bf16⟩
  | .local _ .vmem, ⟨12, _⟩ => ⟨S1408x1024, .bf16⟩
  | .local _ .vmem, ⟨13, _⟩ => ⟨S1408x1024, .bf16⟩
  | .local _ .vmem, ⟨14, _⟩ => ⟨S1408x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x1408, .bf16⟩
  | .local _ .vmem, ⟨20, _⟩ => ⟨S512x1408, .bf16⟩
  | .local _ .vmem, ⟨21, _⟩ => ⟨S512x1408, .bf16⟩
  | .local _ .vmem, ⟨22, _⟩ => ⟨S512x1408, .bf16⟩
  | .local _ .vmem, ⟨23, _⟩ => ⟨S1x1024, .f32⟩
  | .local _ .vmem, ⟨24, _⟩ => ⟨S512x1024, .bf16⟩
  | .local _ .vmem, ⟨25, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24_0 : Ref sig .tc := ⟨.hbm, 33, rfl⟩
abbrev main_v24_1 : Ref sig .tc := ⟨.hbm, 34, rfl⟩
abbrev main_v24_2 : Ref sig .tc := ⟨.hbm, 35, rfl⟩
abbrev main_v24_3 : Ref sig .tc := ⟨.hbm, 36, rfl⟩
abbrev main_v24_4 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨2, ![16, 2], ![false, false]⟩

def k0_cond4 (i : grid0.Coords) : BitVec 1 :=
  let arg1 : BitVec 32 := BitVec.ofNat 32 (i 1).val
  let c1_i32_27 : BitVec 32 := 1#32
  let v49 : BitVec 1 := Scalar.cmpi .eq arg1 c1_i32_27
  let v50 : BitVec 32 := Scalar.extui v49
  let c0_i32_28 : BitVec 32 := 0#32
  let v51 : BitVec 1 := Scalar.cmpi .ne v50 c0_i32_28
  v51

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond5 (i : grid0.Coords) : BitVec 1 :=
  let arg0 : BitVec 32 := BitVec.ofNat 32 (i 0).val
  let c0_i32_45 : BitVec 32 := 0#32
  let v85 : BitVec 1 := Scalar.cmpi .eq arg0 c0_i32_45
  let v86 : BitVec 32 := Scalar.extui v85
  let c0_i32_46 : BitVec 32 := 0#32
  let v87 : BitVec 1 := Scalar.cmpi .ne v86 c0_i32_46
  v87

def k0_cond6 (i : grid0.Coords) : BitVec 1 :=
  let arg0 : BitVec 32 := BitVec.ofNat 32 (i 0).val
  let c0_i32_47 : BitVec 32 := 0#32
  let v88 : BitVec 1 := Scalar.cmpi .sgt arg0 c0_i32_47
  let v89 : BitVec 32 := Scalar.extui v88
  let c0_i32_48 : BitVec 32 := 0#32
  let v90 : BitVec 1 := Scalar.cmpi .ne v89 c0_i32_48
  v90

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1408x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1408 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== FfnRefIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 146
  | .vmem => 0
  | .smem => 0
  | _ => 0

abbrev hbmTy0_0 (i : Nat) : BufTy := match i % 128 with
  | 0 => ⟨S8192x1024, .f32⟩
  | 1 => ⟨S1024, .f32⟩
  | 2 => ⟨S1024x2816, .f32⟩
  | 3 => ⟨S1024x2816, .f32⟩
  | 4 => ⟨S2816x1024, .f32⟩
  | 5 => ⟨S8192x1024, .f32⟩
  | 6 => ⟨S8192x1024, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192x1, .f32⟩
  | 15 => ⟨S8192x1, .f32⟩
  | 16 => ⟨S8192x1, .f32⟩
  | 17 => ⟨S8192x1024, .f32⟩
  | 18 => ⟨S8192x1024, .f32⟩
  | 19 => ⟨S1x1024, .f32⟩
  | 20 => ⟨S8192x1024, .f32⟩
  | 21 => ⟨S8192x1024, .f32⟩
  | 22 => ⟨S8192x2816, .f32⟩
  | 23 => ⟨S8192x2816, .f32⟩
  | 24 => ⟨S8192x2816, .f32⟩
  | 25 => ⟨S8192x2816, .f32⟩
  | 26 => ⟨S_, .f32⟩
  | 27 => ⟨S8192x2816, .f32⟩
  | 28 => ⟨S8192x2816, .f32⟩
  | 29 => ⟨S_, .f32⟩
  | 30 => ⟨S8192x2816, .f32⟩
  | 31 => ⟨S8192x2816, .f32⟩
  | 32 => ⟨S_, .f32⟩
  | 33 => ⟨S8192x2816, .f32⟩
  | 34 => ⟨S8192x2816, .f32⟩
  | 35 => ⟨S8192x2816, .f32⟩
  | 36 => ⟨S8192x2816, .f32⟩
  | 37 => ⟨S8192x2816, .f32⟩
  | 38 => ⟨S8192x1024, .f32⟩
  | 39 => ⟨S_, .f32⟩
  | 40 => ⟨S8192x1024, .f32⟩
  | 41 => ⟨S8192x1024, .f32⟩
  | 42 => ⟨S_, .f32⟩
  | 43 => ⟨S8192x1024, .f32⟩
  | 44 => ⟨S8192x1024, .f32⟩
  | 45 => ⟨S8192x2816, .f32⟩
  | 46 => ⟨S8192x2816, .f32⟩
  | 47 => ⟨S8192x2816, .f32⟩
  | 48 => ⟨S8192x2816, .f32⟩
  | 49 => ⟨S8192x2816, .f32⟩
  | 50 => ⟨S8192x2816, .f32⟩
  | 51 => ⟨S8192x2816, .f32⟩
  | 52 => ⟨S_, .f32⟩
  | 53 => ⟨S8192x1024, .f32⟩
  | 54 => ⟨S_, .f32⟩
  | 55 => ⟨S8192x1024, .f32⟩
  | 56 => ⟨S8192x1024, .f32⟩
  | 57 => ⟨S8192x1024, .f32⟩
  | 58 => ⟨S_, .f32⟩
  | 59 => ⟨S8192x1024, .f32⟩
  | 60 => ⟨S8192x1024, .f32⟩
  | 61 => ⟨S8192x1024, .f32⟩
  | 62 => ⟨S_, .f32⟩
  | 63 => ⟨S8192, .f32⟩
  | 64 => ⟨S8192x1, .f32⟩
  | 65 => ⟨S_, .f32⟩
  | 66 => ⟨S8192x1, .f32⟩
  | 67 => ⟨S8192x1, .f32⟩
  | 68 => ⟨S_, .f32⟩
  | 69 => ⟨S8192x1, .f32⟩
  | 70 => ⟨S8192x1, .f32⟩
  | 71 => ⟨S8192x1, .f32⟩
  | 72 => ⟨S8192x1, .f32⟩
  | 73 => ⟨S_, .f32⟩
  | 74 => ⟨S8192x1, .f32⟩
  | 75 => ⟨S8192x1, .f32⟩
  | 76 => ⟨S8192x1024, .f32⟩
  | 77 => ⟨S8192x1024, .f32⟩
  | 78 => ⟨S1x1024, .f32⟩
  | 79 => ⟨S8192x1024, .f32⟩
  | 80 => ⟨S8192x1024, .f32⟩
  | 81 => ⟨S8192x2816, .f32⟩
  | 82 => ⟨S8192x2816, .f32⟩
  | 83 => ⟨S8192x2816, .f32⟩
  | 84 => ⟨S_, .f32⟩
  | 85 => ⟨S8192x2816, .f32⟩
  | 86 => ⟨S8192x2816, .f32⟩
  | 87 => ⟨S_, .f32⟩
  | 88 => ⟨S8192x2816, .f32⟩
  | 89 => ⟨S8192x2816, .f32⟩
  | 90 => ⟨S_, .f32⟩
  | 91 => ⟨S8192x2816, .f32⟩
  | 92 => ⟨S8192x2816, .f32⟩
  | 93 => ⟨S8192x2816, .f32⟩
  | 94 => ⟨S8192x2816, .f32⟩
  | 95 => ⟨S8192x2816, .f32⟩
  | 96 => ⟨S8192x2816, .f32⟩
  | 97 => ⟨S8192x1024, .f32⟩
  | 98 => ⟨S_, .f32⟩
  | 99 => ⟨S8192x1024, .f32⟩
  | 100 => ⟨S8192x1024, .f32⟩
  | 101 => ⟨S8192x1024, .f32⟩
  | 102 => ⟨S8192x1024, .f32⟩
  | 103 => ⟨S_, .f32⟩
  | 104 => ⟨S8192x1024, .f32⟩
  | 105 => ⟨S8192x1024, .f32⟩
  | 106 => ⟨S8192x2816, .f32⟩
  | 107 => ⟨S8192x2816, .f32⟩
  | 108 => ⟨S8192x2816, .f32⟩
  | 109 => ⟨S8192x1024, .f32⟩
  | 110 => ⟨S8192x2816, .f32⟩
  | 111 => ⟨S8192x2816, .f32⟩
  | 112 => ⟨S8192x2816, .f32⟩
  | 113 => ⟨S8192x2816, .f32⟩
  | 114 => ⟨S8192x1024, .f32⟩
  | 115 => ⟨S8192x1024, .f32⟩
  | 116 => ⟨S8192x1024, .f32⟩
  | 117 => ⟨S_, .f32⟩
  | 118 => ⟨S1024, .f32⟩
  | 119 => ⟨S1x1024, .f32⟩
  | 120 => ⟨S8192x1024, .f32⟩
  | 121 => ⟨S8192x1024, .f32⟩
  | 122 => ⟨S_, .f32⟩
  | 123 => ⟨S1024, .f32⟩
  | 124 => ⟨S8192x1024, .f32⟩
  | 125 => ⟨S_, .f32⟩
  | 126 => ⟨S8192, .f32⟩
  | 127 => ⟨S8192x1, .f32⟩
  | _ => ⟨S8192x1024, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S8192x1, .f32⟩
  | 4 => ⟨S_, .f32⟩
  | 5 => ⟨S8192x1, .f32⟩
  | 6 => ⟨S8192x1, .f32⟩
  | 7 => ⟨S_, .f32⟩
  | 8 => ⟨S8192, .f32⟩
  | 9 => ⟨S8192x1024, .f32⟩
  | 10 => ⟨S8192x1024, .f32⟩
  | 11 => ⟨S8192x1024, .f32⟩
  | 12 => ⟨S8192x1024, .f32⟩
  | 13 => ⟨S8192x1024, .f32⟩
  | 14 => ⟨S8192x1024, .bf16⟩
  | 15 => ⟨S8192x2816, .bf16⟩
  | 16 => ⟨S8192x2816, .bf16⟩
  | 17 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v15_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v15_1 : Ref sig .tc := ⟨.hbm, 35, rfl⟩
abbrev main_v15_0 : Ref sig .tc := ⟨.hbm, 36, rfl⟩
abbrev main_v16 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v25 : Ref sig .tc := ⟨.hbm, 51, rfl⟩
abbrev main_cst_4 : Ref sig .tc := ⟨.hbm, 52, rfl⟩
abbrev main_v26 : Ref sig .tc := ⟨.hbm, 53, rfl⟩
abbrev main_cst_5 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_6 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_cst_7 : Ref sig .tc := ⟨.hbm, 62, rfl⟩
abbrev main_v33 : Ref sig .tc := ⟨.hbm, 63, rfl⟩
abbrev main_v34 : Ref sig .tc := ⟨.hbm, 64, rfl⟩
abbrev main_cst_8 : Ref sig .tc := ⟨.hbm, 65, rfl⟩
abbrev main_v35 : Ref sig .tc := ⟨.hbm, 66, rfl⟩
abbrev main_v36 : Ref sig .tc := ⟨.hbm, 67, rfl⟩
abbrev main_cst_9 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_10 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_call2_v0 : Ref sig .tc := ⟨.hbm, 82, rfl⟩
abbrev main_call2_v1 : Ref sig .tc := ⟨.hbm, 83, rfl⟩
abbrev main_call2_cst : Ref sig .tc := ⟨.hbm, 84, rfl⟩
abbrev main_call2_v2 : Ref sig .tc := ⟨.hbm, 85, rfl⟩
abbrev main_call2_v3 : Ref sig .tc := ⟨.hbm, 86, rfl⟩
abbrev main_call2_cst_0 : Ref sig .tc := ⟨.hbm, 87, rfl⟩
abbrev main_call2_v4 : Ref sig .tc := ⟨.hbm, 88, rfl⟩
abbrev main_v49_2 : Ref sig .tc := ⟨.hbm, 89, rfl⟩
abbrev main_call2_cst_1 : Ref sig .tc := ⟨.hbm, 90, rfl⟩
abbrev main_call2_v6 : Ref sig .tc := ⟨.hbm, 91, rfl⟩
abbrev main_call2_v7 : Ref sig .tc := ⟨.hbm, 92, rfl⟩
abbrev main_v49_1 : Ref sig .tc := ⟨.hbm, 93, rfl⟩
abbrev main_v49_0 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_cst_11 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_cst_12 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_call3_v0 : Ref sig .tc := ⟨.hbm, 110, rfl⟩
abbrev main_call3_v1 : Ref sig .tc := ⟨.hbm, 111, rfl⟩
abbrev main_call3_v2 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_cst_13 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_cst_14 : Ref sig .tc := ⟨.hbm, 122, rfl⟩
abbrev main_v71 : Ref sig .tc := ⟨.hbm, 123, rfl⟩
abbrev main_v72 : Ref sig .tc := ⟨.hbm, 124, rfl⟩
abbrev main_cst_15 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_cst_16 : Ref sig .tc := ⟨.hbm, 132, rfl⟩
abbrev main_v79 : Ref sig .tc := ⟨.hbm, 133, rfl⟩
abbrev main_v80 : Ref sig .tc := ⟨.hbm, 134, rfl⟩
abbrev main_cst_17 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩

abbrev nD : Nat := 1
abbrev τ : Topo := Topo.v7x

variable {F : FTy → Type} [FloatOps F]
-- ==== FfnFwd.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩
abbrev S512 : Shape := ⟨1, ![512]⟩
abbrev S512x1 : Shape := ⟨2, ![512, 1]⟩

abbrev nBuf : Space → Nat
  | .hbm => 16
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S2816x1024, .f32⟩
  | .hbm, ⟨7, _⟩ => ⟨S2816x1024, .bf16⟩
  | .hbm, ⟨8, _⟩ => ⟨S2816x1024, .f32⟩
  | .hbm, ⟨9, _⟩ => ⟨S2816x1024, .bf16⟩
  | .hbm, ⟨10, _⟩ => ⟨S2816x1024, .bf16⟩
  | .hbm, ⟨11, _⟩ => ⟨S8192x1024, .f32⟩
  | .hbm, ⟨12, _⟩ => ⟨S8192x1024, .bf16⟩
  | .hbm, ⟨13, _⟩ => ⟨S8192x2816, .bf16⟩
  | .hbm, ⟨14, _⟩ => ⟨S8192x2816, .bf16⟩
  | .hbm, ⟨15, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1408, .bf16⟩
  | .local _ .vmem, ⟨14, _⟩ => ⟨S512x1408, .bf16⟩
  | .local _ .vmem, ⟨15, _⟩ => ⟨S512x1408, .bf16⟩
  | .local _ .vmem, ⟨16, _⟩ => ⟨S512x1408, .bf16⟩
  | .local _ .vmem, ⟨17, _⟩ => ⟨S512x1408, .bf16⟩
  | .local _ .vmem, ⟨18, _⟩ => ⟨S512x1408, .bf16⟩
  | .local _ .vmem, ⟨19, _⟩ => ⟨S512x1024, .bf16⟩
  | .local _ .vmem, ⟨20, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v6_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![16, 2], ![false, false]⟩

def k0_cond4 (i : grid0.Coords) : BitVec 1 :=
  let arg1 : BitVec 32 := BitVec.ofNat 32 (i 1).val
  let c1_i32_23 : BitVec 32 := 1#32
  let v36 : BitVec 1 := Scalar.cmpi .eq arg1 c1_i32_23
  let v37 : BitVec 32 := Scalar.extui v36
  let c0_i32_24 : BitVec 32 := 0#32
  let v38 : BitVec 1 := Scalar.cmpi .ne v37 c0_i32_24
  v38

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnFwdRefIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 42
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .bf16⟩
  | .hbm, ⟨39, _⟩ => ⟨S8192x2816, .bf16⟩
  | .hbm, ⟨40, _⟩ => ⟨S8192x2816, .bf16⟩
  | .hbm, ⟨41, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩

abbrev nD : Nat := 1
abbrev τ : Topo := Topo.v7x

variable {F : FTy → Type} [FloatOps F]
-- ==== MergeFwd.lean ====
abbrev S8192x1024 : Shape := ⟨2, ![8192, 1024]⟩
abbrev S8192x512 : Shape := ⟨2, ![8192, 512]⟩
abbrev S3x1024x1024 : Shape := ⟨3, ![3, 1024, 1024]⟩
abbrev S3x512x1024 : Shape := ⟨3, ![3, 512, 1024]⟩
abbrev S3x1024x512 : Shape := ⟨3, ![3, 1024, 512]⟩
abbrev S3x8192x1024 : Shape := ⟨3, ![3, 8192, 1024]⟩
abbrev S512x1024 : Shape := ⟨2, ![512, 1024]⟩
abbrev S512x512 : Shape := ⟨2, ![512, 512]⟩
abbrev S1x1024x1024 : Shape := ⟨3, ![1, 1024, 1024]⟩
abbrev S1024x1024 : Shape := ⟨2, ![1024, 1024]⟩
abbrev S1x1024x512 : Shape := ⟨3, ![1, 1024, 512]⟩
abbrev S1024x512 : Shape := ⟨2, ![1024, 512]⟩
abbrev S1x512x1024 : Shape := ⟨3, ![1, 512, 1024]⟩

abbrev nBuf : Space → Nat
  | .hbm => 16
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S3x1024x1024, .f32⟩
  | .hbm, ⟨5, _⟩ => ⟨S3x512x1024, .f32⟩
  | .hbm, ⟨6, _⟩ => ⟨S8192x512, .bf16⟩
  | .hbm, ⟨7, _⟩ => ⟨S8192x512, .bf16⟩
  | .hbm, ⟨8, _⟩ => ⟨S8192x512, .bf16⟩
  | .hbm, ⟨9, _⟩ => ⟨S8192x1024, .bf16⟩
  | .hbm, ⟨10, _⟩ => ⟨S3x1024x1024, .bf16⟩
  | .hbm, ⟨11, _⟩ => ⟨S3x1024x512, .f32⟩
  | .hbm, ⟨12, _⟩ => ⟨S3x1024x512, .bf16⟩
  | .hbm, ⟨13, _⟩ => ⟨S8192x1024, .bf16⟩
  | .hbm, ⟨14, _⟩ => ⟨S3x8192x1024, .bf16⟩
  | .hbm, ⟨15, _⟩ => ⟨S3x8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S3x1024x1024, .bf16⟩
  | .local _ .vmem, ⟨9, _⟩ => ⟨S3x1024x512, .bf16⟩
  | .local _ .vmem, ⟨10, _⟩ => ⟨S512x1024, .bf16⟩
  | .local _ .vmem, ⟨11, _⟩ => ⟨S512x1024, .bf16⟩
  | .local _ .vmem, ⟨12, _⟩ => ⟨S3x512x1024, .bf16⟩
  | .local _ .vmem, ⟨13, _⟩ => ⟨S3x512x1024, .bf16⟩
  | .local _ .vmem, ⟨14, _⟩ => ⟨S3x512x1024, .bf16⟩
  | .local _ .vmem, ⟨15, _⟩ => ⟨S3x512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeFwdRefIdeal.lean ====
abbrev S8192x1024 : Shape := ⟨2, ![8192, 1024]⟩
abbrev S8192x512 : Shape := ⟨2, ![8192, 512]⟩
abbrev S3x1024x1024 : Shape := ⟨3, ![3, 1024, 1024]⟩
abbrev S3x512x1024 : Shape := ⟨3, ![3, 512, 1024]⟩
abbrev S1x1024x1024 : Shape := ⟨3, ![1, 1024, 1024]⟩
abbrev S1024x1024 : Shape := ⟨2, ![1024, 1024]⟩
abbrev S_ : Shape := ⟨0, ![]⟩
abbrev S1x512x1024 : Shape := ⟨3, ![1, 512, 1024]⟩
abbrev S512x1024 : Shape := ⟨2, ![512, 1024]⟩
abbrev S1x8192x1024 : Shape := ⟨3, ![1, 8192, 1024]⟩
abbrev S3x8192x1024 : Shape := ⟨3, ![3, 8192, 1024]⟩

abbrev nBuf : Space → Nat
  | .hbm => 67
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S3x1024x1024, .f32⟩
  | .hbm, ⟨5, _⟩ => ⟨S3x512x1024, .f32⟩
  | .hbm, ⟨6, _⟩ => ⟨S1x1024x1024, .f32⟩
  | .hbm, ⟨7, _⟩ => ⟨S1024x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S1x1024x1024, .f32⟩
  | .hbm, ⟨18, _⟩ => ⟨S1024x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S1x1024x1024, .f32⟩
  | .hbm, ⟨29, _⟩ => ⟨S1024x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S1x512x1024, .f32⟩
  | .hbm, ⟨40, _⟩ => ⟨S512x1024, .f32⟩
  | .hbm, ⟨41, _⟩ => ⟨S8192x1024, .f32⟩
  | .hbm, ⟨42, _⟩ => ⟨S1x512x1024, .f32⟩
  | .hbm, ⟨43, _⟩ => ⟨S512x1024, .f32⟩
  | .hbm, ⟨44, _⟩ => ⟨S8192x1024, .f32⟩
  | .hbm, ⟨45, _⟩ => ⟨S1x512x1024, .f32⟩
  | .hbm, ⟨46, _⟩ => ⟨S512x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .bf16⟩
  | .hbm, ⟨57, _⟩ => ⟨S1x8192x1024, .f32⟩
  | .hbm, ⟨58, _⟩ => ⟨S1x8192x1024, .f32⟩
  | .hbm, ⟨59, _⟩ => ⟨S1x8192x1024, .f32⟩
  | .hbm, ⟨60, _⟩ => ⟨S3x8192x1024, .f32⟩
  | .hbm, ⟨61, _⟩ => ⟨S3x8192x1024, .bf16⟩
  | .hbm, ⟨62, _⟩ => ⟨S1x8192x1024, .f32⟩
  | .hbm, ⟨63, _⟩ => ⟨S1x8192x1024, .f32⟩
  | .hbm, ⟨64, _⟩ => ⟨S1x8192x1024, .f32⟩
  | .hbm, ⟨65, _⟩ => ⟨S3x8192x1024, .f32⟩
  | .hbm, ⟨66, _⟩ => ⟨S3x8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩

abbrev nD : Nat := 1
abbrev τ : Topo := Topo.v7x

variable {F : FTy → Type} [FloatOps F]
-- ==== NormFwd.lean ====
abbrev S8192x1024 : Shape := ⟨2, ![8192, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== ConvFwd.lean ====
abbrev S8192x5120 : Shape := ⟨2, ![8192, 5120]⟩
abbrev S3x512 : Shape := ⟨2, ![3, 512]⟩
abbrev S8192x512 : Shape := ⟨2, ![8192, 512]⟩
abbrev S1x8192x512 : Shape := ⟨3, ![1, 8192, 512]⟩
abbrev S10x8192x512 : Shape := ⟨3, ![10, 8192, 512]⟩
abbrev S1x1024x128 : Shape := ⟨3, ![1, 1024, 128]⟩
abbrev S1x16x128 : Shape := ⟨3, ![1, 16, 128]⟩
abbrev S3x128 : Shape := ⟨2, ![3, 128]⟩
abbrev S1024x128 : Shape := ⟨2, ![1024, 128]⟩
abbrev S16x128 : Shape := ⟨2, ![16, 128]⟩
abbrev S1x128 : Shape := ⟨2, ![1, 128]⟩
abbrev S1040x128 : Shape := ⟨2, ![1040, 128]⟩

abbrev nBuf : Space → Nat
  | .hbm => 25
  | .vmem => 14
  | .smem => 0
  | _ => 0

abbrev bufTy : (tb : Table) → Fin (tcTables nBuf tb) → BufTy
  | .hbm, ⟨0, _⟩ => ⟨S8192x5120, .f32⟩
  | .hbm, ⟨1, _⟩ => ⟨S3x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S1x8192x512, .f32⟩
  | .hbm, ⟨13, _⟩ => ⟨S1x8192x512, .f32⟩
  | .hbm, ⟨14, _⟩ => ⟨S1x8192x512, .f32⟩
  | .hbm, ⟨15, _⟩ => ⟨S1x8192x512, .f32⟩
  | .hbm, ⟨16, _⟩ => ⟨S1x8192x512, .f32⟩
  | .hbm, ⟨17, _⟩ => ⟨S1x8192x512, .f32⟩
  | .hbm, ⟨18, _⟩ => ⟨S1x8192x512, .f32⟩
  | .hbm, ⟨19, _⟩ => ⟨S1x8192x512, .f32⟩
  | .hbm, ⟨20, _⟩ => ⟨S1x8192x512, .f32⟩
  | .hbm, ⟨21, _⟩ => ⟨S1x8192x512, .f32⟩
  | .hbm, ⟨22, _⟩ => ⟨S10x8192x512, .f32⟩
  | .hbm, ⟨23, _⟩ => ⟨S10x8192x512, .bf16⟩
  | .hbm, ⟨24, _⟩ => ⟨S8192x512, .bf16⟩
  | .local _ .vmem, ⟨0, _⟩ => ⟨S1x1024x128, .bf16⟩
  | .local _ .vmem, ⟨1, _⟩ => ⟨S1x1024x128, .bf16⟩
  | .local _ .vmem, ⟨2, _⟩ => ⟨S1x1024x128, .bf16⟩
  | .local _ .vmem, ⟨3, _⟩ => ⟨S1x1024x128, .bf16⟩
  | .local _ .vmem, ⟨4, _⟩ => ⟨S1x1024x128, .bf16⟩
  | .local _ .vmem, ⟨5, _⟩ => ⟨S1x1024x128, .bf16⟩
  | .local _ .vmem, ⟨6, _⟩ => ⟨S1x16x128, .bf16⟩
  | .local _ .vmem, ⟨7, _⟩ => ⟨S1x16x128, .bf16⟩
  | .local _ .vmem, ⟨8, _⟩ => ⟨S1x16x128, .bf16⟩
  | .local _ .vmem, ⟨9, _⟩ => ⟨S1x16x128, .bf16⟩
  | .local _ .vmem, ⟨10, _⟩ => ⟨S3x128, .f32⟩
  | .local _ .vmem, ⟨11, _⟩ => ⟨S3x128, .f32⟩
  | .local _ .vmem, ⟨12, _⟩ => ⟨S1024x128, .bf16⟩
  | .local _ .vmem, ⟨13, _⟩ => ⟨S1024x128, .bf16⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg0.toNat]

def cc0_transform_4 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![c2_i32.toNat, v2.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ConvFwdRefIdeal.lean ====
abbrev S8192x5120 : Shape := ⟨2, ![8192, 5120]⟩
abbrev S3x512 : Shape := ⟨2, ![3, 512]⟩
abbrev S8192x512 : Shape := ⟨2, ![8192, 512]⟩
abbrev S1x8192x512 : Shape := ⟨3, ![1, 8192, 512]⟩
abbrev S1x2x512 : Shape := ⟨3, ![1, 2, 512]⟩
abbrev S_ : Shape := ⟨0, ![]⟩
abbrev S1x8194x512 : Shape := ⟨3, ![1, 8194, 512]⟩
abbrev S1x512 : Shape := ⟨2, ![1, 512]⟩
abbrev S512 : Shape := ⟨1, ![512]⟩
abbrev S1x1x512 : Shape := ⟨3, ![1, 1, 512]⟩

abbrev nBuf : Space → Nat
  | .hbm => 39
  | .vmem => 0
  | .smem => 0
  | _ => 0

abbrev bufTy : (tb : Table) → Fin (tcTables nBuf tb) → BufTy
  | .hbm, ⟨0, _⟩ => ⟨S8192x5120, .f32⟩
  | .hbm, ⟨1, _⟩ => ⟨S3x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S1x8192x512, .f32⟩
  | .hbm, ⟨6, _⟩ => ⟨S1x8192x512, .f32⟩
  | .hbm, ⟨7, _⟩ => ⟨S1x8192x512, .f32⟩
  | .hbm, ⟨8, _⟩ => ⟨S1x8192x512, .f32⟩
  | .hbm, ⟨9, _⟩ => ⟨S1x2x512, .f32⟩
  | .hbm, ⟨10, _⟩ => ⟨S_, .f32⟩
  | .hbm, ⟨11, _⟩ => ⟨S1x2x512, .f32⟩
  | .hbm, ⟨12, _⟩ => ⟨S1x8194x512, .f32⟩
  | .hbm, ⟨13, _⟩ => ⟨S1x512, .f32⟩
  | .hbm, ⟨14, _⟩ => ⟨S512, .f32⟩
  | .hbm, ⟨15, _⟩ => ⟨S1x8192x512, .f32⟩
  | .hbm, ⟨16, _⟩ => ⟨S1x1x512, .f32⟩
  | .hbm, ⟨17, _⟩ => ⟨S1x8192x512, .f32⟩
  | .hbm, ⟨18, _⟩ => ⟨S1x8192x512, .f32⟩
  | .hbm, ⟨19, _⟩ => ⟨S_, .f32⟩
  | .hbm, ⟨20, _⟩ => ⟨S1x8192x512, .f32⟩
  | .hbm, ⟨21, _⟩ => ⟨S1x8192x512, .f32⟩
  | .hbm, ⟨22, _⟩ => ⟨S1x512, .f32⟩
  | .hbm, ⟨23, _⟩ => ⟨S512, .f32⟩
  | .hbm, ⟨24, _⟩ => ⟨S1x8192x512, .f32⟩
  | .hbm, ⟨25, _⟩ => ⟨S1x1x512, .f32⟩
  | .hbm, ⟨26, _⟩ => ⟨S1x8192x512, .f32⟩
  | .hbm, ⟨27, _⟩ => ⟨S1x8192x512, .f32⟩
  | .hbm, ⟨28, _⟩ => ⟨S1x8192x512, .f32⟩
  | .hbm, ⟨29, _⟩ => ⟨S1x512, .f32⟩
  | .hbm, ⟨30, _⟩ => ⟨S512, .f32⟩
  | .hbm, ⟨31, _⟩ => ⟨S1x8192x512, .f32⟩
  | .hbm, ⟨32, _⟩ => ⟨S1x1x512, .f32⟩
  | .hbm, ⟨33, _⟩ => ⟨S1x8192x512, .f32⟩
  | .hbm, ⟨34, _⟩ => ⟨S1x8192x512, .f32⟩
  | .hbm, ⟨35, _⟩ => ⟨S1x8192x512, .f32⟩
  | .hbm, ⟨36, _⟩ => ⟨S1x8192x512, .f32⟩
  | .hbm, ⟨37, _⟩ => ⟨S8192x512, .f32⟩
  | .hbm, ⟨38, _⟩ => ⟨S8192x512, .bf16⟩
  | _, _ => ⟨S8192x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩

abbrev nD : Nat := 1
abbrev τ : Topo := Topo.v7x

variable {F : FTy → Type} [FloatOps F]
-- ==== BiasFwd.lean ====
abbrev S2x8x257 : Shape := ⟨3, ![2, 8, 257]⟩
abbrev S_ : Shape := ⟨0, ![]⟩
abbrev S2x8x384 : Shape := ⟨3, ![2, 8, 384]⟩
abbrev S2x3x8x256x768 : Shape := ⟨5, ![2, 3, 8, 256, 768]⟩
abbrev S1x8x384 : Shape := ⟨3, ![1, 8, 384]⟩
abbrev S1x1x8x256x768 : Shape := ⟨5, ![1, 1, 8, 256, 768]⟩
abbrev S8x1024 : Shape := ⟨2, ![8, 1024]⟩
abbrev S384x1024 : Shape := ⟨2, ![384, 1024]⟩
abbrev S8x384 : Shape := ⟨2, ![8, 384]⟩
abbrev S256x768 : Shape := ⟨2, ![256, 768]⟩
abbrev S1x1024 : Shape := ⟨2, ![1, 1024]⟩
abbrev S16x1024 : Shape := ⟨2, ![16, 1024]⟩
abbrev S32x1024 : Shape := ⟨2, ![32, 1024]⟩
abbrev S64x1024 : Shape := ⟨2, ![64, 1024]⟩
abbrev S128x1024 : Shape := ⟨2, ![128, 1024]⟩
abbrev S256x1024 : Shape := ⟨2, ![256, 1024]⟩
abbrev S1x1x1x256x768 : Shape := ⟨5, ![1, 1, 1, 256, 768]⟩

abbrev nBuf : Space → Nat
  | .hbm => 5
  | .vmem => 5
  | .smem => 0
  | _ => 0

abbrev bufTy : (tb : Table) → Fin (tcTables nBuf tb) → BufTy
  | .hbm, ⟨0, _⟩ => ⟨S2x8x257, .f32⟩
  | .hbm, ⟨1, _⟩ => ⟨S_, .i32⟩
  | .hbm, ⟨2, _⟩ => ⟨S_, .f32⟩
  | .hbm, ⟨3, _⟩ => ⟨S2x8x384, .f32⟩
  | .hbm, ⟨4, _⟩ => ⟨S2x3x8x256x768, .f32⟩
  | .local _ .vmem, ⟨0, _⟩ => ⟨S1x8x384, .f32⟩
  | .local _ .vmem, ⟨1, _⟩ => ⟨S1x8x384, .f32⟩
  | .local _ .vmem, ⟨2, _⟩ => ⟨S1x1x8x256x768, .f32⟩
  | .local _ .vmem, ⟨3, _⟩ => ⟨S1x1x8x256x768, .f32⟩
  | .local _ .vmem, ⟨4, _⟩ => ⟨S8x1024, .f32⟩
  | _, _ => ⟨S2x8x257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x8x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x8x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== BiasFwdRefIdeal.lean ====
abbrev S2x8x257 : Shape := ⟨3, ![2, 8, 257]⟩
abbrev S3 : Shape := ⟨1, ![3]⟩
abbrev S3x1x1 : Shape := ⟨3, ![3, 1, 1]⟩
abbrev S256 : Shape := ⟨1, ![256]⟩
abbrev S1x256x1 : Shape := ⟨3, ![1, 256, 1]⟩
abbrev S768 : Shape := ⟨1, ![768]⟩
abbrev S1x1x768 : Shape := ⟨3, ![1, 1, 768]⟩
abbrev S_ : Shape := ⟨0, ![]⟩
abbrev S3x256x1 : Shape := ⟨3, ![3, 256, 1]⟩
abbrev S3x256x768 : Shape := ⟨3, ![3, 256, 768]⟩
abbrev S3x256x768x1 : Shape := ⟨4, ![3, 256, 768, 1]⟩
abbrev S2x8x3x256x768 : Shape := ⟨5, ![2, 8, 3, 256, 768]⟩
abbrev S2x3x8x256x768 : Shape := ⟨5, ![2, 3, 8, 256, 768]⟩
abbrev S12 : Shape := ⟨1, ![12]⟩
abbrev S12x1 : Shape := ⟨2, ![12, 1]⟩
abbrev S12x64 : Shape := ⟨2, ![12, 64]⟩
abbrev S3x1x256x768 : Shape := ⟨4, ![3, 1, 256, 768]⟩

abbrev nBuf : Space → Nat
  | .hbm => 60
  | .vmem => 0
  | .smem => 0
  | _ => 0

abbrev bufTy : (tb : Table) → Fin (tcTables nBuf tb) → BufTy
  | .hbm, ⟨0, _⟩ => ⟨S2x8x257, .f32⟩
  | .hbm, ⟨1, _⟩ => ⟨S3, .i32⟩
  | .hbm, ⟨2, _⟩ => ⟨S3x1x1, .i32⟩
  | .hbm, ⟨3, _⟩ => ⟨S256, .i32⟩
  | .hbm, ⟨4, _⟩ => ⟨S1x256x1, .i32⟩
  | .hbm, ⟨5, _⟩ => ⟨S768, .i32⟩
  | .hbm, ⟨6, _⟩ => ⟨S1x1x768, .i32⟩
  | .hbm, ⟨7, _⟩ => ⟨S_, .i32⟩
  | .hbm, ⟨8, _⟩ => ⟨S3x1x1, .i32⟩
  | .hbm, ⟨9, _⟩ => ⟨S3x1x1, .i32⟩
  | .hbm, ⟨10, _⟩ => ⟨S3x256x1, .i32⟩
  | .hbm, ⟨11, _⟩ => ⟨S3x256x1, .i32⟩
  | .hbm, ⟨12, _⟩ => ⟨S3x256x1, .i32⟩
  | .hbm, ⟨13, _⟩ => ⟨S3x256x768, .i32⟩
  | .hbm, ⟨14, _⟩ => ⟨S3x256x768, .i32⟩
  | .hbm, ⟨15, _⟩ => ⟨S3x256x768, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S3x256x768, .i32⟩
  | .hbm, ⟨20, _⟩ => ⟨S3x256x768, .i32⟩
  | .hbm, ⟨21, _⟩ => ⟨S_, .i32⟩
  | .hbm, ⟨22, _⟩ => ⟨S3x256x768, .i32⟩
  | .hbm, ⟨23, _⟩ => ⟨S3x256x768, .i32⟩
  | .hbm, ⟨24, _⟩ => ⟨S_, .i32⟩
  | .hbm, ⟨25, _⟩ => ⟨S3x256x768, .i32⟩
  | .hbm, ⟨26, _⟩ => ⟨S3x256x768, .i32⟩
  | .hbm, ⟨27, _⟩ => ⟨S_, .i32⟩
  | .hbm, ⟨28, _⟩ => ⟨S3x256x768, .i32⟩
  | .hbm, ⟨29, _⟩ => ⟨S3x256x768, .i1⟩
  | .hbm, ⟨30, _⟩ => ⟨S_, .i32⟩
  | .hbm, ⟨31, _⟩ => ⟨S3x256x768, .i32⟩
  | .hbm, ⟨32, _⟩ => ⟨S3x256x768, .i32⟩
  | .hbm, ⟨33, _⟩ => ⟨S3x256x768, .i32⟩
  | .hbm, ⟨34, _⟩ => ⟨S3x256x768x1, .i32⟩
  | .hbm, ⟨35, _⟩ => ⟨S2x8x3x256x768, .f32⟩
  | .hbm, ⟨36, _⟩ => ⟨S2x3x8x256x768, .f32⟩
  | .hbm, ⟨37, _⟩ => ⟨S12, .i32⟩
  | .hbm, ⟨38, _⟩ => ⟨S12x1, .i32⟩
  | .hbm, ⟨39, _⟩ => ⟨S12x64, .i32⟩
  | .hbm, ⟨40, _⟩ => ⟨S768, .i32⟩
  | .hbm, ⟨41, _⟩ => ⟨S3x256x1, .i32⟩
  | .hbm, ⟨42, _⟩ => ⟨S1x1x768, .i32⟩
  | .hbm, ⟨43, _⟩ => ⟨S3x256x768, .i32⟩
  | .hbm, ⟨44, _⟩ => ⟨S3x256x768, .i32⟩
  | .hbm, ⟨45, _⟩ => ⟨S3x256x768, .i1⟩
  | .hbm, ⟨46, _⟩ => ⟨S_, .i32⟩
  | .hbm, ⟨47, _⟩ => ⟨S3x256x1, .i32⟩
  | .hbm, ⟨48, _⟩ => ⟨S3x256x1, .i32⟩
  | .hbm, ⟨49, _⟩ => ⟨S1x1x768, .i32⟩
  | .hbm, ⟨50, _⟩ => ⟨S3x256x768, .i32⟩
  | .hbm, ⟨51, _⟩ => ⟨S3x256x768, .i32⟩
  | .hbm, ⟨52, _⟩ => ⟨S3x256x768, .i1⟩
  | .hbm, ⟨53, _⟩ => ⟨S3x256x768, .i1⟩
  | .hbm, ⟨54, _⟩ => ⟨S3x1x256x768, .i1⟩
  | .hbm, ⟨55, _⟩ => ⟨S_, .f32⟩
  | .hbm, ⟨56, _⟩ => ⟨S_, .f32⟩
  | .hbm, ⟨57, _⟩ => ⟨S2x3x8x256x768, .i1⟩
  | .hbm, ⟨58, _⟩ => ⟨S2x3x8x256x768, .f32⟩
  | .hbm, ⟨59, _⟩ => ⟨S2x3x8x256x768, .f32⟩
  | _, _ => ⟨S2x8x257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_c_0 : Ref sig .tc := ⟨.hbm, 16, rfl⟩
abbrev main_c_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v42 : Ref sig .tc := ⟨.hbm, 59, rfl⟩

abbrev nD : Nat := 1
abbrev τ : Topo := Topo.v7x

variable {F : FTy → Type} [FloatOps F]
-- ==== OutDm.lean ====
abbrev S8192x1024 : Shape := ⟨2, ![8192, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .bf16⟩
  | .hbm, ⟨3, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 8, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== OutDmRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InProj.lean ====
abbrev S8192x1024 : Shape := ⟨2, ![8192, 1024]⟩
abbrev S1024x5120 : Shape := ⟨2, ![1024, 5120]⟩
abbrev S5120x1024 : Shape := ⟨2, ![5120, 1024]⟩
abbrev S10x8192x512 : Shape := ⟨3, ![10, 8192, 512]⟩
abbrev S2048x1024 : Shape := ⟨2, ![2048, 1024]⟩
abbrev S512x1024 : Shape := ⟨2, ![512, 1024]⟩
abbrev S1x2048x512 : Shape := ⟨3, ![1, 2048, 512]⟩
abbrev S2048x512 : Shape := ⟨2, ![2048, 512]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x5120, .f32⟩
  | .hbm, ⟨2, _⟩ => ⟨S8192x1024, .bf16⟩
  | .hbm, ⟨3, _⟩ => ⟨S5120x1024, .f32⟩
  | .hbm, ⟨4, _⟩ => ⟨S5120x1024, .bf16⟩
  | .hbm, ⟨5, _⟩ => ⟨S10x8192x512, .bf16⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S512x1024, .bf16⟩
  | .local _ .vmem, ⟨4, _⟩ => ⟨S1x2048x512, .bf16⟩
  | .local _ .vmem, ⟨5, _⟩ => ⟨S1x2048x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 10, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== InProjRefIdeal.lean ====
abbrev S8192x1024 : Shape := ⟨2, ![8192, 1024]⟩
abbrev S1024x5120 : Shape := ⟨2, ![1024, 5120]⟩
abbrev S8192x5120 : Shape := ⟨2, ![8192, 5120]⟩
abbrev S8192x512 : Shape := ⟨2, ![8192, 512]⟩
abbrev S1x8192x512 : Shape := ⟨3, ![1, 8192, 512]⟩
abbrev S10x8192x512 : Shape := ⟨3, ![10, 8192, 512]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5120, .f32⟩
  | .hbm, ⟨2, _⟩ => ⟨S8192x5120, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S1x8192x512, .f32⟩
  | .hbm, ⟨14, _⟩ => ⟨S1x8192x512, .f32⟩
  | .hbm, ⟨15, _⟩ => ⟨S1x8192x512, .f32⟩
  | .hbm, ⟨16, _⟩ => ⟨S1x8192x512, .f32⟩
  | .hbm, ⟨17, _⟩ => ⟨S1x8192x512, .f32⟩
  | .hbm, ⟨18, _⟩ => ⟨S1x8192x512, .f32⟩
  | .hbm, ⟨19, _⟩ => ⟨S1x8192x512, .f32⟩
  | .hbm, ⟨20, _⟩ => ⟨S1x8192x512, .f32⟩
  | .hbm, ⟨21, _⟩ => ⟨S1x8192x512, .f32⟩
  | .hbm, ⟨22, _⟩ => ⟨S1x8192x512, .f32⟩
  | .hbm, ⟨23, _⟩ => ⟨S10x8192x512, .f32⟩
  | .hbm, ⟨24, _⟩ => ⟨S10x8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩

abbrev nD : Nat := 1
abbrev τ : Topo := Topo.v7x

variable {F : FTy → Type} [FloatOps F]
-- ==== Adam.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRefIdeal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Dw.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 1, 4], ![false, false, false, false]⟩

def k0_cond3 (i : grid0.Coords) : BitVec 1 :=
  let arg3 : BitVec 32 := BitVec.ofNat 32 (i 3).val
  let c3_i32_6 : BitVec 32 := 3#32
  let v13 : BitVec 1 := Scalar.cmpi .eq arg3 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== DwRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Basic.lean ====
module

public import Idealize.ShloMosaic.Lib.Pipeline.Value
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.PureOps.Ideal.Laws
public import Idealize.ShloMosaic.Lib.Tactic

@[expose] public section

noncomputable section

namespace Cert.K

open Idealize.ShloMosaic Idealize.ShloMosaic.ValueIdx

/-! ## Extended reals: what holds without asking that anything is finite -/

/-- A nonnegative real goes into a sum. -/
theorem coe_mul_sum {ι : Type*} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- A finite sum of reals, read as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem mul_self_nonneg (x : EReal) : 0 ≤ x * x := by
  rcases le_total 0 x with h | h
  · exact mul_nonneg h h
  · have h' : 0 ≤ -x := EReal.neg_nonneg.mpr h
    have := mul_nonneg h' h'
    rwa [EReal.neg_mul, mul_comm, EReal.neg_mul, neg_neg] at this

/-- Adding the two halves of a multiple. -/
theorem add_halves (y : EReal) (c : ℝ) : y * ((c : ℝ) : EReal) + y * ((c : ℝ) : EReal) = y * ((2 * c : ℝ) : EReal) := by
  rcases lt_trichotomy c 0 with h | h | h
  · induction y using EReal.rec with
    | bot => rw [EReal.bot_mul_coe_of_neg h, EReal.bot_mul_coe_of_neg (by linarith)]; rfl
    | coe y => norm_cast; ring
    | top => rw [EReal.top_mul_coe_of_neg h, EReal.top_mul_coe_of_neg (by linarith)]; rfl
  · subst h; simp
  · induction y using EReal.rec with
    | bot => rw [EReal.bot_mul_coe_of_pos h, EReal.bot_mul_coe_of_pos (by linarith)]; rfl
    | coe y => norm_cast; ring
    | top => rw [EReal.top_mul_coe_of_pos h, EReal.top_mul_coe_of_pos (by linarith)]; rfl

theorem mul_neg_coe (y : EReal) (c : ℝ) : y * ((-c : ℝ) : EReal) = -(y * (c : EReal)) := by
  rw [EReal.coe_neg, mul_neg]

/-! ## The named words -/

theorem bits_1024 : Ideal.ofBits .f32 0x44800000#32 = ((1024 : ℝ) : EReal) := by
  simp [Ideal.ofBits, Ideal.ieee, -EReal.coe_mul]; norm_num
theorem bits_eighth : Ideal.ofBits .f32 0x3E000000#32 = ((1 / 8 : ℝ) : EReal) := by
  simp [Ideal.ofBits, Ideal.ieee, -EReal.coe_mul]; norm_num
theorem bits_ninf : Ideal.ofBits .f32 0xFF800000#32 = (⊥ : EReal) := by
  simp [Ideal.ofBits, Ideal.ieee, -EReal.coe_mul]
theorem bits_inf : Ideal.ofBits .f32 0x7F800000#32 = (⊤ : EReal) := by
  simp [Ideal.ofBits, Ideal.ieee, -EReal.coe_mul]
theorem bits_eps : Ideal.ofBits .f32 0x358637BD#32 = ((8796093 / 8796093022208 : ℝ) : EReal) := by
  simp [Ideal.ofBits, Ideal.ieee, -EReal.coe_mul]; norm_num
theorem bits_neg_half : Ideal.ofBits .f32 0xBF000000#32 = ((-(1 / 2) : ℝ) : EReal) := by
  simp [Ideal.ofBits, Ideal.ieee, -EReal.coe_mul]; norm_num

theorem bits_inv_1024 : Ideal.ofBits .f32 0x3A800000#32 = ((1 / 1024 : ℝ) : EReal) := by
  simp [Ideal.ofBits, Ideal.ieee, -EReal.coe_mul]; norm_num
theorem bits_inv_2048 : Ideal.ofBits .f32 0x3A000000#32 = ((1 / 2048 : ℝ) : EReal) := by
  simp [Ideal.ofBits, Ideal.ieee, -EReal.coe_mul]; norm_num
theorem bits_half : Ideal.ofBits .f32 0x3F000000#32 = ((1 / 2 : ℝ) : EReal) := by
  simp [Ideal.ofBits, Ideal.ieee, -EReal.coe_mul]; norm_num
theorem bits_one : Ideal.ofBits .f32 0x3F800000#32 = ((1 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num

/-! ## One row of the norm and its gradient -/

/-- The inverse root mean square of a row, as every norm of the step computes it. -/
def rms (x : Fin 1024 → EReal) : EReal :=
  Ideal.rsqrt (Ideal.div (∑ k, x k * x k) ((1024 : ℝ) : EReal) + ((8796093 / 8796093022208 : ℝ) : EReal))

theorem div_pos_coe (x : EReal) {c : ℝ} (hc : c ≠ 0) : Ideal.div x (c : EReal) = x * ((1 / c : ℝ) : EReal) := Ideal.div_coe hc x

/-- The mean square with its epsilon is infinite or a positive real. -/
theorem ms_cases (x : Fin 1024 → EReal) :
    Ideal.div (∑ k, x k * x k) ((1024 : ℝ) : EReal) + ((8796093 / 8796093022208 : ℝ) : EReal) = ⊤
    ∨ ∃ v : ℝ, 0 < v ∧ Ideal.div (∑ k, x k * x k) ((1024 : ℝ) : EReal) + ((8796093 / 8796093022208 : ℝ) : EReal) = (v : EReal) := by
  rw [div_pos_coe _ (by norm_num)]
  have h0 : 0 ≤ ∑ k, x k * x k := Finset.sum_nonneg fun k _ => mul_self_nonneg (x k)
  generalize (∑ k, x k * x k) = s at h0
  induction s using EReal.rec with
  | bot => exact absurd h0 (by simp)
  | coe s =>
    right
    have hs : (0 : ℝ) ≤ s := by exact_mod_cast h0
    refine ⟨s * (1 / 1024) + 8796093 / 8796093022208, by positivity, ?_⟩
    norm_cast
  | top =>
    left
    rw [EReal.top_mul_coe_of_pos (by norm_num), EReal.top_add_coe]

/-- The row's gradient as the kernel writes it by hand equals what differentiation gives, whatever the values. -/
theorem norm_row (x a : Fin 1024 → EReal) (d : EReal) (k : Fin 1024) :
    d + rms x * (a k - x k * rms x * Ideal.div (∑ j, a j * (x j * rms x)) ((1024 : ℝ) : EReal))
      = d + a k * rms x
        + x k * Ideal.div ((∑ j, x j * a j) * (((-(1 / 2) : ℝ) : EReal) * Ideal.div (rms x)
            (Ideal.div (∑ k, x k * x k) ((1024 : ℝ) : EReal) + ((8796093 / 8796093022208 : ℝ) : EReal)))) ((1024 : ℝ) : EReal)
        + Ideal.div ((∑ j, x j * a j) * (((-(1 / 2) : ℝ) : EReal) * Ideal.div (rms x)
            (Ideal.div (∑ k, x k * x k) ((1024 : ℝ) : EReal) + ((8796093 / 8796093022208 : ℝ) : EReal)))) ((1024 : ℝ) : EReal) * x k := by
  unfold rms
  rcases ms_cases x with h | ⟨v, hv, h⟩
  · rw [h]
    simp [Ideal.div]
  · rw [h]
    have hr : Ideal.rsqrt (v : EReal) = (((Real.sqrt v)⁻¹ : ℝ) : EReal) := by
      rw [Ideal.rsqrt_coe, if_neg (not_lt.mpr hv.le), if_neg hv.ne']
    rw [hr]
    have hρ : 0 < (Real.sqrt v)⁻¹ := inv_pos.mpr (Real.sqrt_pos.mpr hv)
    have hv' : v = (((Real.sqrt v)⁻¹) ^ 2)⁻¹ := by rw [inv_pow, inv_inv, Real.sq_sqrt hv.le]
    generalize (Real.sqrt v)⁻¹ = ρ at hρ hv'
    subst hv'
    have hT : ∑ j, a j * (x j * (ρ : EReal)) = (ρ : EReal) * ∑ j, x j * a j := by
      rw [coe_mul_sum _ _ hρ.le]
      exact Finset.sum_congr rfl fun j _ => by rw [← mul_assoc, mul_comm (a j)  (x j), mul_comm]
    rw [hT]
    generalize ∑ j, x j * a j = T
    have hi : ((ρ ^ 2)⁻¹ : ℝ) ≠ 0 := by positivity
    rw [div_pos_coe _ hi, div_pos_coe _ (by norm_num), div_pos_coe _ (by norm_num)]
    have e1 : x k * (ρ : EReal) * ((ρ : EReal) * T * ((1 / 1024 : ℝ) : EReal)) = x k * T * ((ρ ^ 2 / 1024 : ℝ) : EReal) := by
      have : ((ρ ^ 2 / 1024 : ℝ) : EReal) = (ρ : EReal) * (ρ : EReal) * ((1 / 1024 : ℝ) : EReal) := by norm_cast; ring
      rw [this]; ac_rfl
    have e2 : T * (((-(1 / 2) : ℝ) : EReal) * ((ρ : EReal) * ((1 / (ρ ^ 2)⁻¹ : ℝ) : EReal))) * ((1 / 1024 : ℝ) : EReal)
        = T * ((-(ρ ^ 3 / 2048) : ℝ) : EReal) := by
      have : ((-(ρ ^ 3 / 2048) : ℝ) : EReal) = ((-(1 / 2) : ℝ) : EReal) * ((ρ : EReal) * ((1 / (ρ ^ 2)⁻¹ : ℝ) : EReal)) * ((1 / 1024 : ℝ) : EReal) := by
        norm_cast; field_simp; norm_num
      rw [this]; ac_rfl
    rw [e1, e2, mul_comm (T * _) (x k), ← mul_assoc (x k) T, add_assoc (d + _), add_halves, sub_eq_add_neg,
      EReal.left_distrib_of_nonneg_of_ne_top (by exact_mod_cast hρ.le) (EReal.coe_ne_top ρ), ← add_assoc, mul_comm (ρ : EReal) (a k)]
    congr 1
    have e3 : (2 * -(ρ ^ 3 / 2048) : ℝ) = -(ρ ^ 3 / 1024) := by ring
    rw [e3, mul_neg_coe, mul_neg]
    congr 1
    have : ((ρ ^ 3 / 1024 : ℝ) : EReal) = (ρ : EReal) * ((ρ ^ 2 / 1024 : ℝ) : EReal) := by norm_cast; ring
    rw [this]; ac_rfl

/-- A number below infinity in size is real. -/
theorem real_of_finite {x : EReal} (h : BitVec.ofBool (decide (FloatOps.absf (F := Ideal) (φ := .f32) x < Ideal.ofBits FTy.f32 2139095040#32)) = 1#1) : ∃ r : ℝ, x = r := by
  rw [bits_inf] at h
  have hlt : FloatOps.absf (F := Ideal) (φ := .f32) x < (⊤ : EReal) := by
    by_contra hn
    rw [decide_eq_false hn] at h
    exact absurd h (by decide)
  induction x with
  | bot => exact absurd hlt (by show ¬ max (⊥ : EReal) (-⊥) < ⊤; simp)
  | top => exact absurd hlt (by show ¬ max (⊤ : EReal) (-⊤) < ⊤; simp)
  | coe r => exact ⟨r, rfl⟩

end Cert.K

end
-- ==== Proof.Norm.lean ====
module

public import proofs.«01_k».proof.Defs
public import proofs.«01_k».proof.Proof.Basic
public import proofs.«01_k».proof.Proof.Gen.MixNormIdeal.Value
public import proofs.«01_k».proof.Proof.Gen.MixNormRefIdeal.Run
public import proofs.«01_k».proof.Proof.Gen.MixNormRefIdeal.Read
public import Idealize.ShloMosaic.Lib.Pipeline.ValueKit
public import Idealize.ShloMosaic.Lib.Pointwise
public import Idealize.ShloMosaic.Lib.Claim
public import Idealize.ShloMosaic.Adequacy
public import Idealize.ShloMosaic.Init

@[expose] public section

set_option maxRecDepth 16384

noncomputable section

namespace Cert.MixNormIdeal.Hand

open Cert.MixNormIdeal Cert.MixNormIdeal.Gen Idealize.ShloMosaic Idealize.ShloMosaic.TcCoe Idealize.SL.Sem
open Idealize.ShloMosaic.Pipeline (Dat)
open Cert.K

variable (m : (ℓ : Loc nD τ sig) → Buf (Elt Ideal) ℓ) (ρ : Dev nD → PrngReg)

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] :=
  (by decide +kernel : ∀ t : Fin grid0.N, _)

/-! ### The body's payloads at an index -/

theorem pay4_apply (x dh : Vec Ideal S1024x1024 .f32) (z : Fin 1) (k : Fin 1024) :
    k0_pay4 x dh (ix2 z k) = ∑ p : Fin 1024, dh (ix2 p k) * (x (ix2 p k) * rms fun k => x (ix2 p k)) := by
  pointwise [k0_pay4, k0_pay3, k0_pay2]
  rw [bits_1024, bits_eps]
  rfl

theorem pay5_apply (x dh : Vec Ideal S1024x1024 .f32) (w : Vec Ideal S1x1024 .f32) (d : Vec Ideal S1024x1024 .f32) (p k : Fin 1024) :
    k0_pay5 x dh w d (ix2 p k) = d (ix2 p k) + (rms fun k => x (ix2 p k)) *
      (dh (ix2 p k) * w (ix2 0 k) - x (ix2 p k) * (rms fun k => x (ix2 p k))
        * Ideal.div (∑ j, dh (ix2 p j) * w (ix2 0 j) * (x (ix2 p j) * rms fun k => x (ix2 p k))) ((1024 : ℝ) : EReal)) := by
  pointwise [k0_pay5, k0_pay3, k0_pay2]
  rw [bits_1024, bits_eps]
  rfl

/-! ### The results as functions of the arguments -/

/-- The row gradient as the kernel computes it. -/
def dxF (X : FVec Ideal S8192x1024 .f32) (W : FVec Ideal S1024 .f32) (DH DR : FVec Ideal S8192x1024 .f32) : FVec Ideal S8192x1024 .f32 := fun i =>
  DR (ix2 (i 0) (i 1)) + (rms fun k => X (ix2 (i 0) k)) *
      (DH (ix2 (i 0) (i 1)) * W (ix1 (i 1)) - X (ix2 (i 0) (i 1)) * (rms fun k => X (ix2 (i 0) k))
        * Ideal.div (∑ j, DH (ix2 (i 0) j) * W (ix1 j) * (X (ix2 (i 0) j) * rms fun k => X (ix2 (i 0) k))) ((1024 : ℝ) : EReal))

/-- The weight gradient: every row's term added up. -/
def dwF (X DH : FVec Ideal S8192x1024 .f32) : FVec Ideal S1x1024 .f32 := fun i =>
  ∑ n : Fin 8192, DH (ix2 n (i 1)) * (X (ix2 n (i 1)) * rms fun k => X (ix2 n k))

theorem outs1 (c : Dev nD) (t : Fin cfg0.N) (y : S1024x1024.Idx) :
    (outsAt0 m c t.val t.isLt).1 y = k0_pay5 (F := Ideal) (iblk m c 1 t) (iblk m c 0 t) (iblk m c 2 t) (iblk m c 3 t) y := by
  have hN : cfg0.N = 8 := N_0
  have ht := t.isLt
  by_cases h : t.val = 0
  · rw [outsAt0_A m c t (by omega) (by omega)]
    frame_out
  · rw [outsAt0_B m c t (by omega) (by omega)]
    frame_out

theorem final_dx (c : Dev nD) : (dats m 0 c).arrAt 4 cfg0.N = dxF (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t _ y => ?_
  blk_simp
  rw [after0_4, outs1]
  refine ((congrArg _ (eq_ix2 y)).trans (pay5_apply _ _ _ _ (y 0) (y 1))).trans ?_
  unfold dxF rms
  blk_point [iblk, V, idx t]
  refine congrArg₂ _ ?_ ?_ <;> blk_ext [V, idx t]

theorem final_dw (c : Dev nD) : (dats m 0 c).arrAt 5 cfg0.N = dwF (m ((c : Thread nD τ).loc main_arg0)) (m ((c : Thread nD τ).loc main_arg2)) := by
  refine (dats m 0 c).arrAt_eq_of_after_last 5 t0_7 (by decide +kernel) _ fun j => ?_
  blk_simp
  rw [after0_5, Pipeline.eq_sum_fin_of_reset_step_apply_last (fun n h => (outsAt0 m c n h).2) 8 (fun _ => 0)
    (fun t j => ∑ p : Fin 1024, (show FVec Ideal S1024x1024 .f32 from iblk m c 0 t) (ix2 p (j 1))
      * ((show FVec Ideal S1024x1024 .f32 from iblk m c 1 t) (ix2 p (j 1)) * rms fun k => (show FVec Ideal S1024x1024 .f32 from iblk m c 1 t) (ix2 p k)))
    (fun t h j => by
      rw [outsAt0_A m c t h (by have := t.isLt; have : cfg0.N = 8 := N_0; omega)]; frame_out; rw [zero_add]
      exact (congrArg _ (eq_ix2 j)).trans (pay4_apply _ _ (j 0) (j 1)))
    (fun t h j => by
      rw [outsAt0_B m c t h (by omega)]; frame_out
      refine (show _ = _ + k0_pay4 (F := Ideal) (iblk m c 1 t) (iblk m c 0 t) j from ?_).trans (congrArg (_ + ·) ((congrArg _ (eq_ix2 j)).trans (pay4_apply _ _ (j 0) (j 1))))
      pointwise [k0_pay1])
    (le_of_eq N_0) t0_7 rfl j, zero_add]
  unfold dwF rms
  refine (Fin.sum_mul_add_congr fun s k hl => ?_)
  blk_point [iblk, V, idx s]
  refine congrArg₂ _ ?_ ?_ <;> blk_ext [V, idx s]

end Cert.MixNormIdeal.Hand

namespace Cert.MixNormRefIdeal.Hand
open Cert.MixNormRefIdeal Cert.MixNormRefIdeal.Gen Cert.MixNormRefIdeal.Read Idealize.ShloMosaic Idealize.ShloMosaic.TcCoe Idealize.SL.Sem
open Cert.K

theorem dx_eq (x0 : FVec Ideal S8192x1024 .f32) (x1 : FVec Ideal S1024 .f32) (x2 x3 : FVec Ideal S8192x1024 .f32) :
   val_main_v36 (F := Ideal) x0 x1 x2 x3 = Cert.MixNormIdeal.Hand.dxF x0 x1 x2 x3 := by
  funext i
  have h (r : Fin 8192) (k : Fin 1024) : val_main_v36 (F := Ideal) x0 x1 x2 x3 (ix2 r k) = Cert.MixNormIdeal.Hand.dxF x0 x1 x2 x3 (ix2 r k) := by
    pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_cst_3, val_main_v17, val_main_v18, val_main_v19, val_main_v20, val_main_cst_4, val_main_v21, val_main_v22, val_main_cst_5, val_main_v23, val_main_v24, val_main_v25, val_main_v26, val_main_v27, val_main_v28, val_main_cst_6, val_main_v29, val_main_v30, val_main_cst_7, val_main_v31, val_main_v32, val_main_v33, val_main_v34, val_main_v35, val_main_v36, val_main_v37]
    simp only [bits_1024, bits_eps, bits_neg_half, Finset.univ_unique, Finset.sum_singleton]
    exact (norm_row (fun k => x0 (ix2 r k)) (fun k => x2 (ix2 r k) * x1 (ix1 k)) (x3 (ix2 r k)) k).symm
  exact (congrArg _ (eq_ix2 i)).trans ((h (i 0) (i 1)).trans (congrArg _ (eq_ix2 i).symm))

theorem dw_eq (x0 x2 : FVec Ideal S8192x1024 .f32) :
   val_main_v37 (F := Ideal) x0 x2 = Cert.MixNormIdeal.Hand.dwF x0 x2 := by
  funext i
  have h (r : Fin 1) (k : Fin 1024) : val_main_v37 (F := Ideal) x0 x2 (ix2 r k) = Cert.MixNormIdeal.Hand.dwF x0 x2 (ix2 r k) := by
    pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_cst_3, val_main_v17, val_main_v18, val_main_v19, val_main_v20, val_main_cst_4, val_main_v21, val_main_v22, val_main_cst_5, val_main_v23, val_main_v24, val_main_v25, val_main_v26, val_main_v27, val_main_v28, val_main_cst_6, val_main_v29, val_main_v30, val_main_cst_7, val_main_v31, val_main_v32, val_main_v33, val_main_v34, val_main_v35, val_main_v36, val_main_v37]
    simp only [bits_1024, bits_eps, Finset.univ_unique, Finset.sum_singleton]
    unfold Cert.MixNormIdeal.Hand.dwF rms
    refine Finset.sum_congr rfl fun n _ => ?_
    ac_rfl
  exact (congrArg _ (eq_ix2 i)).trans ((h (i 0) (i 1)).trans (congrArg _ (eq_ix2 i).symm))
end Cert.MixNormRefIdeal.Hand

namespace Cert.Proof.Norm
open Idealize.ShloMosaic Idealize.ShloMosaic.TcCoe Idealize.SL.Sem

/-- The reference keeps its arguments and declares no semaphore. -/
theorem refFrame : Cert.quiescent_MixNormRefIdeal := fun m g _ =>
  (θ_run Cert.MixNormRefIdeal.defs _ _).mono (fun r h => ⟨fun c => (h c).2.2, sem_eq_zero_of_no_sems (by decide) r.2⟩)
    (Cert.MixNormRefIdeal.Value.run (F := Ideal) m g)

/-- Kernel and reference end with the same two gradients, whatever the arguments. -/
theorem algebraic : Cert.algebraic_MixNormIdeal_MixNormRefIdeal := by
  pair_intro
  · run_from Cert.MixNormIdeal.Value.run_blocks m g
  · run_from Cert.MixNormRefIdeal.Value.run m' g'
    · exact (Cert.MixNormRefIdeal.Hand.dx_eq _ _ _ _).trans (Cert.MixNormIdeal.Hand.final_dx m _).symm
    · exact (Cert.MixNormRefIdeal.Hand.dw_eq _ _).trans (Cert.MixNormIdeal.Hand.final_dw m _).symm

end Cert.Proof.Norm
-- ==== Proof.LossHead.lean ====
module

public import proofs.«01_k».proof.Defs
public import proofs.«01_k».proof.Proof.Basic
public import proofs.«01_k».proof.Proof.Gen.LossIdeal.Value
public import proofs.«01_k».proof.Proof.Gen.LossRefIdeal.Run
public import proofs.«01_k».proof.Proof.Gen.LossRefIdeal.Read
public import Idealize.ShloMosaic.Lib.Pipeline.ValueKit
public import Idealize.ShloMosaic.Lib.Pointwise
public import Idealize.ShloMosaic.Lib.Claim
public import Idealize.ShloMosaic.Adequacy
public import Idealize.ShloMosaic.Init

@[expose] public section

set_option maxRecDepth 16384

noncomputable section

namespace Cert.LossIdeal.Hand

open Cert.LossIdeal Cert.LossIdeal.Gen Idealize.ShloMosaic Idealize.ShloMosaic.TcCoe Idealize.SL.Sem
open Idealize.ShloMosaic.Pipeline (Dat)
open Cert.K

variable (m : (ℓ : Loc nD τ sig) → Buf (Elt Ideal) ℓ) (ρ : Dev nD → PrngReg)

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] :=
  (by decide +kernel : ∀ t : Fin grid0.N, _)

/-! ### The body's payloads at an index -/

/-- One row's error: the normed row against its target. -/
def er (x w t : Fin 1024 → EReal) (k : Fin 1024) : EReal := x k * rms x * w k - t k

theorem pay7_apply (x : Vec Ideal S1024x1024 .f32) (w : Vec Ideal S1x1024 .f32) (t : Vec Ideal S1024x1024 .f32) (p k : Fin 1024) :
    k0_pay7 x w t (ix2 p k) = er (fun k => x (ix2 p k)) (fun k => w (ix2 0 k)) (fun k => t (ix2 p k)) k := by
  pointwise [k0_pay7, k0_pay6, k0_pay5, k0_pay4]
  rw [bits_1024, bits_eps]
  rfl

/-- The row gradient at an index. -/
def dxAt (x w t : Fin 1024 → EReal) (k : Fin 1024) : EReal :=
  rms x * (er x w t k * ((1 / 1024 : ℝ) : EReal) * w k
    - x k * rms x * Ideal.div (∑ j, er x w t j * ((1 / 1024 : ℝ) : EReal) * w j * (x j * rms x)) ((1024 : ℝ) : EReal))

theorem pay9_apply (x : Vec Ideal S1024x1024 .f32) (w : Vec Ideal S1x1024 .f32) (t : Vec Ideal S1024x1024 .f32) (p k : Fin 1024) :
    k0_pay9 x w t (ix2 p k) = dxAt (fun k => x (ix2 p k)) (fun k => w (ix2 0 k)) (fun k => t (ix2 p k)) k := by
  pointwise [k0_pay9, k0_pay8, k0_pay7, k0_pay6, k0_pay5, k0_pay4]
  rw [bits_1024, bits_eps, bits_inv_1024]
  rfl

theorem pay10_apply (x : Vec Ideal S1024x1024 .f32) (w : Vec Ideal S1x1024 .f32) (t : Vec Ideal S1024x1024 .f32) (z : Fin 1) (k : Fin 1024) :
    k0_pay10 x w t (ix2 z k) = ∑ p : Fin 1024, er (fun k => x (ix2 p k)) (fun k => w (ix2 0 k)) (fun k => t (ix2 p k)) k
      * ((1 / 1024 : ℝ) : EReal) * (x (ix2 p k) * rms fun k => x (ix2 p k)) := by
  pointwise [k0_pay10, k0_pay8, k0_pay7, k0_pay6, k0_pay5, k0_pay4]
  rw [bits_1024, bits_eps, bits_inv_1024]
  rfl

theorem part_apply (x : Vec Ideal S1024x1024 .f32) (w : Vec Ideal S1x1024 .f32) (t : Vec Ideal S1024x1024 .f32) (z : Fin 1) (k : Fin 128) :
    k0_pay1 (k0_pay11 (F := Ideal)) (k0_pay12 x w t) (ix2 z k) = ((1 / 2048 : ℝ) : EReal) * ∑ p : Fin 1024, ∑ j : Fin 1024,
      er (fun k => x (ix2 p k)) (fun k => w (ix2 0 k)) (fun k => t (ix2 p k)) j * er (fun k => x (ix2 p k)) (fun k => w (ix2 0 k)) (fun k => t (ix2 p k)) j := by
  pointwise [k0_pay1, k0_pay11, k0_pay12, k0_pay7, k0_pay6, k0_pay5, k0_pay4]
  rw [bits_1024, bits_eps, bits_inv_2048]
  rfl

/-! ### The results as functions of the arguments -/

/-- The row gradient as the kernel computes it. -/
def dxF (X : FVec Ideal S8192x1024 .f32) (W : FVec Ideal S1024 .f32) (T : FVec Ideal S8192x1024 .f32) : FVec Ideal S8192x1024 .f32 := fun i =>
  dxAt (fun k => X (ix2 (i 0) k)) (fun k => W (ix1 k)) (fun k => T (ix2 (i 0) k)) (i 1)

/-- The weight gradient: every row's term added up. -/
def dwF (X : FVec Ideal S8192x1024 .f32) (W : FVec Ideal S1024 .f32) (T : FVec Ideal S8192x1024 .f32) : FVec Ideal S1x1024 .f32 := fun i =>
  ∑ n : Fin 8192, er (fun k => X (ix2 n k)) (fun k => W (ix1 k)) (fun k => T (ix2 n k)) (i 1)
      * ((1 / 1024 : ℝ) : EReal) * (X (ix2 n (i 1)) * rms fun k => X (ix2 n k))

/-- The loss: half the mean square error of every row, added up. -/
def lossF (X : FVec Ideal S8192x1024 .f32) (W : FVec Ideal S1024 .f32) (T : FVec Ideal S8192x1024 .f32) : FVec Ideal S1x128 .f32 := fun _ =>
  ∑ n : Fin 8192, ((1 / 2048 : ℝ) : EReal) * ∑ j : Fin 1024,
      er (fun k => X (ix2 n k)) (fun k => W (ix1 k)) (fun k => T (ix2 n k)) j * er (fun k => X (ix2 n k)) (fun k => W (ix1 k)) (fun k => T (ix2 n k)) j

theorem outs1 (c : Dev nD) (t : Fin cfg0.N) (y : S1024x1024.Idx) :
    (outsAt0 m c t.val t.isLt).1 y = k0_pay9 (F := Ideal) (iblk m c 0 t) (iblk m c 1 t) (iblk m c 2 t) y := by
  have hN : cfg0.N = 8 := N_0
  have ht := t.isLt
  by_cases h : t.val = 0
  · rw [outsAt0_A m c t (by omega) (by omega)]
    frame_out
  · rw [outsAt0_B m c t (by omega) (by omega)]
    frame_out

section Blocks
variable (c : Dev nD)

/-- A block's row is the array's row. -/
theorem row0 (t : Fin cfg0.N) (p : Fin 1024) (n : Fin 8192) (h : n.val = t.val * 1024 + p.val) :
    (fun k => (show FVec Ideal S1024x1024 .f32 from iblk m c 0 t) (ix2 p k)) = fun k => m ((c : Thread nD τ).loc main_arg0) (ix2 n k) := by
  funext k
  blk_ext [iblk, V, idx t]

theorem row2 (t : Fin cfg0.N) (p : Fin 1024) (n : Fin 8192) (h : n.val = t.val * 1024 + p.val) :
    (fun k => (show FVec Ideal S1024x1024 .f32 from iblk m c 2 t) (ix2 p k)) = fun k => m ((c : Thread nD τ).loc main_arg2) (ix2 n k) := by
  funext k
  blk_ext [iblk, V, idx t]

theorem row1 (t : Fin cfg0.N) :
    (fun k => (show FVec Ideal S1x1024 .f32 from iblk m c 1 t) (ix2 0 k)) = fun k => m ((c : Thread nD τ).loc main_arg1) (ix1 k) := by
  funext k
  blk_point [iblk, V, idx t]

end Blocks

theorem final_dx (c : Dev nD) : (dats m 0 c).arrAt 3 cfg0.N = dxF (m ((c : Thread nD τ).loc main_arg0)) (m ((c : Thread nD τ).loc main_arg1))
    (m ((c : Thread nD τ).loc main_arg2)) := by
  refine (dats m 0 c).arrAt_eq_of_covers 3 _ (by decide +kernel) fun t _ y => ?_
  blk_simp
  rw [after0_3, outs1]
  have hp : (y 0).val < 1024 := (y 0).isLt
  have ht : t.val < 8 := lt_of_lt_of_eq t.isLt N_0
  refine ((congrArg _ (eq_ix2 y)).trans (pay9_apply _ _ _ (y 0) (y 1))).trans ?_
  rw [row1 m c t, row0 m c t (y 0) ⟨t.val * 1024 + (y 0).val, by omega⟩ rfl,
    row2 m c t (y 0) ⟨t.val * 1024 + (y 0).val, by omega⟩ rfl]
  unfold dxF
  blk_point [idx t]

theorem final_dw (c : Dev nD) : (dats m 0 c).arrAt 4 cfg0.N = dwF (m ((c : Thread nD τ).loc main_arg0)) (m ((c : Thread nD τ).loc main_arg1))
    (m ((c : Thread nD τ).loc main_arg2)) := by
  refine (dats m 0 c).arrAt_eq_of_after_last 4 t0_7 (by decide +kernel) _ fun j => ?_
  blk_simp
  rw [after0_4, Pipeline.eq_sum_fin_of_reset_step_apply_last (fun n h => (outsAt0 m c n h).2.1) 8 (fun _ => 0)
    (fun t j => k0_pay10 (F := Ideal) (iblk m c 0 t) (iblk m c 1 t) (iblk m c 2 t) j)
    (fun t h j => by
      rw [outsAt0_A m c t h (by have := t.isLt; have : cfg0.N = 8 := N_0; omega)]; frame_out; rw [zero_add])
    (fun t h j => by
      rw [outsAt0_B m c t h (by omega)]; frame_out
      pointwise [k0_pay2])
    (le_of_eq N_0) t0_7 rfl j, zero_add]
  unfold dwF
  refine (Finset.sum_congr rfl fun t _ => (congrArg _ (eq_ix2 j)).trans (pay10_apply _ _ _ (j 0) (j 1))).trans ?_
  refine Fin.sum_mul_add_congr fun s k hl => ?_
  have hr := row0 m c s k ⟨s.val * 1024 + k.val, hl⟩ rfl
  rw [row1 m c s, hr, row2 m c s k ⟨s.val * 1024 + k.val, hl⟩ rfl]
  exact congrArg _ (congrArg (· * _) (congrFun hr (j 1)))

theorem final_loss (c : Dev nD) : (dats m 0 c).arrAt 5 cfg0.N = lossF (m ((c : Thread nD τ).loc main_arg0)) (m ((c : Thread nD τ).loc main_arg1))
    (m ((c : Thread nD τ).loc main_arg2)) := by
  refine (dats m 0 c).arrAt_eq_of_after_last 5 t0_7 (by decide +kernel) _ fun j => ?_
  blk_simp
  rw [after0_5, Pipeline.eq_sum_fin_of_reset_step_apply_last (fun n h => (outsAt0 m c n h).2.2) 8 (fun _ => 0)
    (fun t j => k0_pay1 (k0_pay11 (F := Ideal)) (k0_pay12 (F := Ideal) (iblk m c 0 t) (iblk m c 1 t) (iblk m c 2 t)) j)
    (fun t h j => by
      rw [outsAt0_A m c t h (by have := t.isLt; have : cfg0.N = 8 := N_0; omega)]; frame_out; rw [zero_add])
    (fun t h j => by
      rw [outsAt0_B m c t h (by omega)]; frame_out
      pointwise [k0_pay3])
    (le_of_eq N_0) t0_7 rfl j, zero_add]
  unfold lossF
  refine (Finset.sum_congr rfl fun t _ => ((congrArg _ (eq_ix2 j)).trans (part_apply _ _ _ (j 0) (j 1))).trans (coe_mul_sum _ _ (by norm_num) _)).trans ?_
  refine Fin.sum_mul_add_congr fun s k hl => ?_
  rw [row1 m c s, row0 m c s k ⟨s.val * 1024 + k.val, hl⟩ rfl, row2 m c s k ⟨s.val * 1024 + k.val, hl⟩ rfl]

end Cert.LossIdeal.Hand

namespace Cert.LossRefIdeal.Hand
open Cert.LossRefIdeal Cert.LossRefIdeal.Gen Cert.LossRefIdeal.Read Idealize.ShloMosaic Idealize.ShloMosaic.TcCoe Idealize.SL.Sem
open Cert.K Cert.LossIdeal.Hand

variable (x0 : FVec Ideal S8192x1024 .f32) (x1 : FVec Ideal S1024 .f32) (x2 : FVec Ideal S8192x1024 .f32)

/-- The error's derivative, which the reference writes as a half times two errors over the row's length. -/
theorem half_two (e : EReal) : Ideal.div ((1 / 2 : ℝ) : EReal) ((1024 : ℝ) : EReal) * (((2 : ℝ) : EReal) * e)
    = e * ((1 / 1024 : ℝ) : EReal) := by
  rw [div_pos_coe _ (by norm_num), ← mul_assoc, mul_comm e]
  congr 1
  norm_cast
  norm_num

/-- Half the mean over a row is the row's sum over twice its length. -/
theorem half_row (s : EReal) : ((1 / 2 : ℝ) : EReal) * Ideal.div s ((1024 : ℝ) : EReal) = ((1 / 2048 : ℝ) : EReal) * s := by
  rw [div_pos_coe _ (by norm_num), mul_left_comm, ← mul_assoc, mul_assoc, mul_comm]
  congr 1
  norm_cast
  norm_num

theorem dx_eq : val_main_v50 (F := Ideal) x0 x1 x2 = dxF x0 x1 x2 := by
  funext i
  have h (r : Fin 8192) (k : Fin 1024) : val_main_v50 (F := Ideal) x0 x1 x2 (ix2 r k) = dxF x0 x1 x2 (ix2 r k) := by
    pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_v19, val_main_cst_4, val_main_v20, val_main_cst_5, val_main_v21, val_main_v22, val_main_cst_6, val_main_v23, val_main_cst_7, val_main_v24, val_main_cst_8, val_main_cst_9, val_main_v25, val_main_v26, val_main_cst_10, val_main_v27, val_main_v28, val_main_v29, val_main_v30, val_main_v31, val_main_cst_11, val_main_v32, val_main_v33, val_main_v34, val_main_v35, val_main_cst_12, val_main_v36, val_main_v37, val_main_cst_13, val_main_v38, val_main_v39, val_main_v40, val_main_v41, val_main_v42, val_main_cst_14, val_main_v43, val_main_v44, val_main_cst_15, val_main_v45, val_main_v46, val_main_v47, val_main_v48, val_main_v49, val_main_v50, val_main_v51, val_main_v52]
    simp only [bits_1024, bits_eps, bits_neg_half, bits_half, bits_one, bits_two, Finset.univ_unique, Finset.sum_singleton, half_two]
    have e := norm_row (fun k => x0 (ix2 r k)) (fun k => er (fun k => x0 (ix2 r k)) (fun k => x1 (ix1 k)) (fun k => x2 (ix2 r k)) k
      * ((1 / 1024 : ℝ) : EReal) * x1 (ix1 k)) 0 k
    rw [zero_add, zero_add] at e
    exact e.symm
  exact (congrArg _ (eq_ix2 i)).trans ((h (i 0) (i 1)).trans (congrArg _ (eq_ix2 i).symm))

theorem dw_eq : val_main_v51 (F := Ideal) x0 x1 x2 = dwF x0 x1 x2 := by
  funext i
  have h (r : Fin 1) (k : Fin 1024) : val_main_v51 (F := Ideal) x0 x1 x2 (ix2 r k) = dwF x0 x1 x2 (ix2 r k) := by
    pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_v19, val_main_cst_4, val_main_v20, val_main_cst_5, val_main_v21, val_main_v22, val_main_cst_6, val_main_v23, val_main_cst_7, val_main_v24, val_main_cst_8, val_main_cst_9, val_main_v25, val_main_v26, val_main_cst_10, val_main_v27, val_main_v28, val_main_v29, val_main_v30, val_main_v31, val_main_cst_11, val_main_v32, val_main_v33, val_main_v34, val_main_v35, val_main_cst_12, val_main_v36, val_main_v37, val_main_cst_13, val_main_v38, val_main_v39, val_main_v40, val_main_v41, val_main_v42, val_main_cst_14, val_main_v43, val_main_v44, val_main_cst_15, val_main_v45, val_main_v46, val_main_v47, val_main_v48, val_main_v49, val_main_v50, val_main_v51, val_main_v52]
    simp only [bits_1024, bits_eps, bits_neg_half, bits_half, bits_one, bits_two, Finset.univ_unique, Finset.sum_singleton, half_two]
    exact Finset.sum_congr rfl fun n _ => mul_comm _ _
  exact (congrArg _ (eq_ix2 i)).trans ((h (i 0) (i 1)).trans (congrArg _ (eq_ix2 i).symm))

theorem loss_eq : val_main_v52 (F := Ideal) x0 x1 x2 = lossF x0 x1 x2 := by
  funext i
  have h (r : Fin 1) (k : Fin 128) : val_main_v52 (F := Ideal) x0 x1 x2 (ix2 r k) = lossF x0 x1 x2 (ix2 r k) := by
    pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_v19, val_main_cst_4, val_main_v20, val_main_cst_5, val_main_v21, val_main_v22, val_main_cst_6, val_main_v23, val_main_cst_7, val_main_v24, val_main_cst_8, val_main_cst_9, val_main_v25, val_main_v26, val_main_cst_10, val_main_v27, val_main_v28, val_main_v29, val_main_v30, val_main_v31, val_main_cst_11, val_main_v32, val_main_v33, val_main_v34, val_main_v35, val_main_cst_12, val_main_v36, val_main_v37, val_main_cst_13, val_main_v38, val_main_v39, val_main_v40, val_main_v41, val_main_v42, val_main_cst_14, val_main_v43, val_main_v44, val_main_cst_15, val_main_v45, val_main_v46, val_main_v47, val_main_v48, val_main_v49, val_main_v50, val_main_v51, val_main_v52]
    simp only [bits_1024, bits_eps, bits_half]
    exact (coe_mul_sum _ _ (by norm_num) _).trans (Finset.sum_congr rfl fun n _ => half_row _)
  exact (congrArg _ (eq_ix2 i)).trans ((h (i 0) (i 1)).trans (congrArg _ (eq_ix2 i).symm))
end Cert.LossRefIdeal.Hand

namespace Cert.Proof.LossHead
open Idealize.ShloMosaic Idealize.ShloMosaic.TcCoe Idealize.SL.Sem

/-- The reference keeps its arguments and declares no semaphore. -/
theorem refFrame : Cert.quiescent_LossRefIdeal := fun m g _ =>
  (θ_run Cert.LossRefIdeal.defs _ _).mono (fun r h => ⟨fun c => (h c).2.2.2, sem_eq_zero_of_no_sems (by decide) r.2⟩)
    (Cert.LossRefIdeal.Value.run (F := Ideal) m g)

/-- Kernel and reference end with the same loss and gradients, whatever the arguments. -/
theorem algebraic : Cert.algebraic_LossIdeal_LossRefIdeal := by
  pair_intro
  · run_from Cert.LossIdeal.Value.run_blocks m g
  · run_from Cert.LossRefIdeal.Value.run m' g'
    · refine (Cert.LossRefIdeal.Read.val_main_v50_eq m' c).trans ?_
      rw [(hagree c).1, (hagree c).2.1, (hagree c).2.2]
      exact (Cert.LossRefIdeal.Hand.dx_eq _ _ _).trans (Cert.LossIdeal.Hand.final_dx m _).symm
    · exact (Cert.LossRefIdeal.Hand.dw_eq _ _ _).trans (Cert.LossIdeal.Hand.final_dw m _).symm
    · exact (Cert.LossRefIdeal.Hand.loss_eq _ _ _).trans (Cert.LossIdeal.Hand.final_loss m _).symm

end Cert.Proof.LossHead

end
-- ==== Proof.ConvGrad.lean ====
module

public import proofs.«01_k».proof.Defs
public import proofs.«01_k».proof.Proof.Basic
public import proofs.«01_k».proof.Proof.Gen.ConvIdeal.Value
public import proofs.«01_k».proof.Proof.Gen.ConvRefIdeal.Run
public import proofs.«01_k».proof.Proof.Gen.ConvRefIdeal.Read
public import Idealize.ShloMosaic.Lib.Pipeline.ValueKit
public import Idealize.ShloMosaic.Lib.Pointwise
public import Idealize.ShloMosaic.Lib.Claim
public import Idealize.ShloMosaic.Adequacy
public import Idealize.ShloMosaic.Init

@[expose] public section

set_option maxRecDepth 16384

noncomputable section

namespace Cert.ConvIdeal.Hand

open Cert.ConvIdeal Cert.ConvIdeal.Gen Idealize.ShloMosaic Idealize.ShloMosaic.TcCoe Idealize.SL.Sem
open Idealize.ShloMosaic.Pipeline (Dat)
open Cert.K

variable (m : (ℓ : Loc nD τ sig) → Buf (Elt Ideal) ℓ) (ρ : Dev nD → PrngReg)

theorem idx : ∀ t : Fin cfg0.N, win0_0.index t = ![0, t.val % 8, t.val / 8] ∧ win0_1.index t = ![1, t.val % 8, t.val / 8]
    ∧ win0_2.index t = ![2, t.val % 8, t.val / 8] ∧ win0_3.index t = ![0, t.val % 8 * 64 - 1, t.val / 8]
    ∧ win0_4.index t = ![2, t.val % 8 * 64 - 1, t.val / 8] ∧ win0_5.index t = ![1, min (t.val % 8 * 64 + 64) 511, t.val / 8]
    ∧ win0_6.index t = ![0, t.val % 8, t.val / 8] ∧ win0_7.index t = ![0, min (t.val % 8 * 64 + 64) 511, t.val / 8]
    ∧ win0_8.index t = ![0, t.val / 8] ∧ win0_9.index t = ![0, t.val % 8, t.val / 8] ∧ win0_10.index t = ![0, t.val / 8] :=
  (by decide +kernel : ∀ t : Fin grid0.N, _)

theorem coords_val : ∀ t : Fin cfg0.N, (grid0.coords t 0).val = t.val / 8 ∧ (grid0.coords t 1).val = t.val % 8 :=
  (by decide +kernel : ∀ t : Fin grid0.N, _)

/-- The stacked columns the windows are cut from. -/
theorem stack_apply (c : Dev nD) (s : Fin 10) (n : Fin 8192) (k : Fin 512) (l : Fin 5120) (hl : l.val = s.val * 512 + k.val) :
    (show FVec Ideal S10x8192x512 .bf16 from V m c main_v21) (ix3 s n k) = m ((c : Thread nD τ).loc main_arg0) (ix2 n l) := by
  unfold V
  after_results
  pointwise
  fin_vals s with hs
  all_goals simp only [hs, Nat.reduceSub, Nat.reduceLT, ↓reduceDIte]
  all_goals (simp only [↓ StableHlo.readResult]; pointwise; blk_ext [hl, hs])

theorem dy_apply (c : Dev nD) (i : S3x8192x512.Idx) :
    (show FVec Ideal S3x8192x512 .bf16 from V m c main_v22) i = m ((c : Thread nD τ).loc main_arg2) i := by
  unfold V
  after_results
  rfl

/-- The columns' block `s` at an index. -/
def colAt (X : FVec Ideal S8192x5120 .f32) (s : Fin 10) (n : Fin 8192) (k : Fin 512) : EReal :=
  X (ix2 n ⟨s.val * 512 + k.val, by omega⟩)

/-- The product the convolution runs over, `d` rows up, nothing above the first row. -/
def zd (X : FVec Ideal S8192x5120 .f32) (d : ℕ) (n : Fin 8192) (k : Fin 512) : EReal :=
  if d ≤ n.val then colAt X 2 ⟨n.val - d, by omega⟩ k * colAt X 0 ⟨n.val - d, by omega⟩ k else 0

/-- The convolution's own gradient, `d` rows down, nothing below the last row. -/
def gd (X : FVec Ideal S8192x5120 .f32) (Y : FVec Ideal S3x8192x512 .f32) (d : ℕ) (n : Fin 8192) (k : Fin 512) : EReal :=
  if h : n.val + d < 8192 then Y (ix3 0 ⟨n.val + d, h⟩ k) * colAt X 1 ⟨n.val + d, h⟩ k else 0

/-- A tile's rows, `d` further up: the tile's own below its first `d` rows, the previous tile's last rows in these. -/
theorem up_of (X : FVec Ideal S8192x5120 .f32) (τ : ℕ) (hτ : τ < 8) (a : ℕ) (ha : a = τ) (l : Fin 512) (n : Fin 8192)
    (b2 b0 : Fin 1024 → EReal) (b4 b3 : Fin 16 → EReal)
    (h2 : ∀ (n : Fin 8192) (p : Fin 1024), n.val = τ * 1024 + p.val → b2 p = colAt X 2 n l)
    (h0 : ∀ (n : Fin 8192) (p : Fin 1024), n.val = τ * 1024 + p.val → b0 p = colAt X 0 n l)
    (h4 : ∀ (n : Fin 8192) (p : Fin 16), n.val = (τ * 64 - 1) * 16 + p.val → b4 p = colAt X 2 n l)
    (h3 : ∀ (n : Fin 8192) (p : Fin 16), n.val = (τ * 64 - 1) * 16 + p.val → b3 p = colAt X 0 n l)
    (p : Fin 1024) (hn : n.val = τ * 1024 + p.val) (d : ℕ) (hd : d < 16) (q : ℕ) (hq : q = 16 + p.val - d) :
    (if h : q < 16 then Scalar.select (Scalar.cmpi CmpIPredicate.eq (BitVec.ofNat 32 a) 0#32) 0 (b4 ⟨q, h⟩ * b3 ⟨q, h⟩)
      else b2 ⟨q - 16, by omega⟩ * b0 ⟨q - 16, by omega⟩) = zd X d n l := by
  subst ha
  by_cases hp : q < 16
  · rw [dif_pos hp]
    by_cases hz : a = 0
    · subst hz
      have : ¬ d ≤ n.val := by omega
      simp only [zd, if_neg this]
      rfl
    · have h1 : Scalar.cmpi CmpIPredicate.eq (BitVec.ofNat 32 a) 0#32 = 0#1 := by
        interval_cases a <;> first | omega | rfl
      rw [h1]
      have hz : d ≤ n.val := by omega
      rw [h4 ⟨n.val - d, by omega⟩ ⟨q, hp⟩ (by simp only; omega), h3 ⟨n.val - d, by omega⟩ ⟨q, hp⟩ (by simp only; omega)]
      simp only [zd, if_pos hz]
      rfl
  · rw [dif_neg hp]
    have hz : d ≤ n.val := by omega
    rw [h2 ⟨n.val - d, by omega⟩ ⟨q - 16, by omega⟩ (by simp only; omega), h0 ⟨n.val - d, by omega⟩ ⟨q - 16, by omega⟩ (by simp only; omega)]
    simp only [zd, if_pos hz]

section Blocks
variable (c : Dev nD) (t : Fin cfg0.N) (k : Fin 128) (l : Fin 512) (hl : l.val = t.val / 8 * 128 + k.val) (n : Fin 8192)
include hl

theorem blk0 (z : Fin 1) (p : Fin 1024) (hn : n.val = t.val % 8 * 1024 + p.val) :
    (show FVec Ideal S1x1024x128 .bf16 from iblk m c 0 t) (ix3 z p k) = colAt (m ((c : Thread nD τ).loc main_arg0)) 0 n l := by
  refine Eq.trans ?_ (stack_apply m c 0 n l ⟨0 * 512 + l.val, by omega⟩ rfl)
  blk_ext [iblk, idx t, hl, hn]

theorem blk1 (z : Fin 1) (p : Fin 1024) (hn : n.val = t.val % 8 * 1024 + p.val) :
    (show FVec Ideal S1x1024x128 .bf16 from iblk m c 1 t) (ix3 z p k) = colAt (m ((c : Thread nD τ).loc main_arg0)) 1 n l := by
  refine Eq.trans ?_ (stack_apply m c 1 n l ⟨1 * 512 + l.val, by omega⟩ rfl)
  blk_ext [iblk, idx t, hl, hn]

theorem blk2 (z : Fin 1) (p : Fin 1024) (hn : n.val = t.val % 8 * 1024 + p.val) :
    (show FVec Ideal S1x1024x128 .bf16 from iblk m c 2 t) (ix3 z p k) = colAt (m ((c : Thread nD τ).loc main_arg0)) 2 n l := by
  refine Eq.trans ?_ (stack_apply m c 2 n l ⟨2 * 512 + l.val, by omega⟩ rfl)
  blk_ext [iblk, idx t, hl, hn]

theorem blk3 (z : Fin 1) (p : Fin 16) (hn : n.val = (t.val % 8 * 64 - 1) * 16 + p.val) :
    (show FVec Ideal S1x16x128 .bf16 from iblk m c 3 t) (ix3 z p k) = colAt (m ((c : Thread nD τ).loc main_arg0)) 0 n l := by
  refine Eq.trans ?_ (stack_apply m c 0 n l ⟨0 * 512 + l.val, by omega⟩ rfl)
  blk_ext [iblk, idx t, hl, hn]

theorem blk4 (z : Fin 1) (p : Fin 16) (hn : n.val = (t.val % 8 * 64 - 1) * 16 + p.val) :
    (show FVec Ideal S1x16x128 .bf16 from iblk m c 4 t) (ix3 z p k) = colAt (m ((c : Thread nD τ).loc main_arg0)) 2 n l := by
  refine Eq.trans ?_ (stack_apply m c 2 n l ⟨2 * 512 + l.val, by omega⟩ rfl)
  blk_ext [iblk, idx t, hl, hn]

theorem blk5 (z : Fin 1) (p : Fin 16) (hn : n.val = min (t.val % 8 * 64 + 64) 511 * 16 + p.val) :
    (show FVec Ideal S1x16x128 .bf16 from iblk m c 5 t) (ix3 z p k) = colAt (m ((c : Thread nD τ).loc main_arg0)) 1 n l := by
  refine Eq.trans ?_ (stack_apply m c 1 n l ⟨1 * 512 + l.val, by omega⟩ rfl)
  blk_ext [iblk, idx t, hl, hn]

theorem blk6 (z : Fin 1) (p : Fin 1024) (hn : n.val = t.val % 8 * 1024 + p.val) :
    (show FVec Ideal S1x1024x128 .bf16 from iblk m c 6 t) (ix3 z p k) = m ((c : Thread nD τ).loc main_arg2) (ix3 0 n l) := by
  refine Eq.trans ?_ (dy_apply m c (ix3 0 n l))
  blk_ext [iblk, idx t, hl, hn]

theorem blk7 (z : Fin 1) (p : Fin 16) (hn : n.val = min (t.val % 8 * 64 + 64) 511 * 16 + p.val) :
    (show FVec Ideal S1x16x128 .bf16 from iblk m c 7 t) (ix3 z p k) = m ((c : Thread nD τ).loc main_arg2) (ix3 0 n l) := by
  refine Eq.trans ?_ (dy_apply m c (ix3 0 n l))
  blk_ext [iblk, idx t, hl, hn]

theorem pay13_apply (p : Fin 1024) (hn : n.val = t.val % 8 * 1024 + p.val) :
    k0_pay13 (F := Ideal) (iblk m c 0 t) (iblk m c 2 t) (ix2 p k) = zd (m ((c : Thread nD τ).loc main_arg0)) 0 n l := by
  pointwise [k0_pay13, k0_pay11, k0_pay9]
  refine (Ideal.mul_congr (blk2 m c t k l hl n 0 p hn) (blk0 m c t k l hl n 0 p hn)).trans ?_
  simp [zd]

theorem pay17_apply (p : Fin 1024) (hn : n.val = t.val % 8 * 1024 + p.val) :
    k0_pay17 (F := Ideal) (k0_pay10 (iblk m c 1 t)) (k0_pay12 (iblk m c 6 t)) (ix2 p k)
      = gd (m ((c : Thread nD τ).loc main_arg0)) (m ((c : Thread nD τ).loc main_arg2)) 0 n l := by
  pointwise [k0_pay17, k0_pay10, k0_pay12]
  refine (Ideal.mul_congr (blk6 m c t k l hl n 0 p hn) (blk1 m c t k l hl n 0 p hn)).trans ?_
  simp [gd]

theorem up_apply (p : Fin 1024) (hn : n.val = t.val % 8 * 1024 + p.val) (d : ℕ) (hd : d < 16) (q : ℕ) (hq : q = 16 + p.val - d) :
    (if h : q < 16 then
      Scalar.select (Scalar.cmpi CmpIPredicate.eq (BitVec.ofNat 32 ↑(grid0.coords t 1)) 0#32) 0
        ((show FVec Ideal S1x16x128 .bf16 from iblk m c 4 t) (ix3 0 ⟨q, h⟩ k) * (show FVec Ideal S1x16x128 .bf16 from iblk m c 3 t) (ix3 0 ⟨q, h⟩ k))
    else (show FVec Ideal S1x1024x128 .bf16 from iblk m c 2 t) (ix3 0 ⟨q - 16, by omega⟩ k)
      * (show FVec Ideal S1x1024x128 .bf16 from iblk m c 0 t) (ix3 0 ⟨q - 16, by omega⟩ k))
    = zd (m ((c : Thread nD τ).loc main_arg0)) d n l :=
  up_of _ (t.val % 8) (Nat.mod_lt _ (by norm_num)) _ (coords_val t).2 l n _ _ _ _ (fun n p => blk2 m c t k l hl n 0 p) (fun n p => blk0 m c t k l hl n 0 p)
    (fun n p => blk4 m c t k l hl n 0 p) (fun n p => blk3 m c t k l hl n 0 p) p hn d hd q hq

theorem pay15_apply (p : Fin 1024) (hn : n.val = t.val % 8 * 1024 + p.val) :
    k0_pay15 (F := Ideal) (grid0.coords t) (iblk m c 0 t) (iblk m c 2 t) (iblk m c 4 t) (iblk m c 3 t) (ix2 p k)
      = zd (m ((c : Thread nD τ).loc main_arg0)) 1 n l := by
  pointwise [k0_pay15, k0_pay14, k0_pay13, k0_pay11, k0_pay9]
  exact up_apply m c t k l hl n p hn 1 (by norm_num) _ (by omega)

theorem pay16_apply (p : Fin 1024) (hn : n.val = t.val % 8 * 1024 + p.val) :
    k0_pay16 (F := Ideal) (grid0.coords t) (iblk m c 0 t) (iblk m c 2 t) (iblk m c 4 t) (iblk m c 3 t) (ix2 p k)
      = zd (m ((c : Thread nD τ).loc main_arg0)) 2 n l := by
  pointwise [k0_pay16, k0_pay14, k0_pay13, k0_pay11, k0_pay9]
  exact up_apply m c t k l hl n p hn 2 (by norm_num) _ (by omega)

/-- A tile's rows, `d` further down: the tile's own above its last `d` rows, the next tile's first rows in these. -/
theorem down_apply (p : Fin 1024) (hn : n.val = t.val % 8 * 1024 + p.val) (d : ℕ) (hd : d < 16) (q : ℕ) (hq : q = p.val + d) :
    (if h : q < 1024 then (show FVec Ideal S1x1024x128 .bf16 from iblk m c 6 t) (ix3 0 ⟨q, h⟩ k)
      * (show FVec Ideal S1x1024x128 .bf16 from iblk m c 1 t) (ix3 0 ⟨q, h⟩ k)
    else Scalar.select (Scalar.cmpi CmpIPredicate.eq (BitVec.ofNat 32 ↑(grid0.coords t 1)) 7#32) 0
        ((show FVec Ideal S1x16x128 .bf16 from iblk m c 7 t) (ix3 0 ⟨q - 1024, by omega⟩ k)
          * (show FVec Ideal S1x16x128 .bf16 from iblk m c 5 t) (ix3 0 ⟨q - 1024, by omega⟩ k)))
    = gd (m ((c : Thread nD τ).loc main_arg0)) (m ((c : Thread nD τ).loc main_arg2)) d n l := by
  have hc := (coords_val t).2
  rw [hc]
  have ht : t.val % 8 < 8 := Nat.mod_lt _ (by norm_num)
  by_cases hp : q < 1024
  · rw [dif_pos hp]
    have hz : n.val + d < 8192 := by omega
    rw [blk6 m c t k l hl ⟨n.val + d, by omega⟩ 0 ⟨q, by omega⟩ (by simp only; omega),
        blk1 m c t k l hl ⟨n.val + d, by omega⟩ 0 ⟨q, by omega⟩ (by simp only; omega)]
    simp only [gd, dif_pos hz]
  · rw [dif_neg hp]
    by_cases h0 : t.val % 8 = 7
    · rw [h0]
      have : ¬ n.val + d < 8192 := by omega
      simp only [gd, dif_neg this]
      rfl
    · have h1 : Scalar.cmpi CmpIPredicate.eq (BitVec.ofNat 32 (t.val % 8)) 7#32 = 0#1 := by
        interval_cases h : t.val % 8 <;> first | omega | rfl
      rw [h1]
      have hz : n.val + d < 8192 := by omega
      rw [blk7 m c t k l hl ⟨n.val + d, by omega⟩ 0 ⟨q - 1024, by omega⟩ (by simp only; omega),
        blk5 m c t k l hl ⟨n.val + d, by omega⟩ 0 ⟨q - 1024, by omega⟩ (by simp only; omega)]
      simp only [gd, dif_pos hz]
      rfl

theorem pay18_apply (p : Fin 1024) (hn : n.val = t.val % 8 * 1024 + p.val) (w0 w1 w2 : Vec Ideal S1x128 .f32) :
    k0_pay18 (F := Ideal) (BitVec.ofNat 32 (grid0.coords t 1).val) (k0_pay10 (iblk m c 1 t)) (k0_pay12 (iblk m c 6 t)) w0 w1 w2 (iblk m c 7 t) (iblk m c 5 t) (ix2 p k)
      = w2 (ix2 0 k) * gd (m ((c : Thread nD τ).loc main_arg0)) (m ((c : Thread nD τ).loc main_arg2)) 0 n l
        + w1 (ix2 0 k) * gd (m ((c : Thread nD τ).loc main_arg0)) (m ((c : Thread nD τ).loc main_arg2)) 1 n l
        + w0 (ix2 0 k) * gd (m ((c : Thread nD τ).loc main_arg0)) (m ((c : Thread nD τ).loc main_arg2)) 2 n l := by
  rw [← pay17_apply m c t k l hl n p hn, ← down_apply m c t k l hl n p hn 1 (by norm_num) ((p.val + 1040 - 1039) % 1040) (by omega),
    ← down_apply m c t k l hl n p hn 2 (by norm_num) ((p.val + 1040 - 1038) % 1040) (by omega)]
  pointwise [k0_pay18, k0_pay17, k0_pay10, k0_pay12]
end Blocks

/-! ### The results as functions of the arguments -/

/-- The gradients of the three columns. -/
def d3F (X : FVec Ideal S8192x5120 .f32) (W : FVec Ideal S3x512 .f32) (Y : FVec Ideal S3x8192x512 .f32) : FVec Ideal S3x8192x512 .bf16 := fun i =>
  if (i 0).val = 0 then (W (ix2 2 (i 2)) * gd X Y 0 (i 1) (i 2) + W (ix2 1 (i 2)) * gd X Y 1 (i 1) (i 2) + W (ix2 0 (i 2)) * gd X Y 2 (i 1) (i 2))
    * colAt X 2 (i 1) (i 2)
  else if (i 0).val = 1 then Y (ix3 0 (i 1) (i 2))
    * (W (ix2 0 (i 2)) * zd X 2 (i 1) (i 2) + W (ix2 1 (i 2)) * zd X 1 (i 1) (i 2) + W (ix2 2 (i 2)) * zd X 0 (i 1) (i 2))
  else (W (ix2 2 (i 2)) * gd X Y 0 (i 1) (i 2) + W (ix2 1 (i 2)) * gd X Y 1 (i 1) (i 2) + W (ix2 0 (i 2)) * gd X Y 2 (i 1) (i 2))
    * colAt X 0 (i 1) (i 2)

/-- The weights' gradient: one row per tap. -/
def dwF (X : FVec Ideal S8192x5120 .f32) (Y : FVec Ideal S3x8192x512 .f32) : FVec Ideal S3x512 .f32 := fun i =>
  ∑ n : Fin 8192, gd X Y 0 n (i 1) * zd X (2 - (i 0).val) n (i 1)

section Pieces
variable (c : Dev nD) (t : Fin cfg0.N) (z : Fin 1) (p : Fin 1024) (k : Fin 128) (a : Fin 3) (n : Fin 8192) (l : Fin 512) (W : FVec Ideal S3x512 .f32) (w0 w1 w2 : Vec Ideal S1x128 .f32)
  (hn : n.val = t.val % 8 * 1024 + p.val) (hl : l.val = t.val / 8 * 128 + k.val)
  (hw0 : w0 (ix2 0 k) = W (ix2 0 l)) (hw1 : w1 (ix2 0 k) = W (ix2 1 l)) (hw2 : w2 (ix2 0 k) = W (ix2 2 l))
include hn hl hw0 hw1 hw2

theorem piece_u (ha : a.val = 2) :
    k0_pay2 (F := Ideal) (k0_pay9 (iblk m c 0 t)) (k0_pay18 (BitVec.ofNat 32 (grid0.coords t 1).val) (k0_pay10 (iblk m c 1 t)) (k0_pay12 (iblk m c 6 t))
        w0 w1 w2 (iblk m c 7 t) (iblk m c 5 t)) (ix3 z p k) = d3F (m ((c : Thread nD τ).loc main_arg0)) W (m ((c : Thread nD τ).loc main_arg2)) (ix3 a n l) := by
  pointwise [k0_pay2, k0_pay9]
  refine (Ideal.mul_congr (pay18_apply m c t k l hl n p hn w0 w1 w2) (blk0 m c t k l hl n 0 p hn)).trans ?_
  rw [hw0, hw1, hw2]
  simp only [d3F, ix3_0, ix3_1, ix3_2, ha]
  rfl

theorem piece_c (ha : a.val = 0) :
    k0_pay19 (F := Ideal) (BitVec.ofNat 32 (grid0.coords t 1).val) (k0_pay10 (iblk m c 1 t)) (k0_pay11 (iblk m c 2 t)) (k0_pay12 (iblk m c 6 t))
        w0 w1 w2 (iblk m c 7 t) (iblk m c 5 t) (ix3 z p k) = d3F (m ((c : Thread nD τ).loc main_arg0)) W (m ((c : Thread nD τ).loc main_arg2)) (ix3 a n l) := by
  pointwise [k0_pay19, k0_pay11]
  refine (Ideal.mul_congr (pay18_apply m c t k l hl n p hn w0 w1 w2) (blk2 m c t k l hl n 0 p hn)).trans ?_
  rw [hw0, hw1, hw2]
  simp only [d3F, ix3_0, ix3_1, ix3_2, ha]
  rfl

theorem piece_b (ha : a.val = 1) :
    k0_pay1 (F := Ideal) (k0_pay20 (k0_pay12 (iblk m c 6 t)) (k0_pay13 (iblk m c 0 t) (iblk m c 2 t))
        (k0_pay15 (grid0.coords t) (iblk m c 0 t) (iblk m c 2 t) (iblk m c 4 t) (iblk m c 3 t))
        (k0_pay16 (grid0.coords t) (iblk m c 0 t) (iblk m c 2 t) (iblk m c 4 t) (iblk m c 3 t)) w0 w1 w2) (ix3 z p k)
      = d3F (m ((c : Thread nD τ).loc main_arg0)) W (m ((c : Thread nD τ).loc main_arg2)) (ix3 a n l) := by
  pointwise [k0_pay1, k0_pay20, k0_pay12]
  refine (Ideal.mul_congr (blk6 m c t k l hl n 0 p hn) (Ideal.add_congr (Ideal.add_congr
    (Ideal.mul_congr hw0 (pay16_apply m c t k l hl n p hn)) (Ideal.mul_congr hw1 (pay15_apply m c t k l hl n p hn)))
    (Ideal.mul_congr hw2 (pay13_apply m c t k l hl n p hn)))).trans ?_
  simp only [d3F, ix3_0, ix3_1, ix3_2, ha]
  rfl
end Pieces

theorem blk8 (c : Dev nD) (t : Fin cfg0.N) (k : Fin 128) (l : Fin 512) (hl : l.val = t.val / 8 * 128 + k.val) (a : Fin 3) :
    (show FVec Ideal S3x128 .f32 from iblk m c 8 t) (ix2 a k) = m ((c : Thread nD τ).loc main_arg1) (ix2 a l) := by
  blk_ext [iblk, V, idx t, hl]

theorem final_d3 (c : Dev nD) : (dats m 0 c).arrAt 9 cfg0.N = d3F (m ((c : Thread nD τ).loc main_arg0)) (m ((c : Thread nD τ).loc main_arg1))
    (m ((c : Thread nD τ).loc main_arg2)) := by
  refine (dats m 0 c).arrAt_eq_of_covers 9 _ (by decide +kernel) fun t _ y => ?_
  blk_simp
  rw [after0_9]
  have ht : t.val < 32 := lt_of_lt_of_eq t.isLt N_0
  have fin (y : S3x1024x128.Idx) : (outsAt0 m c t.val t.isLt).1 y = d3F (m ((c : Thread nD τ).loc main_arg0)) (m ((c : Thread nD τ).loc main_arg1))
      (m ((c : Thread nD τ).loc main_arg2)) (ix3 (y 0) ⟨t.val % 8 * 1024 + (y 1).val, by have : (y 1).val < 1024 := (y 1).isLt; omega⟩
        ⟨t.val / 8 * 128 + (y 2).val, by have : (y 2).val < 128 := (y 2).isLt; omega⟩) := by
    by_cases h8 : t.val % 8 = 0
    · rw [outsAt0_A m c t h8 (by omega)]
      frame_out
      canon_tiles x h
      · refine (congrArg _ (eq_ix3 x)).trans (piece_u m c t (x 0) (x 1) (x 2) (y 0) _ _ _ _ _ _ (congrArg _ h1) (congrArg _ h2) ?_ ?_ ?_ (by omega))
        all_goals (pointwise; exact blk8 m c t (x 2) _ (congrArg _ h2) _)
      · refine (congrArg _ (eq_ix3 x)).trans (piece_b m c t (x 0) (x 1) (x 2) (y 0) _ _ _ _ _ _ (congrArg _ h1) (congrArg _ h2) ?_ ?_ ?_ (by omega))
        all_goals (pointwise; exact blk8 m c t (x 2) _ (congrArg _ h2) _)
      · refine (congrArg _ (eq_ix3 x)).trans (piece_c m c t (x 0) (x 1) (x 2) (y 0) _ _ _ _ _ _ (congrArg _ h1) (congrArg _ h2) ?_ ?_ ?_ (by omega))
        all_goals (pointwise; exact blk8 m c t (x 2) _ (congrArg _ h2) _)
    · rw [outsAt0_B m c t h8 (by omega)]
      frame_out
      canon_tiles x h
      · refine (congrArg _ (eq_ix3 x)).trans (piece_u m c t (x 0) (x 1) (x 2) (y 0) _ _ _ _ _ _ (congrArg _ h1) (congrArg _ h2) ?_ ?_ ?_ (by omega))
        all_goals (pointwise; exact blk8 m c t (x 2) _ (congrArg _ h2) _)
      · refine (congrArg _ (eq_ix3 x)).trans (piece_b m c t (x 0) (x 1) (x 2) (y 0) _ _ _ _ _ _ (congrArg _ h1) (congrArg _ h2) ?_ ?_ ?_ (by omega))
        all_goals (pointwise; exact blk8 m c t (x 2) _ (congrArg _ h2) _)
      · refine (congrArg _ (eq_ix3 x)).trans (piece_c m c t (x 0) (x 1) (x 2) (y 0) _ _ _ _ _ _ (congrArg _ h1) (congrArg _ h2) ?_ ?_ ?_ (by omega))
        all_goals (pointwise; exact blk8 m c t (x 2) _ (congrArg _ h2) _)
  refine (fin y).trans ?_
  blk_ext [idx t]

section Taps
variable (c : Dev nD) (t : Fin cfg0.N)

/-- One tile's part of the weights' gradient. -/
def tapT (j : S3x128.Idx) : EReal := ∑ p : Fin 1024,
  gd (m ((c : Thread nD τ).loc main_arg0)) (m ((c : Thread nD τ).loc main_arg2)) 0 ⟨t.val % 8 * 1024 + p.val, by omega⟩
      ⟨t.val / 8 * 128 + (j 1).val, by have : (j 1).val < 128 := (j 1).isLt; have := lt_of_lt_of_eq t.isLt N_0; omega⟩
    * zd (m ((c : Thread nD τ).loc main_arg0)) (2 - (j 0).val) ⟨t.val % 8 * 1024 + p.val, by omega⟩
      ⟨t.val / 8 * 128 + (j 1).val, by have : (j 1).val < 128 := (j 1).isLt; have := lt_of_lt_of_eq t.isLt N_0; omega⟩

theorem tap0 (z : Fin 1) (k : Fin 128) (j : S3x128.Idx) (h0 : (j 0).val = 2) (h1 : (j 1).val = k.val) :
    k0_pay5 (F := Ideal) (k0_pay13 (iblk m c 0 t) (iblk m c 2 t)) (k0_pay17 (k0_pay10 (iblk m c 1 t)) (k0_pay12 (iblk m c 6 t))) (ix2 z k) = tapT m c t j := by
  pointwise [k0_pay5]
  unfold tapT
  rw [h0]
  refine Finset.sum_congr rfl fun p _ => Ideal.mul_congr (pay17_apply m c t k _ ?_ _ p rfl) (pay13_apply m c t k _ ?_ _ p rfl)
  all_goals simp only [h1]

theorem tap1 (z : Fin 1) (k : Fin 128) (j : S3x128.Idx) (h0 : (j 0).val = 1) (h1 : (j 1).val = k.val) :
    k0_pay4 (F := Ideal) (k0_pay15 (grid0.coords t) (iblk m c 0 t) (iblk m c 2 t) (iblk m c 4 t) (iblk m c 3 t)) (k0_pay17 (k0_pay10 (iblk m c 1 t)) (k0_pay12 (iblk m c 6 t))) (ix2 z k) = tapT m c t j := by
  pointwise [k0_pay4]
  unfold tapT
  rw [h0]
  refine Finset.sum_congr rfl fun p _ => Ideal.mul_congr (pay17_apply m c t k _ ?_ _ p rfl) (pay15_apply m c t k _ ?_ _ p rfl)
  all_goals simp only [h1]

theorem tap2 (z : Fin 1) (k : Fin 128) (j : S3x128.Idx) (h0 : (j 0).val = 0) (h1 : (j 1).val = k.val) :
    k0_pay3 (F := Ideal) (k0_pay16 (grid0.coords t) (iblk m c 0 t) (iblk m c 2 t) (iblk m c 4 t) (iblk m c 3 t)) (k0_pay17 (k0_pay10 (iblk m c 1 t)) (k0_pay12 (iblk m c 6 t))) (ix2 z k) = tapT m c t j := by
  pointwise [k0_pay3]
  unfold tapT
  rw [h0]
  refine Finset.sum_congr rfl fun p _ => Ideal.mul_congr (pay17_apply m c t k _ ?_ _ p rfl) (pay16_apply m c t k _ ?_ _ p rfl)
  all_goals simp only [h1]

end Taps

theorem outs_A (c : Dev nD) (t : Fin cfg0.N) (h : t.val % 8 = 0) (j : S3x128.Idx) : (outsAt0 m c t.val t.isLt).2 j = 0 + tapT m c t j := by
  rw [outsAt0_A m c t h (by omega)]; frame_out; rw [zero_add]; canon_tiles x h
  · exact (congrArg _ (eq_ix2 x)).trans (tap0 m c t (x 0) (x 1) j (by omega) h1)
  · exact (congrArg _ (eq_ix2 x)).trans (tap1 m c t (x 0) (x 1) j (by omega) h1)
  · exact (congrArg _ (eq_ix2 x)).trans (tap2 m c t (x 0) (x 1) j (by omega) h1)

theorem outs_B (c : Dev nD) (t : Fin cfg0.N) (h : ¬ t.val % 8 = 0) (j : S3x128.Idx) : (outsAt0 m c t.val t.isLt).2 j
    = (outsAt0 m c (t.val - 1) (Nat.lt_of_le_of_lt (Nat.sub_le _ _) t.isLt)).2 j + tapT m c t j := by
  rw [outsAt0_B m c t h (by omega)]; frame_out
  canon_tiles x h
  · pointwise [k0_pay8]
    refine Ideal.add_congr ?_ ((congrArg _ (eq_ix2 x)).trans (tap0 m c t (x 0) (x 1) j (by omega) h1))
    blk_ext
  · pointwise [k0_pay7]
    refine Ideal.add_congr ?_ ((congrArg _ (eq_ix2 x)).trans (tap1 m c t (x 0) (x 1) j (by omega) h1))
    blk_ext
  · pointwise [k0_pay6]
    refine Ideal.add_congr ?_ ((congrArg _ (eq_ix2 x)).trans (tap2 m c t (x 0) (x 1) j (by omega) h1))
    blk_ext

theorem taps_sum (c : Dev nD) (b : ℕ) (hb : b < 4) (h : ∀ s : Fin 8, 8 * b + s.val < cfg0.N) (y : S3x128.Idx) :
    ∑ s : Fin 8, tapT m c ⟨8 * b + s.val, h s⟩ y = dwF (m ((c : Thread nD τ).loc main_arg0)) (m ((c : Thread nD τ).loc main_arg2))
      (ix2 (y 0) ⟨b * 128 + (y 1).val, by have : (y 1).val < 128 := (y 1).isLt; omega⟩) := by
  unfold dwF tapT
  refine Fin.sum_mul_add_congr fun s k hl => ?_
  have e1 : (8 * b + s.val) / 8 = b := by omega
  have e2 : (8 * b + s.val) % 8 = s.val := by omega
  simp only [e1, e2]
  rfl

theorem final_dw (c : Dev nD) : (dats m 0 c).arrAt 10 cfg0.N = dwF (m ((c : Thread nD τ).loc main_arg0)) (m ((c : Thread nD τ).loc main_arg2)) := by
  refine (dats m 0 c).arrAt_eq_of_covers 10 _ (by decide +kernel) fun t hf y => ?_
  blk_simp
  rw [after0_10, Pipeline.eq_sum_fin_of_reset_step_apply_of_flush (fun n h => (outsAt0 m c n h).2) 8 (fun _ => 0)
    (fun t j => tapT m c t j) (outs_A m c) (outs_B m c)
    t ((flush0_10 t).mp hf) _, zero_add]
  have ht : t.val < 32 := lt_of_lt_of_eq t.isLt N_0
  refine (taps_sum m c (t.val / 8) (by omega) (fun s => Pipeline.run_point_lt_of_flush t ((flush0_10 t).mp hf) s) y).trans ?_
  blk_ext [idx t]

end Cert.ConvIdeal.Hand

namespace Cert.ConvRefIdeal.Hand
open Cert.ConvRefIdeal Cert.ConvRefIdeal.Gen Cert.ConvRefIdeal.Read Idealize.ShloMosaic Idealize.ShloMosaic.TcCoe Idealize.SL.Sem
open Cert.K Cert.ConvIdeal.Hand

variable (X : FVec Ideal S8192x5120 .f32) (W : FVec Ideal S3x512 .f32) (Y : FVec Ideal S3x8192x512 .f32)

theorem v6_apply (z : Fin 1) (n : Fin 8192) (k : Fin 512) : val_main_v6 (F := Ideal) X (ix3 z n k) = zd X 0 n k := by
  pointwise [val_main_v0, val_main_v1, val_main_v2, val_main_v3, val_main_v4, val_main_v5, val_main_v6]
  simp [zd, colAt]

theorem v38_apply (z : Fin 1) (n : Fin 8192) (k : Fin 512) : val_main_v38 (F := Ideal) X Y (ix3 z n k) = gd X Y 0 n k := by
  pointwise [val_main_v4, val_main_v1, val_main_v35, val_main_v36, val_main_v37, val_main_v38]
  rw [mul_comm]
  simp [gd, colAt]

theorem v9_apply (z : Fin 1) (n : Fin 8192) (q : Fin 8194) (k : Fin 512) (d : ℕ) (hq : q.val + d = n.val + 2) (hd : d ≤ 2) :
    val_main_v9 (F := Ideal) X (ix3 z q k) = zd X d n k := by
  pointwise [val_main_v9, val_main_v8, val_main_cst]
  by_cases h : q.val < 2
  · rw [dif_pos h, zd, if_neg (by omega)]
  · rw [dif_neg h, v6_apply]
    simp only [zd, if_pos (show d ≤ n.val by omega), if_pos (Nat.zero_le _)]
    congr 2 <;> exact Fin.ext (by simp only; omega)

/-- The gradient `d` rows down is the gradient itself, read `d` rows down where there is such a row. -/
theorem gd_shift (w : EReal) (d : ℕ) (n : Fin 8192) (k : Fin 512) :
    w * gd X Y d n k = if h : n.val + d < 8192 then w * gd X Y 0 ⟨n.val + d, h⟩ k else 0 := by
  by_cases h : n.val + d < 8192
  · rw [dif_pos h]
    simp [gd, h]
  · simp [gd, h]

theorem v72_apply (z : Fin 1) (n : Fin 8192) (k : Fin 512) : val_main_v72 (F := Ideal) X W Y (ix3 z n k)
    = W (ix2 2 k) * gd X Y 0 n k + W (ix2 1 k) * gd X Y 1 n k + W (ix2 0 k) * gd X Y 2 n k := by
  pointwise [val_main_v72, val_main_v67, val_main_v66, val_main_v61, val_main_v60, val_main_v14, val_main_v12, val_main_v11, val_main_v56, val_main_v46, val_main_v55, val_main_v41, val_main_v50, val_main_v49, val_main_v22, val_main_v20, val_main_v19,
    val_main_v40, val_main_v29, val_main_v27, val_main_v26, val_main_cst_4, val_main_cst_8, val_main_cst_12]
  simp only [v38_apply]
  rw [gd_shift X Y _ 1, gd_shift X Y _ 2]
  congr 1
  · congr 1
    by_cases h : n.val + 1 < 8192
    · rw [dif_pos h, dif_pos (by omega)]
      congr 2
      exact Fin.ext (by simp only; omega)
    · rw [dif_neg h, dif_neg (by omega)]
  · by_cases h : n.val + 2 < 8192
    · rw [dif_pos h, dif_pos (by omega)]
      congr 2
      exact Fin.ext (by simp only; omega)
    · rw [dif_neg h, dif_neg (by omega)]

theorem v32_apply (z : Fin 1) (n : Fin 8192) (k : Fin 512) : val_main_v32 (F := Ideal) X W (ix3 z n k)
    = W (ix2 0 k) * zd X 2 n k + W (ix2 1 k) * zd X 1 n k + W (ix2 2 k) * zd X 0 n k := by
  pointwise [val_main_v11, val_main_v12, val_main_v13, val_main_v14, val_main_v15, val_main_v16, val_main_cst_1, val_main_v17, val_main_v18, val_main_v19, val_main_v20, val_main_v21, val_main_v22, val_main_v23, val_main_v24, val_main_v25, val_main_v26, val_main_v27, val_main_v28, val_main_v29, val_main_v30, val_main_v31, val_main_v32]
  rw [v9_apply X 0 n _ k 2 (by simp only) (by norm_num), v9_apply X 0 n _ k 1 (by simp only; omega) (by norm_num),
    v9_apply X 0 n _ k 0 (by simp only; omega) (by norm_num)]

theorem d3_eq : val_main_v82 (F := Ideal) X W Y = d3F X W Y := by
  funext i
  have h (a : Fin 3) (n : Fin 8192) (k : Fin 512) : val_main_v82 (F := Ideal) X W Y (ix3 a n k) = d3F X W Y (ix3 a n k) := by
    pointwise [val_main_v82, val_main_v81, val_main_v80, val_main_v79, val_main_v78, val_main_v77, val_main_v76, val_main_v75, val_main_v74, val_main_v73, val_main_v39,
      val_main_cst_14, val_main_cst_15, val_main_cst_16, val_main_v5, val_main_v3, val_main_v2, val_main_v0, val_main_v37, val_main_v36, val_main_v35]
    simp only [Finset.univ_unique, Finset.sum_singleton, v72_apply, v32_apply]
    unfold d3F
    fin_vals a with ha
    all_goals simp only [ix3_0, ix3_1, ix3_2, ha]
    · exact mul_comm _ _
    · rfl
    · simp only [colAt]
      norm_num
  exact (congrArg _ (eq_ix3 i)).trans ((h (i 0) (i 1) (i 2)).trans (congrArg _ (eq_ix3 i).symm))

/-- Adding up along two axes of one element leaves the element. -/
theorem reduce_units {n : ℕ} (h : (⟨3, ![1, 1, n]⟩ : Shape).ReducesTo [0, 1] ⟨1, ![n]⟩) (v : (⟨3, ![1, 1, n]⟩ : Shape).Idx → EReal) (init : EReal) (k : Fin n) :
    Ideal.hostReduceAdd h v init (ix1 k) = init + v (ix3 0 0 k) := by
  refine congrArg (init + ·) ?_
  refine Finset.sum_eq_single_of_mem (ix3 0 0 k) ?_ ?_
  · refine Finset.mem_filter.2 ⟨Finset.mem_univ _, ?_⟩
    funext b
    apply Fin.ext
    match b with
    | ⟨0, _⟩ => rfl
  · intro i hi hne
    refine absurd ?_ hne
    have e := (Finset.mem_filter.1 hi).2
    funext a
    apply Fin.ext
    match a with
    | ⟨0, _⟩ => exact Nat.lt_one_iff.1 (i 0).isLt
    | ⟨1, _⟩ => exact Nat.lt_one_iff.1 (i 1).isLt
    | ⟨2, _⟩ => exact congrArg Fin.val (congrFun e 0)

theorem tap_eq (a : Fin 3) (k : Fin 512) (d : ℕ) (hd : d = 2 - a.val) (v : FVec Ideal S1x8192x512 .f32) (hv : ∀ n : Fin 8192, v (ix3 0 n k) = zd X d n k) :
    ∑ n : Fin 8192, val_main_v38 (F := Ideal) X Y (ix3 0 n k) * v (ix3 0 n k) = (show FVec Ideal S3x512 .f32 from dwF X Y) (ix2 a k) := by
  subst hd
  exact Finset.sum_congr rfl fun n _ => Ideal.mul_congr (v38_apply X Y 0 n k) (hv n)

theorem dw_eq : val_main_v70 (F := Ideal) X Y = dwF X Y := by
  funext i
  have h (a : Fin 3) (k : Fin 512) : val_main_v70 (F := Ideal) X Y (ix2 a k) = (show FVec Ideal S3x512 .f32 from dwF X Y) (ix2 a k) := by
    pointwise [val_main_v42, val_main_v43, val_main_v44, val_main_v45, val_main_v47, val_main_v48, val_main_v51, val_main_v52, val_main_v53, val_main_v54, val_main_v57,
      val_main_v58, val_main_v59, val_main_v62, val_main_v63, val_main_v64, val_main_v65, val_main_v68, val_main_v69, val_main_v70, val_main_cst_2, val_main_cst_3, val_main_cst_5, val_main_cst_6, val_main_cst_7,
      val_main_cst_9, val_main_cst_10, val_main_cst_11, val_main_cst_13]
    have t0 := tap_eq X Y 0 k 2 rfl (val_main_v13 (F := Ideal) X) fun n => by
      pointwise [val_main_v13]; exact v9_apply X 0 n _ k 2 (by simp only) (by norm_num)
    have t1 := tap_eq X Y 1 k 1 rfl (val_main_v21 (F := Ideal) X) fun n => by
      pointwise [val_main_v21]; exact v9_apply X 0 n _ k 1 (by simp only; omega) (by norm_num)
    have t2 := tap_eq X Y 2 k 0 rfl (val_main_v28 (F := Ideal) X) fun n => by
      pointwise [val_main_v28]; exact v9_apply X 0 n _ k 0 (by simp only; omega) (by norm_num)
    simp only [reduce_units]
    pointwise
    match a with
    | ⟨0, _⟩ => exact (by simp : ∀ s : EReal, ((0 : EReal) + 0) + s = s) _ |>.trans t0
    | ⟨1, _⟩ => exact (by simp : ∀ s : EReal, ((0 : EReal) + s) + 0 = s) _ |>.trans t1
    | ⟨2, _⟩ => exact (by simp : ∀ s : EReal, (s + 0) + 0 = s) _ |>.trans t2
  exact (congrArg _ (eq_ix2 i)).trans ((h (i 0) (i 1)).trans (congrArg _ (eq_ix2 i).symm))
end Cert.ConvRefIdeal.Hand

namespace Cert.Proof.ConvGrad
open Idealize.ShloMosaic Idealize.ShloMosaic.TcCoe Idealize.SL.Sem

/-- The reference keeps its arguments and declares no semaphore. -/
theorem refFrame : Cert.quiescent_ConvRefIdeal := fun m g _ =>
  (θ_run Cert.ConvRefIdeal.defs _ _).mono (fun r h => ⟨fun c => (h c).2.2, sem_eq_zero_of_no_sems (by decide) r.2⟩)
    (Cert.ConvRefIdeal.Value.run (F := Ideal) m g)

/-- Kernel and reference end with the same gradients, whatever the arguments. -/
theorem algebraic : Cert.algebraic_ConvIdeal_ConvRefIdeal := by
  pair_intro
  · run_from Cert.ConvIdeal.Value.run_blocks m g
  · run_from Cert.ConvRefIdeal.Value.run m' g'
    · refine (Cert.ConvRefIdeal.Read.val_main_v82_eq m' c).trans ?_
      rw [(hagree c).1, (hagree c).2.1, (hagree c).2.2]
      exact (Cert.ConvRefIdeal.Hand.d3_eq _ _ _).trans (Cert.ConvIdeal.Hand.final_d3 m _).symm
    · refine (Cert.ConvRefIdeal.Read.val_main_v70_eq m' c).trans ?_
      rw [(hagree c).1, (hagree c).2.2]
      exact (Cert.ConvRefIdeal.Hand.dw_eq _ _).trans (Cert.ConvIdeal.Hand.final_dw m _).symm

end Cert.Proof.ConvGrad

end
-- ==== Proof.MergeGrad.lean ====
module

public import proofs.«01_k».proof.Defs
public import proofs.«01_k».proof.Proof.Basic
public import proofs.«01_k».proof.Proof.Gen.MergeIdeal.Value
public import proofs.«01_k».proof.Proof.Gen.MergeRefIdeal.Run
public import proofs.«01_k».proof.Proof.Gen.MergeRefIdeal.Read
public import Idealize.ShloMosaic.Lib.Pipeline.ValueKit
public import Idealize.ShloMosaic.Lib.Pointwise
public import Idealize.ShloMosaic.Lib.Claim
public import Idealize.ShloMosaic.Adequacy
public import Idealize.ShloMosaic.Init

@[expose] public section

set_option maxRecDepth 16384

noncomputable section

namespace Cert.MergeIdeal.Hand

open Cert.MergeIdeal Cert.MergeIdeal.Gen Idealize.ShloMosaic Idealize.ShloMosaic.TcCoe Idealize.SL.Sem
open Idealize.ShloMosaic.Pipeline (Dat)
open Cert.K

variable (m : (ℓ : Loc nD τ sig) → Buf (Elt Ideal) ℓ) (ρ : Dev nD → PrngReg)

theorem idx : ∀ t : Fin cfg0.N, win0_0.index t = ![t.val, 0] ∧ win0_1.index t = ![0, t.val, 0] ∧ win0_2.index t = ![0, t.val, 0]
    ∧ win0_3.index t = ![0, 0, 0] ∧ win0_4.index t = ![0, 0, 0] ∧ win0_5.index t = ![0, t.val, 0] ∧ win0_6.index t = ![0, t.val, 0]
    ∧ win0_7.index t = ![0, t.val, 0] ∧ win0_8.index t = ![t.val, 0] :=
  (by decide +kernel : ∀ t : Fin grid0.N, _)

/-- The gate's argument, a branch's share of the hidden row. -/
def gateArg (H : S8192x1024.Idx → EReal) (W : S3x1024x1024.Idx → EReal) (b : Fin 3) (n : Fin 8192) (j : Fin 1024) : EReal :=
  ∑ k : Fin 1024, H (ix2 n k) * W (ix3 b k j)

/-- The gate: the logistic function of its argument. -/
def gate (H : S8192x1024.Idx → EReal) (W : S3x1024x1024.Idx → EReal) (b : Fin 3) (n : Fin 8192) (j : Fin 1024) : EReal :=
  Ideal.div 1 (1 + Ideal.exp (-gateArg H W b n j))

/-- A branch's projection. -/
def proj (Y : Fin 3 → S8192x512.Idx → EReal) (B : S3x512x1024.Idx → EReal) (b : Fin 3) (n : Fin 8192) (j : Fin 1024) : EReal :=
  ∑ k : Fin 512, Y b (ix2 n k) * B (ix3 b k j)

/-- The gradient of a gate's argument. -/
def dgAt (H : S8192x1024.Idx → EReal) (Y : Fin 3 → S8192x512.Idx → EReal) (W : S3x1024x1024.Idx → EReal) (B : S3x512x1024.Idx → EReal)
    (D : S8192x1024.Idx → EReal) (b : Fin 3) (n : Fin 8192) (j : Fin 1024) : EReal :=
  D (ix2 n j) * proj Y B b n j * gate H W b n j * (1 - gate H W b n j)

/-- The gradient of a branch's projection. -/
def dpAt (H : S8192x1024.Idx → EReal) (W : S3x1024x1024.Idx → EReal)
    (D : S8192x1024.Idx → EReal) (b : Fin 3) (n : Fin 8192) (j : Fin 1024) : EReal :=
  D (ix2 n j) * gate H W b n j

/-- The gradient of a branch's output. -/
def dyAt (H : S8192x1024.Idx → EReal) (W : S3x1024x1024.Idx → EReal) (B : S3x512x1024.Idx → EReal)
    (D : S8192x1024.Idx → EReal) (b : Fin 3) (n : Fin 8192) (j : Fin 512) : EReal :=
  ∑ k : Fin 1024, dpAt H W D b n k * B (ix3 b j k)

/-- A branch's share of the gradient of the hidden row. -/
def dhAt (H : S8192x1024.Idx → EReal) (Y : Fin 3 → S8192x512.Idx → EReal) (W : S3x1024x1024.Idx → EReal) (B : S3x512x1024.Idx → EReal)
    (D : S8192x1024.Idx → EReal) (b : Fin 3) (n : Fin 8192) (j : Fin 1024) : EReal :=
  ∑ k : Fin 1024, dgAt H Y W B D b n k * W (ix3 b j k)

/-- The three branches' outputs. -/
abbrev ys (c : Dev nD) : Fin 3 → S8192x512.Idx → EReal :=
  ![m ((c : Thread nD τ).loc main_arg1), m ((c : Thread nD τ).loc main_arg2), m ((c : Thread nD τ).loc main_arg3)]

theorem gate_apply (c : Dev nD) (b : Fin 3) (n : Fin 8192) (j : Fin 1024) :
    (show FVec Ideal S3x8192x1024 .bf16 from V m c main_v23) (ix3 b n j)
      = gate (m ((c : Thread nD τ).loc main_arg0)) (m ((c : Thread nD τ).loc main_arg4)) b n j := by
  unfold V
  after_results
  pointwise
  refine congrArg (fun s => Ideal.div 1 (1 + Ideal.exp (-s))) ?_
  fin_vals b with hs
  all_goals simp only [hs, Nat.reduceSub, Nat.reduceLT, ↓reduceDIte]
  all_goals (simp only [↓ StableHlo.readResult]; pointwise)
  all_goals (refine Finset.sum_congr rfl fun k _ => Ideal.mul_congr rfl ?_; blk_ext [hs])

theorem proj_apply (c : Dev nD) (b : Fin 3) (n : Fin 8192) (j : Fin 1024) :
    (show FVec Ideal S3x8192x1024 .bf16 from V m c main_v40) (ix3 b n j)
      = proj (ys m c) (m ((c : Thread nD τ).loc main_arg5)) b n j := by
  unfold V
  after_results
  pointwise
  fin_cases b
  all_goals simp only [Nat.reduceSub, Nat.reduceLT, ↓reduceDIte]
  all_goals (simp only [↓ StableHlo.readResult]; pointwise)
  all_goals (refine Finset.sum_congr rfl fun k _ => Ideal.mul_congr rfl ?_; blk_ext [])

theorem dm_apply (c : Dev nD) (i : S8192x1024.Idx) :
    (show FVec Ideal S8192x1024 .bf16 from V m c main_v41) i = m ((c : Thread nD τ).loc main_arg6) i := by
  unfold V
  after_results
  rfl

theorem w_apply (c : Dev nD) (i : S3x1024x1024.Idx) :
    (show FVec Ideal S3x1024x1024 .bf16 from V m c main_v1) i = m ((c : Thread nD τ).loc main_arg4) i := by
  unfold V
  after_results
  rfl

theorem wb_apply (c : Dev nD) (b : Fin 3) (j : Fin 1024) (k : Fin 512) :
    (show FVec Ideal S3x1024x512 .bf16 from V m c main_v3) (ix3 b j k) = m ((c : Thread nD τ).loc main_arg5) (ix3 b k j) := by
  unfold V
  after_results
  pointwise

section Blocks
variable (c : Dev nD) (t : Fin cfg0.N) (b : Fin 3) (p : Fin 512) (n : Fin 8192) (hn : n.val = t.val * 512 + p.val)
include hn

theorem blk0 (k : Fin 1024) : (show FVec Ideal S512x1024 .bf16 from iblk m c 0 t) (ix2 p k) = m ((c : Thread nD τ).loc main_arg6) (ix2 n k) := by
  refine Eq.trans ?_ (dm_apply m c (ix2 n k))
  blk_ext [iblk, idx t, hn]

theorem blk1 (k : Fin 1024) : (show FVec Ideal S3x512x1024 .bf16 from iblk m c 1 t) (ix3 b p k)
    = gate (m ((c : Thread nD τ).loc main_arg0)) (m ((c : Thread nD τ).loc main_arg4)) b n k := by
  refine Eq.trans ?_ (gate_apply m c b n k)
  blk_ext [iblk, idx t, hn]

theorem blk2 (k : Fin 1024) : (show FVec Ideal S3x512x1024 .bf16 from iblk m c 2 t) (ix3 b p k)
    = proj (ys m c) (m ((c : Thread nD τ).loc main_arg5)) b n k := by
  refine Eq.trans ?_ (proj_apply m c b n k)
  blk_ext [iblk, idx t, hn]
omit hn

theorem blk3 (j k : Fin 1024) : (show FVec Ideal S3x1024x1024 .bf16 from iblk m c 3 t) (ix3 b j k) = m ((c : Thread nD τ).loc main_arg4) (ix3 b j k) := by
  refine Eq.trans ?_ (w_apply m c (ix3 b j k))
  blk_ext [iblk, idx t]

theorem blk4 (j : Fin 1024) (k : Fin 512) : (show FVec Ideal S3x1024x512 .bf16 from iblk m c 4 t) (ix3 b j k) = m ((c : Thread nD τ).loc main_arg5) (ix3 b k j) := by
  refine Eq.trans ?_ (wb_apply m c b j k)
  blk_ext [iblk, idx t]
include hn

section Points
variable (a : Fin 3) (ha : a.val = b.val) (k l : Fin 1024) (hl : l.val = k.val)
include ha hl

/-- What a point stores of a gate's gradient. -/
theorem dg_point :
    (show FVec Ideal S512x1024 .bf16 from iblk m c 0 t) (ix2 p k) * (show FVec Ideal S3x512x1024 .bf16 from iblk m c 2 t) (ix3 b p k)
      * (show FVec Ideal S3x512x1024 .bf16 from iblk m c 1 t) (ix3 b p k) * (1 - (show FVec Ideal S3x512x1024 .bf16 from iblk m c 1 t) (ix3 b p k))
    = dgAt (m ((c : Thread nD τ).loc main_arg0)) (ys m c) (m ((c : Thread nD τ).loc main_arg4)) (m ((c : Thread nD τ).loc main_arg5))
        (m ((c : Thread nD τ).loc main_arg6)) a n l := by
  rw [blk0 m c t p n hn, blk1 m c t b p n hn, blk2 m c t b p n hn, Fin.ext ha, Fin.ext hl]
  rfl

/-- What a point stores of a projection's gradient. -/
theorem dp_point :
    (show FVec Ideal S512x1024 .bf16 from iblk m c 0 t) (ix2 p k) * (show FVec Ideal S3x512x1024 .bf16 from iblk m c 1 t) (ix3 b p k)
    = dpAt (m ((c : Thread nD τ).loc main_arg0)) (m ((c : Thread nD τ).loc main_arg4)) (m ((c : Thread nD τ).loc main_arg6)) a n l := by
  rw [blk0 m c t p n hn, blk1 m c t b p n hn, Fin.ext ha, Fin.ext hl]
  rfl

omit hl in
/-- What a point stores of a branch's gradient. -/
theorem dy_point (k l : Fin 512) (hl : l.val = k.val) :
    ∑ j : Fin 1024, (show FVec Ideal S512x1024 .bf16 from iblk m c 0 t) (ix2 p j) * (show FVec Ideal S3x512x1024 .bf16 from iblk m c 1 t) (ix3 b p j)
      * (show FVec Ideal S3x1024x512 .bf16 from iblk m c 4 t) (ix3 b j k)
    = dyAt (m ((c : Thread nD τ).loc main_arg0)) (m ((c : Thread nD τ).loc main_arg4)) (m ((c : Thread nD τ).loc main_arg5)) (m ((c : Thread nD τ).loc main_arg6)) a n l :=
  Finset.sum_congr rfl fun j _ => Ideal.mul_congr (dp_point m c t b p n hn a ha j j rfl) (by rw [blk4 m c t, Fin.ext ha, Fin.ext hl])
end Points

/-- A branch's share of what a point stores of the hidden row's gradient. -/
theorem dh_point (k : Fin 1024) :
    ∑ j : Fin 1024, (show FVec Ideal S512x1024 .bf16 from iblk m c 0 t) (ix2 p j) * (show FVec Ideal S3x512x1024 .bf16 from iblk m c 2 t) (ix3 b p j)
      * (show FVec Ideal S3x512x1024 .bf16 from iblk m c 1 t) (ix3 b p j) * (1 - (show FVec Ideal S3x512x1024 .bf16 from iblk m c 1 t) (ix3 b p j))
      * (show FVec Ideal S3x1024x1024 .bf16 from iblk m c 3 t) (ix3 b k j)
    = dhAt (m ((c : Thread nD τ).loc main_arg0)) (ys m c) (m ((c : Thread nD τ).loc main_arg4)) (m ((c : Thread nD τ).loc main_arg5))
        (m ((c : Thread nD τ).loc main_arg6)) b n k :=
  Finset.sum_congr rfl fun j _ => Ideal.mul_congr (dg_point m c t b p n hn b rfl j j rfl) (blk3 m c t b k j)
end Blocks

/-! ### The results as functions of the arguments -/

def dgF (H : S8192x1024.Idx → EReal) (Y : Fin 3 → S8192x512.Idx → EReal) (W : S3x1024x1024.Idx → EReal) (B : S3x512x1024.Idx → EReal)
    (D : S8192x1024.Idx → EReal) : FVec Ideal S3x8192x1024 .bf16 := fun i => dgAt H Y W B D (i 0) (i 1) (i 2)
def dpF (H : S8192x1024.Idx → EReal) (W : S3x1024x1024.Idx → EReal)
    (D : S8192x1024.Idx → EReal) : FVec Ideal S3x8192x1024 .bf16 := fun i => dpAt H W D (i 0) (i 1) (i 2)
def dyF (H : S8192x1024.Idx → EReal) (W : S3x1024x1024.Idx → EReal) (B : S3x512x1024.Idx → EReal)
    (D : S8192x1024.Idx → EReal) : FVec Ideal S3x8192x512 .bf16 := fun i => dyAt H W B D (i 0) (i 1) (i 2)
def dhF (H : S8192x1024.Idx → EReal) (Y : Fin 3 → S8192x512.Idx → EReal) (W : S3x1024x1024.Idx → EReal) (B : S3x512x1024.Idx → EReal)
    (D : S8192x1024.Idx → EReal) : FVec Ideal S8192x1024 .f32 := fun i => ∑ b : Fin 3, dhAt H Y W B D b (i 0) (i 1)

theorem final_dg (c : Dev nD) : (dats m 0 c).arrAt 5 cfg0.N = dgF (m ((c : Thread nD τ).loc main_arg0)) (ys m c) (m ((c : Thread nD τ).loc main_arg4))
    (m ((c : Thread nD τ).loc main_arg5)) (m ((c : Thread nD τ).loc main_arg6)) := by
  refine (dats m 0 c).arrAt_eq_of_covers 5 _ (by decide +kernel) fun t _ y => ?_
  blk_simp
  rw [after0_5]
  have ht : t.val < 16 := lt_of_lt_of_eq t.isLt N_0
  have fin (y : S3x512x1024.Idx) : (out0_5 (F := Ideal) (iblk m c 0 t) (iblk m c 1 t) (iblk m c 2 t) (iblk m c 3 t) (iblk m c 4 t)) y
      = dgF (m ((c : Thread nD τ).loc main_arg0)) (ys m c) (m ((c : Thread nD τ).loc main_arg4))
    (m ((c : Thread nD τ).loc main_arg5)) (m ((c : Thread nD τ).loc main_arg6))
        (ix3 (y 0) ⟨t.val * 512 + (y 1).val, by have : (y 1).val < 512 := (y 1).isLt; omega⟩ (y 2)) := by
    frame_out
    canon_tiles x h
    all_goals (refine (congrArg _ (eq_ix3 x)).trans ?_; pointwise [k0_pay25, k0_pay7, k0_pay14, k0_pay21, k0_pay5, k0_pay12, k0_pay19, k0_pay2, k0_pay4, k0_pay11, k0_pay18])
    all_goals exact dg_point m c t _ (x 1) _ (congrArg (t.val * 512 + ·) h1) (y 0) (by simp only [Fin.val_zero, Fin.val_one, Fin.val_two]; omega) (x 2) (y 2) h2
  refine (fin y).trans ?_
  blk_ext [idx t]

theorem final_dp (c : Dev nD) : (dats m 0 c).arrAt 6 cfg0.N = dpF (m ((c : Thread nD τ).loc main_arg0)) (m ((c : Thread nD τ).loc main_arg4)) (m ((c : Thread nD τ).loc main_arg6)) := by
  refine (dats m 0 c).arrAt_eq_of_covers 6 _ (by decide +kernel) fun t _ y => ?_
  blk_simp
  rw [after0_6]
  have ht : t.val < 16 := lt_of_lt_of_eq t.isLt N_0
  have fin (y : S3x512x1024.Idx) : (out0_6 (F := Ideal) (iblk m c 0 t) (iblk m c 1 t) (iblk m c 2 t) (iblk m c 3 t) (iblk m c 4 t)) y
      = dpF (m ((c : Thread nD τ).loc main_arg0)) (m ((c : Thread nD τ).loc main_arg4)) (m ((c : Thread nD τ).loc main_arg6))
        (ix3 (y 0) ⟨t.val * 512 + (y 1).val, by have : (y 1).val < 512 := (y 1).isLt; omega⟩ (y 2)) := by
    frame_out
    canon_tiles x h
    all_goals (refine (congrArg _ (eq_ix3 x)).trans ?_; pointwise [k0_pay25, k0_pay8, k0_pay15, k0_pay22, k0_pay6, k0_pay13, k0_pay20, k0_pay2, k0_pay4, k0_pay11, k0_pay18])
    all_goals exact dp_point m c t _ (x 1) _ (congrArg (t.val * 512 + ·) h1) (y 0) (by simp only [Fin.val_zero, Fin.val_one, Fin.val_two]; omega) (x 2) (y 2) h2
  refine (fin y).trans ?_
  blk_ext [idx t]

theorem final_dy (c : Dev nD) : (dats m 0 c).arrAt 7 cfg0.N = dyF (m ((c : Thread nD τ).loc main_arg0)) (m ((c : Thread nD τ).loc main_arg4))
    (m ((c : Thread nD τ).loc main_arg5)) (m ((c : Thread nD τ).loc main_arg6)) := by
  refine (dats m 0 c).arrAt_eq_of_covers 7 _ (by decide +kernel) fun t _ y => ?_
  blk_simp
  rw [after0_7]
  have ht : t.val < 16 := lt_of_lt_of_eq t.isLt N_0
  have fin (y : S3x512x512.Idx) : (out0_7 (F := Ideal) (iblk m c 0 t) (iblk m c 1 t) (iblk m c 2 t) (iblk m c 3 t) (iblk m c 4 t)) y
      = dyF (m ((c : Thread nD τ).loc main_arg0)) (m ((c : Thread nD τ).loc main_arg4))
    (m ((c : Thread nD τ).loc main_arg5)) (m ((c : Thread nD τ).loc main_arg6))
        (ix3 (y 0) ⟨t.val * 512 + (y 1).val, by have : (y 1).val < 512 := (y 1).isLt; omega⟩ (y 2)) := by
    frame_out
    canon_tiles x h
    all_goals (refine (congrArg _ (eq_ix3 x)).trans ?_; pointwise [k0_pay25, k0_pay9, k0_pay16, k0_pay23, k0_pay6, k0_pay13, k0_pay20, k0_pay2, k0_pay4, k0_pay11, k0_pay18])
    all_goals exact dy_point m c t _ (x 1) _ (congrArg (t.val * 512 + ·) h1) (y 0) (by simp only [Fin.val_zero, Fin.val_one, Fin.val_two]; omega) (x 2) (y 2) h2
  refine (fin y).trans ?_
  blk_ext [idx t]

theorem final_dh (c : Dev nD) : (dats m 0 c).arrAt 8 cfg0.N = dhF (m ((c : Thread nD τ).loc main_arg0)) (ys m c) (m ((c : Thread nD τ).loc main_arg4))
    (m ((c : Thread nD τ).loc main_arg5)) (m ((c : Thread nD τ).loc main_arg6)) := by
  refine (dats m 0 c).arrAt_eq_of_covers 8 _ (by decide +kernel) fun t _ y => ?_
  blk_simp
  rw [after0_8]
  have ht : t.val < 16 := lt_of_lt_of_eq t.isLt N_0
  have fin (p : Fin 512) (k : Fin 1024) : (out0_8 (F := Ideal) (iblk m c 0 t) (iblk m c 1 t) (iblk m c 2 t) (iblk m c 3 t) (iblk m c 4 t)) (ix2 p k)
      = dhF (m ((c : Thread nD τ).loc main_arg0)) (ys m c) (m ((c : Thread nD τ).loc main_arg4))
    (m ((c : Thread nD τ).loc main_arg5)) (m ((c : Thread nD τ).loc main_arg6))
        (ix2 ⟨t.val * 512 + p.val, by omega⟩ k) := by
    frame_out
    pointwise [k0_pay25, k0_pay1, k0_pay17, k0_pay10, k0_pay3, k0_pay24, k0_pay5, k0_pay12, k0_pay19, k0_pay2, k0_pay4, k0_pay11, k0_pay18]
    have e := fun b => dh_point m c t b p ⟨t.val * 512 + p.val, by omega⟩ rfl k
    refine (Ideal.add_congr (Ideal.add_congr (e 0) (e 1)) (e 2)).trans ?_
    simp only [dhF, Fin.sum_univ_three]
    rfl
  refine (congrArg _ (eq_ix2 y)).trans ((fin (y 0) (y 1)).trans ?_)
  blk_ext [idx t]

end Cert.MergeIdeal.Hand

/-! ### The reference -/

namespace Cert.MergeRefIdeal.Hand
open Cert.MergeRefIdeal Cert.MergeRefIdeal.Read Idealize.ShloMosaic Idealize.ShloMosaic.TcCoe Idealize.SL.Sem
open Cert.K Cert.MergeIdeal.Hand

variable (H D : FVec Ideal S8192x1024 .f32) (Y0 Y1 Y2 : FVec Ideal S8192x512 .f32) (W : FVec Ideal S3x1024x1024 .f32) (B : FVec Ideal S3x512x1024 .f32)

theorem gates (n : Fin 8192) (j : Fin 1024) :
    (val_main_v23 (F := Ideal) H W (ix2 n j) = gate H W 0 n j ∧ val_main_v35 (F := Ideal) H W (ix2 n j) = gate H W 1 n j
      ∧ val_main_v46 (F := Ideal) H W (ix2 n j) = gate H W 2 n j)
    ∧ val_main_v71 (F := Ideal) H W (ix2 n j) = gate H W 0 n j ∧ val_main_v89 (F := Ideal) H W (ix2 n j) = gate H W 1 n j
      ∧ val_main_v106 (F := Ideal) H W (ix2 n j) = gate H W 2 n j := by
  refine ⟨⟨?_, ?_, ?_⟩, ?_, ?_, ?_⟩
  · pointwise [val_main_v23, val_main_v22, val_main_cst_0, val_main_v21, val_main_v20, val_main_cst, val_main_v19, val_main_v18, val_main_v2, val_main_v1, val_main_v0]
    rfl
  · pointwise [val_main_v35, val_main_v34, val_main_cst_4, val_main_v33, val_main_v32, val_main_cst_3, val_main_v31, val_main_v30, val_main_v5, val_main_v4, val_main_v3]
    rfl
  · pointwise [val_main_v46, val_main_v45, val_main_cst_7, val_main_v44, val_main_v43, val_main_cst_6, val_main_v42, val_main_v41, val_main_v8, val_main_v7, val_main_v6]
    rfl
  · pointwise [val_main_v71, val_main_v70, val_main_cst_10, val_main_v69, val_main_v68, val_main_cst_9, val_main_v67, val_main_v66, val_main_v65, val_main_v64, val_main_v63]
    rfl
  · pointwise [val_main_v89, val_main_v88, val_main_cst_14, val_main_v87, val_main_v86, val_main_cst_13, val_main_v85, val_main_v84, val_main_v83, val_main_v82, val_main_v81]
    rfl
  · pointwise [val_main_v106, val_main_v105, val_main_cst_17, val_main_v104, val_main_v103, val_main_cst_16, val_main_v102, val_main_v101, val_main_v100, val_main_v99, val_main_v98]
    rfl

theorem projs (n : Fin 8192) (j : Fin 1024) :
    (val_main_v11 (F := Ideal) Y0 B (ix2 n j) = proj ![Y0, Y1, Y2] B 0 n j ∧ val_main_v14 (F := Ideal) Y1 B (ix2 n j) = proj ![Y0, Y1, Y2] B 1 n j
      ∧ val_main_v17 (F := Ideal) Y2 B (ix2 n j) = proj ![Y0, Y1, Y2] B 2 n j)
    ∧ val_main_v77 (F := Ideal) Y0 B (ix2 n j) = proj ![Y0, Y1, Y2] B 0 n j ∧ val_main_v95 (F := Ideal) Y1 B (ix2 n j) = proj ![Y0, Y1, Y2] B 1 n j
      ∧ val_main_v112 (F := Ideal) Y2 B (ix2 n j) = proj ![Y0, Y1, Y2] B 2 n j := by
  refine ⟨⟨?_, ?_, ?_⟩, ?_, ?_, ?_⟩
  · pointwise [val_main_v11, val_main_v10, val_main_v9]
    rfl
  · pointwise [val_main_v14, val_main_v13, val_main_v12]
    rfl
  · pointwise [val_main_v17, val_main_v16, val_main_v15]
    rfl
  · pointwise [val_main_v77, val_main_v76, val_main_v75]
    rfl
  · pointwise [val_main_v95, val_main_v94, val_main_v93]
    rfl
  · pointwise [val_main_v112, val_main_v111, val_main_v110]
    rfl

theorem dg_eq : val_main_v138 (F := Ideal) H Y0 Y1 Y2 W B D = dgF H ![Y0, Y1, Y2] W B D := by
  funext i
  have e (b : Fin 3) (n : Fin 8192) (j : Fin 1024) : val_main_v138 (F := Ideal) H Y0 Y1 Y2 W B D (ix3 b n j) = dgF H ![Y0, Y1, Y2] W B D (ix3 b n j) := by
    obtain ⟨⟨g0, g1, g2⟩, -⟩ := gates H W n j
    obtain ⟨⟨p0, p1, p2⟩, -⟩ := projs Y0 Y1 Y2 B n j
    pointwise [val_main_v138, val_main_v137, val_main_v134, val_main_v135, val_main_v136, val_main_v62, val_main_v59, val_main_v56, val_main_v61, val_main_v58, val_main_v55,
      val_main_v26, val_main_v38, val_main_v49, val_main_v25, val_main_v37, val_main_v48, val_main_v24, val_main_v36, val_main_v47, val_main_cst_1, val_main_cst_5, val_main_cst_8, val_main_v52, val_main_v53]
    rw [g0, g1, g2, p0, p1, p2]
    match b with
    | ⟨0, _⟩ => exact (mul_assoc _ _ _).symm
    | ⟨1, _⟩ => exact (mul_assoc _ _ _).symm
    | ⟨2, _⟩ => exact (mul_assoc _ _ _).symm
  exact (congrArg _ (eq_ix3 i)).trans ((e _ _ _).trans (congrArg _ (eq_ix3 i).symm))

theorem dp_eq : val_main_v143 (F := Ideal) H W D = dpF H W D := by
  funext i
  have e (b : Fin 3) (n : Fin 8192) (j : Fin 1024) : val_main_v143 (F := Ideal) H W D (ix3 b n j) = dpF H W D (ix3 b n j) := by
    obtain ⟨⟨g0, g1, g2⟩, -⟩ := gates H W n j
    pointwise [val_main_v143, val_main_v142, val_main_v139, val_main_v140, val_main_v141, val_main_v60, val_main_v57, val_main_v54, val_main_v52, val_main_v53]
    rw [g0, g1, g2]
    match b with
    | ⟨0, _⟩ => exact mul_comm _ _
    | ⟨1, _⟩ => exact mul_comm _ _
    | ⟨2, _⟩ => exact mul_comm _ _
  exact (congrArg _ (eq_ix3 i)).trans ((e _ _ _).trans (congrArg _ (eq_ix3 i).symm))

theorem dy_eq : val_main_v148 (F := Ideal) H W B D = dyF H W B D := by
  funext i
  have e (b : Fin 3) (n : Fin 8192) (j : Fin 512) : val_main_v148 (F := Ideal) H W B D (ix3 b n j) = dyF H W B D (ix3 b n j) := by
    have g := fun j => (gates H W n j).2
    pointwise [val_main_v148, val_main_v147, val_main_v144, val_main_v145, val_main_v146, val_main_v130, val_main_v124, val_main_v119, val_main_v128, val_main_v122, val_main_v117,
      val_main_v115, val_main_v116, val_main_v76, val_main_v94, val_main_v111, val_main_v75, val_main_v93, val_main_v110]
    fin_vals b with hs
    all_goals simp only [hs, Nat.reduceSub, Nat.reduceLT, ↓reduceDIte]
    all_goals refine Finset.sum_congr rfl fun k _ => Ideal.mul_congr ((Ideal.mul_congr (b := D (ix2 n k)) ?_ rfl).trans (mul_comm _ _)) (congrArg B ?_)
    · exact (g k).1.trans (congrArg (gate H W · n k) (Fin.ext hs : b = 0).symm)
    · exact congrArg (ix3 · j k) (Fin.ext hs.symm)
    · exact (g k).2.1.trans (congrArg (gate H W · n k) (Fin.ext hs : b = 1).symm)
    · exact congrArg (ix3 · j k) (Fin.ext hs.symm)
    · exact (g k).2.2.trans (congrArg (gate H W · n k) (Fin.ext hs : b = 2).symm)
    · exact congrArg (ix3 · j k) (Fin.ext hs.symm)
  exact (congrArg _ (eq_ix3 i)).trans ((e _ _ _).trans (congrArg _ (eq_ix3 i).symm))

theorem dh_eq : val_main_v133 (F := Ideal) H Y0 Y1 Y2 W B D = dhF H ![Y0, Y1, Y2] W B D := by
  funext i
  have e (n : Fin 8192) (j : Fin 1024) : val_main_v133 (F := Ideal) H Y0 Y1 Y2 W B D (ix2 n j) = dhF H ![Y0, Y1, Y2] W B D (ix2 n j) := by
    have g := fun j => (gates H W n j).2
    have p := fun j => (projs Y0 Y1 Y2 B n j).2
    pointwise [val_main_v133, val_main_v127, val_main_v132, val_main_v126, val_main_v121, val_main_v131, val_main_v125, val_main_v120, val_main_v129, val_main_v123, val_main_v118,
      val_main_v74, val_main_v92, val_main_v109, val_main_v73, val_main_v91, val_main_v108, val_main_v72, val_main_v90, val_main_v107, val_main_cst_11, val_main_cst_15, val_main_cst_18,
      val_main_v115, val_main_v116, val_main_v64, val_main_v82, val_main_v99, val_main_v63, val_main_v81, val_main_v98]
    simp only [dhF, Fin.sum_univ_three]
    refine (Ideal.add_congr (Ideal.add_congr (a' := dhAt H ![Y0, Y1, Y2] W B D 2 n j) (b' := dhAt H ![Y0, Y1, Y2] W B D 1 n j) ?_ ?_) (b' := dhAt H ![Y0, Y1, Y2] W B D 0 n j) ?_).trans (by ac_rfl)
    all_goals (refine Finset.sum_congr rfl fun k _ => Ideal.mul_congr ?_ rfl)
    · rw [(g k).2.2, (p k).2.2]; exact (mul_assoc _ _ _).symm
    · rw [(g k).2.1, (p k).2.1]; exact (mul_assoc _ _ _).symm
    · rw [(g k).1, (p k).1]; exact (mul_assoc _ _ _).symm
  exact (congrArg _ (eq_ix2 i)).trans ((e _ _).trans (congrArg _ (eq_ix2 i).symm))

end Cert.MergeRefIdeal.Hand

namespace Cert.Proof.MergeGrad
open Idealize.ShloMosaic Idealize.ShloMosaic.TcCoe Idealize.SL.Sem

/-- The reference keeps its arguments and declares no semaphore. -/
theorem refFrame : Cert.quiescent_MergeRefIdeal := fun m g _ =>
  (θ_run Cert.MergeRefIdeal.defs _ _).mono (fun r h => ⟨fun c => (h c).2.2.2.2, sem_eq_zero_of_no_sems (by decide) r.2⟩)
    (Cert.MergeRefIdeal.Value.run (F := Ideal) m g)

set_option maxHeartbeats 2000000 in
/-- Kernel and reference end with the same gradients, whatever the arguments. -/
theorem algebraic : Cert.algebraic_MergeIdeal_MergeRefIdeal := by
  pair_intro
  · run_from Cert.MergeIdeal.Value.run_blocks m g
  · run_from Cert.MergeRefIdeal.Value.run m' g'
    · refine (Cert.MergeRefIdeal.Read.val_main_v138_eq m' c).trans ?_
      obtain ⟨a0, a1, a2, a3, a4, a5, a6⟩ := hagree c
      rw [a0, a1, a2, a3, a4, a5, a6]
      exact (Cert.MergeRefIdeal.Hand.dg_eq _ _ _ _ _ _ _).trans (Cert.MergeIdeal.Hand.final_dg m _).symm
    · obtain ⟨a0, a1, a2, a3, a4, a5, a6⟩ := hagree c
      rw [a4, a6]
      exact (Cert.MergeRefIdeal.Hand.dp_eq _ _ _).trans (Cert.MergeIdeal.Hand.final_dp m _).symm
    · obtain ⟨a0, a1, a2, a3, a4, a5, a6⟩ := hagree c
      rw [a4, a5, a6]
      exact (Cert.MergeRefIdeal.Hand.dy_eq _ _ _ _).trans (Cert.MergeIdeal.Hand.final_dy m _).symm
    · refine (Cert.MergeRefIdeal.Read.val_main_v133_eq m' c).trans ?_
      refine (Cert.MergeRefIdeal.Hand.dh_eq _ _ _ _ _ _ _).trans (Eq.trans ?_ (Cert.MergeIdeal.Hand.final_dh m _).symm)
      obtain ⟨a0, a1, a2, a3, a4, a5, a6⟩ := hagree c
      rw [a0, a1, a2, a3, a4, a5, a6]

end Cert.Proof.MergeGrad

end
-- ==== Proof.AttRow.lean ====
/- One row of a masked softmax and its gradient, over any finite set of keys: the maximum, the sum and the
   probabilities are real numbers, the saved log-sum gives the probabilities back, and the gradient that divides by the
   sum and its square is the one that multiplies the probability with `do·v − do·y`. Then sums over positions cut into
   blocks and windows. -/
module

public import Idealize.ShloMosaic.Lib.Pipeline.ValueKit
public import Idealize.ShloMosaic.Lib.Pointwise
public import Idealize.ShloMosaic.Lib.Claim
public import Idealize.ShloMosaic.Init

@[expose] public section

noncomputable section

namespace Cert.AttRow

open Idealize.ShloMosaic

variable {ι : Type} [Fintype ι] (S : ι → EReal)

/-- The row's maximum. -/
def mx : EReal := Finset.univ.fold max ⊥ S
/-- The weight of a key before normalisation. -/
def ew (m : ι) : EReal := Ideal.exp (S m - mx S)
/-- The row's sum. -/
def tot : EReal := ∑ m, ew S m
/-- The probability of a key. -/
def pr (m : ι) : EReal := Ideal.div (ew S m) (tot S)

/-- No score is `+∞` and some score is a real number. -/
def Good : Prop := (∀ m, S m ≠ ⊤) ∧ ∃ m, S m ≠ ⊥

theorem le_mx (m : ι) : S m ≤ mx S := by
  unfold mx
  exact (Finset.le_fold_max _).2 (.inr ⟨m, Finset.mem_univ m, le_rfl⟩)

variable {S}

theorem mx_real (h : Good S) : ∃ M : ℝ, mx S = M := by
  have ht : mx S ≠ ⊤ := by
    have : mx S < ⊤ := (Finset.fold_max_lt _).2 ⟨bot_lt_top, fun m _ => lt_top_iff_ne_top.2 (h.1 m)⟩
    exact this.ne
  obtain ⟨m, hm⟩ := h.2
  have hb : mx S ≠ ⊥ := fun e => hm (le_bot_iff.1 (e ▸ le_mx S m))
  exact ⟨_, (EReal.coe_toReal ht hb).symm⟩

theorem exp_coe (r : ℝ) : Ideal.exp (r : EReal) = (Real.exp r : ℝ) := rfl
theorem exp_bot : Ideal.exp ⊥ = 0 := rfl
theorem div_coe (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]
theorem log_coe (x : ℝ) (h : 0 < x) : Ideal.log (x : EReal) = (Real.log x : ℝ) := by
  show (if x ≤ 0 then ⊥ else ((Real.log x : ℝ) : EReal)) = _
  rw [if_neg (not_le.2 h)]

theorem sum_coe {κ : Type} (s : Finset κ) (f : κ → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A row in real numbers: its maximum, its weights, zero where the score is `−∞`, and their positive sum. -/
theorem row (h : Good S) : ∃ (M : ℝ) (w : ι → ℝ), mx S = M ∧ (∀ m, ew S m = w m) ∧ tot S = ((∑ m, w m : ℝ) : EReal) ∧ 0 < ∑ m, w m
    ∧ (∀ m, S m = ⊥ → w m = 0) ∧ ∀ m, S m ≠ ⊥ → ∃ a : ℝ, S m = a ∧ w m = Real.exp (a - M) := by
  obtain ⟨M, hM⟩ := mx_real h
  have key : ∀ m, ∃ w : ℝ, ew S m = w ∧ 0 ≤ w ∧ (S m = ⊥ → w = 0) ∧ (S m ≠ ⊥ → ∃ a : ℝ, S m = a ∧ w = Real.exp (a - M)) := by
    intro m
    by_cases hb : S m = ⊥
    · refine ⟨0, ?_, le_rfl, fun _ => rfl, fun h => absurd hb h⟩
      unfold ew
      rw [hb, EReal.bot_sub, exp_bot]; rfl
    · have e := (EReal.coe_toReal (h.1 m) hb).symm
      refine ⟨Real.exp ((S m).toReal - M), ?_, (Real.exp_pos _).le, fun h => absurd h hb, fun _ => ⟨_, e, rfl⟩⟩
      unfold ew
      rw [hM, e, ← EReal.coe_sub, exp_coe, EReal.toReal_coe]
  choose w hw using key
  refine ⟨M, w, hM, fun m => (hw m).1, ?_, ?_, fun m => (hw m).2.2.1, fun m => (hw m).2.2.2⟩
  · unfold tot
    rw [← sum_coe]
    exact Finset.sum_congr rfl fun m _ => (hw m).1
  · obtain ⟨m, hm⟩ := h.2
    refine Finset.sum_pos' (fun m _ => (hw m).2.1) ⟨m, Finset.mem_univ m, ?_⟩
    obtain ⟨a, -, e⟩ := (hw m).2.2.2 hm
    rw [e]; exact Real.exp_pos _

/-- The probabilities in real numbers. -/
theorem pr_real (h : Good S) : ∃ p : ι → ℝ, (∀ m, pr S m = p m) ∧ ∀ m, S m = ⊥ → p m = 0 := by
  obtain ⟨M, w, -, hw, ht, hp, h0, -⟩ := row h
  refine ⟨fun m => w m / ∑ m, w m, fun m => ?_, fun m hm => ?_⟩
  · unfold pr
    rw [hw, ht, div_coe _ _ hp.ne']
  · show w m / _ = 0
    rw [h0 m hm, zero_div]

/-- The row's log-sum is a real number. -/
theorem lse_real (h : Good S) : ∃ l : ℝ, mx S + Ideal.log (tot S) = l := by
  obtain ⟨M, w, hM, -, ht, hp, -, -⟩ := row h
  exact ⟨M + Real.log (∑ m, w m), by rw [hM, ht, log_coe _ hp, EReal.coe_add]⟩

/-- The saved log-sum gives the probabilities back. -/
theorem exp_lse (h : Good S) (m : ι) : Ideal.exp (S m - (mx S + Ideal.log (tot S))) = pr S m := by
  obtain ⟨M, w, hM, hw, ht, hp, h0, h1⟩ := row h
  unfold pr
  rw [hw, ht, div_coe _ _ hp.ne', hM, log_coe _ hp, ← EReal.coe_add]
  by_cases hb : S m = ⊥
  · rw [hb, EReal.bot_sub, exp_bot, h0 m hb, zero_div]; rfl
  · obtain ⟨a, ha, e⟩ := h1 m hb
    rw [ha, ← EReal.coe_sub, exp_coe, e, ← sub_sub, Real.exp_sub, Real.exp_log hp]

variable {κ : Type} [Fintype κ]

/-- A row's output. -/
def outp (S : ι → EReal) (v : ι → κ → EReal) (d : κ) : EReal := ∑ m, v m d * pr S m
/-- The product of the row's cotangent with a value. -/
def dpr (v : ι → κ → EReal) (g : κ → EReal) (m : ι) : EReal := ∑ d, g d * v m d
/-- The gradient of a score. -/
def dsc (S : ι → EReal) (v : ι → κ → EReal) (g : κ → EReal) (m : ι) : EReal :=
  pr S m * (dpr v g m - ∑ d, g d * outp S v d)

section Grad
variable (h : Good S) {v : ι → κ → EReal} {g : κ → EReal} {v' : ι → κ → ℝ} {g' : κ → ℝ} (hv : ∀ m d, v m d = v' m d) (hg : ∀ d, g d = g' d)
include h hv hg

theorem dsc_real : ∃ r : ι → ℝ, (∀ m, dsc S v g m = r m) ∧ ∀ m, S m = ⊥ → r m = 0 := by
  obtain ⟨p, hp, h0⟩ := pr_real h
  refine ⟨fun m => p m * ((∑ d, g' d * v' m d) - ∑ d, g' d * ∑ m, v' m d * p m), fun m => ?_, fun m hm => by show p m * _ = 0; rw [h0 m hm, zero_mul]⟩
  unfold dsc dpr outp
  simp only [hp, hv, hg, ← EReal.coe_mul, sum_coe, ← EReal.coe_sub]

/-- A masked score has no gradient. -/
theorem dsc_bot (m : ι) (hm : S m = ⊥) : dsc S v g m = 0 := by
  obtain ⟨r, hr, h0⟩ := dsc_real h hv hg
  rw [hr, h0 m hm]; rfl

/-- The gradient through the quotient of a weight and the sum. -/
theorem dsc_quot (m : ι) :
    (Ideal.div (dpr v g m) (tot S) + -(∑ m', dpr v g m' * Ideal.div 1 (tot S * tot S) * ew S m')) * ew S m = dsc S v g m := by
  obtain ⟨M, w, hM, hw, ht, hp, -, -⟩ := row h
  have hq : ∀ m, pr S m = ((w m / ∑ m, w m : ℝ) : EReal) := fun m => by unfold pr; rw [hw, ht, div_coe _ _ hp.ne']
  unfold dsc dpr outp
  have hne : (∑ m, w m) * ∑ m, w m ≠ 0 := (mul_pos hp hp).ne'
  have one : (1 : EReal) = ((1 : ℝ) : EReal) := rfl
  simp only [hq, hw, hv, hg, ht, ← EReal.coe_mul, sum_coe]
  rw [one]
  simp only [div_coe _ _ hp.ne', div_coe _ _ hne, ← EReal.coe_mul, sum_coe, ← EReal.coe_sub, ← EReal.coe_neg, ← EReal.coe_add]
  congr 1
  have e : ∑ d, g' d * ∑ m, v' m d * (w m / ∑ m, w m) = (∑ m, (∑ d, g' d * v' m d) * w m) / ∑ m, w m := by
    simp only [Finset.mul_sum, Finset.sum_mul, Finset.sum_div]
    rw [Finset.sum_comm]
    exact Finset.sum_congr rfl fun m _ => Finset.sum_congr rfl fun d _ => by ring
  have e' : ∑ m', (∑ d, g' d * v' m' d) * (1 / ((∑ m, w m) * ∑ m, w m)) * w m' = (∑ m, (∑ d, g' d * v' m d) * w m) / ((∑ m, w m) * ∑ m, w m) := by
    rw [Finset.sum_div]
    exact Finset.sum_congr rfl fun m _ => by ring
  rw [e, e']
  field_simp
  ring

end Grad

/-! ### Positions, blocks, windows -/

/-- A position from its block and its place in the block. -/
def pos (i : Fin 32) (n : Fin 256) : Fin 8192 := ⟨i.val * 256 + n.val, by omega⟩

theorem sum_pos (f : Fin 8192 → EReal) : ∑ x, f x = ∑ i : Fin 32, ∑ n : Fin 256, f (pos i n) := by
  refine Eq.trans ?_ (Finset.sum_product' (Finset.univ : Finset (Fin 32)) (Finset.univ : Finset (Fin 256)) fun i n => f (pos i n))
  symm
  refine Finset.sum_bij' (fun a _ => pos a.1 a.2) (fun x _ => (⟨x.val / 256, by omega⟩, ⟨x.val % 256, by omega⟩)) ?_ ?_ ?_ ?_ ?_
  · intros; exact Finset.mem_univ _
  · intros; exact Finset.mem_product.2 ⟨Finset.mem_univ _, Finset.mem_univ _⟩
  · rintro ⟨a, b⟩ _; refine Prod.ext (Fin.ext ?_) (Fin.ext ?_) <;> simp only [pos] <;> omega
  · rintro x _; refine Fin.ext ?_; simp only [pos]; omega
  · intros; rfl

/-- A window's position. -/
def wpos (w : ℕ) (hw : w + 768 ≤ 8192) (j : Fin 768) : Fin 8192 := ⟨w + j.val, by omega⟩

theorem sum_window (f : Fin 8192 → EReal) (w : ℕ) (hw : w + 768 ≤ 8192) (h0 : ∀ x : Fin 8192, ¬ (w ≤ x.val ∧ x.val < w + 768) → f x = 0) :
    ∑ x, f x = ∑ j : Fin 768, f (wpos w hw j) := by
  symm
  refine Finset.sum_of_injOn (wpos w hw) ?_ ?_ ?_ ?_
  · intro a _ b _ hab
    have := congrArg Fin.val hab
    simp only [wpos] at this
    exact Fin.ext (by omega)
  · intro a _; exact Finset.mem_coe.2 (Finset.mem_univ _)
  · intro x _ hx
    refine h0 x fun hh => hx ⟨⟨x.val - w, by omega⟩, Finset.mem_coe.2 (Finset.mem_univ _), Fin.ext ?_⟩
    simp only [wpos]; omega
  · intros; rfl

/-- The lane of a head's column. -/
def lane2 (a : Fin 2) (d : Fin 64) : Fin 128 := ⟨a.val * 64 + d.val, by omega⟩

/-- A sum over 128 lanes with one head's lanes kept is the sum over that head's columns. -/
theorem sum_lanes (f : Fin 128 → EReal) (a : Fin 2) : (∑ l : Fin 128, if l.val / 64 = a.val then f l else 0) = ∑ d : Fin 64, f (lane2 a d) := by
  symm
  refine (Finset.sum_congr rfl fun d _ => ?_).trans (Finset.sum_of_injOn (g := fun l : Fin 128 => if l.val / 64 = a.val then f l else 0) (f := fun d => if (lane2 a d).val / 64 = a.val then f (lane2 a d) else 0) (lane2 a) ?_ ?_ ?_ ?_)
  · rw [if_pos (by simp only [lane2]; omega)]
  · intro x _ y _ hab
    have := congrArg Fin.val hab
    simp only [lane2] at this
    exact Fin.ext (by omega)
  · intro a _; exact Finset.mem_coe.2 (Finset.mem_univ _)
  · intro x _ hx
    refine if_neg fun hh => hx ⟨⟨x.val - a.val * 64, by omega⟩, Finset.mem_coe.2 (Finset.mem_univ _), Fin.ext ?_⟩
    simp only [lane2]; omega
  · intros; rfl

/-- The maximum over 128 lanes of which one head's all hold `x` and the others `−∞`. -/
theorem fold_lanes (x : EReal) (a : Fin 2) : (Finset.univ.fold max ⊥ fun l : Fin 128 => if l.val / 64 = a.val then x else ⊥) = x := by
  refine le_antisymm ((Finset.fold_max_le _).2 ⟨bot_le, fun l _ => ?_⟩) ((Finset.le_fold_max _).2 (.inr ⟨lane2 a 0, Finset.mem_univ _, ?_⟩))
  · split <;> simp
  · rw [if_pos (by simp only [lane2, Fin.val_zero]; omega)]

end Cert.AttRow

end
-- ==== Proof.AttSpread.lean ====
module

public import proofs.«01_k».proof.Defs
public import proofs.«01_k».proof.Proof.AttRow
public import proofs.«01_k».proof.Proof.Gen.AttRefIdeal.Run
public import proofs.«01_k».proof.Proof.Gen.AttRefIdeal.Read
public import Idealize.ShloMosaic.Lib.Pipeline.ValueKit
public import Idealize.ShloMosaic.Lib.Pointwise
public import Idealize.ShloMosaic.Lib.Claim
public import Idealize.ShloMosaic.Adequacy
public import Idealize.ShloMosaic.Init

@[expose] public section

set_option maxRecDepth 16384

noncomputable section

namespace Cert.AttRefIdeal.Hand

open Cert.AttRefIdeal Cert.AttRefIdeal.Read Idealize.ShloMosaic Idealize.ShloMosaic.TcCoe Idealize.SL.Sem
open Cert.AttRow

variable (C : FVec Ideal S8192x5120 .f32) (B : FVec Ideal S8x257 .f32) (D : FVec Ideal S3x8192x512 .f32)

/-- Summing the first and the fifth of seven axes. -/
theorem drop04 (i : S3x8x32x256x3x32x256.Idx) (h : Fin 8) (a : Fin 32) (n : Fin 256) (b : Fin 32) (j : Fin 256) :
    Gen.reducesTo_S3x8x32x256x3x32x256_S8x32x256x32x256_d0_4.drop i = ix5 h a n b j ↔
      ∃ k : Fin 3 × Fin 3, ix7 k.1 h a n k.2 b j = i := by
  constructor
  · intro e
    refine ⟨(i 0, i 4), ?_⟩
    funext x
    match x with
    | ⟨0, _⟩ => rfl
    | ⟨1, _⟩ => exact (congrFun e 0).symm
    | ⟨2, _⟩ => exact (congrFun e 1).symm
    | ⟨3, _⟩ => exact (congrFun e 2).symm
    | ⟨4, _⟩ => rfl
    | ⟨5, _⟩ => exact (congrFun e 3).symm
    | ⟨6, _⟩ => exact (congrFun e 4).symm
  · rintro ⟨k, rfl⟩
    funext x
    match x with
    | ⟨0, _⟩ => rfl
    | ⟨1, _⟩ => rfl
    | ⟨2, _⟩ => rfl
    | ⟨3, _⟩ => rfl
    | ⟨4, _⟩ => rfl

theorem sum04 (f : S3x8x32x256x3x32x256.Idx → EReal) (h : Fin 8) (a : Fin 32) (n : Fin 256) (b : Fin 32) (j : Fin 256) :
    Ideal.hostReduceAdd Gen.reducesTo_S3x8x32x256x3x32x256_S8x32x256x32x256_d0_4 f 0 (ix5 h a n b j) =
      ∑ v : Fin 3, ∑ w : Fin 3, f (ix7 v h a n w b j) := by
  refine (zero_add _).trans ?_
  rw [← Fintype.sum_prod_type' (f := fun v w : Fin 3 => f (ix7 v h a n w b j))]
  exact Finset.sum_filter_eq_sum_of_fiber _ (fun k : Fin 3 × Fin 3 => ix7 k.1 h a n k.2 b j)
    (fun x y e => Prod.ext (congrFun e 0) (congrFun e 4)) (fun i => drop04 i h a n b j) f

/-- Summing the third and the sixth of seven axes. -/
theorem drop25 (i : S3x8x32x256x3x32x256.Idx) (v : Fin 3) (h : Fin 8) (n : Fin 256) (w : Fin 3) (j : Fin 256) :
    Gen.reducesTo_S3x8x32x256x3x32x256_S3x8x256x3x256_d2_5.drop i = ix5 v h n w j ↔
      ∃ k : Fin 32 × Fin 32, ix7 v h k.1 n w k.2 j = i := by
  constructor
  · intro e
    refine ⟨(i 2, i 5), ?_⟩
    funext x
    match x with
    | ⟨0, _⟩ => exact (congrFun e 0).symm
    | ⟨1, _⟩ => exact (congrFun e 1).symm
    | ⟨2, _⟩ => rfl
    | ⟨3, _⟩ => exact (congrFun e 2).symm
    | ⟨4, _⟩ => exact (congrFun e 3).symm
    | ⟨5, _⟩ => rfl
    | ⟨6, _⟩ => exact (congrFun e 4).symm
  · rintro ⟨k, rfl⟩
    funext x
    match x with
    | ⟨0, _⟩ => rfl
    | ⟨1, _⟩ => rfl
    | ⟨2, _⟩ => rfl
    | ⟨3, _⟩ => rfl
    | ⟨4, _⟩ => rfl

theorem sum25 (f : S3x8x32x256x3x32x256.Idx → EReal) (v : Fin 3) (h : Fin 8) (n : Fin 256) (w : Fin 3) (j : Fin 256) :
    Ideal.hostReduceAdd Gen.reducesTo_S3x8x32x256x3x32x256_S3x8x256x3x256_d2_5 f 0 (ix5 v h n w j) =
      ∑ a : Fin 32, ∑ b : Fin 32, f (ix7 v h a n w b j) := by
  refine (zero_add _).trans ?_
  rw [← Fintype.sum_prod_type' (f := fun a b : Fin 32 => f (ix7 v h a n w b j))]
  exact Finset.sum_filter_eq_sum_of_fiber _ (fun k : Fin 32 × Fin 32 => ix7 v h k.1 n w k.2 j)
    (fun x y e => Prod.ext (congrFun e 2) (congrFun e 5)) (fun i => drop25 i v h n w j) f

theorem here_bits (v : Fin 3) (i : Fin 32) :
    IntOp.cmpi .eq (BitVec.ofNat 32 v.val) (IntOp.minsi (BitVec.ofNat 32 i.val) 2#32) =
      if v.val = min i.val 2 then 1#1 else 0#1 := by
  revert v i; decide +kernel

theorem here_bits' (i : Fin 32) (w : Fin 3) (b : Fin 32) :
    IntOp.cmpi .eq (BitVec.ofNat 32 b.val)
        (IntOp.addi (IntOp.maxsi (IntOp.subi (BitVec.ofNat 32 i.val) 2#32) 0#32) (BitVec.ofNat 32 w.val)) =
      if b.val = i.val - 2 + w.val then 1#1 else 0#1 := by
  revert i w b; decide +kernel

theorem here4 (v : Fin 3) (i : Fin 32) (w : Fin 3) (b : Fin 32) :
    val_main_v62 (F := Ideal) (ix4 v i w b) = if v.val = min i.val 2 ∧ b.val = i.val - 2 + w.val then 1#1 else 0#1 := by
  pointwise [val_main_v62, val_main_v61, val_main_v60, val_main_v59, val_main_v58, val_main_v57, val_main_v56, val_main_v55, val_main_v54, val_main_v53, val_main_v52, val_main_c_7, val_main_v51, val_main_v50, val_main_c_6, val_main_v49, val_main_v48, val_main_v47, val_main_v46, val_main_v45, val_main_c_5, val_main_v44, val_main_v43, val_main_v42, val_main_v41, val_main_v40, val_main_v39, val_main_v38, val_main_v37]
  refine (congrArg₂ IntOp.andi (here_bits v i) (here_bits' i w b)).trans ?_
  split_ifs <;> simp_all <;> rfl

theorem here_apply (v : Fin 3) (h : Fin 8) (i : Fin 32) (n : Fin 256) (w : Fin 3) (b : Fin 32) (j : Fin 256) :
    val_main_v65 (F := Ideal) (ix7 v h i n w b j) = if v.val = min i.val 2 ∧ b.val = i.val - 2 + w.val then 1#1 else 0#1 := by
  rw [val_main_v65_apply, val_main_v64_apply, ← here4]
  refine congrArg val_main_v62 ?_
  funext a
  match a with
  | ⟨0, _⟩ => rfl
  | ⟨1, _⟩ => rfl
  | ⟨2, _⟩ => rfl
  | ⟨3, _⟩ => rfl

theorem t66 (v : Fin 3) (h : Fin 8) (i : Fin 32) (n : Fin 256) (w : Fin 3) (b : Fin 32) (j : Fin 256) :
    val_main_v66 (F := Ideal) B (ix7 v h i n w b j) = val_main_v33 (F := Ideal) B (ix4 v h n ⟨w.val * 256 + j.val, by omega⟩) := by
  rw [val_main_v66_apply]
  have : idx_main_v66 (ix7 v h i n w b j) = ix7 v h 0 n w 0 j := by
    funext a
    match a with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
  rw [this]
  pointwise [val_main_v63]

theorem spread_apply (h : Fin 8) (n m : Fin 8192) :
    val_main_v71 (F := Ideal) B (ix3 h n m) = ∑ v : Fin 3, ∑ w : Fin 3, if v.val = min (n.val / 256) 2 ∧ m.val / 256 = n.val / 256 - 2 + w.val then
      val_main_v33 (F := Ideal) B (ix4 v h ⟨n.val % 256, by omega⟩ ⟨w.val * 256 + m.val % 256, by omega⟩) else 0 := by
  pointwise [val_main_v71, val_main_v70, val_main_cst_10]
  rw [sum04]
  refine Finset.sum_congr rfl fun v _ => Finset.sum_congr rfl fun w _ => ?_
  rw [val_main_v68_apply, here_apply, t66, val_main_v67_apply]
  have h0 : ∀ i, val_main_cst_8 (F := Ideal) i = 0 := fun i => by pointwise [val_main_cst_8]
  rw [h0]
  split_ifs with hc
  · rfl
  · rfl

theorem t129 (v : Fin 3) (h : Fin 8) (i : Fin 32) (n : Fin 256) (w : Fin 3) (b : Fin 32) (j : Fin 256) :
    val_main_v129 (F := Ideal) C B D (ix7 v h i n w b j) = val_main_v127 (F := Ideal) C B D (ix3 h (pos i n) (pos b j)) := by
  rw [val_main_v129_apply]
  have : idx_main_v129 (ix7 v h i n w b j) = ix5 h i n b j := by
    funext a
    match a with
    | ⟨0, _⟩ => rfl
    | ⟨1, _⟩ => rfl
    | ⟨2, _⟩ => rfl
    | ⟨3, _⟩ => rfl
    | ⟨4, _⟩ => rfl
  rw [this]
  pointwise [val_main_v128]
  rfl

theorem tiles_apply (v : Fin 3) (h : Fin 8) (n : Fin 256) (j : Fin 768) :
    val_main_v134 (F := Ideal) C B D (ix4 v h n j) = ∑ i : Fin 32, ∑ b : Fin 32,
      if v.val = min i.val 2 ∧ b.val = i.val - 2 + j.val / 256 then
        val_main_v127 (F := Ideal) C B D (ix3 h (pos i n) (pos b ⟨j.val % 256, by omega⟩)) else 0 := by
  pointwise [val_main_v134]
  rw [val_main_v133_apply]
  have : idx_main_v133 (ix7 v h 0 n ⟨j.val / 256, by omega⟩ 0 ⟨j.val % 256, by omega⟩) = ix5 v h n ⟨j.val / 256, by omega⟩ ⟨j.val % 256, by omega⟩ := by
    funext a
    match a with
    | ⟨0, _⟩ => rfl
    | ⟨1, _⟩ => rfl
    | ⟨2, _⟩ => rfl
    | ⟨3, _⟩ => rfl
    | ⟨4, _⟩ => rfl
  rw [this]
  pointwise [val_main_v132, val_main_cst_21]
  rw [sum25]
  refine Finset.sum_congr rfl fun i _ => Finset.sum_congr rfl fun b _ => ?_
  rw [val_main_v131_apply, here_apply, t129, val_main_v130_apply]
  have h0 : ∀ i, val_main_cst_20 (F := Ideal) i = 0 := fun i => by pointwise [val_main_cst_20]
  rw [h0]
  split_ifs with hc
  · rfl
  · rfl

end Cert.AttRefIdeal.Hand

end
-- ==== Proof.AttRef.lean ====
module

public import proofs.«01_k».proof.Defs
public import proofs.«01_k».proof.Proof.AttSpread
public import proofs.«01_k».proof.Proof.AttRow
public import proofs.«01_k».proof.Proof.Basic
public import proofs.«01_k».proof.Proof.Gen.AttRefIdeal.Run
public import proofs.«01_k».proof.Proof.Gen.AttRefIdeal.Read
public import Idealize.ShloMosaic.Lib.Pipeline.ValueKit
public import Idealize.ShloMosaic.Lib.Pointwise
public import Idealize.ShloMosaic.Lib.Claim
public import Idealize.ShloMosaic.Adequacy
public import Idealize.ShloMosaic.Init

@[expose] public section

set_option maxRecDepth 16384

noncomputable section

namespace Cert.AttRefIdeal.Hand

open Cert.AttRefIdeal Cert.AttRefIdeal.Read Idealize.ShloMosaic Idealize.ShloMosaic.TcCoe Idealize.SL.Sem
open Cert.AttRow

variable (C : FVec Ideal S8192x5120 .f32) (B : FVec Ideal S8x257 .f32) (D : FVec Ideal S3x8192x512 .f32)

theorem q_apply (n : Fin 8192) (h : Fin 8) (d : Fin 64) :
    val_main_v1 (F := Ideal) C (ix3 n h d) = C (ix2 n ⟨3584 + (h.val * 64 + d.val), by omega⟩) := by
  pointwise [val_main_v1, val_main_v0]

theorem k_apply (n : Fin 8192) (h : Fin 8) (d : Fin 64) :
    val_main_v3 (F := Ideal) C (ix3 n h d) = C (ix2 n ⟨4096 + (h.val * 64 + d.val), by omega⟩) := by
  pointwise [val_main_v3, val_main_v2]

theorem v_apply (n : Fin 8192) (h : Fin 8) (d : Fin 64) :
    val_main_v5 (F := Ideal) C (ix3 n h d) = C (ix2 n ⟨4608 + (h.val * 64 + d.val), by omega⟩) := by
  pointwise [val_main_v5, val_main_v4]

theorem g_apply (n : Fin 8192) (h : Fin 8) (d : Fin 64) :
    val_main_v110 (F := Ideal) D (ix3 h d n) = D (ix3 2 n ⟨h.val * 64 + d.val, by omega⟩) := by
  pointwise [val_main_v110, val_main_v109, val_main_v108, val_main_v107]

theorem seen_bits (n m : Fin 128) :
    IntOp.andi (IntOp.cmpi .sle (BitVec.ofNat 32 m.val) (BitVec.ofNat 32 n.val))
      (IntOp.cmpi .sge (BitVec.ofNat 32 m.val) (IntOp.subi (BitVec.ofNat 32 n.val) 8#32)) =
    if m.val ≤ n.val ∧ n.val ≤ m.val + 8 then 1#1 else 0#1 := by
  revert n m; decide +kernel

theorem seen_apply (h : Fin 8) (n m : Fin 8192) :
    val_main_v88 (F := Ideal) (ix3 h n m) = if m.val / 64 ≤ n.val / 64 ∧ n.val / 64 ≤ m.val / 64 + 8 then 1#1 else 0#1 := by
  pointwise [val_main_v88, val_main_v87, val_main_v81, val_main_v86, val_main_v79, val_main_v80, val_main_v84, val_main_v85, val_main_v83, val_main_v82, val_main_c_11, val_main_v78, val_main_v77, val_main_v76, val_main_v75, val_main_v74, val_main_v73]
  exact seen_bits ⟨n.val / 64, by omega⟩ ⟨m.val / 64, by omega⟩

theorem tab_apply (v : Fin 3) (h : Fin 8) (n : Fin 256) (j : Fin 768) :
    ∃ c, val_main_v33 (F := Ideal) B (ix4 v h n j) = B c := by
  pointwise [val_main_v33, val_main_v32]
  exact ⟨_, rfl⟩

/-- The masked scores of a row. -/
def S (h : Fin 8) (n : Fin 8192) : Fin 8192 → EReal := fun m => val_main_v90 (F := Ideal) C B (ix3 h n m)
/-- The values of a head. -/
def ve (h : Fin 8) : Fin 8192 → Fin 64 → EReal := fun m d => val_main_v5 (F := Ideal) C (ix3 m h d)
/-- The cotangent of a head's row. -/
def ge (h : Fin 8) (n : Fin 8192) : Fin 64 → EReal := fun d => val_main_v110 (F := Ideal) D (ix3 h d n)
/-- The scores' gradient. -/
def DS (h : Fin 8) (n m : Fin 8192) : EReal := dsc (S C B h n) (ve C h) (ge D h n) m

theorem S_apply (h : Fin 8) (n m : Fin 8192) :
    S C B h n m = if m.val / 64 ≤ n.val / 64 ∧ n.val / 64 ≤ m.val / 64 + 8 then
      (∑ x, val_main_v1 (F := Ideal) C (ix3 n h x) * val_main_v3 (F := Ideal) C (ix3 m h x)) * Ideal.ofBits FTy.f32 1040187392#32 +
        val_main_v71 (F := Ideal) B (ix3 h n m) else ⊥ := by
  unfold S
  pointwise [val_main_v90, val_main_v89, val_main_cst_12, val_main_v72, val_main_v36, val_main_v35, val_main_cst, val_main_v34]
  rw [seen_apply, Cert.K.bits_ninf]
  split_ifs <;> rfl

theorem ew_apply (h : Fin 8) (n m : Fin 8192) :
    val_main_v96 (F := Ideal) C B (ix3 h n m) = ew (S C B h n) m := by
  pointwise [val_main_v96, val_main_v95, val_main_v94, val_main_v93, val_main_v92, val_main_cst_14]
  rw [Cert.K.bits_ninf]
  rfl

theorem p_apply (h : Fin 8) (n m : Fin 8192) :
    val_main_v100 (F := Ideal) C B (ix3 h n m) = pr (S C B h n) m := by
  pointwise [val_main_v100, val_main_v99, val_main_v98, val_main_v97, val_main_cst_15]
  simp only [ew_apply]
  rfl

/-- What the claim's precondition says: the entries read are real numbers. -/
structure Fine : Prop where
  hC : ∀ (n : Fin 8192) (l : Fin 5120), 3584 ≤ l.val → ∃ r : ℝ, C (ix2 n l) = r
  hB : ∀ c, ∃ r : ℝ, B c = r
  hD : ∀ (n : Fin 8192) (l : Fin 512), ∃ r : ℝ, D (ix3 2 n l) = r

variable {C B D}

theorem q_real (H : Fine C B D) (n : Fin 8192) (h : Fin 8) (d : Fin 64) : ∃ r : ℝ, val_main_v1 (F := Ideal) C (ix3 n h d) = r := by
  rw [q_apply]; exact H.hC _ _ (by show 3584 ≤ 3584 + _; omega)
theorem k_real (H : Fine C B D) (n : Fin 8192) (h : Fin 8) (d : Fin 64) : ∃ r : ℝ, val_main_v3 (F := Ideal) C (ix3 n h d) = r := by
  rw [k_apply]; exact H.hC _ _ (by show 3584 ≤ 4096 + _; omega)
theorem ve_real (H : Fine C B D) (h : Fin 8) (m : Fin 8192) (d : Fin 64) : ∃ r : ℝ, ve C h m d = r := by
  unfold ve; rw [v_apply]; exact H.hC _ _ (by show 3584 ≤ 4608 + _; omega)
theorem ge_real (H : Fine C B D) (h : Fin 8) (n : Fin 8192) (d : Fin 64) : ∃ r : ℝ, ge D h n d = r := by
  unfold ge; rw [g_apply]; exact H.hD _ _

theorem sum_real {κ : Type} [Fintype κ] {f : κ → EReal} (hf : ∀ i, ∃ r : ℝ, f i = r) : ∃ r : ℝ, ∑ i, f i = r := by
  choose r hr using hf
  exact ⟨∑ i, r i, by rw [← sum_coe]; exact Finset.sum_congr rfl fun i _ => hr i⟩

theorem spread_real (H : Fine C B D) (h : Fin 8) (n m : Fin 8192) : ∃ r : ℝ, val_main_v71 (F := Ideal) B (ix3 h n m) = r := by
  rw [spread_apply]
  refine sum_real fun v => sum_real fun w => ?_
  split_ifs
  · obtain ⟨c, hc⟩ := tab_apply B v h ⟨n.val % 256, by omega⟩ ⟨w.val * 256 + m.val % 256, by omega⟩
    rw [hc]; exact H.hB c
  · exact ⟨0, rfl⟩

theorem score_real (H : Fine C B D) (h : Fin 8) (n m : Fin 8192) :
    ∃ r : ℝ, (∑ x, val_main_v1 (F := Ideal) C (ix3 n h x) * val_main_v3 (F := Ideal) C (ix3 m h x)) * Ideal.ofBits FTy.f32 1040187392#32 +
        val_main_v71 (F := Ideal) B (ix3 h n m) = r := by
  obtain ⟨a, ha⟩ := sum_real (f := fun x => val_main_v1 (F := Ideal) C (ix3 n h x) * val_main_v3 (F := Ideal) C (ix3 m h x)) fun x => by
    obtain ⟨a, ha⟩ := q_real H n h x
    obtain ⟨b, hb⟩ := k_real H m h x
    exact ⟨a * b, by rw [ha, hb, EReal.coe_mul]⟩
  obtain ⟨b, hb⟩ := spread_real H h n m
  exact ⟨a * (1 / 8) + b, by rw [ha, hb, Cert.K.bits_eighth, EReal.coe_add, EReal.coe_mul]⟩

theorem good (H : Fine C B D) (h : Fin 8) (n : Fin 8192) : Good (S C B h n) := by
  constructor
  · intro m
    rw [S_apply]
    split_ifs
    · obtain ⟨r, hr⟩ := score_real H h n m
      rw [hr]; exact EReal.coe_ne_top r
    · exact bot_ne_top
  · refine ⟨n, ?_⟩
    rw [S_apply, if_pos ⟨le_refl _, Nat.le_add_right _ _⟩]
    obtain ⟨r, hr⟩ := score_real H h n n
    rw [hr]; exact EReal.coe_ne_bot r

theorem DS_zero (H : Fine C B D) (h : Fin 8) (n m : Fin 8192) (hs : ¬ (m.val / 64 ≤ n.val / 64 ∧ n.val / 64 ≤ m.val / 64 + 8)) :
    DS C B D h n m = 0 := by
  choose v hv using ve_real H h
  choose g hg using ge_real H h n
  exact dsc_bot (good H h n) hv hg m (by rw [S_apply, if_neg hs])

theorem pr_zero (H : Fine C B D) (h : Fin 8) (n m : Fin 8192) (hs : ¬ (m.val / 64 ≤ n.val / 64 ∧ n.val / 64 ≤ m.val / 64 + 8)) :
    pr (S C B h n) m = 0 := by
  obtain ⟨p, hp, h0⟩ := pr_real (good H h n)
  rw [hp, h0 m (by rw [S_apply, if_neg hs])]; rfl

theorem ds_apply (H : Fine C B D) (h : Fin 8) (n m : Fin 8192) :
    val_main_v127 (F := Ideal) C B D (ix3 h n m) = DS C B D h n m := by
  choose v hv using ve_real H h
  choose g hg using ge_real H h n
  have e := dsc_quot (good H h n) hv hg m
  pointwise [val_main_v127, val_main_v126, val_main_cst_19, val_main_v125, val_main_v124, val_main_v123, val_main_v122, val_main_cst_18, val_main_v121, val_main_v120, val_main_v119, val_main_v118, val_main_v117, val_main_cst_17, val_main_v116, val_main_v115, val_main_v114, val_main_v111, val_main_v103, val_main_v102, val_main_cst_16, val_main_v101, val_main_v98, val_main_v97, val_main_cst_15]
  simp only [ew_apply]
  rw [seen_apply]
  by_cases hs : m.val / 64 ≤ n.val / 64 ∧ n.val / 64 ≤ m.val / 64 + 8
  · rw [if_pos hs]
    refine Eq.trans ?_ e
    rw [Fintype.sum_unique (ι := Fin 1)]
    rfl
  · rw [if_neg hs, DS_zero H h n m hs]
    rfl

/-- The queries' gradient. -/
theorem out0_apply (H : Fine C B D) (n : Fin 8192) (l : Fin 512) :
    val_main_v146 (F := Ideal) C B D (ix3 0 n l) =
      ∑ x, DS C B D ⟨l.val / 64, by omega⟩ n x * Ideal.ofBits FTy.f32 1040187392#32 * val_main_v3 (F := Ideal) C (ix3 x ⟨l.val / 64, by omega⟩ ⟨l.val % 64, by omega⟩) := by
  pointwise [val_main_v146, val_main_v145, val_main_v144, val_main_v143]
  pointwise [val_main_v141, val_main_v140, val_main_v139, val_main_v136, val_main_v135, val_main_cst_22]
  simp only [ds_apply H]

theorem out1_apply (H : Fine C B D) (n : Fin 8192) (l : Fin 512) :
    val_main_v146 (F := Ideal) C B D (ix3 1 n l) =
      ∑ x, DS C B D ⟨l.val / 64, by omega⟩ x n * Ideal.ofBits FTy.f32 1040187392#32 * val_main_v1 (F := Ideal) C (ix3 x ⟨l.val / 64, by omega⟩ ⟨l.val % 64, by omega⟩) := by
  pointwise [val_main_v146, val_main_v145, val_main_v144, val_main_v142]
  pointwise [val_main_v138, val_main_v137, val_main_v136, val_main_v135, val_main_cst_22]
  simp only [ds_apply H]

theorem out2_apply (H : Fine C B D) (n : Fin 8192) (l : Fin 512) :
    val_main_v146 (F := Ideal) C B D (ix3 2 n l) =
      ∑ x, ge D ⟨l.val / 64, by omega⟩ x ⟨l.val % 64, by omega⟩ * pr (S C B ⟨l.val / 64, by omega⟩ x) n := by
  pointwise [val_main_v146, val_main_v145, val_main_v144, val_main_v143]
  pointwise [val_main_v113, val_main_v112]
  simp only [p_apply]
  rfl

/-- The tiles' gradient. -/
theorem tiles_out (H : Fine C B D) (v : Fin 3) (h : Fin 8) (n : Fin 256) (j : Fin 768) :
    val_main_v134 (F := Ideal) C B D (ix4 v h n j) = ∑ i : Fin 32, if v.val = min i.val 2 then
      DS C B D h (pos i n) ⟨(i.val - 2) * 256 + j.val, by omega⟩ else 0 := by
  rw [tiles_apply]
  refine Finset.sum_congr rfl fun i _ => ?_
  have hb : i.val - 2 + j.val / 256 < 32 := by omega
  rw [Finset.sum_eq_single (⟨i.val - 2 + j.val / 256, hb⟩ : Fin 32)]
  · split_ifs with h1 h2 h3
    · rw [ds_apply H]
      refine congrArg (DS C B D h (pos i n)) (Fin.ext ?_)
      show (i.val - 2 + j.val / 256) * 256 + j.val % 256 = _
      show _ = (i.val - 2) * 256 + j.val
      omega
    · exact absurd h1.1 h2
    · exact absurd ⟨h3, rfl⟩ h1
    · rfl
  · intro b _ hne
    rw [if_neg]
    rintro ⟨-, e⟩
    exact hne (Fin.ext e)
  · exact fun h => absurd (Finset.mem_univ _) h

end Cert.AttRefIdeal.Hand

end
-- ==== Proof.AttRun.lean ====
module

public import proofs.«01_k».proof.Proof.Gen.AttIdeal.Frame
public import proofs.«01_k».proof.Proof.Gen.AttIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.VecWindow
public import Idealize.ShloMosaic.Lib.WholeRead

@[expose] public section

set_option maxRecDepth 16384

noncomputable section

namespace Cert.AttIdeal.Hand

open Cert.AttIdeal Cert.AttIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Where the keys that a block of queries sees start. -/
theorem start_word : ∀ n : Fin 32, (Scalar.indexCast (Scalar.muli (Scalar.maxsi (Scalar.subi (BitVec.ofNat 32 n.val) 2#32) 0#32) 256#32)).toNat = (n.val - 2) * 256 := by
  decide +kernel

theorem k0_off1_eq (i : grid0.Coords) : k0_off1 i = ![0, ((i 1).val - 2) * 256, 0] :=
  congrArg (fun n => ![0, n, 0]) (start_word (i 1))

theorem k0_off3_eq (i : grid0.Coords) : k0_off3 i = ![((i 1).val - 2) * 256, 0] :=
  congrArg (fun n => ![n, 0]) (start_word (i 1))

instance closedOff_start (i : grid0.Coords) : ClosedOff (k0_off3 i) := ⟨![((i 1).val - 2) * 256, 0], k0_off3_eq i⟩

/-- The 768 keys that a block of queries sees. -/
def kk (i : grid0.Coords) (x3 : Vec F S1x8192x128 .bf16) : FVec F S768x128 .bf16 :=
  k0_pay8 (VecWindow.window x3 (k0_off1 i) S1x768x128.size (k0_off1_inb i))

/-- The 768 values that a block of queries sees. -/
def vv (i : grid0.Coords) (x4 : Vec F S1x8192x128 .bf16) : FVec F S768x128 .bf16 :=
  k0_pay9 (VecWindow.window x4 (k0_off1 i) S1x768x128.size (k0_off1_inb i))

/-- Which of the two heads of a pair each lane belongs to. -/
def lane  : IVec S256x128 32 :=
  k0_pay15 (iota .tc S256x128 32 [1] iota_S256x128_d1_w32) 64#32 k0_pay13 k0_pay14

/-- The first head's lanes. -/
def mine0  : IVec S256x128 1 :=
  k0_pay19 (iota .tc S256x128 32 [1] iota_S256x128_d1_w32) 64#32 k0_pay13 k0_pay14

/-- The first head's probabilities. -/
def e0 (i : grid0.Coords) (x2 : Vec F S1x256x128 .bf16) (x3 : Vec F S1x8192x128 .bf16) (x5 : Vec F S1x1x2x256x768 .f32) (x7 : Vec F S1x256x128 .f32) : FVec F S256x768 .f32 :=
  k0_pay22 (k0_pay7 x2) (kk i x3) (k0_pay12 x7) (iota .tc S256x128 32 [1] iota_S256x128_d1_w32) 64#32 k0_pay13 k0_pay14 (VecWindow.window x5 ![0, 0, 0, 0, 0] S1x1x1x256x768.size inb_S1x1x2x256x768_S1x1x1x256x768_0_0_0_0_0)

/-- The second head's scores. -/
def s1 (i : grid0.Coords) (x2 : Vec F S1x256x128 .bf16) (x3 : Vec F S1x8192x128 .bf16) (x5 : Vec F S1x1x2x256x768 .f32) : FVec F S256x768 .f32 :=
  k0_pay33 (k0_pay7 x2) (kk i x3) lane (VecWindow.window x5 ![0, 0, 1, 0, 0] S1x1x1x256x768.size inb_S1x1x2x256x768_S1x1x1x256x768_0_0_1_0_0)

/-- The first head's part of the output's cotangent. -/
def do0 (x8 : Vec F S1x256x128 .f32) : FVec F S256x128 .bf16 :=
  k0_pay21 (k0_pay10 x8) (iota .tc S256x128 32 [1] iota_S256x128_d1_w32) 64#32 k0_pay13 k0_pay14

/-- The second head's part of the output's cotangent. -/
def do1 (x8 : Vec F S1x256x128 .f32) : FVec F S256x128 .bf16 :=
  k0_pay32 (k0_pay10 x8) lane

/-- The mask. -/
def msk  : F .f32 :=
  Named.named κ "mask" 0xF149F2CA#32

/-- The first head's score gradient. -/
def dbA0 (i : grid0.Coords) (x2 : Vec F S1x256x128 .bf16) (x3 x4 : Vec F S1x8192x128 .bf16) (x5 : Vec F S1x1x2x256x768 .f32) (x6 : Vec F S256x128 .bf16) (x7 x8 : Vec F S1x256x128 .f32) : Vec F S1x1x256x768 .f32 :=
  k0_pay24 (vv i x4) (k0_pay11 x8 x6) mine0 (do0 x8) (e0 i x2 x3 x5 x7)

/-- The first head's score gradient added to what was there. -/
def dbB0 (i : grid0.Coords) (x2 : Vec F S1x256x128 .bf16) (x3 x4 : Vec F S1x8192x128 .bf16) (x5 : Vec F S1x1x2x256x768 .f32) (x6 : Vec F S256x128 .bf16) (x7 x8 : Vec F S1x256x128 .f32) (o : Vec F S1x1x256x768 .f32) : Vec F S1x1x256x768 .f32 :=
  k0_pay25 (vv i x4) (k0_pay11 x8 x6) mine0 (do0 x8) (e0 i x2 x3 x5 x7) o

/-- The second head's score gradient. -/
def dbA1 (i : grid0.Coords) (x2 : Vec F S1x256x128 .bf16) (x3 x4 : Vec F S1x8192x128 .bf16) (x5 : Vec F S1x1x2x256x768 .f32) (x6 : Vec F S256x128 .bf16) (x7 x8 : Vec F S1x256x128 .f32) : Vec F S1x1x256x768 .f32 :=
  k0_pay36 (vv i x4) (k0_pay11 x8 x6) (k0_pay12 x7) (k0_pay30 lane) (do1 x8) (s1 i x2 x3 x5) msk

/-- The second head's score gradient added to what was there. -/
def dbB1 (i : grid0.Coords) (x2 : Vec F S1x256x128 .bf16) (x3 x4 : Vec F S1x8192x128 .bf16) (x5 : Vec F S1x1x2x256x768 .f32) (x6 : Vec F S256x128 .bf16) (x7 x8 : Vec F S1x256x128 .f32) (o : Vec F S1x1x256x768 .f32) : Vec F S1x1x256x768 .f32 :=
  k0_pay37 (vv i x4) (k0_pay11 x8 x6) (k0_pay12 x7) (k0_pay30 lane) (do1 x8) (s1 i x2 x3 x5) msk o

/-- The gradient of a block of queries. -/
def dqp (i : grid0.Coords) (x2 : Vec F S1x256x128 .bf16) (x3 x4 : Vec F S1x8192x128 .bf16) (x5 : Vec F S1x1x2x256x768 .f32) (x6 : Vec F S256x128 .bf16) (x7 x8 : Vec F S1x256x128 .f32) : Vec F S1x256x128 .bf16 :=
  k0_pay40 (kk i x3) (vv i x4) (k0_pay11 x8 x6) (k0_pay12 x7) (k0_pay27 (kk i x3) (vv i x4) (k0_pay11 x8 x6) k0_pay16 mine0 (do0 x8) (e0 i x2 x3 x5 x7)) (k0_pay30 lane) (do1 x8) (s1 i x2 x3 x5) msk

/-- The gradient of the 768 keys from one block of queries, added to what was there. -/
def dkp (i : grid0.Coords) (x2 : Vec F S1x256x128 .bf16) (x3 x4 : Vec F S1x8192x128 .bf16) (x5 : Vec F S1x1x2x256x768 .f32) (x6 : Vec F S256x128 .bf16) (x7 x8 : Vec F S1x256x128 .f32) (o : Vec F S768x128 .f32) : Vec F S768x128 .f32 :=
  k0_pay1 (k0_pay41 (vv i x4) (k0_pay11 x8 x6) (k0_pay12 x7) (k0_pay28 (vv i x4) (k0_pay11 x8 x6) k0_pay17 mine0 (k0_pay20 (k0_pay7 x2) (iota .tc S256x128 32 [1] iota_S256x128_d1_w32) 64#32 k0_pay13 k0_pay14) (do0 x8) (e0 i x2 x3 x5 x7)) (k0_pay30 lane) (k0_pay31 (k0_pay7 x2) lane) (do1 x8) (s1 i x2 x3 x5) msk o)

/-- The gradient of the 768 values from one block of queries, added to what was there. -/
def dvp (i : grid0.Coords) (x2 : Vec F S1x256x128 .bf16) (x3 x4 : Vec F S1x8192x128 .bf16) (x5 : Vec F S1x1x2x256x768 .f32) (x6 : Vec F S256x128 .bf16) (x7 x8 : Vec F S1x256x128 .f32) (o : Vec F S768x128 .f32) : Vec F S768x128 .f32 :=
  k0_pay2 (k0_pay39 (k0_pay12 x7) (k0_pay29 k0_pay18 (do0 x8) (e0 i x2 x3 x5 x7)) (k0_pay30 lane) (do1 x8) (s1 i x2 x3 x5) msk) o

/-- The key gradients after one block of queries. -/
def upd11 (i : grid0.Coords) (x2 : Vec F S1x256x128 .bf16) (x3 x4 : Vec F S1x8192x128 .bf16) (x5 : Vec F S1x1x2x256x768 .f32) (x6 : Vec F S256x128 .bf16) (x7 x8 : Vec F S1x256x128 .f32) (x : Vec F S8192x128 .f32) : Vec F S8192x128 .f32 :=
  VecWindow.put x (k0_off3 i) S768x128.size (dkp i x2 x3 x4 x5 x6 x7 x8 (VecWindow.window x (k0_off3 i) S768x128.size (k0_off3_inb i)))

/-- The value gradients after one block of queries. -/
def upd12 (i : grid0.Coords) (x2 : Vec F S1x256x128 .bf16) (x3 x4 : Vec F S1x8192x128 .bf16) (x5 : Vec F S1x1x2x256x768 .f32) (x6 : Vec F S256x128 .bf16) (x7 x8 : Vec F S1x256x128 .f32) (x : Vec F S8192x128 .f32) : Vec F S8192x128 .f32 :=
  VecWindow.put x (k0_off3 i) S768x128.size (dvp i x2 x3 x4 x5 x6 x7 x8 (VecWindow.window x (k0_off3 i) S768x128.size (k0_off3_inb i)))

/-- The query gradients after one block of queries. -/
def upd9 (i : grid0.Coords) (x2 : Vec F S1x256x128 .bf16) (x3 x4 : Vec F S1x8192x128 .bf16) (x5 : Vec F S1x1x2x256x768 .f32) (x6 : Vec F S256x128 .bf16) (x7 x8 : Vec F S1x256x128 .f32) (x : Vec F S3x8192x128 .bf16) : Vec F S3x8192x128 .bf16 :=
  VecWindow.put x (k0_off2 i) S1x256x128.size (dqp i x2 x3 x4 x5 x6 x7 x8)

/-- The bias gradient after a block that starts it. -/
def fst10 (i : grid0.Coords) (x2 : Vec F S1x256x128 .bf16) (x3 x4 : Vec F S1x8192x128 .bf16) (x5 : Vec F S1x1x2x256x768 .f32) (x6 : Vec F S256x128 .bf16) (x7 x8 : Vec F S1x256x128 .f32) (x : Vec F S1x2x256x768 .f32) : Vec F S1x2x256x768 .f32 :=
  VecWindow.put (VecWindow.put x ![0, 0, 0, 0] S1x1x256x768.size (dbA0 i x2 x3 x4 x5 x6 x7 x8)) ![0, 1, 0, 0] S1x1x256x768.size (dbA1 i x2 x3 x4 x5 x6 x7 x8)

/-- The bias gradient after a block that adds to it. -/
def acc10 (i : grid0.Coords) (x2 : Vec F S1x256x128 .bf16) (x3 x4 : Vec F S1x8192x128 .bf16) (x5 : Vec F S1x1x2x256x768 .f32) (x6 : Vec F S256x128 .bf16) (x7 x8 : Vec F S1x256x128 .f32) (x : Vec F S1x2x256x768 .f32) : Vec F S1x2x256x768 .f32 :=
  VecWindow.put (VecWindow.put x ![0, 0, 0, 0] S1x1x256x768.size (dbB0 i x2 x3 x4 x5 x6 x7 x8 (VecWindow.window x ![0, 0, 0, 0] S1x1x256x768.size inb_S1x2x256x768_S1x1x256x768_0_0_0_0))) ![0, 1, 0, 0] S1x1x256x768.size (dbB1 i x2 x3 x4 x5 x6 x7 x8 (VecWindow.window x ![0, 1, 0, 0] S1x1x256x768.size inb_S1x2x256x768_S1x1x256x768_0_1_0_0))

/-- The three gradients once the last block of queries is through. -/
def fin9 (d : Vec F S3x8192x128 .bf16) (y11 y12 : Vec F S8192x128 .f32) : Vec F S3x8192x128 .bf16 :=
  VecWindow.put (VecWindow.put d ![1, 0, 0] S1x8192x128.size (k0_pay3 y11)) ![2, 0, 0] S1x8192x128.size (k0_pay4 y12)

set_option maxHeartbeats 400000 in
/-- A middle block of queries. -/
theorem run_mid (c : Dev nD) (i : grid0.Coords) (arg2 : Memref sig .tc .vmem S1x256x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x1x2x256x768 .f32) (harg5 : arg5.IsWhole) (arg6 : Memref sig .tc .vmem S256x128 .bf16) (harg6 : arg6.IsWhole) (arg7 : Memref sig .tc .vmem S1x256x128 .f32) (harg7 : arg7.IsWhole) (arg8 : Memref sig .tc .vmem S1x256x128 .f32) (harg8 : arg8.IsWhole) (arg9 : Memref sig .tc .vmem S3x8192x128 .bf16) (harg9 : arg9.IsWhole) (arg10 : Memref sig .tc .vmem S1x2x256x768 .f32) (harg10 : arg10.IsWhole) (arg11 : Memref sig .tc .vmem S8192x128 .f32) (harg11 : arg11.IsWhole) (arg12 : Memref sig .tc .vmem S8192x128 .f32) (harg12 : arg12.IsWhole)
    (hc1 : ¬ (Scalar.cmpi .ne (Scalar.extui (Scalar.cmpi .eq (BitVec.ofNat 32 (i 1).val) 0#32)) 0#32) = 1#1) (hc2 : ¬ k0_cond2 i = 1#1) (hc3 : k0_cond3 i = 1#1) (hc4 : ¬ k0_cond4 i = 1#1) (hc5 : k0_cond5 i = 1#1)
    (hc6 : ¬ (Scalar.cmpi .ne (Scalar.extui (Scalar.cmpi .eq (BitVec.ofNat 32 (i 1).val) 31#32)) 0#32) = 1#1)
    (x2 : Vec F S1x256x128 .bf16) (x3 : Vec F S1x8192x128 .bf16) (x4 : Vec F S1x8192x128 .bf16) (x5 : Vec F S1x1x2x256x768 .f32) (x6 : Vec F S256x128 .bf16) (x7 : Vec F S1x256x128 .f32) (x8 : Vec F S1x256x128 .f32) (x9 : Vec F S3x8192x128 .bf16) (x10 : Vec F S1x2x256x768 .f32) (x11 : Vec F S8192x128 .f32) (x12 : Vec F S8192x128 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (upd9 i x2 x3 x4 x5 x6 x7 x8 x9) ∗ owns (c : Thread nD τ) arg10 fullShare (acc10 i x2 x3 x4 x5 x6 x7 x8 x10) ∗ owns (c : Thread nD τ) arg11 fullShare (upd11 i x2 x3 x4 x5 x6 x7 x8 x11) ∗ owns (c : Thread nD τ) arg12 fullShare (upd12 i x2 x3 x4 x5 x6 x7 x8 x12)) -∗ K ⟨⟩))
    ⊢ wp frame (wpE (defs₀ (F := F)) Variants.none c none) E (cc0_att_bwd i arg2 harg2 arg3 harg3 arg4 harg4 arg5 harg5 arg6 harg6 arg7 harg7 arg8 harg8 arg9 harg9 arg10 harg10 arg11 harg11 arg12 harg12) K := by
  simp only [cc0_att_bwd_eq_skeleton]; unfold cc0_att_bwd_skel
  simp only [k0_part1_eq_skeleton, k0_part2_eq_skeleton, k0_part3_eq_skeleton, k0_part4_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf2; subst hf3; subst hf4; subst hf5; subst hf6; subst hf7; subst hf8; subst hf9; subst hf10; subst hf11; subst hf12
  sl_exec (disch := first | sl_exact hc1 | sl_exact hc2 | sl_exact hc3 | sl_exact hc4 | sl_exact hc5 | sl_exact hc6)
  sl_step
  iapply Hk
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  on_goal 1 => iexists _; isplitr; swap; · iexact H9
  rotate_left
  isplitl [H10]
  on_goal 1 => iexists _; isplitr; swap; · iexact H10
  rotate_left
  isplitl [H11]
  on_goal 1 => iexists _; isplitr; swap; · iexact H11
  rotate_left
  iexists _; isplitr; swap; · iexact H12
  all_goals (ipureintro; (first | rw [View.read_writes_cons_put _ _ _ _ _ rfl, View.read_writes_cons_put _ _ _ _ [] rfl] | rw [View.read_writes_cons_put _ _ _ _ [] rfl]); (try delta run_mid.sl.r_18 run_mid.sl.r_17 run_mid.sl.r_16 run_mid.sl.r_15 run_mid.sl.r_14 run_mid.sl.r_13 run_mid.sl.r_12 run_mid.sl.r_11 run_mid.sl.r_10 run_mid.sl.r_9 run_mid.sl.r_8 run_mid.sl.r_7 run_mid.sl.r_6 run_mid.sl.r_5 run_mid.sl.r_4 run_mid.sl.r_3 run_mid.sl.r_2 run_mid.sl.r_1 run_mid.sl.r run_mid.sl.v24 run_mid.sl.cst_54 run_mid.sl.v165 upd9 upd11 upd12 fst10 acc10 fin9 dqp dkp dvp dbA0 dbB0 dbA1 dbB1 e0 s1 kk vv do0 do1 mine0 lane msk); (try rw [View.readAt_full arg2.view f2 inb_S1x256x128_S1x256x128_0_0_0]); (try rw [View.readAt_full arg6.view f6 inb_S256x128_S256x128_0_0]); (try rw [View.readAt_full arg7.view f7 inb_S1x256x128_S1x256x128_0_0_0]); (try rw [View.readAt_full arg8.view f8 inb_S1x256x128_S1x256x128_0_0_0]); rfl)

set_option maxHeartbeats 400000 in
/-- A block of queries that starts the bias gradient it meets. -/
theorem run_start (c : Dev nD) (i : grid0.Coords) (arg2 : Memref sig .tc .vmem S1x256x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x1x2x256x768 .f32) (harg5 : arg5.IsWhole) (arg6 : Memref sig .tc .vmem S256x128 .bf16) (harg6 : arg6.IsWhole) (arg7 : Memref sig .tc .vmem S1x256x128 .f32) (harg7 : arg7.IsWhole) (arg8 : Memref sig .tc .vmem S1x256x128 .f32) (harg8 : arg8.IsWhole) (arg9 : Memref sig .tc .vmem S3x8192x128 .bf16) (harg9 : arg9.IsWhole) (arg10 : Memref sig .tc .vmem S1x2x256x768 .f32) (harg10 : arg10.IsWhole) (arg11 : Memref sig .tc .vmem S8192x128 .f32) (harg11 : arg11.IsWhole) (arg12 : Memref sig .tc .vmem S8192x128 .f32) (harg12 : arg12.IsWhole)
    (hc1 : ¬ (Scalar.cmpi .ne (Scalar.extui (Scalar.cmpi .eq (BitVec.ofNat 32 (i 1).val) 0#32)) 0#32) = 1#1) (hc2 : k0_cond2 i = 1#1) (hc3 : ¬ k0_cond3 i = 1#1) (hc4 : k0_cond4 i = 1#1) (hc5 : ¬ k0_cond5 i = 1#1)
    (hc6 : ¬ (Scalar.cmpi .ne (Scalar.extui (Scalar.cmpi .eq (BitVec.ofNat 32 (i 1).val) 31#32)) 0#32) = 1#1)
    (x2 : Vec F S1x256x128 .bf16) (x3 : Vec F S1x8192x128 .bf16) (x4 : Vec F S1x8192x128 .bf16) (x5 : Vec F S1x1x2x256x768 .f32) (x6 : Vec F S256x128 .bf16) (x7 : Vec F S1x256x128 .f32) (x8 : Vec F S1x256x128 .f32) (x9 : Vec F S3x8192x128 .bf16) (x10 : Vec F S1x2x256x768 .f32) (x11 : Vec F S8192x128 .f32) (x12 : Vec F S8192x128 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (upd9 i x2 x3 x4 x5 x6 x7 x8 x9) ∗ owns (c : Thread nD τ) arg10 fullShare (fst10 i x2 x3 x4 x5 x6 x7 x8 x10) ∗ owns (c : Thread nD τ) arg11 fullShare (upd11 i x2 x3 x4 x5 x6 x7 x8 x11) ∗ owns (c : Thread nD τ) arg12 fullShare (upd12 i x2 x3 x4 x5 x6 x7 x8 x12)) -∗ K ⟨⟩))
    ⊢ wp frame (wpE (defs₀ (F := F)) Variants.none c none) E (cc0_att_bwd i arg2 harg2 arg3 harg3 arg4 harg4 arg5 harg5 arg6 harg6 arg7 harg7 arg8 harg8 arg9 harg9 arg10 harg10 arg11 harg11 arg12 harg12) K := by
  simp only [cc0_att_bwd_eq_skeleton]; unfold cc0_att_bwd_skel
  simp only [k0_part1_eq_skeleton, k0_part2_eq_skeleton, k0_part3_eq_skeleton, k0_part4_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf2; subst hf3; subst hf4; subst hf5; subst hf6; subst hf7; subst hf8; subst hf9; subst hf10; subst hf11; subst hf12
  sl_exec (disch := first | sl_exact hc1 | sl_exact hc2 | sl_exact hc3 | sl_exact hc4 | sl_exact hc5 | sl_exact hc6)
  sl_step
  iapply Hk
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  on_goal 1 => iexists _; isplitr; swap; · iexact H9
  rotate_left
  isplitl [H10]
  on_goal 1 => iexists _; isplitr; swap; · iexact H10
  rotate_left
  isplitl [H11]
  on_goal 1 => iexists _; isplitr; swap; · iexact H11
  rotate_left
  iexists _; isplitr; swap; · iexact H12
  all_goals (ipureintro; (first | rw [View.read_writes_cons_put _ _ _ _ _ rfl, View.read_writes_cons_put _ _ _ _ [] rfl] | rw [View.read_writes_cons_put _ _ _ _ [] rfl]); (try delta run_start.sl.r_18 run_start.sl.r_17 run_start.sl.r_16 run_start.sl.r_15 run_start.sl.r_14 run_start.sl.r_13 run_start.sl.r_12 run_start.sl.r_11 run_start.sl.r_10 run_start.sl.r_9 run_start.sl.r_8 run_start.sl.r_7 run_start.sl.r_6 run_start.sl.r_5 run_start.sl.r_4 run_start.sl.r_3 run_start.sl.r_2 run_start.sl.r_1 run_start.sl.r run_start.sl.v24 run_start.sl.cst_54 upd9 upd11 upd12 fst10 acc10 fin9 dqp dkp dvp dbA0 dbB0 dbA1 dbB1 e0 s1 kk vv do0 do1 mine0 lane msk); (try rw [View.readAt_full arg2.view f2 inb_S1x256x128_S1x256x128_0_0_0]); (try rw [View.readAt_full arg6.view f6 inb_S256x128_S256x128_0_0]); (try rw [View.readAt_full arg7.view f7 inb_S1x256x128_S1x256x128_0_0_0]); (try rw [View.readAt_full arg8.view f8 inb_S1x256x128_S1x256x128_0_0_0]); rfl)

set_option maxHeartbeats 400000 in
/-- A head pair's first block of queries. -/
theorem run_first (c : Dev nD) (i : grid0.Coords) (arg2 : Memref sig .tc .vmem S1x256x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x1x2x256x768 .f32) (harg5 : arg5.IsWhole) (arg6 : Memref sig .tc .vmem S256x128 .bf16) (harg6 : arg6.IsWhole) (arg7 : Memref sig .tc .vmem S1x256x128 .f32) (harg7 : arg7.IsWhole) (arg8 : Memref sig .tc .vmem S1x256x128 .f32) (harg8 : arg8.IsWhole) (arg9 : Memref sig .tc .vmem S3x8192x128 .bf16) (harg9 : arg9.IsWhole) (arg10 : Memref sig .tc .vmem S1x2x256x768 .f32) (harg10 : arg10.IsWhole) (arg11 : Memref sig .tc .vmem S8192x128 .f32) (harg11 : arg11.IsWhole) (arg12 : Memref sig .tc .vmem S8192x128 .f32) (harg12 : arg12.IsWhole)
    (hc1 : (Scalar.cmpi .ne (Scalar.extui (Scalar.cmpi .eq (BitVec.ofNat 32 (i 1).val) 0#32)) 0#32) = 1#1) (hc2 : k0_cond2 i = 1#1) (hc3 : ¬ k0_cond3 i = 1#1) (hc4 : k0_cond4 i = 1#1) (hc5 : ¬ k0_cond5 i = 1#1)
    (hc6 : ¬ (Scalar.cmpi .ne (Scalar.extui (Scalar.cmpi .eq (BitVec.ofNat 32 (i 1).val) 31#32)) 0#32) = 1#1)
    (x2 : Vec F S1x256x128 .bf16) (x3 : Vec F S1x8192x128 .bf16) (x4 : Vec F S1x8192x128 .bf16) (x5 : Vec F S1x1x2x256x768 .f32) (x6 : Vec F S256x128 .bf16) (x7 : Vec F S1x256x128 .f32) (x8 : Vec F S1x256x128 .f32) (x9 : Vec F S3x8192x128 .bf16) (x10 : Vec F S1x2x256x768 .f32) (x11 : Vec F S8192x128 .f32) (x12 : Vec F S8192x128 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (upd9 i x2 x3 x4 x5 x6 x7 x8 x9) ∗ owns (c : Thread nD τ) arg10 fullShare (fst10 i x2 x3 x4 x5 x6 x7 x8 x10) ∗ owns (c : Thread nD τ) arg11 fullShare (upd11 i x2 x3 x4 x5 x6 x7 x8 k0_pay5) ∗ owns (c : Thread nD τ) arg12 fullShare (upd12 i x2 x3 x4 x5 x6 x7 x8 k0_pay6)) -∗ K ⟨⟩))
    ⊢ wp frame (wpE (defs₀ (F := F)) Variants.none c none) E (cc0_att_bwd i arg2 harg2 arg3 harg3 arg4 harg4 arg5 harg5 arg6 harg6 arg7 harg7 arg8 harg8 arg9 harg9 arg10 harg10 arg11 harg11 arg12 harg12) K := by
  simp only [cc0_att_bwd_eq_skeleton]; unfold cc0_att_bwd_skel
  simp only [k0_part1_eq_skeleton, k0_part2_eq_skeleton, k0_part3_eq_skeleton, k0_part4_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf2; subst hf3; subst hf4; subst hf5; subst hf6; subst hf7; subst hf8; subst hf9; subst hf10; subst hf11; subst hf12
  sl_exec (disch := first | sl_exact hc1 | sl_exact hc2 | sl_exact hc3 | sl_exact hc4 | sl_exact hc5 | sl_exact hc6)
  sl_step
  iapply Hk
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  on_goal 1 => iexists _; isplitr; swap; · iexact H9
  rotate_left
  isplitl [H10]
  on_goal 1 => iexists _; isplitr; swap; · iexact H10
  rotate_left
  isplitl [H11]
  on_goal 1 => iexists _; isplitr; swap; · iexact H11
  rotate_left
  iexists _; isplitr; swap; · iexact H12
  all_goals (ipureintro; (first | ((try delta run_first.sl.r_18 run_first.sl.v156 run_first.sl.H11_1 run_first.sl.H12_1); rw [View.read_writes_cons_put _ _ _ _ _ rfl, View.read_writes_full, View.readAt_unit arg11.view _ _ rfl (k0_off3_inb i), View.read_writes_full]) | ((try delta run_first.sl.r_18 run_first.sl.v156 run_first.sl.H11_1 run_first.sl.H12_1); rw [View.read_writes_cons_put _ _ _ _ _ rfl, View.read_writes_full, View.readAt_unit arg12.view _ _ rfl (k0_off3_inb i), View.read_writes_full]) | rw [View.read_writes_cons_put _ _ _ _ _ rfl, View.read_writes_cons_put _ _ _ _ [] rfl] | rw [View.read_writes_cons_put _ _ _ _ [] rfl]); (try delta run_first.sl.r_18 run_first.sl.r_17 run_first.sl.r_16 run_first.sl.r_15 run_first.sl.r_14 run_first.sl.r_13 run_first.sl.r_12 run_first.sl.r_11 run_first.sl.r_10 run_first.sl.r_9 run_first.sl.r_8 run_first.sl.r_7 run_first.sl.r_6 run_first.sl.r_5 run_first.sl.r_4 run_first.sl.r_3 run_first.sl.r_2 run_first.sl.r_1 run_first.sl.r run_first.sl.v24 run_first.sl.cst_54 run_first.sl.v156 upd9 upd11 upd12 fst10 acc10 fin9 dqp dkp dvp dbA0 dbB0 dbA1 dbB1 e0 s1 kk vv do0 do1 mine0 lane msk); (try rw [View.readAt_full arg2.view f2 inb_S1x256x128_S1x256x128_0_0_0]); (try rw [View.readAt_full arg6.view f6 inb_S256x128_S256x128_0_0]); (try rw [View.readAt_full arg7.view f7 inb_S1x256x128_S1x256x128_0_0_0]); (try rw [View.readAt_full arg8.view f8 inb_S1x256x128_S1x256x128_0_0_0]); rfl)

set_option maxHeartbeats 400000 in
/-- A head pair's last block of queries. -/
theorem run_last (c : Dev nD) (i : grid0.Coords) (arg2 : Memref sig .tc .vmem S1x256x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x1x2x256x768 .f32) (harg5 : arg5.IsWhole) (arg6 : Memref sig .tc .vmem S256x128 .bf16) (harg6 : arg6.IsWhole) (arg7 : Memref sig .tc .vmem S1x256x128 .f32) (harg7 : arg7.IsWhole) (arg8 : Memref sig .tc .vmem S1x256x128 .f32) (harg8 : arg8.IsWhole) (arg9 : Memref sig .tc .vmem S3x8192x128 .bf16) (harg9 : arg9.IsWhole) (arg10 : Memref sig .tc .vmem S1x2x256x768 .f32) (harg10 : arg10.IsWhole) (arg11 : Memref sig .tc .vmem S8192x128 .f32) (harg11 : arg11.IsWhole) (arg12 : Memref sig .tc .vmem S8192x128 .f32) (harg12 : arg12.IsWhole)
    (hc1 : ¬ (Scalar.cmpi .ne (Scalar.extui (Scalar.cmpi .eq (BitVec.ofNat 32 (i 1).val) 0#32)) 0#32) = 1#1) (hc2 : ¬ k0_cond2 i = 1#1) (hc3 : k0_cond3 i = 1#1) (hc4 : ¬ k0_cond4 i = 1#1) (hc5 : k0_cond5 i = 1#1)
    (hc6 : (Scalar.cmpi .ne (Scalar.extui (Scalar.cmpi .eq (BitVec.ofNat 32 (i 1).val) 31#32)) 0#32) = 1#1)
    (x2 : Vec F S1x256x128 .bf16) (x3 : Vec F S1x8192x128 .bf16) (x4 : Vec F S1x8192x128 .bf16) (x5 : Vec F S1x1x2x256x768 .f32) (x6 : Vec F S256x128 .bf16) (x7 : Vec F S1x256x128 .f32) (x8 : Vec F S1x256x128 .f32) (x9 : Vec F S3x8192x128 .bf16) (x10 : Vec F S1x2x256x768 .f32) (x11 : Vec F S8192x128 .f32) (x12 : Vec F S8192x128 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (fin9 (upd9 i x2 x3 x4 x5 x6 x7 x8 x9) (upd11 i x2 x3 x4 x5 x6 x7 x8 x11) (upd12 i x2 x3 x4 x5 x6 x7 x8 x12)) ∗ owns (c : Thread nD τ) arg10 fullShare (acc10 i x2 x3 x4 x5 x6 x7 x8 x10) ∗ owns (c : Thread nD τ) arg11 fullShare (upd11 i x2 x3 x4 x5 x6 x7 x8 x11) ∗ owns (c : Thread nD τ) arg12 fullShare (upd12 i x2 x3 x4 x5 x6 x7 x8 x12)) -∗ K ⟨⟩))
    ⊢ wp frame (wpE (defs₀ (F := F)) Variants.none c none) E (cc0_att_bwd i arg2 harg2 arg3 harg3 arg4 harg4 arg5 harg5 arg6 harg6 arg7 harg7 arg8 harg8 arg9 harg9 arg10 harg10 arg11 harg11 arg12 harg12) K := by
  simp only [cc0_att_bwd_eq_skeleton]; unfold cc0_att_bwd_skel
  simp only [k0_part1_eq_skeleton, k0_part2_eq_skeleton, k0_part3_eq_skeleton, k0_part4_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf2; subst hf3; subst hf4; subst hf5; subst hf6; subst hf7; subst hf8; subst hf9; subst hf10; subst hf11; subst hf12
  sl_exec (disch := first | sl_exact hc1 | sl_exact hc2 | sl_exact hc3 | sl_exact hc4 | sl_exact hc5 | sl_exact hc6)
  sl_step
  iapply Hk
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  on_goal 1 => iexists _; isplitr; swap; · iexact H9
  rotate_left
  isplitl [H10]
  on_goal 1 => iexists _; isplitr; swap; · iexact H10
  rotate_left
  isplitl [H11]
  on_goal 1 => iexists _; isplitr; swap; · iexact H11
  rotate_left
  iexists _; isplitr; swap; · iexact H12
  all_goals (ipureintro; (first | ((try delta run_last.sl.v170 run_last.sl.v165_1 run_last.sl.H11_1 run_last.sl.H12_1); rw [View.read_writes_cons_put _ _ _ _ _ rfl, View.read_writes_cons_put _ _ _ _ _ rfl, View.read_writes_cons_put _ _ _ _ [] rfl, View.readAt_full arg12.view _ inb_S8192x128_S8192x128_0_0, View.readAt_full arg11.view _ inb_S8192x128_S8192x128_0_0, View.read_writes_cons_put _ _ _ _ [] rfl, View.read_writes_cons_put _ _ _ _ [] rfl]) | rw [View.read_writes_cons_put _ _ _ _ _ rfl, View.read_writes_cons_put _ _ _ _ [] rfl] | ((try delta run_last.sl.H11_1 run_last.sl.H12_1); rw [View.read_writes_cons_put _ _ _ _ [] rfl])); (try delta run_last.sl.r_18 run_last.sl.r_17 run_last.sl.r_16 run_last.sl.r_15 run_last.sl.r_14 run_last.sl.r_13 run_last.sl.r_12 run_last.sl.r_11 run_last.sl.r_10 run_last.sl.r_9 run_last.sl.r_8 run_last.sl.r_7 run_last.sl.r_6 run_last.sl.r_5 run_last.sl.r_4 run_last.sl.r_3 run_last.sl.r_2 run_last.sl.r_1 run_last.sl.r run_last.sl.v24 run_last.sl.cst_54 run_last.sl.v165 run_last.sl.v170 upd9 upd11 upd12 fst10 acc10 fin9 dqp dkp dvp dbA0 dbB0 dbA1 dbB1 e0 s1 kk vv do0 do1 mine0 lane msk); (try rw [View.readAt_full arg2.view f2 inb_S1x256x128_S1x256x128_0_0_0]); (try rw [View.readAt_full arg6.view f6 inb_S256x128_S256x128_0_0]); (try rw [View.readAt_full arg7.view f7 inb_S1x256x128_S1x256x128_0_0_0]); (try rw [View.readAt_full arg8.view f8 inb_S1x256x128_S1x256x128_0_0_0]); rfl)

end Cert.AttIdeal.Hand

end
-- ==== Proof.AttRel.lean ====
module

public import proofs.«01_k».proof.Proof.Gen.AttIdeal.Frame
public import proofs.«01_k».proof.Proof.Gen.AttIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.Pipeline.DatRel
public import Idealize.ShloMosaic.Lib.Pipeline.ArrRel
public import proofs.«01_k».proof.Proof.Gen.AttIdeal.Points
public import proofs.«01_k».proof.Proof.AttRun

@[expose] public section

set_option maxRecDepth 16384

noncomputable section

namespace Cert.AttIdeal.Hand

open Cert.AttIdeal Cert.AttIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! Which way the body's branches go, by the block of queries. -/

theorem br_first (i : grid0.Coords) (h : (i 1).val = 0) :
    (Scalar.cmpi .ne (Scalar.extui (Scalar.cmpi .eq (BitVec.ofNat 32 (i 1).val) 0#32)) 0#32) = 1#1 ∧ k0_cond2 i = 1#1 ∧ ¬ k0_cond3 i = 1#1 ∧ k0_cond4 i = 1#1 ∧ ¬ k0_cond5 i = 1#1 ∧ ¬ (Scalar.cmpi .ne (Scalar.extui (Scalar.cmpi .eq (BitVec.ofNat 32 (i 1).val) 31#32)) 0#32) = 1#1 := by
  unfold k0_cond2 k0_cond3 k0_cond4 k0_cond5
  revert h
  generalize i 1 = n
  revert n
  decide +kernel

theorem br_start (i : grid0.Coords) (h : (i 1).val ≠ 0 ∧ (i 1).val ≤ 2) :
    ¬ (Scalar.cmpi .ne (Scalar.extui (Scalar.cmpi .eq (BitVec.ofNat 32 (i 1).val) 0#32)) 0#32) = 1#1 ∧ k0_cond2 i = 1#1 ∧ ¬ k0_cond3 i = 1#1 ∧ k0_cond4 i = 1#1 ∧ ¬ k0_cond5 i = 1#1 ∧ ¬ (Scalar.cmpi .ne (Scalar.extui (Scalar.cmpi .eq (BitVec.ofNat 32 (i 1).val) 31#32)) 0#32) = 1#1 := by
  unfold k0_cond2 k0_cond3 k0_cond4 k0_cond5
  revert h
  generalize i 1 = n
  revert n
  decide +kernel

theorem br_mid (i : grid0.Coords) (h : 2 < (i 1).val ∧ (i 1).val ≠ 31) :
    ¬ (Scalar.cmpi .ne (Scalar.extui (Scalar.cmpi .eq (BitVec.ofNat 32 (i 1).val) 0#32)) 0#32) = 1#1 ∧ ¬ k0_cond2 i = 1#1 ∧ k0_cond3 i = 1#1 ∧ ¬ k0_cond4 i = 1#1 ∧ k0_cond5 i = 1#1 ∧ ¬ (Scalar.cmpi .ne (Scalar.extui (Scalar.cmpi .eq (BitVec.ofNat 32 (i 1).val) 31#32)) 0#32) = 1#1 := by
  unfold k0_cond2 k0_cond3 k0_cond4 k0_cond5
  revert h
  generalize i 1 = n
  revert n
  decide +kernel

theorem br_last (i : grid0.Coords) (h : (i 1).val = 31) :
    ¬ (Scalar.cmpi .ne (Scalar.extui (Scalar.cmpi .eq (BitVec.ofNat 32 (i 1).val) 0#32)) 0#32) = 1#1 ∧ ¬ k0_cond2 i = 1#1 ∧ k0_cond3 i = 1#1 ∧ ¬ k0_cond4 i = 1#1 ∧ k0_cond5 i = 1#1 ∧ (Scalar.cmpi .ne (Scalar.extui (Scalar.cmpi .eq (BitVec.ofNat 32 (i 1).val) 31#32)) 0#32) = 1#1 := by
  unfold k0_cond2 k0_cond3 k0_cond4 k0_cond5
  revert h
  generalize i 1 = n
  revert n
  decide +kernel

/-- The query gradients, and after the last block of queries all three, from what was there. -/
def n9 (i : grid0.Coords) (x2 : Vec F S1x256x128 .bf16) (x3 x4 : Vec F S1x8192x128 .bf16) (x5 : Vec F S1x1x2x256x768 .f32) (x6 : Vec F S256x128 .bf16) (x7 x8 : Vec F S1x256x128 .f32) (x9 : Vec F S3x8192x128 .bf16) (y11 y12 : Vec F S8192x128 .f32) : Vec F S3x8192x128 .bf16 :=
  if (i 1).val = 31 then fin9 (upd9 i x2 x3 x4 x5 x6 x7 x8 x9) y11 y12 else upd9 i x2 x3 x4 x5 x6 x7 x8 x9

/-- The bias gradient, from what was there. -/
def n10 (i : grid0.Coords) (x2 : Vec F S1x256x128 .bf16) (x3 x4 : Vec F S1x8192x128 .bf16) (x5 : Vec F S1x1x2x256x768 .f32) (x6 : Vec F S256x128 .bf16) (x7 x8 : Vec F S1x256x128 .f32) (x10 : Vec F S1x2x256x768 .f32) : Vec F S1x2x256x768 .f32 :=
  if (i 1).val ≤ 2 then fst10 i x2 x3 x4 x5 x6 x7 x8 x10 else acc10 i x2 x3 x4 x5 x6 x7 x8 x10

/-- The key gradients, from what was there. -/
def n11 (i : grid0.Coords) (x2 : Vec F S1x256x128 .bf16) (x3 x4 : Vec F S1x8192x128 .bf16) (x5 : Vec F S1x1x2x256x768 .f32) (x6 : Vec F S256x128 .bf16) (x7 x8 : Vec F S1x256x128 .f32) (x11 : Vec F S8192x128 .f32) : Vec F S8192x128 .f32 :=
  upd11 i x2 x3 x4 x5 x6 x7 x8 (if (i 1).val = 0 then k0_pay5 else x11)

/-- The value gradients, from what was there. -/
def n12 (i : grid0.Coords) (x2 : Vec F S1x256x128 .bf16) (x3 x4 : Vec F S1x8192x128 .bf16) (x5 : Vec F S1x1x2x256x768 .f32) (x6 : Vec F S256x128 .bf16) (x7 x8 : Vec F S1x256x128 .f32) (x12 : Vec F S8192x128 .f32) : Vec F S8192x128 .f32 :=
  upd12 i x2 x3 x4 x5 x6 x7 x8 (if (i 1).val = 0 then k0_pay6 else x12)

/-- One run of the body, at any block of queries. -/
theorem run_point (c : Dev nD) (i : grid0.Coords) (arg2 : Memref sig .tc .vmem S1x256x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x1x2x256x768 .f32) (harg5 : arg5.IsWhole) (arg6 : Memref sig .tc .vmem S256x128 .bf16) (harg6 : arg6.IsWhole) (arg7 : Memref sig .tc .vmem S1x256x128 .f32) (harg7 : arg7.IsWhole) (arg8 : Memref sig .tc .vmem S1x256x128 .f32) (harg8 : arg8.IsWhole) (arg9 : Memref sig .tc .vmem S3x8192x128 .bf16) (harg9 : arg9.IsWhole) (arg10 : Memref sig .tc .vmem S1x2x256x768 .f32) (harg10 : arg10.IsWhole) (arg11 : Memref sig .tc .vmem S8192x128 .f32) (harg11 : arg11.IsWhole) (arg12 : Memref sig .tc .vmem S8192x128 .f32) (harg12 : arg12.IsWhole)
    (x2 : Vec F S1x256x128 .bf16) (x3 : Vec F S1x8192x128 .bf16) (x4 : Vec F S1x8192x128 .bf16) (x5 : Vec F S1x1x2x256x768 .f32) (x6 : Vec F S256x128 .bf16) (x7 : Vec F S1x256x128 .f32) (x8 : Vec F S1x256x128 .f32) (x9 : Vec F S3x8192x128 .bf16) (x10 : Vec F S1x2x256x768 .f32) (x11 : Vec F S8192x128 .f32) (x12 : Vec F S8192x128 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (n9 i x2 x3 x4 x5 x6 x7 x8 x9 (n11 i x2 x3 x4 x5 x6 x7 x8 x11) (n12 i x2 x3 x4 x5 x6 x7 x8 x12)) ∗ owns (c : Thread nD τ) arg10 fullShare (n10 i x2 x3 x4 x5 x6 x7 x8 x10) ∗ owns (c : Thread nD τ) arg11 fullShare (n11 i x2 x3 x4 x5 x6 x7 x8 x11) ∗ owns (c : Thread nD τ) arg12 fullShare (n12 i x2 x3 x4 x5 x6 x7 x8 x12)) -∗ K ⟨⟩))
    ⊢ wp frame (wpE (defs₀ (F := F)) Variants.none c none) E (cc0_att_bwd i arg2 harg2 arg3 harg3 arg4 harg4 arg5 harg5 arg6 harg6 arg7 harg7 arg8 harg8 arg9 harg9 arg10 harg10 arg11 harg11 arg12 harg12) K := by
  have hi := (i 1).isLt
  unfold n9 n10 n11 n12
  rcases (by omega : (i 1).val = 0 ∨ ((i 1).val ≠ 0 ∧ (i 1).val ≤ 2) ∨ (2 < (i 1).val ∧ (i 1).val ≠ 31) ∨ (i 1).val = 31) with h | h | h | h
  · obtain ⟨hc1, hc2, hc3, hc4, hc5, hc6⟩ := br_first i h
    rw [if_neg (by omega), if_pos (by omega), if_pos h, if_pos h]
    exact run_first c i arg2 harg2 arg3 harg3 arg4 harg4 arg5 harg5 arg6 harg6 arg7 harg7 arg8 harg8 arg9 harg9 arg10 harg10 arg11 harg11 arg12 harg12 hc1 hc2 hc3 hc4 hc5 hc6 x2 x3 x4 x5 x6 x7 x8 x9 x10 x11 x12 E K
  · obtain ⟨hc1, hc2, hc3, hc4, hc5, hc6⟩ := br_start i h
    rw [if_neg (by omega), if_pos (by omega), if_neg (by omega), if_neg (by omega)]
    exact run_start c i arg2 harg2 arg3 harg3 arg4 harg4 arg5 harg5 arg6 harg6 arg7 harg7 arg8 harg8 arg9 harg9 arg10 harg10 arg11 harg11 arg12 harg12 hc1 hc2 hc3 hc4 hc5 hc6 x2 x3 x4 x5 x6 x7 x8 x9 x10 x11 x12 E K
  · obtain ⟨hc1, hc2, hc3, hc4, hc5, hc6⟩ := br_mid i h
    rw [if_neg (by omega), if_neg (by omega), if_neg (by omega), if_neg (by omega)]
    exact run_mid c i arg2 harg2 arg3 harg3 arg4 harg4 arg5 harg5 arg6 harg6 arg7 harg7 arg8 harg8 arg9 harg9 arg10 harg10 arg11 harg11 arg12 harg12 hc1 hc2 hc3 hc4 hc5 hc6 x2 x3 x4 x5 x6 x7 x8 x9 x10 x11 x12 E K
  · obtain ⟨hc1, hc2, hc3, hc4, hc5, hc6⟩ := br_last i h
    rw [if_pos (by omega), if_neg (by omega), if_neg (by omega), if_neg (by omega)]
    exact run_last c i arg2 harg2 arg3 harg3 arg4 harg4 arg5 harg5 arg6 harg6 arg7 harg7 arg8 harg8 arg9 harg9 arg10 harg10 arg11 harg11 arg12 harg12 hc1 hc2 hc3 hc4 hc5 hc6 x2 x3 x4 x5 x6 x7 x8 x9 x10 x11 x12 E K

/-- A block that starts the bias gradient covers what was there. -/
theorem fst10_irrel (i : grid0.Coords) (x2 : Vec F S1x256x128 .bf16) (x3 x4 : Vec F S1x8192x128 .bf16) (x5 : Vec F S1x1x2x256x768 .f32) (x6 : Vec F S256x128 .bf16) (x7 x8 : Vec F S1x256x128 .f32) (x x' : Vec F S1x2x256x768 .f32) : fst10 i x2 x3 x4 x5 x6 x7 x8 x = fst10 i x2 x3 x4 x5 x6 x7 x8 x' := by
  unfold fst10
  funext y
  have h0 := (y 0).isLt
  have h1 := (y 1).isLt
  have h2 := (y 2).isLt
  have h3 := (y 3).isLt
  unfold VecWindow.put
  by_cases ha : ∀ a, ![0, 1, 0, 0] a ≤ (y a).val ∧ (y a).val < ![0, 1, 0, 0] a + S1x1x256x768.size a
  · rw [dif_pos ha, dif_pos ha]
  · rw [dif_neg ha, dif_neg ha]
    by_cases hb : ∀ a, ![0, 0, 0, 0] a ≤ (y a).val ∧ (y a).val < ![0, 0, 0, 0] a + S1x1x256x768.size a
    · rw [dif_pos hb, dif_pos hb]
    · exfalso
      by_cases h : (y 1).val = 0
      · exact hb fun | 0 => ⟨Nat.zero_le _, h0⟩ | 1 => ⟨Nat.zero_le _, by show (y 1).val < 0 + 1; omega⟩ | 2 => ⟨Nat.zero_le _, by show (y 2).val < 0 + 256; have : (y 2).val < 256 := h2; omega⟩ | 3 => ⟨Nat.zero_le _, by show (y 3).val < 0 + 768; have : (y 3).val < 768 := h3; omega⟩
      · exact ha fun | 0 => ⟨Nat.zero_le _, h0⟩ | 1 => ⟨by show 1 ≤ (y 1).val; omega, h1⟩ | 2 => ⟨Nat.zero_le _, by show (y 2).val < 0 + 256; have : (y 2).val < 256 := h2; omega⟩ | 3 => ⟨Nat.zero_le _, by show (y 3).val < 0 + 768; have : (y 3).val < 768 := h3; omega⟩

/-- The staging buffer of window 0 at a point. -/
abbrev ms0 (t : Fin cfg0.N) : Memref sig .tc .vmem S1x256x128 .bf16 := win0_0.stage (cfg0.slots t 0)
/-- The staging buffer of window 1 at a point. -/
abbrev ms1 (t : Fin cfg0.N) : Memref sig .tc .vmem S1x8192x128 .bf16 := win0_1.stage (cfg0.slots t 1)
/-- The staging buffer of window 2 at a point. -/
abbrev ms2 (t : Fin cfg0.N) : Memref sig .tc .vmem S1x8192x128 .bf16 := win0_2.stage (cfg0.slots t 2)
/-- The staging buffer of window 3 at a point. -/
abbrev ms3 (t : Fin cfg0.N) : Memref sig .tc .vmem S1x1x2x256x768 .f32 := win0_3.stage (cfg0.slots t 3)
/-- The staging buffer of window 4 at a point. -/
abbrev ms4 (t : Fin cfg0.N) : Memref sig .tc .vmem S256x128 .bf16 := win0_4.stage (cfg0.slots t 4)
/-- The staging buffer of window 5 at a point. -/
abbrev ms5 (t : Fin cfg0.N) : Memref sig .tc .vmem S1x256x128 .f32 := win0_5.stage (cfg0.slots t 5)
/-- The staging buffer of window 6 at a point. -/
abbrev ms6 (t : Fin cfg0.N) : Memref sig .tc .vmem S1x256x128 .f32 := win0_6.stage (cfg0.slots t 6)
/-- The staging buffer of window 7 at a point. -/
abbrev ms7 (t : Fin cfg0.N) : Memref sig .tc .vmem S3x8192x128 .bf16 := win0_7.stage (cfg0.slots t 7)
/-- The staging buffer of window 8 at a point. -/
abbrev ms8 (t : Fin cfg0.N) : Memref sig .tc .vmem S1x2x256x768 .f32 := win0_8.stage (cfg0.slots t 8)

/-- The point of a pair of heads and a block of queries. -/
def pt (h k : ℕ) : Fin cfg0.N := ⟨(h * 32 + k) % 128, lt_of_lt_of_eq (Nat.mod_lt _ (by decide)) N_0.symm⟩

theorem pt_self (t : Fin cfg0.N) : pt (t.val / 32) (t.val % 32) = t := by
  have ht : t.val < 128 := lt_of_lt_of_eq t.isLt N_0
  apply Fin.ext; show (t.val / 32 * 32 + t.val % 32) % 128 = t.val; omega

theorem coord_block (t : Fin cfg0.N) : (grid0.coords t 1).val = t.val % 32 := by
  have e1 : (grid0.coords t 1).val = t.val / 1 % 32 := Pipeline.Grid.coords_val t 1 (by decide) rfl
  rw [e1, Nat.div_one]

variable (m : (ℓ : Loc nD τ sig) → Buf (Elt F) ℓ) (ρ : Dev nD → PrngReg)

/-- One point's step of the query gradients. -/
def s9 (c : Dev nD) (t : Fin cfg0.N) (x : Vec F S3x8192x128 .bf16) : Vec F S3x8192x128 .bf16 := upd9 (grid0.coords t) (iblk m c 0 t) (iblk m c 1 t) (iblk m c 2 t) (iblk m c 3 t) (iblk m c 4 t) (iblk m c 5 t) (iblk m c 6 t) x
/-- One point's step of the bias gradient. -/
def s10 (c : Dev nD) (t : Fin cfg0.N) (x : Vec F S1x2x256x768 .f32) : Vec F S1x2x256x768 .f32 := n10 (grid0.coords t) (iblk m c 0 t) (iblk m c 1 t) (iblk m c 2 t) (iblk m c 3 t) (iblk m c 4 t) (iblk m c 5 t) (iblk m c 6 t) x
/-- One point's step of the key gradients. -/
def s11 (c : Dev nD) (t : Fin cfg0.N) (x : Vec F S8192x128 .f32) : Vec F S8192x128 .f32 := upd11 (grid0.coords t) (iblk m c 0 t) (iblk m c 1 t) (iblk m c 2 t) (iblk m c 3 t) (iblk m c 4 t) (iblk m c 5 t) (iblk m c 6 t) x
/-- One point's step of the value gradients. -/
def s12 (c : Dev nD) (t : Fin cfg0.N) (x : Vec F S8192x128 .f32) : Vec F S8192x128 .f32 := upd12 (grid0.coords t) (iblk m c 0 t) (iblk m c 1 t) (iblk m c 2 t) (iblk m c 3 t) (iblk m c 4 t) (iblk m c 5 t) (iblk m c 6 t) x

/-- Steps through the blocks of queries of one pair of heads. -/
def steps {X : Type} (f : Fin cfg0.N → X → X) (h : ℕ) (x : X) : ℕ → X
  | 0 => f (pt h 0) x
  | k + 1 => f (pt h (k + 1)) (steps f h x k)

/-- The key gradients after a block of queries. -/
def X11 (c : Dev nD) (h k : ℕ) : Vec F S8192x128 .f32 := steps (s11 m c) h k0_pay5 k
/-- The value gradients after a block of queries. -/
def X12 (c : Dev nD) (h k : ℕ) : Vec F S8192x128 .f32 := steps (s12 m c) h k0_pay6 k
/-- The bias gradient after a block of queries. -/
def X10 (c : Dev nD) (h k : ℕ) : Vec F S1x2x256x768 .f32 := steps (s10 m c) h (fun _ => msk) k
/-- The query gradients after a block of queries. -/
def X9 (c : Dev nD) (h : ℕ) (x : Vec F S3x8192x128 .bf16) (k : ℕ) : Vec F S3x8192x128 .bf16 := steps (s9 m c) h x k

/-- What the body leaves in the two results' buffers at a point. -/
def Rl (c : Dev nD) (w : Fin cfg0.W) (t : Fin cfg0.N) (X : (cfg0.win w).block.Idx → Elt F (cfg0.win w).elt) : Prop :=
  match w, X with
  | ⟨7, _⟩, X => ∃ x, X = if t.val % 32 = 31 then fin9 (X9 m c (t.val / 32) x 31) (X11 m c (t.val / 32) 31) (X12 m c (t.val / 32) 31) else X9 m c (t.val / 32) x (t.val % 32)
  | ⟨8, _⟩, X => X = X10 m c (t.val / 32) (t.val % 32)
  | _, _ => True

/-- The two results are known by what the body leaves. -/
def marked : Fin 9 → Bool := fun w => w.val == 7 || w.val == 8

/-- What is known of the scratch buffers before a point. -/
def Phi (c : Dev nD) (n : ℕ) : sProp 𝕄 :=
  iprop(iprop(∃ x11 x12, ⌜n % 32 ≠ 0 → x11 = X11 m c (n / 32) (n % 32 - 1) ∧ x12 = X12 m c (n / 32) (n % 32 - 1)⌝ ∗ owns (c : Thread nD τ) (Memref.whole cc0_scratch0) fullShare x11 ∗ owns (c : Thread nD τ) (Memref.whole cc0_scratch1) fullShare x12) ∗ (∃ r, prngReg c r))

/-- What is known around the body at every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
  Φ t := Phi m c t.val
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem leaves0 (c : Dev nD) (t : Fin cfg0.N) : ((dats m 0 c).leavesExact 0 t : sProp 𝕄) = owns (c : Thread nD τ) (ms0 t) fullShare (iblk m c 0 t) := by
  unfold Dat.leavesExact; rw [show cfg0.idle 0 (grid0.coords t) = false from rfl, after0]
theorem leaves1 (c : Dev nD) (t : Fin cfg0.N) : ((dats m 0 c).leavesExact 1 t : sProp 𝕄) = owns (c : Thread nD τ) (ms1 t) fullShare (iblk m c 1 t) := by
  unfold Dat.leavesExact; rw [show cfg0.idle 1 (grid0.coords t) = false from rfl, after1]
theorem leaves2 (c : Dev nD) (t : Fin cfg0.N) : ((dats m 0 c).leavesExact 2 t : sProp 𝕄) = owns (c : Thread nD τ) (ms2 t) fullShare (iblk m c 2 t) := by
  unfold Dat.leavesExact; rw [show cfg0.idle 2 (grid0.coords t) = false from rfl, after2]
theorem leaves3 (c : Dev nD) (t : Fin cfg0.N) : ((dats m 0 c).leavesExact 3 t : sProp 𝕄) = owns (c : Thread nD τ) (ms3 t) fullShare (iblk m c 3 t) := by
  unfold Dat.leavesExact; rw [show cfg0.idle 3 (grid0.coords t) = false from rfl, after3]
theorem leaves4 (c : Dev nD) (t : Fin cfg0.N) : ((dats m 0 c).leavesExact 4 t : sProp 𝕄) = owns (c : Thread nD τ) (ms4 t) fullShare (iblk m c 4 t) := by
  unfold Dat.leavesExact; rw [show cfg0.idle 4 (grid0.coords t) = false from rfl, after4]
theorem leaves5 (c : Dev nD) (t : Fin cfg0.N) : ((dats m 0 c).leavesExact 5 t : sProp 𝕄) = owns (c : Thread nD τ) (ms5 t) fullShare (iblk m c 5 t) := by
  unfold Dat.leavesExact; rw [show cfg0.idle 5 (grid0.coords t) = false from rfl, after5]
theorem leaves6 (c : Dev nD) (t : Fin cfg0.N) : ((dats m 0 c).leavesExact 6 t : sProp 𝕄) = owns (c : Thread nD τ) (ms6 t) fullShare (iblk m c 6 t) := by
  unfold Dat.leavesExact; rw [show cfg0.idle 6 (grid0.coords t) = false from rfl, after6]

/-- The rest of the core's state, with the two scratch buffers as memrefs. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

theorem Phi_in (c : Dev nD) : Pipeline.ΦA spec0 c ⊢ (Phi m c 0 : sProp 𝕄) := by
  rw [PhiA0_eq]; unfold Phi
  iintro ⟨⟨⟨%x, H0⟩, ⟨%y, H1⟩⟩, Hg⟩
  isplitr [Hg]
  · iexists x; iexists y
    isplitr
    · ipureintro; exact fun h => absurd rfl h
    isplitl [H0]; · iexact H0
    iexact H1
  iexact Hg

theorem Phi_out (c : Dev nD) (n : ℕ) : Phi m c n ⊢ (Pipeline.ΦA spec0 c : sProp 𝕄) := by
  rw [PhiA0_eq]; unfold Phi
  iintro ⟨⟨%x, %y, -, H0, H1⟩, Hg⟩
  isplitr [Hg]
  · isplitl [H0]
    · iexists x; iexact H0
    iexists y; iexact H1
  iexact Hg

theorem unflushed8 : ∀ t : Fin cfg0.N, 2 < t.val % 32 → (cfg0.win 8).flush ⟨t.val - 1, Nat.lt_of_le_of_lt (Nat.sub_le _ _) t.isLt⟩ = false := by
  decide +kernel

/-- What a marked window's buffer holds when the point before did not write it back. -/
theorem finds_before (c : Dev nD) (w : Fin cfg0.W) (hw : marked w = true) (hf : ∀ t, (cfg0.win w).fetch t = false) (t : Fin cfg0.N) (ht : t.val ≠ 0)
    (hfl : (cfg0.win w).flush ⟨t.val - 1, Nat.lt_of_le_of_lt (Nat.sub_le _ _) t.isLt⟩ = false) (Y : (cfg0.win w).block.Idx → Elt F (cfg0.win w).elt)
    (h : ((dats m 0 c).toRRel marked (Rl m c)).Finds w t Y) : Rl m c w ⟨t.val - 1, Nat.lt_of_le_of_lt (Nat.sub_le _ _) t.isLt⟩ Y := by
  rcases (((dats m 0 c).toRRel marked (Rl m c)).finds_of_pos (hf t) ht Y).mp h with h | h
  · rw [hfl] at h; exact absurd h (by decide)
  · exact (dats m 0 c).toRRel_leaves hw h

theorem steps_succ {X : Type} (f : Fin cfg0.N → X → X) (x : X) (t : Fin cfg0.N) (h : t.val % 32 ≠ 0) :
    steps f (t.val / 32) x (t.val % 32) = f t (steps f ((t.val - 1) / 32) x ((t.val - 1) % 32)) := by
  obtain ⟨k, hk⟩ : ∃ k, t.val % 32 = k + 1 := ⟨t.val % 32 - 1, by omega⟩
  have e1 : (t.val - 1) / 32 = t.val / 32 := by omega
  have e2 : (t.val - 1) % 32 = k := by omega
  rw [e1, e2, hk]
  show f (pt (t.val / 32) (k + 1)) _ = _
  rw [← hk, pt_self]

theorem steps_zero {X : Type} (f : Fin cfg0.N → X → X) (x : X) (t : Fin cfg0.N) (h : t.val % 32 = 0) :
    steps f (t.val / 32) x (t.val % 32) = f t x := by
  have e := pt_self t
  rw [h] at e ⊢
  show f (pt (t.val / 32) 0) x = _
  rw [e]

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d))
    ∗ (∃ Y, ⌜((dats m 0 c).toRRel marked (Rl m c)).Finds 7 t Y⌝ ∗ owns (c : Thread nD τ) (ms7 t) fullShare Y) ∗ (∃ Y, ⌜((dats m 0 c).toRRel marked (Rl m c)).Finds 8 t Y⌝ ∗ owns (c : Thread nD τ) (ms8 t) fullShare Y))

/-- What the body returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t
    ∗ (∃ X, ⌜Rl m c 7 t X⌝ ∗ owns (c : Thread nD τ) (ms7 t) fullShare X) ∗ (∃ X, ⌜Rl m c 8 t X⌝ ∗ owns (c : Thread nD τ) (ms8 t) fullShare X))

theorem next11 (c : Dev nD) (t : Fin cfg0.N) (x11 : Vec F S8192x128 .f32) (h : t.val % 32 ≠ 0 → x11 = X11 m c (t.val / 32) (t.val % 32 - 1)) :
    n11 (grid0.coords t) (iblk m c 0 t) (iblk m c 1 t) (iblk m c 2 t) (iblk m c 3 t) (iblk m c 4 t) (iblk m c 5 t) (iblk m c 6 t) x11 = X11 m c (t.val / 32) (t.val % 32) := by
  unfold n11 X11
  rw [coord_block]
  by_cases h0 : t.val % 32 = 0
  · rw [if_pos h0, steps_zero _ _ t h0]; rfl
  · rw [if_neg h0, steps_succ _ _ t h0, h h0, X11, show (t.val - 1) / 32 = t.val / 32 by omega, show (t.val - 1) % 32 = t.val % 32 - 1 by omega]; rfl

theorem next12 (c : Dev nD) (t : Fin cfg0.N) (x12 : Vec F S8192x128 .f32) (h : t.val % 32 ≠ 0 → x12 = X12 m c (t.val / 32) (t.val % 32 - 1)) :
    n12 (grid0.coords t) (iblk m c 0 t) (iblk m c 1 t) (iblk m c 2 t) (iblk m c 3 t) (iblk m c 4 t) (iblk m c 5 t) (iblk m c 6 t) x12 = X12 m c (t.val / 32) (t.val % 32) := by
  unfold n12 X12
  rw [coord_block]
  by_cases h0 : t.val % 32 = 0
  · rw [if_pos h0, steps_zero _ _ t h0]; rfl
  · rw [if_neg h0, steps_succ _ _ t h0, h h0, X12, show (t.val - 1) / 32 = t.val / 32 by omega, show (t.val - 1) % 32 = t.val % 32 - 1 by omega]; rfl

theorem next9 (c : Dev nD) (t : Fin cfg0.N) (Y : Vec F S3x8192x128 .bf16) (h : ((dats m 0 c).toRRel marked (Rl m c)).Finds 7 t Y) :
    Rl m c 7 t (n9 (grid0.coords t) (iblk m c 0 t) (iblk m c 1 t) (iblk m c 2 t) (iblk m c 3 t) (iblk m c 4 t) (iblk m c 5 t) (iblk m c 6 t) Y (X11 m c (t.val / 32) (t.val % 32)) (X12 m c (t.val / 32) (t.val % 32))) := by
  have hx : ∃ x, upd9 (grid0.coords t) (iblk m c 0 t) (iblk m c 1 t) (iblk m c 2 t) (iblk m c 3 t) (iblk m c 4 t) (iblk m c 5 t) (iblk m c 6 t) Y = X9 m c (t.val / 32) x (t.val % 32) := by
    by_cases h0 : t.val % 32 = 0
    · exact ⟨Y, by unfold X9; rw [steps_zero _ _ t h0]; rfl⟩
    · obtain ⟨x, hx⟩ := finds_before m c 7 rfl (fun t => (cfg0.win 7).fetch_out rfl t) t (by omega) (Bool.eq_false_iff.mpr fun e => by have := (flush0_7 _).mp e; simp only at this; omega) Y h
      refine ⟨x, ?_⟩
      rw [if_neg (by simp only; omega)] at hx
      unfold X9; rw [steps_succ _ _ t h0, hx]; rfl
  obtain ⟨x, hx⟩ := hx
  refine ⟨x, ?_⟩
  unfold n9
  rw [coord_block, hx]
  by_cases h1 : t.val % 32 = 31
  · rw [if_pos h1, if_pos h1, h1]
  · rw [if_neg h1, if_neg h1]

theorem next10 (c : Dev nD) (t : Fin cfg0.N) (Y : Vec F S1x2x256x768 .f32) (h : ((dats m 0 c).toRRel marked (Rl m c)).Finds 8 t Y) :
    Rl m c 8 t (n10 (grid0.coords t) (iblk m c 0 t) (iblk m c 1 t) (iblk m c 2 t) (iblk m c 3 t) (iblk m c 4 t) (iblk m c 5 t) (iblk m c 6 t) Y) := by
  show n10 (grid0.coords t) (iblk m c 0 t) (iblk m c 1 t) (iblk m c 2 t) (iblk m c 3 t) (iblk m c 4 t) (iblk m c 5 t) (iblk m c 6 t) Y = steps (s10 m c) (t.val / 32) (fun _ => msk) (t.val % 32)
  by_cases h0 : t.val % 32 ≤ 2
  · have hi : ∀ x x', n10 (grid0.coords t) (iblk m c 0 t) (iblk m c 1 t) (iblk m c 2 t) (iblk m c 3 t) (iblk m c 4 t) (iblk m c 5 t) (iblk m c 6 t) x = n10 (grid0.coords t) (iblk m c 0 t) (iblk m c 1 t) (iblk m c 2 t) (iblk m c 3 t) (iblk m c 4 t) (iblk m c 5 t) (iblk m c 6 t) x' := fun x x' => by
      unfold n10; rw [coord_block, if_pos h0, if_pos h0]; exact fst10_irrel _ _ _ _ _ _ _ _ x x'
    by_cases h1 : t.val % 32 = 0
    · rw [steps_zero _ _ t h1]; exact hi _ _
    · rw [steps_succ _ _ t h1]; exact hi _ _
  · have hY := finds_before m c 8 rfl (fun t => (cfg0.win 8).fetch_out rfl t) t (by omega) (unflushed8 t (by omega)) Y h
    rw [steps_succ _ _ t (by omega), hY]; rfl

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, leaves0, before1, leaves1, before2, leaves2, before3, leaves3, before4, leaves4, before5, leaves5, before6, leaves6]
  rw [show (dats m 0 c).owesAt () t.succ = (dats m 0 c).owesAt () t.castSucc from rfl]
  rw [show (dats m 0 c).Φ t.castSucc = Phi m c t.val from rfl, show (dats m 0 c).Φ t.succ = Phi m c (t.val + 1) from rfl]
  unfold Phi
  iintro ⟨⟨⟨%x11, %x12, %hx, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%Y7, %hY7, H7⟩, ⟨%Y8, %hY8, H8⟩⟩
  iapply (run_point c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) Y7 Y8 x11 x12 Set.univ _)
  rw [next11 m c t x11 fun h => (hx h).1, next12 m c t x12 fun h => (hx h).2]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · iexists _; iexists _
      isplitr; swap
      · isplitl [HS0]
        · iexact HS0
        iexact HS1
      ipureintro
      intro h
      rw [show (t.val + 1) / 32 = t.val / 32 by omega, show (t.val + 1) % 32 - 1 = t.val % 32 by omega]
      exact ⟨rfl, rfl⟩
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap
    · iexact H7
    ipureintro; exact next9 m c t Y7 hY7
  iexists _; isplitr; swap
  · iexact H8
  ipureintro; exact next10 m c t Y8 hY8

theorem defs₀_row (t : Fin cfg0.N) :
    defs₀ (F := F) .tc cfg0.body (cfg0.bodyArgs t (cfg0.slots t)) = bodyAt0 t := by
  unfold defs₀; rw [Defs.onTc_tc]

theorem body_obligation (c : Dev nD) : Pipeline.BodyObligationRel (dats (F := F) m 0 c) (defs₀ (F := F)) Variants.none () Set.univ marked (Rl m c) := fun t => by
  rw [bigSep_W0, bigSep_W0, defs₀_row]
  exact triple_restated (sound_body m c t) rfl .rfl fun _ => .rfl

set_option backward.isDefEq.respectTransparency.types false in
/-- The run: every counter is back at zero, and the arrays end at what the body left. -/
theorem run_main : θ_run defs (onTc (τ := τ) (main (F := F))) ⟨m, fun _ => 0, ρ⟩ (fun r => (Pipeline.RDat.FramePost (cfgs 0) (fun c => (dats m 0 c).toRRel marked (Rl m c)) (V m)) r ∧ r.2.sem = fun _ => 0) :=
  Pipeline.RDat.θ_run_frame_track_shared (Q' := _) cfgs (0 : Fin 1) launch₀0 defs₀ Variants.none (fun c => (dats m 0 c).toRRel marked (Rl m c)) m ρ main
    (hbody := fun c => (body_obligation m c).toRRel) (hq := fun _ _ _ => rfl)
    (howed := fun _ _ => rfl) (V := V m) (hmain := hmain m Variants.none) (hA := A_eq m) (hin := Phi_in m) (hout := fun c => Phi_out m c _)

/-- The frame of the attention backward call. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (h.1.arr_in c 6 rfl).trans ((A_eq m c 6).trans (V_main_arg2 m c))⟩, h.2⟩) (run_main m ρ)

end Cert.AttIdeal.Hand

end
-- ==== Proof.AttPay.lean ====
module

public import proofs.«01_k».proof.Defs
public import proofs.«01_k».proof.Proof.AttRow
public import proofs.«01_k».proof.Proof.AttRun
public import proofs.«01_k».proof.Proof.Basic
public import proofs.«01_k».proof.Proof.Gen.AttIdeal.Skeleton
public import Idealize.ShloMosaic.Lib.Pipeline.ValueKit
public import Idealize.ShloMosaic.Lib.Pointwise
public import Idealize.ShloMosaic.Lib.Claim

@[expose] public section

set_option maxRecDepth 16384

noncomputable section

namespace Cert.AttIdeal.Hand

open Cert.AttIdeal Cert.AttIdeal.Gen Idealize.ShloMosaic Idealize.ShloMosaic.TcCoe Idealize.SL.Sem
open Cert.AttRow

theorem mine0_apply (n : Fin 256) (l : Fin 128) : mine0 (ix2 n l) = if l.val / 64 = 0 then 1#1 else 0#1 := by
  unfold mine0
  pointwise [k0_pay19, k0_pay15, k0_pay13, k0_pay14]
  revert l; decide +kernel

theorem lane_apply (n : Fin 256) (l : Fin 128) : IntOp.cmpi .eq (lane (ix2 n l)) 1#32 = if l.val / 64 = 1 then 1#1 else 0#1 := by
  unfold lane
  pointwise [k0_pay15, k0_pay13, k0_pay14]
  revert l; decide +kernel

theorem sel {x y : EReal} {p : Prop} [Decidable p] : Scalar.select (if p then 1#1 else 0#1) x y = if p then x else y := by
  split_ifs <;> rfl

/-- The mask is minus infinity. -/
theorem msk_bot : (msk : Ideal .f32) = (⊥ : EReal) :=
  IdealRules.named_const.ideal_named_scalar _ _ _ _ rfl

variable (i : grid0.Coords) (x2 : Vec Ideal S1x256x128 .bf16) (x3 x4 : Vec Ideal S1x8192x128 .bf16) (x5 : Vec Ideal S1x1x2x256x768 .f32) (x6 : Vec Ideal S256x128 .bf16) (x7 x8 : Vec Ideal S1x256x128 .f32)

/-- A head's queries, the other head's lanes zero. -/
def qm (a : Fin 2) (n : Fin 256) (l : Fin 128) : EReal := if l.val / 64 = a.val then x2 (ix3 0 n l) else 0
/-- A head's cotangents, the other head's lanes zero. -/
def dm (a : Fin 2) (n : Fin 256) (l : Fin 128) : EReal := if l.val / 64 = a.val then x8 (ix3 0 n l) else 0
/-- A head's probabilities. -/
def ph (a : Fin 2) (n : Fin 256) (j : Fin 768) : EReal :=
  Ideal.exp ((∑ l, qm x2 a n l * kk i x3 (ix2 j l)) * Ideal.ofBits FTy.f32 1040187392#32 + x5 (ix5 0 0 a n j) -
    Finset.univ.fold max ⊥ fun l : Fin 128 => if l.val / 64 = a.val then x7 (ix3 0 n l) else ⊥)
/-- A head's score gradients. -/
def dh (a : Fin 2) (n : Fin 256) (j : Fin 768) : EReal :=
  ph i x2 x3 x5 x7 a n j * (∑ l, dm x8 a n l * vv i x4 (ix2 j l) - ∑ l : Fin 128, if l.val / 64 = a.val then x8 (ix3 0 n l) * x6 (ix2 n l) else 0)

theorem start_fits (i : grid0.Coords) (j : Fin 768) : ((i 1).val - 2) * 256 + j.val < 8192 := by
  have : (i 1).val < 32 := (i 1).isLt
  omega

/-- Reading one head's tile. -/
theorem win5 (a : Fin 2) (off : Fin 5 → ℕ) (ho : off = ![0, 0, a.val, 0, 0]) (inb : ∀ b, off b + S1x1x1x256x768.size b ≤ S1x1x2x256x768.size b) (n : Fin 256) (j : Fin 768) :
    VecWindow.window (s := S1x1x2x256x768) x5 off S1x1x1x256x768.size inb (ix5 0 0 0 n j) = x5 (ix5 0 0 a n j) := by
  subst ho
  refine congrArg x5 (funext fun b => Fin.ext ?_)
  match b with
  | ⟨0, _⟩ => rfl
  | ⟨1, _⟩ => rfl
  | ⟨2, _⟩ => show a.val + 1 * 0 = a.val; omega
  | ⟨3, _⟩ => show 0 + 1 * n.val = n.val; omega
  | ⟨4, _⟩ => show 0 + 1 * j.val = j.val; omega

theorem win3 (x : Vec Ideal S1x8192x128 .bf16) (w : ℕ) (off : Fin 3 → ℕ) (ho : off = ![0, w, 0]) (inb : ∀ b, off b + S1x768x128.size b ≤ S1x8192x128.size b) (j : Fin 768) (l : Fin 128) (hw : w + j.val < 8192) :
    VecWindow.window (s := S1x8192x128) x off S1x768x128.size inb (ix3 0 j l) = x (ix3 0 ⟨w + j.val, hw⟩ l) := by
  subst ho
  refine congrArg x (funext fun b => Fin.ext ?_)
  match b with
  | ⟨0, _⟩ => rfl
  | ⟨1, _⟩ => show w + 1 * j.val = w + j.val; omega
  | ⟨2, _⟩ => show 0 + 1 * l.val = l.val; omega

theorem kk_apply (j : Fin 768) (l : Fin 128) : kk i x3 (ix2 j l) = x3 (ix3 0 ⟨((i 1).val - 2) * 256 + j.val, start_fits i j⟩ l) := by
  unfold kk
  pointwise [k0_pay8]
  exact win3 x3 _ _ (k0_off1_eq i) _ j l _

theorem vv_apply (j : Fin 768) (l : Fin 128) : vv i x4 (ix2 j l) = x4 (ix3 0 ⟨((i 1).val - 2) * 256 + j.val, start_fits i j⟩ l) := by
  unfold vv
  pointwise [k0_pay9]
  exact win3 x4 _ _ (k0_off1_eq i) _ j l _

theorem q0_apply (n : Fin 256) (l : Fin 128) : k0_pay20 (k0_pay7 x2) (iota .tc S256x128 32 [1] iota_S256x128_d1_w32) 64#32 k0_pay13 k0_pay14 (ix2 n l) = qm x2 0 n l := by
  have e := mine0_apply n l
  unfold mine0 at e
  pointwise [k0_pay20, k0_pay7]
  rw [e, sel]
  rfl

theorem q1_apply (n : Fin 256) (l : Fin 128) : k0_pay31 (k0_pay7 x2) lane (ix2 n l) = qm x2 1 n l := by
  pointwise [k0_pay31, k0_pay30, k0_pay7]
  rw [lane_apply, sel]
  rfl

theorem do0_apply (n : Fin 256) (l : Fin 128) : do0 x8 (ix2 n l) = dm x8 0 n l := by
  have e := mine0_apply n l
  unfold mine0 at e
  unfold do0
  pointwise [k0_pay21, k0_pay10]
  rw [e, sel]
  rfl

theorem do1_apply (n : Fin 256) (l : Fin 128) : do1 x8 (ix2 n l) = dm x8 1 n l := by
  unfold do1
  pointwise [k0_pay32, k0_pay30, k0_pay10]
  rw [lane_apply, sel]
  rfl

theorem e0_apply (n : Fin 256) (j : Fin 768) : e0 i x2 x3 x5 x7 (ix2 n j) = ph i x2 x3 x5 x7 0 n j := by
  have e := fun l => mine0_apply n l
  unfold mine0 at e
  unfold e0
  pointwise [k0_pay22, k0_pay12]
  simp only [e, sel, Cert.K.bits_ninf]
  rw [show (Named.named κ "mask" 0xF149F2CA#32 : Ideal .f32) = (⊥ : EReal) from msk_bot]
  exact congrArg Ideal.exp (congrArg₂ (· - ·) (congrArg₂ (· + ·) (congrArg (· * _) (Finset.sum_congr rfl fun x _ => congrArg (· * _) (q0_apply x2 n x))) (win5 x5 0 _ rfl _ n j)) rfl)

theorem s1_apply (n : Fin 256) (j : Fin 768) : s1 i x2 x3 x5 (ix2 n j) = (∑ l, qm x2 1 n l * kk i x3 (ix2 j l)) * Ideal.ofBits FTy.f32 1040187392#32 + x5 (ix5 0 0 1 n j) := by
  unfold s1
  pointwise [k0_pay33]
  simp only [q1_apply]
  exact congrArg (_ + ·) (win5 x5 1 _ rfl _ n j)

theorem p34_apply (n : Fin 256) (j : Fin 768) : k0_pay34 (k0_pay12 x7) (k0_pay30 lane) (s1 i x2 x3 x5) (msk : Ideal .f32) (ix2 n j) = ph i x2 x3 x5 x7 1 n j := by
  pointwise [k0_pay34, k0_pay30, k0_pay12]
  simp only [s1_apply, lane_apply, sel, msk_bot, Cert.K.bits_ninf]
  rfl

theorem p23_apply (n : Fin 256) (j : Fin 768) : k0_pay23 (vv i x4) (k0_pay11 x8 x6) mine0 (do0 x8) (e0 i x2 x3 x5 x7) (ix2 n j) = dh i x2 x3 x4 x5 x6 x7 x8 0 n j := by
  pointwise [k0_pay23, k0_pay11, k0_pay10]
  simp only [e0_apply, do0_apply, mine0_apply, sel]
  rfl

theorem p35_apply (n : Fin 256) (j : Fin 768) : k0_pay35 (vv i x4) (k0_pay11 x8 x6) (k0_pay12 x7) (k0_pay30 lane) (do1 x8) (s1 i x2 x3 x5) (msk : Ideal .f32) (ix2 n j) = dh i x2 x3 x4 x5 x6 x7 x8 1 n j := by
  have e := p34_apply i x2 x3 x5 x7 n j
  pointwise [k0_pay35]
  rw [e]
  pointwise [k0_pay30, k0_pay11, k0_pay10]
  simp only [do1_apply, lane_apply, sel]
  rfl

theorem dbA0_apply (n : Fin 256) (j : Fin 768) : dbA0 i x2 x3 x4 x5 x6 x7 x8 (ix4 0 0 n j) = dh i x2 x3 x4 x5 x6 x7 x8 0 n j := by
  unfold dbA0
  pointwise [k0_pay24]
  rw [p23_apply]

theorem dbB0_apply (n : Fin 256) (j : Fin 768) (o) : dbB0 i x2 x3 x4 x5 x6 x7 x8 o (ix4 0 0 n j) = o (ix4 0 0 n j) + dh i x2 x3 x4 x5 x6 x7 x8 0 n j := by
  unfold dbB0
  pointwise [k0_pay25]
  rw [p23_apply]

theorem dbA1_apply (n : Fin 256) (j : Fin 768) : dbA1 i x2 x3 x4 x5 x6 x7 x8 (ix4 0 0 n j) = dh i x2 x3 x4 x5 x6 x7 x8 1 n j := by
  unfold dbA1
  pointwise [k0_pay36]
  rw [p35_apply]

theorem dbB1_apply (n : Fin 256) (j : Fin 768) (o) : dbB1 i x2 x3 x4 x5 x6 x7 x8 o (ix4 0 0 n j) = o (ix4 0 0 n j) + dh i x2 x3 x4 x5 x6 x7 x8 1 n j := by
  unfold dbB1
  pointwise [k0_pay37]
  rw [p35_apply]

theorem lane_half (l : Fin 128) : l.val / 64 < 2 := by omega

theorem dqp_apply (n : Fin 256) (l : Fin 128) : dqp i x2 x3 x4 x5 x6 x7 x8 (ix3 0 n l) =
    ∑ j, dh i x2 x3 x4 x5 x6 x7 x8 ⟨l.val / 64, lane_half l⟩ n j * Ideal.ofBits FTy.f32 1040187392#32 * kk i x3 (ix2 j l) := by
  unfold dqp
  have e0 := fun j => p23_apply i x2 x3 x4 x5 x6 x7 x8 n j
  have e1 := fun j => p35_apply i x2 x3 x4 x5 x6 x7 x8 n j
  pointwise [k0_pay40, k0_pay38, k0_pay27, k0_pay26, k0_pay16]
  simp only [e0, e1]
  pointwise [k0_pay30]
  rw [lane_apply, mine0_apply, sel, sel]
  rcases (by omega : l.val / 64 = 0 ∨ l.val / 64 = 1) with h | h
  · rw [if_neg (by omega), if_pos h, show (⟨l.val / 64, lane_half l⟩ : Fin 2) = 0 from Fin.ext h]
  · rw [if_pos h, show (⟨l.val / 64, lane_half l⟩ : Fin 2) = 1 from Fin.ext h]

/-- Two heads' sums at a lane are its own head's. -/
theorem two_heads (l : Fin 128) (f : Fin 2 → Fin 256 → EReal) (x : Fin 256 → EReal) :
    (∑ n, f 0 n * (if l.val / 64 = (0 : Fin 2).val then x n else 0)) + (∑ n, f 1 n * (if l.val / 64 = (1 : Fin 2).val then x n else 0)) =
      ∑ n, f ⟨l.val / 64, lane_half l⟩ n * x n := by
  rcases (by omega : l.val / 64 = 0 ∨ l.val / 64 = 1) with h | h
  · have h0 : l.val / 64 = (0 : Fin 2).val := h
    have h1 : ¬ l.val / 64 = (1 : Fin 2).val := by show ¬ l.val / 64 = 1; omega
    simp only [if_pos h0, if_neg h1, mul_zero, Finset.sum_const_zero, add_zero, show (⟨l.val / 64, lane_half l⟩ : Fin 2) = 0 from Fin.ext h]
  · have h0 : ¬ l.val / 64 = (0 : Fin 2).val := by show ¬ l.val / 64 = 0; omega
    have h1 : l.val / 64 = (1 : Fin 2).val := h
    simp only [if_pos h1, if_neg h0, mul_zero, Finset.sum_const_zero, zero_add, show (⟨l.val / 64, lane_half l⟩ : Fin 2) = 1 from Fin.ext h]

theorem dkp_apply (j : Fin 768) (l : Fin 128) (o) : dkp i x2 x3 x4 x5 x6 x7 x8 o (ix2 j l) =
    o (ix2 j l) + ∑ n, dh i x2 x3 x4 x5 x6 x7 x8 ⟨l.val / 64, lane_half l⟩ n j * Ideal.ofBits FTy.f32 1040187392#32 * x2 (ix3 0 n l) := by
  unfold dkp
  have e0 := fun n => p23_apply i x2 x3 x4 x5 x6 x7 x8 n j
  have e1 := fun n => p35_apply i x2 x3 x4 x5 x6 x7 x8 n j
  pointwise [k0_pay1, k0_pay41, k0_pay38, k0_pay28, k0_pay26, k0_pay17]
  simp only [e0, e1, q1_apply]
  refine congrArg (o (ix2 j l) + ·) (Eq.trans (congrArg (· + _) (Finset.sum_congr rfl fun x _ => congrArg (_ * ·) (q0_apply x2 x l))) ?_)
  exact (two_heads l (fun a n => dh i x2 x3 x4 x5 x6 x7 x8 a n j * Ideal.ofBits FTy.f32 1040187392#32) fun n => x2 (ix3 0 n l))

theorem dvp_apply (j : Fin 768) (l : Fin 128) (o) : dvp i x2 x3 x4 x5 x6 x7 x8 o (ix2 j l) =
    o (ix2 j l) + ∑ n, ph i x2 x3 x5 x7 ⟨l.val / 64, lane_half l⟩ n j * x8 (ix3 0 n l) := by
  unfold dvp
  have e1 := fun n => p34_apply i x2 x3 x5 x7 n j
  pointwise [k0_pay2, k0_pay39, k0_pay29, k0_pay18]
  simp only [e1, e0_apply, do0_apply, do1_apply]
  exact congrArg (o (ix2 j l) + ·) (two_heads l (fun a n => ph i x2 x3 x5 x7 a n j) fun n => x8 (ix3 0 n l))

end Cert.AttIdeal.Hand
end
-- ==== Proof.AttHost.lean ====
module

public import proofs.«01_k».proof.Defs
public import proofs.«01_k».proof.Proof.AttRow
public import proofs.«01_k».proof.Proof.AttRef
public import proofs.«01_k».proof.Proof.Basic
public import proofs.«01_k».proof.Proof.Gen.AttIdeal.Frame
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.AttIdeal.Hand

open Cert.AttIdeal Cert.AttIdeal.Gen Idealize.ShloMosaic Idealize.ShloMosaic.TcCoe Idealize.SL.Sem
open Cert.AttRow

variable (m : (ℓ : Loc nD τ sig) → Buf (Elt Ideal) ℓ)

/-- The columns as launched. -/
abbrev C (c : Dev nD) : FVec Ideal S8192x5120 .f32 := m ((c : Thread nD τ).loc main_arg0)
/-- The relative bias as launched. -/
abbrev B (c : Dev nD) : FVec Ideal S8x257 .f32 := m ((c : Thread nD τ).loc main_arg1)
/-- The cotangent as launched. -/
abbrev D (c : Dev nD) : FVec Ideal S3x8192x512 .f32 := m ((c : Thread nD τ).loc main_arg2)

theorem cols_apply (c : Dev nD) (s : Fin 10) (n : Fin 8192) (k : Fin 512) (l : Fin 5120) (hl : l.val = s.val * 512 + k.val) :
    (show FVec Ideal S10x8192x512 .bf16 from V m c main_v2) (ix3 s n k) = C m c (ix2 n l) := by
  unfold V
  after_reads_simp
  pointwise
  blk_ext [hl]

theorem tab_eq (c : Dev nD) :
    (show FVec Ideal S3x8x256x768 .f32 from V m c main_v30) = Cert.AttRefIdeal.Read.val_main_v33 (F := Ideal) (B m c) := by
  unfold V
  after_reads_simp
  rfl

theorem spread_eq (c : Dev nD) :
    (show FVec Ideal S8x8192x8192 .f32 from V m c main_v91) = Cert.AttRefIdeal.Read.val_main_v71 (F := Ideal) (B m c) := by
  unfold V
  after_reads_simp
  rfl

theorem scores_eq (c : Dev nD) :
    (show FVec Ideal S8x8192x8192 .f32 from V m c main_v110) = Cert.AttRefIdeal.Read.val_main_v90 (F := Ideal) (C m c) (B m c) := by
  unfold V
  after_reads_simp
  rfl

theorem max_eq (c : Dev nD) :
    (show FVec Ideal S8x8192x1 .f32 from V m c main_v112) = Cert.AttRefIdeal.Read.val_main_v93 (F := Ideal) (C m c) (B m c) := by
  unfold V
  after_reads_simp
  rfl

theorem sum_eq (c : Dev nD) :
    (show FVec Ideal S8x8192x1 .f32 from V m c main_v117) = Cert.AttRefIdeal.Read.val_main_v98 (F := Ideal) (C m c) (B m c) := by
  unfold V
  after_reads_simp
  rfl

theorem out_eq (c : Dev nD) :
    (show FVec Ideal S8192x512 .f32 from V m c main_v122) = Cert.AttRefIdeal.Read.val_main_v106 (F := Ideal) (C m c) (B m c) := by
  unfold V
  after_reads_simp
  rfl

open Cert.AttRefIdeal.Hand (S ve ge)

/-- The rows' maxima and the logarithms of their sums, laid out as the call reads them. -/
def lseArr (X Y : FVec Ideal S8x8192x1 .f32) : FVec Ideal S4x8192x128 .f32 :=
  shapeCast S4x8192x128 (broadcastInDim S4x8192x2x64 ![0, 1, 2, 3] bcast_S4x8192x2x1_S4x8192x2x64_0_1_2_3
    (broadcastInDim S4x8192x2x1 ![0, 1, 2] bcast_S4x8192x2_S4x8192x2x1_0_1_2
      (transpose S4x8192x2 [0, 2, 1] (shapeCast S4x2x8192 (addf X (Host.log Y))
        shapeCasts_S8x8192x1_S4x2x8192) transposes_S4x2x8192_S4x8192x2_0_2_1))) shapeCasts_S4x8192x2x64_S4x8192x128

theorem lseArr_apply (X Y : FVec Ideal S8x8192x1 .f32) (p : Fin 4) (n : Fin 8192) (l : Fin 128) (h : Fin 8) (hh : h.val = p.val * 2 + l.val / 64) :
    lseArr X Y (ix3 p n l) = X (ix3 h n 0) + Ideal.log (Y (ix3 h n 0)) := by
  have e : (⟨p.val * 2 + l.val / 64, by omega⟩ : Fin 8) = h := Fin.ext hh.symm
  pointwise [lseArr]
  rw [e]

theorem lse_eq (c : Dev nD) :
    (show FVec Ideal S4x8192x128 .f32 from V m c main_v130)
      = lseArr (Cert.AttRefIdeal.Read.val_main_v93 (F := Ideal) (C m c) (B m c)) (Cert.AttRefIdeal.Read.val_main_v98 (F := Ideal) (C m c) (B m c)) := by
  unfold V
  after_reads_simp
  rfl

theorem mx_apply (C : FVec Ideal S8192x5120 .f32) (B : FVec Ideal S8x257 .f32) (h : Fin 8) (n : Fin 8192) :
    Cert.AttRefIdeal.Read.val_main_v93 (F := Ideal) C B (ix3 h n 0) = mx (S C B h n) := by
  pointwise [Cert.AttRefIdeal.Read.val_main_v93, Cert.AttRefIdeal.Read.val_main_v92, Cert.AttRefIdeal.Read.val_main_cst_14]
  rw [Cert.K.bits_ninf]
  rfl

theorem tot_apply (C : FVec Ideal S8192x5120 .f32) (B : FVec Ideal S8x257 .f32) (h : Fin 8) (n : Fin 8192) :
    Cert.AttRefIdeal.Read.val_main_v98 (F := Ideal) C B (ix3 h n 0) = tot (S C B h n) := by
  pointwise [Cert.AttRefIdeal.Read.val_main_v98, Cert.AttRefIdeal.Read.val_main_v97, Cert.AttRefIdeal.Read.val_main_cst_15]
  simp only [Cert.AttRefIdeal.Hand.ew_apply]
  rfl

theorem outp_apply (C : FVec Ideal S8192x5120 .f32) (B : FVec Ideal S8x257 .f32) (n : Fin 8192) (l : Fin 512) (h : Fin 8) (d : Fin 64) (hl : l.val = h.val * 64 + d.val) :
    Cert.AttRefIdeal.Read.val_main_v106 (F := Ideal) C B (ix2 n l) = outp (S C B h n) (ve C h) d := by
  pointwise [Cert.AttRefIdeal.Read.val_main_v106, Cert.AttRefIdeal.Read.val_main_v105, Cert.AttRefIdeal.Read.val_main_v104]
  refine Finset.sum_congr rfl fun x _ => ?_
  rw [Cert.AttRefIdeal.Hand.p_apply, show (⟨l.val / 64, by omega⟩ : Fin 8) = h from Fin.ext (by show l.val / 64 = h.val; omega),
    show (⟨l.val % 64, by omega⟩ : Fin 64) = d from Fin.ext (by show l.val % 64 = d.val; omega)]
  rfl

theorem lse_apply (c : Dev nD) (p : Fin 4) (n : Fin 8192) (l : Fin 128) (h : Fin 8) (hh : h.val = p.val * 2 + l.val / 64) :
    (show FVec Ideal S4x8192x128 .f32 from V m c main_v130) (ix3 p n l)
      = mx (S (C m c) (B m c) h n) + Ideal.log (tot (S (C m c) (B m c) h n)) := by
  refine (congrFun (lse_eq m c) _).trans ((lseArr_apply _ _ p n l h hh).trans ?_)
  rw [mx_apply, tot_apply]

theorem v123_eq (c : Dev nD) :
    (show FVec Ideal S8192x512 .bf16 from V m c main_v123) = Cert.AttRefIdeal.Read.val_main_v106 (F := Ideal) (C m c) (B m c) := by
  unfold V
  after_reads_simp
  rfl

theorem out_apply (c : Dev nD) (n : Fin 8192) (l : Fin 512) (h : Fin 8) (d : Fin 64) (hl : l.val = h.val * 64 + d.val) :
    (show FVec Ideal S8192x512 .bf16 from V m c main_v123) (ix2 n l) = outp (S (C m c) (B m c) h n) (ve (C m c) h) d := by
  exact (congrFun (v123_eq m c) _).trans (outp_apply _ _ n l h d hl)

theorem mask_bits (n : Fin 12) (j : Fin 12) :
    IntOp.andi (IntOp.cmpi .sle (BitVec.ofNat 32 j.val) (BitVec.ofNat 32 n.val))
      (IntOp.cmpi .sge (BitVec.ofNat 32 j.val) (IntOp.subi (BitVec.ofNat 32 n.val) 8#32)) =
    if j.val ≤ n.val ∧ n.val ≤ j.val + 8 then 1#1 else 0#1 := by
  revert n j; decide +kernel

theorem mask_apply (c : Dev nD) (v : Fin 3) (z : Fin 1) (n : Fin 256) (j : Fin 768) :
    (show IVec S3x1x256x768 1 from V m c main_v47) (ix4 v z n j)
      = if j.val / 64 ≤ v.val * 4 + n.val / 64 ∧ v.val * 4 + n.val / 64 ≤ j.val / 64 + 8 then 1#1 else 0#1 := by
  unfold V
  after_reads_simp
  pointwise
  refine (mask_bits ⟨v.val * 4 + n.val / 64, by omega⟩ ⟨j.val / 64, by omega⟩)

/-- The bias of the windows out of the bias table, with the unseen keys masked, as the call reads it. -/
def biasArr (M : IVec S3x1x256x768 1) (T : FVec Ideal S3x8x256x768 .f32) : FVec Ideal S1x3x8x256x768 .f32 :=
  broadcastInDim S1x3x8x256x768 ![1, 2, 3, 4] bcast_S3x8x256x768_S1x3x8x256x768_1_2_3_4
    (select (broadcastInDim S3x8x256x768 ![0, 1, 2, 3] bcast_S3x1x256x768_S3x8x256x768_0_1_2_3 M) T
      (broadcastInDim S3x8x256x768 ![] bcast_S_S3x8x256x768 (constant (F := Ideal) S_ .f32 0xFF800000#32)))

theorem biasArr_apply (M : IVec S3x1x256x768 1) (T : FVec Ideal S3x8x256x768 .f32) (z : Fin 1) (v : Fin 3) (h : Fin 8) (n : Fin 256) (j : Fin 768) :
    biasArr M T (ix5 z v h n j) = if M (ix4 v 0 n j) = 1#1 then T (ix4 v h n j) else ⊥ := by
  pointwise [biasArr]
  rw [Cert.K.bits_ninf]
  rfl

theorem bias_eq (c : Dev nD) :
    (show FVec Ideal S1x3x8x256x768 .f32 from V m c main_v131)
      = biasArr (show IVec S3x1x256x768 1 from V m c main_v47) (Cert.AttRefIdeal.Read.val_main_v33 (F := Ideal) (B m c)) := by
  rw [← tab_eq]
  unfold V
  after_reads_simp
  rfl

theorem bias_apply (c : Dev nD) (z : Fin 1) (v : Fin 3) (h : Fin 8) (n : Fin 256) (j : Fin 768) :
    (show FVec Ideal S1x3x8x256x768 .f32 from V m c main_v131) (ix5 z v h n j)
      = if j.val / 64 ≤ v.val * 4 + n.val / 64 ∧ v.val * 4 + n.val / 64 ≤ j.val / 64 + 8 then
          Cert.AttRefIdeal.Read.val_main_v33 (F := Ideal) (B m c) (ix4 v h n j) else ⊥ := by
  refine (congrFun (bias_eq m c) _).trans ((biasArr_apply _ _ z v h n j).trans ?_)
  refine (if_congr (iff_of_eq (congrArg (· = 1#1) (mask_apply m c v 0 n j))) rfl rfl).trans ?_
  split <;> simp

/-! ## The windows' blocks -/

theorem idx : ∀ t : Fin cfg0.N, win0_0.index t = ![7, t.val % 32, t.val / 32] ∧ win0_1.index t = ![8, 0, t.val / 32]
    ∧ win0_2.index t = ![9, 0, t.val / 32] ∧ win0_3.index t = ![0, min (t.val % 32) 2, t.val / 32, 0, 0]
    ∧ win0_4.index t = ![t.val % 32, t.val / 32] ∧ win0_5.index t = ![t.val / 32, t.val % 32, 0]
    ∧ win0_6.index t = ![2, t.val % 32, t.val / 32] ∧ win0_7.index t = ![0, 0, t.val / 32]
    ∧ win0_8.index t = ![min (t.val % 32) 2, t.val / 32, 0, 0] :=
  (by decide +kernel : ∀ t : Fin grid0.N, _)

theorem point_lt (t : Fin cfg0.N) : t.val < 128 := lt_of_lt_of_eq t.isLt N_0

/-- The head of a pair at a point. -/
def hd (t : Fin cfg0.N) (a : Fin 2) : Fin 8 := ⟨t.val / 32 * 2 + a.val, by have := point_lt t; omega⟩
/-- The block of queries of a point. -/
def bi (t : Fin cfg0.N) : Fin 32 := ⟨t.val % 32, by omega⟩
/-- The column of a head's lane. -/
def col (t : Fin cfg0.N) (l : Fin 128) : Fin 512 := ⟨t.val / 32 * 128 + l.val, by have := point_lt t; omega⟩

section Blocks
variable (c : Dev nD) (t : Fin cfg0.N) (a : Fin 2) (d : Fin 64)

theorem col_eq : (col t (lane2 a d)).val = (hd t a).val * 64 + d.val := by
  show t.val / 32 * 128 + (a.val * 64 + d.val) = (t.val / 32 * 2 + a.val) * 64 + d.val
  omega

theorem blk0 (n : Fin 256) : (show FVec Ideal S1x256x128 .bf16 from iblk m c 0 t) (ix3 0 n (lane2 a d))
    = Cert.AttRefIdeal.Read.val_main_v1 (F := Ideal) (C m c) (ix3 (pos (bi t) n) (hd t a) d) := by
  have hc := col_eq t a d
  rw [Cert.AttRefIdeal.Hand.q_apply]
  refine Eq.trans ?_ (cols_apply m c 7 (pos (bi t) n) (col t (lane2 a d)) _ (by show _ = 7 * 512 + (col t (lane2 a d)).val; rw [hc]))
  blk_ext [iblk, idx t, pos, bi, col, lane2]

theorem blk1 (y : Fin 8192) : (show FVec Ideal S1x8192x128 .bf16 from iblk m c 1 t) (ix3 0 y (lane2 a d))
    = Cert.AttRefIdeal.Read.val_main_v3 (F := Ideal) (C m c) (ix3 y (hd t a) d) := by
  have hc := col_eq t a d
  rw [Cert.AttRefIdeal.Hand.k_apply]
  refine Eq.trans ?_ (cols_apply m c 8 y (col t (lane2 a d)) _ (by show _ = 8 * 512 + (col t (lane2 a d)).val; rw [hc]))
  blk_ext [iblk, idx t, pos, bi, col, lane2]

theorem blk2 (y : Fin 8192) : (show FVec Ideal S1x8192x128 .bf16 from iblk m c 2 t) (ix3 0 y (lane2 a d))
    = ve (C m c) (hd t a) y d := by
  have hc := col_eq t a d
  unfold ve
  rw [Cert.AttRefIdeal.Hand.v_apply]
  refine Eq.trans ?_ (cols_apply m c 9 y (col t (lane2 a d)) _ (by show _ = 9 * 512 + (col t (lane2 a d)).val; rw [hc]))
  blk_ext [iblk, idx t, pos, bi, col, lane2]

theorem blk3 (n : Fin 256) (j : Fin 768) : (show FVec Ideal S1x1x2x256x768 .f32 from iblk m c 3 t) (ix5 0 0 a n j)
    = if j.val / 64 ≤ min (t.val % 32) 2 * 4 + n.val / 64 ∧ min (t.val % 32) 2 * 4 + n.val / 64 ≤ j.val / 64 + 8 then
        Cert.AttRefIdeal.Read.val_main_v33 (F := Ideal) (B m c) (ix4 ⟨min (t.val % 32) 2, by omega⟩ (hd t a) n j) else ⊥ := by
  refine Eq.trans ?_ (bias_apply m c 0 ⟨min (t.val % 32) 2, by omega⟩ (hd t a) n j)
  blk_ext [iblk, idx t, hd]

theorem blk4 (n : Fin 256) : (show FVec Ideal S256x128 .bf16 from iblk m c 4 t) (ix2 n (lane2 a d))
    = outp (S (C m c) (B m c) (hd t a) (pos (bi t) n)) (ve (C m c) (hd t a)) d := by
  refine Eq.trans ?_ (out_apply m c (pos (bi t) n) (col t (lane2 a d)) (hd t a) d (col_eq t a d))
  blk_ext [iblk, idx t, pos, bi, col, lane2]

theorem read5 (X : FVec Ideal S4x8192x128 .f32) (p : Fin 4) (hp : p.val = t.val / 32) (n : Fin 256) (l : Fin 128) :
    (show FVec Ideal S1x256x128 .f32 from ((cfg0.win 5).blk t).view.read (Elt Ideal) X) (ix3 0 n l) = X (ix3 p (pos (bi t) n) l) := by
  blk_ext [idx t, pos, bi, hp]

theorem blk5 (n : Fin 256) : (show FVec Ideal S1x256x128 .f32 from iblk m c 5 t) (ix3 0 n (lane2 a d))
    = mx (S (C m c) (B m c) (hd t a) (pos (bi t) n)) + Ideal.log (tot (S (C m c) (B m c) (hd t a) (pos (bi t) n))) := by
  have hp : t.val / 32 < 4 := by have := point_lt t; omega
  exact (read5 t (V m c main_v130) ⟨t.val / 32, hp⟩ rfl n (lane2 a d)).trans
    (lse_apply m c ⟨t.val / 32, hp⟩ (pos (bi t) n) (lane2 a d) (hd t a) (by show t.val / 32 * 2 + a.val = t.val / 32 * 2 + (a.val * 64 + d.val) / 64; omega))

theorem blk6 (n : Fin 256) : (show FVec Ideal S1x256x128 .f32 from iblk m c 6 t) (ix3 0 n (lane2 a d))
    = ge (D m c) (hd t a) (pos (bi t) n) d := by
  unfold ge
  rw [Cert.AttRefIdeal.Hand.g_apply]
  have e : (show FVec Ideal S3x8192x512 .f32 from V m c main_arg2) = D m c := V_main_arg2 m c
  rw [← e]
  blk_ext [iblk, idx t, pos, bi, hd, lane2]

end Blocks
-- ==== Proof.AttVal.lean ====
module

public import proofs.«01_k».proof.Defs
public import proofs.«01_k».proof.Proof.AttRow
public import proofs.«01_k».proof.Proof.AttRef
public import proofs.«01_k».proof.Proof.AttRel
public import proofs.«01_k».proof.Proof.AttPay
public import proofs.«01_k».proof.Proof.AttHost
public import Idealize.ShloMosaic.Lib.Pipeline.ValueKit
public import Idealize.ShloMosaic.Lib.Pointwise
public import Idealize.ShloMosaic.Lib.Claim

@[expose] public section

set_option maxRecDepth 16384

noncomputable section

namespace Cert.AttIdeal.Hand

open Cert.AttIdeal Cert.AttIdeal.Gen Idealize.ShloMosaic Idealize.ShloMosaic.TcCoe Idealize.SL.Sem
open Cert.AttRow
open Cert.AttRefIdeal.Hand (S ve ge DS Fine)

variable (m : (ℓ : Loc nD τ sig) → Buf (Elt Ideal) ℓ)

/-- A lane by its head and its column in the head. -/
theorem lane_split (l : Fin 128) : l = lane2 ⟨l.val / 64, lane_half l⟩ ⟨l.val % 64, by omega⟩ := by
  apply Fin.ext; simp only [lane2]; omega

section Point
variable (c : Dev nD) (t : Fin cfg0.N) (a : Fin 2)

/-- The key at a place of a block's window. -/
def win (j : Fin 768) : Fin 8192 := ⟨(t.val % 32 - 2) * 256 + j.val, by omega⟩

theorem kk_blk (j : Fin 768) (d : Fin 64) : kk (F := Ideal) (grid0.coords t) (iblk m c 1 t) (ix2 j (lane2 a d))
    = Cert.AttRefIdeal.Read.val_main_v3 (F := Ideal) (C m c) (ix3 (win t j) (hd t a) d) := by
  rw [kk_apply]
  refine Eq.trans ?_ (blk1 m c t a d (win t j))
  congr 2
  apply Fin.ext
  show ((grid0.coords t 1).val - 2) * 256 + j.val = (t.val % 32 - 2) * 256 + j.val
  rw [coord_block]

theorem vv_blk (j : Fin 768) (d : Fin 64) : vv (F := Ideal) (grid0.coords t) (iblk m c 2 t) (ix2 j (lane2 a d))
    = ve (C m c) (hd t a) (win t j) d := by
  rw [vv_apply]
  refine Eq.trans ?_ (blk2 m c t a d (win t j))
  congr 2
  apply Fin.ext
  show ((grid0.coords t 1).val - 2) * 256 + j.val = (t.val % 32 - 2) * 256 + j.val
  rw [coord_block]

/-- Which keys of its window a query sees is which keys it sees. -/
theorem seen_iff (n : Fin 256) (j : Fin 768) :
    (j.val / 64 ≤ min (t.val % 32) 2 * 4 + n.val / 64 ∧ min (t.val % 32) 2 * 4 + n.val / 64 ≤ j.val / 64 + 8) ↔
    ((win t j).val / 64 ≤ (pos (bi t) n).val / 64 ∧ (pos (bi t) n).val / 64 ≤ (win t j).val / 64 + 8) := by
  simp only [win, pos, bi]
  have e1 : ((t.val % 32 - 2) * 256 + j.val) / 64 = (t.val % 32 - 2) * 4 + j.val / 64 := by omega
  have e2 : (t.val % 32 * 256 + n.val) / 64 = t.val % 32 * 4 + n.val / 64 := by omega
  rw [e1, e2]
  omega

theorem spread_win (B : FVec Ideal S8x257 .f32) (h : Fin 8) (n : Fin 256) (j : Fin 768) :
    Cert.AttRefIdeal.Read.val_main_v71 (F := Ideal) B (ix3 h (pos (bi t) n) (win t j))
      = Cert.AttRefIdeal.Read.val_main_v33 (F := Ideal) B (ix4 ⟨min (t.val % 32) 2, by omega⟩ h n j) := by
  have hj : j.val / 256 < 3 := by omega
  have e1 : (pos (bi t) n).val / 256 = t.val % 32 := by simp only [pos, bi]; omega
  have e2 : (pos (bi t) n).val % 256 = n.val := by simp only [pos, bi]; omega
  have e3 : (win t j).val / 256 = t.val % 32 - 2 + j.val / 256 := by simp only [win]; omega
  have e4 : (win t j).val % 256 = j.val % 256 := by simp only [win]; omega
  rw [Cert.AttRefIdeal.Hand.spread_apply]
  rw [Finset.sum_eq_single (⟨min (t.val % 32) 2, by omega⟩ : Fin 3), Finset.sum_eq_single (⟨j.val / 256, hj⟩ : Fin 3)]
  · rw [if_pos ⟨by rw [e1], by rw [e1, e3]⟩]
    congr 2
    · exact Fin.ext e2
    · apply Fin.ext; show j.val / 256 * 256 + (win t j).val % 256 = j.val; rw [e4]; omega
  · intro w _ hw
    rw [if_neg]
    rintro ⟨-, hw'⟩
    rw [e1, e3] at hw'
    exact hw (Fin.ext (by show w.val = j.val / 256; omega))
  · intro h; exact absurd (Finset.mem_univ _) h
  · intro v _ hv
    refine Finset.sum_eq_zero fun w _ => ?_
    rw [if_neg]
    rintro ⟨hv', -⟩
    rw [e1] at hv'
    exact hv (Fin.ext hv')
  · intro h; exact absurd (Finset.mem_univ _) h

variable {m c}

theorem ph_eq (H : Fine (C m c) (B m c) (D m c)) (n : Fin 256) (j : Fin 768) :
    ph (grid0.coords t) (iblk m c 0 t) (iblk m c 1 t) (iblk m c 3 t) (iblk m c 5 t) a n j
      = pr (S (C m c) (B m c) (hd t a) (pos (bi t) n)) (win t j) := by
  have hg := Cert.AttRefIdeal.Hand.good H (hd t a) (pos (bi t) n)
  have e1 : (∑ l, qm (iblk m c 0 t) a n l * kk (F := Ideal) (grid0.coords t) (iblk m c 1 t) (ix2 j l))
      = ∑ d, Cert.AttRefIdeal.Read.val_main_v1 (F := Ideal) (C m c) (ix3 (pos (bi t) n) (hd t a) d)
          * Cert.AttRefIdeal.Read.val_main_v3 (F := Ideal) (C m c) (ix3 (win t j) (hd t a) d) := by
    refine (Finset.sum_congr rfl fun l _ => ?_).trans ((sum_lanes (fun l => (show FVec Ideal S1x256x128 .bf16 from iblk m c 0 t) (ix3 0 n l) * kk (F := Ideal) (grid0.coords t) (iblk m c 1 t) (ix2 j l)) a).trans
      (Finset.sum_congr rfl fun d _ => Ideal.mul_congr (blk0 m c t a d n) (kk_blk m c t a j d)))
    unfold qm
    rw [ite_mul, zero_mul]
  have e2 : (Finset.univ.fold max ⊥ fun l : Fin 128 => if l.val / 64 = a.val then (show FVec Ideal S1x256x128 .f32 from iblk m c 5 t) (ix3 0 n l) else ⊥)
      = mx (S (C m c) (B m c) (hd t a) (pos (bi t) n)) + Ideal.log (tot (S (C m c) (B m c) (hd t a) (pos (bi t) n))) := by
    refine Eq.trans ?_ (fold_lanes _ a)
    refine congrArg (fun f => Finset.univ.fold max ⊥ f) (funext fun l => ?_)
    by_cases hl : l.val / 64 = a.val
    · rw [if_pos hl, if_pos hl]
      have ha : (⟨l.val / 64, lane_half l⟩ : Fin 2) = a := Fin.ext hl
      rw [lane_split l, ha]
      exact blk5 m c t a _ n
    · rw [if_neg hl, if_neg hl]
  unfold ph
  rw [e1, e2]
  refine (congrArg (fun x => Ideal.exp (_ + x - _)) (blk3 m c t a n j)).trans ?_
  by_cases hs : (win t j).val / 64 ≤ (pos (bi t) n).val / 64 ∧ (pos (bi t) n).val / 64 ≤ (win t j).val / 64 + 8
  · rw [if_pos ((seen_iff t n j).2 hs), ← spread_win t (B m c) (hd t a) n j, ← exp_lse hg (win t j), Cert.AttRefIdeal.Hand.S_apply, if_pos hs]
  · obtain ⟨L, hL⟩ := lse_real hg
    rw [if_neg (fun h => hs ((seen_iff t n j).1 h)), hL, EReal.add_bot, Cert.AttRefIdeal.Hand.pr_zero H _ _ _ hs, EReal.bot_sub]
    rfl

theorem dh_eq (H : Fine (C m c) (B m c) (D m c)) (n : Fin 256) (j : Fin 768) :
    dh (grid0.coords t) (iblk m c 0 t) (iblk m c 1 t) (iblk m c 2 t) (iblk m c 3 t) (iblk m c 4 t) (iblk m c 5 t) (iblk m c 6 t) a n j
      = DS (C m c) (B m c) (D m c) (hd t a) (pos (bi t) n) (win t j) := by
  have e1 : (∑ l, dm (iblk m c 6 t) a n l * vv (F := Ideal) (grid0.coords t) (iblk m c 2 t) (ix2 j l))
      = dpr (ve (C m c) (hd t a)) (ge (D m c) (hd t a) (pos (bi t) n)) (win t j) := by
    refine (Finset.sum_congr rfl fun l _ => ?_).trans ((sum_lanes (fun l => (show FVec Ideal S1x256x128 .f32 from iblk m c 6 t) (ix3 0 n l) * vv (F := Ideal) (grid0.coords t) (iblk m c 2 t) (ix2 j l)) a).trans
      (Finset.sum_congr rfl fun d _ => Ideal.mul_congr (blk6 m c t a d n) (vv_blk m c t a j d)))
    unfold dm
    rw [ite_mul, zero_mul]
  have e2 : (∑ l : Fin 128, if l.val / 64 = a.val then (show FVec Ideal S1x256x128 .f32 from iblk m c 6 t) (ix3 0 n l) * (show FVec Ideal S256x128 .bf16 from iblk m c 4 t) (ix2 n l) else 0)
      = ∑ d, ge (D m c) (hd t a) (pos (bi t) n) d * outp (S (C m c) (B m c) (hd t a) (pos (bi t) n)) (ve (C m c) (hd t a)) d :=
    (sum_lanes (fun l => (show FVec Ideal S1x256x128 .f32 from iblk m c 6 t) (ix3 0 n l) * (show FVec Ideal S256x128 .bf16 from iblk m c 4 t) (ix2 n l)) a).trans
      (Finset.sum_congr rfl fun d _ => Ideal.mul_congr (blk6 m c t a d n) (blk4 m c t a d n))
  unfold dh
  rw [ph_eq t a H n j, e1, e2]
  rfl

end Point
-- ==== Proof.AttSteps.lean ====
module

public import proofs.«01_k».proof.Proof.AttVal
public import Idealize.ShloMosaic.Lib.Pipeline.ValueKit
public import Idealize.ShloMosaic.Lib.Pointwise

@[expose] public section

set_option maxRecDepth 16384

noncomputable section

namespace Cert.AttIdeal.Hand

open Cert.AttIdeal Cert.AttIdeal.Gen Idealize.ShloMosaic Idealize.ShloMosaic.TcCoe Idealize.SL.Sem
open Cert.AttRow
open Cert.AttRefIdeal.Hand (S ve ge DS Fine)

/-- A row of the accumulator after 768 rows of it have been written. -/
theorem put_row (x : S8192x128.Idx → EReal) (s : ℕ) (off : Fin 2 → ℕ) (ho : off = ![s, 0]) (w : S768x128.Idx → EReal) (y : Fin 8192) (l : Fin 128) :
    VecWindow.put (s := S8192x128) x off S768x128.size w (ix2 y l) =
      if h : s ≤ y.val ∧ y.val < s + 768 then w (ix2 ⟨y.val - s, by omega⟩ l) else x (ix2 y l) := by
  subst ho
  unfold VecWindow.put
  by_cases h : s ≤ y.val ∧ y.val < s + 768
  · have ha : ∀ a, ![s, 0] a ≤ ((ix2 y l : S8192x128.Idx) a).val ∧ ((ix2 y l : S8192x128.Idx) a).val < ![s, 0] a + S768x128.size a :=
      fun | 0 => h | 1 => ⟨Nat.zero_le _, by show l.val < 0 + 128; omega⟩
    rw [dif_pos h]
    refine (dif_pos ha).trans (congrArg w (funext fun a => ?_))
    match a with
    | ⟨0, _⟩ => rfl
    | ⟨1, _⟩ => exact Fin.ext (by show l.val - 0 = l.val; omega)
  · rw [dif_neg h]
    exact dif_neg fun ha => h (ha 0)

/-- A row of 768 rows of the accumulator. -/
theorem window_row (x : S8192x128.Idx → EReal) (s : ℕ) (off : Fin 2 → ℕ) (ho : off = ![s, 0]) (inb) (j : Fin 768) (l : Fin 128) (hs : s + j.val < 8192) :
    VecWindow.window (s := S8192x128) x off S768x128.size inb (ix2 j l) = x (ix2 ⟨s + j.val, hs⟩ l) := by
  subst ho
  refine congrArg x (funext fun b => Fin.ext ?_)
  match b with
  | ⟨0, _⟩ => show s + 1 * j.val = s + j.val; omega
  | ⟨1, _⟩ => show 0 + 1 * l.val = l.val; omega

/-- A plane's row after 256 rows of the first plane have been written. -/
theorem put_plane (x : S3x8192x128.Idx → EReal) (s : ℕ) (off : Fin 3 → ℕ) (ho : off = ![0, s, 0]) (w : S1x256x128.Idx → EReal) (y : Fin 8192) (l : Fin 128) :
    VecWindow.put (s := S3x8192x128) x off S1x256x128.size w (ix3 0 y l) =
      if h : s ≤ y.val ∧ y.val < s + 256 then w (ix3 0 ⟨y.val - s, by omega⟩ l) else x (ix3 0 y l) := by
  subst ho
  unfold VecWindow.put
  by_cases h : s ≤ y.val ∧ y.val < s + 256
  · have ha : ∀ a, ![0, s, 0] a ≤ ((ix3 0 y l : S3x8192x128.Idx) a).val ∧ ((ix3 0 y l : S3x8192x128.Idx) a).val < ![0, s, 0] a + S1x256x128.size a :=
      fun | 0 => ⟨Nat.zero_le _, by show 0 < 0 + 1; omega⟩ | 1 => h | 2 => ⟨Nat.zero_le _, by show l.val < 0 + 128; omega⟩
    rw [dif_pos h]
    refine (dif_pos ha).trans (congrArg w (funext fun a => ?_))
    match a with
    | ⟨0, _⟩ => rfl
    | ⟨1, _⟩ => rfl
    | ⟨2, _⟩ => exact Fin.ext (by show l.val - 0 = l.val; omega)
  · rw [dif_neg h]
    exact dif_neg fun ha => h (ha 1)

/-- The three planes once the last two have been written. -/
theorem fin_plane (x : S3x8192x128.Idx → EReal) (w1 w2 : S1x8192x128.Idx → EReal) (v : Fin 3) (y : Fin 8192) (l : Fin 128) :
    VecWindow.put (s := S3x8192x128) (VecWindow.put (s := S3x8192x128) x ![1, 0, 0] S1x8192x128.size w1) ![2, 0, 0] S1x8192x128.size w2 (ix3 v y l) =
      if v.val = 0 then x (ix3 v y l) else if v.val = 1 then w1 (ix3 0 y l) else w2 (ix3 0 y l) := by
  have hin : ∀ (p : ℕ), v.val = p → ∀ a, ![p, 0, 0] a ≤ ((ix3 v y l : S3x8192x128.Idx) a).val ∧ ((ix3 v y l : S3x8192x128.Idx) a).val < ![p, 0, 0] a + S1x8192x128.size a :=
    fun p hp => fun | 0 => ⟨by show p ≤ v.val; omega, by show v.val < p + 1; omega⟩ | 1 => ⟨Nat.zero_le _, by show y.val < 0 + 8192; omega⟩ | 2 => ⟨Nat.zero_le _, by show l.val < 0 + 128; omega⟩
  have hout : ∀ (p : ℕ), v.val ≠ p → ¬ ∀ a, ![p, 0, 0] a ≤ ((ix3 v y l : S3x8192x128.Idx) a).val ∧ ((ix3 v y l : S3x8192x128.Idx) a).val < ![p, 0, 0] a + S1x8192x128.size a := by
    intro p hp ha
    have h0 : p ≤ v.val ∧ v.val < p + 1 := ha 0
    omega
  have hw : ∀ (w : S1x8192x128.Idx → EReal) (p : ℕ) (hp : v.val = p), w (Rect.unitLocal (s := S3x8192x128) (off := ![p, 0, 0]) (size := S1x8192x128.size) (ix3 v y l) (hin p hp)) = w (ix3 0 y l) := by
    intro w p hp
    refine congrArg w (funext fun a => ?_)
    match a with
    | ⟨0, _⟩ => exact Fin.ext (by show v.val - p = 0; omega)
    | ⟨1, _⟩ => exact Fin.ext (by show y.val - 0 = y.val; omega)
    | ⟨2, _⟩ => exact Fin.ext (by show l.val - 0 = l.val; omega)
  rcases (by omega : v.val = 0 ∨ v.val = 1 ∨ v.val = 2) with h | h | h
  · rw [if_pos h]
    exact (dif_neg (hout 2 (by omega))).trans (dif_neg (hout 1 (by omega)))
  · rw [if_neg (by omega), if_pos h]
    exact ((dif_neg (hout 2 (by omega))).trans (dif_pos (hin 1 h))).trans (hw w1 1 h)
  · rw [if_neg (by omega), if_neg (by omega)]
    exact (dif_pos (hin 2 h)).trans (hw w2 2 h)

/-- The two heads' tiles once both have been written. -/
theorem put_heads (x : S1x2x256x768.Idx → EReal) (w0 w1 : S1x1x256x768.Idx → EReal) (a : Fin 2) (n : Fin 256) (j : Fin 768) :
    VecWindow.put (s := S1x2x256x768) (VecWindow.put (s := S1x2x256x768) x ![0, 0, 0, 0] S1x1x256x768.size w0) ![0, 1, 0, 0] S1x1x256x768.size w1 (ix4 0 a n j) =
      if a.val = 0 then w0 (ix4 0 0 n j) else w1 (ix4 0 0 n j) := by
  have hin : ∀ (p : ℕ), a.val = p → ∀ b, ![0, p, 0, 0] b ≤ ((ix4 0 a n j : S1x2x256x768.Idx) b).val ∧ ((ix4 0 a n j : S1x2x256x768.Idx) b).val < ![0, p, 0, 0] b + S1x1x256x768.size b :=
    fun p hp => fun | 0 => ⟨Nat.zero_le _, by show 0 < 0 + 1; omega⟩ | 1 => ⟨by show p ≤ a.val; omega, by show a.val < p + 1; omega⟩ | 2 => ⟨Nat.zero_le _, by show n.val < 0 + 256; omega⟩ | 3 => ⟨Nat.zero_le _, by show j.val < 0 + 768; omega⟩
  have hw : ∀ (w : S1x1x256x768.Idx → EReal) (p : ℕ) (hp : a.val = p), w (Rect.unitLocal (s := S1x2x256x768) (off := ![0, p, 0, 0]) (size := S1x1x256x768.size) (ix4 0 a n j) (hin p hp)) = w (ix4 0 0 n j) := by
    intro w p hp
    refine congrArg w (funext fun b => ?_)
    match b with
    | ⟨0, _⟩ => rfl
    | ⟨1, _⟩ => exact Fin.ext (by show a.val - p = 0; omega)
    | ⟨2, _⟩ => exact Fin.ext (by show n.val - 0 = n.val; omega)
    | ⟨3, _⟩ => exact Fin.ext (by show j.val - 0 = j.val; omega)
  rcases (by omega : a.val = 0 ∨ a.val = 1) with h | h
  · rw [if_pos h]
    have hn : ¬ ∀ b, ![0, 1, 0, 0] b ≤ ((ix4 0 a n j : S1x2x256x768.Idx) b).val ∧ ((ix4 0 a n j : S1x2x256x768.Idx) b).val < ![0, 1, 0, 0] b + S1x1x256x768.size b := by
      intro hb
      have h1 : 1 ≤ a.val ∧ a.val < 1 + 1 := hb 1
      omega
    exact ((dif_neg hn).trans (dif_pos (hin 0 h))).trans (hw w0 0 h)
  · rw [if_neg (by omega)]
    exact (dif_pos (hin 1 h)).trans (hw w1 1 h)

theorem window_head (x : S1x2x256x768.Idx → EReal) (a : Fin 2) (off : Fin 4 → ℕ) (ho : off = ![0, a.val, 0, 0]) (inb) (n : Fin 256) (j : Fin 768) :
    VecWindow.window (s := S1x2x256x768) x off S1x1x256x768.size inb (ix4 0 0 n j) = x (ix4 0 a n j) := by
  subst ho
  refine congrArg x (funext fun b => Fin.ext ?_)
  match b with
  | ⟨0, _⟩ => rfl
  | ⟨1, _⟩ => show a.val + 1 * 0 = a.val; omega
  | ⟨2, _⟩ => show 0 + 1 * n.val = n.val; omega
  | ⟨3, _⟩ => show 0 + 1 * j.val = j.val; omega

/-- Where a block's row of the query gradients starts. -/
theorem off2_eq (i : grid0.Coords) : k0_off2 i = ![0, (i 1).val * 256, 0] := by
  have h : (i 1).val < 32 := (i 1).isLt
  have e : (Scalar.indexCast (Scalar.muli (BitVec.ofNat 32 (i 1).val) 256#32)).toNat = (i 1).val * 256 := by
    revert h; generalize (i 1).val = k; revert k; decide +kernel
  unfold k0_off2
  simp only [e]

variable (m : (ℓ : Loc nD τ sig) → Buf (Elt Ideal) ℓ)
variable {c : Dev nD}

/-- What one block of queries gives a key's gradient. -/
def Kt (C : FVec Ideal S8192x5120 .f32) (B : FVec Ideal S8x257 .f32) (D : FVec Ideal S3x8192x512 .f32) (h : Fin 8) (y : Fin 8192) (d : Fin 64) (i : Fin 32) : EReal :=
  ∑ n : Fin 256, DS C B D h (pos i n) y * Ideal.ofBits FTy.f32 1040187392#32 * Cert.AttRefIdeal.Read.val_main_v1 (F := Ideal) C (ix3 (pos i n) h d)
/-- What one block of queries gives a value's gradient. -/
def Vt (C : FVec Ideal S8192x5120 .f32) (B : FVec Ideal S8x257 .f32) (D : FVec Ideal S3x8192x512 .f32) (h : Fin 8) (y : Fin 8192) (d : Fin 64) (i : Fin 32) : EReal :=
  ∑ n : Fin 256, ge D h (pos i n) d * pr (S C B h (pos i n)) y

/-- A key outside a block's window is not seen from it. -/
theorem unseen (i : Fin 32) (n : Fin 256) (y : Fin 8192) (h : ¬ ((i.val - 2) * 256 ≤ y.val ∧ y.val < (i.val - 2) * 256 + 768)) :
    ¬ (y.val / 64 ≤ (pos i n).val / 64 ∧ (pos i n).val / 64 ≤ y.val / 64 + 8) := by
  have e : (pos i n).val = i.val * 256 + n.val := rfl
  omega

section
variable (t : Fin cfg0.N) (H : Fine (C m c) (B m c) (D m c)) (l : Fin 128)
include H

theorem s11_apply (x) (y : Fin 8192) : s11 m c t x (ix2 y l) = x (ix2 y l) +
    Kt (C m c) (B m c) (D m c) (hd t ⟨l.val / 64, lane_half l⟩) y ⟨l.val % 64, by omega⟩ (bi t) := by
  unfold s11 upd11
  rw [put_row _ ((t.val % 32 - 2) * 256) _ (by rw [k0_off3_eq, coord_block])]
  by_cases h : (t.val % 32 - 2) * 256 ≤ y.val ∧ y.val < (t.val % 32 - 2) * 256 + 768
  · rw [dif_pos h, dkp_apply, window_row _ ((t.val % 32 - 2) * 256) _ (by rw [k0_off3_eq, coord_block]) _ _ _ (by show (t.val % 32 - 2) * 256 + (y.val - _) < _; omega)]
    have hy : win t ⟨y.val - (t.val % 32 - 2) * 256, by omega⟩ = y := Fin.ext (by show (t.val % 32 - 2) * 256 + (y.val - (t.val % 32 - 2) * 256) = y.val; omega)
    refine Ideal.add_congr (congrArg x (congrArg (fun y => (ix2 y l : S8192x128.Idx)) hy)) (Finset.sum_congr rfl fun n _ => ?_)
    rw [dh_eq t _ H, hy]
    refine Ideal.mul_congr rfl ?_
    conv_lhs => rw [lane_split l]
    exact blk0 m c t _ _ n
  · rw [dif_neg h]
    unfold Kt
    rw [Finset.sum_eq_zero, add_zero]
    intro n _
    rw [Cert.AttRefIdeal.Hand.DS_zero H _ _ _ (unseen (bi t) n y h), zero_mul, zero_mul]

theorem s12_apply (x) (y : Fin 8192) : s12 m c t x (ix2 y l) = x (ix2 y l) +
    Vt (C m c) (B m c) (D m c) (hd t ⟨l.val / 64, lane_half l⟩) y ⟨l.val % 64, by omega⟩ (bi t) := by
  unfold s12 upd12
  rw [put_row _ ((t.val % 32 - 2) * 256) _ (by rw [k0_off3_eq, coord_block])]
  by_cases h : (t.val % 32 - 2) * 256 ≤ y.val ∧ y.val < (t.val % 32 - 2) * 256 + 768
  · rw [dif_pos h, dvp_apply, window_row _ ((t.val % 32 - 2) * 256) _ (by rw [k0_off3_eq, coord_block]) _ _ _ (by show (t.val % 32 - 2) * 256 + (y.val - _) < _; omega)]
    have hy : win t ⟨y.val - (t.val % 32 - 2) * 256, by omega⟩ = y := Fin.ext (by show (t.val % 32 - 2) * 256 + (y.val - (t.val % 32 - 2) * 256) = y.val; omega)
    refine Ideal.add_congr (congrArg x (congrArg (fun y => (ix2 y l : S8192x128.Idx)) hy)) (Finset.sum_congr rfl fun n _ => ?_)
    rw [ph_eq t _ H, hy, mul_comm]
    refine Ideal.mul_congr ?_ rfl
    conv_lhs => rw [lane_split l]
    exact blk6 m c t _ _ n
  · rw [dif_neg h]
    unfold Vt
    rw [Finset.sum_eq_zero, add_zero]
    intro n _
    rw [Cert.AttRefIdeal.Hand.pr_zero H _ _ _ (unseen (bi t) n y h), mul_zero]

/-- A row of a block's query gradients. -/
theorem dq_row (n : Fin 256) : dqp (grid0.coords t) (iblk m c 0 t) (iblk m c 1 t) (iblk m c 2 t) (iblk m c 3 t) (iblk m c 4 t) (iblk m c 5 t) (iblk m c 6 t) (ix3 0 n l) =
    ∑ x, DS (C m c) (B m c) (D m c) (hd t ⟨l.val / 64, lane_half l⟩) (pos (bi t) n) x * Ideal.ofBits FTy.f32 1040187392#32 *
      Cert.AttRefIdeal.Read.val_main_v3 (F := Ideal) (C m c) (ix3 x (hd t ⟨l.val / 64, lane_half l⟩) ⟨l.val % 64, by omega⟩) := by
  rw [dqp_apply]
  have hb : (bi t).val = t.val % 32 := rfl
  rw [sum_window (fun x => DS (C m c) (B m c) (D m c) (hd t ⟨l.val / 64, lane_half l⟩) (pos (bi t) n) x * Ideal.ofBits FTy.f32 1040187392#32 *
      Cert.AttRefIdeal.Read.val_main_v3 (F := Ideal) (C m c) (ix3 x (hd t ⟨l.val / 64, lane_half l⟩) ⟨l.val % 64, by omega⟩)) ((t.val % 32 - 2) * 256) (by omega)]
  · refine Finset.sum_congr rfl fun j _ => ?_
    rw [dh_eq t _ H]
    refine Ideal.mul_congr rfl ?_
    conv_lhs => rw [lane_split l]
    exact kk_blk m c t _ j _
  · intro x hx
    rw [Cert.AttRefIdeal.Hand.DS_zero H _ _ _ (unseen (bi t) n x hx), zero_mul, zero_mul]

/-- A row of the query gradients after a block. -/
theorem s9_apply (x) (y : Fin 8192) : s9 m c t x (ix3 0 y l) = if t.val % 32 = y.val / 256 then
    ∑ z, DS (C m c) (B m c) (D m c) (hd t ⟨l.val / 64, lane_half l⟩) y z * Ideal.ofBits FTy.f32 1040187392#32 *
      Cert.AttRefIdeal.Read.val_main_v3 (F := Ideal) (C m c) (ix3 z (hd t ⟨l.val / 64, lane_half l⟩) ⟨l.val % 64, by omega⟩)
    else x (ix3 0 y l) := by
  unfold s9 upd9
  rw [put_plane _ (t.val % 32 * 256) _ (by rw [off2_eq, coord_block])]
  by_cases h : t.val % 32 * 256 ≤ y.val ∧ y.val < t.val % 32 * 256 + 256
  · have hy : pos (bi t) ⟨y.val - t.val % 32 * 256, by omega⟩ = y := Fin.ext (by show t.val % 32 * 256 + (y.val - t.val % 32 * 256) = y.val; omega)
    rw [dif_pos h, dq_row m t H, if_pos (by omega), hy]
  · rw [dif_neg h, if_neg (by omega)]

/-- The two heads' bias gradient after a block. -/
theorem s10_apply (x) (a : Fin 2) (n : Fin 256) (j : Fin 768) : s10 m c t x (ix4 0 a n j) =
    if t.val % 32 ≤ 2 then DS (C m c) (B m c) (D m c) (hd t a) (pos (bi t) n) (win t j)
    else x (ix4 0 a n j) + DS (C m c) (B m c) (D m c) (hd t a) (pos (bi t) n) (win t j) := by
  unfold s10 n10
  rw [coord_block]
  by_cases h : t.val % 32 ≤ 2
  · rw [if_pos h, if_pos h]
    unfold fst10
    rw [put_heads]
    rcases (by omega : a.val = 0 ∨ a.val = 1) with ha | ha
    · rw [if_pos ha, dbA0_apply, dh_eq t _ H, show (0 : Fin 2) = a from Fin.ext ha.symm]
    · rw [if_neg (by omega), dbA1_apply, dh_eq t _ H, show (1 : Fin 2) = a from Fin.ext ha.symm]
  · rw [if_neg h, if_neg h]
    unfold acc10
    rw [put_heads]
    rcases (by omega : a.val = 0 ∨ a.val = 1) with ha | ha
    · rw [if_pos ha, dbB0_apply, dh_eq t _ H, show (0 : Fin 2) = a from Fin.ext ha.symm, window_head x a _ (by rw [ha])]
    · rw [if_neg (by omega), dbB1_apply, dh_eq t _ H, show (1 : Fin 2) = a from Fin.ext ha.symm, window_head x a _ (by rw [ha])]

end

section
variable (H : Fine (C m c) (B m c) (D m c)) (p : ℕ) (hp : p < 4)

/-- A head of a pair. -/
def hp2 (a : Fin 2) : Fin 8 := ⟨p * 2 + a.val, by omega⟩

include hp
theorem pt_val (k : ℕ) (hk : k < 32) : (pt p k).val = p * 32 + k := by
  show (p * 32 + k) % 128 = _; omega
theorem hd_pt (k : ℕ) (hk : k < 32) (a : Fin 2) : hd (pt p k) a = hp2 p hp a := by
  apply Fin.ext; show (pt p k).val / 32 * 2 + a.val = p * 2 + a.val; rw [pt_val p hp k hk]; omega
theorem bi_pt (k : ℕ) (hk : k < 32) : bi (pt p k) = ⟨k, hk⟩ := by
  apply Fin.ext; show (pt p k).val % 32 = k; rw [pt_val p hp k hk]; omega

include H
theorem X11_apply (y : Fin 8192) (l : Fin 128) (k : ℕ) (hk : k < 32) : X11 m c p k (ix2 y l) =
    ∑ i ∈ Finset.range (k + 1), Kt (C m c) (B m c) (D m c) (hp2 p hp ⟨l.val / 64, lane_half l⟩) y ⟨l.val % 64, by omega⟩ ⟨i % 32, by omega⟩ := by
  induction k with
  | zero =>
    unfold X11 steps
    rw [s11_apply m _ H, hd_pt p hp 0 hk, bi_pt p hp 0 hk, Finset.sum_range_one]
    refine (congrArg (· + _) ?_).trans (zero_add _)
    pointwise [k0_pay5]
  | succ k ih =>
    unfold X11 steps
    rw [s11_apply m _ H, hd_pt p hp (k + 1) hk, bi_pt p hp (k + 1) hk, Finset.sum_range_succ]
    refine Ideal.add_congr (ih (by omega)) (congrArg _ (Fin.ext ?_))
    show k + 1 = (k + 1) % 32; omega

theorem X12_apply (y : Fin 8192) (l : Fin 128) (k : ℕ) (hk : k < 32) : X12 m c p k (ix2 y l) =
    ∑ i ∈ Finset.range (k + 1), Vt (C m c) (B m c) (D m c) (hp2 p hp ⟨l.val / 64, lane_half l⟩) y ⟨l.val % 64, by omega⟩ ⟨i % 32, by omega⟩ := by
  induction k with
  | zero =>
    unfold X12 steps
    rw [s12_apply m _ H, hd_pt p hp 0 hk, bi_pt p hp 0 hk, Finset.sum_range_one]
    refine (congrArg (· + _) ?_).trans (zero_add _)
    pointwise [k0_pay6]
  | succ k ih =>
    unfold X12 steps
    rw [s12_apply m _ H, hd_pt p hp (k + 1) hk, bi_pt p hp (k + 1) hk, Finset.sum_range_succ]
    refine Ideal.add_congr (ih (by omega)) (congrArg _ (Fin.ext ?_))
    show k + 1 = (k + 1) % 32; omega

theorem X9_apply (x) (y : Fin 8192) (l : Fin 128) (k : ℕ) (hk : k < 32) (hy : y.val / 256 ≤ k) : X9 m c p x k (ix3 0 y l) =
    ∑ z, DS (C m c) (B m c) (D m c) (hp2 p hp ⟨l.val / 64, lane_half l⟩) y z * Ideal.ofBits FTy.f32 1040187392#32 *
      Cert.AttRefIdeal.Read.val_main_v3 (F := Ideal) (C m c) (ix3 z (hp2 p hp ⟨l.val / 64, lane_half l⟩) ⟨l.val % 64, by omega⟩) := by
  have e : ∀ k, k < 32 → (pt p k).val % 32 = k := fun k hk => by rw [pt_val p hp k hk]; omega
  induction k with
  | zero =>
    unfold X9 steps
    rw [s9_apply m _ H, e 0 hk, if_pos (by omega), hd_pt p hp 0 hk]
  | succ k ih =>
    unfold X9 steps
    rw [s9_apply m _ H, e (k + 1) hk, hd_pt p hp (k + 1) hk]
    by_cases h : k + 1 = y.val / 256
    · rw [if_pos h]
    · rw [if_neg h]; exact ih (by omega) (by omega)

/-- The bias gradient after a block is the sum over the blocks of its kind so far. -/
theorem X10_apply (a : Fin 2) (n : Fin 256) (j : Fin 768) (k : ℕ) (hk : k < 32) : X10 m c p k (ix4 0 a n j) =
    ∑ i ∈ Finset.range (k + 1), if min k 2 = min i 2 then
      DS (C m c) (B m c) (D m c) (hp2 p hp a) (pos ⟨i % 32, by omega⟩ n) ⟨(i % 32 - 2) * 256 + j.val, by omega⟩ else 0 := by
  have e : ∀ k, k < 32 → (pt p k).val % 32 = k := fun k hk => by rw [pt_val p hp k hk]; omega
  have ew : ∀ k (hk : k < 32), DS (C m c) (B m c) (D m c) (hd (pt p k) a) (pos (bi (pt p k)) n) (win (pt p k) j)
      = DS (C m c) (B m c) (D m c) (hp2 p hp a) (pos ⟨k % 32, by omega⟩ n) ⟨(k % 32 - 2) * 256 + j.val, by omega⟩ := by
    intro k hk
    rw [hd_pt p hp k hk, bi_pt p hp k hk]
    congr 1
    · congr 1
      exact Fin.ext (by show k = k % 32; omega)
    · apply Fin.ext
      show ((pt p k).val % 32 - 2) * 256 + j.val = (k % 32 - 2) * 256 + j.val
      rw [e k hk]; omega
  induction k with
  | zero =>
    unfold X10 steps
    rw [s10_apply m _ H, e 0 hk, if_pos (by omega), ew 0 hk, Finset.sum_range_one, if_pos rfl]
  | succ k ih =>
    unfold X10 steps
    rw [s10_apply m _ H, e (k + 1) hk, ew (k + 1) hk, Finset.sum_range_succ, if_pos rfl]
    by_cases h : k + 1 ≤ 2
    · rw [if_pos h, Finset.sum_eq_zero, zero_add]
      intro i hi
      rw [if_neg]
      have := Finset.mem_range.1 hi
      omega
    · rw [if_neg h]
      refine Ideal.add_congr ((ih (by omega) ew).trans ?_) rfl
      rw [show min k 2 = min (k + 1) 2 by omega]

/-- A result's column. -/
def oc (l : Fin 128) : Fin 512 := ⟨p * 128 + l.val, by omega⟩

/-- The three gradients of a pair of heads are the reference's. -/
theorem grads_out (x) (v : Fin 3) (y : Fin 8192) (l : Fin 128) :
    fin9 (F := Ideal) (X9 m c p x 31) (X11 m c p 31) (X12 m c p 31) (ix3 v y l) =
      Cert.AttRefIdeal.Read.val_main_v146 (F := Ideal) (C m c) (B m c) (D m c) (ix3 v y (oc p hp l)) := by
  have e1 : (⟨(oc p hp l).val / 64, by omega⟩ : Fin 8) = hp2 p hp ⟨l.val / 64, lane_half l⟩ := Fin.ext (by show (p * 128 + l.val) / 64 = p * 2 + l.val / 64; omega)
  have e2 : (⟨(oc p hp l).val % 64, by omega⟩ : Fin 64) = ⟨l.val % 64, by omega⟩ := Fin.ext (by show (p * 128 + l.val) % 64 = l.val % 64; omega)
  have e3 : ∀ i : Fin 32, (⟨i.val % 32, by omega⟩ : Fin 32) = i := fun i => Fin.ext (by show i.val % 32 = i.val; omega)
  unfold fin9
  rw [fin_plane]
  rcases (by omega : v.val = 0 ∨ v.val = 1 ∨ v.val = 2) with h | h | h
  · obtain rfl : v = 0 := Fin.ext h
    rw [if_pos h, X9_apply m H p hp x y l 31 (by omega) (by omega), Cert.AttRefIdeal.Hand.out0_apply H, e1, e2]
  · obtain rfl : v = 1 := Fin.ext h
    rw [if_neg (by omega), if_pos h, Cert.AttRefIdeal.Hand.out1_apply H, e1, e2]
    pointwise [k0_pay3]
    rw [X11_apply m H p hp y l 31 (by omega), Finset.sum_range, sum_pos]
    refine Finset.sum_congr rfl fun i _ => ?_
    rw [e3]; rfl
  · obtain rfl : v = 2 := Fin.ext h
    rw [if_neg (by omega), if_neg (by omega), Cert.AttRefIdeal.Hand.out2_apply H, e1, e2]
    pointwise [k0_pay4]
    rw [X12_apply m H p hp y l 31 (by omega), Finset.sum_range, sum_pos]
    refine Finset.sum_congr rfl fun i _ => ?_
    rw [e3]; rfl

/-- The bias gradient a pair of heads leaves is the reference's. -/
theorem tiles_eq (a : Fin 2) (n : Fin 256) (j : Fin 768) (k : ℕ) (hk : k = 0 ∨ k = 1 ∨ k = 31) :
    X10 m c p k (ix4 0 a n j) =
      Cert.AttRefIdeal.Read.val_main_v134 (F := Ideal) (C m c) (B m c) (D m c) (ix4 ⟨min k 2, by omega⟩ (hp2 p hp a) n j) := by
  rw [X10_apply m H p hp a n j k (by omega), Cert.AttRefIdeal.Hand.tiles_out H]
  refine (Finset.sum_subset (Finset.range_mono (by omega : k + 1 ≤ 32)) fun i hi hni => ?_).trans ?_
  · have h1 := Finset.mem_range.1 hi
    have h2 : ¬ i < k + 1 := fun h => hni (Finset.mem_range.2 h)
    rw [if_neg (by omega)]
  · rw [Finset.sum_range]
    refine Finset.sum_congr rfl fun i _ => ?_
    by_cases h : min k 2 = min i.val 2
    · rw [if_pos h, if_pos h]
      congr 1
      · congr 1
        exact Fin.ext (by show i.val % 32 = i.val; omega)
      · exact Fin.ext (by show (i.val % 32 - 2) * 256 + j.val = (i.val - 2) * 256 + j.val; omega)
    · rw [if_neg h, if_neg h]

end

end Cert.AttIdeal.Hand
-- ==== Proof.AttFrame.lean ====
module

public import proofs.«01_k».proof.Proof.Gen.Att.Frame
public import proofs.«01_k».proof.Proof.Gen.Att.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import proofs.«01_k».proof.Proof.Gen.Att.Points

@[expose] public section

set_option maxRecDepth 16384

noncomputable section

namespace Cert.Att.Hand

open Cert.Att Cert.Att.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Where the keys that a block of queries sees start. -/
theorem start_word : ∀ n : Fin 32, (Scalar.indexCast (Scalar.muli (Scalar.maxsi (Scalar.subi (BitVec.ofNat 32 n.val) 2#32) 0#32) 256#32)).toNat = (n.val - 2) * 256 := by
  decide +kernel

theorem k0_off3_eq (i : grid0.Coords) : k0_off3 i = ![((i 1).val - 2) * 256, 0] :=
  congrArg (fun n => ![n, 0]) (start_word (i 1))

instance closedOff_start (i : grid0.Coords) : ClosedOff (k0_off3 i) := ⟨![((i 1).val - 2) * 256, 0], k0_off3_eq i⟩

/-- The four ways the body's branches can go. -/
theorem branches (i : grid0.Coords) :
    ((Scalar.cmpi .ne (Scalar.extui (Scalar.cmpi .eq (BitVec.ofNat 32 (i 1).val) 0#32)) 0#32) = 1#1 ∧ k0_cond2 i = 1#1 ∧ ¬ k0_cond3 i = 1#1 ∧ k0_cond4 i = 1#1 ∧ ¬ k0_cond5 i = 1#1 ∧ ¬ (Scalar.cmpi .ne (Scalar.extui (Scalar.cmpi .eq (BitVec.ofNat 32 (i 1).val) 31#32)) 0#32) = 1#1)
    ∨ (¬ (Scalar.cmpi .ne (Scalar.extui (Scalar.cmpi .eq (BitVec.ofNat 32 (i 1).val) 0#32)) 0#32) = 1#1 ∧ k0_cond2 i = 1#1 ∧ ¬ k0_cond3 i = 1#1 ∧ k0_cond4 i = 1#1 ∧ ¬ k0_cond5 i = 1#1 ∧ ¬ (Scalar.cmpi .ne (Scalar.extui (Scalar.cmpi .eq (BitVec.ofNat 32 (i 1).val) 31#32)) 0#32) = 1#1)
    ∨ (¬ (Scalar.cmpi .ne (Scalar.extui (Scalar.cmpi .eq (BitVec.ofNat 32 (i 1).val) 0#32)) 0#32) = 1#1 ∧ ¬ k0_cond2 i = 1#1 ∧ k0_cond3 i = 1#1 ∧ ¬ k0_cond4 i = 1#1 ∧ k0_cond5 i = 1#1 ∧ ¬ (Scalar.cmpi .ne (Scalar.extui (Scalar.cmpi .eq (BitVec.ofNat 32 (i 1).val) 31#32)) 0#32) = 1#1)
    ∨ (¬ (Scalar.cmpi .ne (Scalar.extui (Scalar.cmpi .eq (BitVec.ofNat 32 (i 1).val) 0#32)) 0#32) = 1#1 ∧ ¬ k0_cond2 i = 1#1 ∧ k0_cond3 i = 1#1 ∧ ¬ k0_cond4 i = 1#1 ∧ k0_cond5 i = 1#1 ∧ (Scalar.cmpi .ne (Scalar.extui (Scalar.cmpi .eq (BitVec.ofNat 32 (i 1).val) 31#32)) 0#32) = 1#1) := by
  unfold k0_cond2 k0_cond3 k0_cond4 k0_cond5
  generalize i 1 = n
  revert n
  decide +kernel

set_option maxHeartbeats 2000000 in
/-- One run of the body: what it reads stays, what it writes ends at some contents. -/
theorem run_body (c : Dev nD) (i : grid0.Coords) (arg2 : Memref sig .tc .vmem S1x256x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x1x2x256x768 .f32) (harg5 : arg5.IsWhole) (arg6 : Memref sig .tc .vmem S256x128 .bf16) (harg6 : arg6.IsWhole) (arg7 : Memref sig .tc .vmem S1x256x128 .f32) (harg7 : arg7.IsWhole) (arg8 : Memref sig .tc .vmem S1x256x128 .f32) (harg8 : arg8.IsWhole) (arg9 : Memref sig .tc .vmem S3x8192x128 .bf16) (harg9 : arg9.IsWhole) (arg10 : Memref sig .tc .vmem S1x2x256x768 .f32) (harg10 : arg10.IsWhole) (arg11 : Memref sig .tc .vmem S8192x128 .f32) (harg11 : arg11.IsWhole) (arg12 : Memref sig .tc .vmem S8192x128 .f32) (harg12 : arg12.IsWhole)
    (x2 : Vec F S1x256x128 .bf16) (x3 : Vec F S1x8192x128 .bf16) (x4 : Vec F S1x8192x128 .bf16) (x5 : Vec F S1x1x2x256x768 .f32) (x6 : Vec F S256x128 .bf16) (x7 : Vec F S1x256x128 .f32) (x8 : Vec F S1x256x128 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
    ⊢ wp frame (wpE (defs₀ (F := F)) Variants.none c none) E (cc0_att_bwd i arg2 harg2 arg3 harg3 arg4 harg4 arg5 harg5 arg6 harg6 arg7 harg7 arg8 harg8 arg9 harg9 arg10 harg10 arg11 harg11 arg12 harg12) K := by
  simp only [cc0_att_bwd_eq_skeleton]; unfold cc0_att_bwd_skel
  simp only [k0_part1_eq_skeleton, k0_part2_eq_skeleton, k0_part3_eq_skeleton, k0_part4_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%x9, %f9, %hf9, H9⟩, ⟨%x10, %f10, %hf10, H10⟩, ⟨%x11, %f11, %hf11, H11⟩, ⟨%x12, %f12, %hf12, H12⟩, Hk⟩
  rcases branches i with ⟨hc1, hc2, hc3, hc4, hc5, hc6⟩ | ⟨hc1, hc2, hc3, hc4, hc5, hc6⟩ | ⟨hc1, hc2, hc3, hc4, hc5, hc6⟩ | ⟨hc1, hc2, hc3, hc4, hc5, hc6⟩
  all_goals
    sl_exec (disch := first | sl_exact hc1 | sl_exact hc2 | sl_exact hc3 | sl_exact hc4 | sl_exact hc5 | sl_exact hc6)
    sl_step
    iapply Hk
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; iexists _; isplitr; swap; iexact H9
      ipureintro; rfl
    isplitl [H10]
    · iexists _; iexists _; isplitr; swap; iexact H10
      ipureintro; rfl
    isplitl [H11]
    · iexists _; iexists _; isplitr; swap; iexact H11
      ipureintro; rfl
    iexists _; iexists _; isplitr; swap; iexact H12
    ipureintro; rfl

/-- The staging buffer of window 0 at a point. -/
abbrev ms0 (t : Fin cfg0.N) : Memref sig .tc .vmem S1x256x128 .bf16 := win0_0.stage (cfg0.slots t 0)
/-- The staging buffer of window 1 at a point. -/
abbrev ms1 (t : Fin cfg0.N) : Memref sig .tc .vmem S1x8192x128 .bf16 := win0_1.stage (cfg0.slots t 1)
/-- The staging buffer of window 2 at a point. -/
abbrev ms2 (t : Fin cfg0.N) : Memref sig .tc .vmem S1x8192x128 .bf16 := win0_2.stage (cfg0.slots t 2)
/-- The staging buffer of window 3 at a point. -/
abbrev ms3 (t : Fin cfg0.N) : Memref sig .tc .vmem S1x1x2x256x768 .f32 := win0_3.stage (cfg0.slots t 3)
/-- The staging buffer of window 4 at a point. -/
abbrev ms4 (t : Fin cfg0.N) : Memref sig .tc .vmem S256x128 .bf16 := win0_4.stage (cfg0.slots t 4)
/-- The staging buffer of window 5 at a point. -/
abbrev ms5 (t : Fin cfg0.N) : Memref sig .tc .vmem S1x256x128 .f32 := win0_5.stage (cfg0.slots t 5)
/-- The staging buffer of window 6 at a point. -/
abbrev ms6 (t : Fin cfg0.N) : Memref sig .tc .vmem S1x256x128 .f32 := win0_6.stage (cfg0.slots t 6)
/-- The staging buffer of window 7 at a point. -/
abbrev ms7 (t : Fin cfg0.N) : Memref sig .tc .vmem S3x8192x128 .bf16 := win0_7.stage (cfg0.slots t 7)
/-- The staging buffer of window 8 at a point. -/
abbrev ms8 (t : Fin cfg0.N) : Memref sig .tc .vmem S1x2x256x768 .f32 := win0_8.stage (cfg0.slots t 8)

variable (m : (ℓ : Loc nD τ sig) → Buf (Elt F) ℓ) (ρ : Dev nD → PrngReg)

/-- Nothing is said of the two results' contents. -/
def forgets0 : Fin 9 → Bool := fun w => w.val == 7 || w.val == 8

/-- What is known around the body at every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem leaves0 (c : Dev nD) (t : Fin cfg0.N) : ((dats m 0 c).leavesExact 0 t : sProp 𝕄) = owns (c : Thread nD τ) (ms0 t) fullShare (iblk m c 0 t) := by
  unfold Dat.leavesExact; rw [show cfg0.idle 0 (grid0.coords t) = false from rfl, after0]
theorem leaves1 (c : Dev nD) (t : Fin cfg0.N) : ((dats m 0 c).leavesExact 1 t : sProp 𝕄) = owns (c : Thread nD τ) (ms1 t) fullShare (iblk m c 1 t) := by
  unfold Dat.leavesExact; rw [show cfg0.idle 1 (grid0.coords t) = false from rfl, after1]
theorem leaves2 (c : Dev nD) (t : Fin cfg0.N) : ((dats m 0 c).leavesExact 2 t : sProp 𝕄) = owns (c : Thread nD τ) (ms2 t) fullShare (iblk m c 2 t) := by
  unfold Dat.leavesExact; rw [show cfg0.idle 2 (grid0.coords t) = false from rfl, after2]
theorem leaves3 (c : Dev nD) (t : Fin cfg0.N) : ((dats m 0 c).leavesExact 3 t : sProp 𝕄) = owns (c : Thread nD τ) (ms3 t) fullShare (iblk m c 3 t) := by
  unfold Dat.leavesExact; rw [show cfg0.idle 3 (grid0.coords t) = false from rfl, after3]
theorem leaves4 (c : Dev nD) (t : Fin cfg0.N) : ((dats m 0 c).leavesExact 4 t : sProp 𝕄) = owns (c : Thread nD τ) (ms4 t) fullShare (iblk m c 4 t) := by
  unfold Dat.leavesExact; rw [show cfg0.idle 4 (grid0.coords t) = false from rfl, after4]
theorem leaves5 (c : Dev nD) (t : Fin cfg0.N) : ((dats m 0 c).leavesExact 5 t : sProp 𝕄) = owns (c : Thread nD τ) (ms5 t) fullShare (iblk m c 5 t) := by
  unfold Dat.leavesExact; rw [show cfg0.idle 5 (grid0.coords t) = false from rfl, after5]
theorem leaves6 (c : Dev nD) (t : Fin cfg0.N) : ((dats m 0 c).leavesExact 6 t : sProp 𝕄) = owns (c : Thread nD τ) (ms6 t) fullShare (iblk m c 6 t) := by
  unfold Dat.leavesExact; rw [show cfg0.idle 6 (grid0.coords t) = false from rfl, after6]

/-- The rest of the core's state, with the two scratch buffers as memrefs. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d))
    ∗ (∃ d, owns (c : Thread nD τ) (ms7 t) fullShare d) ∗ (∃ d, owns (c : Thread nD τ) (ms8 t) fullShare d))

/-- What the body returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t
    ∗ (∃ d, owns (c : Thread nD τ) (ms7 t) fullShare d) ∗ (∃ d, owns (c : Thread nD τ) (ms8 t) fullShare d))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, leaves0, before1, leaves1, before2, leaves2, before3, leaves3, before4, leaves4, before5, leaves5, before6, leaves6]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, H7, H8⟩
  iapply (run_body c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The run: the inputs end as they were, every counter is back at zero. -/
theorem run_main : θ_run defs (onTc (τ := τ) (main (F := F))) ⟨m, fun _ => 0, ρ⟩ (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- The frame of the attention backward call as compiled. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (h.1.arr_in c 6 rfl).trans ((A_eq m c 6).trans (V_main_arg2 m c))⟩, h.2⟩) (run_main m ρ)

end Cert.Att.Hand

end
-- ==== Proof.AttGrad.lean ====
module

public import proofs.«01_k».proof.Proof.AttSteps
public import proofs.«01_k».proof.Proof.AttFrame
public import proofs.«01_k».proof.Proof.Gen.AttRefIdeal.Run
public import Idealize.ShloMosaic.Lib.Pipeline.ArrRel
public import Idealize.ShloMosaic.Lib.Pipeline.ValueKit
public import Idealize.ShloMosaic.Lib.Pointwise
public import Idealize.ShloMosaic.Lib.Claim

@[expose] public section

set_option maxRecDepth 16384

noncomputable section

namespace Cert.AttIdeal.Hand

open Cert.AttIdeal Cert.AttIdeal.Gen Idealize.ShloMosaic Idealize.ShloMosaic.TcCoe Idealize.SL.Sem
open Cert.AttRefIdeal.Hand (Fine)
open Cert.AttRefIdeal.Read (val_main_v146 val_main_v134)

variable (m : (ℓ : Loc nD τ sig) → Buf (Elt Ideal) ℓ) (ρ : Dev nD → PrngReg)

/-- Where the bias gradient is written back. -/
theorem flushed8 (t : Fin cfg0.N) (h : (cfg0.win 8).flush t = true) : t.val % 32 = 0 ∨ t.val % 32 = 1 ∨ t.val % 32 = 31 := by
  revert t; decide +kernel

variable {m} {c : Dev nD} (H : Fine (C m c) (B m c) (D m c)) (after : (w' : Fin cfg0.W) → Fin cfg0.N → (cfg0.win w').block.Idx → Elt Ideal (cfg0.win w').elt)
  (hl : ∀ (w : Fin cfg0.W) (u : Fin cfg0.N), (cfg0.win w).flush u = true → ((dats m 0 c).toRRel marked (Rl m c)).Leaves w u (after w u))

include H hl

theorem final7 : ((((dats m 0 c).toRRel marked (Rl m c)).withAfter after).arrAt 7 cfg0.N) =
    val_main_v146 (F := Ideal) (C m c) (B m c) (D m c) := by
  refine Pipeline.Dat.arrAt_eq_of_covers _ 7 _ (by decide +kernel) fun t hf y => ?_
  obtain ⟨x, hx⟩ : Rl m c 7 t (after 7 t) := (dats m 0 c).toRRel_leaves rfl (hl 7 t hf)
  have h31 := (flush0_7 t).1 hf
  have ht := point_lt t
  rw [if_pos h31] at hx
  blk_simp
  refine (congrFun hx y).trans ?_
  refine (congrArg _ (eq_ix3 (n0 := 3) (n1 := 8192) (n2 := 128) y)).trans ((grads_out m H (t.val / 32) (by omega) x (y 0) (y 1) (y 2)).trans ?_)
  blk_ext [oc, idx t]

theorem final8 : ((((dats m 0 c).toRRel marked (Rl m c)).withAfter after).arrAt 8 cfg0.N) =
    val_main_v134 (F := Ideal) (C m c) (B m c) (D m c) := by
  refine Pipeline.Dat.arrAt_eq_of_covers _ 8 _ (by decide +kernel) fun t hf y => ?_
  have hx : Rl m c 8 t (after 8 t) := (dats m 0 c).toRRel_leaves rfl (hl 8 t hf)
  have hk := flushed8 t hf
  have ht := point_lt t
  blk_simp
  refine (congrFun hx y).trans ?_
  have hk31 : t.val % 32 < 32 := Nat.mod_lt _ (by decide)
  have h0 : (y 0).val = 0 := by have : (y 0).val < 1 := (y 0).isLt; omega
  refine (congrArg _ (eq_ix4 (n0 := 1) (n1 := 2) (n2 := 256) (n3 := 768) y)).trans ?_
  rw [show (y 0) = (0 : Fin 1) from Fin.ext h0]
  refine (tiles_eq m H (t.val / 32) (by omega) (y 1) (y 2) (y 3) (t.val % 32) hk).trans ?_
  blk_ext [hp2, idx t]

end Cert.AttIdeal.Hand

namespace Cert.Proof.AttGrad
open Idealize.ShloMosaic Idealize.ShloMosaic.TcCoe Idealize.SL.Sem
open Cert.Pre_att_finite (S8192x5120 S8x257 S3x8192x512)
open Cert.K (real_of_finite)
open Cert.AttRefIdeal.Hand (Fine)

/-- The shapes the precondition's operations need. -/
instance preFacts : Cert.Pre_att_finite.Facts where
  slices_S8192x5120_S8192x1536_0_3584 := by decide
  bcast_S_S8192x1536 := by decide
  bcast_S_S8x257 := by decide
  slices_S3x8192x512_S1x8192x512_2_0_0 := by decide
  shapeCasts_S1x8192x512_S8192x512 := by decide
  bcast_S_S8192x512 := by decide

section
variable (C : FVec Ideal S8192x5120 .f32) (B : FVec Ideal S8x257 .f32) (D : FVec Ideal S3x8192x512 .f32)

theorem pre_C (h : (Cert.Pre_att_finite.fn C B D).1 = fun _ => 1#1) (n : Fin 8192) (l : Fin 1536) : ∃ r : ℝ, C (ix2 n ⟨3584 + l.val, by omega⟩) = r := by
  refine real_of_finite (Eq.trans ?_ (congrFun h (ix2 n l)))
  pointwise [Cert.Pre_att_finite.fn]

theorem pre_B (h : (Cert.Pre_att_finite.fn C B D).2.1 = fun _ => 1#1) (n : Fin 8) (l : Fin 257) : ∃ r : ℝ, B (ix2 n l) = r := by
  refine real_of_finite (Eq.trans ?_ (congrFun h (ix2 n l)))
  pointwise [Cert.Pre_att_finite.fn]

theorem pre_D (h : (Cert.Pre_att_finite.fn C B D).2.2 = fun _ => 1#1) (n : Fin 8192) (l : Fin 512) : ∃ r : ℝ, D (ix3 2 n l) = r := by
  refine real_of_finite (Eq.trans ?_ (congrFun h (ix2 n l)))
  pointwise [Cert.Pre_att_finite.fn]

/-- Under the precondition what the call reads is real. -/
theorem fine (h : (Cert.Pre_att_finite.fn C B D).1 = (fun _ => 1#1) ∧ (Cert.Pre_att_finite.fn C B D).2.1 = (fun _ => 1#1) ∧ (Cert.Pre_att_finite.fn C B D).2.2 = fun _ => 1#1) :
    Fine C B D where
  hC n l hl := by
    obtain ⟨r, hr⟩ := pre_C C B D h.1 n ⟨l.val - 3584, by omega⟩
    exact ⟨r, (congrArg (fun l => C (ix2 n l)) (Fin.ext (by show l.val = 3584 + (l.val - 3584); omega))).trans hr⟩
  hB c := by
    obtain ⟨r, hr⟩ := pre_B C B D h.2.1 (c 0) (c 1)
    exact ⟨r, (congrArg B (eq_ix2 c)).trans hr⟩
  hD n l := pre_D C B D h.2.2 n l
end

/-- The reference keeps its arguments and declares no semaphore. -/
theorem refFrame : Cert.quiescent_AttRefIdeal := fun m g _ =>
  (θ_run Cert.AttRefIdeal.defs _ _).mono (fun r h => ⟨fun c => (h c).2.2, sem_eq_zero_of_no_sems (by decide) r.2⟩)
    (Cert.AttRefIdeal.Value.run (F := Ideal) m g)

open Cert.AttIdeal Cert.AttIdeal.Gen Cert.AttIdeal.Hand in
/-- What the kernel's run ends with. -/
theorem run_value (m : (ℓ : Loc nD τ sig) → Buf (Elt Ideal) ℓ) (ρ : Dev nD → PrngReg) (H : ∀ c, Fine (C m c) (B m c) (D m c)) :
    θ_run (defs (F := Ideal)) (onTc (τ := τ) (main (F := Ideal))) ⟨m, fun _ => 0, ρ⟩ (fun r => ∀ c : Dev nD,
      r.2.mem ((c.tc : Thread nD τ).loc main_v132_0) = Cert.AttRefIdeal.Read.val_main_v146 (F := Ideal) (C m c) (B m c) (D m c)
      ∧ r.2.mem ((c.tc : Thread nD τ).loc main_v132_1) = Cert.AttRefIdeal.Read.val_main_v134 (F := Ideal) (C m c) (B m c) (D m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => by
    obtain ⟨after, hl, ha⟩ := h.1.exists_exact c
    exact ⟨(ha 7).trans (final7 (H c) after hl), (ha 8).trans (final8 (H c) after hl),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (h.1.arr_in c 6 rfl).trans ((A_eq m c 6).trans (V_main_arg2 m c))⟩) (run_main m ρ)

/-- The mask stands for minus infinity. -/
theorem preserves : Cert.preserves_Att_AttIdeal :=
  IdealRules.named_const.statement Cert.AttIdeal.κ "mask" .f32 0xF149F2CA#32 ⊥ rfl

open Cert.AttRefIdeal in
/-- What the reference's run ends with. -/
theorem ref_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v146) = Read.val_main_v146 (F := Ideal) (m ((c.tc : Thread nD τ).loc main_arg0)) (m ((c.tc : Thread nD τ).loc main_arg1)) (m ((c.tc : Thread nD τ).loc main_arg2))
      ∧ r.2.mem ((c.tc : Thread nD τ).loc main_v134) = Read.val_main_v134 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (Read.val_main_v146_eq _), (h c).2.1.trans (Read.val_main_v134_eq _), (h c).2.2⟩)
    (Value.run (F := Ideal) m ρ)

/-- Kernel and reference end with the same gradients whenever what they read is finite. -/
theorem algebraic : Cert.algebraic_AttIdeal_AttRefIdeal_pre_att_finite := by
  intro m g m' g' hpre hagree
  refine ⟨_, _, run_value m g fun c => fine _ _ _ (hpre c), (θ_run Cert.AttRefIdeal.defs _ _).mono (fun r h c => ?_) (ref_value m' g')⟩
  obtain ⟨a0, a1, a2⟩ := hagree c
  obtain ⟨h0, h1, h2⟩ := h c
  rw [a0, a1, a2] at h0 h1
  exact ⟨h0, h1, h2⟩

end Cert.Proof.AttGrad

end
-- ==== Proof.AttFwdPay.lean ====
/- What a point of the forward attention call writes: a block of queries' outputs and log-sums, two heads side by
   side in the lanes, in the language of the heads' rows of scores over the window of keys that the block sees. -/
module

public import proofs.«01_k».proof.Proof.AttPay
public import proofs.«01_k».proof.Proof.Gen.AttFwdIdeal.Value
public import Idealize.ShloMosaic.Lib.Pipeline.ValueKit
public import Idealize.ShloMosaic.Lib.Pointwise
public import Idealize.ShloMosaic.Lib.Claim

@[expose] public section

set_option maxRecDepth 16384

noncomputable section

namespace Cert.AttFwdIdeal.Hand

open Cert.AttFwdIdeal Cert.AttFwdIdeal.Gen Idealize.ShloMosaic Idealize.ShloMosaic.TcCoe Idealize.SL.Sem
open Cert.AttRow

theorem mine_apply (n : Fin 256) (l : Fin 128) : k0_pay12 k0_pay10 (ix2 n l) = if l.val / 64 = 0 then 1#1 else 0#1 := by
  pointwise [k0_pay12, k0_pay10]
  revert l; decide +kernel

theorem other_apply (n : Fin 256) (l : Fin 128) : k0_pay19 k0_pay10 (ix2 n l) = if l.val / 64 = 1 then 1#1 else 0#1 := by
  pointwise [k0_pay19, k0_pay10]
  revert l; decide +kernel

/-- A head's score of a query and a key of the window. -/
def sc (q : Vec Ideal S1x256x128 .bf16) (kw : Vec Ideal S1x768x128 .bf16) (b : Vec Ideal S1x1x1x256x768 .f32) (a : Fin 2) (n : Fin 256) (j : Fin 768) : EReal :=
  (∑ l : Fin 128, if l.val / 64 = a.val then q (ix3 0 n l) * kw (ix3 0 j l) else 0) * Ideal.ofBits FTy.f32 1040187392#32 + b (ix5 0 0 0 n j)

variable (q : Vec Ideal S1x256x128 .bf16) (kw vw : Vec Ideal S1x768x128 .bf16) (b0 b1 : Vec Ideal S1x1x1x256x768 .f32)

theorem s0_apply (n : Fin 256) (j : Fin 768) : k0_pay13 (k0_pay7 q) (k0_pay8 kw) k0_pay10 b0 (ix2 n j) = sc q kw b0 0 n j := by
  have e := fun l => mine_apply n l
  pointwise [k0_pay13, k0_pay7, k0_pay8]
  simp only [e, Cert.AttIdeal.Hand.sel]
  rfl

theorem s1_apply (n : Fin 256) (j : Fin 768) : k0_pay1 (k0_pay20 (k0_pay7 q) (k0_pay8 kw) k0_pay10) (k0_pay21 b1) (ix2 n j) = sc q kw b1 1 n j := by
  have e := fun l => other_apply n l
  pointwise [k0_pay1, k0_pay20, k0_pay21, k0_pay7, k0_pay8]
  simp only [e, Cert.AttIdeal.Hand.sel]
  rfl

theorem m0_apply (n : Fin 256) (z : Fin 1) : k0_pay14 (k0_pay7 q) (k0_pay8 kw) k0_pay10 b0 (ix2 n z) = mx (sc q kw b0 0 n) := by
  have e := fun j => s0_apply q kw b0 n j
  pointwise [k0_pay14]
  simp only [e]
  rfl

theorem m1_apply (n : Fin 256) (z : Fin 1) : k0_pay2 (k0_pay20 (k0_pay7 q) (k0_pay8 kw) k0_pay10) (k0_pay21 b1) (ix2 n z) = mx (sc q kw b1 1 n) := by
  have e := fun j => s1_apply q kw b1 n j
  pointwise [k0_pay2]
  simp only [e]
  rfl

theorem p0_apply (n : Fin 256) (j : Fin 768) : k0_pay15 (k0_pay7 q) (k0_pay8 kw) k0_pay10 b0 (ix2 n j) = ew (sc q kw b0 0 n) j := by
  have e := s0_apply q kw b0 n j
  have e' := m0_apply q kw b0 n 0
  pointwise [k0_pay15]
  rw [e, e']
  rfl

theorem p1_apply (n : Fin 256) (j : Fin 768) : k0_pay3 (k0_pay20 (k0_pay7 q) (k0_pay8 kw) k0_pay10) (k0_pay21 b1) (ix2 n j) = ew (sc q kw b1 1 n) j := by
  have e := s1_apply q kw b1 n j
  have e' := m1_apply q kw b1 n 0
  pointwise [k0_pay3]
  rw [e, e']
  rfl

theorem l0_apply (n : Fin 256) (z : Fin 1) : k0_pay16 (k0_pay7 q) (k0_pay8 kw) k0_pay10 b0 (ix2 n z) = tot (sc q kw b0 0 n) := by
  have e := fun j => p0_apply q kw b0 n j
  pointwise [k0_pay16]
  simp only [e]
  rfl

theorem l1_apply (n : Fin 256) (z : Fin 1) : k0_pay4 (k0_pay20 (k0_pay7 q) (k0_pay8 kw) k0_pay10) (k0_pay21 b1) (ix2 n z) = tot (sc q kw b1 1 n) := by
  have e := fun j => p1_apply q kw b1 n j
  pointwise [k0_pay4]
  simp only [e]
  rfl

/-- A head's weighted sum of the window's values over the sum of its weights. -/
def oh (s : Fin 768 → EReal) (l : Fin 128) : EReal := Ideal.div (∑ j, ew s j * vw (ix3 0 j l)) (tot s)

theorem y_apply (n : Fin 256) (l : Fin 128) :
    k0_pay5 (k0_pay9 vw) (k0_pay17 (k0_pay7 q) (k0_pay8 kw) (k0_pay9 vw) k0_pay10 k0_pay11 b0) (k0_pay19 k0_pay10)
      (k0_pay20 (k0_pay7 q) (k0_pay8 kw) k0_pay10) (k0_pay21 b1) (ix2 n l)
      = if l.val / 64 = 0 then oh vw (sc q kw b0 0 n) l else oh vw (sc q kw b1 1 n) l := by
  have e0 := fun j => p0_apply q kw b0 n j
  have e1 := fun j => p1_apply q kw b1 n j
  have f0 := l0_apply q kw b0 n 0
  have f1 := l1_apply q kw b1 n 0
  have g0 := mine_apply n l
  have g1 := other_apply n l
  pointwise [k0_pay5, k0_pay17, k0_pay11, k0_pay9]
  simp only [e0, e1, f0, f1, g0, g1, Cert.AttIdeal.Hand.sel]
  rcases (by omega : l.val / 64 = 0 ∨ l.val / 64 = 1) with h | h
  · rw [if_neg (by omega), if_pos h, if_pos h]; rfl
  · rw [if_pos h, if_neg (by omega)]; rfl

theorem lse_apply (n : Fin 256) (l : Fin 128) :
    k0_pay6 (k0_pay18 (k0_pay7 q) (k0_pay8 kw) k0_pay10 (FloatOps.ofBits FTy.f32 0#32) b0) (k0_pay19 k0_pay10)
      (k0_pay20 (k0_pay7 q) (k0_pay8 kw) k0_pay10) (k0_pay21 b1) (ix3 0 n l)
      = if l.val / 64 = 0 then mx (sc q kw b0 0 n) + Ideal.log (tot (sc q kw b0 0 n)) else mx (sc q kw b1 1 n) + Ideal.log (tot (sc q kw b1 1 n)) := by
  have e0 := m0_apply q kw b0 n 0
  have e1 := m1_apply q kw b1 n 0
  have f0 := l0_apply q kw b0 n 0
  have f1 := l1_apply q kw b1 n 0
  have g0 := mine_apply n l
  have g1 := other_apply n l
  pointwise [k0_pay6, k0_pay18]
  simp only [e0, e1, f0, f1, g0, g1, Cert.AttIdeal.Hand.sel]
  rcases (by omega : l.val / 64 = 0 ∨ l.val / 64 = 1) with h | h
  · rw [if_neg (by omega), if_pos h, if_pos h]
  · rw [if_pos h, if_neg (by omega)]

/-! ## The blocks -/

variable (m : (ℓ : Loc nD τ sig) → Buf (Elt Ideal) ℓ)

theorem k0_off1_eq (i : grid0.Coords) : k0_off1 i = ![0, ((i 1).val - 2) * 256, 0] :=
  congrArg (fun n => ![0, n, 0]) (Cert.AttIdeal.Hand.start_word (i 1))

/-- The window of keys or values that a point reads. -/
def kvw (i : grid0.Coords) (x : Vec Ideal S1x8192x128 .bf16) : Vec Ideal S1x768x128 .bf16 :=
  View.ld x (Rect.unit (k0_off1 i) ![1, 768, 128] (k0_off1_inb i))
/-- A head's tile of the bias that a point reads. -/
def bt (x : Vec Ideal S1x1x2x256x768 .f32) (a : Fin 2) : Vec Ideal S1x1x1x256x768 .f32 := fun y => x (ix5 0 0 a (y 3) (y 4))

theorem kvw_apply (i : grid0.Coords) (x : Vec Ideal S1x8192x128 .bf16) (j : Fin 768) (l : Fin 128) (r : Fin 8192) (hr : r.val = ((i 1).val - 2) * 256 + j.val) :
    kvw i x (ix3 0 j l) = x (ix3 0 r l) := by
  unfold kvw
  refine View.ld_unit_apply_of x _ _ _ (ix3 0 j l) _ fun a => ?_
  match a with
  | ⟨0, _⟩ => rfl
  | ⟨1, _⟩ => exact hr.trans (congrArg (· + j.val) (congrFun (k0_off1_eq i) 1).symm)
  | ⟨2, _⟩ => exact (Nat.zero_add _).symm

theorem tile0 (x : Vec Ideal S1x1x2x256x768 .f32) (inb) : View.ld x (Rect.unit ![0, 0, 0, 0, 0] ![1, 1, 1, 256, 768] inb) = bt x 0 := by
  funext y
  have y0 : (y 0).val < 1 := (y 0).isLt
  have y1 : (y 1).val < 1 := (y 1).isLt
  have y2 : (y 2).val < 1 := (y 2).isLt
  refine View.ld_unit_apply_of x _ _ _ y _ fun a => ?_
  match a with
  | ⟨0, _⟩ => show 0 = 0 + (y 0).val; omega
  | ⟨1, _⟩ => show 0 = 0 + (y 1).val; omega
  | ⟨2, _⟩ => show 0 = 0 + (y 2).val; omega
  | ⟨3, _⟩ => exact (Nat.zero_add _).symm
  | ⟨4, _⟩ => exact (Nat.zero_add _).symm

theorem tile1 (x : Vec Ideal S1x1x2x256x768 .f32) (inb) : View.ld x (Rect.unit ![0, 0, 1, 0, 0] ![1, 1, 1, 256, 768] inb) = bt x 1 := by
  funext y
  have y0 : (y 0).val < 1 := (y 0).isLt
  have y1 : (y 1).val < 1 := (y 1).isLt
  have y2 : (y 2).val < 1 := (y 2).isLt
  refine View.ld_unit_apply_of x _ _ _ y _ fun a => ?_
  match a with
  | ⟨0, _⟩ => show 0 = 0 + (y 0).val; omega
  | ⟨1, _⟩ => show 0 = 0 + (y 1).val; omega
  | ⟨2, _⟩ => show 1 = 1 + (y 2).val; omega
  | ⟨3, _⟩ => exact (Nat.zero_add _).symm
  | ⟨4, _⟩ => exact (Nat.zero_add _).symm

/-- The row of scores of a point, a head and a query. -/
def srow (c : Dev nD) (t : Fin cfg0.N) (a : Fin 2) (n : Fin 256) : Fin 768 → EReal :=
  sc (iblk m c 0 t) (kvw (grid0.coords t) (iblk m c 1 t)) (bt (iblk m c 3 t) a) a n

theorem outs4 (c : Dev nD) (t : Fin cfg0.N) (n : Fin 256) (l : Fin 128) : (outsAt0 m c t).1 (ix2 n l)
    = oh (kvw (grid0.coords t) (iblk m c 2 t)) (srow m c t ⟨l.val / 64, by omega⟩ n) l := by
  unfold outsAt0
  frame_out
  rw [tile0, tile1]
  refine (y_apply (iblk m c 0 t) (kvw (grid0.coords t) (iblk m c 1 t)) (kvw (grid0.coords t) (iblk m c 2 t)) (bt (iblk m c 3 t) 0) (bt (iblk m c 3 t) 1) n l).trans ?_
  rcases (by omega : l.val / 64 = 0 ∨ l.val / 64 = 1) with h | h
  · rw [if_pos h, show (⟨l.val / 64, by omega⟩ : Fin 2) = 0 from Fin.ext h]; rfl
  · rw [if_neg (by omega), show (⟨l.val / 64, by omega⟩ : Fin 2) = 1 from Fin.ext h]; rfl

theorem outs5 (c : Dev nD) (t : Fin cfg0.N) (n : Fin 256) (l : Fin 128) : (outsAt0 m c t).2 (ix3 0 n l)
    = mx (srow m c t ⟨l.val / 64, by omega⟩ n) + Ideal.log (tot (srow m c t ⟨l.val / 64, by omega⟩ n)) := by
  unfold outsAt0
  frame_out
  rw [tile0, tile1]
  refine (lse_apply (iblk m c 0 t) (kvw (grid0.coords t) (iblk m c 1 t)) (bt (iblk m c 3 t) 0) (bt (iblk m c 3 t) 1) n l).trans ?_
  rcases (by omega : l.val / 64 = 0 ∨ l.val / 64 = 1) with h | h
  · rw [if_pos h, show (⟨l.val / 64, by omega⟩ : Fin 2) = 0 from Fin.ext h]; rfl
  · rw [if_neg (by omega), show (⟨l.val / 64, by omega⟩ : Fin 2) = 1 from Fin.ext h]; rfl

end Cert.AttFwdIdeal.Hand

end
-- ==== Proof.AttFwdVal.lean ====
/- The forward attention call: the rows of a block over its window of keys are the reference's whole rows, since every
   key outside the window is masked; so the maxima, the sums and the weighted values are the same. -/
module

public import proofs.«01_k».proof.Proof.AttFwdPay
public import proofs.«01_k».proof.Proof.AttVal
public import proofs.«01_k».proof.Defs
public import proofs.«01_k».proof.Proof.Gen.AttFwdIdeal.Value
public import proofs.«01_k».proof.Proof.Gen.AttFwdRefIdeal.Run
public import proofs.«01_k».proof.Proof.Gen.AttFwdRefIdeal.Read
public import Idealize.ShloMosaic.Lib.Pipeline.ValueKit
public import Idealize.ShloMosaic.Lib.Pointwise
public import Idealize.ShloMosaic.Lib.Claim
public import Idealize.ShloMosaic.Adequacy

@[expose] public section

set_option maxRecDepth 16384

noncomputable section

namespace Cert.AttRow

open Idealize.ShloMosaic

section Window
variable {S : Fin 8192 → EReal} {s : Fin 768 → EReal} (w : ℕ) (hw : w + 768 ≤ 8192) (hs : ∀ j, s j = S (wpos w hw j))
  (h0 : ∀ x : Fin 8192, ¬ (w ≤ x.val ∧ x.val < w + 768) → S x = ⊥)
include hs h0

/-- The maximum over a window outside of which every score is `−∞`. -/
theorem mx_window : mx s = mx S := by
  refine le_antisymm ((Finset.fold_max_le _).2 ⟨bot_le, fun j _ => ?_⟩) ((Finset.fold_max_le _).2 ⟨bot_le, fun x _ => ?_⟩)
  · rw [hs]; exact le_mx S _
  · by_cases hx : w ≤ x.val ∧ x.val < w + 768
    · have e : S x = s ⟨x.val - w, by omega⟩ := by
        rw [hs]; refine congrArg S (Fin.ext ?_); simp only [wpos]; omega
      rw [e]; exact le_mx s _
    · rw [h0 x hx]; exact bot_le

theorem ew_window (j : Fin 768) : ew s j = ew S (wpos w hw j) := by
  unfold ew
  rw [mx_window w hw hs h0, hs]

theorem ew_out (x : Fin 8192) (hx : ¬ (w ≤ x.val ∧ x.val < w + 768)) : ew S x = 0 := by
  unfold ew
  rw [h0 x hx, EReal.bot_sub, exp_bot]

theorem tot_window : tot s = tot S := by
  unfold tot
  rw [sum_window (fun x => ew S x) w hw fun x hx => ew_out w hw hs h0 x hx]
  exact Finset.sum_congr rfl fun j _ => ew_window w hw hs h0 j

/-- The weighted sum of the window's values over the sum of its weights is the row's output. -/
theorem out_window (h : Good S) {κ : Type} {v : Fin 8192 → κ → EReal} {v' : Fin 8192 → κ → ℝ} (hv : ∀ x d, v x d = v' x d) (d : κ) :
    Ideal.div (∑ j, ew s j * v (wpos w hw j) d) (tot s) = outp S v d := by
  rw [tot_window w hw hs h0, Finset.sum_congr rfl fun j _ => congrArg (· * v (wpos w hw j) d) (ew_window w hw hs h0 j),
    ← sum_window (fun x => ew S x * v x d) w hw fun x hx => by rw [ew_out w hw hs h0 x hx, zero_mul]]
  obtain ⟨M, u, -, hu, ht, hp, -, -⟩ := row h
  have hq : ∀ m, pr S m = ((u m / ∑ m, u m : ℝ) : EReal) := fun m => by unfold pr; rw [hu, ht, div_coe _ _ hp.ne']
  unfold outp
  simp only [hq, hu, hv, ht, ← EReal.coe_mul, sum_coe]
  rw [div_coe _ _ hp.ne', Finset.sum_div]
  exact congrArg _ (Finset.sum_congr rfl fun m _ => by ring)

end Window

end Cert.AttRow

namespace Cert.AttFwdIdeal.Hand

open Cert.AttFwdIdeal Cert.AttFwdIdeal.Gen Idealize.ShloMosaic Idealize.ShloMosaic.TcCoe Idealize.SL.Sem
open Cert.AttRow
open Cert.AttRefIdeal.Hand (S ve Fine)
open Cert.AttIdeal.Hand (lane_split lane_half lseArr biasArr)

variable (m : (ℓ : Loc nD τ sig) → Buf (Elt Ideal) ℓ)

/-- The columns as launched. -/
abbrev C (c : Dev nD) : FVec Ideal S8192x5120 .f32 := m ((c : Thread nD τ).loc main_arg0)
/-- The relative bias as launched. -/
abbrev B (c : Dev nD) : FVec Ideal S8x257 .f32 := m ((c : Thread nD τ).loc main_arg1)

theorem cols_apply (c : Dev nD) (s : Fin 10) (n : Fin 8192) (k : Fin 512) (l : Fin 5120) (hl : l.val = s.val * 512 + k.val) :
    (show FVec Ideal S10x8192x512 .bf16 from V m c main_v2) (ix3 s n k) = C m c (ix2 n l) := by
  unfold V
  after_reads_simp
  pointwise
  blk_ext [hl]

theorem mask_apply (c : Dev nD) (v : Fin 3) (z : Fin 1) (n : Fin 256) (j : Fin 768) :
    (show IVec S3x1x256x768 1 from V m c main_v47) (ix4 v z n j)
      = if j.val / 64 ≤ v.val * 4 + n.val / 64 ∧ v.val * 4 + n.val / 64 ≤ j.val / 64 + 8 then 1#1 else 0#1 := by
  unfold V
  after_reads_simp
  pointwise
  refine (Cert.AttIdeal.Hand.mask_bits ⟨v.val * 4 + n.val / 64, by omega⟩ ⟨j.val / 64, by omega⟩)

theorem bias_eq (c : Dev nD) :
    (show FVec Ideal S1x3x8x256x768 .f32 from V m c main_v49)
      = biasArr (show IVec S3x1x256x768 1 from V m c main_v47) (Cert.AttRefIdeal.Read.val_main_v33 (F := Ideal) (B m c)) := by
  unfold V
  after_reads_simp
  rfl

theorem bias_apply (c : Dev nD) (z : Fin 1) (v : Fin 3) (h : Fin 8) (n : Fin 256) (j : Fin 768) :
    (show FVec Ideal S1x3x8x256x768 .f32 from V m c main_v49) (ix5 z v h n j)
      = if j.val / 64 ≤ v.val * 4 + n.val / 64 ∧ v.val * 4 + n.val / 64 ≤ j.val / 64 + 8 then
          Cert.AttRefIdeal.Read.val_main_v33 (F := Ideal) (B m c) (ix4 v h n j) else ⊥ := by
  refine (congrFun (bias_eq m c) _).trans ((Cert.AttIdeal.Hand.biasArr_apply _ _ z v h n j).trans ?_)
  refine (if_congr (iff_of_eq (congrArg (· = 1#1) (mask_apply m c v 0 n j))) rfl rfl).trans ?_
  split <;> simp

/-! ## The windows' blocks -/

theorem idx : ∀ t : Fin cfg0.N, win0_0.index t = ![7, t.val % 32, t.val / 32] ∧ win0_1.index t = ![8, 0, t.val / 32]
    ∧ win0_2.index t = ![9, 0, t.val / 32] ∧ win0_3.index t = ![0, min (t.val % 32) 2, t.val / 32, 0, 0]
    ∧ win0_4.index t = ![t.val % 32, t.val / 32] ∧ win0_5.index t = ![t.val / 32, t.val % 32, 0] :=
  (by decide +kernel : ∀ t : Fin grid0.N, _)

theorem coord_block : ∀ t : Fin cfg0.N, ((grid0.coords t) 1).val = t.val % 32 :=
  (by decide +kernel : ∀ t : Fin grid0.N, _)

theorem point_lt (t : Fin cfg0.N) : t.val < 128 := lt_of_lt_of_eq t.isLt N_0

/-- The head of a pair at a point. -/
def hd (t : Fin cfg0.N) (a : Fin 2) : Fin 8 := ⟨t.val / 32 * 2 + a.val, by have := point_lt t; omega⟩
/-- The block of queries of a point. -/
def bi (t : Fin cfg0.N) : Fin 32 := ⟨t.val % 32, by omega⟩
/-- The column of a head's lane. -/
def col (t : Fin cfg0.N) (l : Fin 128) : Fin 512 := ⟨t.val / 32 * 128 + l.val, by have := point_lt t; omega⟩
/-- Where a point's window of keys starts. -/
def start (t : Fin cfg0.N) : ℕ := (t.val % 32 - 2) * 256

theorem start_le (t : Fin cfg0.N) : start t + 768 ≤ 8192 := by unfold start; omega

/-- The same point of the backward call's grid. -/
def tb (t : Fin cfg0.N) : Fin Cert.AttIdeal.cfg0.N := ⟨t.val, lt_of_lt_of_eq (point_lt t) Cert.AttIdeal.Gen.N_0.symm⟩

section Blocks
variable (c : Dev nD) (t : Fin cfg0.N) (a : Fin 2) (d : Fin 64)

theorem col_eq : (col t (lane2 a d)).val = (hd t a).val * 64 + d.val := by
  show t.val / 32 * 128 + (a.val * 64 + d.val) = (t.val / 32 * 2 + a.val) * 64 + d.val
  omega

theorem blk0 (n : Fin 256) : (show FVec Ideal S1x256x128 .bf16 from iblk m c 0 t) (ix3 0 n (lane2 a d))
    = Cert.AttRefIdeal.Read.val_main_v1 (F := Ideal) (C m c) (ix3 (pos (bi t) n) (hd t a) d) := by
  have hc := col_eq t a d
  rw [Cert.AttRefIdeal.Hand.q_apply]
  refine Eq.trans ?_ (cols_apply m c 7 (pos (bi t) n) (col t (lane2 a d)) _ (by show _ = 7 * 512 + (col t (lane2 a d)).val; rw [hc]))
  blk_ext [iblk, idx t, pos, bi, col, lane2]

theorem blk1 (y : Fin 8192) : (show FVec Ideal S1x8192x128 .bf16 from iblk m c 1 t) (ix3 0 y (lane2 a d))
    = Cert.AttRefIdeal.Read.val_main_v3 (F := Ideal) (C m c) (ix3 y (hd t a) d) := by
  have hc := col_eq t a d
  rw [Cert.AttRefIdeal.Hand.k_apply]
  refine Eq.trans ?_ (cols_apply m c 8 y (col t (lane2 a d)) _ (by show _ = 8 * 512 + (col t (lane2 a d)).val; rw [hc]))
  blk_ext [iblk, idx t, pos, bi, col, lane2]

theorem blk2 (y : Fin 8192) : (show FVec Ideal S1x8192x128 .bf16 from iblk m c 2 t) (ix3 0 y (lane2 a d))
    = ve (C m c) (hd t a) y d := by
  have hc := col_eq t a d
  unfold ve
  rw [Cert.AttRefIdeal.Hand.v_apply]
  refine Eq.trans ?_ (cols_apply m c 9 y (col t (lane2 a d)) _ (by show _ = 9 * 512 + (col t (lane2 a d)).val; rw [hc]))
  blk_ext [iblk, idx t, pos, bi, col, lane2]

theorem blk3 (n : Fin 256) (j : Fin 768) : bt (iblk m c 3 t) a (ix5 0 0 0 n j)
    = if j.val / 64 ≤ min (t.val % 32) 2 * 4 + n.val / 64 ∧ min (t.val % 32) 2 * 4 + n.val / 64 ≤ j.val / 64 + 8 then
        Cert.AttRefIdeal.Read.val_main_v33 (F := Ideal) (B m c) (ix4 ⟨min (t.val % 32) 2, by omega⟩ (hd t a) n j) else ⊥ := by
  refine Eq.trans ?_ (bias_apply m c 0 ⟨min (t.val % 32) 2, by omega⟩ (hd t a) n j)
  refine (show _ = (show FVec Ideal S1x1x2x256x768 .f32 from iblk m c 3 t) (ix5 0 0 a n j) from rfl).trans ?_
  blk_ext [iblk, idx t, hd]

theorem keys (j : Fin 768) : kvw (grid0.coords t) (iblk m c 1 t) (ix3 0 j (lane2 a d))
    = Cert.AttRefIdeal.Read.val_main_v3 (F := Ideal) (C m c) (ix3 (wpos (start t) (start_le t) j) (hd t a) d) :=
  (kvw_apply _ _ j _ (wpos (start t) (start_le t) j) (by rw [coord_block]; rfl)).trans (blk1 m c t a d _)

theorem vals (j : Fin 768) : kvw (grid0.coords t) (iblk m c 2 t) (ix3 0 j (lane2 a d))
    = ve (C m c) (hd t a) (wpos (start t) (start_le t) j) d :=
  (kvw_apply _ _ j _ (wpos (start t) (start_le t) j) (by rw [coord_block]; rfl)).trans (blk2 m c t a d _)

/-- A point's row of scores is the reference's at the window. -/
theorem srow_eq (n : Fin 256) (j : Fin 768) : srow m c t a n j = S (C m c) (B m c) (hd t a) (pos (bi t) n) (wpos (start t) (start_le t) j) := by
  have hi := Cert.AttIdeal.Hand.seen_iff (tb t) n j
  have hsp := Cert.AttIdeal.Hand.spread_win (tb t) (B m c) (hd t a) n j
  unfold srow sc
  rw [blk3, Cert.AttRefIdeal.Hand.S_apply]
  refine Eq.trans (congrArg (fun x => x * _ + _) ((sum_lanes _ a).trans (Finset.sum_congr rfl fun d _ => Ideal.mul_congr (blk0 m c t a d n) (keys m c t a d j)))) ?_
  have hw : (j.val / 64 ≤ min (t.val % 32) 2 * 4 + n.val / 64 ∧ min (t.val % 32) 2 * 4 + n.val / 64 ≤ j.val / 64 + 8)
      ↔ ((wpos (start t) (start_le t) j).val / 64 ≤ (pos (bi t) n).val / 64 ∧ (pos (bi t) n).val / 64 ≤ (wpos (start t) (start_le t) j).val / 64 + 8) := hi
  by_cases hs : j.val / 64 ≤ min (t.val % 32) 2 * 4 + n.val / 64 ∧ min (t.val % 32) 2 * 4 + n.val / 64 ≤ j.val / 64 + 8
  · rw [if_pos hs, if_pos (hw.1 hs)]
    exact congrArg (_ + ·) hsp.symm
  · rw [if_neg hs, if_neg (mt hw.2 hs)]
    exact EReal.add_bot _

/-- Outside the window no key is seen. -/
theorem out_bot (n : Fin 256) (x : Fin 8192) (hx : ¬ (start t ≤ x.val ∧ x.val < start t + 768)) :
    S (C m c) (B m c) (hd t a) (pos (bi t) n) x = ⊥ := by
  rw [Cert.AttRefIdeal.Hand.S_apply, if_neg]
  intro h
  apply hx
  simp only [pos, bi] at h
  unfold start
  omega

end Blocks

/-! ## The two results -/

variable {m}

/-- The log-sums as the reference lays them out. -/
def lseRef (c : Dev nD) : FVec Ideal S4x8192x128 .f32 :=
  lseArr (Cert.AttRefIdeal.Read.val_main_v93 (F := Ideal) (C m c) (B m c)) (Cert.AttRefIdeal.Read.val_main_v98 (F := Ideal) (C m c) (B m c))

theorem final4 (c : Dev nD) {D} (H : Fine (C m c) (B m c) D) :
    (dats m 0 c).arrAt 4 cfg0.N = Cert.AttRefIdeal.Read.val_main_v106 (F := Ideal) (C m c) (B m c) := by
  refine (dats m 0 c).arrAt_eq_of_covers 4 _ (by decide +kernel) fun t _ y => ?_
  blk_simp
  rw [after0_4]
  have hl : (y 1).val / 64 < 2 := by have : (y 1).val < 128 := (y 1).isLt; omega
  choose v hv using Cert.AttRefIdeal.Hand.ve_real H (hd t ⟨(y 1).val / 64, hl⟩)
  refine ((congrArg _ (eq_ix2 y)).trans (outs4 m c t (y 0) (y 1))).trans ?_
  have e : (y 1) = lane2 ⟨(y 1).val / 64, hl⟩ ⟨(y 1).val % 64, by omega⟩ := lane_split (y 1)
  have ho := out_window (start t) (start_le t) (srow_eq m c t ⟨(y 1).val / 64, hl⟩ (y 0)) (out_bot m c t ⟨(y 1).val / 64, hl⟩ (y 0))
    (Cert.AttRefIdeal.Hand.good H (hd t ⟨(y 1).val / 64, hl⟩) (pos (bi t) (y 0))) hv ⟨(y 1).val % 64, by omega⟩
  refine Eq.trans ?_ (ho.trans ((Cert.AttIdeal.Hand.outp_apply (C m c) (B m c) (pos (bi t) (y 0)) (col t (y 1)) _ _ ?_).symm.trans ?_))
  · unfold oh
    refine congrArg (Ideal.div · _) (Finset.sum_congr rfl fun j _ => Ideal.mul_congr rfl ?_)
    exact (congrArg (fun l => kvw (grid0.coords t) (iblk m c 2 t) (ix3 0 j l)) e).trans (vals m c t _ _ j)
  · show t.val / 32 * 128 + (y 1).val = (t.val / 32 * 2 + (y 1).val / 64) * 64 + (y 1).val % 64
    omega
  · blk_ext [idx t, pos, bi, col]

theorem final5 (c : Dev nD) : (dats m 0 c).arrAt 5 cfg0.N = lseRef (m := m) c := by
  refine (dats m 0 c).arrAt_eq_of_covers 5 _ (by decide +kernel) fun t _ y => ?_
  blk_simp
  rw [after0_5]
  have hl : (y 2).val / 64 < 2 := by have : (y 2).val < 128 := (y 2).isLt; omega
  have hp : t.val / 32 < 4 := by have := point_lt t; omega
  have h0 : (y 0) = (0 : Fin 1) := Fin.ext (by have : (y 0).val < 1 := (y 0).isLt; show (y 0).val = 0; omega)
  refine ((congrArg _ ((eq_ix3 y).trans (congrArg (fun z => ix3 z (y 1) (y 2)) h0))).trans (outs5 m c t (y 1) (y 2))).trans ?_
  rw [mx_window (start t) (start_le t) (srow_eq m c t ⟨(y 2).val / 64, hl⟩ (y 1)) (out_bot m c t ⟨(y 2).val / 64, hl⟩ (y 1)),
    tot_window (start t) (start_le t) (srow_eq m c t ⟨(y 2).val / 64, hl⟩ (y 1)) (out_bot m c t ⟨(y 2).val / 64, hl⟩ (y 1)),
    ← Cert.AttIdeal.Hand.mx_apply, ← Cert.AttIdeal.Hand.tot_apply]
  refine (Cert.AttIdeal.Hand.lseArr_apply _ _ ⟨t.val / 32, hp⟩ (pos (bi t) (y 1)) (y 2) (hd t ⟨(y 2).val / 64, hl⟩) rfl).symm.trans ?_
  unfold lseRef
  generalize lseArr _ _ = L
  blk_ext [idx t, pos, bi]

end Cert.AttFwdIdeal.Hand

namespace Cert.AttFwdRefIdeal.Hand
open Cert.AttFwdRefIdeal Cert.AttFwdRefIdeal.Read Idealize.ShloMosaic Idealize.ShloMosaic.TcCoe Idealize.SL.Sem

variable (C : FVec Ideal S8192x5120 .f32) (B : FVec Ideal S8x257 .f32)

theorem out_eq : val_main_v102 (F := Ideal) C B = Cert.AttRefIdeal.Read.val_main_v106 (F := Ideal) C B := rfl

theorem lse_eq : val_main_v172 (F := Ideal) C B
    = Cert.AttIdeal.Hand.lseArr (Cert.AttRefIdeal.Read.val_main_v93 (F := Ideal) C B) (Cert.AttRefIdeal.Read.val_main_v98 (F := Ideal) C B) := rfl

end Cert.AttFwdRefIdeal.Hand

namespace Cert.Proof.AttFwdVal
open Idealize.ShloMosaic Idealize.ShloMosaic.TcCoe Idealize.SL.Sem
open Cert.Pre_attfwd_finite (S8192x5120 S8x257)
open Cert.K (real_of_finite)
open Cert.AttRefIdeal.Hand (Fine)

/-- The shapes the precondition's operations need. -/
instance preFacts : Cert.Pre_attfwd_finite.Facts where
  slices_S8192x5120_S8192x1536_0_3584 := by decide
  bcast_S_S8192x1536 := by decide
  bcast_S_S8x257 := by decide

section
variable (C : FVec Ideal S8192x5120 .f32) (B : FVec Ideal S8x257 .f32)

/-- Under the precondition what the call reads is real. -/
theorem fine (h : (Cert.Pre_attfwd_finite.fn C B).1 = (fun _ => 1#1) ∧ (Cert.Pre_attfwd_finite.fn C B).2 = fun _ => 1#1) :
    Fine C B (fun _ => 0) where
  hC n l hl := by
    refine real_of_finite (Eq.trans ?_ (congrFun h.1 (ix2 n (⟨l.val - 3584, by omega⟩ : Fin 1536))))
    pointwise [Cert.Pre_attfwd_finite.fn]
    simp only [show 3584 + (l.val - 3584) = l.val by omega]
  hB c := by
    refine real_of_finite (Eq.trans ?_ (congrFun h.2 (ix2 (c 0) (c 1))))
    pointwise [Cert.Pre_attfwd_finite.fn]
  hD n l := ⟨0, rfl⟩
end

/-- The reference keeps its arguments and declares no semaphore. -/
theorem refFrame : Cert.quiescent_AttFwdRefIdeal := fun m g _ =>
  (θ_run Cert.AttFwdRefIdeal.defs _ _).mono (fun r h => ⟨fun c => (h c).2.2, sem_eq_zero_of_no_sems (by decide) r.2⟩)
    (Cert.AttFwdRefIdeal.Value.run (F := Ideal) m g)

open Cert.AttFwdIdeal Cert.AttFwdIdeal.Gen Cert.AttFwdIdeal.Hand in
/-- What the kernel's run ends with. -/
theorem run_value (m : (ℓ : Loc nD τ sig) → Buf (Elt Ideal) ℓ) (ρ : Dev nD → PrngReg) (H : ∀ c, Fine (C m c) (B m c) (fun _ => 0)) :
    θ_run (defs (F := Ideal)) (onTc (τ := τ) (main (F := Ideal))) ⟨m, fun _ => 0, ρ⟩ (fun r => ∀ c : Dev nD,
      r.2.mem ((c.tc : Thread nD τ).loc main_v50_0) = Cert.AttFwdRefIdeal.Read.val_main_v102 (F := Ideal) (C m c) (B m c)
      ∧ r.2.mem ((c.tc : Thread nD τ).loc main_v50_1) = Cert.AttFwdRefIdeal.Read.val_main_v172 (F := Ideal) (C m c) (B m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans ((final4 c (H c)).trans (Cert.AttFwdRefIdeal.Hand.out_eq _ _).symm),
      (h c).2.1.trans ((final5 c).trans (Cert.AttFwdRefIdeal.Hand.lse_eq _ _).symm), (h c).2.2⟩) (Value.run_blocks (F := Ideal) m ρ)

open Cert.AttFwdRefIdeal in
/-- What the reference's run ends with. -/
theorem ref_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v102) = Read.val_main_v102 (F := Ideal) (m ((c.tc : Thread nD τ).loc main_arg0)) (m ((c.tc : Thread nD τ).loc main_arg1))
      ∧ r.2.mem ((c.tc : Thread nD τ).loc main_v172) = Read.val_main_v172 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (Read.val_main_v102_eq _), (h c).2.1.trans (Read.val_main_v172_eq _), (h c).2.2⟩)
    (Value.run (F := Ideal) m ρ)

/-- Kernel and reference end with the same outputs and log-sums whenever what they read is finite. -/
theorem algebraic : Cert.algebraic_AttFwdIdeal_AttFwdRefIdeal_pre_attfwd_finite := by
  intro m g m' g' hpre hagree
  refine ⟨_, _, run_value m g fun c => fine _ _ (hpre c), (θ_run Cert.AttFwdRefIdeal.defs _ _).mono (fun r h c => ?_) (ref_value m' g')⟩
  obtain ⟨a0, a1⟩ := hagree c
  obtain ⟨h0, h1, h2⟩ := h c
  rw [a0, a1] at h0 h1
  exact ⟨h0, h1, h2⟩

end Cert.Proof.AttFwdVal

end
-- ==== Proof.BiasSums.lean ====
/- The relative bias's gradient: the diagonal sums one grid step forms, and what their products with the bins' masks add up to. -/
module

public import proofs.«01_k».proof.Proof.Basic
public import proofs.«01_k».proof.Proof.Gen.BiasIdeal.Skeleton
public import Idealize.ShloMosaic.Lib.Pipeline.ValueKit
public import Idealize.ShloMosaic.Lib.Pointwise
public import Idealize.ShloMosaic.Lib.WordCmp

@[expose] public section

set_option maxRecDepth 16384

noncomputable section

namespace Cert.BiasIdeal.Hand

open Cert.BiasIdeal Cert.BiasIdeal.Gen Idealize.ShloMosaic Idealize.ShloMosaic.TcCoe
open Cert.K

/-- The rows `k` of a 1024-column table that are `n` modulo `H`, each read along the diagonal through column `j` of row `n`, added up. -/
def diag (T : ℕ → ℕ → EReal) (H n j : ℕ) : EReal :=
  ∑ k : Fin 256, if k.val % H = n then T k.val ((j + (k.val - n)) % 1024) else 0

theorem diag_top (T : ℕ → ℕ → EReal) (n j : ℕ) (hn : n < 256) (hj : j < 1024) : diag T 256 n j = T n j := by
  unfold diag
  rw [Finset.sum_eq_single (⟨n, hn⟩ : Fin 256)]
  · rw [if_pos (Nat.mod_eq_of_lt hn)]
    congr 1
    show (j + (n - n)) % 1024 = j
    omega
  · intro k _ hk
    refine if_neg fun e => hk (Fin.ext ?_)
    rw [Nat.mod_eq_of_lt k.isLt] at e
    exact e
  · intro h
    exact absurd (Finset.mem_univ _) h

/-- Adding the lower half of the rows, moved along, to the upper half. -/
theorem diag_half (T : ℕ → ℕ → EReal) (H n j : ℕ) (hn : n < H) :
    diag T (2 * H) n j + diag T (2 * H) (n + H) ((j + H) % 1024) = diag T H n j := by
  unfold diag
  rw [← Finset.sum_add_distrib]
  refine Finset.sum_congr rfl fun k _ => ?_
  have e : k.val % H = k.val % (2 * H) ∨ k.val % H + H = k.val % (2 * H) := by
    have h1 : k.val % (H * 2) = k.val % H + H * (k.val / H % 2) := Nat.mod_mul
    rw [mul_comm] at h1
    rcases Nat.mod_two_eq_zero_or_one (k.val / H) with h | h <;> rw [h] at h1 <;> omega
  have hk := Nat.mod_lt k.val (by omega : 0 < H)
  have hle := Nat.mod_le k.val (2 * H)
  by_cases h1 : k.val % (2 * H) = n
  · rw [if_pos h1, if_neg (by omega), if_pos (by omega), add_zero]
  · by_cases h2 : k.val % (2 * H) = n + H
    · rw [if_neg h1, if_pos h2, if_pos (by omega), zero_add]
      congr 1
      omega
    · rw [if_neg h1, if_neg h2, if_neg (by omega), add_zero]

/-- The eight rows left, each moved along by its own number, add up to the whole diagonals. -/
theorem diag_all (T : ℕ → ℕ → EReal) (j : ℕ) :
    ∑ s : Fin 8, diag T 8 s.val ((j + s.val) % 1024) = ∑ k : Fin 256, T k.val ((j + k.val) % 1024) := by
  unfold diag
  rw [Finset.sum_comm]
  refine Finset.sum_congr rfl fun k _ => ?_
  rw [Finset.sum_eq_single (⟨k.val % 8, Nat.mod_lt _ (by decide)⟩ : Fin 8)]
  · rw [if_pos rfl]
    congr 1
    show ((j + k.val % 8) % 1024 + (k.val - k.val % 8)) % 1024 = _
    omega
  · intro s _ hs
    exact if_neg fun e => hs (Fin.ext e.symm)
  · intro h
    exact absurd (Finset.mem_univ _) h

section Tile
variable (x : Vec Ideal S1x1x256x768 .f32)

/-- One head's tile, its columns filled up to 1024 with zeros. -/
def tile (n j : ℕ) : EReal := if h : n < 256 ∧ j < 768 then x (ix4 0 0 ⟨n, h.1⟩ ⟨j, h.2⟩) else 0

/-- One halving of the rows. -/
theorem half_apply (m : ℕ) (w : BitVec 32) (hw : w.toNat + m = 1024) (hm : 0 < m) (a : FVec Ideal ⟨2, ![2 * m, 1024]⟩ .f32) (T : ℕ → ℕ → EReal)
    (ha : ∀ (p : Fin (2 * m)) (j : Fin 1024), a (ix2 p j) = diag T (2 * m) p.val j.val)
    (h0 : (⟨2, ![2 * m, 1024]⟩ : Shape).Slices ![0, 0] ⟨2, ![m, 1024]⟩) (h1 : (⟨2, ![2 * m, 1024]⟩ : Shape).Slices ![m, 0] ⟨2, ![m, 1024]⟩)
    (hr : (⟨2, ![m, 1024]⟩ : Shape).Rotates 1 none) (p : Fin m) (j : Fin 1024) :
    addf (extractStridedSlice ⟨2, ![m, 1024]⟩ ![0, 0] a h0) (dynamicRotate 1 w none (extractStridedSlice ⟨2, ![m, 1024]⟩ ![m, 0] a h1) hr) (ix2 p j)
      = diag T m p.val j.val := by
  refine Eq.trans ?_ (diag_half T m p.val j.val p.isLt)
  refine Ideal.add_congr ?_ ?_
  · refine (extractStridedSlice_apply _ a h0 (ix2 p j) (ix2 ⟨p.val, by omega⟩ j) (fun b => ?_)).trans (ha _ _)
    fin_cases b
    · exact (Nat.zero_add _).symm
    · exact (Nat.zero_add _).symm
  · rw [Pointwise.dynamicRotate_apply]
    refine (extractStridedSlice_apply _ a h1 _ (ix2 ⟨p.val + m, by omega⟩ ⟨(j.val + m) % 1024, Nat.mod_lt _ (by decide)⟩) (fun b => ?_)).trans (ha _ _)
    fin_cases b
    · exact Nat.add_comm _ _
    · show (j.val + m) % 1024 = 0 + (j.val + 1024 - (w.toNat + 0) % 1024) % 1024
      omega

/-- The tile padded with zero columns. -/
theorem padded_apply (n : Fin 256) (j : Fin 1024) :
    concatenate S256x1024 1 [⟨S256x768, shapeCast S256x768 x shapeCasts_S1x1x256x768_S256x768⟩,
      ⟨S256x256, (broadcast S256x256 (Scalar.ofBits (F := Ideal) .f32 0x00000000#32) : FVec Ideal S256x256 .f32)⟩] concatenates_S256x768_S256x256_S256x1024_d1 (ix2 n j)
      = diag (tile x) 256 n.val j.val := by
  rw [diag_top _ _ _ n.isLt j.isLt]
  pointwise
  unfold tile
  by_cases h : j.val < 768
  · rw [dif_pos h, dif_pos ⟨n.isLt, h⟩]
  · rw [dif_neg h, dif_neg (fun e => h e.2)]

/-- The eight rows the halvings leave. -/
theorem eight_apply (s : Fin 8) (j : Fin 1024) : k0_pay5 (F := Ideal) x (ix2 s j) = diag (tile x) 8 s.val j.val :=
  half_apply 8 1016#32 rfl (by decide) _ _ (half_apply 16 1008#32 rfl (by decide) _ _ (half_apply 32 992#32 rfl (by decide) _ _
    (half_apply 64 960#32 rfl (by decide) _ _ (half_apply 128 896#32 rfl (by decide) _ _ (padded_apply x) _ _ _) _ _ _) _ _ _) _ _ _) _ _ _ s j

/-- A row number's three bits. -/
theorem bits_of_row : ∀ s : Fin 8,
    IntOp.cmpi .eq (IntOp.andi (IntOp.shrsi .vector (BitVec.ofNat 32 s.val) 0#32) 1#32) 1#32 = BitVec.ofBool (decide (s.val % 2 = 1))
    ∧ IntOp.cmpi .eq (IntOp.andi (IntOp.shrsi .vector (BitVec.ofNat 32 s.val) 1#32) 1#32) 1#32 = BitVec.ofBool (decide (s.val / 2 % 2 = 1))
    ∧ IntOp.cmpi .eq (IntOp.andi (IntOp.shrsi .vector (BitVec.ofNat 32 s.val) 2#32) 1#32) 1#32 = BitVec.ofBool (decide (s.val / 4 = 1)) := by
  decide

/-- The row of a tile's diagonal sums the kernel stores. -/
def sums : FVec Ideal S1x1024 .f32 := k0_pay7 (k0_pay5 x) (iota .tc S8x1024 32 [0] iota_S8x1024_d0_w32) k0_pay6 1#32

theorem sums_apply (z : Fin 1) (j : Fin 1024) : sums x (ix2 z j) = ∑ k : Fin 256, tile x k.val ((j.val + k.val) % 1024) := by
  rw [← diag_all]
  unfold sums
  have e := eight_apply x
  generalize k0_pay5 (F := Ideal) x = a at e ⊢
  pointwise [k0_pay7, k0_pay6]
  refine Finset.sum_congr rfl fun s _ => ?_
  simp only [e, bits_of_row s, WordCmp.select_decide]
  rcases (by omega : s.val % 2 = 0 ∨ s.val % 2 = 1) with h0 | h0 <;> rcases (by omega : s.val / 2 % 2 = 0 ∨ s.val / 2 % 2 = 1) with h1 | h1 <;>
    rcases (by omega : s.val / 4 = 0 ∨ s.val / 4 = 1) with h2 | h2 <;> simp only [h0, h1, h2, Nat.zero_ne_one, ↓reduceIte] <;>
    exact congrArg (diag (tile x) 8 s.val) (by omega)

end Tile

/-- The bin of a distance, which comes shifted by 1024: cut to -128 … 128, counted from 0. -/
def bin (d : ℕ) : ℕ := min 1152 (max 896 d) - 896

/-- The distance, shifted by 1024, of the diagonal through column `j` of a tile's row 0. -/
def away (v j : ℕ) : ℕ := if j < 768 then v * 256 + 1024 - j else v * 256 + 2048 - j

/-- The kernel's word of a diagonal's bin. -/
theorem bin_word : ∀ (v : Fin 3) (j : Fin 1024),
    IntOp.addi (IntOp.minsi 128#32 (IntOp.maxsi 4294967168#32 (Scalar.select (IntOp.cmpi .slt (BitVec.ofNat 32 j.val) 768#32)
      (IntOp.subi (Scalar.muli (BitVec.ofNat 32 v.val) 256#32) (BitVec.ofNat 32 j.val))
      (IntOp.subi (Scalar.addi (Scalar.muli (BitVec.ofNat 32 v.val) 256#32) 1024#32) (BitVec.ofNat 32 j.val))))) 128#32
      = BitVec.ofNat 32 (bin (away v.val j.val)) := by
  decide +kernel

theorem eq_word (a r : ℕ) (ha : a < 384) (hr : r < 384) : IntOp.cmpi .eq (BitVec.ofNat 32 a) (BitVec.ofNat 32 r) = BitVec.ofBool (decide (a = r)) := by
  have e : BitVec.ofNat 32 a = BitVec.ofNat 32 r ↔ a = r := by
    constructor
    · intro h
      have := congrArg BitVec.toNat h
      simp only [BitVec.toNat_ofNat] at this
      omega
    · rintro rfl
      rfl
  by_cases h : a = r
  · subst h
    simp [IntOp.cmpi]
  · have : ¬ BitVec.ofNat 32 a = BitVec.ofNat 32 r := fun q => h (e.mp q)
    simp only [IntOp.cmpi, beq_eq_false_iff_ne.mpr this, h, decide_false]

/-- One step's product: a bin's entry is the sum of the diagonals in it. -/
theorem product_apply (v : Fin 3) (s : Vec Ideal S8x1024 .f32) (hs : ∀ (h : Fin 8) (j : Fin 1024), ∃ r : ℝ, s (ix2 h j) = r) (h : Fin 8) (r : Fin 384) :
    k0_pay1 (F := Ideal) (iota .tc S384x1024 32 [0] iota_S384x1024_d0_w32) (k0_pay22 (BitVec.ofNat 32 v.val)) 128#32 k0_pay23 s (ix2 h r)
      = ∑ j : Fin 1024, if bin (away v.val j.val) = r.val then s (ix2 h j) else 0 := by
  pointwise [k0_pay1, k0_pay22, k0_pay23]
  have hb (d : ℕ) : bin d < 384 := by unfold bin; omega
  have hz (x : Fin 1024) : s (ix2 h x) - s (ix2 h x) = 0 := by
    obtain ⟨q, hq⟩ := hs h x
    rw [hq, ← EReal.coe_sub, sub_self, EReal.coe_zero]
  have e0 (c : BitVec 1) : Scalar.select c (0 : EReal) 0 = 0 := by
    rcases BitVec.eq_zero_or_eq_one c with q | q <;> rw [q] <;> rfl
  simp only [bin_word, hz, sub_zero, e0, Finset.sum_const_zero, add_zero, eq_word _ _ (hb _) r.isLt, WordCmp.select_decide]

/-- A tile's rows read along the diagonals of a bin: all its entries at the bin's distances. -/
theorem along (v r : ℕ) (D : Fin 256 → Fin 768 → EReal) (T : ℕ → ℕ → EReal)
    (hT : ∀ (k : Fin 256) (j : ℕ), T k.val j = if h : j < 768 then D k ⟨j, h⟩ else 0) :
    (∑ j : Fin 1024, if bin (away v j.val) = r then ∑ k : Fin 256, T k.val ((j.val + k.val) % 1024) else 0)
      = ∑ k : Fin 256, ∑ q : Fin 768, if bin (v * 256 + 1024 + k.val - q.val) = r then D k q else 0 := by
  have e (j : Fin 1024) : (if bin (away v j.val) = r then ∑ k : Fin 256, T k.val ((j.val + k.val) % 1024) else 0)
      = ∑ k : Fin 256, if bin (away v j.val) = r then T k.val ((j.val + k.val) % 1024) else 0 := by
    split
    · rfl
    · rw [Finset.sum_const_zero]
  simp only [e]
  rw [Finset.sum_comm]
  refine Finset.sum_congr rfl fun k _ => ?_
  have hk := k.isLt
  rw [Finset.sum_nbij' (t := Finset.univ) (g := fun q : Fin (768 + 256) => if h : q.val < 768 then (if bin (v * 256 + 1024 + k.val - q.val) = r then D k ⟨q.val, h⟩ else 0) else 0)
    (fun j : Fin 1024 => (⟨(j.val + k.val) % 1024, Nat.mod_lt _ (by decide)⟩ : Fin 1024)) (fun q => (⟨(q.val + (1024 - k.val)) % 1024, Nat.mod_lt _ (by decide)⟩ : Fin 1024))
    (fun _ _ => Finset.mem_univ _) (fun _ _ => Finset.mem_univ _) (fun j _ => Fin.ext (by show ((j.val + k.val) % 1024 + (1024 - k.val)) % 1024 = j.val; omega))
    (fun j _ => Fin.ext (by show ((j.val + (1024 - k.val)) % 1024 + k.val) % 1024 = j.val; have := j.isLt; omega)) (fun j _ => ?_)]
  · rw [Fin.sum_univ_add]
    refine (Ideal.add_congr (Finset.sum_congr rfl fun q _ => ?_) (Finset.sum_eq_zero fun q _ => ?_)).trans (add_zero _)
    · rw [dif_pos (show (Fin.castAdd 256 q).val < 768 from q.isLt)]
      rfl
    · rw [dif_neg (by show ¬ 768 + q.val < 768; omega)]
  · show _ = if h : (j.val + k.val) % 1024 < 768 then _ else _
    rw [hT]
    by_cases h : (j.val + k.val) % 1024 < 768
    · rw [dif_pos h, dif_pos h]
      have : away v j.val = v * 256 + 1024 + k.val - (j.val + k.val) % 1024 := by
        have := j.isLt
        unfold away
        split <;> omega
      rw [this]
    · rw [dif_neg h, dif_neg h, ite_self]

end Cert.BiasIdeal.Hand

end
-- ==== Proof.BiasGrad.lean ====
/- The relative bias's gradient: the kernel's accumulated products and the reference's scatter are one sum. -/
module

public import proofs.«01_k».proof.Defs
public import proofs.«01_k».proof.Proof.BiasSums
public import proofs.«01_k».proof.Proof.Gen.BiasIdeal.Frame
public import proofs.«01_k».proof.Proof.Gen.BiasRefIdeal.Run
public import proofs.«01_k».proof.Proof.Gen.BiasRefIdeal.Read
public import Idealize.ShloMosaic.Lib.Routing.OpsPair
public import Idealize.ShloMosaic.Lib.StableHlo.RunRead
public import Idealize.ShloMosaic.Lib.Claim
public import Idealize.ShloMosaic.Adequacy
public import Idealize.ShloMosaic.Init

@[expose] public section

set_option maxRecDepth 16384

noncomputable section

namespace Cert.BiasIdeal.Hand

open Cert.BiasIdeal Cert.BiasIdeal.Gen Idealize.ShloMosaic Idealize.ShloMosaic.TcCoe Idealize.SL.Sem
open Idealize.ShloMosaic.Pipeline (Dat)
open Cert.K

variable (m : (ℓ : Loc nD τ sig) → Buf (Elt Ideal) ℓ) (ρ : Dev nD → PrngReg)

theorem idx : ∀ t : Fin cfg0.N, win0_0.index t = ![t.val, 0, 0, 0] ∧ win0_1.index t = ![0, 0] :=
  (by decide +kernel : ∀ t : Fin grid0.N, _)

theorem coords_val : ∀ t : Fin cfg0.N, (grid0.coords t 0).val = t.val :=
  (by decide +kernel : ∀ t : Fin grid0.N, _)

/-- A bin's sum of the entries of the three windows at its distances. -/
def binF (G : FVec Ideal S3x8x256x768 .f32) (h r : ℕ) (hh : h < 8) : EReal :=
  ∑ v : Fin 3, ∑ k : Fin 256, ∑ q : Fin 768, if bin (v.val * 256 + 1024 + k.val - q.val) = r then G (ix4 v ⟨h, hh⟩ k q) else 0

/-- One window's part. -/
def binT (G : FVec Ideal S3x8x256x768 .f32) (v : ℕ) (hv : v < 3) (y : S8x384.Idx) : EReal :=
  ∑ k : Fin 256, ∑ q : Fin 768, if bin (v * 256 + 1024 + k.val - q.val) = (y 1).val then G (ix4 ⟨v, hv⟩ ⟨(y 0).val, (y 0).isLt⟩ k q) else 0

/-- One head of a window's block. -/
def head (X : Vec Ideal S1x8x256x768 .f32) (h : ℕ) (hh : h < 8) : Vec Ideal S1x1x256x768 .f32 := fun y => X (ix4 0 ⟨h, hh⟩ (y 2) (y 3))

/-- The eight rows of sums, as the product reads them back. -/
def rows (X : Vec Ideal S1x8x256x768 .f32) : Vec Ideal S8x1024 .f32 :=
  (View.whole cc0_scratch0).readCov [
      ⟨Rect.unit ![7, 0] ![1, 1024] inb_S8x1024_S1x1024_7_0, k0_pay21 (k0_pay19 (View.ld X (Rect.unit ![0, 7, 0, 0] ![1, 1, 256, 768] inb_S1x8x256x768_S1x1x256x768_0_7_0_0))) (iota .tc S8x1024 32 [0] iota_S8x1024_d0_w32) k0_pay20 1#32⟩,
      ⟨Rect.unit ![6, 0] ![1, 1024] inb_S8x1024_S1x1024_6_0, k0_pay18 (iota .tc S8x1024 32 [0] iota_S8x1024_d0_w32) (k0_pay17 (View.ld X (Rect.unit ![0, 6, 0, 0] ![1, 1, 256, 768] inb_S1x8x256x768_S1x1x256x768_0_6_0_0)))⟩,
      ⟨Rect.unit ![5, 0] ![1, 1024] inb_S8x1024_S1x1024_5_0, k0_pay16 (k0_pay15 (View.ld X (Rect.unit ![0, 5, 0, 0] ![1, 1, 256, 768] inb_S1x8x256x768_S1x1x256x768_0_5_0_0)))⟩,
      ⟨Rect.unit ![4, 0] ![1, 1024] inb_S8x1024_S1x1024_4_0, k0_pay14 (k0_pay12 (View.ld X (Rect.unit ![0, 4, 0, 0] ![1, 1, 256, 768] inb_S1x8x256x768_S1x1x256x768_0_4_0_0))) (iota .tc S8x1024 32 [0] iota_S8x1024_d0_w32) k0_pay13 1#32⟩,
      ⟨Rect.unit ![3, 0] ![1, 1024] inb_S8x1024_S1x1024_3_0, k0_pay11 (iota .tc S8x1024 32 [0] iota_S8x1024_d0_w32) (k0_pay10 (View.ld X (Rect.unit ![0, 3, 0, 0] ![1, 1, 256, 768] inb_S1x8x256x768_S1x1x256x768_0_3_0_0)))⟩,
      ⟨Rect.unit ![2, 0] ![1, 1024] inb_S8x1024_S1x1024_2_0, k0_pay9 (k0_pay8 (View.ld X (Rect.unit ![0, 2, 0, 0] ![1, 1, 256, 768] inb_S1x8x256x768_S1x1x256x768_0_2_0_0)))⟩,
      ⟨Rect.unit ![1, 0] ![1, 1024] inb_S8x1024_S1x1024_1_0, k0_pay7 (k0_pay5 (View.ld X (Rect.unit ![0, 1, 0, 0] ![1, 1, 256, 768] inb_S1x8x256x768_S1x1x256x768_0_1_0_0))) (iota .tc S8x1024 32 [0] iota_S8x1024_d0_w32) k0_pay6 1#32⟩,
      ⟨Rect.unit ![0, 0] ![1, 1024] inb_S8x1024_S1x1024_0_0, k0_pay4 (iota .tc S8x1024 32 [0] iota_S8x1024_d0_w32) (k0_pay3 (View.ld X (Rect.unit ![0, 0, 0, 0] ![1, 1, 256, 768] inb_S1x8x256x768_S1x1x256x768_0_0_0_0)))⟩]
    (Rect.unit ![0, 0] ![8, 1024] inb_S8x1024_S8x1024_0_0).toLoadRect

theorem sums_head (X : Vec Ideal S1x8x256x768 .f32) (h : Fin 8) (n : ℕ) (inb : ∀ a, (![0, n, 0, 0] : Fin 4 → ℕ) a + (![1, 1, 256, 768] : Fin 4 → ℕ) a ≤ S1x8x256x768.size a)
    (j : Fin 1024) (x : S1x1024.Idx) (hx : (x 1).val = j.val) (hn : h.val = n) :
    sums (View.ld X (Rect.unit ![0, n, 0, 0] ![1, 1, 256, 768] inb)) x = sums (head X h.val h.isLt) (ix2 0 j) := by
  have hY : View.ld X (Rect.unit ![0, n, 0, 0] ![1, 1, 256, 768] inb) = head X h.val h.isLt := by
    funext y
    have y0 : (y 0).val < 1 := (y 0).isLt
    have y1 : (y 1).val < 1 := (y 1).isLt
    refine View.ld_unit_apply_of X _ _ _ y _ fun a => ?_
    match a with
    | ⟨0, _⟩ => show 0 = 0 + (y 0).val; omega
    | ⟨1, _⟩ => show h.val = n + (y 1).val; omega
    | ⟨2, _⟩ => exact (Nat.zero_add _).symm
    | ⟨3, _⟩ => exact (Nat.zero_add _).symm
  rw [hY]
  refine congrArg (sums _) ((eq_ix2 x).trans ?_)
  exact congrArg₂ ix2 (Fin.ext (by have : (x 0).val < 1 := (x 0).isLt; show (x 0).val = 0; omega)) (Fin.ext hx)

/-- Each head is summed by the same operations. -/
theorem heads (Y : Vec Ideal S1x1x256x768 .f32) :
    k0_pay4 (iota .tc S8x1024 32 [0] iota_S8x1024_d0_w32) (k0_pay3 Y) = sums Y
    ∧ k0_pay7 (k0_pay5 Y) (iota .tc S8x1024 32 [0] iota_S8x1024_d0_w32) k0_pay6 1#32 = sums Y
    ∧ k0_pay9 (k0_pay8 Y) = sums Y
    ∧ k0_pay11 (iota .tc S8x1024 32 [0] iota_S8x1024_d0_w32) (k0_pay10 Y) = sums Y
    ∧ k0_pay14 (k0_pay12 Y) (iota .tc S8x1024 32 [0] iota_S8x1024_d0_w32) k0_pay13 1#32 = sums Y
    ∧ k0_pay16 (k0_pay15 Y) = sums Y
    ∧ k0_pay18 (iota .tc S8x1024 32 [0] iota_S8x1024_d0_w32) (k0_pay17 Y) = sums Y
    ∧ k0_pay21 (k0_pay19 Y) (iota .tc S8x1024 32 [0] iota_S8x1024_d0_w32) k0_pay20 1#32 = sums Y :=
  ⟨rfl, rfl, rfl, rfl, rfl, rfl, rfl, rfl⟩

theorem rows_apply (X : Vec Ideal S1x8x256x768 .f32) (h : Fin 8) (j : Fin 1024) :
    rows X (ix2 h j) = ∑ k : Fin 256, tile (head X h.val h.isLt) k.val ((j.val + k.val) % 1024) := by
  refine Eq.trans ?_ (sums_apply (head X h.val h.isLt) 0 j)
  unfold rows
  rw [View.readCov_eq_canon']
  show View.canon _ _ = _
  canon_tiles x e
  all_goals
    change 0 + 1 * h.val = _ at e0
    change 0 + 1 * j.val = _ at e1
    first
      | rw [(heads _).1] | rw [(heads _).2.1] | rw [(heads _).2.2.1] | rw [(heads _).2.2.2.1] | rw [(heads _).2.2.2.2.1]
      | rw [(heads _).2.2.2.2.2.1] | rw [(heads _).2.2.2.2.2.2.1] | rw [(heads _).2.2.2.2.2.2.2]
    exact sums_head X h _ _ j x (by omega) (by omega)

/-- What the body adds to a bin in one step. -/
theorem step_ix (c : Dev nD) (G : FVec Ideal S3x8x256x768 .f32) (e : m ((c : Thread nD τ).loc main_arg0) = G) (hG : ∀ i, ∃ r : ℝ, G i = (r : EReal)) (t : Fin cfg0.N) (h : Fin 8) (r : Fin 384) :
    k0_pay1 (F := Ideal) (iota .tc S384x1024 32 [0] iota_S384x1024_d0_w32) (k0_pay22 (BitVec.ofNat 32 (grid0.coords t 0).val)) 128#32 k0_pay23 (rows (iblk m c 0 t)) (ix2 h r)
      = ∑ k : Fin 256, ∑ q : Fin 768, if bin (t.val * 256 + 1024 + k.val - q.val) = r.val then G (ix4 ⟨t.val, lt_of_lt_of_eq t.isLt N_0⟩ h k q) else 0 := by
  have ht : t.val < 3 := lt_of_lt_of_eq t.isLt N_0
  have hT (h : Fin 8) (k : Fin 256) (j : ℕ) : tile (head (iblk m c 0 t) h.val h.isLt) k.val j
      = if hj : j < 768 then G (ix4 ⟨t.val, ht⟩ h k ⟨j, hj⟩) else 0 := by
    unfold tile
    by_cases hj : j < 768
    · rw [dif_pos ⟨k.isLt, hj⟩, dif_pos hj]
      rw [← e]
      show iblk m c 0 t (ix4 0 h k ⟨j, hj⟩) = _
      blk_ext [iblk, V, idx t]
    · rw [dif_neg (fun q => hj q.2), dif_neg hj]
  rw [coords_val t]
  refine (product_apply ⟨t.val, ht⟩ _ (fun h j => ?_) h r).trans ?_
  · have (k : Fin 256) : ∃ r : ℝ, tile (head (iblk m c 0 t) h.val h.isLt) k.val ((j.val + k.val) % 1024) = r := by
      rw [hT]
      split
      · exact hG _
      · exact ⟨0, rfl⟩
    choose f hf using this
    exact ⟨∑ k, f k, by rw [rows_apply, coe_sum]; exact Finset.sum_congr rfl fun k _ => hf k⟩
  · simp only [rows_apply]
    exact along t.val r.val (fun k q => G (ix4 ⟨t.val, ht⟩ h k q)) _ (hT h)

theorem step (c : Dev nD) (G : FVec Ideal S3x8x256x768 .f32) (e : m ((c : Thread nD τ).loc main_arg0) = G) (hG : ∀ i, ∃ r : ℝ, G i = (r : EReal)) (t : Fin cfg0.N) (y : S8x384.Idx) :
    k0_pay1 (F := Ideal) (iota .tc S384x1024 32 [0] iota_S384x1024_d0_w32) (k0_pay22 (BitVec.ofNat 32 (grid0.coords t 0).val)) 128#32 k0_pay23 (rows (iblk m c 0 t)) y
      = binT G t.val (lt_of_lt_of_eq t.isLt N_0) y :=
  (congrArg _ (eq_ix2 y)).trans (step_ix m c G e hG t (y 0) (y 1))

section Acc

variable (c : Dev nD) (G : FVec Ideal S3x8x256x768 .f32) (e : m ((c : Thread nD τ).loc main_arg0) = G) (hG : ∀ i, ∃ r : ℝ, G i = (r : EReal))
include e hG

theorem outs_A (t : Fin cfg0.N) (h : t.val % 3 = 0) (y : S8x384.Idx) :
    outsAt0 m c t.val t.isLt y = 0 + binT G t.val (lt_of_lt_of_eq t.isLt N_0) y := by
  have ht : t.val < 3 := lt_of_lt_of_eq t.isLt N_0
  rw [outsAt0_A m c t h (by omega)]
  frame_out
  rw [zero_add]
  exact step m c G e hG t y

theorem outs_B (t : Fin cfg0.N) (h : ¬ t.val % 3 = 0) (y : S8x384.Idx) :
    outsAt0 m c t.val t.isLt y = outsAt0 m c (t.val - 1) (Nat.lt_of_le_of_lt (Nat.sub_le _ _) t.isLt) y
      + binT G t.val (lt_of_lt_of_eq t.isLt N_0) y := by
  have ht : t.val < 3 := lt_of_lt_of_eq t.isLt N_0
  rw [outsAt0_B m c t h (by omega)]
  frame_out
  exact Ideal.add_congr (congrFun (shapeCast_self _ _) y) (step m c G e hG t y)

theorem final (y : S8x384.Idx) : (dats m 0 c).arrAt 1 cfg0.N y = binF G (y 0).val (y 1).val (y 0).isLt := by
  refine congrFun (?_ : _ = fun y : S8x384.Idx => binF G (y 0).val (y 1).val (y 0).isLt) y
  refine (dats m 0 c).arrAt_eq_of_covers 1 _ (by decide +kernel) fun t hf y => ?_
  blk_simp
  rw [after0_1, Pipeline.eq_sum_fin_of_reset_step_apply_of_flush (fun n h => outsAt0 m c n h) 3 (fun _ => 0)
    (fun t j => binT G t.val (lt_of_lt_of_eq t.isLt N_0) j) (outs_A m c G e hG) (outs_B m c G e hG)
    t ((flush0_1 t).mp hf) _, zero_add]
  have ht : t.val < 3 := lt_of_lt_of_eq t.isLt N_0
  have hf := (flush0_1 t).mp hf
  have h0 : t.val / 3 = 0 := by omega
  have i0 : win0_1.index t 0 = 0 := congrFun (idx t).2 0
  have i1 : win0_1.index t 1 = 0 := congrFun (idx t).2 1
  simp only [h0, i0, i1, Nat.mul_zero, Nat.zero_mul, Nat.zero_add]
  rfl

end Acc

end Cert.BiasIdeal.Hand

namespace Cert.BiasRefIdeal.Hand

open Cert.BiasRefIdeal Cert.BiasRefIdeal.Gen Cert.BiasRefIdeal.Read Idealize.ShloMosaic Idealize.ShloMosaic.TcCoe Idealize.SL.Sem
open Idealize.ShloMosaic.Routing
open Cert.K Cert.BiasIdeal.Hand

/-- The reference's word of a distance, which comes shifted by 1024: its bin. -/
theorem cut_word : ∀ d : Fin 1792,
    (Scalar.select (IntOp.cmpi .slt (IntOp.addi (IntOp.minsi 128#32 (IntOp.maxsi 4294967168#32 (IntOp.subi (BitVec.ofNat 32 d.val) 1024#32))) 128#32) 0#32)
      (IntOp.addi (IntOp.addi (IntOp.minsi 128#32 (IntOp.maxsi 4294967168#32 (IntOp.subi (BitVec.ofNat 32 d.val) 1024#32))) 128#32) 257#32)
      (IntOp.addi (IntOp.minsi 128#32 (IntOp.maxsi 4294967168#32 (IntOp.subi (BitVec.ofNat 32 d.val) 1024#32))) 128#32)).toInt = (bin d.val : Int) := by
  decide +kernel

theorem shift_word (v k q : ℕ) (hv : v < 3) (hk : k < 256) (hq : q < 768) :
    IntOp.subi (IntOp.addi (IntOp.muli (BitVec.ofNat 32 v) 256#32) (BitVec.ofNat 32 k)) (BitVec.ofNat 32 q)
      = IntOp.subi (BitVec.ofNat 32 (v * 256 + 1024 + k - q)) 1024#32 := by
  unfold IntOp.subi IntOp.addi IntOp.muli
  apply BitVec.eq_of_toNat_eq
  simp only [BitVec.toNat_sub, BitVec.toNat_add, BitVec.toNat_mul, BitVec.toNat_ofNat]
  omega

/-- The table's entry: the bin. -/
theorem table_apply (v : Fin 3) (k : Fin 256) (q : Fin 768) (z : Fin 1) :
    (val_main_v23 (F := Ideal) (ix4 v k q z)).toInt = (bin (v.val * 256 + 1024 + k.val - q.val) : Int) := by
  have hv := v.isLt
  refine Eq.trans (congrArg BitVec.toInt ?_) (cut_word ⟨v.val * 256 + 1024 + k.val - q.val, by omega⟩)
  rw [← shift_word v.val k.val q.val v.isLt k.isLt q.isLt]
  rfl

/-- Where an entry of the tiles lands. -/
theorem lands (idx : IVec S3x256x768x1 32) (a : Fin 8) (v : Fin 3) (k : Fin 256) (q : Fin 768) (h : Fin 8) (r : Fin 257) :
    scatter_S8x257_S3x256x768x1_S8x3x256x768_0_1_1_3.resultIdx? (ix4 a v k q) idx = some (ix2 h r) ↔ a = h ∧ (idx (ix4 v k q 0)).toInt = r.val := by
  have w0 : scatter_S8x257_S3x256x768x1_S8x3x256x768_0_1_1_3.window (ix4 a v k q) 0 = a.val := rfl
  have w1 : scatter_S8x257_S3x256x768x1_S8x3x256x768_0_1_1_3.window (ix4 a v k q) 1 = 0 := rfl
  have s0 : scatter_S8x257_S3x256x768x1_S8x3x256x768_0_1_1_3.start (ix4 a v k q) idx 0 = 0 := rfl
  have s1 : scatter_S8x257_S3x256x768x1_S8x3x256x768_0_1_1_3.start (ix4 a v k q) idx 1 = (idx (ix4 v k q 0)).toInt := by
    unfold ScatterDims.start
    rw [dif_pos (by decide)]
    refine congrArg (fun i => (idx i).toInt) (funext fun b => ?_)
    match b with
    | ⟨0, _⟩ => rfl
    | ⟨1, _⟩ => rfl
    | ⟨2, _⟩ => rfl
    | ⟨3, _⟩ => rfl
  refine (resultIdx?_ix2 _ _ idx h r).trans ?_
  rw [w0, w1, s0, s1, Fin.ext_iff]
  omega

theorem result_apply (G : FVec Ideal S3x8x256x768 .f32) (h : Fin 8) (r : Fin 257) : val_main_v27 (F := Ideal) G (ix2 h r) = binF G h.val r.val h.isLt := by
  have e : val_main_v27 (F := Ideal) G (ix2 h r) = val_main_v26 (F := Ideal) (ix2 h r)
      + ∑ j ∈ Finset.univ.filter (fun j => scatter_S8x257_S3x256x768x1_S8x3x256x768_0_1_1_3.resultIdx? j (val_main_v23 (F := Ideal)) = some (ix2 h r)), val_main_v25 (F := Ideal) G j := rfl
  have z : val_main_v26 (F := Ideal) (ix2 h r) = 0 := by
    rw [val_main_v26_apply]
    exact Ideal.ofBits_zero .f32
  rw [e, z, zero_add, Finset.sum_filter, sum_idx4]
  simp only [lands, table_apply]
  rw [Finset.sum_eq_single h (fun a _ ha => Finset.sum_eq_zero fun v _ => Finset.sum_eq_zero fun k _ => Finset.sum_eq_zero fun q _ => if_neg fun x => ha x.1)
    (fun x => (x (Finset.mem_univ _)).elim)]
  unfold binF
  refine Finset.sum_congr rfl fun v _ => Finset.sum_congr rfl fun k _ => Finset.sum_congr rfl fun q _ => ?_
  simp only [true_and, Nat.cast_inj]
  rw [val_main_v25_apply]
  have i : idx_main_v25 (ix4 h v k q) = ix4 v h k q := funext fun b => match b with
    | ⟨0, _⟩ => rfl
    | ⟨1, _⟩ => rfl
    | ⟨2, _⟩ => rfl
    | ⟨3, _⟩ => rfl
  rw [i]

/-- What the reference's run ends with. -/
theorem ref_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v27) = Read.val_main_v27 (F := Ideal) (m ((c.tc : Thread nD τ).loc main_arg0))
      ∧ r.2.mem ((c.tc : Thread nD τ).loc main_arg0) = m ((c.tc : Thread nD τ).loc main_arg0)) :=
  (θ_run defs _ _).mono (fun r h c => ⟨(h c).1.trans (Read.val_main_v27_eq _), (h c).2⟩) (Value.run (F := Ideal) m ρ)

end Cert.BiasRefIdeal.Hand

namespace Cert.Proof.BiasGrad

open Cert.BiasIdeal Cert.BiasIdeal.Gen Cert.BiasIdeal.Hand Idealize.ShloMosaic Idealize.ShloMosaic.TcCoe Idealize.SL.Sem
open Cert.K

instance preFacts : Cert.Pre_bias_finite.Facts where
  bcast_S_S3x8x256x768 := by decide

theorem fine (G : FVec Ideal S3x8x256x768 .f32) (h : Cert.Pre_bias_finite.fn (F := Ideal) G = fun _ => 1#1) (i : S3x8x256x768.Idx) : ∃ r : ℝ, G i = (r : EReal) := by
  rw [eq_ix4 i]
  refine real_of_finite (Eq.trans ?_ (congrFun h (ix4 (i 0) (i 1) (i 2) (i 3))))
  pointwise [Cert.Pre_bias_finite.fn]

theorem refFrame : Cert.quiescent_BiasRefIdeal := fun m g _ =>
  (θ_run Cert.BiasRefIdeal.defs _ _).mono (fun r h => ⟨fun c => (h c).2, sem_eq_zero_of_no_sems (by decide) r.2⟩) (Cert.BiasRefIdeal.Value.run (F := Ideal) m g)

theorem cut (c : Dev nD) (m : (ℓ : Loc nD τ sig) → Buf (Elt Ideal) ℓ) (G : FVec Ideal S3x8x256x768 .f32) (e : m ((c : Thread nD τ).loc main_arg0) = G) (hG : ∀ i, ∃ r : ℝ, G i = (r : EReal)) :
    Pipeline.afterTail₀ cfgs (dats m) 0 (V0 m) [hostOps1] c main_v1 = Cert.BiasRefIdeal.Read.val_main_v27 (F := Ideal) G := by
  unfold Pipeline.afterTail₀
  after_reads_simp
  have out : Pipeline.withArrays (cfgs 0).spec c (V0 m c) (fun w => (dats m 0 c).arrAt w (cfgs 0).N) (Proc.tc.devRef main_v0) = (dats m 0 c).arrAt 1 cfg0.N :=
    Pipeline.withArrays_arr (cfgs 0).spec (by decide) c _ _ 1
  rw [out]
  funext y
  have h0 : (y 0).val < 8 := (y 0).isLt
  have h1 : (y 1).val < 257 := (y 1).isLt
  refine (extractStridedSlice_apply _ _ _ y (ix2 ⟨(y 0).val, h0⟩ ⟨(y 1).val, by omega⟩) (fun a => ?_)).trans ?_
  · match a with
    | ⟨0, _⟩ => exact (Nat.zero_add _).symm
    | ⟨1, _⟩ => exact (Nat.zero_add _).symm
  · refine (final m c G e hG _).trans (Eq.trans ?_ ((congrArg _ (eq_ix2 y)).trans (Cert.BiasRefIdeal.Hand.result_apply G (y 0) (y 1))).symm)
    rfl

/-- What the kernel's run ends with. -/
theorem run_value (m : (ℓ : Loc nD τ sig) → Buf (Elt Ideal) ℓ) (ρ : Dev nD → PrngReg)
    (hG : ∀ (c : Dev nD) (i : S3x8x256x768.Idx), ∃ r : ℝ, (m ((c : Thread nD τ).loc main_arg0) : FVec Ideal S3x8x256x768 .f32) i = (r : EReal)) :
    θ_run (defs (F := Ideal)) (onTc (τ := τ) (main (F := Ideal))) ⟨m, fun _ => 0, ρ⟩ (fun r => ∀ c : Dev nD,
      r.2.mem ((c.tc : Thread nD τ).loc main_v1) = Cert.BiasRefIdeal.Read.val_main_v27 (F := Ideal) (m ((c : Thread nD τ).loc main_arg0))
      ∧ r.2.mem ((c.tc : Thread nD τ).loc main_arg0) = m ((c.tc : Thread nD τ).loc main_arg0)) :=
  (θ_run defs _ _).mono (fun r h c => ⟨((h.1 c).2 main_v1 (Pipeline.mem_restRefs_of main_v1 (by decide) (by decide))).trans (cut c m _ rfl (hG c)), h.2 c⟩)
    (θ_run_and (run_main m ρ) (unchanged m ρ))

/-- Kernel and reference end with the same gradient whenever the tiles are finite. -/
theorem algebraic : Cert.algebraic_BiasIdeal_BiasRefIdeal_pre_bias_finite := by
  intro m g m' g' hpre hagree
  refine ⟨_, run_value m g fun c => fine _ (hpre c), (θ_run Cert.BiasRefIdeal.defs _ _).mono (fun r h c => ?_) (Cert.BiasRefIdeal.Hand.ref_value m' g')⟩
  obtain ⟨h0, h1⟩ := h c
  rw [hagree c] at h0
  exact ⟨h0, h1⟩

end Cert.Proof.BiasGrad

end
-- ==== Proof.FfnFrame.lean ====
module

public import proofs.«01_k».proof.Proof.Gen.Ffn.Frame
public import proofs.«01_k».proof.Proof.Gen.Ffn.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import proofs.«01_k».proof.Proof.Gen.Ffn.Points

@[expose] public section

set_option maxRecDepth 16384

noncomputable section

namespace Cert.Ffn.Hand

open Cert.Ffn Cert.Ffn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three ways the body's branches can go. -/
theorem branches (i : grid0.Coords) :
    (k0_cond1 i = 1#1 ∧ (Scalar.cmpi .ne (Scalar.extui (Scalar.cmpi .eq (BitVec.ofNat 32 (i 1).val) 0#32)) 0#32) = 1#1 ∧ ¬ (Scalar.cmpi .ne (Scalar.extui (Scalar.andi (Scalar.cmpi .sgt (BitVec.ofNat 32 (i 1).val) 0#32) (Scalar.cmpi .slt (BitVec.ofNat 32 (i 1).val) 1#32))) 0#32) = 1#1 ∧ ¬ k0_cond4 i = 1#1)
    ∨ (¬ k0_cond1 i = 1#1 ∧ ¬ (Scalar.cmpi .ne (Scalar.extui (Scalar.cmpi .eq (BitVec.ofNat 32 (i 1).val) 0#32)) 0#32) = 1#1 ∧ ¬ (Scalar.cmpi .ne (Scalar.extui (Scalar.andi (Scalar.cmpi .sgt (BitVec.ofNat 32 (i 1).val) 0#32) (Scalar.cmpi .slt (BitVec.ofNat 32 (i 1).val) 1#32))) 0#32) = 1#1 ∧ k0_cond4 i = 1#1 ∧ k0_cond5 i = 1#1 ∧ ¬ k0_cond6 i = 1#1)
    ∨ (¬ k0_cond1 i = 1#1 ∧ ¬ (Scalar.cmpi .ne (Scalar.extui (Scalar.cmpi .eq (BitVec.ofNat 32 (i 1).val) 0#32)) 0#32) = 1#1 ∧ ¬ (Scalar.cmpi .ne (Scalar.extui (Scalar.andi (Scalar.cmpi .sgt (BitVec.ofNat 32 (i 1).val) 0#32) (Scalar.cmpi .slt (BitVec.ofNat 32 (i 1).val) 1#32))) 0#32) = 1#1 ∧ k0_cond4 i = 1#1 ∧ ¬ k0_cond5 i = 1#1 ∧ k0_cond6 i = 1#1) := by
  unfold k0_cond1 k0_cond4 k0_cond5 k0_cond6
  generalize i 0 = n, i 1 = k
  revert n k
  decide +kernel

set_option maxHeartbeats 2000000 in
/-- One run of the body: what it reads stays, what it writes ends at some contents. -/
theorem run_body (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1408 .bf16) (harg5 : arg5.IsWhole) (arg6 : Memref sig .tc .vmem S512x1408 .bf16) (harg6 : arg6.IsWhole) (arg7 : Memref sig .tc .vmem S1408x1024 .bf16) (harg7 : arg7.IsWhole) (arg8 : Memref sig .tc .vmem S1408x1024 .bf16) (harg8 : arg8.IsWhole) (arg9 : Memref sig .tc .vmem S1408x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1408 .bf16) (harg12 : arg12.IsWhole) (arg13 : Memref sig .tc .vmem S512x1408 .bf16) (harg13 : arg13.IsWhole) (arg14 : Memref sig .tc .vmem S1x1024 .f32) (harg14 : arg14.IsWhole) (arg15 : Memref sig .tc .vmem S512x1024 .bf16) (harg15 : arg15.IsWhole) (arg16 : Memref sig .tc .vmem S512x1024 .f32) (harg16 : arg16.IsWhole)
    (x2 : Vec F S512x1024 .f32) (x3 : Vec F S512x1024 .f32) (x4 : Vec F S1x1024 .f32) (x5 : Vec F S512x1408 .bf16) (x6 : Vec F S512x1408 .bf16) (x7 : Vec F S1408x1024 .bf16) (x8 : Vec F S1408x1024 .bf16) (x9 : Vec F S1408x1024 .bf16) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
    ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ffn_bwd_eq_skeleton]; unfold cc0_ffn_bwd_skel
  simp only [k0_part1_eq_skeleton, k0_part2_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%x10, %f10, %hf10, H10⟩, ⟨%x11, %f11, %hf11, H11⟩, ⟨%x12, %f12, %hf12, H12⟩, ⟨%x13, %f13, %hf13, H13⟩, ⟨%x14, %f14, %hf14, H14⟩, ⟨%x15, %f15, %hf15, H15⟩, ⟨%x16, %f16, %hf16, H16⟩, Hk⟩
  rcases branches i with ⟨hc1, hc2, hc3, hc4⟩ | ⟨hc1, hc2, hc3, hc4, hc5, hc6⟩ | ⟨hc1, hc2, hc3, hc4, hc5, hc6⟩
  all_goals
    sl_exec (disch := first | sl_exact hc1 | sl_exact hc2 | sl_exact hc3 | sl_exact hc4 | sl_exact hc5 | sl_exact hc6)
    sl_step
    iapply Hk
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    isplitl [H10]
    · iexists _; iexists _; isplitr; swap; iexact H10
      ipureintro; rfl
    isplitl [H11]
    · iexists _; iexists _; isplitr; swap; iexact H11
      ipureintro; rfl
    isplitl [H12]
    · iexists _; iexists _; isplitr; swap; iexact H12
      ipureintro; rfl
    isplitl [H13]
    · iexists _; iexists _; isplitr; swap; iexact H13
      ipureintro; rfl
    isplitl [H14]
    · iexists _; iexists _; isplitr; swap; iexact H14
      ipureintro; rfl
    isplitl [H15]
    · iexists _; iexists _; isplitr; swap; iexact H15
      ipureintro; rfl
    iexists _; iexists _; isplitr; swap; iexact H16
    ipureintro; rfl

/-- The staging buffer of window 0 at a point. -/
abbrev ms0 (t : Fin cfg0.N) : Memref sig .tc .vmem S512x1024 .f32 := win0_0.stage (cfg0.slots t 0)
/-- The staging buffer of window 1 at a point. -/
abbrev ms1 (t : Fin cfg0.N) : Memref sig .tc .vmem S512x1024 .f32 := win0_1.stage (cfg0.slots t 1)
/-- The staging buffer of window 2 at a point. -/
abbrev ms2 (t : Fin cfg0.N) : Memref sig .tc .vmem S1x1024 .f32 := win0_2.stage (cfg0.slots t 2)
/-- The staging buffer of window 3 at a point. -/
abbrev ms3 (t : Fin cfg0.N) : Memref sig .tc .vmem S512x1408 .bf16 := win0_3.stage (cfg0.slots t 3)
/-- The staging buffer of window 4 at a point. -/
abbrev ms4 (t : Fin cfg0.N) : Memref sig .tc .vmem S512x1408 .bf16 := win0_4.stage (cfg0.slots t 4)
/-- The staging buffer of window 5 at a point. -/
abbrev ms5 (t : Fin cfg0.N) : Memref sig .tc .vmem S1408x1024 .bf16 := win0_5.stage (cfg0.slots t 5)
/-- The staging buffer of window 6 at a point. -/
abbrev ms6 (t : Fin cfg0.N) : Memref sig .tc .vmem S1408x1024 .bf16 := win0_6.stage (cfg0.slots t 6)
/-- The staging buffer of window 7 at a point. -/
abbrev ms7 (t : Fin cfg0.N) : Memref sig .tc .vmem S1408x1024 .bf16 := win0_7.stage (cfg0.slots t 7)
/-- The staging buffer of window 8 at a point. -/
abbrev ms8 (t : Fin cfg0.N) : Memref sig .tc .vmem S512x1024 .f32 := win0_8.stage (cfg0.slots t 8)
/-- The staging buffer of window 9 at a point. -/
abbrev ms9 (t : Fin cfg0.N) : Memref sig .tc .vmem S512x1024 .bf16 := win0_9.stage (cfg0.slots t 9)
/-- The staging buffer of window 10 at a point. -/
abbrev ms10 (t : Fin cfg0.N) : Memref sig .tc .vmem S512x1408 .bf16 := win0_10.stage (cfg0.slots t 10)
/-- The staging buffer of window 11 at a point. -/
abbrev ms11 (t : Fin cfg0.N) : Memref sig .tc .vmem S512x1408 .bf16 := win0_11.stage (cfg0.slots t 11)
/-- The staging buffer of window 12 at a point. -/
abbrev ms12 (t : Fin cfg0.N) : Memref sig .tc .vmem S1x1024 .f32 := win0_12.stage (cfg0.slots t 12)

variable (m : (ℓ : Loc nD τ sig) → Buf (Elt F) ℓ) (ρ : Dev nD → PrngReg)

/-- Nothing is said of the five results' contents. -/
def forgets0 : Fin 13 → Bool := fun w => decide (8 ≤ w.val)

/-- What is known around the body at every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem leaves0 (c : Dev nD) (t : Fin cfg0.N) : ((dats m 0 c).leavesExact 0 t : sProp 𝕄) = owns (c : Thread nD τ) (ms0 t) fullShare (iblk m c 0 t) := by
  unfold Dat.leavesExact; rw [show cfg0.idle 0 (grid0.coords t) = false from rfl, after0]
theorem leaves1 (c : Dev nD) (t : Fin cfg0.N) : ((dats m 0 c).leavesExact 1 t : sProp 𝕄) = owns (c : Thread nD τ) (ms1 t) fullShare (iblk m c 1 t) := by
  unfold Dat.leavesExact; rw [show cfg0.idle 1 (grid0.coords t) = false from rfl, after1]
theorem leaves2 (c : Dev nD) (t : Fin cfg0.N) : ((dats m 0 c).leavesExact 2 t : sProp 𝕄) = owns (c : Thread nD τ) (ms2 t) fullShare (iblk m c 2 t) := by
  unfold Dat.leavesExact; rw [show cfg0.idle 2 (grid0.coords t) = false from rfl, after2]
theorem leaves3 (c : Dev nD) (t : Fin cfg0.N) : ((dats m 0 c).leavesExact 3 t : sProp 𝕄) = owns (c : Thread nD τ) (ms3 t) fullShare (iblk m c 3 t) := by
  unfold Dat.leavesExact; rw [show cfg0.idle 3 (grid0.coords t) = false from rfl, after3]
theorem leaves4 (c : Dev nD) (t : Fin cfg0.N) : ((dats m 0 c).leavesExact 4 t : sProp 𝕄) = owns (c : Thread nD τ) (ms4 t) fullShare (iblk m c 4 t) := by
  unfold Dat.leavesExact; rw [show cfg0.idle 4 (grid0.coords t) = false from rfl, after4]
theorem leaves5 (c : Dev nD) (t : Fin cfg0.N) : ((dats m 0 c).leavesExact 5 t : sProp 𝕄) = owns (c : Thread nD τ) (ms5 t) fullShare (iblk m c 5 t) := by
  unfold Dat.leavesExact; rw [show cfg0.idle 5 (grid0.coords t) = false from rfl, after5]
theorem leaves6 (c : Dev nD) (t : Fin cfg0.N) : ((dats m 0 c).leavesExact 6 t : sProp 𝕄) = owns (c : Thread nD τ) (ms6 t) fullShare (iblk m c 6 t) := by
  unfold Dat.leavesExact; rw [show cfg0.idle 6 (grid0.coords t) = false from rfl, after6]
theorem leaves7 (c : Dev nD) (t : Fin cfg0.N) : ((dats m 0 c).leavesExact 7 t : sProp 𝕄) = owns (c : Thread nD τ) (ms7 t) fullShare (iblk m c 7 t) := by
  unfold Dat.leavesExact; rw [show cfg0.idle 7 (grid0.coords t) = false from rfl, after7]

/-- The rest of the core's state, with the two scratch buffers as memrefs. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d))
    ∗ (∃ d, owns (c : Thread nD τ) (ms8 t) fullShare d) ∗ (∃ d, owns (c : Thread nD τ) (ms9 t) fullShare d) ∗ (∃ d, owns (c : Thread nD τ) (ms10 t) fullShare d) ∗ (∃ d, owns (c : Thread nD τ) (ms11 t) fullShare d) ∗ (∃ d, owns (c : Thread nD τ) (ms12 t) fullShare d))

/-- What the body returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t
    ∗ (∃ d, owns (c : Thread nD τ) (ms8 t) fullShare d) ∗ (∃ d, owns (c : Thread nD τ) (ms9 t) fullShare d) ∗ (∃ d, owns (c : Thread nD τ) (ms10 t) fullShare d) ∗ (∃ d, owns (c : Thread nD τ) (ms11 t) fullShare d) ∗ (∃ d, owns (c : Thread nD τ) (ms12 t) fullShare d))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, leaves0, before1, leaves1, before2, leaves2, before3, leaves3, before4, leaves4, before5, leaves5, before6, leaves6, before7, leaves7]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10, H11, H12⟩
  iapply (run_body c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  iintro ⟨H0, H1, H2, H3, H4, H5, H6, H7, H8, H9, H10, H11, H12, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The run: the inputs end as they were, every counter is back at zero. -/
theorem run_main : θ_run defs (onTc (τ := τ) (main (F := F))) ⟨m, fun _ => 0, ρ⟩ (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c w => (dats m 0 c).share_full (fun _ => rfl) w)
    (howed := fun _ _ => rfl) (V := V m) (hmain := hmain m Variants.none) (hA := A_eq m) (hΦ := fun _ _ => rfl)

/-- The frame of the block's backward call as compiled. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1.arr_in c 1 rfl).trans ((A_eq m c 1).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      (h.1.arr_in c 0 rfl).trans ((A_eq m c 0).trans (V_main_arg5 m c))⟩, h.2⟩) (run_main m ρ)

end Cert.Ffn.Hand

end
-- ==== Proof.FfnRow.lean ====
module

public import proofs.«01_k».proof.Proof.Basic
public import Idealize.ShloMosaic.Lib.ValueIdx
public import Idealize.ShloMosaic.Lib.Pipeline.ValueKit
public import Idealize.ShloMosaic.Lib.Pointwise

@[expose] public section

noncomputable section

/-! The gated block's backward pass as functions of its six arguments: the normed rows, the two hidden layers, and the
    gradients of each. -/

namespace Cert.FfnRow

open Idealize.ShloMosaic Idealize.ShloMosaic.ValueIdx
open Cert.K

/-- The logistic function. -/
def sg (g : EReal) : EReal := Ideal.div ((1 : ℝ) : EReal) (((1 : ℝ) : EReal) + Ideal.exp (-g))

section
variable (X : Fin 8192 → Fin 1024 → EReal) (NW : Fin 1024 → EReal) (WG WU : Fin 1024 → Fin 2816 → EReal) (WD : Fin 2816 → Fin 1024 → EReal) (D : Fin 8192 → Fin 1024 → EReal)

/-- A normed row. -/
def hf (n : Fin 8192) (k : Fin 1024) : EReal := X n k * rms (X n) * NW k
/-- A hidden layer. -/
def gf (W : Fin 1024 → Fin 2816 → EReal) (n : Fin 8192) (f : Fin 2816) : EReal := ∑ k, hf X NW n k * W k f
/-- The gradient of the gated product: half the output's, through the last weight. -/
def daf (n : Fin 8192) (f : Fin 2816) : EReal := ∑ d, ((1 / 2 : ℝ) : EReal) * D n d * WD f d
/-- The gradient of the gate's layer. -/
def dgf (n : Fin 8192) (f : Fin 2816) : EReal :=
  daf WD D n f * gf X NW WU n f * (sg (gf X NW WG n f) * (((1 : ℝ) : EReal) + gf X NW WG n f * (((1 : ℝ) : EReal) - sg (gf X NW WG n f))))
/-- The gradient of the other factor's layer. -/
def duf (n : Fin 8192) (f : Fin 2816) : EReal := daf WD D n f * (gf X NW WG n f * sg (gf X NW WG n f))
/-- The gradient of the normed rows. -/
def dhf (n : Fin 8192) (k : Fin 1024) : EReal := ∑ f, dgf X NW WG WU WD D n f * WG k f + ∑ f, duf X NW WG WD D n f * WU k f
/-- The gradient of the rows. -/
def dxf (n : Fin 8192) (k : Fin 1024) : EReal :=
  D n k + rms (X n) * (dhf X NW WG WU WD D n k * NW k - X n k * rms (X n)
    * Ideal.div (∑ j, dhf X NW WG WU WD D n j * NW j * (X n j * rms (X n))) ((1024 : ℝ) : EReal))
/-- The gradient of the norm's weight. -/
def dnf (k : Fin 1024) : EReal := ∑ n, dhf X NW WG WU WD D n k * (X n k * rms (X n))

end

/-- A sum taken block by block. -/
theorem sum_blocks {a b N : ℕ} (h : N = a * b) (f : Fin N → EReal) :
    ∑ x, f x = ∑ i : Fin a, ∑ n : Fin b, f ⟨i.val * b + n.val, by
      subst h
      calc i.val * b + n.val < i.val * b + b := Nat.add_lt_add_left n.isLt _
        _ = (i.val + 1) * b := (Nat.succ_mul _ _).symm
        _ ≤ a * b := Nat.mul_le_mul_right b i.isLt⟩ := by
  subst h
  rw [← Equiv.sum_comp finProdFinEquiv f, Fintype.sum_prod_type]
  refine Finset.sum_congr rfl fun i _ => Finset.sum_congr rfl fun n _ => congrArg f (Fin.ext ?_)
  show n.val + b * i.val = i.val * b + n.val
  rw [add_comm, mul_comm]

/-! ### What is real when the arguments are -/

theorem real_add {x y : EReal} (hx : ∃ r : ℝ, x = r) (hy : ∃ r : ℝ, y = r) : ∃ r : ℝ, x + y = r := by
  obtain ⟨a, rfl⟩ := hx; obtain ⟨b, rfl⟩ := hy; exact ⟨a + b, (EReal.coe_add a b).symm⟩
theorem real_mul {x y : EReal} (hx : ∃ r : ℝ, x = r) (hy : ∃ r : ℝ, y = r) : ∃ r : ℝ, x * y = r := by
  obtain ⟨a, rfl⟩ := hx; obtain ⟨b, rfl⟩ := hy; exact ⟨a * b, (EReal.coe_mul a b).symm⟩
theorem real_sum {ι : Type*} [Fintype ι] {f : ι → EReal} (h : ∀ i, ∃ r : ℝ, f i = r) : ∃ r : ℝ, ∑ i, f i = r := by
  choose r hr using h
  exact ⟨∑ i, r i, by rw [coe_sum]; exact Finset.sum_congr rfl fun i _ => hr i⟩

theorem rms_real (x : Fin 1024 → EReal) : ∃ r : ℝ, rms x = r := by
  unfold rms
  rcases ms_cases x with h | ⟨v, hv, h⟩
  · rw [h]; exact ⟨0, by simp⟩
  · rw [h, Ideal.rsqrt_coe, if_neg (not_lt.mpr hv.le), if_neg hv.ne']; exact ⟨_, rfl⟩

theorem sg_real {g : EReal} (h : ∃ r : ℝ, g = r) : ∃ r : ℝ, sg g = r := by
  obtain ⟨r, rfl⟩ := h
  unfold sg
  have hp : 0 < 1 + Real.exp (-r) := by positivity
  refine ⟨1 * (1 / (1 + Real.exp (-r))), ?_⟩
  rw [show ((1 : ℝ) : EReal) + Ideal.exp (-(r : EReal)) = ((1 + Real.exp (-r) : ℝ) : EReal) from ?_, div_pos_coe _ hp.ne']
  · norm_cast
  · rw [EReal.coe_add, ← EReal.coe_neg, Ideal.exp_coe]

/-- The gate's gradient as the kernel factors it is the one differentiation adds up. -/
theorem gate_eq {g ct : EReal} (hg : ∃ r : ℝ, g = r) (hc : ∃ r : ℝ, ct = r) :
    ct * sg g + g * ct * (sg g * (((1 : ℝ) : EReal) - sg g)) = ct * (sg g * (((1 : ℝ) : EReal) + g * (((1 : ℝ) : EReal) - sg g))) := by
  obtain ⟨s, hs⟩ := sg_real hg
  rw [hs]
  obtain ⟨g, rfl⟩ := hg; obtain ⟨c, rfl⟩ := hc
  norm_cast
  ring

end Cert.FfnRow

end
-- ==== Proof.FfnRun.lean ====
module

public import proofs.«01_k».proof.Proof.Gen.FfnIdeal.Frame
public import proofs.«01_k».proof.Proof.Gen.FfnIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.VecWindow
public import Idealize.ShloMosaic.Lib.WholeRead

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The gate's gradient from a block of the output's half cotangent. -/
def dgp (y : Vec F S512x1024 .bf16) (x5 x6 : Vec F S512x1408 .bf16) (x9 : Vec F S1408x1024 .bf16) : Vec F S512x1408 .bf16 :=
  k0_pay15 y x9 x5 x6

/-- The other factor's gradient from a block of the output's half cotangent. -/
def dup (y : Vec F S512x1024 .bf16) (x5 : Vec F S512x1408 .bf16) (x9 : Vec F S1408x1024 .bf16) : Vec F S512x1408 .bf16 :=
  k0_pay16 y x9 x5

/-- One half of the hidden columns' part of the normed row's gradient. -/
def prt (y : Vec F S512x1024 .bf16) (x5 x6 : Vec F S512x1408 .bf16) (x7 x8 x9 : Vec F S1408x1024 .bf16) : Vec F S512x1024 .f32 :=
  k0_pay1 (dgp y x5 x6 x9) (dup y x5 x9) x7 x8

set_option maxHeartbeats 400000 in
/-- The first half of the hidden columns. -/
theorem run_first (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1408 .bf16) (harg5 : arg5.IsWhole) (arg6 : Memref sig .tc .vmem S512x1408 .bf16) (harg6 : arg6.IsWhole) (arg7 : Memref sig .tc .vmem S1408x1024 .bf16) (harg7 : arg7.IsWhole) (arg8 : Memref sig .tc .vmem S1408x1024 .bf16) (harg8 : arg8.IsWhole) (arg9 : Memref sig .tc .vmem S1408x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1408 .bf16) (harg12 : arg12.IsWhole) (arg13 : Memref sig .tc .vmem S512x1408 .bf16) (harg13 : arg13.IsWhole) (arg14 : Memref sig .tc .vmem S1x1024 .f32) (harg14 : arg14.IsWhole) (arg15 : Memref sig .tc .vmem S512x1024 .bf16) (harg15 : arg15.IsWhole) (arg16 : Memref sig .tc .vmem S512x1024 .f32) (harg16 : arg16.IsWhole)
    (hc1 : k0_cond1 i = 1#1) (hc2 : (Scalar.cmpi .ne (Scalar.extui (Scalar.cmpi .eq (BitVec.ofNat 32 (i 1).val) 0#32)) 0#32) = 1#1) (hc3 : ¬ (Scalar.cmpi .ne (Scalar.extui (Scalar.andi (Scalar.cmpi .sgt (BitVec.ofNat 32 (i 1).val) 0#32) (Scalar.cmpi .slt (BitVec.ofNat 32 (i 1).val) 1#32))) 0#32) = 1#1) (hc4 : ¬ k0_cond4 i = 1#1)
    (x2 : Vec F S512x1024 .f32) (x3 : Vec F S512x1024 .f32) (x4 : Vec F S1x1024 .f32) (x5 : Vec F S512x1408 .bf16) (x6 : Vec F S512x1408 .bf16) (x7 : Vec F S1408x1024 .bf16) (x8 : Vec F S1408x1024 .bf16) (x9 : Vec F S1408x1024 .bf16) (x10 : Vec F S512x1024 .f32) (x11 : Vec F S512x1024 .bf16) (x12 : Vec F S512x1408 .bf16) (x13 : Vec F S512x1408 .bf16) (x14 : Vec F S1x1024 .f32) (x15 : Vec F S512x1024 .bf16) (x16 : Vec F S512x1024 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (k0_pay10 x2) ∗ owns (c : Thread nD τ) arg12 fullShare (dgp (k0_pay11 x2) x5 x6 x9) ∗ owns (c : Thread nD τ) arg13 fullShare (dup (k0_pay11 x2) x5 x9) ∗ owns (c : Thread nD τ) arg14 fullShare x14 ∗ owns (c : Thread nD τ) arg15 fullShare (k0_pay11 x2) ∗ owns (c : Thread nD τ) arg16 fullShare (k0_pay2 (dgp (k0_pay11 x2) x5 x6 x9) (dup (k0_pay11 x2) x5 x9) x7 x8)) -∗ K ⟨⟩))
    ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ffn_bwd_eq_skeleton]; unfold cc0_ffn_bwd_skel
  simp only [k0_part1_eq_skeleton, k0_part2_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  subst hf2; subst hf3; subst hf4; subst hf5; subst hf6; subst hf7; subst hf8; subst hf9; subst hf10; subst hf11; subst hf12; subst hf13; subst hf14; subst hf15; subst hf16
  sl_exec (disch := first | sl_exact hc1 | sl_exact hc2 | sl_exact hc3 | sl_exact hc4)
  sl_step
  iapply Hk
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr; · ipureintro; rfl
    iexact H10
  isplitl [H11]
  on_goal 1 => iexists _; isplitr; swap; · iexact H11
  rotate_left
  isplitl [H12]
  on_goal 1 => iexists _; isplitr; swap; · iexact H12
  rotate_left
  isplitl [H13]
  on_goal 1 => iexists _; isplitr; swap; · iexact H13
  rotate_left
  isplitl [H14]
  · iexists _; isplitr; · ipureintro; rfl
    iexact H14
  isplitl [H15]
  on_goal 1 => iexists _; isplitr; swap; · iexact H15
  rotate_left
  iexists _; isplitr; swap; · iexact H16
  all_goals (ipureintro; refine (View.read_writes_full _ _ _ _ []).trans ?_; (try delta run_first.sl.r_1 run_first.sl.r run_first.sl.v3 run_first.sl.H15_1 prt dgp dup); (try rw [View.readCov_full]); (try rw [View.readAt_writes_full]); (try rw [View.readAt_full arg2.view f2 inb_S512x1024_S512x1024_0_0]); (try rw [View.readAt_full arg3.view f3 inb_S512x1024_S512x1024_0_0]); (try rw [View.readAt_full arg4.view f4 inb_S1x1024_S1x1024_0_0]); (try rw [View.readAt_full arg5.view f5 inb_S512x1408_S512x1408_0_0]); (try rw [View.readAt_full arg6.view f6 inb_S512x1408_S512x1408_0_0]); (try rw [View.readAt_full arg7.view f7 inb_S1408x1024_S1408x1024_0_0]); (try rw [View.readAt_full arg8.view f8 inb_S1408x1024_S1408x1024_0_0]); (try rw [View.readAt_full arg9.view f9 inb_S1408x1024_S1408x1024_0_0]); (try rw [View.readAt_full arg10.view f10 inb_S512x1024_S512x1024_0_0]); (try rw [View.readAt_full arg11.view f11 inb_S512x1024_S512x1024_0_0]); (try rw [View.readAt_full arg12.view f12 inb_S512x1408_S512x1408_0_0]); (try rw [View.readAt_full arg13.view f13 inb_S512x1408_S512x1408_0_0]); (try rw [View.readAt_full arg14.view f14 inb_S1x1024_S1x1024_0_0]); (try rw [View.readAt_full arg15.view f15 inb_S512x1024_S512x1024_0_0]); (try rw [View.readAt_full arg16.view f16 inb_S512x1024_S512x1024_0_0]); try rfl)

set_option maxHeartbeats 400000 in
/-- The second half, at the first block of rows. -/
theorem run_init (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1408 .bf16) (harg5 : arg5.IsWhole) (arg6 : Memref sig .tc .vmem S512x1408 .bf16) (harg6 : arg6.IsWhole) (arg7 : Memref sig .tc .vmem S1408x1024 .bf16) (harg7 : arg7.IsWhole) (arg8 : Memref sig .tc .vmem S1408x1024 .bf16) (harg8 : arg8.IsWhole) (arg9 : Memref sig .tc .vmem S1408x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1408 .bf16) (harg12 : arg12.IsWhole) (arg13 : Memref sig .tc .vmem S512x1408 .bf16) (harg13 : arg13.IsWhole) (arg14 : Memref sig .tc .vmem S1x1024 .f32) (harg14 : arg14.IsWhole) (arg15 : Memref sig .tc .vmem S512x1024 .bf16) (harg15 : arg15.IsWhole) (arg16 : Memref sig .tc .vmem S512x1024 .f32) (harg16 : arg16.IsWhole)
    (hc1 : ¬ k0_cond1 i = 1#1) (hc2 : ¬ (Scalar.cmpi .ne (Scalar.extui (Scalar.cmpi .eq (BitVec.ofNat 32 (i 1).val) 0#32)) 0#32) = 1#1) (hc3 : ¬ (Scalar.cmpi .ne (Scalar.extui (Scalar.andi (Scalar.cmpi .sgt (BitVec.ofNat 32 (i 1).val) 0#32) (Scalar.cmpi .slt (BitVec.ofNat 32 (i 1).val) 1#32))) 0#32) = 1#1) (hc4 : k0_cond4 i = 1#1) (hc5 : k0_cond5 i = 1#1) (hc6 : ¬ k0_cond6 i = 1#1)
    (x2 : Vec F S512x1024 .f32) (x3 : Vec F S512x1024 .f32) (x4 : Vec F S1x1024 .f32) (x5 : Vec F S512x1408 .bf16) (x6 : Vec F S512x1408 .bf16) (x7 : Vec F S1408x1024 .bf16) (x8 : Vec F S1408x1024 .bf16) (x9 : Vec F S1408x1024 .bf16) (x10 : Vec F S512x1024 .f32) (x11 : Vec F S512x1024 .bf16) (x12 : Vec F S512x1408 .bf16) (x13 : Vec F S512x1408 .bf16) (x14 : Vec F S1x1024 .f32) (x15 : Vec F S512x1024 .bf16) (x16 : Vec F S512x1024 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (k0_pay9 (prt x15 x5 x6 x7 x8 x9) x16 x3 x4 x2) ∗ owns (c : Thread nD τ) arg11 fullShare x11 ∗ owns (c : Thread nD τ) arg12 fullShare (dgp x15 x5 x6 x9) ∗ owns (c : Thread nD τ) arg13 fullShare (dup x15 x5 x9) ∗ owns (c : Thread nD τ) arg14 fullShare (k0_pay8 (prt x15 x5 x6 x7 x8 x9) x16 x3) ∗ owns (c : Thread nD τ) arg15 fullShare x15 ∗ owns (c : Thread nD τ) arg16 fullShare x16) -∗ K ⟨⟩))
    ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ffn_bwd_eq_skeleton]; unfold cc0_ffn_bwd_skel
  simp only [k0_part1_eq_skeleton, k0_part2_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  subst hf2; subst hf3; subst hf4; subst hf5; subst hf6; subst hf7; subst hf8; subst hf9; subst hf10; subst hf11; subst hf12; subst hf13; subst hf14; subst hf15; subst hf16
  sl_exec (disch := first | sl_exact hc1 | sl_exact hc2 | sl_exact hc3 | sl_exact hc4 | sl_exact hc5 | sl_exact hc6)
  sl_step
  iapply Hk
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  on_goal 1 => iexists _; isplitr; swap; · iexact H10
  rotate_left
  isplitl [H11]
  · iexists _; isplitr; · ipureintro; rfl
    iexact H11
  isplitl [H12]
  on_goal 1 => iexists _; isplitr; swap; · iexact H12
  rotate_left
  isplitl [H13]
  on_goal 1 => iexists _; isplitr; swap; · iexact H13
  rotate_left
  isplitl [H14]
  on_goal 1 => iexists _; isplitr; swap; · iexact H14
  rotate_left
  isplitl [H15]
  · iexists _; isplitr; · ipureintro; rfl
    iexact H15
  iexists _; isplitr; · ipureintro; rfl
  iexact H16
  all_goals (ipureintro; refine (View.read_writes_full _ _ _ _ []).trans ?_; (try delta run_init.sl.r_2 run_init.sl.r_1 run_init.sl.r prt dgp dup); (try rw [View.readCov_full]); (try rw [View.readAt_writes_full]); (try rw [View.readAt_full arg2.view f2 inb_S512x1024_S512x1024_0_0]); (try rw [View.readAt_full arg3.view f3 inb_S512x1024_S512x1024_0_0]); (try rw [View.readAt_full arg4.view f4 inb_S1x1024_S1x1024_0_0]); (try rw [View.readAt_full arg5.view f5 inb_S512x1408_S512x1408_0_0]); (try rw [View.readAt_full arg6.view f6 inb_S512x1408_S512x1408_0_0]); (try rw [View.readAt_full arg7.view f7 inb_S1408x1024_S1408x1024_0_0]); (try rw [View.readAt_full arg8.view f8 inb_S1408x1024_S1408x1024_0_0]); (try rw [View.readAt_full arg9.view f9 inb_S1408x1024_S1408x1024_0_0]); (try rw [View.readAt_full arg10.view f10 inb_S512x1024_S512x1024_0_0]); (try rw [View.readAt_full arg11.view f11 inb_S512x1024_S512x1024_0_0]); (try rw [View.readAt_full arg12.view f12 inb_S512x1408_S512x1408_0_0]); (try rw [View.readAt_full arg13.view f13 inb_S512x1408_S512x1408_0_0]); (try rw [View.readAt_full arg14.view f14 inb_S1x1024_S1x1024_0_0]); (try rw [View.readAt_full arg15.view f15 inb_S512x1024_S512x1024_0_0]); (try rw [View.readAt_full arg16.view f16 inb_S512x1024_S512x1024_0_0]); try rfl)

set_option maxHeartbeats 400000 in
/-- The second half, at a later block of rows. -/
theorem run_add (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1408 .bf16) (harg5 : arg5.IsWhole) (arg6 : Memref sig .tc .vmem S512x1408 .bf16) (harg6 : arg6.IsWhole) (arg7 : Memref sig .tc .vmem S1408x1024 .bf16) (harg7 : arg7.IsWhole) (arg8 : Memref sig .tc .vmem S1408x1024 .bf16) (harg8 : arg8.IsWhole) (arg9 : Memref sig .tc .vmem S1408x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1408 .bf16) (harg12 : arg12.IsWhole) (arg13 : Memref sig .tc .vmem S512x1408 .bf16) (harg13 : arg13.IsWhole) (arg14 : Memref sig .tc .vmem S1x1024 .f32) (harg14 : arg14.IsWhole) (arg15 : Memref sig .tc .vmem S512x1024 .bf16) (harg15 : arg15.IsWhole) (arg16 : Memref sig .tc .vmem S512x1024 .f32) (harg16 : arg16.IsWhole)
    (hc1 : ¬ k0_cond1 i = 1#1) (hc2 : ¬ (Scalar.cmpi .ne (Scalar.extui (Scalar.cmpi .eq (BitVec.ofNat 32 (i 1).val) 0#32)) 0#32) = 1#1) (hc3 : ¬ (Scalar.cmpi .ne (Scalar.extui (Scalar.andi (Scalar.cmpi .sgt (BitVec.ofNat 32 (i 1).val) 0#32) (Scalar.cmpi .slt (BitVec.ofNat 32 (i 1).val) 1#32))) 0#32) = 1#1) (hc4 : k0_cond4 i = 1#1) (hc5 : ¬ k0_cond5 i = 1#1) (hc6 : k0_cond6 i = 1#1)
    (x2 : Vec F S512x1024 .f32) (x3 : Vec F S512x1024 .f32) (x4 : Vec F S1x1024 .f32) (x5 : Vec F S512x1408 .bf16) (x6 : Vec F S512x1408 .bf16) (x7 : Vec F S1408x1024 .bf16) (x8 : Vec F S1408x1024 .bf16) (x9 : Vec F S1408x1024 .bf16) (x10 : Vec F S512x1024 .f32) (x11 : Vec F S512x1024 .bf16) (x12 : Vec F S512x1408 .bf16) (x13 : Vec F S512x1408 .bf16) (x14 : Vec F S1x1024 .f32) (x15 : Vec F S512x1024 .bf16) (x16 : Vec F S512x1024 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (k0_pay9 (prt x15 x5 x6 x7 x8 x9) x16 x3 x4 x2) ∗ owns (c : Thread nD τ) arg11 fullShare x11 ∗ owns (c : Thread nD τ) arg12 fullShare (dgp x15 x5 x6 x9) ∗ owns (c : Thread nD τ) arg13 fullShare (dup x15 x5 x9) ∗ owns (c : Thread nD τ) arg14 fullShare (k0_pay4 (k0_pay8 (prt x15 x5 x6 x7 x8 x9) x16 x3) x14) ∗ owns (c : Thread nD τ) arg15 fullShare x15 ∗ owns (c : Thread nD τ) arg16 fullShare x16) -∗ K ⟨⟩))
    ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ffn_bwd_eq_skeleton]; unfold cc0_ffn_bwd_skel
  simp only [k0_part1_eq_skeleton, k0_part2_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  subst hf2; subst hf3; subst hf4; subst hf5; subst hf6; subst hf7; subst hf8; subst hf9; subst hf10; subst hf11; subst hf12; subst hf13; subst hf14; subst hf15; subst hf16
  sl_exec (disch := first | sl_exact hc1 | sl_exact hc2 | sl_exact hc3 | sl_exact hc4 | sl_exact hc5 | sl_exact hc6)
  sl_step
  iapply Hk
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  on_goal 1 => iexists _; isplitr; swap; · iexact H10
  rotate_left
  isplitl [H11]
  · iexists _; isplitr; · ipureintro; rfl
    iexact H11
  isplitl [H12]
  on_goal 1 => iexists _; isplitr; swap; · iexact H12
  rotate_left
  isplitl [H13]
  on_goal 1 => iexists _; isplitr; swap; · iexact H13
  rotate_left
  isplitl [H14]
  on_goal 1 => iexists _; isplitr; swap; · iexact H14
  rotate_left
  isplitl [H15]
  · iexists _; isplitr; · ipureintro; rfl
    iexact H15
  iexists _; isplitr; · ipureintro; rfl
  iexact H16
  all_goals (ipureintro; refine (View.read_writes_full _ _ _ _ []).trans ?_; (try delta run_add.sl.r_2 run_add.sl.r_1 run_add.sl.r prt dgp dup); (try rw [View.readCov_full]); (try rw [View.readAt_writes_full]); (try rw [View.readAt_full arg2.view f2 inb_S512x1024_S512x1024_0_0]); (try rw [View.readAt_full arg3.view f3 inb_S512x1024_S512x1024_0_0]); (try rw [View.readAt_full arg4.view f4 inb_S1x1024_S1x1024_0_0]); (try rw [View.readAt_full arg5.view f5 inb_S512x1408_S512x1408_0_0]); (try rw [View.readAt_full arg6.view f6 inb_S512x1408_S512x1408_0_0]); (try rw [View.readAt_full arg7.view f7 inb_S1408x1024_S1408x1024_0_0]); (try rw [View.readAt_full arg8.view f8 inb_S1408x1024_S1408x1024_0_0]); (try rw [View.readAt_full arg9.view f9 inb_S1408x1024_S1408x1024_0_0]); (try rw [View.readAt_full arg10.view f10 inb_S512x1024_S512x1024_0_0]); (try rw [View.readAt_full arg11.view f11 inb_S512x1024_S512x1024_0_0]); (try rw [View.readAt_full arg12.view f12 inb_S512x1408_S512x1408_0_0]); (try rw [View.readAt_full arg13.view f13 inb_S512x1408_S512x1408_0_0]); (try rw [View.readAt_full arg14.view f14 inb_S1x1024_S1x1024_0_0]); (try rw [View.readAt_full arg15.view f15 inb_S512x1024_S512x1024_0_0]); (try rw [View.readAt_full arg16.view f16 inb_S512x1024_S512x1024_0_0]); try rfl)

end Cert.FfnIdeal.Hand

end
-- ==== Proof.FfnRel.lean ====
module

public import proofs.«01_k».proof.Proof.Gen.FfnIdeal.Frame
public import proofs.«01_k».proof.Proof.Gen.FfnIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.Pipeline.DatRel
public import Idealize.ShloMosaic.Lib.Pipeline.ArrRel
public import proofs.«01_k».proof.Proof.Gen.FfnIdeal.Points
public import proofs.«01_k».proof.Proof.FfnRun

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Which way the body's branches go, by the half of the hidden columns and the block of rows. -/

theorem br_first (i : grid0.Coords) (h : (i 1).val = 0) :
    k0_cond1 i = 1#1 ∧ (Scalar.cmpi .ne (Scalar.extui (Scalar.cmpi .eq (BitVec.ofNat 32 (i 1).val) 0#32)) 0#32) = 1#1 ∧ ¬ (Scalar.cmpi .ne (Scalar.extui (Scalar.andi (Scalar.cmpi .sgt (BitVec.ofNat 32 (i 1).val) 0#32) (Scalar.cmpi .slt (BitVec.ofNat 32 (i 1).val) 1#32))) 0#32) = 1#1 ∧ ¬ k0_cond4 i = 1#1 := by
  unfold k0_cond1 k0_cond4
  revert h
  generalize i 1 = n
  revert n
  decide +kernel

theorem br_init (i : grid0.Coords) (h : (i 1).val ≠ 0 ∧ (i 0).val = 0) :
    ¬ k0_cond1 i = 1#1 ∧ ¬ (Scalar.cmpi .ne (Scalar.extui (Scalar.cmpi .eq (BitVec.ofNat 32 (i 1).val) 0#32)) 0#32) = 1#1 ∧ ¬ (Scalar.cmpi .ne (Scalar.extui (Scalar.andi (Scalar.cmpi .sgt (BitVec.ofNat 32 (i 1).val) 0#32) (Scalar.cmpi .slt (BitVec.ofNat 32 (i 1).val) 1#32))) 0#32) = 1#1 ∧ k0_cond4 i = 1#1 ∧ k0_cond5 i = 1#1 ∧ ¬ k0_cond6 i = 1#1 := by
  unfold k0_cond1 k0_cond4 k0_cond5 k0_cond6
  revert h
  generalize i 1 = n
  generalize i 0 = k
  revert n k
  decide +kernel

theorem br_add (i : grid0.Coords) (h : (i 1).val ≠ 0 ∧ (i 0).val ≠ 0) :
    ¬ k0_cond1 i = 1#1 ∧ ¬ (Scalar.cmpi .ne (Scalar.extui (Scalar.cmpi .eq (BitVec.ofNat 32 (i 1).val) 0#32)) 0#32) = 1#1 ∧ ¬ (Scalar.cmpi .ne (Scalar.extui (Scalar.andi (Scalar.cmpi .sgt (BitVec.ofNat 32 (i 1).val) 0#32) (Scalar.cmpi .slt (BitVec.ofNat 32 (i 1).val) 1#32))) 0#32) = 1#1 ∧ k0_cond4 i = 1#1 ∧ ¬ k0_cond5 i = 1#1 ∧ k0_cond6 i = 1#1 := by
  unfold k0_cond1 k0_cond4 k0_cond5 k0_cond6
  revert h
  generalize i 1 = n
  generalize i 0 = k
  revert n k
  decide +kernel

/-- The half cotangent kept for the second half of the hidden columns. -/
def n15 (i : grid0.Coords) (x2 : Vec F S512x1024 .f32) (x15 : Vec F S512x1024 .bf16) : Vec F S512x1024 .bf16 :=
  if (i 1).val = 0 then k0_pay11 x2 else x15

/-- The input's gradient, from what was there. -/
def n10 (i : grid0.Coords) (x2 : Vec F S512x1024 .f32) (x3 : Vec F S512x1024 .f32) (x4 : Vec F S1x1024 .f32) (x5 : Vec F S512x1408 .bf16) (x6 : Vec F S512x1408 .bf16) (x7 : Vec F S1408x1024 .bf16) (x8 : Vec F S1408x1024 .bf16) (x9 : Vec F S1408x1024 .bf16) (x10 : Vec F S512x1024 .f32) (x15 : Vec F S512x1024 .bf16) (x16 : Vec F S512x1024 .f32) : Vec F S512x1024 .f32 :=
  if (i 1).val = 0 then x10 else k0_pay9 (prt x15 x5 x6 x7 x8 x9) x16 x3 x4 x2

/-- The half cotangent written out. -/
def n11 (i : grid0.Coords) (x2 : Vec F S512x1024 .f32) (x11 : Vec F S512x1024 .bf16) : Vec F S512x1024 .bf16 :=
  if (i 1).val = 0 then k0_pay10 x2 else x11

/-- The gate's gradient. -/
def n12 (i : grid0.Coords) (x2 : Vec F S512x1024 .f32) (x5 : Vec F S512x1408 .bf16) (x6 : Vec F S512x1408 .bf16) (x9 : Vec F S1408x1024 .bf16) (x15 : Vec F S512x1024 .bf16) : Vec F S512x1408 .bf16 :=
  dgp (n15 i x2 x15) x5 x6 x9

/-- The other factor's gradient. -/
def n13 (i : grid0.Coords) (x2 : Vec F S512x1024 .f32) (x5 : Vec F S512x1408 .bf16) (x9 : Vec F S1408x1024 .bf16) (x15 : Vec F S512x1024 .bf16) : Vec F S512x1408 .bf16 :=
  dup (n15 i x2 x15) x5 x9

/-- The weight's gradient, from what was there. -/
def n14 (i : grid0.Coords) (x3 : Vec F S512x1024 .f32) (x5 : Vec F S512x1408 .bf16) (x6 : Vec F S512x1408 .bf16) (x7 : Vec F S1408x1024 .bf16) (x8 : Vec F S1408x1024 .bf16) (x9 : Vec F S1408x1024 .bf16) (x14 : Vec F S1x1024 .f32) (x15 : Vec F S512x1024 .bf16) (x16 : Vec F S512x1024 .f32) : Vec F S1x1024 .f32 :=
  if (i 1).val = 0 then x14 else if (i 0).val = 0 then k0_pay8 (prt x15 x5 x6 x7 x8 x9) x16 x3 else k0_pay4 (k0_pay8 (prt x15 x5 x6 x7 x8 x9) x16 x3) x14

/-- The first half's part of the normed row's gradient. -/
def n16 (i : grid0.Coords) (x2 : Vec F S512x1024 .f32) (x5 : Vec F S512x1408 .bf16) (x6 : Vec F S512x1408 .bf16) (x7 : Vec F S1408x1024 .bf16) (x8 : Vec F S1408x1024 .bf16) (x9 : Vec F S1408x1024 .bf16) (x16 : Vec F S512x1024 .f32) : Vec F S512x1024 .f32 :=
  if (i 1).val = 0 then k0_pay2 (dgp (k0_pay11 x2) x5 x6 x9) (dup (k0_pay11 x2) x5 x9) x7 x8 else x16

/-- One run of the body, at any point. -/
theorem run_point (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1408 .bf16) (harg5 : arg5.IsWhole) (arg6 : Memref sig .tc .vmem S512x1408 .bf16) (harg6 : arg6.IsWhole) (arg7 : Memref sig .tc .vmem S1408x1024 .bf16) (harg7 : arg7.IsWhole) (arg8 : Memref sig .tc .vmem S1408x1024 .bf16) (harg8 : arg8.IsWhole) (arg9 : Memref sig .tc .vmem S1408x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1408 .bf16) (harg12 : arg12.IsWhole) (arg13 : Memref sig .tc .vmem S512x1408 .bf16) (harg13 : arg13.IsWhole) (arg14 : Memref sig .tc .vmem S1x1024 .f32) (harg14 : arg14.IsWhole) (arg15 : Memref sig .tc .vmem S512x1024 .bf16) (harg15 : arg15.IsWhole) (arg16 : Memref sig .tc .vmem S512x1024 .f32) (harg16 : arg16.IsWhole)
    (x2 : Vec F S512x1024 .f32) (x3 : Vec F S512x1024 .f32) (x4 : Vec F S1x1024 .f32) (x5 : Vec F S512x1408 .bf16) (x6 : Vec F S512x1408 .bf16) (x7 : Vec F S1408x1024 .bf16) (x8 : Vec F S1408x1024 .bf16) (x9 : Vec F S1408x1024 .bf16) (x10 : Vec F S512x1024 .f32) (x11 : Vec F S512x1024 .bf16) (x12 : Vec F S512x1408 .bf16) (x13 : Vec F S512x1408 .bf16) (x14 : Vec F S1x1024 .f32) (x15 : Vec F S512x1024 .bf16) (x16 : Vec F S512x1024 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (n10 i x2 x3 x4 x5 x6 x7 x8 x9 x10 x15 x16) ∗ owns (c : Thread nD τ) arg11 fullShare (n11 i x2 x11) ∗ owns (c : Thread nD τ) arg12 fullShare (n12 i x2 x5 x6 x9 x15) ∗ owns (c : Thread nD τ) arg13 fullShare (n13 i x2 x5 x9 x15) ∗ owns (c : Thread nD τ) arg14 fullShare (n14 i x3 x5 x6 x7 x8 x9 x14 x15 x16) ∗ owns (c : Thread nD τ) arg15 fullShare (n15 i x2 x15) ∗ owns (c : Thread nD τ) arg16 fullShare (n16 i x2 x5 x6 x7 x8 x9 x16)) -∗ K ⟨⟩))
    ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold n10 n11 n12 n13 n14 n15 n16
  rcases (by omega : (i 1).val = 0 ∨ ((i 1).val ≠ 0 ∧ (i 0).val = 0) ∨ ((i 1).val ≠ 0 ∧ (i 0).val ≠ 0)) with h | h | h
  · obtain ⟨hc1, hc2, hc3, hc4⟩ := br_first i h
    simp only [if_pos h]
    exact run_first c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 x2 x3 x4 x5 x6 x7 x8 x9 x10 x11 x12 x13 x14 x15 x16 E K
  · obtain ⟨hc1, hc2, hc3, hc4, hc5, hc6⟩ := br_init i h
    simp only [if_neg h.1, if_pos h.2]
    exact run_init c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 x2 x3 x4 x5 x6 x7 x8 x9 x10 x11 x12 x13 x14 x15 x16 E K
  · obtain ⟨hc1, hc2, hc3, hc4, hc5, hc6⟩ := br_add i h
    simp only [if_neg h.1, if_neg h.2]
    exact run_add c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 hc3 hc4 hc5 hc6 x2 x3 x4 x5 x6 x7 x8 x9 x10 x11 x12 x13 x14 x15 x16 E K

/-- The staging buffer of window 0 at a point. -/
abbrev ms0 (t : Fin cfg0.N) : Memref sig .tc .vmem S512x1024 .f32 := win0_0.stage (cfg0.slots t 0)
/-- The staging buffer of window 1 at a point. -/
abbrev ms1 (t : Fin cfg0.N) : Memref sig .tc .vmem S512x1024 .f32 := win0_1.stage (cfg0.slots t 1)
/-- The staging buffer of window 2 at a point. -/
abbrev ms2 (t : Fin cfg0.N) : Memref sig .tc .vmem S1x1024 .f32 := win0_2.stage (cfg0.slots t 2)
/-- The staging buffer of window 3 at a point. -/
abbrev ms3 (t : Fin cfg0.N) : Memref sig .tc .vmem S512x1408 .bf16 := win0_3.stage (cfg0.slots t 3)
/-- The staging buffer of window 4 at a point. -/
abbrev ms4 (t : Fin cfg0.N) : Memref sig .tc .vmem S512x1408 .bf16 := win0_4.stage (cfg0.slots t 4)
/-- The staging buffer of window 5 at a point. -/
abbrev ms5 (t : Fin cfg0.N) : Memref sig .tc .vmem S1408x1024 .bf16 := win0_5.stage (cfg0.slots t 5)
/-- The staging buffer of window 6 at a point. -/
abbrev ms6 (t : Fin cfg0.N) : Memref sig .tc .vmem S1408x1024 .bf16 := win0_6.stage (cfg0.slots t 6)
/-- The staging buffer of window 7 at a point. -/
abbrev ms7 (t : Fin cfg0.N) : Memref sig .tc .vmem S1408x1024 .bf16 := win0_7.stage (cfg0.slots t 7)
/-- The staging buffer of window 8 at a point. -/
abbrev ms8 (t : Fin cfg0.N) : Memref sig .tc .vmem S512x1024 .f32 := win0_8.stage (cfg0.slots t 8)
/-- The staging buffer of window 9 at a point. -/
abbrev ms9 (t : Fin cfg0.N) : Memref sig .tc .vmem S512x1024 .bf16 := win0_9.stage (cfg0.slots t 9)
/-- The staging buffer of window 10 at a point. -/
abbrev ms10 (t : Fin cfg0.N) : Memref sig .tc .vmem S512x1408 .bf16 := win0_10.stage (cfg0.slots t 10)
/-- The staging buffer of window 11 at a point. -/
abbrev ms11 (t : Fin cfg0.N) : Memref sig .tc .vmem S512x1408 .bf16 := win0_11.stage (cfg0.slots t 11)
/-- The staging buffer of window 12 at a point. -/
abbrev ms12 (t : Fin cfg0.N) : Memref sig .tc .vmem S1x1024 .f32 := win0_12.stage (cfg0.slots t 12)

/-- The point of a number. -/
def pt (n : ℕ) : Fin cfg0.N := ⟨n % 32, lt_of_lt_of_eq (Nat.mod_lt _ (by decide)) N_0.symm⟩

theorem pt_self (t : Fin cfg0.N) : pt t.val = t := by
  have ht : t.val < 32 := lt_of_lt_of_eq t.isLt N_0
  apply Fin.ext; show t.val % 32 = t.val; omega

theorem pt_even (t : Fin cfg0.N) (h : t.val % 2 = 0) : pt (2 * (t.val / 2)) = t := by
  rw [show 2 * (t.val / 2) = t.val by omega, pt_self]

theorem pt_odd (t : Fin cfg0.N) (h : t.val % 2 ≠ 0) : pt (2 * (t.val / 2) + 1) = t := by
  rw [show 2 * (t.val / 2) + 1 = t.val by omega, pt_self]

theorem coord_half (t : Fin cfg0.N) : (grid0.coords t 1).val = t.val % 2 := by
  have e1 : (grid0.coords t 1).val = t.val / 1 % 2 := Pipeline.Grid.coords_val t 1 (by decide) rfl
  rw [e1, Nat.div_one]

theorem coord_rows (t : Fin cfg0.N) : (grid0.coords t 0).val = t.val / 2 := by
  have ht : t.val < 32 := lt_of_lt_of_eq t.isLt N_0
  have e1 : (grid0.coords t 0).val = t.val / 2 % 16 := Pipeline.Grid.coords_val t 0 (by decide) rfl
  rw [e1]; omega

variable (m : (ℓ : Loc nD τ sig) → Buf (Elt F) ℓ) (ρ : Dev nD → PrngReg)

/-- A block of rows' half cotangent. -/
def Yk (c : Dev nD) (k : ℕ) : Vec F S512x1024 .bf16 := k0_pay11 (iblk m c 0 (pt (2 * k)))
/-- A block of rows' part from the first half of the hidden columns. -/
def Ak (c : Dev nD) (k : ℕ) : Vec F S512x1024 .f32 := k0_pay2 (dgp (Yk m c k) (iblk m c 3 (pt (2 * k))) (iblk m c 4 (pt (2 * k))) (iblk m c 7 (pt (2 * k)))) (dup (Yk m c k) (iblk m c 3 (pt (2 * k))) (iblk m c 7 (pt (2 * k)))) (iblk m c 5 (pt (2 * k))) (iblk m c 6 (pt (2 * k)))
/-- A block of rows' part from the half of the hidden columns at a point. -/
def Pk (c : Dev nD) (t : Fin cfg0.N) : Vec F S512x1024 .f32 := prt (Yk m c (t.val / 2)) (iblk m c 3 t) (iblk m c 4 t) (iblk m c 5 t) (iblk m c 6 t) (iblk m c 7 t)
/-- A block of rows' own weight gradient. -/
def Dk (c : Dev nD) (t : Fin cfg0.N) : Vec F S1x1024 .f32 := k0_pay8 (Pk m c t) (Ak m c (t.val / 2)) (iblk m c 1 t)
/-- The weight gradient after a block of rows. -/
def Wk (c : Dev nD) : ℕ → Vec F S1x1024 .f32
  | 0 => Dk m c (pt 1)
  | k + 1 => k0_pay4 (Dk m c (pt (2 * (k + 1) + 1))) (Wk c k)
/-- The input's gradient at a point that writes it. -/
def Xk (c : Dev nD) (t : Fin cfg0.N) : Vec F S512x1024 .f32 := k0_pay9 (Pk m c t) (Ak m c (t.val / 2)) (iblk m c 1 t) (iblk m c 2 t) (iblk m c 0 t)

/-- What the body leaves in the five results' buffers at a point. -/
def Rl (c : Dev nD) (w : Fin cfg0.W) (t : Fin cfg0.N) (X : (cfg0.win w).block.Idx → Elt F (cfg0.win w).elt) : Prop :=
  match w, X with
  | ⟨8, _⟩, X => t.val % 2 = 1 → X = Xk m c t
  | ⟨9, _⟩, X => X = k0_pay10 (iblk m c 0 (pt (2 * (t.val / 2))))
  | ⟨10, _⟩, X => X = dgp (Yk m c (t.val / 2)) (iblk m c 3 t) (iblk m c 4 t) (iblk m c 7 t)
  | ⟨11, _⟩, X => X = dup (Yk m c (t.val / 2)) (iblk m c 3 t) (iblk m c 7 t)
  | ⟨12, _⟩, X => (t.val + 1) / 2 ≠ 0 → X = Wk m c ((t.val + 1) / 2 - 1)
  | _, _ => True

/-- The five results are known by what the body leaves. -/
def marked : Fin 13 → Bool := fun w => Nat.ble 8 w.val

/-- What is known of the scratch buffers before a point. -/
def Phi (c : Dev nD) (n : ℕ) : sProp 𝕄 :=
  iprop(iprop(∃ x15 x16, ⌜n % 2 ≠ 0 → x15 = Yk m c (n / 2) ∧ x16 = Ak m c (n / 2)⌝ ∗ owns (c : Thread nD τ) (Memref.whole cc0_scratch0) fullShare x15 ∗ owns (c : Thread nD τ) (Memref.whole cc0_scratch1) fullShare x16) ∗ (∃ r, prngReg c r))

/-- What is known around the body at every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ t := Phi m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem leaves0 (c : Dev nD) (t : Fin cfg0.N) : ((dats m 0 c).leavesExact 0 t : sProp 𝕄) = owns (c : Thread nD τ) (ms0 t) fullShare (iblk m c 0 t) := by
  unfold Dat.leavesExact; rw [show cfg0.idle 0 (grid0.coords t) = false from rfl, after0]
theorem leaves1 (c : Dev nD) (t : Fin cfg0.N) : ((dats m 0 c).leavesExact 1 t : sProp 𝕄) = owns (c : Thread nD τ) (ms1 t) fullShare (iblk m c 1 t) := by
  unfold Dat.leavesExact; rw [show cfg0.idle 1 (grid0.coords t) = false from rfl, after1]
theorem leaves2 (c : Dev nD) (t : Fin cfg0.N) : ((dats m 0 c).leavesExact 2 t : sProp 𝕄) = owns (c : Thread nD τ) (ms2 t) fullShare (iblk m c 2 t) := by
  unfold Dat.leavesExact; rw [show cfg0.idle 2 (grid0.coords t) = false from rfl, after2]
theorem leaves3 (c : Dev nD) (t : Fin cfg0.N) : ((dats m 0 c).leavesExact 3 t : sProp 𝕄) = owns (c : Thread nD τ) (ms3 t) fullShare (iblk m c 3 t) := by
  unfold Dat.leavesExact; rw [show cfg0.idle 3 (grid0.coords t) = false from rfl, after3]
theorem leaves4 (c : Dev nD) (t : Fin cfg0.N) : ((dats m 0 c).leavesExact 4 t : sProp 𝕄) = owns (c : Thread nD τ) (ms4 t) fullShare (iblk m c 4 t) := by
  unfold Dat.leavesExact; rw [show cfg0.idle 4 (grid0.coords t) = false from rfl, after4]
theorem leaves5 (c : Dev nD) (t : Fin cfg0.N) : ((dats m 0 c).leavesExact 5 t : sProp 𝕄) = owns (c : Thread nD τ) (ms5 t) fullShare (iblk m c 5 t) := by
  unfold Dat.leavesExact; rw [show cfg0.idle 5 (grid0.coords t) = false from rfl, after5]
theorem leaves6 (c : Dev nD) (t : Fin cfg0.N) : ((dats m 0 c).leavesExact 6 t : sProp 𝕄) = owns (c : Thread nD τ) (ms6 t) fullShare (iblk m c 6 t) := by
  unfold Dat.leavesExact; rw [show cfg0.idle 6 (grid0.coords t) = false from rfl, after6]
theorem leaves7 (c : Dev nD) (t : Fin cfg0.N) : ((dats m 0 c).leavesExact 7 t : sProp 𝕄) = owns (c : Thread nD τ) (ms7 t) fullShare (iblk m c 7 t) := by
  unfold Dat.leavesExact; rw [show cfg0.idle 7 (grid0.coords t) = false from rfl, after7]

/-- The rest of the core's state, with the two scratch buffers as memrefs. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

theorem Phi_in (c : Dev nD) : Pipeline.ΦA spec0 c ⊢ (Phi m c 0 : sProp 𝕄) := by
  rw [PhiA0_eq]; unfold Phi
  iintro ⟨⟨⟨%x, H0⟩, ⟨%y, H1⟩⟩, Hg⟩
  isplitr [Hg]
  · iexists x; iexists y
    isplitr
    · ipureintro; exact fun h => absurd rfl h
    isplitl [H0]; · iexact H0
    iexact H1
  iexact Hg

theorem Phi_out (c : Dev nD) (n : ℕ) : Phi m c n ⊢ (Pipeline.ΦA spec0 c : sProp 𝕄) := by
  rw [PhiA0_eq]; unfold Phi
  iintro ⟨⟨%x, %y, -, H0, H1⟩, Hg⟩
  isplitr [Hg]
  · isplitl [H0]
    · iexists x; iexact H0
    iexists y; iexact H1
  iexact Hg

/-- What a marked window's buffer holds when the point before did not write it back. -/
theorem finds_before (c : Dev nD) (w : Fin cfg0.W) (hw : marked w = true) (hf : ∀ t, (cfg0.win w).fetch t = false) (t : Fin cfg0.N) (ht : t.val ≠ 0)
    (hfl : (cfg0.win w).flush ⟨t.val - 1, Nat.lt_of_le_of_lt (Nat.sub_le _ _) t.isLt⟩ = false) (Y : (cfg0.win w).block.Idx → Elt F (cfg0.win w).elt)
    (h : ((dats m 0 c).toRRel marked (Rl m c)).Finds w t Y) : Rl m c w ⟨t.val - 1, Nat.lt_of_le_of_lt (Nat.sub_le _ _) t.isLt⟩ Y := by
  rcases (((dats m 0 c).toRRel marked (Rl m c)).finds_of_pos (hf t) ht Y).mp h with h | h
  · rw [hfl] at h; exact absurd h (by decide)
  · exact (dats m 0 c).toRRel_leaves hw h

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d))
    ∗ (∃ Y, ⌜((dats m 0 c).toRRel marked (Rl m c)).Finds 8 t Y⌝ ∗ owns (c : Thread nD τ) (ms8 t) fullShare Y) ∗ (∃ Y, ⌜((dats m 0 c).toRRel marked (Rl m c)).Finds 9 t Y⌝ ∗ owns (c : Thread nD τ) (ms9 t) fullShare Y) ∗ (∃ Y, ⌜((dats m 0 c).toRRel marked (Rl m c)).Finds 10 t Y⌝ ∗ owns (c : Thread nD τ) (ms10 t) fullShare Y) ∗ (∃ Y, ⌜((dats m 0 c).toRRel marked (Rl m c)).Finds 11 t Y⌝ ∗ owns (c : Thread nD τ) (ms11 t) fullShare Y) ∗ (∃ Y, ⌜((dats m 0 c).toRRel marked (Rl m c)).Finds 12 t Y⌝ ∗ owns (c : Thread nD τ) (ms12 t) fullShare Y))

/-- What the body returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t
    ∗ (∃ X, ⌜Rl m c 8 t X⌝ ∗ owns (c : Thread nD τ) (ms8 t) fullShare X) ∗ (∃ X, ⌜Rl m c 9 t X⌝ ∗ owns (c : Thread nD τ) (ms9 t) fullShare X) ∗ (∃ X, ⌜Rl m c 10 t X⌝ ∗ owns (c : Thread nD τ) (ms10 t) fullShare X) ∗ (∃ X, ⌜Rl m c 11 t X⌝ ∗ owns (c : Thread nD τ) (ms11 t) fullShare X) ∗ (∃ X, ⌜Rl m c 12 t X⌝ ∗ owns (c : Thread nD τ) (ms12 t) fullShare X))

theorem next15 (c : Dev nD) (t : Fin cfg0.N) (x15 : Vec F S512x1024 .bf16) (hx : t.val % 2 ≠ 0 → x15 = Yk m c (t.val / 2)) : n15 (grid0.coords t) (iblk m c 0 t) x15 = Yk m c (t.val / 2) := by
  unfold n15
  rw [coord_half]
  by_cases h : t.val % 2 = 0
  · rw [if_pos h, Yk, pt_even t h]
  · rw [if_neg h, hx h]

theorem next16 (c : Dev nD) (t : Fin cfg0.N) (x16 : Vec F S512x1024 .f32) (h : t.val % 2 = 0) : n16 (grid0.coords t) (iblk m c 0 t) (iblk m c 3 t) (iblk m c 4 t) (iblk m c 5 t) (iblk m c 6 t) (iblk m c 7 t) x16 = Ak m c (t.val / 2) := by
  unfold n16
  rw [coord_half, if_pos h, Ak, Yk, pt_even t h]

theorem next8 (c : Dev nD) (t : Fin cfg0.N) (x10 : Vec F S512x1024 .f32) (x15 : Vec F S512x1024 .bf16) (x16 : Vec F S512x1024 .f32) (hx : t.val % 2 ≠ 0 → x15 = Yk m c (t.val / 2) ∧ x16 = Ak m c (t.val / 2)) : Rl m c 8 t (n10 (grid0.coords t) (iblk m c 0 t) (iblk m c 1 t) (iblk m c 2 t) (iblk m c 3 t) (iblk m c 4 t) (iblk m c 5 t) (iblk m c 6 t) (iblk m c 7 t) x10 x15 x16) := by
  show t.val % 2 = 1 → _ = Xk m c t
  intro h
  unfold n10
  rw [coord_half, if_neg (by omega), (hx (by omega)).1, (hx (by omega)).2]
  rfl

theorem next9 (c : Dev nD) (t : Fin cfg0.N) (x11 : Vec F S512x1024 .bf16) (hY : ((dats m 0 c).toRRel marked (Rl m c)).Finds 9 t x11) : Rl m c 9 t (n11 (grid0.coords t) (iblk m c 0 t) x11) := by
  show _ = k0_pay10 (iblk m c 0 (pt (2 * (t.val / 2))))
  unfold n11
  rw [coord_half]
  by_cases h : t.val % 2 = 0
  · rw [if_pos h, pt_even t h]
  · rw [if_neg h]
    have hb := finds_before m c 9 rfl (fun t => (cfg0.win 9).fetch_out rfl t) t (by omega) (Bool.eq_false_iff.mpr fun e => by have := (flush0_9 _).mp e; simp only at this; omega) x11 hY
    refine (show x11 = k0_pay10 (iblk m c 0 (pt (2 * ((t.val - 1) / 2)))) from hb).trans ?_
    rw [show (t.val - 1) / 2 = t.val / 2 by omega]

theorem next10 (c : Dev nD) (t : Fin cfg0.N) (x15 : Vec F S512x1024 .bf16) (hx : t.val % 2 ≠ 0 → x15 = Yk m c (t.val / 2)) : Rl m c 10 t (n12 (grid0.coords t) (iblk m c 0 t) (iblk m c 3 t) (iblk m c 4 t) (iblk m c 7 t) x15) := by
  unfold n12; rw [next15 m c t x15 hx]; rfl

theorem next11 (c : Dev nD) (t : Fin cfg0.N) (x15 : Vec F S512x1024 .bf16) (hx : t.val % 2 ≠ 0 → x15 = Yk m c (t.val / 2)) : Rl m c 11 t (n13 (grid0.coords t) (iblk m c 0 t) (iblk m c 3 t) (iblk m c 7 t) x15) := by
  unfold n13; rw [next15 m c t x15 hx]; rfl

theorem next12 (c : Dev nD) (t : Fin cfg0.N) (x14 : Vec F S1x1024 .f32) (hY : ((dats m 0 c).toRRel marked (Rl m c)).Finds 12 t x14) (x15 : Vec F S512x1024 .bf16) (x16 : Vec F S512x1024 .f32) (hx : t.val % 2 ≠ 0 → x15 = Yk m c (t.val / 2) ∧ x16 = Ak m c (t.val / 2)) : Rl m c 12 t (n14 (grid0.coords t) (iblk m c 1 t) (iblk m c 3 t) (iblk m c 4 t) (iblk m c 5 t) (iblk m c 6 t) (iblk m c 7 t) x14 x15 x16) := by
  show (t.val + 1) / 2 ≠ 0 → _ = Wk m c ((t.val + 1) / 2 - 1)
  intro h0
  have ht : t.val < 32 := lt_of_lt_of_eq t.isLt N_0
  have hb : t.val ≠ 0 → (t.val - 1 + 1) / 2 ≠ 0 → x14 = Wk m c ((t.val - 1 + 1) / 2 - 1) := fun h =>
    finds_before m c 12 rfl (fun t => (cfg0.win 12).fetch_out rfl t) t h (Bool.eq_false_iff.mpr fun e => by have := (flush0_12 _).mp e; simp only at this; omega) x14 hY
  unfold n14
  rw [coord_half, coord_rows]
  by_cases h : t.val % 2 = 0
  · rw [if_pos h, hb (by omega) (by omega)]
    congr 1; omega
  · rw [if_neg h, (hx h).1, (hx h).2]
    by_cases h1 : t.val / 2 = 0
    · rw [if_pos h1, show (t.val + 1) / 2 - 1 = 0 by omega]
      have e : pt 1 = t := by have := pt_odd t h; rwa [h1] at this
      unfold Wk Dk; rw [e]; rfl
    · rw [if_neg h1, hb (by omega) (by omega)]
      obtain ⟨k, hk⟩ : ∃ k, t.val / 2 = k + 1 := ⟨t.val / 2 - 1, by omega⟩
      rw [show (t.val + 1) / 2 - 1 = k + 1 by omega, show (t.val - 1 + 1) / 2 - 1 = k by omega]
      have e : pt (2 * (k + 1) + 1) = t := by rw [← hk]; exact pt_odd t h
      conv_rhs => unfold Wk Dk; rw [e]
      rfl

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, leaves0, before1, leaves1, before2, leaves2, before3, leaves3, before4, leaves4, before5, leaves5, before6, leaves6, before7, leaves7]
  rw [show (dats m 0 c).owesAt () t.succ = (dats m 0 c).owesAt () t.castSucc from rfl]
  rw [show (dats m 0 c).Φ t.castSucc = Phi m c t.val from rfl, show (dats m 0 c).Φ t.succ = Phi m c (t.val + 1) from rfl]
  unfold Phi
  iintro ⟨⟨⟨%x15, %x16, %hx, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%x10, %hY8, H8⟩, ⟨%x11, %hY9, H9⟩, ⟨%x12, %hY10, H10⟩, ⟨%x13, %hY11, H11⟩, ⟨%x14, %hY12, H12⟩⟩
  iapply (run_point c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) x10 x11 x12 x13 x14 x15 x16 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  iintro ⟨H0, H1, H2, H3, H4, H5, H6, H7, H8, H9, H10, H11, H12, HS0, HS1⟩
  isplitl [HS0 HS1 Hg]
  · isplitl [HS0 HS1]
    · iexists _; iexists _
      isplitr; swap
      · isplitl [HS0]
        · iexact HS0
        iexact HS1
      ipureintro
      intro h
      rw [show (t.val + 1) / 2 = t.val / 2 by omega]
      exact ⟨next15 m c t x15 fun h => (hx h).1, next16 m c t x16 (by omega)⟩
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; isplitr; swap
    · iexact H8
    ipureintro; exact next8 m c t x10 x15 x16 hx
  isplitl [H9]
  · iexists _; isplitr; swap
    · iexact H9
    ipureintro; exact next9 m c t x11 hY9
  isplitl [H10]
  · iexists _; isplitr; swap
    · iexact H10
    ipureintro; exact next10 m c t x15 fun h => (hx h).1
  isplitl [H11]
  · iexists _; isplitr; swap
    · iexact H11
    ipureintro; exact next11 m c t x15 fun h => (hx h).1
  iexists _; isplitr; swap
  · iexact H12
  ipureintro; exact next12 m c t x14 hY12 x15 x16 hx

theorem defs₀_row (t : Fin cfg0.N) :
    defs₀ (F := F) .tc cfg0.body (cfg0.bodyArgs t (cfg0.slots t)) = bodyAt0 t := by
  unfold defs₀; rw [Defs.onTc_tc]

theorem body_obligation (c : Dev nD) : Pipeline.BodyObligationRel (dats (F := F) m 0 c) (defs₀ (F := F)) Variants.none () Set.univ marked (Rl m c) := fun t => by
  rw [bigSep_W0, bigSep_W0, defs₀_row]
  exact triple_restated (sound_body m c t) rfl .rfl fun _ => .rfl

set_option backward.isDefEq.respectTransparency.types false in
/-- The run: every counter is back at zero, and the arrays end at what the body left. -/
theorem run_main : θ_run defs (onTc (τ := τ) (main (F := F))) ⟨m, fun _ => 0, ρ⟩ (fun r => (Pipeline.RDat.FramePost (cfgs 0) (fun c => (dats m 0 c).toRRel marked (Rl m c)) (V m)) r ∧ r.2.sem = fun _ => 0) :=
  Pipeline.RDat.θ_run_frame_track (Q' := _) cfgs (0 : Fin 1) launch0 defs₀ Variants.none (fun c => (dats m 0 c).toRRel marked (Rl m c)) m ρ main
    (hbody := fun c => (body_obligation m c).toRRel) (hshare := fun c => Pipeline.RDat.share_full _ fun _ => rfl)
    (howed := fun _ _ => rfl) (V := V m) (hmain := hmain m Variants.none) (hA := A_eq m) (hin := Phi_in m) (hout := fun c => Phi_out m c _)

/-- The frame of the block's backward call. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1.arr_in c 1 rfl).trans ((A_eq m c 1).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      (h.1.arr_in c 0 rfl).trans ((A_eq m c 0).trans (V_main_arg5 m c))⟩, h.2⟩) (run_main m ρ)

end Cert.FfnIdeal.Hand

end
-- ==== Proof.FfnVal.lean ====
module

public import proofs.«01_k».proof.Defs
public import proofs.«01_k».proof.Proof.FfnRow
public import proofs.«01_k».proof.Proof.FfnRel
public import Idealize.ShloMosaic.Lib.Pipeline.ArrRel
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.FfnIdeal.Hand

open Cert.FfnIdeal Cert.FfnIdeal.Gen Idealize.ShloMosaic Idealize.ShloMosaic.TcCoe Idealize.SL.Sem
open Cert.K Cert.FfnRow

/-! ### The payloads at an index -/

theorem dgp_apply (y : Vec Ideal S512x1024 .bf16) (x5 x6 : Vec Ideal S512x1408 .bf16) (x9 : Vec Ideal S1408x1024 .bf16) (n : Fin 512) (f : Fin 1408) :
    dgp y x5 x6 x9 (ix2 n f) = (∑ d, y (ix2 n d) * x9 (ix2 f d)) * x6 (ix2 n f)
      * (sg (x5 (ix2 n f)) * (((1 : ℝ) : EReal) + x5 (ix2 n f) * (((1 : ℝ) : EReal) - sg (x5 (ix2 n f))))) := by
  pointwise [dgp, k0_pay15, k0_pay14, k0_pay13, k0_pay12]
  simp only [bits_one, zero_sub]
  rfl

theorem dup_apply (y : Vec Ideal S512x1024 .bf16) (x5 : Vec Ideal S512x1408 .bf16) (x9 : Vec Ideal S1408x1024 .bf16) (n : Fin 512) (f : Fin 1408) :
    dup y x5 x9 (ix2 n f) = (∑ d, y (ix2 n d) * x9 (ix2 f d)) * (x5 (ix2 n f) * sg (x5 (ix2 n f))) := by
  pointwise [dup, k0_pay16, k0_pay14, k0_pay13, k0_pay12]
  simp only [bits_one, zero_sub]
  rfl

theorem pay1_apply (g u : Vec Ideal S512x1408 .bf16) (x7 x8 : Vec Ideal S1408x1024 .bf16) (n : Fin 512) (k : Fin 1024) :
    k0_pay1 g u x7 x8 (ix2 n k) = ∑ f, g (ix2 n f) * x7 (ix2 f k) + ∑ f, u (ix2 n f) * x8 (ix2 f k) := by
  pointwise [k0_pay1]

theorem pay2_apply (g u : Vec Ideal S512x1408 .bf16) (x7 x8 : Vec Ideal S1408x1024 .bf16) (n : Fin 512) (k : Fin 1024) :
    k0_pay2 g u x7 x8 (ix2 n k) = k0_pay1 g u x7 x8 (ix2 n k) := by
  pointwise [k0_pay2]

theorem pay8_apply (p a x : Vec Ideal S512x1024 .f32) (z : Fin 1) (k : Fin 1024) :
    k0_pay8 p a x (ix2 z k) = ∑ n : Fin 512, (a (ix2 n k) + p (ix2 n k)) * (x (ix2 n k) * rms fun k => x (ix2 n k)) := by
  pointwise [k0_pay8, k0_pay5, k0_pay7, k0_pay6]
  rw [bits_1024, bits_eps]
  rfl

theorem pay9_apply (p a x : Vec Ideal S512x1024 .f32) (w : Vec Ideal S1x1024 .f32) (d : Vec Ideal S512x1024 .f32) (n : Fin 512) (k : Fin 1024) :
    k0_pay9 p a x w d (ix2 n k) = d (ix2 n k) + (rms fun k => x (ix2 n k)) *
      ((a (ix2 n k) + p (ix2 n k)) * w (ix2 0 k) - x (ix2 n k) * (rms fun k => x (ix2 n k))
        * Ideal.div (∑ j, (a (ix2 n j) + p (ix2 n j)) * w (ix2 0 j) * (x (ix2 n j) * rms fun k => x (ix2 n k))) ((1024 : ℝ) : EReal)) := by
  pointwise [k0_pay9, k0_pay5, k0_pay7, k0_pay6]
  rw [bits_1024, bits_eps]
  rfl

theorem pay10_apply (d : Vec Ideal S512x1024 .f32) (n : Fin 512) (k : Fin 1024) :
    k0_pay10 d (ix2 n k) = ((1 / 2 : ℝ) : EReal) * d (ix2 n k) := by
  pointwise [k0_pay10]
  rw [bits_half]

theorem pay11_apply (d : Vec Ideal S512x1024 .f32) (n : Fin 512) (k : Fin 1024) :
    k0_pay11 d (ix2 n k) = ((1 / 2 : ℝ) : EReal) * d (ix2 n k) := by
  pointwise [k0_pay11, k0_pay10]
  rw [bits_half]

theorem pay4_apply (a b : Vec Ideal S1x1024 .f32) (z : Fin 1) (k : Fin 1024) : k0_pay4 a b (ix2 z k) = b (ix2 z k) + a (ix2 z k) := by
  pointwise [k0_pay4]

/-! ### What the call reads -/

section
variable (m : (ℓ : Loc nD τ sig) → Buf (Elt Ideal) ℓ) (c : Dev nD)

/-- The rows as launched. -/
def aX (n : Fin 8192) (k : Fin 1024) : EReal := (show FVec Ideal S8192x1024 .f32 from m ((c : Thread nD τ).loc main_arg0)) (ix2 n k)
/-- The norm's weight as launched. -/
def aN (k : Fin 1024) : EReal := (show FVec Ideal S1024 .f32 from m ((c : Thread nD τ).loc main_arg1)) (ix1 k)
/-- The gate's weight as launched. -/
def aG (k : Fin 1024) (f : Fin 2816) : EReal := (show FVec Ideal S1024x2816 .f32 from m ((c : Thread nD τ).loc main_arg2)) (ix2 k f)
/-- The other factor's weight as launched. -/
def aU (k : Fin 1024) (f : Fin 2816) : EReal := (show FVec Ideal S1024x2816 .f32 from m ((c : Thread nD τ).loc main_arg3)) (ix2 k f)
/-- The last weight as launched. -/
def aW (f : Fin 2816) (k : Fin 1024) : EReal := (show FVec Ideal S2816x1024 .f32 from m ((c : Thread nD τ).loc main_arg4)) (ix2 f k)
/-- The cotangent as launched. -/
def aD (n : Fin 8192) (k : Fin 1024) : EReal := (show FVec Ideal S8192x1024 .f32 from m ((c : Thread nD τ).loc main_arg5)) (ix2 n k)

theorem v23_apply (z : Fin 1) (k : Fin 1024) : (show FVec Ideal S1x1024 .f32 from V m c main_v23) (ix2 z k) = aN m c k := by
  unfold V
  after_reads_simp
  pointwise [aN]

theorem v1_apply (f : Fin 2816) (k : Fin 1024) : (show FVec Ideal S2816x1024 .bf16 from V m c main_v1) (ix2 f k) = aG m c k f := by
  unfold V
  after_reads_simp
  pointwise [aG]

theorem v3_apply (f : Fin 2816) (k : Fin 1024) : (show FVec Ideal S2816x1024 .bf16 from V m c main_v3) (ix2 f k) = aU m c k f := by
  unfold V
  after_reads_simp
  pointwise [aU]

theorem v4_apply (f : Fin 2816) (k : Fin 1024) : (show FVec Ideal S2816x1024 .bf16 from V m c main_v4) (ix2 f k) = aW m c f k := by
  unfold V
  after_reads_simp
  pointwise [aW]

theorem v20_apply (n : Fin 8192) (f : Fin 2816) : (show FVec Ideal S8192x2816 .bf16 from V m c main_v20) (ix2 n f) = gf (aX m c) (aN m c) (aG m c) n f := by
  unfold V
  after_reads_simp
  pointwise
  rw [bits_1024, bits_eps]
  rfl

theorem v22_apply (n : Fin 8192) (f : Fin 2816) : (show FVec Ideal S8192x2816 .bf16 from V m c main_v22) (ix2 n f) = gf (aX m c) (aN m c) (aU m c) n f := by
  unfold V
  after_reads_simp
  pointwise
  rw [bits_1024, bits_eps]
  rfl

/-! ### The windows' blocks -/

theorem idx : ∀ t : Fin cfg0.N, win0_0.index t = ![t.val / 2, 0] ∧ win0_1.index t = ![t.val / 2, 0] ∧ win0_2.index t = ![0, 0]
    ∧ win0_3.index t = ![t.val / 2, t.val % 2] ∧ win0_4.index t = ![t.val / 2, t.val % 2] ∧ win0_5.index t = ![t.val % 2, 0]
    ∧ win0_6.index t = ![t.val % 2, 0] ∧ win0_7.index t = ![t.val % 2, 0] ∧ win0_8.index t = ![t.val / 2, 0] ∧ win0_9.index t = ![t.val / 2, 0]
    ∧ win0_10.index t = ![t.val / 2, t.val % 2] ∧ win0_11.index t = ![t.val / 2, t.val % 2] ∧ win0_12.index t = ![0, 0] :=
  (by decide +kernel : ∀ t : Fin grid0.N, _)

theorem point_lt (t : Fin cfg0.N) : t.val < 32 := lt_of_lt_of_eq t.isLt N_0

/-- A row of a block of rows. -/
def row (k : Fin 16) (n : Fin 512) : Fin 8192 := ⟨k.val * 512 + n.val, by omega⟩
/-- A hidden column of a half. -/
def cl (j : Fin 2) (f : Fin 1408) : Fin 2816 := ⟨j.val * 1408 + f.val, by omega⟩
/-- The block of rows of a point. -/
def bi (t : Fin cfg0.N) : Fin 16 := ⟨t.val / 2, by have := point_lt t; omega⟩
/-- The half of the hidden columns of a point. -/
def hi (t : Fin cfg0.N) : Fin 2 := ⟨t.val % 2, by omega⟩

section Blocks
variable (t : Fin cfg0.N)

theorem blk0 (n : Fin 512) (k : Fin 1024) : (show FVec Ideal S512x1024 .f32 from iblk m c 0 t) (ix2 n k) = aD m c (row (bi t) n) k := by
  have e : (show FVec Ideal S8192x1024 .f32 from V m c main_arg5) = m ((c : Thread nD τ).loc main_arg5) := V_main_arg5 m c
  unfold aD
  rw [← e]
  blk_ext [iblk, idx t, row, bi]

theorem blk1 (n : Fin 512) (k : Fin 1024) : (show FVec Ideal S512x1024 .f32 from iblk m c 1 t) (ix2 n k) = aX m c (row (bi t) n) k := by
  have e : (show FVec Ideal S8192x1024 .f32 from V m c main_arg0) = m ((c : Thread nD τ).loc main_arg0) := V_main_arg0 m c
  unfold aX
  rw [← e]
  blk_ext [iblk, idx t, row, bi]

theorem blk2 (z : Fin 1) (k : Fin 1024) : (show FVec Ideal S1x1024 .f32 from iblk m c 2 t) (ix2 z k) = aN m c k := by
  refine Eq.trans ?_ (v23_apply m c z k)
  blk_ext [iblk, idx t]

theorem blk3 (n : Fin 512) (f : Fin 1408) : (show FVec Ideal S512x1408 .bf16 from iblk m c 3 t) (ix2 n f) = gf (aX m c) (aN m c) (aG m c) (row (bi t) n) (cl (hi t) f) := by
  refine Eq.trans ?_ (v20_apply m c _ _)
  blk_ext [iblk, idx t, row, bi, cl, hi]

theorem blk4 (n : Fin 512) (f : Fin 1408) : (show FVec Ideal S512x1408 .bf16 from iblk m c 4 t) (ix2 n f) = gf (aX m c) (aN m c) (aU m c) (row (bi t) n) (cl (hi t) f) := by
  refine Eq.trans ?_ (v22_apply m c _ _)
  blk_ext [iblk, idx t, row, bi, cl, hi]

theorem blk5 (f : Fin 1408) (k : Fin 1024) : (show FVec Ideal S1408x1024 .bf16 from iblk m c 5 t) (ix2 f k) = aG m c k (cl (hi t) f) := by
  refine Eq.trans ?_ (v1_apply m c _ _)
  blk_ext [iblk, idx t, cl, hi]

theorem blk6 (f : Fin 1408) (k : Fin 1024) : (show FVec Ideal S1408x1024 .bf16 from iblk m c 6 t) (ix2 f k) = aU m c k (cl (hi t) f) := by
  refine Eq.trans ?_ (v3_apply m c _ _)
  blk_ext [iblk, idx t, cl, hi]

theorem blk7 (f : Fin 1408) (k : Fin 1024) : (show FVec Ideal S1408x1024 .bf16 from iblk m c 7 t) (ix2 f k) = aW m c (cl (hi t) f) k := by
  refine Eq.trans ?_ (v4_apply m c _ _)
  blk_ext [iblk, idx t, cl, hi]

end Blocks

/-! ### The results' blocks -/

/-- The gate's gradient of a run's arguments. -/
abbrev eG : Fin 8192 → Fin 2816 → EReal := dgf (aX m c) (aN m c) (aG m c) (aU m c) (aW m c) (aD m c)
/-- The other factor's gradient of a run's arguments. -/
abbrev eU : Fin 8192 → Fin 2816 → EReal := duf (aX m c) (aN m c) (aG m c) (aW m c) (aD m c)
/-- The normed rows' gradient of a run's arguments. -/
abbrev eH : Fin 8192 → Fin 1024 → EReal := dhf (aX m c) (aN m c) (aG m c) (aU m c) (aW m c) (aD m c)
/-- A half's part of the normed rows' gradient. -/
def hp (j : Fin 2) (n : Fin 8192) (k : Fin 1024) : EReal :=
  ∑ f, eG m c n (cl j f) * aG m c k (cl j f) + ∑ f, eU m c n (cl j f) * aU m c k (cl j f)

theorem halves (n : Fin 8192) (k : Fin 1024) : hp m c 0 n k + hp m c 1 n k = eH m c n k := by
  unfold hp
  show _ = ∑ f, eG m c n f * aG m c k f + ∑ f, eU m c n f * aU m c k f
  rw [sum_blocks (a := 2) (b := 1408) rfl (fun f => eG m c n f * aG m c k f), sum_blocks (a := 2) (b := 1408) rfl (fun f => eU m c n f * aU m c k f),
    Fin.sum_univ_two, Fin.sum_univ_two]
  exact add_add_add_comm _ _ _ _

section Points
variable (t : Fin cfg0.N)

theorem bi_even : bi (pt (2 * (t.val / 2))) = bi t := by
  have := point_lt t
  apply Fin.ext; show 2 * (t.val / 2) % 32 / 2 = t.val / 2; omega

theorem hi_even : hi (pt (2 * (t.val / 2))) = 0 := by
  apply Fin.ext; show 2 * (t.val / 2) % 32 % 2 = 0; omega

theorem Yk_apply (n : Fin 512) (d : Fin 1024) : Yk m c (t.val / 2) (ix2 n d) = ((1 / 2 : ℝ) : EReal) * aD m c (row (bi t) n) d := by
  unfold Yk
  rw [pay11_apply, ← bi_even t]
  exact congrArg (_ * ·) (blk0 m c _ n d)

theorem da_apply (u : Fin cfg0.N) (hu : bi u = bi t) (n : Fin 512) (f : Fin 1408) :
    (∑ d, Yk m c (t.val / 2) (ix2 n d) * (show FVec Ideal S1408x1024 .bf16 from iblk m c 7 u) (ix2 f d)) = daf (aW m c) (aD m c) (row (bi u) n) (cl (hi u) f) :=
  Finset.sum_congr rfl fun d _ => Ideal.mul_congr ((Yk_apply m c t n d).trans (by rw [hu])) (blk7 m c u f d)

theorem dg_pt (u : Fin cfg0.N) (hu : bi u = bi t) (n : Fin 512) (f : Fin 1408) :
    dgp (F := Ideal) (Yk m c (t.val / 2)) (iblk m c 3 u) (iblk m c 4 u) (iblk m c 7 u) (ix2 n f) = eG m c (row (bi u) n) (cl (hi u) f) := by
  refine (dgp_apply _ _ _ _ n f).trans ?_
  refine Ideal.mul_congr (Ideal.mul_congr (da_apply m c t u hu n f) (blk4 m c u n f)) ?_
  exact congrArg (fun x => sg x * ((1 : ℝ) + x * ((1 : ℝ) - sg x))) (blk3 m c u n f)

theorem du_pt (u : Fin cfg0.N) (hu : bi u = bi t) (n : Fin 512) (f : Fin 1408) :
    dup (F := Ideal) (Yk m c (t.val / 2)) (iblk m c 3 u) (iblk m c 7 u) (ix2 n f) = eU m c (row (bi u) n) (cl (hi u) f) := by
  refine (dup_apply _ _ _ n f).trans ?_
  refine Ideal.mul_congr (da_apply m c t u hu n f) ?_
  exact congrArg (fun x => x * sg x) (blk3 m c u n f)

theorem part_apply (u : Fin cfg0.N) (hu : bi u = bi t) (n : Fin 512) (k : Fin 1024) :
    prt (F := Ideal) (Yk m c (t.val / 2)) (iblk m c 3 u) (iblk m c 4 u) (iblk m c 5 u) (iblk m c 6 u) (iblk m c 7 u) (ix2 n k) = hp m c (hi u) (row (bi u) n) k := by
  unfold prt
  refine (pay1_apply _ _ _ _ n k).trans (Ideal.add_congr ?_ ?_)
  · exact Finset.sum_congr rfl fun f _ => Ideal.mul_congr (dg_pt m c t u hu n f) (blk5 m c u f k)
  · exact Finset.sum_congr rfl fun f _ => Ideal.mul_congr (du_pt m c t u hu n f) (blk6 m c u f k)

theorem Ak_apply (n : Fin 512) (k : Fin 1024) : Ak m c (t.val / 2) (ix2 n k) = hp m c 0 (row (bi t) n) k := by
  unfold Ak
  refine (pay2_apply _ _ _ _ n k).trans ((part_apply m c t (pt (2 * (t.val / 2))) (bi_even t) n k).trans ?_)
  rw [hi_even, bi_even]

theorem Pk_apply (n : Fin 512) (k : Fin 1024) : Pk m c t (ix2 n k) = hp m c (hi t) (row (bi t) n) k := part_apply m c t t rfl n k

variable (h : t.val % 2 = 1)
include h

theorem dh_pt (n : Fin 512) (k : Fin 1024) : Ak m c (t.val / 2) (ix2 n k) + Pk m c t (ix2 n k) = eH m c (row (bi t) n) k := by
  rw [Ak_apply, Pk_apply, show hi t = 1 from Fin.ext h, halves]

theorem rms_pt (n : Fin 512) : (rms fun k => (show FVec Ideal S512x1024 .f32 from iblk m c 1 t) (ix2 n k)) = rms (aX m c (row (bi t) n)) :=
  congrArg rms (funext fun k => blk1 m c t n k)

theorem Xk_apply (n : Fin 512) (k : Fin 1024) : Xk m c t (ix2 n k) = dxf (aX m c) (aN m c) (aG m c) (aU m c) (aW m c) (aD m c) (row (bi t) n) k := by
  unfold Xk
  refine (pay9_apply _ _ _ _ _ n k).trans (Ideal.add_congr (blk0 m c t n k) (Ideal.mul_congr (rms_pt m c t h n) ?_))
  refine congrArg₂ (· - ·) (Ideal.mul_congr (dh_pt m c t h n k) (blk2 m c t 0 k)) ?_
  refine Ideal.mul_congr (Ideal.mul_congr (blk1 m c t n k) (rms_pt m c t h n)) (congrArg (Ideal.div · _) ?_)
  exact Finset.sum_congr rfl fun j _ => Ideal.mul_congr (Ideal.mul_congr (dh_pt m c t h n j) (blk2 m c t 0 j)) (Ideal.mul_congr (blk1 m c t n j) (rms_pt m c t h n))

theorem Dk_apply (z : Fin 1) (k : Fin 1024) : Dk m c t (ix2 z k) = ∑ n, eH m c (row (bi t) n) k * (aX m c (row (bi t) n) k * rms (aX m c (row (bi t) n))) := by
  unfold Dk
  refine (pay8_apply _ _ _ z k).trans (Finset.sum_congr rfl fun n _ => ?_)
  exact Ideal.mul_congr (dh_pt m c t h n k) (Ideal.mul_congr (blk1 m c t n k) (rms_pt m c t h n))

end Points

/-- A block of rows' part of the weight's gradient. -/
def wp (k : Fin 1024) (i : Fin 16) : EReal := ∑ n, eH m c (row i n) k * (aX m c (row i n) k * rms (aX m c (row i n)))

theorem Wk_apply (z : Fin 1) (k : Fin 1024) (j : ℕ) (hj : j < 16) : Wk m c j (ix2 z k) = ∑ i ∈ Finset.range (j + 1), wp m c k ⟨i % 16, by omega⟩ := by
  have e : ∀ j, j < 16 → Dk m c (pt (2 * j + 1)) (ix2 z k) = wp m c k ⟨j % 16, by omega⟩ := by
    intro j hj
    rw [Dk_apply m c _ (by show (2 * j + 1) % 32 % 2 = 1; omega), show bi (pt (2 * j + 1)) = ⟨j % 16, by omega⟩ from Fin.ext (by show (2 * j + 1) % 32 / 2 = j % 16; omega)]
    rfl
  induction j with
  | zero => rw [Finset.sum_range_one]; exact e 0 hj
  | succ j ih =>
    unfold Wk
    rw [pay4_apply, Finset.sum_range_succ, e (j + 1) hj, ih (by omega) e]

theorem W_last (z : Fin 1) (k : Fin 1024) : Wk m c 15 (ix2 z k) = dnf (aX m c) (aN m c) (aG m c) (aU m c) (aW m c) (aD m c) k := by
  rw [Wk_apply m c z k 15 (by omega), Finset.sum_range]
  unfold dnf
  rw [sum_blocks (a := 16) (b := 512) rfl]
  exact Finset.sum_congr rfl fun i _ => congrArg (wp m c k) (Fin.ext (Nat.mod_eq_of_lt i.isLt))

/-! ### The results -/

/-- The rows' gradient. -/
def rX : FVec Ideal S8192x1024 .f32 := fun i => dxf (aX m c) (aN m c) (aG m c) (aU m c) (aW m c) (aD m c) (i 0) (i 1)
/-- Half the result's gradient. -/
def rY : FVec Ideal S8192x1024 .bf16 := fun i => ((1 / 2 : ℝ) : EReal) * aD m c (i 0) (i 1)
/-- The gate's gradient. -/
def rG : FVec Ideal S8192x2816 .bf16 := fun i => eG m c (i 0) (i 1)
/-- The other factor's gradient. -/
def rU : FVec Ideal S8192x2816 .bf16 := fun i => eU m c (i 0) (i 1)
/-- The norm weight's gradient. -/
def rN : FVec Ideal S1x1024 .f32 := fun i => dnf (aX m c) (aN m c) (aG m c) (aU m c) (aW m c) (aD m c) (i 1)

section Final
variable {m} {c}
variable (after : (w' : Fin cfg0.W) → Fin cfg0.N → (cfg0.win w').block.Idx → Elt Ideal (cfg0.win w').elt)
  (hl : ∀ (w : Fin cfg0.W) (u : Fin cfg0.N), (cfg0.win w).flush u = true → ((dats m 0 c).toRRel marked (Rl m c)).Leaves w u (after w u))

include hl

theorem final8 : ((((dats m 0 c).toRRel marked (Rl m c)).withAfter after).arrAt 8 cfg0.N) = rX m c := by
  refine Pipeline.Dat.arrAt_eq_of_covers _ 8 _ (by decide +kernel) fun t hf y => ?_
  have hx : Rl m c 8 t (after 8 t) := (dats m 0 c).toRRel_leaves rfl (hl 8 t hf)
  have h1 := (flush0_8 t).1 hf
  have hx' : after 8 t = Xk m c t := hx h1
  have key : after 8 t y = rX m c (ix2 (row (bi t) (y 0)) (y 1)) := by
    rw [hx']
    exact (congrArg (Xk m c t) (eq_ix2 (n0 := 512) (n1 := 1024) y)).trans (Xk_apply m c t h1 (y 0) (y 1))
  blk_simp
  refine key.trans ?_
  generalize rX m c = A
  blk_ext [idx t, row, bi]

theorem final9 : ((((dats m 0 c).toRRel marked (Rl m c)).withAfter after).arrAt 9 cfg0.N) = rY m c := by
  refine Pipeline.Dat.arrAt_eq_of_covers _ 9 _ (by decide +kernel) fun t hf y => ?_
  have hx' : after 9 t = k0_pay10 (iblk m c 0 (pt (2 * (t.val / 2)))) := (dats m 0 c).toRRel_leaves rfl (hl 9 t hf)
  have key : after 9 t y = rY m c (ix2 (row (bi t) (y 0)) (y 1)) := by
    rw [hx']
    exact (congrArg (k0_pay10 (F := Ideal) (iblk m c 0 (pt (2 * (t.val / 2))))) (eq_ix2 (n0 := 512) (n1 := 1024) y)).trans ((pay10_apply _ (y 0) (y 1)).trans (congrArg (_ * ·) ((blk0 m c _ (y 0) (y 1)).trans (by rw [bi_even]; rfl))))
  blk_simp
  refine key.trans ?_
  generalize rY m c = A
  blk_ext [idx t, row, bi]

theorem final10 : ((((dats m 0 c).toRRel marked (Rl m c)).withAfter after).arrAt 10 cfg0.N) = rG m c := by
  refine Pipeline.Dat.arrAt_eq_of_covers _ 10 _ (by decide +kernel) fun t hf y => ?_
  have hx' : after 10 t = dgp (F := Ideal) (Yk m c (t.val / 2)) (iblk m c 3 t) (iblk m c 4 t) (iblk m c 7 t) := (dats m 0 c).toRRel_leaves rfl (hl 10 t hf)
  have key : after 10 t y = rG m c (ix2 (row (bi t) (y 0)) (cl (hi t) (y 1))) := by
    rw [hx']
    exact (congrArg (dgp (F := Ideal) (Yk m c (t.val / 2)) (iblk m c 3 t) (iblk m c 4 t) (iblk m c 7 t)) (eq_ix2 (n0 := 512) (n1 := 1408) y)).trans (dg_pt m c t t rfl (y 0) (y 1))
  blk_simp
  refine key.trans ?_
  generalize rG m c = A
  blk_ext [idx t, row, bi, cl, hi]

theorem final11 : ((((dats m 0 c).toRRel marked (Rl m c)).withAfter after).arrAt 11 cfg0.N) = rU m c := by
  refine Pipeline.Dat.arrAt_eq_of_covers _ 11 _ (by decide +kernel) fun t hf y => ?_
  have hx' : after 11 t = dup (F := Ideal) (Yk m c (t.val / 2)) (iblk m c 3 t) (iblk m c 7 t) := (dats m 0 c).toRRel_leaves rfl (hl 11 t hf)
  have key : after 11 t y = rU m c (ix2 (row (bi t) (y 0)) (cl (hi t) (y 1))) := by
    rw [hx']
    exact (congrArg (dup (F := Ideal) (Yk m c (t.val / 2)) (iblk m c 3 t) (iblk m c 7 t)) (eq_ix2 (n0 := 512) (n1 := 1408) y)).trans (du_pt m c t t rfl (y 0) (y 1))
  blk_simp
  refine key.trans ?_
  generalize rU m c = A
  blk_ext [idx t, row, bi, cl, hi]

theorem final12 : ((((dats m 0 c).toRRel marked (Rl m c)).withAfter after).arrAt 12 cfg0.N) = rN m c := by
  refine Pipeline.Dat.arrAt_eq_of_covers _ 12 _ (by decide +kernel) fun t hf y => ?_
  have hx : Rl m c 12 t (after 12 t) := (dats m 0 c).toRRel_leaves rfl (hl 12 t hf)
  have h31 := (flush0_12 t).1 hf
  have hx' : after 12 t = Wk m c 15 := by
    refine (hx (by omega)).trans ?_
    congr 1; have := point_lt t; omega
  have key : after 12 t y = rN m c (ix2 (y 0) (y 1)) := by
    rw [hx']
    exact (congrArg (Wk m c 15) (eq_ix2 (n0 := 1) (n1 := 1024) y)).trans (W_last m c (y 0) (y 1))
  blk_simp
  refine key.trans ?_
  generalize rN m c = A
  blk_ext [idx t]

end Final

end

end Cert.FfnIdeal.Hand

end
-- ==== Proof.FfnRef.lean ====
module

public import proofs.«01_k».proof.Proof.FfnRow
public import proofs.«01_k».proof.Proof.Gen.FfnRefIdeal.Run
public import proofs.«01_k».proof.Proof.Gen.FfnRefIdeal.Read
public import Idealize.ShloMosaic.Lib.Pipeline.ValueKit
public import Idealize.ShloMosaic.Lib.Pointwise

@[expose] public section

set_option maxRecDepth 16384

noncomputable section

/-! The reference's five results, read at an index. -/

namespace Cert.FfnRefIdeal.Hand

open Cert.FfnRefIdeal Cert.FfnRefIdeal.Gen Cert.FfnRefIdeal.Read Idealize.ShloMosaic Idealize.ShloMosaic.TcCoe Idealize.SL.Sem
open Cert.K Cert.FfnRow

variable (x0 : FVec Ideal S8192x1024 .f32) (x1 : FVec Ideal S1024 .f32) (x2 x3 : FVec Ideal S1024x2816 .f32) (x4 : FVec Ideal S2816x1024 .f32) (x5 : FVec Ideal S8192x1024 .f32)

/-- An array by its two coordinates. -/
abbrev two {a b : ℕ} (x : (⟨2, ![a, b]⟩ : Shape).Idx → EReal) (n : Fin a) (k : Fin b) : EReal := x (ix2 n k)
/-- An array by its coordinate. -/
abbrev one {a : ℕ} (x : (⟨1, ![a]⟩ : Shape).Idx → EReal) (n : Fin a) : EReal := x (ix1 n)

theorem v12_apply (n : Fin 8192) (k : Fin 1024) : val_main_v12 (F := Ideal) x0 x1 (ix2 n k) = hf (two x0) (one x1) n k := by
  pointwise [val_main_v0, val_main_cst, val_main_v1, val_main_v2, val_main_cst_0, val_main_v3, val_main_v4, val_main_cst_1, val_main_v5, val_main_v6, val_main_v7, val_main_v8, val_main_v9, val_main_v10, val_main_v11, val_main_v12]
  rw [bits_1024, bits_eps]
  rfl

theorem v13_apply (n : Fin 8192) (f : Fin 2816) : val_main_v13 (F := Ideal) x0 x1 x2 (ix2 n f) = gf (two x0) (one x1) (two x2) n f := by
  pointwise [val_main_v13]
  exact Finset.sum_congr rfl fun k _ => Ideal.mul_congr (v12_apply x0 x1 n k) rfl

theorem v14_apply (n : Fin 8192) (f : Fin 2816) : val_main_v14 (F := Ideal) x0 x1 x3 (ix2 n f) = gf (two x0) (one x1) (two x3) n f := v13_apply x0 x1 x3 n f

theorem v56_eq : val_main_v56 (F := Ideal) x5 = x5 := by
  funext i
  refine (congrArg _ (eq_ix2 (n0 := 8192) (n1 := 1024) i)).trans (Eq.trans ?_ (congrArg x5 (eq_ix2 (n0 := 8192) (n1 := 1024) i)).symm)
  pointwise [val_main_v56]

theorem v59_eq : val_main_v59 (F := Ideal) x4 x5 = val_main_v22 (F := Ideal) x4 x5 := by
  unfold val_main_v59 val_main_v58
  rw [v56_eq]
  rfl

theorem v60_eq : val_main_v60 (F := Ideal) x0 x1 x2 x4 x5 = val_main_v23 (F := Ideal) x0 x1 x2 x4 x5 := by
  unfold val_main_v60
  rw [v59_eq]
  rfl

theorem v63_eq : val_main_v63 (F := Ideal) x0 x1 x2 x3 x4 x5 = val_main_v25 (F := Ideal) x0 x1 x2 x3 x4 x5 := by
  unfold val_main_v63 val_main_call3_v2 val_main_call3_v1 val_main_call3_v0 val_main_v61
  rw [v59_eq]
  rfl

theorem v22_apply (n : Fin 8192) (f : Fin 2816) : val_main_v22 (F := Ideal) x4 x5 (ix2 n f) = daf (two x4) (two x5) n f := by
  pointwise [val_main_v22, val_main_v21, val_main_v20, val_main_cst_3]
  rw [bits_half]
  rfl

theorem sg_apply (n : Fin 8192) (f : Fin 2816) : val_main_v15_2 (F := Ideal) x0 x1 x2 (ix2 n f) = sg (gf (two x0) (one x1) (two x2) n f) := by
  pointwise [val_main_v15_2, val_main_call0_v4, val_main_call0_cst_0, val_main_call0_v3, val_main_call0_v2, val_main_call0_cst, val_main_call0_v1, val_main_call0_v0]
  rw [v13_apply]
  rfl

theorem du_apply (n : Fin 8192) (f : Fin 2816) : val_main_v23 (F := Ideal) x0 x1 x2 x4 x5 (ix2 n f) = duf (two x0) (one x1) (two x2) (two x4) (two x5) n f := by
  pointwise [val_main_v23, val_main_v15_0]
  rw [sg_apply, v13_apply, v22_apply]
  exact mul_comm _ _

section
variable (h0 : ∀ n k, ∃ r : ℝ, two x0 n k = r) (h1 : ∀ k, ∃ r : ℝ, one x1 k = r) (h2 : ∀ k f, ∃ r : ℝ, two x2 k f = r) (h3 : ∀ k f, ∃ r : ℝ, two x3 k f = r)
  (h4 : ∀ f k, ∃ r : ℝ, two x4 f k = r) (h5 : ∀ n k, ∃ r : ℝ, two x5 n k = r)

include h0 h1 h2 in
theorem gf_real (n : Fin 8192) (f : Fin 2816) : ∃ r : ℝ, gf (two x0) (one x1) (two x2) n f = r :=
  real_sum fun k => real_mul (real_mul (real_mul (h0 n k) (rms_real _)) (h1 k)) (h2 k f)

include h4 h5 in
theorem daf_real (n : Fin 8192) (f : Fin 2816) : ∃ r : ℝ, daf (two x4) (two x5) n f = r :=
  real_sum fun k => real_mul (real_mul ⟨_, rfl⟩ (h5 n k)) (h4 f k)

include h0 h1 h2 h3 h4 h5

theorem dg_apply (n : Fin 8192) (f : Fin 2816) : val_main_v25 (F := Ideal) x0 x1 x2 x3 x4 x5 (ix2 n f) = dgf (two x0) (one x1) (two x2) (two x3) (two x4) (two x5) n f := by
  pointwise [val_main_v25, val_main_call1_v2, val_main_call1_v1, val_main_call1_v0, val_main_v24, val_main_v15_1, val_main_call0_v7, val_main_call0_v6, val_main_call0_cst_1]
  rw [sg_apply, v13_apply, v22_apply, v14_apply]
  exact gate_eq (gf_real x0 x1 x2 h0 h1 h2 n f) (real_mul (daf_real x4 x5 h4 h5 n f) (gf_real x0 x1 x3 h0 h1 h3 n f))

theorem dh_apply (n : Fin 8192) (k : Fin 1024) : val_main_v65 (F := Ideal) x0 x1 x2 x3 x4 x5 (ix2 n k) = dhf (two x0) (one x1) (two x2) (two x3) (two x4) (two x5) n k := by
  pointwise [val_main_v65, val_main_v64, val_main_v62]
  rw [v60_eq, v63_eq]
  refine (add_comm _ _).trans (Ideal.add_congr ?_ ?_)
  · exact Finset.sum_congr rfl fun f _ => Ideal.mul_congr (dg_apply x0 x1 x2 x3 x4 x5 h0 h1 h2 h3 h4 h5 n f) rfl
  · exact Finset.sum_congr rfl fun f _ => Ideal.mul_congr (du_apply x0 x1 x2 x4 x5 n f) rfl

theorem dx_apply (n : Fin 8192) (k : Fin 1024) : val_main_v86 (F := Ideal) x0 x1 x2 x3 x4 x5 (ix2 n k) = dxf (two x0) (one x1) (two x2) (two x3) (two x4) (two x5) n k := by
  pointwise [val_main_v32, val_main_cst_7, val_main_v33, val_main_v34, val_main_cst_8, val_main_v35, val_main_v36, val_main_cst_9, val_main_v37, val_main_v38, val_main_v39, val_main_v40, val_main_cst_10, val_main_v41, val_main_v42, val_main_v45, val_main_v69, val_main_v70, val_main_v72, val_main_cst_15, val_main_v73, val_main_v74, val_main_v75, val_main_v76, val_main_v77, val_main_v78, val_main_cst_16, val_main_v79, val_main_v80, val_main_cst_17, val_main_v81, val_main_v82, val_main_v83, val_main_v84, val_main_v85, val_main_v86]
  simp only [bits_1024, bits_eps, bits_neg_half, Finset.univ_unique, Finset.sum_singleton, dh_apply x0 x1 x2 x3 x4 x5 h0 h1 h2 h3 h4 h5]
  exact (norm_row (two x0 n) (fun k => dhf (two x0) (one x1) (two x2) (two x3) (two x4) (two x5) n k * one x1 k) (two x5 n k) k).symm

theorem dn_apply (z : Fin 1) (k : Fin 1024) : val_main_v90 (F := Ideal) x0 x1 x2 x3 x4 x5 (ix2 z k) = dnf (two x0) (one x1) (two x2) (two x3) (two x4) (two x5) k := by
  pointwise [val_main_v90, val_main_v71, val_main_cst_14, val_main_v68, val_main_v67, val_main_cst_13, val_main_v66, val_main_v44, val_main_v43, val_main_v39, val_main_v38, val_main_v37, val_main_cst_9, val_main_v36, val_main_v35, val_main_cst_8, val_main_v34, val_main_v33, val_main_cst_7, val_main_v32]
  simp only [bits_1024, bits_eps, Finset.univ_unique, Finset.sum_singleton, dh_apply x0 x1 x2 x3 x4 x5 h0 h1 h2 h3 h4 h5]
  unfold dnf rms
  exact Finset.sum_congr rfl fun n _ => mul_comm _ _

end

theorem dy_apply (n : Fin 8192) (k : Fin 1024) : val_main_v87 (F := Ideal) x5 (ix2 n k) = ((1 / 2 : ℝ) : EReal) * two x5 n k := by
  pointwise [val_main_v87, val_main_v31, val_main_v30, val_main_cst_6]
  rw [bits_half]

theorem dg16_apply (i) : val_main_v88 (F := Ideal) x0 x1 x2 x3 x4 x5 i = val_main_v25 (F := Ideal) x0 x1 x2 x3 x4 x5 i := by
  pointwise [val_main_v88]

theorem du16_apply (i) : val_main_v89 (F := Ideal) x0 x1 x2 x4 x5 i = val_main_v23 (F := Ideal) x0 x1 x2 x4 x5 i := by
  pointwise [val_main_v89]

end Cert.FfnRefIdeal.Hand

end
-- ==== Proof.FfnGrad.lean ====
module

public import proofs.«01_k».proof.Defs
public import proofs.«01_k».proof.Proof.FfnVal
public import proofs.«01_k».proof.Proof.FfnRef
public import Idealize.ShloMosaic.Lib.Pipeline.ArrRel
public import Idealize.ShloMosaic.Lib.Pointwise
public import Idealize.ShloMosaic.Lib.Claim

@[expose] public section

set_option maxRecDepth 16384

noncomputable section

/-! The block's backward call: what the kernel's run ends with is what the reference's run ends with, at finite arguments. -/

namespace Cert.Proof.FfnGrad

open Idealize.ShloMosaic Idealize.ShloMosaic.TcCoe Idealize.SL.Sem Cert.K Cert.FfnRow

/-- The shapes the precondition's operations need. -/
instance preFacts : Cert.Pre_ffn_finite.Facts where
  bcast_S_S8192x1024 := by decide
  bcast_S_S1024 := by decide
  bcast_S_S1024x2816 := by decide
  bcast_S_S2816x1024 := by decide

section Reals
open Cert.Pre_ffn_finite Cert.FfnRefIdeal.Hand
variable (x0 : FVec Ideal S8192x1024 .f32) (x1 : FVec Ideal S1024 .f32) (x2 x3 : FVec Ideal S1024x2816 .f32) (x4 : FVec Ideal S2816x1024 .f32) (x5 : FVec Ideal S8192x1024 .f32)

theorem real0 (h : (fn x0 x1 x2 x3 x4 x5).1 = fun _ => 1#1) (n : Fin 8192) (k : Fin 1024) : ∃ r : ℝ, two x0 n k = r := by
  refine real_of_finite (Eq.trans ?_ (congrFun h (ix2 n k)))
  pointwise [fn]

theorem real1 (h : (fn x0 x1 x2 x3 x4 x5).2.1 = fun _ => 1#1) (k : Fin 1024) : ∃ r : ℝ, one x1 k = r := by
  refine real_of_finite (Eq.trans ?_ (congrFun h (ix1 k)))
  pointwise [fn]

theorem real2 (h : (fn x0 x1 x2 x3 x4 x5).2.2.1 = fun _ => 1#1) (n : Fin 1024) (k : Fin 2816) : ∃ r : ℝ, two x2 n k = r := by
  refine real_of_finite (Eq.trans ?_ (congrFun h (ix2 n k)))
  pointwise [fn]

theorem real3 (h : (fn x0 x1 x2 x3 x4 x5).2.2.2.1 = fun _ => 1#1) (n : Fin 1024) (k : Fin 2816) : ∃ r : ℝ, two x3 n k = r := by
  refine real_of_finite (Eq.trans ?_ (congrFun h (ix2 n k)))
  pointwise [fn]

theorem real4 (h : (fn x0 x1 x2 x3 x4 x5).2.2.2.2.1 = fun _ => 1#1) (n : Fin 2816) (k : Fin 1024) : ∃ r : ℝ, two x4 n k = r := by
  refine real_of_finite (Eq.trans ?_ (congrFun h (ix2 n k)))
  pointwise [fn]

theorem real5 (h : (fn x0 x1 x2 x3 x4 x5).2.2.2.2.2 = fun _ => 1#1) (n : Fin 8192) (k : Fin 1024) : ∃ r : ℝ, two x5 n k = r := by
  refine real_of_finite (Eq.trans ?_ (congrFun h (ix2 n k)))
  pointwise [fn]

end Reals

/-- The reference keeps its arguments and declares no semaphore. -/
theorem refFrame : Cert.quiescent_FfnRefIdeal := fun m g _ =>
  (θ_run Cert.FfnRefIdeal.defs _ _).mono (fun r h => ⟨fun c => (h c).2.2.2.2.2, sem_eq_zero_of_no_sems (by decide) r.2⟩)
    (Cert.FfnRefIdeal.Value.run (F := Ideal) m g)

open Cert.FfnIdeal Cert.FfnIdeal.Gen Cert.FfnIdeal.Hand in
/-- What the kernel's run ends with. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v24_0) = rX m c
      ∧ r.2.mem ((c.tc : Thread nD τ).loc main_v24_1) = rY m c
      ∧ r.2.mem ((c.tc : Thread nD τ).loc main_v24_2) = rG m c
      ∧ r.2.mem ((c.tc : Thread nD τ).loc main_v24_3) = rU m c
      ∧ r.2.mem ((c.tc : Thread nD τ).loc main_v24_4) = rN m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => by
    obtain ⟨after, hl, ha⟩ := h.1.exists_exact c
    exact ⟨(ha 8).trans (final8 after hl), (ha 9).trans (final9 after hl), (ha 10).trans (final10 after hl), (ha 11).trans (final11 after hl), (ha 12).trans (final12 after hl),
      (h.1.arr_in c 1 rfl).trans ((A_eq m c 1).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      (h.1.arr_in c 0 rfl).trans ((A_eq m c 0).trans (V_main_arg5 m c))⟩) (run_main m ρ)

open Cert.FfnRefIdeal in
/-- What the reference's run ends with. -/
theorem ref_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v86) = Read.val_main_v86 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v87) = Read.val_main_v87 (F := Ideal) (m ((c.tc : Thread nD τ).loc main_arg5))
      ∧ r.2.mem ((c.tc : Thread nD τ).loc main_v88) = Read.val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v89) = Read.val_main_v89 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))
      ∧ r.2.mem ((c.tc : Thread nD τ).loc main_v90) = Read.val_main_v90 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (Read.val_main_v86_eq m c), (h c).2.1.trans (Read.val_main_v87_eq _), (h c).2.2.1.trans (Read.val_main_v88_eq m c),
    (h c).2.2.2.1.trans (Read.val_main_v89_eq _ _ _ _ _), (h c).2.2.2.2.1.trans (Read.val_main_v90_eq m c), (h c).2.2.2.2.2⟩)
    (Value.run (F := Ideal) m ρ)

section Match
open Cert.FfnIdeal Cert.FfnIdeal.Hand Cert.FfnRefIdeal.Hand Cert.FfnRefIdeal.Read

variable (m : (ℓ : Loc nD τ sig) → Buf (Elt Ideal) ℓ) (h : Cert.Pre_FfnIdeal_ffn_finite m) (c : Dev nD)
include h

theorem eqX : val_main_v86 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = rX m c := by
  obtain ⟨p0, p1, p2, p3, p4, p5⟩ := h c
  funext i
  rw [eq_ix2 (n0 := 8192) (n1 := 1024) i]
  exact dx_apply _ _ _ _ _ _ (real0 _ _ _ _ _ _ p0) (real1 _ _ _ _ _ _ p1) (real2 _ _ _ _ _ _ p2) (real3 _ _ _ _ _ _ p3) (real4 _ _ _ _ _ _ p4) (real5 _ _ _ _ _ _ p5) _ _

theorem eqG : val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = rG m c := by
  obtain ⟨p0, p1, p2, p3, p4, p5⟩ := h c
  funext i
  refine (dg16_apply _ _ _ _ _ _ i).trans ?_
  rw [eq_ix2 (n0 := 8192) (n1 := 2816) i]
  exact dg_apply _ _ _ _ _ _ (real0 _ _ _ _ _ _ p0) (real1 _ _ _ _ _ _ p1) (real2 _ _ _ _ _ _ p2) (real3 _ _ _ _ _ _ p3) (real4 _ _ _ _ _ _ p4) (real5 _ _ _ _ _ _ p5) _ _

theorem eqN : val_main_v90 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = rN m c := by
  obtain ⟨p0, p1, p2, p3, p4, p5⟩ := h c
  funext i
  rw [eq_ix2 (n0 := 1) (n1 := 1024) i]
  exact dn_apply _ _ _ _ _ _ (real0 _ _ _ _ _ _ p0) (real1 _ _ _ _ _ _ p1) (real2 _ _ _ _ _ _ p2) (real3 _ _ _ _ _ _ p3) (real4 _ _ _ _ _ _ p4) (real5 _ _ _ _ _ _ p5) _ _

omit h
theorem eqU : val_main_v89 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) = rU m c := by
  funext i
  refine (du16_apply _ _ _ _ _ i).trans ?_
  rw [eq_ix2 (n0 := 8192) (n1 := 2816) i]
  exact du_apply _ _ _ _ _ _ _

theorem eqY : val_main_v87 (F := Ideal) (m ((c.tc : Thread nD τ).loc main_arg5)) = rY m c := by
  funext i
  rw [eq_ix2 (n0 := 8192) (n1 := 1024) i]
  exact dy_apply _ _ _

end Match

/-- Kernel and reference end with the same gradients whenever what they read is finite. -/
theorem algebraic : Cert.algebraic_FfnIdeal_FfnRefIdeal_pre_ffn_finite := by
  intro m g m' g' hpre hagree
  refine ⟨_, _, _, _, _, run_value m g, (θ_run Cert.FfnRefIdeal.defs _ _).mono (fun r h c => ?_) (ref_value m' g')⟩
  obtain ⟨a0, a1, a2, a3, a4, a5⟩ := hagree c
  obtain ⟨h0, h1, h2, h3, h4, hk⟩ := h c
  rw [a0, a1, a2, a3, a4, a5] at h0 h2 h4
  rw [a5] at h1
  rw [a0, a1, a2, a4, a5] at h3
  exact ⟨h0.trans (eqX m hpre c), h1.trans (eqY m c), h2.trans (eqG m hpre c), h3.trans (eqU m c), h4.trans (eqN m hpre c), hk⟩

end Cert.Proof.FfnGrad

end
-- ==== Proof.FfnFwdFrame.lean ====
module

public import proofs.«01_k».proof.Proof.Gen.FfnFwd.Frame
public import proofs.«01_k».proof.Proof.Gen.FfnFwd.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import proofs.«01_k».proof.Proof.Gen.FfnFwd.Points

@[expose] public section

set_option maxRecDepth 16384

noncomputable section

namespace Cert.FfnFwd.Hand

open Cert.FfnFwd Cert.FfnFwd.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two ways the body's branches can go. -/
theorem branches (i : grid0.Coords) :
    (k0_cond1 i = 1#1 ∧ (Scalar.cmpi .ne (Scalar.extui (Scalar.cmpi .eq (BitVec.ofNat 32 (i 1).val) 0#32)) 0#32) = 1#1 ∧ ¬ (Scalar.cmpi .ne (Scalar.extui (Scalar.andi (Scalar.cmpi .sgt (BitVec.ofNat 32 (i 1).val) 0#32) (Scalar.cmpi .slt (BitVec.ofNat 32 (i 1).val) 1#32))) 0#32) = 1#1 ∧ ¬ k0_cond4 i = 1#1)
    ∨ (¬ k0_cond1 i = 1#1 ∧ ¬ (Scalar.cmpi .ne (Scalar.extui (Scalar.cmpi .eq (BitVec.ofNat 32 (i 1).val) 0#32)) 0#32) = 1#1 ∧ ¬ (Scalar.cmpi .ne (Scalar.extui (Scalar.andi (Scalar.cmpi .sgt (BitVec.ofNat 32 (i 1).val) 0#32) (Scalar.cmpi .slt (BitVec.ofNat 32 (i 1).val) 1#32))) 0#32) = 1#1 ∧ k0_cond4 i = 1#1) := by
  unfold k0_cond1 k0_cond4
  generalize i 1 = k
  revert k
  decide +kernel

set_option maxHeartbeats 2000000 in
/-- One run of the body: what it reads stays, what it writes ends at some contents. -/
theorem run_body (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1408x1024 .bf16) (harg4 : arg4.IsWhole) (arg5 : Memref sig .tc .vmem S1408x1024 .bf16) (harg5 : arg5.IsWhole) (arg6 : Memref sig .tc .vmem S1408x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1408 .bf16) (harg11 : arg11.IsWhole) (arg12 : Memref sig .tc .vmem S512x1024 .bf16) (harg12 : arg12.IsWhole) (arg13 : Memref sig .tc .vmem S512x1024 .f32) (harg13 : arg13.IsWhole)
    (x2 : Vec F S512x1024 .f32) (x3 : Vec F S1x1024 .f32) (x4 : Vec F S1408x1024 .bf16) (x5 : Vec F S1408x1024 .bf16) (x6 : Vec F S1408x1024 .bf16) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
    ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11 arg12 harg12 arg13 harg13) K := by
  simp only [cc0_ffn_fwd_eq_skeleton]; unfold cc0_ffn_fwd_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%x7, %f7, %hf7, H7⟩, ⟨%x8, %f8, %hf8, H8⟩, ⟨%x9, %f9, %hf9, H9⟩, ⟨%x10, %f10, %hf10, H10⟩, ⟨%x11, %f11, %hf11, H11⟩, ⟨%x12, %f12, %hf12, H12⟩, ⟨%x13, %f13, %hf13, H13⟩, Hk⟩
  rcases branches i with ⟨hc1, hc2, hc3, hc4⟩ | ⟨hc1, hc2, hc3, hc4⟩
  all_goals
    sl_exec (disch := first | sl_exact hc1 | sl_exact hc2 | sl_exact hc3 | sl_exact hc4)
    sl_step
    iapply Hk
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; iexists _; isplitr; swap; iexact H7
      ipureintro; rfl
    isplitl [H8]
    · iexists _; iexists _; isplitr; swap; iexact H8
      ipureintro; rfl
    isplitl [H9]
    · iexists _; iexists _; isplitr; swap; iexact H9
      ipureintro; rfl
    isplitl [H10]
    · iexists _; iexists _; isplitr; swap; iexact H10
      ipureintro; rfl
    isplitl [H11]
    · iexists _; iexists _; isplitr; swap; iexact H11
      ipureintro; rfl
    isplitl [H12]
    · iexists _; iexists _; isplitr; swap; iexact H12
      ipureintro; rfl
    iexists _; iexists _; isplitr; swap; iexact H13
    ipureintro; rfl

/-- The staging buffer of window 0 at a point. -/
abbrev ms0 (t : Fin cfg0.N) : Memref sig .tc .vmem S512x1024 .f32 := win0_0.stage (cfg0.slots t 0)
/-- The staging buffer of window 1 at a point. -/
abbrev ms1 (t : Fin cfg0.N) : Memref sig .tc .vmem S1x1024 .f32 := win0_1.stage (cfg0.slots t 1)
/-- The staging buffer of window 2 at a point. -/
abbrev ms2 (t : Fin cfg0.N) : Memref sig .tc .vmem S1408x1024 .bf16 := win0_2.stage (cfg0.slots t 2)
/-- The staging buffer of window 3 at a point. -/
abbrev ms3 (t : Fin cfg0.N) : Memref sig .tc .vmem S1408x1024 .bf16 := win0_3.stage (cfg0.slots t 3)
/-- The staging buffer of window 4 at a point. -/
abbrev ms4 (t : Fin cfg0.N) : Memref sig .tc .vmem S1408x1024 .bf16 := win0_4.stage (cfg0.slots t 4)
/-- The staging buffer of window 5 at a point. -/
abbrev ms5 (t : Fin cfg0.N) : Memref sig .tc .vmem S512x1024 .f32 := win0_5.stage (cfg0.slots t 5)
/-- The staging buffer of window 6 at a point. -/
abbrev ms6 (t : Fin cfg0.N) : Memref sig .tc .vmem S512x1024 .bf16 := win0_6.stage (cfg0.slots t 6)
/-- The staging buffer of window 7 at a point. -/
abbrev ms7 (t : Fin cfg0.N) : Memref sig .tc .vmem S512x1408 .bf16 := win0_7.stage (cfg0.slots t 7)
/-- The staging buffer of window 8 at a point. -/
abbrev ms8 (t : Fin cfg0.N) : Memref sig .tc .vmem S512x1408 .bf16 := win0_8.stage (cfg0.slots t 8)
/-- The staging buffer of window 9 at a point. -/
abbrev ms9 (t : Fin cfg0.N) : Memref sig .tc .vmem S512x1408 .bf16 := win0_9.stage (cfg0.slots t 9)

variable (m : (ℓ : Loc nD τ sig) → Buf (Elt F) ℓ) (ρ : Dev nD → PrngReg)

/-- Nothing is said of the five results' contents. -/
def forgets0 : Fin 10 → Bool := fun w => decide (5 ≤ w.val)

/-- What is known around the body at every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem leaves0 (c : Dev nD) (t : Fin cfg0.N) : ((dats m 0 c).leavesExact 0 t : sProp 𝕄) = owns (c : Thread nD τ) (ms0 t) fullShare (iblk m c 0 t) := by
  unfold Dat.leavesExact; rw [show cfg0.idle 0 (grid0.coords t) = false from rfl, after0]
theorem leaves1 (c : Dev nD) (t : Fin cfg0.N) : ((dats m 0 c).leavesExact 1 t : sProp 𝕄) = owns (c : Thread nD τ) (ms1 t) fullShare (iblk m c 1 t) := by
  unfold Dat.leavesExact; rw [show cfg0.idle 1 (grid0.coords t) = false from rfl, after1]
theorem leaves2 (c : Dev nD) (t : Fin cfg0.N) : ((dats m 0 c).leavesExact 2 t : sProp 𝕄) = owns (c : Thread nD τ) (ms2 t) fullShare (iblk m c 2 t) := by
  unfold Dat.leavesExact; rw [show cfg0.idle 2 (grid0.coords t) = false from rfl, after2]
theorem leaves3 (c : Dev nD) (t : Fin cfg0.N) : ((dats m 0 c).leavesExact 3 t : sProp 𝕄) = owns (c : Thread nD τ) (ms3 t) fullShare (iblk m c 3 t) := by
  unfold Dat.leavesExact; rw [show cfg0.idle 3 (grid0.coords t) = false from rfl, after3]
theorem leaves4 (c : Dev nD) (t : Fin cfg0.N) : ((dats m 0 c).leavesExact 4 t : sProp 𝕄) = owns (c : Thread nD τ) (ms4 t) fullShare (iblk m c 4 t) := by
  unfold Dat.leavesExact; rw [show cfg0.idle 4 (grid0.coords t) = false from rfl, after4]

/-- The rest of the core's state, with the two scratch buffers as memrefs. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d))
    ∗ (∃ d, owns (c : Thread nD τ) (ms5 t) fullShare d) ∗ (∃ d, owns (c : Thread nD τ) (ms6 t) fullShare d) ∗ (∃ d, owns (c : Thread nD τ) (ms7 t) fullShare d) ∗ (∃ d, owns (c : Thread nD τ) (ms8 t) fullShare d) ∗ (∃ d, owns (c : Thread nD τ) (ms9 t) fullShare d))

/-- What the body returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t
    ∗ (∃ d, owns (c : Thread nD τ) (ms5 t) fullShare d) ∗ (∃ d, owns (c : Thread nD τ) (ms6 t) fullShare d) ∗ (∃ d, owns (c : Thread nD τ) (ms7 t) fullShare d) ∗ (∃ d, owns (c : Thread nD τ) (ms8 t) fullShare d) ∗ (∃ d, owns (c : Thread nD τ) (ms9 t) fullShare d))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, leaves0, before1, leaves1, before2, leaves2, before3, leaves3, before4, leaves4]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, H5, H6, H7, H8, H9⟩
  iapply (run_body c (grid0.coords t) _ _ _ _ _ _ _ _ _ _ _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  iintro ⟨H0, H1, H2, H3, H4, H5, H6, H7, H8, H9, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The run: the inputs end as they were, every counter is back at zero. -/
theorem run_main : θ_run defs (onTc (τ := τ) (main (F := F))) ⟨m, fun _ => 0, ρ⟩ (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c w => (dats m 0 c).share_full (fun _ => rfl) w)
    (howed := fun _ _ => rfl) (V := V m) (hmain := hmain m Variants.none) (hA := A_eq m) (hΦ := fun _ _ => rfl)

/-- The frame of the half step's forward call as compiled. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1.arr_in c 0 rfl).trans ((A_eq m c 0).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ)

end Cert.FfnFwd.Hand

end
-- ==== Proof.FfnFwdRun.lean ====
module

public import proofs.«01_k».proof.Proof.Gen.FfnFwdIdeal.Frame
public import proofs.«01_k».proof.Proof.Gen.FfnFwdIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.VecWindow
public import Idealize.ShloMosaic.Lib.WholeRead

@[expose] public section

set_option maxRecDepth 16384

noncomputable section

namespace Cert.FfnFwdIdeal.Hand

open Cert.FfnFwdIdeal Cert.FfnFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! One run of the body, by the half of the hidden columns. -/

set_option maxHeartbeats 400000 in
/-- The first half of the hidden columns. -/
theorem run_first (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1408x1024 .bf16) (harg4 : arg4.IsWhole) (arg5 : Memref sig .tc .vmem S1408x1024 .bf16) (harg5 : arg5.IsWhole) (arg6 : Memref sig .tc .vmem S1408x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1408 .bf16) (harg11 : arg11.IsWhole) (arg12 : Memref sig .tc .vmem S512x1024 .bf16) (harg12 : arg12.IsWhole) (arg13 : Memref sig .tc .vmem S512x1024 .f32) (harg13 : arg13.IsWhole)
    (hc1 : k0_cond1 i = 1#1) (hc2 : (Scalar.cmpi .ne (Scalar.extui (Scalar.cmpi .eq (BitVec.ofNat 32 (i 1).val) 0#32)) 0#32) = 1#1) (hc3 : ¬ (Scalar.cmpi .ne (Scalar.extui (Scalar.andi (Scalar.cmpi .sgt (BitVec.ofNat 32 (i 1).val) 0#32) (Scalar.cmpi .slt (BitVec.ofNat 32 (i 1).val) 1#32))) 0#32) = 1#1) (hc4 : ¬ k0_cond4 i = 1#1)
    (x2 : Vec F S512x1024 .f32) (x3 : Vec F S1x1024 .f32) (x4 : Vec F S1408x1024 .bf16) (x5 : Vec F S1408x1024 .bf16) (x6 : Vec F S1408x1024 .bf16) (x7 : Vec F S512x1024 .f32) (x8 : Vec F S512x1024 .bf16) (x9 : Vec F S512x1408 .bf16) (x10 : Vec F S512x1408 .bf16) (x11 : Vec F S512x1408 .bf16) (x12 : Vec F S512x1024 .bf16) (x13 : Vec F S512x1024 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (k0_pay4 x2 x3) ∗ owns (c : Thread nD τ) arg9 fullShare (k0_pay9 (k0_pay5 x2 x3) x4) ∗ owns (c : Thread nD τ) arg10 fullShare (k0_pay10 (k0_pay5 x2 x3) x5) ∗ owns (c : Thread nD τ) arg11 fullShare (k0_pay8 (k0_pay5 x2 x3) x4 x5) ∗ owns (c : Thread nD τ) arg12 fullShare (k0_pay5 x2 x3) ∗ owns (c : Thread nD τ) arg13 fullShare (k0_pay1 (k0_pay11 (k0_pay5 x2 x3) x4 x5 x6))) -∗ K ⟨⟩))
    ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11 arg12 harg12 arg13 harg13) K := by
  simp only [cc0_ffn_fwd_eq_skeleton]; unfold cc0_ffn_fwd_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  subst hf2; subst hf3; subst hf4; subst hf5; subst hf6; subst hf7; subst hf8; subst hf9; subst hf10; subst hf11; subst hf12; subst hf13
  sl_exec (disch := first | sl_exact hc1 | sl_exact hc2 | sl_exact hc3 | sl_exact hc4)
  sl_step
  iapply Hk
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  on_goal 1 => iexists _; isplitr; swap; · iexact H8
  rotate_left
  isplitl [H9]
  on_goal 1 => iexists _; isplitr; swap; · iexact H9
  rotate_left
  isplitl [H10]
  on_goal 1 => iexists _; isplitr; swap; · iexact H10
  rotate_left
  isplitl [H11]
  on_goal 1 => iexists _; isplitr; swap; · iexact H11
  rotate_left
  isplitl [H12]
  on_goal 1 => iexists _; isplitr; swap; · iexact H12
  rotate_left
  iexists _; isplitr; swap; · iexact H13
  all_goals (ipureintro; refine (View.read_writes_full _ _ _ _ []).trans ?_; (try delta run_first.sl.r run_first.sl.v3 run_first.sl.H12_1); (try rw [View.readCov_full]); (try rw [View.readAt_writes_full]); (try rw [View.readAt_full arg2.view f2 inb_S512x1024_S512x1024_0_0]); (try rw [View.readAt_full arg3.view f3 inb_S1x1024_S1x1024_0_0]); (try rw [View.readAt_full arg4.view f4 inb_S1408x1024_S1408x1024_0_0]); (try rw [View.readAt_full arg5.view f5 inb_S1408x1024_S1408x1024_0_0]); (try rw [View.readAt_full arg6.view f6 inb_S1408x1024_S1408x1024_0_0]); (try rw [View.readAt_full arg7.view f7 inb_S512x1024_S512x1024_0_0]); (try rw [View.readAt_full arg8.view f8 inb_S512x1024_S512x1024_0_0]); (try rw [View.readAt_full arg9.view f9 inb_S512x1408_S512x1408_0_0]); (try rw [View.readAt_full arg10.view f10 inb_S512x1408_S512x1408_0_0]); (try rw [View.readAt_full arg11.view f11 inb_S512x1408_S512x1408_0_0]); (try rw [View.readAt_full arg12.view f12 inb_S512x1024_S512x1024_0_0]); (try rw [View.readAt_full arg13.view f13 inb_S512x1024_S512x1024_0_0]); try rfl)

set_option maxHeartbeats 400000 in
/-- The second half of the hidden columns. -/
theorem run_second (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1408x1024 .bf16) (harg4 : arg4.IsWhole) (arg5 : Memref sig .tc .vmem S1408x1024 .bf16) (harg5 : arg5.IsWhole) (arg6 : Memref sig .tc .vmem S1408x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1408 .bf16) (harg11 : arg11.IsWhole) (arg12 : Memref sig .tc .vmem S512x1024 .bf16) (harg12 : arg12.IsWhole) (arg13 : Memref sig .tc .vmem S512x1024 .f32) (harg13 : arg13.IsWhole)
    (hc1 : ¬ k0_cond1 i = 1#1) (hc2 : ¬ (Scalar.cmpi .ne (Scalar.extui (Scalar.cmpi .eq (BitVec.ofNat 32 (i 1).val) 0#32)) 0#32) = 1#1) (hc3 : ¬ (Scalar.cmpi .ne (Scalar.extui (Scalar.andi (Scalar.cmpi .sgt (BitVec.ofNat 32 (i 1).val) 0#32) (Scalar.cmpi .slt (BitVec.ofNat 32 (i 1).val) 1#32))) 0#32) = 1#1) (hc4 : k0_cond4 i = 1#1)
    (x2 : Vec F S512x1024 .f32) (x3 : Vec F S1x1024 .f32) (x4 : Vec F S1408x1024 .bf16) (x5 : Vec F S1408x1024 .bf16) (x6 : Vec F S1408x1024 .bf16) (x7 : Vec F S512x1024 .f32) (x8 : Vec F S512x1024 .bf16) (x9 : Vec F S512x1408 .bf16) (x10 : Vec F S512x1408 .bf16) (x11 : Vec F S512x1408 .bf16) (x12 : Vec F S512x1024 .bf16) (x13 : Vec F S512x1024 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (k0_pay3 (k0_pay11 x12 x4 x5 x6) x13 x2) ∗ owns (c : Thread nD τ) arg8 fullShare x8 ∗ owns (c : Thread nD τ) arg9 fullShare (k0_pay9 x12 x4) ∗ owns (c : Thread nD τ) arg10 fullShare (k0_pay10 x12 x5) ∗ owns (c : Thread nD τ) arg11 fullShare (k0_pay8 x12 x4 x5) ∗ owns (c : Thread nD τ) arg12 fullShare x12 ∗ owns (c : Thread nD τ) arg13 fullShare x13) -∗ K ⟨⟩))
    ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11 arg12 harg12 arg13 harg13) K := by
  simp only [cc0_ffn_fwd_eq_skeleton]; unfold cc0_ffn_fwd_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  subst hf2; subst hf3; subst hf4; subst hf5; subst hf6; subst hf7; subst hf8; subst hf9; subst hf10; subst hf11; subst hf12; subst hf13
  sl_exec (disch := first | sl_exact hc1 | sl_exact hc2 | sl_exact hc3 | sl_exact hc4)
  sl_step
  iapply Hk
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  on_goal 1 => iexists _; isplitr; swap; · iexact H7
  rotate_left
  isplitl [H8]
  · iexists _; isplitr; · ipureintro; rfl
    iexact H8
  isplitl [H9]
  on_goal 1 => iexists _; isplitr; swap; · iexact H9
  rotate_left
  isplitl [H10]
  on_goal 1 => iexists _; isplitr; swap; · iexact H10
  rotate_left
  isplitl [H11]
  on_goal 1 => iexists _; isplitr; swap; · iexact H11
  rotate_left
  isplitl [H12]
  · iexists _; isplitr; · ipureintro; rfl
    iexact H12
  iexists _; isplitr; · ipureintro; rfl
  iexact H13
  all_goals (ipureintro; refine (View.read_writes_full _ _ _ _ []).trans ?_; (try delta run_second.sl.r); (try rw [View.readCov_full]); (try rw [View.readAt_writes_full]); (try rw [View.readAt_full arg2.view f2 inb_S512x1024_S512x1024_0_0]); (try rw [View.readAt_full arg3.view f3 inb_S1x1024_S1x1024_0_0]); (try rw [View.readAt_full arg4.view f4 inb_S1408x1024_S1408x1024_0_0]); (try rw [View.readAt_full arg5.view f5 inb_S1408x1024_S1408x1024_0_0]); (try rw [View.readAt_full arg6.view f6 inb_S1408x1024_S1408x1024_0_0]); (try rw [View.readAt_full arg7.view f7 inb_S512x1024_S512x1024_0_0]); (try rw [View.readAt_full arg8.view f8 inb_S512x1024_S512x1024_0_0]); (try rw [View.readAt_full arg9.view f9 inb_S512x1408_S512x1408_0_0]); (try rw [View.readAt_full arg10.view f10 inb_S512x1408_S512x1408_0_0]); (try rw [View.readAt_full arg11.view f11 inb_S512x1408_S512x1408_0_0]); (try rw [View.readAt_full arg12.view f12 inb_S512x1024_S512x1024_0_0]); (try rw [View.readAt_full arg13.view f13 inb_S512x1024_S512x1024_0_0]); try rfl)

end Cert.FfnFwdIdeal.Hand

end
-- ==== Proof.FfnFwdRel.lean ====
module

public import proofs.«01_k».proof.Proof.Gen.FfnFwdIdeal.Frame
public import proofs.«01_k».proof.Proof.Gen.FfnFwdIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.Pipeline.DatRel
public import Idealize.ShloMosaic.Lib.Pipeline.ArrRel
public import proofs.«01_k».proof.Proof.Gen.FfnFwdIdeal.Points
public import proofs.«01_k».proof.Proof.FfnFwdRun

@[expose] public section

set_option maxRecDepth 16384

noncomputable section

namespace Cert.FfnFwdIdeal.Hand

open Cert.FfnFwdIdeal Cert.FfnFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Which way the body's branches go, by the half of the hidden columns. -/

theorem br_first (i : grid0.Coords) (h : (i 1).val = 0) :
    k0_cond1 i = 1#1 ∧ (Scalar.cmpi .ne (Scalar.extui (Scalar.cmpi .eq (BitVec.ofNat 32 (i 1).val) 0#32)) 0#32) = 1#1 ∧ ¬ (Scalar.cmpi .ne (Scalar.extui (Scalar.andi (Scalar.cmpi .sgt (BitVec.ofNat 32 (i 1).val) 0#32) (Scalar.cmpi .slt (BitVec.ofNat 32 (i 1).val) 1#32))) 0#32) = 1#1 ∧ ¬ k0_cond4 i = 1#1 := by
  unfold k0_cond1 k0_cond4
  revert h
  generalize i 1 = n
  revert n
  decide +kernel

theorem br_second (i : grid0.Coords) (h : (i 1).val ≠ 0) :
    ¬ k0_cond1 i = 1#1 ∧ ¬ (Scalar.cmpi .ne (Scalar.extui (Scalar.cmpi .eq (BitVec.ofNat 32 (i 1).val) 0#32)) 0#32) = 1#1 ∧ ¬ (Scalar.cmpi .ne (Scalar.extui (Scalar.andi (Scalar.cmpi .sgt (BitVec.ofNat 32 (i 1).val) 0#32) (Scalar.cmpi .slt (BitVec.ofNat 32 (i 1).val) 1#32))) 0#32) = 1#1 ∧ k0_cond4 i = 1#1 := by
  unfold k0_cond1 k0_cond4
  revert h
  generalize i 1 = n
  revert n
  decide +kernel

/-- The normed rows kept for the second half of the hidden columns. -/
def n12 (i : grid0.Coords) (x2 : Vec F S512x1024 .f32) (x3 : Vec F S1x1024 .f32) (x12 : Vec F S512x1024 .bf16) : Vec F S512x1024 .bf16 :=
  if (i 1).val = 0 then k0_pay5 x2 x3 else x12

/-- The output, from what was there. -/
def n7 (i : grid0.Coords) (x2 : Vec F S512x1024 .f32) (x4 : Vec F S1408x1024 .bf16) (x5 : Vec F S1408x1024 .bf16) (x6 : Vec F S1408x1024 .bf16) (x7 : Vec F S512x1024 .f32) (x12 : Vec F S512x1024 .bf16) (x13 : Vec F S512x1024 .f32) : Vec F S512x1024 .f32 :=
  if (i 1).val = 0 then x7 else k0_pay3 (k0_pay11 x12 x4 x5 x6) x13 x2

/-- The normed rows written out. -/
def n8 (i : grid0.Coords) (x2 : Vec F S512x1024 .f32) (x3 : Vec F S1x1024 .f32) (x8 : Vec F S512x1024 .bf16) : Vec F S512x1024 .bf16 :=
  if (i 1).val = 0 then k0_pay4 x2 x3 else x8

/-- The gate's layer. -/
def n9 (i : grid0.Coords) (x2 : Vec F S512x1024 .f32) (x3 : Vec F S1x1024 .f32) (x4 : Vec F S1408x1024 .bf16) (x12 : Vec F S512x1024 .bf16) : Vec F S512x1408 .bf16 :=
  k0_pay9 (n12 i x2 x3 x12) x4

/-- The other factor's layer. -/
def n10 (i : grid0.Coords) (x2 : Vec F S512x1024 .f32) (x3 : Vec F S1x1024 .f32) (x5 : Vec F S1408x1024 .bf16) (x12 : Vec F S512x1024 .bf16) : Vec F S512x1408 .bf16 :=
  k0_pay10 (n12 i x2 x3 x12) x5

/-- The gated product. -/
def n11 (i : grid0.Coords) (x2 : Vec F S512x1024 .f32) (x3 : Vec F S1x1024 .f32) (x4 : Vec F S1408x1024 .bf16) (x5 : Vec F S1408x1024 .bf16) (x12 : Vec F S512x1024 .bf16) : Vec F S512x1408 .bf16 :=
  k0_pay8 (n12 i x2 x3 x12) x4 x5

/-- The first half's part of the product with the last weight. -/
def n13 (i : grid0.Coords) (x2 : Vec F S512x1024 .f32) (x3 : Vec F S1x1024 .f32) (x4 : Vec F S1408x1024 .bf16) (x5 : Vec F S1408x1024 .bf16) (x6 : Vec F S1408x1024 .bf16) (x13 : Vec F S512x1024 .f32) : Vec F S512x1024 .f32 :=
  if (i 1).val = 0 then k0_pay1 (k0_pay11 (k0_pay5 x2 x3) x4 x5 x6) else x13

/-- One run of the body, at any point. -/
theorem run_point (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1408x1024 .bf16) (harg4 : arg4.IsWhole) (arg5 : Memref sig .tc .vmem S1408x1024 .bf16) (harg5 : arg5.IsWhole) (arg6 : Memref sig .tc .vmem S1408x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1408 .bf16) (harg11 : arg11.IsWhole) (arg12 : Memref sig .tc .vmem S512x1024 .bf16) (harg12 : arg12.IsWhole) (arg13 : Memref sig .tc .vmem S512x1024 .f32) (harg13 : arg13.IsWhole)
    (x2 : Vec F S512x1024 .f32) (x3 : Vec F S1x1024 .f32) (x4 : Vec F S1408x1024 .bf16) (x5 : Vec F S1408x1024 .bf16) (x6 : Vec F S1408x1024 .bf16) (x7 : Vec F S512x1024 .f32) (x8 : Vec F S512x1024 .bf16) (x9 : Vec F S512x1408 .bf16) (x10 : Vec F S512x1408 .bf16) (x11 : Vec F S512x1408 .bf16) (x12 : Vec F S512x1024 .bf16) (x13 : Vec F S512x1024 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (n7 i x2 x4 x5 x6 x7 x12 x13) ∗ owns (c : Thread nD τ) arg8 fullShare (n8 i x2 x3 x8) ∗ owns (c : Thread nD τ) arg9 fullShare (n9 i x2 x3 x4 x12) ∗ owns (c : Thread nD τ) arg10 fullShare (n10 i x2 x3 x5 x12) ∗ owns (c : Thread nD τ) arg11 fullShare (n11 i x2 x3 x4 x5 x12) ∗ owns (c : Thread nD τ) arg12 fullShare (n12 i x2 x3 x12) ∗ owns (c : Thread nD τ) arg13 fullShare (n13 i x2 x3 x4 x5 x6 x13)) -∗ K ⟨⟩))
    ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11 arg12 harg12 arg13 harg13) K := by
  unfold n7 n8 n9 n10 n11 n12 n13
  by_cases h : (i 1).val = 0
  · obtain ⟨hc1, hc2, hc3, hc4⟩ := br_first i h
    simp only [if_pos h]
    exact run_first c i arg2 harg2 arg3 harg3 arg4 harg4 arg5 harg5 arg6 harg6 arg7 harg7 arg8 harg8 arg9 harg9 arg10 harg10 arg11 harg11 arg12 harg12 arg13 harg13 hc1 hc2 hc3 hc4 x2 x3 x4 x5 x6 x7 x8 x9 x10 x11 x12 x13 E K
  · obtain ⟨hc1, hc2, hc3, hc4⟩ := br_second i h
    simp only [if_neg h]
    exact run_second c i arg2 harg2 arg3 harg3 arg4 harg4 arg5 harg5 arg6 harg6 arg7 harg7 arg8 harg8 arg9 harg9 arg10 harg10 arg11 harg11 arg12 harg12 arg13 harg13 hc1 hc2 hc3 hc4 x2 x3 x4 x5 x6 x7 x8 x9 x10 x11 x12 x13 E K

/-- The staging buffer of window 0 at a point. -/
abbrev ms0 (t : Fin cfg0.N) : Memref sig .tc .vmem S512x1024 .f32 := win0_0.stage (cfg0.slots t 0)
/-- The staging buffer of window 1 at a point. -/
abbrev ms1 (t : Fin cfg0.N) : Memref sig .tc .vmem S1x1024 .f32 := win0_1.stage (cfg0.slots t 1)
/-- The staging buffer of window 2 at a point. -/
abbrev ms2 (t : Fin cfg0.N) : Memref sig .tc .vmem S1408x1024 .bf16 := win0_2.stage (cfg0.slots t 2)
/-- The staging buffer of window 3 at a point. -/
abbrev ms3 (t : Fin cfg0.N) : Memref sig .tc .vmem S1408x1024 .bf16 := win0_3.stage (cfg0.slots t 3)
/-- The staging buffer of window 4 at a point. -/
abbrev ms4 (t : Fin cfg0.N) : Memref sig .tc .vmem S1408x1024 .bf16 := win0_4.stage (cfg0.slots t 4)
/-- The staging buffer of window 5 at a point. -/
abbrev ms5 (t : Fin cfg0.N) : Memref sig .tc .vmem S512x1024 .f32 := win0_5.stage (cfg0.slots t 5)
/-- The staging buffer of window 6 at a point. -/
abbrev ms6 (t : Fin cfg0.N) : Memref sig .tc .vmem S512x1024 .bf16 := win0_6.stage (cfg0.slots t 6)
/-- The staging buffer of window 7 at a point. -/
abbrev ms7 (t : Fin cfg0.N) : Memref sig .tc .vmem S512x1408 .bf16 := win0_7.stage (cfg0.slots t 7)
/-- The staging buffer of window 8 at a point. -/
abbrev ms8 (t : Fin cfg0.N) : Memref sig .tc .vmem S512x1408 .bf16 := win0_8.stage (cfg0.slots t 8)
/-- The staging buffer of window 9 at a point. -/
abbrev ms9 (t : Fin cfg0.N) : Memref sig .tc .vmem S512x1408 .bf16 := win0_9.stage (cfg0.slots t 9)

/-- The point of a number. -/
def pt (n : ℕ) : Fin cfg0.N := ⟨n % 32, lt_of_lt_of_eq (Nat.mod_lt _ (by decide)) N_0.symm⟩

theorem pt_even (t : Fin cfg0.N) (h : t.val % 2 = 0) : pt (2 * (t.val / 2)) = t := by
  have ht : t.val < 32 := lt_of_lt_of_eq t.isLt N_0
  apply Fin.ext; show 2 * (t.val / 2) % 32 = t.val; omega

theorem coord_half (t : Fin cfg0.N) : (grid0.coords t 1).val = t.val % 2 := by
  have e1 : (grid0.coords t 1).val = t.val / 1 % 2 := Pipeline.Grid.coords_val t 1 (by decide) rfl
  rw [e1, Nat.div_one]

variable (m : (ℓ : Loc nD τ sig) → Buf (Elt F) ℓ) (ρ : Dev nD → PrngReg)

/-- A block of rows, normed. -/
def Hk (c : Dev nD) (k : ℕ) : Vec F S512x1024 .bf16 := k0_pay5 (iblk m c 0 (pt (2 * k))) (iblk m c 1 (pt (2 * k)))
/-- A block of rows' part from the first half of the hidden columns. -/
def Ak (c : Dev nD) (k : ℕ) : Vec F S512x1024 .f32 := k0_pay1 (k0_pay11 (Hk m c k) (iblk m c 2 (pt (2 * k))) (iblk m c 3 (pt (2 * k))) (iblk m c 4 (pt (2 * k))))
/-- The output at a point that writes it. -/
def Xk (c : Dev nD) (t : Fin cfg0.N) : Vec F S512x1024 .f32 := k0_pay3 (k0_pay11 (Hk m c (t.val / 2)) (iblk m c 2 t) (iblk m c 3 t) (iblk m c 4 t)) (Ak m c (t.val / 2)) (iblk m c 0 t)

/-- What the body leaves in the five results' buffers at a point. -/
def Rl (c : Dev nD) (w : Fin cfg0.W) (t : Fin cfg0.N) (X : (cfg0.win w).block.Idx → Elt F (cfg0.win w).elt) : Prop :=
  match w, X with
  | ⟨5, _⟩, X => t.val % 2 = 1 → X = Xk m c t
  | ⟨6, _⟩, X => X = k0_pay4 (iblk m c 0 (pt (2 * (t.val / 2)))) (iblk m c 1 (pt (2 * (t.val / 2))))
  | ⟨7, _⟩, X => X = k0_pay9 (Hk m c (t.val / 2)) (iblk m c 2 t)
  | ⟨8, _⟩, X => X = k0_pay10 (Hk m c (t.val / 2)) (iblk m c 3 t)
  | ⟨9, _⟩, X => X = k0_pay8 (Hk m c (t.val / 2)) (iblk m c 2 t) (iblk m c 3 t)
  | _, _ => True

/-- The five results are known by what the body leaves. -/
def marked : Fin 10 → Bool := fun w => Nat.ble 5 w.val

/-- What is known of the scratch buffers before a point. -/
def Phi (c : Dev nD) (n : ℕ) : sProp 𝕄 :=
  iprop(iprop(∃ x12 x13, ⌜n % 2 ≠ 0 → x12 = Hk m c (n / 2) ∧ x13 = Ak m c (n / 2)⌝ ∗ owns (c : Thread nD τ) (Memref.whole cc0_scratch0) fullShare x12 ∗ owns (c : Thread nD τ) (Memref.whole cc0_scratch1) fullShare x13) ∗ (∃ r, prngReg c r))

/-- What is known around the body at every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ t := Phi m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem leaves0 (c : Dev nD) (t : Fin cfg0.N) : ((dats m 0 c).leavesExact 0 t : sProp 𝕄) = owns (c : Thread nD τ) (ms0 t) fullShare (iblk m c 0 t) := by
  unfold Dat.leavesExact; rw [show cfg0.idle 0 (grid0.coords t) = false from rfl, after0]
theorem leaves1 (c : Dev nD) (t : Fin cfg0.N) : ((dats m 0 c).leavesExact 1 t : sProp 𝕄) = owns (c : Thread nD τ) (ms1 t) fullShare (iblk m c 1 t) := by
  unfold Dat.leavesExact; rw [show cfg0.idle 1 (grid0.coords t) = false from rfl, after1]
theorem leaves2 (c : Dev nD) (t : Fin cfg0.N) : ((dats m 0 c).leavesExact 2 t : sProp 𝕄) = owns (c : Thread nD τ) (ms2 t) fullShare (iblk m c 2 t) := by
  unfold Dat.leavesExact; rw [show cfg0.idle 2 (grid0.coords t) = false from rfl, after2]
theorem leaves3 (c : Dev nD) (t : Fin cfg0.N) : ((dats m 0 c).leavesExact 3 t : sProp 𝕄) = owns (c : Thread nD τ) (ms3 t) fullShare (iblk m c 3 t) := by
  unfold Dat.leavesExact; rw [show cfg0.idle 3 (grid0.coords t) = false from rfl, after3]
theorem leaves4 (c : Dev nD) (t : Fin cfg0.N) : ((dats m 0 c).leavesExact 4 t : sProp 𝕄) = owns (c : Thread nD τ) (ms4 t) fullShare (iblk m c 4 t) := by
  unfold Dat.leavesExact; rw [show cfg0.idle 4 (grid0.coords t) = false from rfl, after4]

/-- The rest of the core's state, with the two scratch buffers as memrefs. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

theorem Phi_in (c : Dev nD) : Pipeline.ΦA spec0 c ⊢ (Phi m c 0 : sProp 𝕄) := by
  rw [PhiA0_eq]; unfold Phi
  iintro ⟨⟨⟨%x, H0⟩, ⟨%y, H1⟩⟩, Hg⟩
  isplitr [Hg]
  · iexists x; iexists y
    isplitr
    · ipureintro; exact fun h => absurd rfl h
    isplitl [H0]; · iexact H0
    iexact H1
  iexact Hg

theorem Phi_out (c : Dev nD) (n : ℕ) : Phi m c n ⊢ (Pipeline.ΦA spec0 c : sProp 𝕄) := by
  rw [PhiA0_eq]; unfold Phi
  iintro ⟨⟨%x, %y, -, H0, H1⟩, Hg⟩
  isplitr [Hg]
  · isplitl [H0]
    · iexists x; iexact H0
    iexists y; iexact H1
  iexact Hg

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d))
    ∗ (∃ Y, ⌜((dats m 0 c).toRRel marked (Rl m c)).Finds 5 t Y⌝ ∗ owns (c : Thread nD τ) (ms5 t) fullShare Y) ∗ (∃ Y, ⌜((dats m 0 c).toRRel marked (Rl m c)).Finds 6 t Y⌝ ∗ owns (c : Thread nD τ) (ms6 t) fullShare Y) ∗ (∃ Y, ⌜((dats m 0 c).toRRel marked (Rl m c)).Finds 7 t Y⌝ ∗ owns (c : Thread nD τ) (ms7 t) fullShare Y) ∗ (∃ Y, ⌜((dats m 0 c).toRRel marked (Rl m c)).Finds 8 t Y⌝ ∗ owns (c : Thread nD τ) (ms8 t) fullShare Y) ∗ (∃ Y, ⌜((dats m 0 c).toRRel marked (Rl m c)).Finds 9 t Y⌝ ∗ owns (c : Thread nD τ) (ms9 t) fullShare Y))

/-- What the body returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t
    ∗ (∃ X, ⌜Rl m c 5 t X⌝ ∗ owns (c : Thread nD τ) (ms5 t) fullShare X) ∗ (∃ X, ⌜Rl m c 6 t X⌝ ∗ owns (c : Thread nD τ) (ms6 t) fullShare X) ∗ (∃ X, ⌜Rl m c 7 t X⌝ ∗ owns (c : Thread nD τ) (ms7 t) fullShare X) ∗ (∃ X, ⌜Rl m c 8 t X⌝ ∗ owns (c : Thread nD τ) (ms8 t) fullShare X) ∗ (∃ X, ⌜Rl m c 9 t X⌝ ∗ owns (c : Thread nD τ) (ms9 t) fullShare X))

theorem next12 (c : Dev nD) (t : Fin cfg0.N) (x12 : Vec F S512x1024 .bf16) (hx : t.val % 2 ≠ 0 → x12 = Hk m c (t.val / 2)) : n12 (grid0.coords t) (iblk m c 0 t) (iblk m c 1 t) x12 = Hk m c (t.val / 2) := by
  unfold n12
  rw [coord_half]
  by_cases h : t.val % 2 = 0
  · rw [if_pos h, Hk, pt_even t h]
  · rw [if_neg h, hx h]

theorem next13 (c : Dev nD) (t : Fin cfg0.N) (x13 : Vec F S512x1024 .f32) (h : t.val % 2 = 0) : n13 (grid0.coords t) (iblk m c 0 t) (iblk m c 1 t) (iblk m c 2 t) (iblk m c 3 t) (iblk m c 4 t) x13 = Ak m c (t.val / 2) := by
  unfold n13
  rw [coord_half, if_pos h, Ak, Hk, pt_even t h]

theorem next5 (c : Dev nD) (t : Fin cfg0.N) (x7 : Vec F S512x1024 .f32) (x12 : Vec F S512x1024 .bf16) (x13 : Vec F S512x1024 .f32) (hx : t.val % 2 ≠ 0 → x12 = Hk m c (t.val / 2) ∧ x13 = Ak m c (t.val / 2)) : Rl m c 5 t (n7 (grid0.coords t) (iblk m c 0 t) (iblk m c 2 t) (iblk m c 3 t) (iblk m c 4 t) x7 x12 x13) := by
  show t.val % 2 = 1 → _ = Xk m c t
  intro h
  unfold n7
  rw [coord_half, if_neg (by omega), (hx (by omega)).1, (hx (by omega)).2]
  rfl

theorem next6 (c : Dev nD) (t : Fin cfg0.N) (x8 : Vec F S512x1024 .bf16) (hY : ((dats m 0 c).toRRel marked (Rl m c)).Finds 6 t x8) : Rl m c 6 t (n8 (grid0.coords t) (iblk m c 0 t) (iblk m c 1 t) x8) := by
  show _ = k0_pay4 (iblk m c 0 (pt (2 * (t.val / 2)))) (iblk m c 1 (pt (2 * (t.val / 2))))
  unfold n8
  rw [coord_half]
  by_cases h : t.val % 2 = 0
  · rw [if_pos h, pt_even t h]
  · rw [if_neg h]
    rcases (((dats m 0 c).toRRel marked (Rl m c)).finds_of_pos ((cfg0.win 6).fetch_out rfl t) (by omega) x8).mp hY with hw | hl
    · exact absurd ((flush0_6 _).mp hw) (by simp only; omega)
    · have hb : Rl m c 6 ⟨t.val - 1, Nat.lt_of_le_of_lt (Nat.sub_le _ _) t.isLt⟩ x8 := (dats m 0 c).toRRel_leaves rfl hl
      refine (show x8 = k0_pay4 (iblk m c 0 (pt (2 * ((t.val - 1) / 2)))) (iblk m c 1 (pt (2 * ((t.val - 1) / 2)))) from hb).trans ?_
      rw [show (t.val - 1) / 2 = t.val / 2 by omega]

theorem next7 (c : Dev nD) (t : Fin cfg0.N) (x12 : Vec F S512x1024 .bf16) (hx : t.val % 2 ≠ 0 → x12 = Hk m c (t.val / 2)) : Rl m c 7 t (n9 (grid0.coords t) (iblk m c 0 t) (iblk m c 1 t) (iblk m c 2 t) x12) := by
  unfold n9; rw [next12 m c t x12 hx]; rfl

theorem next8 (c : Dev nD) (t : Fin cfg0.N) (x12 : Vec F S512x1024 .bf16) (hx : t.val % 2 ≠ 0 → x12 = Hk m c (t.val / 2)) : Rl m c 8 t (n10 (grid0.coords t) (iblk m c 0 t) (iblk m c 1 t) (iblk m c 3 t) x12) := by
  unfold n10; rw [next12 m c t x12 hx]; rfl

theorem next9 (c : Dev nD) (t : Fin cfg0.N) (x12 : Vec F S512x1024 .bf16) (hx : t.val % 2 ≠ 0 → x12 = Hk m c (t.val / 2)) : Rl m c 9 t (n11 (grid0.coords t) (iblk m c 0 t) (iblk m c 1 t) (iblk m c 2 t) (iblk m c 3 t) x12) := by
  unfold n11; rw [next12 m c t x12 hx]; rfl

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, leaves0, before1, leaves1, before2, leaves2, before3, leaves3, before4, leaves4]
  rw [show (dats m 0 c).owesAt () t.succ = (dats m 0 c).owesAt () t.castSucc from rfl]
  rw [show (dats m 0 c).Φ t.castSucc = Phi m c t.val from rfl, show (dats m 0 c).Φ t.succ = Phi m c (t.val + 1) from rfl]
  unfold Phi
  iintro ⟨⟨⟨%x12, %x13, %hx, HS0, HS1⟩, Hg⟩, Ho, ⟨%d0, H0⟩, ⟨%d1, H1⟩, ⟨%d2, H2⟩, ⟨%d3, H3⟩, ⟨%d4, H4⟩, ⟨%x7, %hY5, H5⟩, ⟨%x8, %hY6, H6⟩, ⟨%x9, %hY7, H7⟩, ⟨%x10, %hY8, H8⟩, ⟨%x11, %hY9, H9⟩⟩
  iapply (run_point c (grid0.coords t) _ _ _ _ _ _ _ _ _ _ _ _ _ _ _ _ _ _ _ _ _ _ _ _ (iblk m c 0 t) (iblk m c 1 t) (iblk m c 2 t) (iblk m c 3 t) (iblk m c 4 t) x7 x8 x9 x10 x11 x12 x13 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  iintro ⟨H0, H1, H2, H3, H4, H5, H6, H7, H8, H9, HS0, HS1⟩
  isplitl [HS0 HS1 Hg]
  · isplitl [HS0 HS1]
    · iexists _; iexists _
      isplitr; swap
      · isplitl [HS0]
        · iexact HS0
        iexact HS1
      ipureintro
      intro h
      rw [show (t.val + 1) / 2 = t.val / 2 by omega]
      exact ⟨next12 m c t x12 fun h => (hx h).1, next13 m c t x13 (by omega)⟩
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · iexists _; isplitr; swap
    · iexact H5
    ipureintro; exact next5 m c t x7 x12 x13 hx
  isplitl [H6]
  · iexists _; isplitr; swap
    · iexact H6
    ipureintro; exact next6 m c t x8 hY6
  isplitl [H7]
  · iexists _; isplitr; swap
    · iexact H7
    ipureintro; exact next7 m c t x12 fun h => (hx h).1
  isplitl [H8]
  · iexists _; isplitr; swap
    · iexact H8
    ipureintro; exact next8 m c t x12 fun h => (hx h).1
  iexists _; isplitr; swap
  · iexact H9
  ipureintro; exact next9 m c t x12 fun h => (hx h).1

theorem defs₀_row (t : Fin cfg0.N) :
    defs₀ (F := F) .tc cfg0.body (cfg0.bodyArgs t (cfg0.slots t)) = bodyAt0 t := by
  unfold defs₀; rw [Defs.onTc_tc]

theorem body_obligation (c : Dev nD) : Pipeline.BodyObligationRel (dats (F := F) m 0 c) (defs₀ (F := F)) Variants.none () Set.univ marked (Rl m c) := fun t => by
  rw [bigSep_W0, bigSep_W0, defs₀_row]
  exact triple_restated (sound_body m c t) rfl .rfl fun _ => .rfl

set_option backward.isDefEq.respectTransparency.types false in
/-- The run: every counter is back at zero, and the arrays end at what the body left. -/
theorem run_main : θ_run defs (onTc (τ := τ) (main (F := F))) ⟨m, fun _ => 0, ρ⟩ (fun r => (Pipeline.RDat.FramePost (cfgs 0) (fun c => (dats m 0 c).toRRel marked (Rl m c)) (V m)) r ∧ r.2.sem = fun _ => 0) :=
  Pipeline.RDat.θ_run_frame_track (Q' := _) cfgs (0 : Fin 1) launch0 defs₀ Variants.none (fun c => (dats m 0 c).toRRel marked (Rl m c)) m ρ main
    (hbody := fun c => (body_obligation m c).toRRel) (hshare := fun c => Pipeline.RDat.share_full _ fun _ => rfl)
    (howed := fun _ _ => rfl) (V := V m) (hmain := hmain m Variants.none) (hA := A_eq m) (hin := Phi_in m) (hout := fun c => Phi_out m c _)

/-- The frame of the half step's forward call. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1.arr_in c 0 rfl).trans ((A_eq m c 0).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ)

end Cert.FfnFwdIdeal.Hand

end
-- ==== Proof.FfnFwdVal.lean ====
module

public import proofs.«01_k».proof.Defs
public import proofs.«01_k».proof.Proof.FfnRow
public import proofs.«01_k».proof.Proof.FfnFwdRel
public import proofs.«01_k».proof.Proof.Gen.FfnFwdRefIdeal.Run
public import proofs.«01_k».proof.Proof.Gen.FfnFwdRefIdeal.Read
public import Idealize.ShloMosaic.Lib.Pipeline.ArrRel
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

/-! The gated block's forward call: what the kernel's run ends with is what the reference's run ends with, at every
    argument. -/

namespace Cert.FfnFwdIdeal.Hand

open Cert.FfnFwdIdeal Cert.FfnFwdIdeal.Gen Idealize.ShloMosaic Idealize.ShloMosaic.TcCoe Idealize.SL.Sem
open Cert.K Cert.FfnRow

section Row
variable (X : Fin 8192 → Fin 1024 → EReal) (NW : Fin 1024 → EReal) (WG WU : Fin 1024 → Fin 2816 → EReal) (WD : Fin 2816 → Fin 1024 → EReal)

/-- The gated product. -/
def af (n : Fin 8192) (f : Fin 2816) : EReal := gf X NW WG n f * sg (gf X NW WG n f) * gf X NW WU n f
/-- The block's output. -/
def of (n : Fin 8192) (k : Fin 1024) : EReal := X n k + ((1 / 2 : ℝ) : EReal) * ∑ f, af X NW WG WU n f * WD f k

end Row

/-! ### The payloads at an index -/

theorem pay4_apply (x : Vec Ideal S512x1024 .f32) (w : Vec Ideal S1x1024 .f32) (n : Fin 512) (k : Fin 1024) :
    k0_pay4 x w (ix2 n k) = x (ix2 n k) * (rms fun k => x (ix2 n k)) * w (ix2 0 k) := by
  pointwise [k0_pay4]
  rw [bits_1024, bits_eps]
  rfl

theorem pay5_apply (x : Vec Ideal S512x1024 .f32) (w : Vec Ideal S1x1024 .f32) (n : Fin 512) (k : Fin 1024) :
    k0_pay5 x w (ix2 n k) = x (ix2 n k) * (rms fun k => x (ix2 n k)) * w (ix2 0 k) := by
  refine Eq.trans ?_ (pay4_apply x w n k)
  pointwise [k0_pay5]

theorem pay9_apply (y : Vec Ideal S512x1024 .bf16) (w : Vec Ideal S1408x1024 .bf16) (n : Fin 512) (f : Fin 1408) :
    k0_pay9 y w (ix2 n f) = ∑ k, y (ix2 n k) * w (ix2 f k) := by
  pointwise [k0_pay9, k0_pay6]

theorem pay10_apply (y : Vec Ideal S512x1024 .bf16) (w : Vec Ideal S1408x1024 .bf16) (n : Fin 512) (f : Fin 1408) :
    k0_pay10 y w (ix2 n f) = ∑ k, y (ix2 n k) * w (ix2 f k) := by
  pointwise [k0_pay10, k0_pay7]

theorem pay8_apply (y : Vec Ideal S512x1024 .bf16) (w v : Vec Ideal S1408x1024 .bf16) (n : Fin 512) (f : Fin 1408) :
    k0_pay8 y w v (ix2 n f) = (∑ k, y (ix2 n k) * w (ix2 f k)) * sg (∑ k, y (ix2 n k) * w (ix2 f k)) * ∑ k, y (ix2 n k) * v (ix2 f k) := by
  pointwise [k0_pay8, k0_pay7, k0_pay6]
  simp only [bits_one, zero_sub]
  rfl

theorem pay11_apply (y : Vec Ideal S512x1024 .bf16) (w v z : Vec Ideal S1408x1024 .bf16) (n : Fin 512) (k : Fin 1024) :
    k0_pay11 y w v z (ix2 n k) = ∑ f, k0_pay8 y w v (ix2 n f) * z (ix2 f k) := by
  pointwise [k0_pay11]

theorem pay1_apply (p : FVec Ideal S512x1024 .f32) (n : Fin 512) (k : Fin 1024) : k0_pay1 p (ix2 n k) = p (ix2 n k) := by
  pointwise [k0_pay1]

theorem pay3_apply (p : FVec Ideal S512x1024 .f32) (a x : Vec Ideal S512x1024 .f32) (n : Fin 512) (k : Fin 1024) :
    k0_pay3 p a x (ix2 n k) = x (ix2 n k) + ((1 / 2 : ℝ) : EReal) * (a (ix2 n k) + p (ix2 n k)) := by
  pointwise [k0_pay3]
  rw [bits_half]

/-! ### What the call reads -/

section
variable (m : (ℓ : Loc nD τ sig) → Buf (Elt Ideal) ℓ) (c : Dev nD)

/-- The rows as launched. -/
def aX (n : Fin 8192) (k : Fin 1024) : EReal := (show FVec Ideal S8192x1024 .f32 from m ((c : Thread nD τ).loc main_arg0)) (ix2 n k)
/-- The norm's weight as launched. -/
def aN (k : Fin 1024) : EReal := (show FVec Ideal S1024 .f32 from m ((c : Thread nD τ).loc main_arg1)) (ix1 k)
/-- The gate's weight as launched. -/
def aG (k : Fin 1024) (f : Fin 2816) : EReal := (show FVec Ideal S1024x2816 .f32 from m ((c : Thread nD τ).loc main_arg2)) (ix2 k f)
/-- The other factor's weight as launched. -/
def aU (k : Fin 1024) (f : Fin 2816) : EReal := (show FVec Ideal S1024x2816 .f32 from m ((c : Thread nD τ).loc main_arg3)) (ix2 k f)
/-- The last weight as launched. -/
def aW (f : Fin 2816) (k : Fin 1024) : EReal := (show FVec Ideal S2816x1024 .f32 from m ((c : Thread nD τ).loc main_arg4)) (ix2 f k)

theorem v0_apply (z : Fin 1) (k : Fin 1024) : (show FVec Ideal S1x1024 .f32 from V m c main_v0) (ix2 z k) = aN m c k := by
  unfold V
  after_reads_simp
  pointwise [aN]

theorem v2_apply (f : Fin 2816) (k : Fin 1024) : (show FVec Ideal S2816x1024 .bf16 from V m c main_v2) (ix2 f k) = aG m c k f := by
  unfold V
  after_reads_simp
  pointwise [aG]

theorem v4_apply (f : Fin 2816) (k : Fin 1024) : (show FVec Ideal S2816x1024 .bf16 from V m c main_v4) (ix2 f k) = aU m c k f := by
  unfold V
  after_reads_simp
  pointwise [aU]

theorem v5_apply (f : Fin 2816) (k : Fin 1024) : (show FVec Ideal S2816x1024 .bf16 from V m c main_v5) (ix2 f k) = aW m c f k := by
  unfold V
  after_reads_simp
  pointwise [aW]

/-! ### The windows' blocks -/

theorem idx : ∀ t : Fin cfg0.N, win0_0.index t = ![t.val / 2, 0] ∧ win0_1.index t = ![0, 0] ∧ win0_2.index t = ![t.val % 2, 0]
    ∧ win0_3.index t = ![t.val % 2, 0] ∧ win0_4.index t = ![t.val % 2, 0] ∧ win0_5.index t = ![t.val / 2, 0] ∧ win0_6.index t = ![t.val / 2, 0]
    ∧ win0_7.index t = ![t.val / 2, t.val % 2] ∧ win0_8.index t = ![t.val / 2, t.val % 2] ∧ win0_9.index t = ![t.val / 2, t.val % 2] :=
  (by decide +kernel : ∀ t : Fin grid0.N, _)

theorem point_lt (t : Fin cfg0.N) : t.val < 32 := lt_of_lt_of_eq t.isLt N_0

/-- A row of a block of rows. -/
def row (k : Fin 16) (n : Fin 512) : Fin 8192 := ⟨k.val * 512 + n.val, by omega⟩
/-- A hidden column of a half. -/
def cl (j : Fin 2) (f : Fin 1408) : Fin 2816 := ⟨j.val * 1408 + f.val, by omega⟩
/-- The block of rows of a point. -/
def bi (t : Fin cfg0.N) : Fin 16 := ⟨t.val / 2, by have := point_lt t; omega⟩
/-- The half of the hidden columns of a point. -/
def hi (t : Fin cfg0.N) : Fin 2 := ⟨t.val % 2, by omega⟩

section Blocks
variable (t : Fin cfg0.N)

theorem blk0 (n : Fin 512) (k : Fin 1024) : (show FVec Ideal S512x1024 .f32 from iblk m c 0 t) (ix2 n k) = aX m c (row (bi t) n) k := by
  have e : (show FVec Ideal S8192x1024 .f32 from V m c main_arg0) = m ((c : Thread nD τ).loc main_arg0) := V_main_arg0 m c
  unfold aX
  rw [← e]
  blk_ext [iblk, idx t, row, bi]

theorem blk1 (z : Fin 1) (k : Fin 1024) : (show FVec Ideal S1x1024 .f32 from iblk m c 1 t) (ix2 z k) = aN m c k := by
  refine Eq.trans ?_ (v0_apply m c z k)
  blk_ext [iblk, idx t]

theorem blk2 (f : Fin 1408) (k : Fin 1024) : (show FVec Ideal S1408x1024 .bf16 from iblk m c 2 t) (ix2 f k) = aG m c k (cl (hi t) f) := by
  refine Eq.trans ?_ (v2_apply m c _ _)
  blk_ext [iblk, idx t, cl, hi]

theorem blk3 (f : Fin 1408) (k : Fin 1024) : (show FVec Ideal S1408x1024 .bf16 from iblk m c 3 t) (ix2 f k) = aU m c k (cl (hi t) f) := by
  refine Eq.trans ?_ (v4_apply m c _ _)
  blk_ext [iblk, idx t, cl, hi]

theorem blk4 (f : Fin 1408) (k : Fin 1024) : (show FVec Ideal S1408x1024 .bf16 from iblk m c 4 t) (ix2 f k) = aW m c (cl (hi t) f) k := by
  refine Eq.trans ?_ (v5_apply m c _ _)
  blk_ext [iblk, idx t, cl, hi]

end Blocks

/-! ### The results' blocks -/

/-- The gated product of a run's arguments. -/
abbrev eA : Fin 8192 → Fin 2816 → EReal := af (aX m c) (aN m c) (aG m c) (aU m c)
/-- A half's part of the product with the last weight. -/
def op (j : Fin 2) (n : Fin 8192) (k : Fin 1024) : EReal := ∑ f, eA m c n (cl j f) * aW m c (cl j f) k

theorem halves (n : Fin 8192) (k : Fin 1024) : op m c 0 n k + op m c 1 n k = ∑ f, eA m c n f * aW m c f k := by
  unfold op
  rw [sum_blocks (a := 2) (b := 1408) rfl (fun f => eA m c n f * aW m c f k), Fin.sum_univ_two]
  rfl

section Points
variable (t : Fin cfg0.N)

theorem bi_even : bi (pt (2 * (t.val / 2))) = bi t := by
  have := point_lt t
  apply Fin.ext; show 2 * (t.val / 2) % 32 / 2 = t.val / 2; omega

theorem hi_even : hi (pt (2 * (t.val / 2))) = 0 := by
  apply Fin.ext; show 2 * (t.val / 2) % 32 % 2 = 0; omega

theorem normed (u : Fin cfg0.N) (hu : bi u = bi t) (n : Fin 512) (k : Fin 1024) :
    (show FVec Ideal S512x1024 .f32 from iblk m c 0 u) (ix2 n k) * (rms fun k => (show FVec Ideal S512x1024 .f32 from iblk m c 0 u) (ix2 n k))
      * (show FVec Ideal S1x1024 .f32 from iblk m c 1 u) (ix2 0 k) = hf (aX m c) (aN m c) (row (bi t) n) k := by
  rw [← hu]
  exact Ideal.mul_congr (Ideal.mul_congr (blk0 m c u n k) (congrArg rms (funext fun k => blk0 m c u n k))) (blk1 m c u 0 k)

theorem Hk_apply (n : Fin 512) (k : Fin 1024) : Hk m c (t.val / 2) (ix2 n k) = hf (aX m c) (aN m c) (row (bi t) n) k := by
  unfold Hk
  exact (pay5_apply _ _ n k).trans (normed m c t _ (bi_even t) n k)

theorem gate_pt (u : Fin cfg0.N) (hu : bi u = bi t) (n : Fin 512) (f : Fin 1408) :
    (∑ k, Hk m c (t.val / 2) (ix2 n k) * (show FVec Ideal S1408x1024 .bf16 from iblk m c 2 u) (ix2 f k)) = gf (aX m c) (aN m c) (aG m c) (row (bi u) n) (cl (hi u) f) :=
  Finset.sum_congr rfl fun k _ => Ideal.mul_congr ((Hk_apply m c t n k).trans (by rw [hu])) (blk2 m c u f k)

theorem other_pt (u : Fin cfg0.N) (hu : bi u = bi t) (n : Fin 512) (f : Fin 1408) :
    (∑ k, Hk m c (t.val / 2) (ix2 n k) * (show FVec Ideal S1408x1024 .bf16 from iblk m c 3 u) (ix2 f k)) = gf (aX m c) (aN m c) (aU m c) (row (bi u) n) (cl (hi u) f) :=
  Finset.sum_congr rfl fun k _ => Ideal.mul_congr ((Hk_apply m c t n k).trans (by rw [hu])) (blk3 m c u f k)

theorem prod_pt (u : Fin cfg0.N) (hu : bi u = bi t) (n : Fin 512) (f : Fin 1408) :
    k0_pay8 (F := Ideal) (Hk m c (t.val / 2)) (iblk m c 2 u) (iblk m c 3 u) (ix2 n f) = eA m c (row (bi u) n) (cl (hi u) f) := by
  refine (pay8_apply _ _ _ n f).trans ?_
  exact Ideal.mul_congr (congrArg (fun x => x * sg x) (gate_pt m c t u hu n f)) (other_pt m c t u hu n f)

theorem part_apply (u : Fin cfg0.N) (hu : bi u = bi t) (n : Fin 512) (k : Fin 1024) :
    k0_pay11 (F := Ideal) (Hk m c (t.val / 2)) (iblk m c 2 u) (iblk m c 3 u) (iblk m c 4 u) (ix2 n k) = op m c (hi u) (row (bi u) n) k :=
  (pay11_apply _ _ _ _ n k).trans (Finset.sum_congr rfl fun f _ => Ideal.mul_congr (prod_pt m c t u hu n f) (blk4 m c u f k))

theorem Ak_apply (n : Fin 512) (k : Fin 1024) : Ak m c (t.val / 2) (ix2 n k) = op m c 0 (row (bi t) n) k := by
  unfold Ak
  refine (pay1_apply _ n k).trans ((part_apply m c t (pt (2 * (t.val / 2))) (bi_even t) n k).trans ?_)
  rw [hi_even, bi_even]

theorem Xk_apply (h : t.val % 2 = 1) (n : Fin 512) (k : Fin 1024) : Xk m c t (ix2 n k) = of (aX m c) (aN m c) (aG m c) (aU m c) (aW m c) (row (bi t) n) k := by
  unfold Xk
  refine (pay3_apply _ _ _ n k).trans (Ideal.add_congr (blk0 m c t n k) (congrArg (_ * ·) ?_))
  refine (Ideal.add_congr (Ak_apply m c t n k) (part_apply m c t t rfl n k)).trans ?_
  rw [show hi t = 1 from Fin.ext h, halves]

end Points

/-! ### The results -/

/-- The block's output. -/
def rX : FVec Ideal S8192x1024 .f32 := fun i => of (aX m c) (aN m c) (aG m c) (aU m c) (aW m c) (i 0) (i 1)
/-- The normed rows. -/
def rH : FVec Ideal S8192x1024 .bf16 := fun i => hf (aX m c) (aN m c) (i 0) (i 1)
/-- The gate's layer. -/
def rG : FVec Ideal S8192x2816 .bf16 := fun i => gf (aX m c) (aN m c) (aG m c) (i 0) (i 1)
/-- The other factor's layer. -/
def rU : FVec Ideal S8192x2816 .bf16 := fun i => gf (aX m c) (aN m c) (aU m c) (i 0) (i 1)
/-- The gated product. -/
def rA : FVec Ideal S8192x2816 .bf16 := fun i => eA m c (i 0) (i 1)

section Final
variable {m} {c}
variable (after : (w' : Fin cfg0.W) → Fin cfg0.N → (cfg0.win w').block.Idx → Elt Ideal (cfg0.win w').elt)
  (hl : ∀ (w : Fin cfg0.W) (u : Fin cfg0.N), (cfg0.win w).flush u = true → ((dats m 0 c).toRRel marked (Rl m c)).Leaves w u (after w u))

include hl

theorem final5 : ((((dats m 0 c).toRRel marked (Rl m c)).withAfter after).arrAt 5 cfg0.N) = rX m c := by
  refine Pipeline.Dat.arrAt_eq_of_covers _ 5 _ (by decide +kernel) fun t hf y => ?_
  have h1 := (flush0_5 t).1 hf
  have hb : Rl m c 5 t (after 5 t) := (dats m 0 c).toRRel_leaves rfl (hl 5 t hf)
  have hx : after 5 t = Xk m c t := hb h1
  have key : after 5 t y = rX m c (ix2 (row (bi t) (y 0)) (y 1)) := by
    rw [hx]
    exact (congrArg (Xk m c t) (eq_ix2 (n0 := 512) (n1 := 1024) y)).trans (Xk_apply m c t h1 (y 0) (y 1))
  blk_simp
  refine key.trans ?_
  generalize rX m c = A
  blk_ext [idx t, row, bi]

theorem final6 : ((((dats m 0 c).toRRel marked (Rl m c)).withAfter after).arrAt 6 cfg0.N) = rH m c := by
  refine Pipeline.Dat.arrAt_eq_of_covers _ 6 _ (by decide +kernel) fun t hf y => ?_
  have hx : after 6 t = k0_pay4 (F := Ideal) (iblk m c 0 (pt (2 * (t.val / 2)))) (iblk m c 1 (pt (2 * (t.val / 2)))) := (dats m 0 c).toRRel_leaves rfl (hl 6 t hf)
  have key : after 6 t y = rH m c (ix2 (row (bi t) (y 0)) (y 1)) := by
    rw [hx]
    exact (congrArg (k0_pay4 (F := Ideal) (iblk m c 0 (pt (2 * (t.val / 2)))) (iblk m c 1 (pt (2 * (t.val / 2))))) (eq_ix2 (n0 := 512) (n1 := 1024) y)).trans ((pay4_apply _ _ (y 0) (y 1)).trans (normed m c t _ (bi_even t) (y 0) (y 1)))
  blk_simp
  refine key.trans ?_
  generalize rH m c = A
  blk_ext [idx t, row, bi]

theorem final7 : ((((dats m 0 c).toRRel marked (Rl m c)).withAfter after).arrAt 7 cfg0.N) = rG m c := by
  refine Pipeline.Dat.arrAt_eq_of_covers _ 7 _ (by decide +kernel) fun t hf y => ?_
  have hx : after 7 t = k0_pay9 (F := Ideal) (Hk m c (t.val / 2)) (iblk m c 2 t) := (dats m 0 c).toRRel_leaves rfl (hl 7 t hf)
  have key : after 7 t y = rG m c (ix2 (row (bi t) (y 0)) (cl (hi t) (y 1))) := by
    rw [hx]
    exact (congrArg (k0_pay9 (F := Ideal) (Hk m c (t.val / 2)) (iblk m c 2 t)) (eq_ix2 (n0 := 512) (n1 := 1408) y)).trans ((pay9_apply _ _ (y 0) (y 1)).trans (gate_pt m c t t rfl (y 0) (y 1)))
  blk_simp
  refine key.trans ?_
  generalize rG m c = A
  blk_ext [idx t, row, bi, cl, hi]

theorem final8 : ((((dats m 0 c).toRRel marked (Rl m c)).withAfter after).arrAt 8 cfg0.N) = rU m c := by
  refine Pipeline.Dat.arrAt_eq_of_covers _ 8 _ (by decide +kernel) fun t hf y => ?_
  have hx : after 8 t = k0_pay10 (F := Ideal) (Hk m c (t.val / 2)) (iblk m c 3 t) := (dats m 0 c).toRRel_leaves rfl (hl 8 t hf)
  have key : after 8 t y = rU m c (ix2 (row (bi t) (y 0)) (cl (hi t) (y 1))) := by
    rw [hx]
    exact (congrArg (k0_pay10 (F := Ideal) (Hk m c (t.val / 2)) (iblk m c 3 t)) (eq_ix2 (n0 := 512) (n1 := 1408) y)).trans ((pay10_apply _ _ (y 0) (y 1)).trans (other_pt m c t t rfl (y 0) (y 1)))
  blk_simp
  refine key.trans ?_
  generalize rU m c = A
  blk_ext [idx t, row, bi, cl, hi]

theorem final9 : ((((dats m 0 c).toRRel marked (Rl m c)).withAfter after).arrAt 9 cfg0.N) = rA m c := by
  refine Pipeline.Dat.arrAt_eq_of_covers _ 9 _ (by decide +kernel) fun t hf y => ?_
  have hx : after 9 t = k0_pay8 (F := Ideal) (Hk m c (t.val / 2)) (iblk m c 2 t) (iblk m c 3 t) := (dats m 0 c).toRRel_leaves rfl (hl 9 t hf)
  have key : after 9 t y = rA m c (ix2 (row (bi t) (y 0)) (cl (hi t) (y 1))) := by
    rw [hx]
    exact (congrArg (k0_pay8 (F := Ideal) (Hk m c (t.val / 2)) (iblk m c 2 t) (iblk m c 3 t)) (eq_ix2 (n0 := 512) (n1 := 1408) y)).trans (prod_pt m c t t rfl (y 0) (y 1))
  blk_simp
  refine key.trans ?_
  generalize rA m c = A
  blk_ext [idx t, row, bi, cl, hi]

end Final

end

end Cert.FfnFwdIdeal.Hand

/-! ### The reference -/

namespace Cert.FfnFwdRefIdeal.Hand

open Cert.FfnFwdRefIdeal Cert.FfnFwdRefIdeal.Gen Cert.FfnFwdRefIdeal.Read Idealize.ShloMosaic Idealize.ShloMosaic.TcCoe Idealize.SL.Sem
open Cert.K Cert.FfnRow Cert.FfnFwdIdeal.Hand

variable (x0 : FVec Ideal S8192x1024 .f32) (x1 : FVec Ideal S1024 .f32) (x2 x3 : FVec Ideal S1024x2816 .f32) (x4 : FVec Ideal S2816x1024 .f32)

/-- An array by its two coordinates. -/
abbrev two {a b : ℕ} (x : (⟨2, ![a, b]⟩ : Shape).Idx → EReal) (n : Fin a) (k : Fin b) : EReal := x (ix2 n k)
/-- An array by its coordinate. -/
abbrev one {a : ℕ} (x : (⟨1, ![a]⟩ : Shape).Idx → EReal) (n : Fin a) : EReal := x (ix1 n)

theorem v12_apply (n : Fin 8192) (k : Fin 1024) : val_main_v12 (F := Ideal) x0 x1 (ix2 n k) = hf (two x0) (one x1) n k := by
  pointwise [val_main_v0, val_main_cst, val_main_v1, val_main_v2, val_main_cst_0, val_main_v3, val_main_v4, val_main_cst_1, val_main_v5, val_main_v6, val_main_v7, val_main_v8, val_main_v9, val_main_v10, val_main_v11, val_main_v12]
  rw [bits_1024, bits_eps]
  rfl

theorem v13_apply (n : Fin 8192) (f : Fin 2816) : val_main_v13 (F := Ideal) x0 x1 x2 (ix2 n f) = gf (two x0) (one x1) (two x2) n f := by
  pointwise [val_main_v13]
  exact Finset.sum_congr rfl fun k _ => Ideal.mul_congr (v12_apply x0 x1 n k) rfl

theorem v14_apply (n : Fin 8192) (f : Fin 2816) : val_main_v14 (F := Ideal) x0 x1 x3 (ix2 n f) = gf (two x0) (one x1) (two x3) n f := v13_apply x0 x1 x3 n f

theorem sg_apply (n : Fin 8192) (f : Fin 2816) : val_main_call0_v5 (F := Ideal) x0 x1 x2 (ix2 n f) = sg (gf (two x0) (one x1) (two x2) n f) := by
  pointwise [val_main_call0_v5, val_main_call0_v4, val_main_call0_cst_0, val_main_call0_v3, val_main_call0_v2, val_main_call0_cst, val_main_call0_v1, val_main_call0_v0]
  rw [v13_apply]
  rfl

theorem v16_apply (n : Fin 8192) (f : Fin 2816) : val_main_v16 (F := Ideal) x0 x1 x2 x3 (ix2 n f) = af (two x0) (one x1) (two x2) (two x3) n f := by
  pointwise [val_main_v16, val_main_v15]
  rw [sg_apply, v13_apply, v14_apply]
  rfl

theorem v20_apply (n : Fin 8192) (k : Fin 1024) : val_main_v20 (F := Ideal) x0 x1 x2 x3 x4 (ix2 n k) = of (two x0) (one x1) (two x2) (two x3) (two x4) n k := by
  pointwise [val_main_v20, val_main_v19, val_main_v18, val_main_cst_2, val_main_v17]
  rw [bits_half]
  exact congrArg (fun y => x0 (ix2 n k) + ((1 / 2 : ℝ) : EReal) * y) (Finset.sum_congr rfl fun f _ => Ideal.mul_congr (v16_apply x0 x1 x2 x3 n f) rfl)

theorem v21_apply (n : Fin 8192) (k : Fin 1024) : val_main_v21 (F := Ideal) x0 x1 (ix2 n k) = hf (two x0) (one x1) n k := by
  refine Eq.trans ?_ (v12_apply x0 x1 n k)
  pointwise [val_main_v21]

theorem v22_apply (n : Fin 8192) (f : Fin 2816) : val_main_v22 (F := Ideal) x0 x1 x2 (ix2 n f) = gf (two x0) (one x1) (two x2) n f := by
  refine Eq.trans ?_ (v13_apply x0 x1 x2 n f)
  pointwise [val_main_v22]

theorem v23_apply (n : Fin 8192) (f : Fin 2816) : val_main_v23 (F := Ideal) x0 x1 x3 (ix2 n f) = gf (two x0) (one x1) (two x3) n f := by
  refine Eq.trans ?_ (v14_apply x0 x1 x3 n f)
  pointwise [val_main_v23]

theorem v24_apply (n : Fin 8192) (f : Fin 2816) : val_main_v24 (F := Ideal) x0 x1 x2 x3 (ix2 n f) = af (two x0) (one x1) (two x2) (two x3) n f := by
  refine Eq.trans ?_ (v16_apply x0 x1 x2 x3 n f)
  pointwise [val_main_v24]

end Cert.FfnFwdRefIdeal.Hand

namespace Cert.Proof.FfnFwdVal

open Idealize.ShloMosaic Idealize.ShloMosaic.TcCoe Idealize.SL.Sem Cert.K Cert.FfnRow

/-- The reference keeps its arguments and declares no semaphore. -/
theorem refFrame : Cert.quiescent_FfnFwdRefIdeal := fun m g _ =>
  (θ_run Cert.FfnFwdRefIdeal.defs _ _).mono (fun r h => ⟨fun c => (h c).2.2.2.2.2, sem_eq_zero_of_no_sems (by decide) r.2⟩)
    (Cert.FfnFwdRefIdeal.Value.run (F := Ideal) m g)

open Cert.FfnFwdIdeal Cert.FfnFwdIdeal.Gen Cert.FfnFwdIdeal.Hand in
/-- What the kernel's run ends with. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v6_0) = rX m c
      ∧ r.2.mem ((c.tc : Thread nD τ).loc main_v6_1) = rH m c
      ∧ r.2.mem ((c.tc : Thread nD τ).loc main_v6_2) = rG m c
      ∧ r.2.mem ((c.tc : Thread nD τ).loc main_v6_3) = rU m c
      ∧ r.2.mem ((c.tc : Thread nD τ).loc main_v6_4) = rA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => by
    obtain ⟨after, hl, ha⟩ := h.1.exists_exact c
    exact ⟨(ha 5).trans (final5 after hl), (ha 6).trans (final6 after hl), (ha 7).trans (final7 after hl), (ha 8).trans (final8 after hl), (ha 9).trans (final9 after hl),
      (h.1.arr_in c 0 rfl).trans ((A_eq m c 0).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩) (run_main m ρ)

open Cert.FfnFwdRefIdeal in
/-- What the reference's run ends with. -/
theorem ref_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v20) = Read.val_main_v20 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v21) = Read.val_main_v21 (F := Ideal) (m ((c.tc : Thread nD τ).loc main_arg0)) (m ((c.tc : Thread nD τ).loc main_arg1))
      ∧ r.2.mem ((c.tc : Thread nD τ).loc main_v22) = Read.val_main_v22 (F := Ideal) (m ((c.tc : Thread nD τ).loc main_arg0)) (m ((c.tc : Thread nD τ).loc main_arg1)) (m ((c.tc : Thread nD τ).loc main_arg2))
      ∧ r.2.mem ((c.tc : Thread nD τ).loc main_v23) = Read.val_main_v23 (F := Ideal) (m ((c.tc : Thread nD τ).loc main_arg0)) (m ((c.tc : Thread nD τ).loc main_arg1)) (m ((c.tc : Thread nD τ).loc main_arg3))
      ∧ r.2.mem ((c.tc : Thread nD τ).loc main_v24) = Read.val_main_v24 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (Read.val_main_v20_eq _ _ _ _ _), (h c).2.1.trans (Read.val_main_v21_eq _ _), (h c).2.2.1.trans (Read.val_main_v22_eq _ _ _), (h c).2.2.2.1.trans (Read.val_main_v23_eq _ _ _), (h c).2.2.2.2.1.trans (Read.val_main_v24_eq _ _ _ _), (h c).2.2.2.2.2⟩)
    (Value.run (F := Ideal) m ρ)

section Match
open Cert.FfnFwdIdeal Cert.FfnFwdIdeal.Hand Cert.FfnFwdRefIdeal.Hand Cert.FfnFwdRefIdeal.Read

variable (m : (ℓ : Loc nD τ sig) → Buf (Elt Ideal) ℓ) (c : Dev nD)

theorem eqX : val_main_v20 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = rX m c := by
  funext i
  rw [eq_ix2 (n0 := 8192) (n1 := 1024) i]
  exact v20_apply _ _ _ _ _ _ _

theorem eqH : val_main_v21 (F := Ideal) (m ((c.tc : Thread nD τ).loc main_arg0)) (m ((c.tc : Thread nD τ).loc main_arg1)) = rH m c := by
  funext i
  rw [eq_ix2 (n0 := 8192) (n1 := 1024) i]
  exact v21_apply _ _ _ _

theorem eqG : val_main_v22 (F := Ideal) (m ((c.tc : Thread nD τ).loc main_arg0)) (m ((c.tc : Thread nD τ).loc main_arg1)) (m ((c.tc : Thread nD τ).loc main_arg2)) = rG m c := by
  funext i
  rw [eq_ix2 (n0 := 8192) (n1 := 2816) i]
  exact v22_apply _ _ _ _ _

theorem eqU : val_main_v23 (F := Ideal) (m ((c.tc : Thread nD τ).loc main_arg0)) (m ((c.tc : Thread nD τ).loc main_arg1)) (m ((c.tc : Thread nD τ).loc main_arg3)) = rU m c := by
  funext i
  rw [eq_ix2 (n0 := 8192) (n1 := 2816) i]
  exact v23_apply _ _ _ _ _

theorem eqA : val_main_v24 (F := Ideal) (m ((c.tc : Thread nD τ).loc main_arg0)) (m ((c.tc : Thread nD τ).loc main_arg1)) (m ((c.tc : Thread nD τ).loc main_arg2)) (m ((c.tc : Thread nD τ).loc main_arg3)) = rA m c := by
  funext i
  rw [eq_ix2 (n0 := 8192) (n1 := 2816) i]
  exact v24_apply _ _ _ _ _ _

end Match

/-- Kernel and reference end with the same five results. -/
theorem algebraic : Cert.algebraic_FfnFwdIdeal_FfnFwdRefIdeal := by
  intro m g m' g' _ hagree
  refine ⟨_, _, _, _, _, run_value m g, (θ_run Cert.FfnFwdRefIdeal.defs _ _).mono (fun r h c => ?_) (ref_value m' g')⟩
  obtain ⟨a0, a1, a2, a3, a4⟩ := hagree c
  obtain ⟨h0, h1, h2, h3, h4, hk⟩ := h c
  rw [a0, a1, a2, a3, a4] at h0
  rw [a0, a1] at h1
  rw [a0, a1, a2] at h2
  rw [a0, a1, a3] at h3
  rw [a0, a1, a2, a3] at h4
  exact ⟨h0.trans (eqX m c), h1.trans (eqH m c), h2.trans (eqG m c), h3.trans (eqU m c), h4.trans (eqA m c), hk⟩

end Cert.Proof.FfnFwdVal

end
-- ==== Proof.MergeFwdVal.lean ====
module

public import proofs.«01_k».proof.Defs
public import proofs.«01_k».proof.Proof.MergeGrad
public import proofs.«01_k».proof.Proof.Gen.MergeFwdIdeal.Value
public import proofs.«01_k».proof.Proof.Gen.MergeFwdRefIdeal.Run
public import proofs.«01_k».proof.Proof.Gen.MergeFwdRefIdeal.Read
public import Idealize.ShloMosaic.Lib.Pipeline.ValueKit
public import Idealize.ShloMosaic.Lib.Pointwise
public import Idealize.ShloMosaic.Lib.Claim
public import Idealize.ShloMosaic.Adequacy
public import Idealize.ShloMosaic.Init

@[expose] public section

set_option maxRecDepth 16384

noncomputable section

namespace Cert.Proof.MergeFwdVal

section Kernel
open Cert.MergeFwdIdeal Cert.MergeFwdIdeal.Gen Idealize.ShloMosaic Idealize.ShloMosaic.TcCoe Idealize.SL.Sem
open Idealize.ShloMosaic.Pipeline (Dat)
open Cert.K
open Cert.MergeIdeal.Hand (gate gateArg proj)

variable (m : (ℓ : Loc nD τ sig) → Buf (Elt Ideal) ℓ)

/-- The three gates. -/
def sF (H : S8192x1024.Idx → EReal) (W : S3x1024x1024.Idx → EReal) : FVec Ideal S3x8192x1024 .bf16 := fun i => gate H W (i 0) (i 1) (i 2)

/-- The three projected branches. -/
def pF (Y : Fin 3 → S8192x512.Idx → EReal) (B : S3x512x1024.Idx → EReal) : FVec Ideal S3x8192x1024 .bf16 := fun i => proj Y B (i 0) (i 1) (i 2)

/-- The gated sum of the branches. -/
def mF (H : S8192x1024.Idx → EReal) (Y : Fin 3 → S8192x512.Idx → EReal) (W : S3x1024x1024.Idx → EReal) (B : S3x512x1024.Idx → EReal) :
    FVec Ideal S8192x1024 .bf16 := fun i =>
  gate H W 0 (i 0) (i 1) * proj Y B 0 (i 0) (i 1) + gate H W 1 (i 0) (i 1) * proj Y B 1 (i 0) (i 1) + gate H W 2 (i 0) (i 1) * proj Y B 2 (i 0) (i 1)

theorem idx : ∀ t : Fin cfg0.N, win0_0.index t = ![t.val, 0] ∧ win0_1.index t = ![t.val, 0] ∧ win0_2.index t = ![t.val, 0]
    ∧ win0_3.index t = ![t.val, 0] ∧ win0_4.index t = ![0, 0, 0] ∧ win0_5.index t = ![0, 0, 0] ∧ win0_6.index t = ![t.val, 0]
    ∧ win0_7.index t = ![0, t.val, 0] ∧ win0_8.index t = ![0, t.val, 0] :=
  (by decide +kernel : ∀ t : Fin grid0.N, _)

/-- The three branches' outputs. -/
abbrev ys (c : Dev nD) : Fin 3 → S8192x512.Idx → EReal :=
  ![m ((c : Thread nD τ).loc main_arg1), m ((c : Thread nD τ).loc main_arg2), m ((c : Thread nD τ).loc main_arg3)]

section Blocks
variable (c : Dev nD) (t : Fin cfg0.N) (b : Fin 3) (p : Fin 512) (n : Fin 8192) (hn : n.val = t.val * 512 + p.val)

theorem w_blk (j k : Fin 1024) : (show FVec Ideal S3x1024x1024 .bf16 from iblk m c 4 t) (ix3 b j k) = m ((c : Thread nD τ).loc main_arg4) (ix3 b j k) := by
  refine Eq.trans ?_ (show (show FVec Ideal S3x1024x1024 .bf16 from V m c main_v4) (ix3 b j k) = _ by unfold V; after_results; rfl)
  blk_ext [iblk, idx t]

theorem b_blk (j : Fin 1024) (k : Fin 512) : (show FVec Ideal S3x1024x512 .bf16 from iblk m c 5 t) (ix3 b j k) = m ((c : Thread nD τ).loc main_arg5) (ix3 b k j) := by
  refine Eq.trans ?_ (show (show FVec Ideal S3x1024x512 .bf16 from V m c main_v6) (ix3 b j k) = _ by unfold V; after_results; pointwise)
  blk_ext [iblk, idx t]

include hn
theorem h_blk (k : Fin 1024) : (show FVec Ideal S512x1024 .bf16 from iblk m c 0 t) (ix2 p k) = m ((c : Thread nD τ).loc main_arg0) (ix2 n k) := by
  refine Eq.trans ?_ (show (show FVec Ideal S8192x1024 .bf16 from V m c main_v3) (ix2 n k) = _ by unfold V; after_results; rfl)
  blk_ext [iblk, idx t, hn]

theorem y_blk (k : Fin 512) : (show FVec Ideal S512x512 .bf16 from iblk m c 1 t) (ix2 p k) = ys m c 0 (ix2 n k)
    ∧ (show FVec Ideal S512x512 .bf16 from iblk m c 2 t) (ix2 p k) = ys m c 1 (ix2 n k)
    ∧ (show FVec Ideal S512x512 .bf16 from iblk m c 3 t) (ix2 p k) = ys m c 2 (ix2 n k) := by
  refine ⟨?_, ?_, ?_⟩
  · refine Eq.trans ?_ (show (show FVec Ideal S8192x512 .bf16 from V m c main_v0) (ix2 n k) = _ by unfold V; after_results; rfl)
    blk_ext [iblk, idx t, hn]
  · refine Eq.trans ?_ (show (show FVec Ideal S8192x512 .bf16 from V m c main_v1) (ix2 n k) = _ by unfold V; after_results; rfl)
    blk_ext [iblk, idx t, hn]
  · refine Eq.trans ?_ (show (show FVec Ideal S8192x512 .bf16 from V m c main_v2) (ix2 n k) = _ by unfold V; after_results; rfl)
    blk_ext [iblk, idx t, hn]

section Points
variable (a : Fin 3) (ha : a.val = b.val) (k l : Fin 1024) (hl : l.val = k.val)
include ha hl

/-- A gate of a point's rows. -/
theorem gate_point :
    Ideal.div 1 (1 + Ideal.exp (0 - ∑ j : Fin 1024, (show FVec Ideal S512x1024 .bf16 from iblk m c 0 t) (ix2 p j)
      * (show FVec Ideal S3x1024x1024 .bf16 from iblk m c 4 t) (ix3 b j k)))
    = gate (m ((c : Thread nD τ).loc main_arg0)) (m ((c : Thread nD τ).loc main_arg4)) a n l := by
  rw [Fin.ext ha, Fin.ext hl, zero_sub]
  exact congrArg (fun s => Ideal.div 1 (1 + Ideal.exp (-s))) (Finset.sum_congr rfl fun j _ => Ideal.mul_congr (h_blk m c t p n hn j) (w_blk m c t b j k))

/-- A branch's projection of a point's rows. -/
theorem proj_point (y : FVec Ideal S512x512 .bf16) (hy : ∀ j : Fin 512, y (ix2 p j) = ys m c b (ix2 n j)) :
    ∑ j : Fin 512, y (ix2 p j) * (show FVec Ideal S3x1024x512 .bf16 from iblk m c 5 t) (ix3 b k j)
    = proj (ys m c) (m ((c : Thread nD τ).loc main_arg5)) a n l := by
  rw [Fin.ext ha, Fin.ext hl]
  exact Finset.sum_congr rfl fun j _ => Ideal.mul_congr (hy j) (b_blk m c t b k j)
end Points
end Blocks

set_option maxHeartbeats 2000000 in
theorem final_s (c : Dev nD) : (dats m 0 c).arrAt 7 cfg0.N = sF (m ((c : Thread nD τ).loc main_arg0)) (m ((c : Thread nD τ).loc main_arg4)) := by
  refine (dats m 0 c).arrAt_eq_of_covers 7 _ (by decide +kernel) fun t _ y => ?_
  blk_simp
  rw [after0_7]
  have ht : t.val < 16 := lt_of_lt_of_eq t.isLt N_0
  have fin (y : S3x512x1024.Idx) : (out0_7 (F := Ideal) (iblk m c 0 t) (iblk m c 1 t) (iblk m c 2 t) (iblk m c 3 t) (iblk m c 4 t) (iblk m c 5 t)) y
      = sF (m ((c : Thread nD τ).loc main_arg0)) (m ((c : Thread nD τ).loc main_arg4))
        (ix3 (y 0) ⟨t.val * 512 + (y 1).val, by have : (y 1).val < 512 := (y 1).isLt; omega⟩ (y 2)) := by
    frame_out
    canon_tiles x h
    all_goals (refine (congrArg _ (eq_ix3 x)).trans ?_; pointwise [k0_pay19, k0_pay20, k0_pay21, k0_pay2, k0_pay8, k0_pay14, k0_pay6, k0_pay12, k0_pay11, k0_pay17, k0_pay5])
    all_goals exact gate_point m c t _ (x 1) _ (congrArg (t.val * 512 + ·) h1) (y 0) (by simp only [Fin.val_zero, Fin.val_one, Fin.val_two]; omega) (x 2) (y 2) h2
  refine (fin y).trans ?_
  blk_ext [idx t]

set_option maxHeartbeats 2000000 in
theorem final_p (c : Dev nD) : (dats m 0 c).arrAt 8 cfg0.N = pF (ys m c) (m ((c : Thread nD τ).loc main_arg5)) := by
  refine (dats m 0 c).arrAt_eq_of_covers 8 _ (by decide +kernel) fun t _ y => ?_
  blk_simp
  rw [after0_8]
  have ht : t.val < 16 := lt_of_lt_of_eq t.isLt N_0
  have fin (y : S3x512x1024.Idx) : (out0_8 (F := Ideal) (iblk m c 0 t) (iblk m c 1 t) (iblk m c 2 t) (iblk m c 3 t) (iblk m c 4 t) (iblk m c 5 t)) y
      = pF (ys m c) (m ((c : Thread nD τ).loc main_arg5)) (ix3 (y 0) ⟨t.val * 512 + (y 1).val, by have : (y 1).val < 512 := (y 1).isLt; omega⟩ (y 2)) := by
    frame_out
    canon_tiles x h
    all_goals (refine (congrArg _ (eq_ix3 x)).trans ?_; pointwise [k0_pay3, k0_pay1, k0_pay21, k0_pay9, k0_pay15, k0_pay7, k0_pay13, k0_pay18])
    · exact proj_point m c t 2 (x 1) _ (congrArg (t.val * 512 + ·) h1) (y 0) (by simp only [Fin.val_zero, Fin.val_one, Fin.val_two]; omega) (x 2) (y 2) h2 (iblk m c 3 t) fun j => (y_blk m c t (x 1) _ (congrArg (t.val * 512 + ·) h1) j).2.2
    · exact proj_point m c t 1 (x 1) _ (congrArg (t.val * 512 + ·) h1) (y 0) (by simp only [Fin.val_zero, Fin.val_one, Fin.val_two]; omega) (x 2) (y 2) h2 (iblk m c 2 t) fun j => (y_blk m c t (x 1) _ (congrArg (t.val * 512 + ·) h1) j).2.1
    · exact proj_point m c t 0 (x 1) _ (congrArg (t.val * 512 + ·) h1) (y 0) (by simp only [Fin.val_zero, Fin.val_one, Fin.val_two]; omega) (x 2) (y 2) h2 (iblk m c 1 t) fun j => (y_blk m c t (x 1) _ (congrArg (t.val * 512 + ·) h1) j).1
  refine (fin y).trans ?_
  blk_ext [idx t]

set_option maxHeartbeats 2000000 in
theorem final_m (c : Dev nD) : (dats m 0 c).arrAt 6 cfg0.N = mF (m ((c : Thread nD τ).loc main_arg0)) (ys m c) (m ((c : Thread nD τ).loc main_arg4)) (m ((c : Thread nD τ).loc main_arg5)) := by
  refine (dats m 0 c).arrAt_eq_of_covers 6 _ (by decide +kernel) fun t _ y => ?_
  blk_simp
  rw [after0_6]
  have ht : t.val < 16 := lt_of_lt_of_eq t.isLt N_0
  have fin (p : Fin 512) (k : Fin 1024) : (out0_6 (F := Ideal) (iblk m c 0 t) (iblk m c 1 t) (iblk m c 2 t) (iblk m c 3 t) (iblk m c 4 t) (iblk m c 5 t)) (ix2 p k)
      = mF (m ((c : Thread nD τ).loc main_arg0)) (ys m c) (m ((c : Thread nD τ).loc main_arg4)) (m ((c : Thread nD τ).loc main_arg5)) (ix2 ⟨t.val * 512 + p.val, by omega⟩ k) := by
    frame_out
    pointwise [k0_pay1, k0_pay4, k0_pay16, k0_pay10, k0_pay19, k0_pay20, k0_pay21, k0_pay6, k0_pay7, k0_pay12, k0_pay11, k0_pay13, k0_pay17, k0_pay18, k0_pay5]
    have e := fun b => gate_point m c t b p ⟨t.val * 512 + p.val, by omega⟩ rfl b rfl k k rfl
    have f := fun b => proj_point m c t b p ⟨t.val * 512 + p.val, by omega⟩ rfl b rfl k k rfl
    have yb := fun j => y_blk m c t p ⟨t.val * 512 + p.val, by omega⟩ rfl j
    exact Ideal.add_congr (Ideal.add_congr (Ideal.mul_congr (e 0) (f 0 _ fun j => (yb j).1)) (Ideal.mul_congr (e 1) (f 1 _ fun j => (yb j).2.1)))
      (Ideal.mul_congr (e 2) (f 2 _ fun j => (yb j).2.2))
  refine (congrArg _ (eq_ix2 y)).trans ((fin (y 0) (y 1)).trans ?_)
  blk_ext [idx t]
end Kernel

section Reference
open Cert.MergeFwdRefIdeal Cert.MergeFwdRefIdeal.Read Idealize.ShloMosaic Idealize.ShloMosaic.TcCoe Idealize.SL.Sem
open Cert.K
open Cert.MergeIdeal.Hand (gate gateArg proj)

variable (H : FVec Ideal S8192x1024 .f32) (Y0 Y1 Y2 : FVec Ideal S8192x512 .f32) (W : FVec Ideal S3x1024x1024 .f32) (B : FVec Ideal S3x512x1024 .f32)

theorem gates (n : Fin 8192) (j : Fin 1024) : val_main_v8 (F := Ideal) H W (ix2 n j) = gate H W 0 n j
    ∧ val_main_v17 (F := Ideal) H W (ix2 n j) = gate H W 1 n j ∧ val_main_v26 (F := Ideal) H W (ix2 n j) = gate H W 2 n j :=
  (Cert.MergeRefIdeal.Hand.gates H W n j).1

theorem projs (n : Fin 8192) (j : Fin 1024) : val_main_v29 (F := Ideal) Y0 B (ix2 n j) = proj ![Y0, Y1, Y2] B 0 n j
    ∧ val_main_v32 (F := Ideal) Y1 B (ix2 n j) = proj ![Y0, Y1, Y2] B 1 n j ∧ val_main_v35 (F := Ideal) Y2 B (ix2 n j) = proj ![Y0, Y1, Y2] B 2 n j :=
  (Cert.MergeRefIdeal.Hand.projs Y0 Y1 Y2 B n j).1

theorem s_eq : val_main_v48 (F := Ideal) H W = sF H W := by
  funext i
  have e (b : Fin 3) (n : Fin 8192) (j : Fin 1024) : val_main_v48 (F := Ideal) H W (ix3 b n j) = sF H W (ix3 b n j) := by
    obtain ⟨g0, g1, g2⟩ := gates H W n j
    pointwise [val_main_v48, val_main_v47, val_main_v46, val_main_v45, val_main_v44]
    rw [g0, g1, g2]
    match b with
    | ⟨0, _⟩ => rfl
    | ⟨1, _⟩ => rfl
    | ⟨2, _⟩ => rfl
  exact (congrArg _ (eq_ix3 i)).trans ((e _ _ _).trans (congrArg _ (eq_ix3 i).symm))

theorem p_eq : val_main_v53 (F := Ideal) Y0 Y1 Y2 B = pF ![Y0, Y1, Y2] B := by
  funext i
  have e (b : Fin 3) (n : Fin 8192) (j : Fin 1024) : val_main_v53 (F := Ideal) Y0 Y1 Y2 B (ix3 b n j) = pF ![Y0, Y1, Y2] B (ix3 b n j) := by
    obtain ⟨p0, p1, p2⟩ := projs Y0 Y1 Y2 B n j
    pointwise [val_main_v53, val_main_v52, val_main_v51, val_main_v50, val_main_v49]
    rw [p0, p1, p2]
    match b with
    | ⟨0, _⟩ => rfl
    | ⟨1, _⟩ => rfl
    | ⟨2, _⟩ => rfl
  exact (congrArg _ (eq_ix3 i)).trans ((e _ _ _).trans (congrArg _ (eq_ix3 i).symm))

theorem m_eq : val_main_v43 (F := Ideal) H Y0 Y1 Y2 W B = mF H ![Y0, Y1, Y2] W B := by
  funext i
  have e (n : Fin 8192) (j : Fin 1024) : val_main_v43 (F := Ideal) H Y0 Y1 Y2 W B (ix2 n j) = mF H ![Y0, Y1, Y2] W B (ix2 n j) := by
    obtain ⟨g0, g1, g2⟩ := gates H W n j
    obtain ⟨p0, p1, p2⟩ := projs Y0 Y1 Y2 B n j
    pointwise [val_main_v43, val_main_v42, val_main_v41, val_main_v40, val_main_v39, val_main_v38, val_main_v37, val_main_cst_5, val_main_v36]
    rw [g0, g1, g2, p0, p1, p2]
    rfl
  exact (congrArg _ (eq_ix2 i)).trans ((e _ _).trans (congrArg _ (eq_ix2 i).symm))
end Reference

open Idealize.ShloMosaic Idealize.ShloMosaic.TcCoe Idealize.SL.Sem

/-- The reference keeps its arguments and declares no semaphore. -/
theorem refFrame : Cert.quiescent_MergeFwdRefIdeal := fun m g _ =>
  (θ_run Cert.MergeFwdRefIdeal.defs _ _).mono (fun r h => ⟨fun c => (h c).2.2.2, sem_eq_zero_of_no_sems (by decide) r.2⟩)
    (Cert.MergeFwdRefIdeal.Value.run (F := Ideal) m g)

set_option maxHeartbeats 2000000 in
/-- Kernel and reference end with the same gated sum, gates and projected branches, whatever the arguments. -/
theorem algebraic : Cert.algebraic_MergeFwdIdeal_MergeFwdRefIdeal := by
  pair_intro
  · run_from Cert.MergeFwdIdeal.Value.run_blocks m g
  · run_from Cert.MergeFwdRefIdeal.Value.run m' g'
    all_goals obtain ⟨a0, a1, a2, a3, a4, a5⟩ := hagree c
    · refine (Cert.MergeFwdRefIdeal.Read.val_main_v43_eq _ _ _ _ _ _).trans ?_
      exact (m_eq _ _ _ _ _ _).trans (final_m m _).symm
    · refine (Cert.MergeFwdRefIdeal.Read.val_main_v48_eq _ _).trans ?_
      rw [a4]
      exact (s_eq _ _).trans (final_s m _).symm
    · refine (Cert.MergeFwdRefIdeal.Read.val_main_v53_eq _ _ _ _).trans ?_
      rw [a1, a2, a3, a5]
      exact (p_eq _ _ _ _).trans (final_p m _).symm

end Cert.Proof.MergeFwdVal
-- ==== Proof.NormFwdVal.lean ====
module

public import proofs.«01_k».proof.Defs
public import proofs.«01_k».proof.Proof.Basic
public import proofs.«01_k».proof.Proof.Gen.NormFwdIdeal.Value
public import proofs.«01_k».proof.Proof.Gen.NormFwdRefIdeal.Run
public import proofs.«01_k».proof.Proof.Gen.NormFwdRefIdeal.Read
public import Idealize.ShloMosaic.Lib.Pipeline.ValueKit
public import Idealize.ShloMosaic.Lib.Pointwise
public import Idealize.ShloMosaic.Lib.Claim
public import Idealize.ShloMosaic.Adequacy
public import Idealize.ShloMosaic.Init

@[expose] public section

set_option maxRecDepth 16384

noncomputable section

namespace Cert.Proof.NormFwdVal

section Kernel
open Cert.NormFwdIdeal Cert.NormFwdIdeal.Gen Idealize.ShloMosaic Idealize.ShloMosaic.TcCoe Idealize.SL.Sem
open Idealize.ShloMosaic.Pipeline (Dat)
open Cert.K

/-- Every row over its root mean square, times the weight. -/
def nF (X : FVec Ideal S8192x1024 .f32) (W : FVec Ideal S1024 .f32) : FVec Ideal S8192x1024 .bf16 := fun i =>
  X (ix2 (i 0) (i 1)) * (rms fun k => X (ix2 (i 0) k)) * W (ix1 (i 1))

theorem idx : ∀ t : Fin cfg0.N, win0_0.index t = ![t.val, 0] ∧ win0_1.index t = ![0, 0] ∧ win0_2.index t = ![t.val, 0] :=
  (by decide +kernel : ∀ t : Fin grid0.N, _)

theorem pay_apply (x : Vec Ideal S1024x1024 .f32) (w : Vec Ideal S1x1024 .f32) (p k : Fin 1024) :
    k0_pay1 x w (ix2 p k) = x (ix2 p k) * (rms fun k => x (ix2 p k)) * w (ix2 0 k) := by
  pointwise [k0_pay1]
  rw [bits_1024, bits_eps]
  rfl

theorem final_n (m : (ℓ : Loc nD τ sig) → Buf (Elt Ideal) ℓ) (c : Dev nD) :
    (dats m 0 c).arrAt 2 cfg0.N = nF (m ((c : Thread nD τ).loc main_arg0)) (m ((c : Thread nD τ).loc main_arg1)) := by
  refine (dats m 0 c).arrAt_eq_of_covers 2 _ (by decide +kernel) fun t _ y => ?_
  blk_simp
  rw [after0_2]
  unfold out0_2
  frame_out
  refine ((congrArg _ (eq_ix2 y)).trans (pay_apply _ _ (y 0) (y 1))).trans ?_
  unfold nF rms
  blk_point [iblk, V, idx t]
  refine congrArg₂ _ ?_ ?_ <;> blk_ext [V, idx t]
end Kernel

section Reference
open Cert.NormFwdRefIdeal Cert.NormFwdRefIdeal.Read Idealize.ShloMosaic Idealize.ShloMosaic.TcCoe Idealize.SL.Sem
open Cert.K

theorem n_eq (x0 : FVec Ideal S8192x1024 .f32) (x1 : FVec Ideal S1024 .f32) : val_main_v13 (F := Ideal) x0 x1 = nF x0 x1 := by
  funext i
  have h (r : Fin 8192) (k : Fin 1024) : val_main_v13 (F := Ideal) x0 x1 (ix2 r k) = nF x0 x1 (ix2 r k) := by
    pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13]
    rw [bits_1024, bits_eps]
    rfl
  exact (congrArg _ (eq_ix2 i)).trans ((h (i 0) (i 1)).trans (congrArg _ (eq_ix2 i).symm))
end Reference

open Idealize.ShloMosaic Idealize.ShloMosaic.TcCoe Idealize.SL.Sem

/-- The reference keeps its arguments and declares no semaphore. -/
theorem refFrame : Cert.quiescent_NormFwdRefIdeal := fun m g _ =>
  (θ_run Cert.NormFwdRefIdeal.defs _ _).mono (fun r h => ⟨fun c => (h c).2, sem_eq_zero_of_no_sems (by decide) r.2⟩)
    (Cert.NormFwdRefIdeal.Value.run (F := Ideal) m g)

/-- Kernel and reference end with the same normed rows, whatever the arguments. -/
theorem algebraic : Cert.algebraic_NormFwdIdeal_NormFwdRefIdeal := by
  pair_intro
  · run_from Cert.NormFwdIdeal.Value.run_blocks m g
  · run_from Cert.NormFwdRefIdeal.Value.run m' g'
    · exact (n_eq _ _).trans (final_n m _).symm

end Cert.Proof.NormFwdVal
-- ==== Proof.ConvFwdVal.lean ====
module

public import proofs.«01_k».proof.Defs
public import proofs.«01_k».proof.Proof.ConvGrad
public import proofs.«01_k».proof.Proof.Gen.ConvFwdIdeal.Value
public import proofs.«01_k».proof.Proof.Gen.ConvFwdRefIdeal.Run
public import proofs.«01_k».proof.Proof.Gen.ConvFwdRefIdeal.Read
public import Idealize.ShloMosaic.Lib.Pipeline.ValueKit
public import Idealize.ShloMosaic.Lib.Pointwise
public import Idealize.ShloMosaic.Lib.Claim
public import Idealize.ShloMosaic.Adequacy
public import Idealize.ShloMosaic.Init

@[expose] public section

set_option maxRecDepth 16384

noncomputable section

namespace Cert.Proof.ConvFwdVal

section Kernel
open Cert.ConvFwdIdeal Cert.ConvFwdIdeal.Gen Idealize.ShloMosaic Idealize.ShloMosaic.TcCoe Idealize.SL.Sem
open Idealize.ShloMosaic.Pipeline (Dat)
open Cert.K
open Cert.ConvIdeal.Hand (colAt zd up_of)

variable (m : (ℓ : Loc nD τ sig) → Buf (Elt Ideal) ℓ)

/-- The gated convolution: three taps over the product of two column blocks, times the third block. -/
def yF (X : FVec Ideal S8192x5120 .f32) (W : FVec Ideal S3x512 .f32) : FVec Ideal S8192x512 .bf16 := fun i =>
  colAt X 1 (i 0) (i 1) * (W (ix2 0 (i 1)) * zd X 2 (i 0) (i 1) + W (ix2 1 (i 1)) * zd X 1 (i 0) (i 1) + W (ix2 2 (i 1)) * zd X 0 (i 0) (i 1))

theorem idx : ∀ t : Fin cfg0.N, win0_0.index t = ![0, t.val % 8, t.val / 8] ∧ win0_1.index t = ![1, t.val % 8, t.val / 8]
    ∧ win0_2.index t = ![2, t.val % 8, t.val / 8] ∧ win0_3.index t = ![0, t.val % 8 * 64 - 1, t.val / 8]
    ∧ win0_4.index t = ![2, t.val % 8 * 64 - 1, t.val / 8] ∧ win0_5.index t = ![0, t.val / 8] ∧ win0_6.index t = ![t.val % 8, t.val / 8] :=
  (by decide +kernel : ∀ t : Fin grid0.N, _)

theorem coords_val : ∀ t : Fin cfg0.N, (grid0.coords t 1).val = t.val % 8 := (by decide +kernel : ∀ t : Fin grid0.N, _)

/-- The stacked columns the windows are cut from. -/
theorem stack_apply (c : Dev nD) (s : Fin 10) (n : Fin 8192) (k : Fin 512) :
    (show FVec Ideal S10x8192x512 .bf16 from V m c main_v21) (ix3 s n k) = colAt (m ((c : Thread nD τ).loc main_arg0)) s n k := by
  unfold V colAt
  after_results
  pointwise
  fin_vals s with hs
  all_goals simp only [hs, Nat.reduceSub, Nat.reduceLT, ↓reduceDIte]
  all_goals (simp only [↓ StableHlo.readResult]; pointwise; blk_ext [hs])

/-- One entry of what a point stores, over the blocks it reads. -/
theorem pay_apply (i : grid0.Coords) (b2 b0 b1 : Vec Ideal S1x1024x128 .bf16) (b4 b3 : Vec Ideal S1x16x128 .bf16) (w0 w1 w2 : Vec Ideal S1x128 .f32)
    (p : Fin 1024) (k : Fin 128) (x : EReal) (z : ℕ → EReal) (h1 : b1 (ix3 0 p k) = x) (h0 : b2 (ix3 0 p k) * b0 (ix3 0 p k) = z 0)
    (h : ∀ d q : ℕ, d < 16 → (hq : q = 16 + p.val - d) → (if h : q < 16 then
        Scalar.select (Scalar.cmpi CmpIPredicate.eq (BitVec.ofNat 32 ↑(i 1)) 0#32) 0 (b4 (ix3 0 ⟨q, h⟩ k) * b3 (ix3 0 ⟨q, h⟩ k))
      else b2 (ix3 0 ⟨q - 16, by omega⟩ k) * b0 (ix3 0 ⟨q - 16, by omega⟩ k)) = z d) :
    k0_pay1 (k0_pay2 i b2 b0 b4 b3 w0 w1 w2) b1 (ix2 p k) = x * (w0 (ix2 0 k) * z 2 + w1 (ix2 0 k) * z 1 + w2 (ix2 0 k) * z 0) := by
  pointwise [k0_pay1, k0_pay2]
  exact Ideal.mul_congr h1 (Ideal.add_congr (Ideal.add_congr (Ideal.mul_congr rfl (h 2 _ (by norm_num) (by omega)))
    (Ideal.mul_congr rfl (h 1 _ (by norm_num) (by omega)))) (Ideal.mul_congr rfl h0))

section Blocks
variable (c : Dev nD) (t : Fin cfg0.N) (k : Fin 128) (l : Fin 512) (hl : l.val = t.val / 8 * 128 + k.val) (n : Fin 8192)
include hl

theorem tile_blk (z : Fin 1) (p : Fin 1024) (hn : n.val = t.val % 8 * 1024 + p.val) :
    (show FVec Ideal S1x1024x128 .bf16 from iblk m c 0 t) (ix3 z p k) = colAt (m ((c : Thread nD τ).loc main_arg0)) 0 n l
    ∧ (show FVec Ideal S1x1024x128 .bf16 from iblk m c 1 t) (ix3 z p k) = colAt (m ((c : Thread nD τ).loc main_arg0)) 1 n l
    ∧ (show FVec Ideal S1x1024x128 .bf16 from iblk m c 2 t) (ix3 z p k) = colAt (m ((c : Thread nD τ).loc main_arg0)) 2 n l := by
  refine ⟨Eq.trans ?_ (stack_apply m c 0 n l), Eq.trans ?_ (stack_apply m c 1 n l), Eq.trans ?_ (stack_apply m c 2 n l)⟩
  all_goals blk_ext [iblk, idx t, hl, hn]

theorem edge_blk (z : Fin 1) (p : Fin 16) (hn : n.val = (t.val % 8 * 64 - 1) * 16 + p.val) :
    (show FVec Ideal S1x16x128 .bf16 from iblk m c 3 t) (ix3 z p k) = colAt (m ((c : Thread nD τ).loc main_arg0)) 0 n l
    ∧ (show FVec Ideal S1x16x128 .bf16 from iblk m c 4 t) (ix3 z p k) = colAt (m ((c : Thread nD τ).loc main_arg0)) 2 n l := by
  refine ⟨Eq.trans ?_ (stack_apply m c 0 n l), Eq.trans ?_ (stack_apply m c 2 n l)⟩
  all_goals blk_ext [iblk, idx t, hl, hn]

theorem w_blk (a : Fin 3) : (show FVec Ideal S3x128 .f32 from iblk m c 5 t) (ix2 a k) = m ((c : Thread nD τ).loc main_arg1) (ix2 a l) := by
  blk_ext [iblk, V, idx t, hl]

theorem up (p : Fin 1024) (hn : n.val = t.val % 8 * 1024 + p.val) (d : ℕ) (hd : d < 16) (q : ℕ) (hq : q = 16 + p.val - d) :
    (if h : q < 16 then
      Scalar.select (Scalar.cmpi CmpIPredicate.eq (BitVec.ofNat 32 ↑(grid0.coords t 1)) 0#32) 0
        ((show FVec Ideal S1x16x128 .bf16 from iblk m c 4 t) (ix3 0 ⟨q, h⟩ k) * (show FVec Ideal S1x16x128 .bf16 from iblk m c 3 t) (ix3 0 ⟨q, h⟩ k))
    else (show FVec Ideal S1x1024x128 .bf16 from iblk m c 2 t) (ix3 0 ⟨q - 16, by omega⟩ k)
      * (show FVec Ideal S1x1024x128 .bf16 from iblk m c 0 t) (ix3 0 ⟨q - 16, by omega⟩ k))
    = zd (m ((c : Thread nD τ).loc main_arg0)) d n l :=
  up_of _ (t.val % 8) (Nat.mod_lt _ (by norm_num)) _ (coords_val t) l n _ _ _ _ (fun n p h => (tile_blk m c t k l hl n 0 p h).2.2)
    (fun n p h => (tile_blk m c t k l hl n 0 p h).1) (fun n p h => (edge_blk m c t k l hl n 0 p h).2) (fun n p h => (edge_blk m c t k l hl n 0 p h).1) p hn d hd q hq
end Blocks

theorem final_y (c : Dev nD) : (dats m 0 c).arrAt 6 cfg0.N = yF (m ((c : Thread nD τ).loc main_arg0)) (m ((c : Thread nD τ).loc main_arg1)) := by
  refine (dats m 0 c).arrAt_eq_of_covers 6 _ (by decide +kernel) fun t _ y => ?_
  blk_simp
  rw [after0_6]
  have ht : t.val < 32 := lt_of_lt_of_eq t.isLt N_0
  have fin (p : Fin 1024) (k : Fin 128) (n : Fin 8192) (hn : n.val = t.val % 8 * 1024 + p.val) (l : Fin 512) (hl : l.val = t.val / 8 * 128 + k.val) :
      (out0_6 (F := Ideal) (grid0.coords t) (iblk m c 0 t) (iblk m c 1 t) (iblk m c 2 t) (iblk m c 3 t) (iblk m c 4 t) (iblk m c 5 t)) (ix2 p k)
      = yF (m ((c : Thread nD τ).loc main_arg0)) (m ((c : Thread nD τ).loc main_arg1)) (ix2 n l) := by
    frame_out
    obtain ⟨e0, e1, e2⟩ := tile_blk m c t k l hl n 0 p hn
    refine (pay_apply (grid0.coords t) (iblk m c 2 t) (iblk m c 0 t) (iblk m c 1 t) (iblk m c 4 t) (iblk m c 3 t) _ _ _ p k _
      (zd (m ((c : Thread nD τ).loc main_arg0)) · n l) e1 ((Ideal.mul_congr e2 e0).trans (by simp [zd])) fun d q hd hq => up m c t k l hl n p hn d hd q hq).trans ?_
    refine Ideal.mul_congr rfl (Ideal.add_congr (Ideal.add_congr (Ideal.mul_congr ?_ rfl) (Ideal.mul_congr ?_ rfl)) (Ideal.mul_congr ?_ rfl))
    all_goals (pointwise; exact w_blk m c t k l hl _)
  refine (congrArg _ (eq_ix2 y)).trans ((fin (y 0) (y 1) ⟨t.val % 8 * 1024 + (y 0).val, by have : (y 0).val < 1024 := (y 0).isLt; omega⟩ rfl
    ⟨t.val / 8 * 128 + (y 1).val, by have : (y 1).val < 128 := (y 1).isLt; omega⟩ rfl).trans ?_)
  blk_ext [idx t]
end Kernel

section Reference
open Cert.ConvFwdRefIdeal Cert.ConvFwdRefIdeal.Read Idealize.ShloMosaic Idealize.ShloMosaic.TcCoe Idealize.SL.Sem
open Cert.K
open Cert.ConvIdeal.Hand (colAt zd)

theorem y_eq (X : FVec Ideal S8192x5120 .f32) (W : FVec Ideal S3x512 .f32) : val_main_v34 (F := Ideal) X W = yF X W := by
  funext i
  have h (n : Fin 8192) (k : Fin 512) : val_main_v34 (F := Ideal) X W (ix2 n k) = yF X W (ix2 n k) := by
    have e : val_main_v31 (F := Ideal) X W (ix3 0 n k) = W (ix2 0 k) * zd X 2 n k + W (ix2 1 k) * zd X 1 n k + W (ix2 2 k) * zd X 0 n k :=
      Cert.ConvRefIdeal.Hand.v32_apply X W 0 n k
    pointwise [val_main_v34, val_main_v33, val_main_v32, val_main_v4, val_main_v1]
    rw [e]
    simp [yF, colAt]
  exact (congrArg _ (eq_ix2 i)).trans ((h (i 0) (i 1)).trans (congrArg _ (eq_ix2 i).symm))
end Reference

open Idealize.ShloMosaic Idealize.ShloMosaic.TcCoe Idealize.SL.Sem

/-- The reference keeps its arguments and declares no semaphore. -/
theorem refFrame : Cert.quiescent_ConvFwdRefIdeal := fun m g _ =>
  (θ_run Cert.ConvFwdRefIdeal.defs _ _).mono (fun r h => ⟨fun c => (h c).2, sem_eq_zero_of_no_sems (by decide) r.2⟩)
    (Cert.ConvFwdRefIdeal.Value.run (F := Ideal) m g)

/-- Kernel and reference end with the same gated convolution, whatever the arguments. -/
theorem algebraic : Cert.algebraic_ConvFwdIdeal_ConvFwdRefIdeal := by
  pair_intro
  · run_from Cert.ConvFwdIdeal.Value.run_blocks m g
  · run_from Cert.ConvFwdRefIdeal.Value.run m' g'
    obtain ⟨a0, a1⟩ := hagree c
    refine (Cert.ConvFwdRefIdeal.Read.val_main_v34_eq _ _).trans ?_
    exact (y_eq _ _).trans (final_y m _).symm

end Cert.Proof.ConvFwdVal
-- ==== Proof.BiasFwdVal.lean ====
/- The relative bias's windows: the kernel's skewed rows and the reference's gather are one array. -/
module

public import proofs.«01_k».proof.Defs
public import proofs.«01_k».proof.Proof.BiasGrad
public import proofs.«01_k».proof.Proof.Gen.BiasFwdIdeal.Value
public import proofs.«01_k».proof.Proof.Gen.BiasFwdRefIdeal.Run
public import proofs.«01_k».proof.Proof.Gen.BiasFwdRefIdeal.Read
public import Idealize.ShloMosaic.Lib.KernelVsHost
public import Idealize.ShloMosaic.Lib.Pipeline.ReadBack

@[expose] public section

set_option maxRecDepth 16384

noncomputable section

namespace Cert.Proof.BiasFwdVal

open Cert.BiasIdeal.Hand (bin away bin_word eq_word bits_of_row)

section Kernel
open Cert.BiasFwdIdeal Cert.BiasFwdIdeal.Gen Idealize.ShloMosaic Idealize.ShloMosaic.TcCoe Idealize.SL.Sem
open Idealize.ShloMosaic.Pipeline (Dat)
open Cert.K

/-- Whether a query of a window sees a position: its chunk of 64 is one of the nine up to the query's. -/
def seen (v k q : ℕ) : BitVec 1 :=
  IntOp.andi (IntOp.cmpi .sle (BitVec.ofNat 32 (q / 64)) (BitVec.ofNat 32 ((v * 256 + k) / 64)))
    (IntOp.cmpi .sge (BitVec.ofNat 32 (q / 64)) (IntOp.subi (BitVec.ofNat 32 ((v * 256 + k) / 64)) 8#32))

theorem bin_lt (d : ℕ) : bin d < 257 := by unfold bin; omega

/-- The bias at every distance a window sees, and the large negative number elsewhere. -/
def bF (B : FVec Ideal S2x8x257 .f32) : FVec Ideal S2x3x8x256x768 .f32 := fun y =>
  Scalar.select (seen (y 1).val (y 3).val (y 4).val) (B (ix3 (y 0) (y 2) ⟨bin ((y 1).val * 256 + 1024 + (y 3).val - (y 4).val), bin_lt _⟩)) (Ideal.ofBits .f32 0xF149F2CA#32)

/-- One doubling of the rows, the lower half moved along by the upper half's number. -/
theorem double_apply (m : ℕ) (w : BitVec 32) (hw : w.toNat = m) (hm : m ≤ 128) (a : FVec Ideal ⟨2, ![m, 1024]⟩ .f32) (E : ℕ → EReal)
    (ha : ∀ (p : Fin m) (j : Fin 1024), a (ix2 p j) = E ((j.val + 1024 - p.val) % 1024))
    (hr : (⟨2, ![m, 1024]⟩ : Shape).Rotates 1 none) (hc : Shape.Concatenates [⟨2, ![m, 1024]⟩, ⟨2, ![m, 1024]⟩] ⟨2, ![2 * m, 1024]⟩ 0) (p : Fin (2 * m)) (j : Fin 1024) :
    concatenate ⟨2, ![2 * m, 1024]⟩ 0 [⟨⟨2, ![m, 1024]⟩, a⟩, ⟨⟨2, ![m, 1024]⟩, dynamicRotate 1 w none a hr⟩] hc (ix2 p j) = E ((j.val + 1024 - p.val) % 1024) := by
  have hp := p.isLt
  by_cases h : p.val < m
  · refine (concatenate_pair_apply_left 0 a _ hc (ix2 p j) rfl (ix2 ⟨p.val, h⟩ j) fun b => ?_).trans (ha _ _)
    fin_cases b <;> rfl
  · refine (concatenate_pair_apply_right 0 a _ hc (ix2 p j) rfl rfl (ix2 ⟨p.val - m, by omega⟩ j) (fun b hb => ?_) ?_).trans ?_
    · fin_cases b
      · exact absurd rfl hb
      · rfl
    · show p.val - m + m = p.val
      omega
    · rw [Pointwise.dynamicRotate_apply]
      have e : (j.val + 1024 - (w.toNat + 0) % 1024) % 1024 < 1024 := Nat.mod_lt _ (by decide)
      refine Eq.trans (congrArg a (?_ : _ = ix2 ⟨p.val - m, by omega⟩ ⟨(j.val + 1024 - (w.toNat + 0) % 1024) % 1024, e⟩)) ((ha _ _).trans (congrArg E ?_))
      · funext b
        fin_cases b <;> rfl
      · show ((j.val + 1024 - (w.toNat + 0) % 1024) % 1024 + 1024 - (p.val - m)) % 1024 = _
        omega

section Tile
variable (M : IVec S256x768 1) (x : Vec Ideal S1x1024 .f32)

/-- A row's entry. -/
def at1 (n : ℕ) : EReal := x (ix2 0 ⟨n % 1024, Nat.mod_lt _ (by decide)⟩)

/-- One move along, of the rows a mask chooses. -/
theorem move_apply (a : FVec Ideal S8x1024 .f32) (C : IVec S8x1024 1) (w : BitVec 32) (hr : S8x1024.Rotates 1 none) (s : Fin 8) (f : ℕ) (P : Prop) [Decidable P]
    (hC : ∀ j : Fin 1024, C (ix2 s j) = BitVec.ofBool (decide P)) (ha : ∀ j : Fin 1024, a (ix2 s j) = at1 x ((j.val + 1024 - f) % 1024)) (hf : f + w.toNat ≤ 1024) (j : Fin 1024) :
    select C (dynamicRotate 1 w none a hr) a (ix2 s j) = at1 x ((j.val + 1024 - (f + if P then w.toNat else 0)) % 1024) := by
  refine (congrArg (fun z => Scalar.select z (dynamicRotate 1 w none a hr (ix2 s j)) (a (ix2 s j))) (hC j)).trans ?_
  rw [WordCmp.select_decide]
  split
  · rw [Pointwise.dynamicRotate_apply]
    have e : (j.val + 1024 - (w.toNat + 0) % 1024) % 1024 < 1024 := Nat.mod_lt _ (by decide)
    refine Eq.trans (congrArg a (?_ : _ = ix2 s ⟨(j.val + 1024 - (w.toNat + 0) % 1024) % 1024, e⟩)) ((ha _).trans (congrArg (at1 x) ?_))
    · funext b
      fin_cases b <;> rfl
    · show ((j.val + 1024 - (w.toNat + 0) % 1024) % 1024 + 1024 - f) % 1024 = _
      omega
  · exact ha j

/-- The eight rows, each moved along by its number. -/
theorem eight_apply (s : Fin 8) (j : Fin 1024) : k0_pay9 (F := Ideal) x (ix2 s j) = at1 x ((j.val + 1024 - s.val) % 1024) := by
  have hb := bits_of_row s
  have h0 (j : Fin 1024) : (broadcastTo S8x1024 (shapeCast S1x1024 x shapeCasts_S1x1024_S1x1024) broadcasts_S1x1024_S8x1024 : FVec Ideal S8x1024 .f32) (ix2 s j)
      = at1 x ((j.val + 1024 - 0) % 1024) := by
    pointwise
    exact congrArg x (congrArg (ix2 0) (Fin.ext (by show j.val = (j.val + 1024 - 0) % 1024 % 1024; omega)))
  refine (move_apply x _ _ 4#32 _ s _ (s.val / 4 = 1) (fun _ => by pointwise; exact hb.2.2) (move_apply x _ _ 2#32 _ s _ (s.val / 2 % 2 = 1) (fun _ => by pointwise; exact hb.2.1)
    (move_apply x _ _ 1#32 _ s _ (s.val % 2 = 1) (fun _ => by pointwise; exact hb.1) h0 ?_) ?_) ?_ j).trans (congrArg (at1 x) ?_)
  all_goals
    simp only [BitVec.toNat_ofNat]
    have := s.isLt
    (try split_ifs) <;> omega

/-- A head's tile, as the kernel stores it. -/
def tile : FVec Ideal S1x1x1x256x768 .f32 := k0_pay10 M (k0_pay9 x) 8#32

/-- Each head's tile is made by the same operations. -/
theorem heads :
    k0_pay13 M (k0_pay11 x) k0_pay12 = tile M x
    ∧ k0_pay17 M (iota .tc S8x1024 32 [0] iota_S8x1024_d0_w32) (k0_pay14 x) k0_pay15 k0_pay16 = tile M x
    ∧ k0_pay20 M (k0_pay18 x) (iota .tc S8x1024 32 [0] iota_S8x1024_d0_w32) k0_pay19 1#32 = tile M x
    ∧ k0_pay22 (k0_pay21 M x) = tile M x
    ∧ k0_pay25 M (k0_pay23 x) (k0_pay24 x) = tile M x
    ∧ k0_pay27 M (k0_pay26 x) 8#32 = tile M x
    ∧ k0_pay1 M (k0_pay28 x) k0_pay29 = tile M x :=
  ⟨rfl, rfl, rfl, rfl, rfl, rfl, rfl⟩

theorem tile_apply (a b c : Fin 1) (k : Fin 256) (q : Fin 768) :
    tile M x (ix5 a b c k q) = Scalar.select (M (ix2 k q)) (at1 x ((q.val + 1024 - k.val) % 1024)) (Ideal.ofBits .f32 0xF149F2CA#32) := by
  have h : ∃ T : FVec Ideal S256x1024 .f32, (∀ (p : Fin 256) (j : Fin 1024), T (ix2 p j) = at1 x ((j.val + 1024 - p.val) % 1024))
      ∧ tile M x = shapeCast S1x1x1x256x768 (select M (extractStridedSlice S256x768 ![0, 0] T slices_S256x1024_o0_0_S256x768)
        (broadcast S256x768 (Scalar.ofBits (F := Ideal) .f32 0xF149F2CA#32) : FVec Ideal S256x768 .f32)) shapeCasts_S256x768_S1x1x1x256x768 := by
    refine ⟨_, ?_, rfl⟩
    exact double_apply 128 128#32 rfl (by decide) _ _ (double_apply 64 64#32 rfl (by decide) _ _ (double_apply 32 32#32 rfl (by decide) _ _
      (double_apply 16 16#32 rfl (by decide) _ _ (double_apply 8 8#32 rfl (by decide) _ _ (eight_apply x) _ _) _ _) _ _) _ _) _ _
  obtain ⟨T, hT, e⟩ := h
  rw [e]
  pointwise
  rw [hT]
end Tile

/-- The table of a window's rows: the bias at each column's distance. -/
theorem ext_apply (i : grid0.Coords) (x : Vec Ideal S1x8x384 .f32) (h : Fin 8) (j : Fin 1024)
    (hx : ∃ r : ℝ, x (ix3 0 h ⟨bin (away (i 1).val j.val), lt_trans (bin_lt _) (by decide)⟩) = (r : EReal)) :
    k0_pay2 (F := Ideal) i x (ix2 h j) = x (ix3 0 h ⟨bin (away (i 1).val j.val), lt_trans (bin_lt _) (by decide)⟩) := by
  have hb (d : ℕ) : bin d < 384 := lt_trans (bin_lt d) (by decide)
  pointwise [k0_pay2]
  have hw := bin_word (i 1) j
  have one (f : Fin 384 → EReal) : (∑ r : Fin 384, if bin (away (i 1).val j.val) = r.val then f r else 0) = f ⟨bin (away (i 1).val j.val), hb _⟩ := by
    rw [Finset.sum_eq_single ⟨_, hb _⟩ (fun r _ hr => if_neg fun e => hr (Fin.ext e.symm)) (fun e => (e (Finset.mem_univ _)).elim), if_pos rfl]
  have hs (r : Fin 384) := eq_word _ r.val (hb (away (i 1).val j.val)) r.isLt
  simp only [hw, hs, WordCmp.select_decide, one]
  obtain ⟨r, hr⟩ := hx
  rw [hr, ← EReal.coe_sub, sub_self, EReal.coe_zero, sub_zero, add_zero, add_zero]

theorem chunk_word : ∀ n : Fin 768,
    Scalar.select (IntOp.andi (IntOp.cmpi .ne (IntOp.subi ((IntOp.cmpi .sgt (BitVec.ofNat 32 n.val) 0#32).setWidth 32) ((IntOp.cmpi .slt (BitVec.ofNat 32 n.val) 0#32).setWidth 32))
        (Scalar.subi (Scalar.extui (Scalar.cmpi .sgt 64#32 0#32)) (Scalar.extui (Scalar.cmpi .slt 64#32 0#32))))
       (IntOp.cmpi .ne (IntOp.remsi .vector (BitVec.ofNat 32 n.val) 64#32) 0#32))
      (IntOp.subi (IntOp.divsi .vector (BitVec.ofNat 32 n.val) 64#32) 1#32) (IntOp.divsi .vector (BitVec.ofNat 32 n.val) 64#32) = BitVec.ofNat 32 (n.val / 64) := by
  decide +kernel

/-- The kernel's mask. -/
theorem mask_apply (v : Fin 3) (k : Fin 256) (q : Fin 768) :
    k0_pay8 (k0_pay4 (BitVec.ofNat 32 v.val)) (iota .tc S256x768 32 [1] iota_S256x768_d1_w32) 64#32 k0_pay5 k0_pay6 k0_pay7 (ix2 k q) = seen v.val k.val q.val := by
  have e : IntOp.addi (Scalar.muli (BitVec.ofNat 32 v.val) 256#32) (BitVec.ofNat 32 k.val) = BitVec.ofNat 32 (v.val * 256 + k.val) := by
    unfold IntOp.addi Scalar.muli IntOp.muli
    apply BitVec.eq_of_toNat_eq
    simp only [BitVec.toNat_add, BitVec.toNat_mul, BitVec.toNat_ofNat]
    omega
  have hw := chunk_word ⟨v.val * 256 + k.val, by omega⟩
  simp only [] at hw
  pointwise [k0_pay8, k0_pay4, k0_pay5, k0_pay6, k0_pay7]
  simp only [e, hw, chunk_word q]
  rfl

theorem idx : ∀ t : Fin cfg0.N, win0_0.index t = ![t.val / 3, 0, 0] ∧ win0_1.index t = ![t.val / 3, t.val % 3, 0, 0, 0] :=
  (by decide +kernel : ∀ t : Fin grid0.N, _)

theorem coords_val : ∀ t : Fin cfg0.N, (grid0.coords t 1).val = t.val % 3 :=
  (by decide +kernel : ∀ t : Fin grid0.N, _)

/-- A row read back from the table. -/
def row (Z : S8x1024.Idx → Elt Ideal .f32) (n : ℕ) (inb : ∀ a, (![n, 0] : Fin 2 → ℕ) a + (![1, 1024] : Fin 2 → ℕ) a ≤ S8x1024.size a) : Vec Ideal S1x1024 .f32 :=
  (View.whole cc0_scratch0).readCov [⟨Rect.unit ![0, 0] ![8, 1024] inb_S8x1024_S8x1024_0_0, Z⟩] (Rect.unit (s := S8x1024) ![n, 0] ![1, 1024] inb).toLoadRect

theorem row_apply (Z : S8x1024.Idx → Elt Ideal .f32) (n : ℕ) (h : Fin 8) (hn : h.val = n) (inb : ∀ a, (![n, 0] : Fin 2 → ℕ) a + (![1, 1024] : Fin 2 → ℕ) a ≤ S8x1024.size a) (j : Fin 1024) : row Z n inb (ix2 0 j) = Z (ix2 h j) := by
  refine (congrFun (View.readCov_fill _ inb_S8x1024_S8x1024_0_0 Z [] _ (by decide)) _).trans (View.ld_unit_apply_of _ _ _ _ _ (ix2 h j) fun a => ?_)
  match a with
  | ⟨0, _⟩ => exact hn
  | ⟨1, _⟩ => exact (Nat.zero_add _).symm

section Block
variable (m : (ℓ : Loc nD τ sig) → Buf (Elt Ideal) ℓ) (c : Dev nD) (t : Fin cfg0.N)

theorem pad_eq : (show FVec Ideal S2x8x384 .f32 from V m c main_v0) = pad S2x8x384 ![0, 0, 0] ![0, 0, 127] ![0, 0, 0] (m ((c : Thread nD τ).loc main_arg0) : FVec Ideal S2x8x257 .f32)
    (sitofp .f32 (constantI S_ 32 0#32) : FVec Ideal S_ .f32) pads_S2x8x257_S2x8x384_000_000_01270 h_S_ := by
  unfold V
  after_reads_simp
  rfl

theorem blk (h : Fin 8) (r : Fin 257) : iblk m c 0 t (ix3 0 h ⟨r.val, lt_trans r.isLt (by decide)⟩)
    = (m ((c : Thread nD τ).loc main_arg0) : FVec Ideal S2x8x257 .f32) (ix3 ⟨t.val / 3, by have := lt_of_lt_of_eq t.isLt N_0; omega⟩ h r) := by
  have ht : t.val < 6 := lt_of_lt_of_eq t.isLt N_0
  have e : iblk m c 0 t (ix3 0 h ⟨r.val, lt_trans r.isLt (by decide)⟩)
      = (show FVec Ideal S2x8x384 .f32 from V m c main_v0) (ix3 ⟨t.val / 3, by omega⟩ h ⟨r.val, lt_trans r.isLt (by decide)⟩) := by
    blk_ext [iblk, idx t]
  rw [e, pad_eq]
  refine pad_apply_of_inside _ _ _ _ _ _ _ _ (ix3 ⟨t.val / 3, by omega⟩ h r) fun a => ?_
  fin_cases a <;> simp <;> rfl

variable (B : FVec Ideal S2x8x257 .f32) (e : m ((c : Thread nD τ).loc main_arg0) = B) (hB : ∀ i, ∃ r : ℝ, B i = (r : EReal))
include e hB

/-- One head's stored tile. -/
theorem piece (n : ℕ) (h : Fin 8) (hn : h.val = n) (inb : ∀ a, (![n, 0] : Fin 2 → ℕ) a + (![1, 1024] : Fin 2 → ℕ) a ≤ S8x1024.size a) (a b d : Fin 1) (k : Fin 256) (q : Fin 768) :
    tile (k0_pay8 (k0_pay4 (BitVec.ofNat 32 (grid0.coords t 1).val)) (iota .tc S256x768 32 [1] iota_S256x768_d1_w32) 64#32 k0_pay5 k0_pay6 k0_pay7)
      (row (k0_pay3 (k0_pay2 (grid0.coords t) (iblk m c 0 t))) n inb) (ix5 a b d k q)
      = bF B (ix5 ⟨t.val / 3, by have := lt_of_lt_of_eq t.isLt N_0; omega⟩ ⟨t.val % 3, Nat.mod_lt _ (by decide)⟩ h k q) := by
  have ht : t.val < 6 := lt_of_lt_of_eq t.isLt N_0
  have hv := coords_val t
  have hd : away (t.val % 3) ((q.val + 1024 - k.val) % 1024 % 1024) = t.val % 3 * 256 + 1024 + k.val - q.val := by
    unfold away
    split <;> omega
  have hy : iblk m c 0 t (ix3 0 h ⟨bin (away (grid0.coords t 1).val ((q.val + 1024 - k.val) % 1024 % 1024)), lt_trans (bin_lt _) (by decide)⟩)
      = B (ix3 ⟨t.val / 3, by omega⟩ h ⟨bin (t.val % 3 * 256 + 1024 + k.val - q.val), bin_lt _⟩) := by
    rw [← e]
    refine (blk m c t h ⟨_, bin_lt _⟩).trans ?_
    simp only [hv, hd]
  obtain ⟨r, hr⟩ := hB (ix3 ⟨t.val / 3, by omega⟩ h ⟨bin (t.val % 3 * 256 + 1024 + k.val - q.val), bin_lt _⟩)
  refine (tile_apply _ _ a b d k q).trans ?_
  refine (congrArg₂ (fun w z => Scalar.select w z (Ideal.ofBits .f32 0xF149F2CA#32)) (mask_apply (grid0.coords t 1) k q) ?_).trans
    (congrArg (fun v => Scalar.select (seen v k.val q.val) (B (ix3 ⟨t.val / 3, by omega⟩ h ⟨bin (t.val % 3 * 256 + 1024 + k.val - q.val), bin_lt _⟩)) (Ideal.ofBits .f32 0xF149F2CA#32)) hv)
  refine (row_apply _ n h hn inb ⟨(q.val + 1024 - k.val) % 1024 % 1024, Nat.mod_lt _ (by decide)⟩).trans ?_
  rw [show k0_pay3 (F := Ideal) (k0_pay2 (grid0.coords t) (iblk m c 0 t)) = k0_pay2 (grid0.coords t) (iblk m c 0 t) from shapeCast_self _ _]
  exact (ext_apply (grid0.coords t) (iblk m c 0 t) h ⟨(q.val + 1024 - k.val) % 1024 % 1024, Nat.mod_lt _ (by decide)⟩ ⟨r, hy.trans hr⟩).trans hy

theorem point (y : S1x1x8x256x768.Idx) : outsAt0 m c t y
    = bF B (ix5 ⟨t.val / 3, by have := lt_of_lt_of_eq t.isLt N_0; omega⟩ ⟨t.val % 3, Nat.mod_lt _ (by decide)⟩ (y 2) (y 3) (y 4)) := by
  unfold outsAt0 out0_A_1
  frame_out
  canon_tiles x h
  all_goals
    first
      | rw [(heads _ _).1] | rw [(heads _ _).2.1] | rw [(heads _ _).2.2.1] | rw [(heads _ _).2.2.2.1] | rw [(heads _ _).2.2.2.2.1]
      | rw [(heads _ _).2.2.2.2.2.1] | rw [(heads _ _).2.2.2.2.2.2] | change tile _ _ x = _
    refine ((congrArg _ (eq_ix5 x)).trans (piece m c t B e hB _ (y 2) (by omega) _ (x 0) (x 1) (x 2) (x 3) (x 4))).trans (congrArg (bF B) ?_)
    rw [show x 3 = y 3 from Fin.ext h3.symm, show x 4 = y 4 from Fin.ext h4.symm]
end Block

theorem final (m : (ℓ : Loc nD τ sig) → Buf (Elt Ideal) ℓ) (c : Dev nD) (hB : ∀ i, ∃ r : ℝ, (m ((c : Thread nD τ).loc main_arg0) : FVec Ideal S2x8x257 .f32) i = (r : EReal)) :
    (dats m 0 c).arrAt 1 cfg0.N = bF (m ((c : Thread nD τ).loc main_arg0)) := by
  refine (dats m 0 c).arrAt_eq_of_covers 1 _ (by decide +kernel) fun t _ y => ?_
  blk_simp
  rw [after0_1]
  have ht : t.val < 6 := lt_of_lt_of_eq t.isLt N_0
  refine (point m c t _ rfl hB y).trans ?_
  blk_ext [idx t]

end Kernel

section Reference
open Cert.BiasFwdRefIdeal Cert.BiasFwdRefIdeal.Read Idealize.ShloMosaic Idealize.ShloMosaic.TcCoe Idealize.SL.Sem
open Cert.K

theorem table_apply (v : Fin 3) (k : Fin 256) (q : Fin 768) (z : Fin 1) :
    (val_main_v22 (F := Ideal) (ix4 v k q z)).toInt = (bin (v.val * 256 + 1024 + k.val - q.val) : Int) :=
  Cert.BiasRefIdeal.Hand.table_apply v k q z

/-- What the gather reads. -/
theorem gather_apply (B : FVec Ideal S2x8x257 .f32) (l : Fin 2) (h : Fin 8) (v : Fin 3) (k : Fin 256) (q : Fin 768) :
    val_main_v23 (F := Ideal) B (ix5 l h v k q) = B (ix3 l h ⟨bin (v.val * 256 + 1024 + k.val - q.val), bin_lt _⟩) := by
  refine congrArg B (funext fun a => Fin.ext ?_)
  match a with
  | ⟨0, _⟩ => exact Nat.zero_add l.val
  | ⟨1, _⟩ => exact Nat.zero_add h.val
  | ⟨2, _⟩ =>
    show gather_S2x8x257_S3x256x768x1_S2x8x3x256x768_01_2_n_n_2_3_281.start (ix5 l h v k q) (val_main_v22 (F := Ideal)) 2 + 0 + 0 = _
    unfold GatherDims.start
    rw [dif_pos (by decide)]
    have i : gather_S2x8x257_S3x256x768x1_S2x8x3x256x768_01_2_n_n_2_3_281.siIdx (ix5 l h v k q) ⟨0, by decide⟩ = ix4 v k q 0 := funext fun b => match b with
      | ⟨0, _⟩ => rfl
      | ⟨1, _⟩ => rfl
      | ⟨2, _⟩ => rfl
      | ⟨3, _⟩ => rfl
    refine (congrArg (fun j => min (val_main_v22 (F := Ideal) j).toInt.toNat (257 - 1) + 0 + 0) i).trans ?_
    have := bin_lt (v.val * 256 + 1024 + k.val - q.val)
    rw [table_apply]
    show min (bin (v.val * 256 + 1024 + k.val - q.val)) 256 = bin (v.val * 256 + 1024 + k.val - q.val)
    omega

theorem result_apply (B : FVec Ideal S2x8x257 .f32) (l : Fin 2) (v : Fin 3) (h : Fin 8) (k : Fin 256) (q : Fin 768) :
    val_main_v42 (F := Ideal) B (ix5 l v h k q) = bF B (ix5 l v h k q) := by
  have g := gather_apply B l h v k q
  pointwise [val_main_v42, val_main_v24, val_main_call1_v0, val_main_call1_v1, val_main_call1_v2, val_main_v41, val_main_v40, val_main_v39, val_main_v38, val_main_v37, val_main_v36,
    val_main_v35, val_main_v34, val_main_v33, val_main_v32, val_main_v31, val_main_v30, val_main_v29, val_main_v28, val_main_v27, val_main_v26, val_main_v25]
  rw [g, show v.val * 4 + k.val / 64 = (v.val * 256 + k.val) / 64 by omega]
  rfl

theorem ref_eq (B : FVec Ideal S2x8x257 .f32) : val_main_v42 (F := Ideal) B = bF B :=
  funext fun y => (congrArg _ (eq_ix5 y)).trans ((result_apply B (y 0) (y 1) (y 2) (y 3) (y 4)).trans (congrArg _ (eq_ix5 y).symm))
end Reference

open Idealize.ShloMosaic Idealize.ShloMosaic.TcCoe Idealize.SL.Sem
open Cert.BiasFwdIdeal (nD τ sig main_arg0 S2x8x257)
open Cert.K

instance preFacts : Cert.Pre_biasfwd_finite.Facts where
  bcast_S_S2x8x257 := by decide

theorem fine (B : FVec Ideal S2x8x257 .f32) (h : Cert.Pre_biasfwd_finite.fn (F := Ideal) B = fun _ => 1#1) (i : S2x8x257.Idx) : ∃ r : ℝ, B i = (r : EReal) := by
  rw [eq_ix3 i]
  refine real_of_finite (Eq.trans ?_ (congrFun h (ix3 (i 0) (i 1) (i 2))))
  pointwise [Cert.Pre_biasfwd_finite.fn]

theorem refFrame : Cert.quiescent_BiasFwdRefIdeal := fun m g _ =>
  (θ_run Cert.BiasFwdRefIdeal.defs _ _).mono (fun r h => ⟨fun c => (h c).2, sem_eq_zero_of_no_sems (by decide) r.2⟩) (Cert.BiasFwdRefIdeal.Value.run (F := Ideal) m g)

/-- Kernel and reference end with the same windows whenever the bias is finite. -/
theorem algebraic : Cert.algebraic_BiasFwdIdeal_BiasFwdRefIdeal_pre_biasfwd_finite := by
  intro m g m' g' hpre hagree
  refine ⟨fun c => bF (m ((c : Thread nD τ).loc main_arg0)), (θ_run Cert.BiasFwdIdeal.defs _ _).mono (fun r h c => ?_) (Cert.BiasFwdIdeal.Value.run_blocks m g),
    (θ_run Cert.BiasFwdRefIdeal.defs _ _).mono (fun r h c => ?_) (Cert.BiasFwdRefIdeal.Value.run m' g')⟩
  · exact ⟨(h c).1.trans (final m c (fine _ (hpre c))), (h c).2⟩
  · exact ⟨(h c).1.trans ((Cert.BiasFwdRefIdeal.Read.val_main_v42_eq _ _).trans ((ref_eq _).trans (congrArg bF (hagree c)))), (h c).2⟩

end Cert.Proof.BiasFwdVal
-- ==== Proof.OutDmVal.lean ====
module

public import proofs.«01_k».proof.Defs
public import proofs.«01_k».proof.Proof.Basic
public import proofs.«01_k».proof.Proof.Gen.OutDmIdeal.Value
public import proofs.«01_k».proof.Proof.Gen.OutDmRefIdeal.Run
public import proofs.«01_k».proof.Proof.Gen.OutDmRefIdeal.Read
public import Idealize.ShloMosaic.Lib.Pipeline.ValueKit
public import Idealize.ShloMosaic.Lib.Pointwise
public import Idealize.ShloMosaic.Lib.Claim
public import Idealize.ShloMosaic.Adequacy
public import Idealize.ShloMosaic.Init

@[expose] public section

set_option maxRecDepth 16384

noncomputable section

namespace Cert.Proof.OutDmVal

section Kernel
open Cert.OutDmIdeal Cert.OutDmIdeal.Gen Idealize.ShloMosaic Idealize.ShloMosaic.TcCoe Idealize.SL.Sem
open Idealize.ShloMosaic.Pipeline (Dat)
open Cert.K

/-- Every row times every row of the weight. -/
def dF (X : FVec Ideal S8192x1024 .f32) (W : FVec Ideal S1024x1024 .f32) : FVec Ideal S8192x1024 .bf16 := fun i =>
  ∑ k : Fin 1024, X (ix2 (i 0) k) * W (ix2 (i 1) k)

theorem idx : ∀ t : Fin cfg0.N, win0_0.index t = ![t.val, 0] ∧ win0_1.index t = ![0, 0] ∧ win0_2.index t = ![t.val, 0] :=
  (by decide +kernel : ∀ t : Fin grid0.N, _)

theorem pay_apply (x : Vec Ideal S1024x1024 .f32) (w : Vec Ideal S1024x1024 .bf16) (p k : Fin 1024) :
    k0_pay1 x w (ix2 p k) = ∑ j : Fin 1024, x (ix2 p j) * w (ix2 k j) := by
  pointwise [k0_pay1]

variable (m : (ℓ : Loc nD τ sig) → Buf (Elt Ideal) ℓ) (c : Dev nD)

theorem x_blk (t : Fin cfg0.N) (p j : Fin 1024) (n : Fin 8192) (hn : n.val = t.val * 1024 + p.val) :
    (show FVec Ideal S1024x1024 .f32 from iblk m c 0 t) (ix2 p j) = m ((c : Thread nD τ).loc main_arg0) (ix2 n j) := by
  blk_ext [iblk, V, idx t, hn]

theorem w_blk (t : Fin cfg0.N) (k j : Fin 1024) :
    (show FVec Ideal S1024x1024 .bf16 from iblk m c 1 t) (ix2 k j) = m ((c : Thread nD τ).loc main_arg1) (ix2 k j) := by
  refine Eq.trans ?_ (show (show FVec Ideal S1024x1024 .bf16 from V m c main_v0) (ix2 k j) = _ by unfold V; after_results; rfl)
  blk_ext [iblk, idx t]

theorem final_d : (dats m 0 c).arrAt 2 cfg0.N = dF (m ((c : Thread nD τ).loc main_arg0)) (m ((c : Thread nD τ).loc main_arg1)) := by
  refine (dats m 0 c).arrAt_eq_of_covers 2 _ (by decide +kernel) fun t _ y => ?_
  blk_simp
  rw [after0_2]
  have ht : t.val < 8 := lt_of_lt_of_eq t.isLt N_0
  have fin (p k : Fin 1024) (n : Fin 8192) (hn : n.val = t.val * 1024 + p.val) :
      (out0_2 (F := Ideal) (iblk m c 0 t) (iblk m c 1 t)) (ix2 p k)
      = dF (m ((c : Thread nD τ).loc main_arg0)) (m ((c : Thread nD τ).loc main_arg1)) (ix2 n k) := by
    unfold out0_2
    frame_out
    refine (pay_apply _ _ p k).trans (Finset.sum_congr rfl fun j _ => Ideal.mul_congr ?_ ?_)
    · exact (by pointwise : _ = _).trans (x_blk m c t p j n hn)
    · exact (by pointwise : _ = _).trans (w_blk m c t k j)
  refine (congrArg _ (eq_ix2 y)).trans ((fin (y 0) (y 1) ⟨t.val * 1024 + (y 0).val, by have : (y 0).val < 1024 := (y 0).isLt; omega⟩ rfl).trans ?_)
  blk_ext [idx t]
end Kernel

section Reference
open Cert.OutDmRefIdeal Cert.OutDmRefIdeal.Read Idealize.ShloMosaic Idealize.ShloMosaic.TcCoe Idealize.SL.Sem
open Cert.K

theorem d_eq (x0 : FVec Ideal S8192x1024 .f32) (x1 : FVec Ideal S1024x1024 .f32) : val_main_v3 (F := Ideal) x0 x1 = dF x0 x1 := by
  funext i
  have h (r : Fin 8192) (k : Fin 1024) : val_main_v3 (F := Ideal) x0 x1 (ix2 r k) = dF x0 x1 (ix2 r k) := by
    pointwise [val_main_v2, val_main_v3]
    rfl
  exact (congrArg _ (eq_ix2 i)).trans ((h (i 0) (i 1)).trans (congrArg _ (eq_ix2 i).symm))
end Reference

open Idealize.ShloMosaic Idealize.ShloMosaic.TcCoe Idealize.SL.Sem

/-- The reference keeps its arguments and declares no semaphore. -/
theorem refFrame : Cert.quiescent_OutDmRefIdeal := fun m g _ =>
  (θ_run Cert.OutDmRefIdeal.defs _ _).mono (fun r h => ⟨fun c => (h c).2, sem_eq_zero_of_no_sems (by decide) r.2⟩)
    (Cert.OutDmRefIdeal.Value.run (F := Ideal) m g)

/-- Kernel and reference end with the same gradient of the merged rows, whatever the arguments. -/
theorem algebraic : Cert.algebraic_OutDmIdeal_OutDmRefIdeal := by
  pair_intro
  · run_from Cert.OutDmIdeal.Value.run_blocks m g
  · run_from Cert.OutDmRefIdeal.Value.run m' g'
    · exact (d_eq _ _).trans (final_d m _).symm

end Cert.Proof.OutDmVal
-- ==== Proof.InProjVal.lean ====
module

public import proofs.«01_k».proof.Defs
public import proofs.«01_k».proof.Proof.Basic
public import proofs.«01_k».proof.Proof.Gen.InProjIdeal.Value
public import proofs.«01_k».proof.Proof.Gen.InProjRefIdeal.Run
public import proofs.«01_k».proof.Proof.Gen.InProjRefIdeal.Read
public import Idealize.ShloMosaic.Lib.Pipeline.ValueKit
public import Idealize.ShloMosaic.Lib.Pointwise
public import Idealize.ShloMosaic.Lib.Claim
public import Idealize.ShloMosaic.Adequacy
public import Idealize.ShloMosaic.Init

@[expose] public section

set_option maxRecDepth 16384

noncomputable section

namespace Cert.Proof.InProjVal

section Kernel
open Cert.InProjIdeal Cert.InProjIdeal.Gen Idealize.ShloMosaic Idealize.ShloMosaic.TcCoe Idealize.SL.Sem
open Idealize.ShloMosaic.Pipeline (Dat)
open Cert.K

/-- Every row times every column of the weight, the columns in ten slices. -/
def cF (X : FVec Ideal S8192x1024 .f32) (W : FVec Ideal S1024x5120 .f32) : FVec Ideal S10x8192x512 .bf16 := fun i =>
  ∑ k : Fin 1024, X (ix2 (i 1) k) * W (ix2 k ⟨(i 0).val * 512 + (i 2).val, by
    have h0 : (i 0).val < 10 := (i 0).isLt
    have h2 : (i 2).val < 512 := (i 2).isLt
    omega⟩)

theorem idx : ∀ t : Fin cfg0.N, win0_0.index t = ![t.val / 10, 0] ∧ win0_1.index t = ![t.val % 10, 0]
    ∧ win0_2.index t = ![t.val % 10, t.val / 10, 0] :=
  (by decide +kernel : ∀ t : Fin grid0.N, _)

theorem pay_apply (x : Vec Ideal S2048x1024 .bf16) (w : Vec Ideal S512x1024 .bf16) (z : Fin 1) (p : Fin 2048) (k : Fin 512) :
    k0_pay1 x w (ix3 z p k) = ∑ j : Fin 1024, x (ix2 p j) * w (ix2 k j) := by
  pointwise [k0_pay1]

variable (m : (ℓ : Loc nD τ sig) → Buf (Elt Ideal) ℓ) (c : Dev nD)

theorem x_blk (t : Fin cfg0.N) (p : Fin 2048) (j : Fin 1024) (n : Fin 8192) (hn : n.val = t.val / 10 * 2048 + p.val) :
    (show FVec Ideal S2048x1024 .bf16 from iblk m c 0 t) (ix2 p j) = m ((c : Thread nD τ).loc main_arg0) (ix2 n j) := by
  refine Eq.trans ?_ (show (show FVec Ideal S8192x1024 .bf16 from V m c main_v0) (ix2 n j) = _ by unfold V; after_results; rfl)
  blk_ext [iblk, idx t, hn]

theorem w_blk (t : Fin cfg0.N) (k : Fin 512) (j : Fin 1024) (l : Fin 5120) (hl : l.val = t.val % 10 * 512 + k.val) :
    (show FVec Ideal S512x1024 .bf16 from iblk m c 1 t) (ix2 k j) = m ((c : Thread nD τ).loc main_arg1) (ix2 j l) := by
  refine Eq.trans ?_ (show (show FVec Ideal S5120x1024 .bf16 from V m c main_v2) (ix2 l j) = _ by unfold V; after_results; pointwise)
  blk_ext [iblk, idx t, hl]

theorem final_c : (dats m 0 c).arrAt 2 cfg0.N = cF (m ((c : Thread nD τ).loc main_arg0)) (m ((c : Thread nD τ).loc main_arg1)) := by
  refine (dats m 0 c).arrAt_eq_of_covers 2 _ (by decide +kernel) fun t _ y => ?_
  blk_simp
  rw [after0_2]
  have ht : t.val < 40 := lt_of_lt_of_eq t.isLt N_0
  have fin (z : Fin 1) (p : Fin 2048) (k : Fin 512) (n : Fin 8192) (hn : n.val = t.val / 10 * 2048 + p.val) (s : Fin 10) (hs : s.val = t.val % 10) :
      (out0_2 (F := Ideal) (iblk m c 0 t) (iblk m c 1 t)) (ix3 z p k)
      = cF (m ((c : Thread nD τ).loc main_arg0)) (m ((c : Thread nD τ).loc main_arg1)) (ix3 s n k) := by
    unfold out0_2
    frame_out
    refine (pay_apply _ _ z p k).trans (Finset.sum_congr rfl fun j _ => Ideal.mul_congr ?_ ?_)
    · exact (by pointwise : _ = _).trans (x_blk m c t p j n hn)
    · exact (by pointwise : _ = _).trans (w_blk m c t k j _ (by rw [← hs]; rfl))
  refine (congrArg _ (eq_ix3 y)).trans ((fin (y 0) (y 1) (y 2) ⟨t.val / 10 * 2048 + (y 1).val, by have : (y 1).val < 2048 := (y 1).isLt; omega⟩ rfl
    ⟨t.val % 10, Nat.mod_lt _ (by norm_num)⟩ rfl).trans ?_)
  blk_ext [idx t]
end Kernel

section Reference
open Cert.InProjRefIdeal Cert.InProjRefIdeal.Read Idealize.ShloMosaic Idealize.ShloMosaic.TcCoe Idealize.SL.Sem
open Cert.K

theorem c_eq (x0 : FVec Ideal S8192x1024 .f32) (x1 : FVec Ideal S1024x5120 .f32) : val_main_v22 (F := Ideal) x0 x1 = cF x0 x1 := by
  funext i
  have d (r : Fin 8192) (k : Fin 5120) : val_main_v0 (F := Ideal) x0 x1 (ix2 r k) = ∑ j : Fin 1024, x0 (ix2 r j) * x1 (ix2 j k) := by
    pointwise [val_main_v0]
  have h (s : Fin 10) (r : Fin 8192) (k : Fin 512) : val_main_v22 (F := Ideal) x0 x1 (ix3 s r k) = cF x0 x1 (ix3 s r k) := by
    refine Eq.trans ?_ (d r ⟨s.val * 512 + k.val, by omega⟩)
    pointwise [val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1]
    fin_vals s with hs
    all_goals simp only [hs, Nat.reduceSub, Nat.reduceLT, ↓reduceDIte]
    all_goals blk_ext [hs]
  exact (congrArg _ (eq_ix3 i)).trans ((h (i 0) (i 1) (i 2)).trans (congrArg _ (eq_ix3 i).symm))
end Reference

open Idealize.ShloMosaic Idealize.ShloMosaic.TcCoe Idealize.SL.Sem

/-- The reference keeps its arguments and declares no semaphore. -/
theorem refFrame : Cert.quiescent_InProjRefIdeal := fun m g _ =>
  (θ_run Cert.InProjRefIdeal.defs _ _).mono (fun r h => ⟨fun c => (h c).2, sem_eq_zero_of_no_sems (by decide) r.2⟩)
    (Cert.InProjRefIdeal.Value.run (F := Ideal) m g)

/-- Kernel and reference end with the same columns in slices, whatever the arguments. -/
theorem algebraic : Cert.algebraic_InProjIdeal_InProjRefIdeal := by
  pair_intro
  · run_from Cert.InProjIdeal.Value.run_blocks m g
  · run_from Cert.InProjRefIdeal.Value.run m' g'
    · exact (c_eq _ _).trans (final_c m _).symm

end Cert.Proof.InProjVal
-- ==== Proof.AdamVal.lean ====
module

public import proofs.«01_k».proof.Defs
public import proofs.«01_k».proof.Proof.Basic
public import proofs.«01_k».proof.Proof.Gen.AdamIdeal.Value
public import proofs.«01_k».proof.Proof.Gen.AdamRefIdeal.Run
public import proofs.«01_k».proof.Proof.Gen.AdamRefIdeal.Read
public import Idealize.ShloMosaic.Lib.Pipeline.ValueKit
public import Idealize.ShloMosaic.Lib.Pointwise
public import Idealize.ShloMosaic.Lib.Claim
public import Idealize.ShloMosaic.Adequacy
public import Idealize.ShloMosaic.Init

@[expose] public section

set_option maxRecDepth 16384

noncomputable section

namespace Cert.Proof.AdamVal

section Kernel
open Cert.AdamIdeal Cert.AdamIdeal.Gen Idealize.ShloMosaic Idealize.ShloMosaic.TcCoe Idealize.SL.Sem
open Idealize.ShloMosaic.Pipeline (Dat)
open Cert.K

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

variable (m : (ℓ : Loc nD τ sig) → Buf (Elt Ideal) ℓ) (c : Dev nD)

/-- The one block of each argument is the argument. -/
theorem blks (t : Fin cfg0.N) : (show FVec Ideal S2x1024 .f32 from iblk m c 0 t) = m ((c : Thread nD τ).loc main_arg0) ∧ (show FVec Ideal S2x1024 .f32 from iblk m c 1 t) = m ((c : Thread nD τ).loc main_arg1)
    ∧ (show FVec Ideal S2x1024 .f32 from iblk m c 2 t) = m ((c : Thread nD τ).loc main_arg2) ∧ (show FVec Ideal S2x1024 .f32 from iblk m c 3 t) = m ((c : Thread nD τ).loc main_arg3) := by
  refine ⟨?_, ?_, ?_, ?_⟩ <;> (funext i; refine (congrArg _ (eq_ix2 i)).trans (Eq.trans ?_ (congrArg _ (eq_ix2 i).symm)); blk_ext [iblk, V, idx t])

/-- The written step. -/
theorem final_d : (dats m 0 c).arrAt 4 cfg0.N = k0_pay3 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  unfold out0_4
  frame_out
  obtain ⟨e0, e1, e2, e3⟩ := blks m c t
  dsimp only at e0 e1 e2 e3
  rw [e0, e1, e2, e3]
  refine congrArg _ ?_
  blk_ext [idx t]

/-- The written first moment. -/
theorem final_m : (dats m 0 c).arrAt 5 cfg0.N = k0_pay1 (m ((c : Thread nD τ).loc main_arg1)) (m ((c : Thread nD τ).loc main_arg2)) := by
  refine (dats m 0 c).arrAt_eq_of_covers 5 _ (by decide +kernel) fun t _ y => ?_
  blk_simp
  rw [after0_5]
  unfold out0_5
  frame_out
  obtain ⟨e0, e1, e2, e3⟩ := blks m c t
  dsimp only at e0 e1 e2 e3
  rw [e1, e2]
  refine congrArg _ ?_
  blk_ext [idx t]

/-- The written second moment. -/
theorem final_v : (dats m 0 c).arrAt 6 cfg0.N = k0_pay2 (m ((c : Thread nD τ).loc main_arg1)) (m ((c : Thread nD τ).loc main_arg3)) := by
  refine (dats m 0 c).arrAt_eq_of_covers 6 _ (by decide +kernel) fun t _ y => ?_
  blk_simp
  rw [after0_6]
  unfold out0_6
  frame_out
  obtain ⟨e0, e1, e2, e3⟩ := blks m c t
  dsimp only at e0 e1 e2 e3
  rw [e1, e3]
  refine congrArg _ ?_
  blk_ext [idx t]
end Kernel

section Reference
open Cert.AdamRefIdeal Cert.AdamRefIdeal.Read Idealize.ShloMosaic Idealize.ShloMosaic.TcCoe Idealize.SL.Sem
open Cert.K

open Cert.AdamIdeal.Gen (k0_pay1 k0_pay2 k0_pay3)

variable (w g u v : FVec Ideal S2x1024 .f32)

theorem m_eq : val_main_v4 (F := Ideal) g u = k0_pay1 (F := Ideal) g u := rfl

theorem v_eq : val_main_v10 (F := Ideal) g v = k0_pay2 (F := Ideal) g v := rfl

theorem d_eq : val_main_v23 (F := Ideal) w g u v = k0_pay3 (F := Ideal) w g u v := rfl
end Reference

open Idealize.ShloMosaic Idealize.ShloMosaic.TcCoe Idealize.SL.Sem

/-- The reference keeps its arguments and declares no semaphore. -/
theorem refFrame : Cert.quiescent_AdamRefIdeal := fun m g _ =>
  (θ_run Cert.AdamRefIdeal.defs _ _).mono (fun r h => ⟨fun c => (h c).2.2.2, sem_eq_zero_of_no_sems (by decide) r.2⟩)
    (Cert.AdamRefIdeal.Value.run (F := Ideal) m g)

/-- Kernel and reference end with the same step and moments, whatever the arguments. -/
theorem algebraic : Cert.algebraic_AdamIdeal_AdamRefIdeal := by
  pair_intro
  · run_from Cert.AdamIdeal.Value.run_blocks m g
  · run_from Cert.AdamRefIdeal.Value.run m' g'
    · exact (d_eq _ _ _ _).trans (final_d m _).symm
    · exact (m_eq _ _).trans (final_m m _).symm
    · exact (v_eq _ _).trans (final_v m _).symm

end Cert.Proof.AdamVal
-- ==== Proof.DwVal.lean ====
module

public import proofs.«01_k».proof.Defs
public import proofs.«01_k».proof.Proof.Basic
public import proofs.«01_k».proof.Proof.FfnRow
public import proofs.«01_k».proof.Proof.Gen.DwIdeal.Value
public import proofs.«01_k».proof.Proof.Gen.DwRefIdeal.Run
public import proofs.«01_k».proof.Proof.Gen.DwRefIdeal.Read
public import Idealize.ShloMosaic.Lib.Pipeline.ValueKit
public import Idealize.ShloMosaic.Lib.Pointwise
public import Idealize.ShloMosaic.Lib.Claim
public import Idealize.ShloMosaic.Adequacy
public import Idealize.ShloMosaic.Init

@[expose] public section

set_option maxRecDepth 16384

noncomputable section

namespace Cert.Proof.DwVal

section Kernel
open Cert.DwIdeal Cert.DwIdeal.Gen Idealize.ShloMosaic Idealize.ShloMosaic.TcCoe Idealize.SL.Sem
open Idealize.ShloMosaic.Pipeline (Dat)
open Cert.K

/-- Every column of the one array times every column of the other. -/
def dF (A : FVec Ideal S8192x2816 .f32) (B : FVec Ideal S8192x1024 .f32) : FVec Ideal S2816x1024 .bf16 := fun i =>
  ∑ n : Fin 8192, A (ix2 n (i 0)) * B (ix2 n (i 1))

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- One block's product. -/
def prod (x : Vec Ideal S2048x1408 .bf16) (w : Vec Ideal S2048x1024 .bf16) (p : Fin 1408) (k : Fin 1024) : EReal :=
  ∑ j : Fin 2048, x (ix2 j p) * w (ix2 j k)

theorem pay_apply (x : Vec Ideal S2048x1408 .bf16) (w : Vec Ideal S2048x1024 .bf16) (p : Fin 1408) (k : Fin 1024) :
    k0_pay1 x w (ix2 p k) = prod x w p k := by
  unfold prod
  pointwise [k0_pay1]

theorem pay2_apply (x : Vec Ideal S2048x1408 .bf16) (w : Vec Ideal S2048x1024 .bf16) (p : Fin 1408) (k : Fin 1024) :
    k0_pay2 x w (ix2 p k) = prod x w p k := by
  refine Eq.trans ?_ (pay_apply x w p k)
  pointwise [k0_pay2]

theorem pay3_apply (x : Vec Ideal S2048x1408 .bf16) (w : Vec Ideal S2048x1024 .bf16) (a : Vec Ideal S1408x1024 .f32) (p : Fin 1408) (k : Fin 1024) :
    k0_pay3 x w a (ix2 p k) = a (ix2 p k) + prod x w p k := by
  rw [← pay_apply]
  pointwise [k0_pay3]

theorem pay4_apply (x : Vec Ideal S2048x1408 .bf16) (w : Vec Ideal S2048x1024 .bf16) (a : Vec Ideal S1408x1024 .f32) (p : Fin 1408) (k : Fin 1024) :
    k0_pay4 x w a (ix2 p k) = a (ix2 p k) + prod x w p k := by
  rw [← pay_apply]
  pointwise [k0_pay4]

theorem hz : (![0, 0] : Fin 2 → Nat) = fun _ => 0 := funext fun a => by fin_cases a <;> rfl

variable (m : (ℓ : Loc nD τ sig) → Buf (Elt Ideal) ℓ) (c : Dev nD)

theorem a_blk (t : Fin cfg0.N) (j : Fin 2048) (p : Fin 1408) (n : Fin 8192) (q : Fin 2816) (hn : n.val = t.val % 4 * 2048 + j.val)
    (hq : q.val = t.val / 4 * 1408 + p.val) :
    (show FVec Ideal S2048x1408 .bf16 from iblk m c 0 t) (ix2 j p) = m ((c : Thread nD τ).loc main_arg0) (ix2 n q) := by
  refine Eq.trans ?_ (show (show FVec Ideal S8192x2816 .bf16 from V m c main_v0) (ix2 n q) = _ by unfold V; after_results; rfl)
  blk_ext [iblk, idx t, hn, hq]

theorem b_blk (t : Fin cfg0.N) (j : Fin 2048) (k : Fin 1024) (n : Fin 8192) (hn : n.val = t.val % 4 * 2048 + j.val) :
    (show FVec Ideal S2048x1024 .bf16 from iblk m c 1 t) (ix2 j k) = m ((c : Thread nD τ).loc main_arg1) (ix2 n k) := by
  refine Eq.trans ?_ (show (show FVec Ideal S8192x1024 .bf16 from V m c main_v1) (ix2 n k) = _ by unfold V; after_results; rfl)
  blk_ext [iblk, idx t, hn]

/-- One block of rows' part of an entry. -/
theorem part (t : Fin cfg0.N) (r : Fin 4) (p : Fin 1408) (k : Fin 1024) (q : Fin 2816) (hr : t.val % 4 = r.val)
    (hq : q.val = t.val / 4 * 1408 + p.val) :
    prod (iblk m c 0 t) (iblk m c 1 t) p k
    = ∑ j : Fin 2048, (show FVec Ideal S8192x2816 .f32 from m ((c : Thread nD τ).loc main_arg0)) (ix2 (⟨r.val * 2048 + j.val, by omega⟩ : Fin 8192) q)
        * (show FVec Ideal S8192x1024 .f32 from m ((c : Thread nD τ).loc main_arg1)) (ix2 (⟨r.val * 2048 + j.val, by omega⟩ : Fin 8192) k) :=
  Finset.sum_congr rfl fun j _ => Ideal.mul_congr (a_blk m c t j p _ q (by rw [hr]) hq) (b_blk m c t j k _ (by rw [hr]))

/-- The first block of rows starts the sum. -/
theorem sA (t : Fin cfg0.N) (h : t.val % 4 = 0) (p : Fin 1408) (k : Fin 1024) :
    (outsAt0 m c t.val t.isLt).2 (ix2 p k) = prod (iblk m c 0 t) (iblk m c 1 t) p k := by
  rw [outsAt0_A m c t h (by omega) (by omega)]
  dsimp only
  unfold sout0_A_0
  rw [View.read_writes_eq_canon _ _ _ (fun _ => scover0_A_0 ..)]
  unfold kernelRun0_A
  dsimp only
  refine Eq.trans ?_ (pay2_apply _ _ p k)
  rw [View.canon_unit_zero hz]
  simp only [View.readAt_eq_ld, (hs0_0 t).read_unread, (hs0_1 t).read_unread, View.ld_unit_zero (S := S2048x1408) hz, View.ld_unit_zero (S := S2048x1024) hz]

/-- The second and the third add theirs. -/
theorem sB (t : Fin cfg0.N) (h : 1 ≤ t.val % 4 ∧ t.val % 4 ≤ 2) (p : Fin 1408) (k : Fin 1024) :
    (outsAt0 m c t.val t.isLt).2 (ix2 p k)
    = (outsAt0 m c (t.val - 1) (Nat.lt_of_le_of_lt (Nat.sub_le _ _) t.isLt)).2 (ix2 p k) + prod (iblk m c 0 t) (iblk m c 1 t) p k := by
  rw [outsAt0_B m c t (by omega) h (by omega)]
  dsimp only
  unfold sout0_B_0
  rw [View.read_writes_eq_canon _ _ _ (fun _ => scover0_B_0 ..)]
  unfold kernelRun0_B
  dsimp only
  refine Eq.trans ?_ (pay3_apply _ _ _ p k)
  rw [View.canon_unit_zero hz]
  simp only [View.readAt_eq_ld, (hs0_0 t).read_unread, (hs0_1 t).read_unread, View.ld_unit_zero (S := S2048x1408) hz, View.ld_unit_zero (S := S2048x1024) hz,
    View.ld_unit_zero (S := S1408x1024) hz]
  exact congrArg (fun a => k0_pay3 _ _ a (ix2 p k)) ((Memref.isWhole_whole cc0_scratch0).read_unread _)

/-- The last adds its own and writes the block out. -/
theorem oC (t : Fin cfg0.N) (h : t.val % 4 = 3) (p : Fin 1408) (k : Fin 1024) :
    (outsAt0 m c t.val t.isLt).1 (ix2 p k)
    = (outsAt0 m c (t.val - 1) (Nat.lt_of_le_of_lt (Nat.sub_le _ _) t.isLt)).2 (ix2 p k) + prod (iblk m c 0 t) (iblk m c 1 t) p k := by
  rw [outsAt0_C m c t (by omega) (by omega) h]
  dsimp only
  unfold out0_C_2
  rw [View.read_writes_eq_canon _ _ _ (fun _ => cover0_C_2 ..)]
  unfold kernelRun0_C
  dsimp only
  refine Eq.trans ?_ (pay4_apply _ _ _ p k)
  rw [View.canon_unit_zero hz]
  simp only [View.readAt_eq_ld, (hs0_0 t).read_unread, (hs0_1 t).read_unread, View.ld_unit_zero (S := S2048x1408) hz, View.ld_unit_zero (S := S2048x1024) hz,
    View.ld_unit_zero (S := S1408x1024) hz]
  exact congrArg (fun a => k0_pay4 _ _ a (ix2 p k)) ((Memref.isWhole_whole cc0_scratch0).read_unread _)

theorem final_d : (dats m 0 c).arrAt 2 cfg0.N = dF (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  blk_simp
  rw [after0_2]
  have ht : t.val < 8 := lt_of_lt_of_eq t.isLt N_0
  have hN : cfg0.N = 8 := N_0
  have fin (p : Fin 1408) (k : Fin 1024) (q : Fin 2816) (hq : q.val = t.val / 4 * 1408 + p.val) :
      (outsAt0 m c t.val t.isLt).1 (ix2 p k)
      = dF (m ((c : Thread nD τ).loc main_arg0)) (m ((c : Thread nD τ).loc main_arg1)) (ix2 q k) := by
    have e2 := sB m c ⟨t.val - 1, by omega⟩ (by dsimp only; omega) p k
    have e1 := sB m c ⟨t.val - 1 - 1, by omega⟩ (by dsimp only; omega) p k
    have e0 := sA m c ⟨t.val - 1 - 1 - 1, by omega⟩ (by dsimp only; omega) p k
    dsimp only at e0 e1 e2
    rw [oC m c t h3, e2, e1, e0]
    rw [part m c t 3 p k q h3 hq, part m c ⟨t.val - 1, by omega⟩ 2 p k q (by show (t.val - 1) % 4 = 2; omega) (by dsimp only; omega),
      part m c ⟨t.val - 1 - 1, by omega⟩ 1 p k q (by show (t.val - 1 - 1) % 4 = 1; omega) (by dsimp only; omega),
      part m c ⟨t.val - 1 - 1 - 1, by omega⟩ 0 p k q (by show (t.val - 1 - 1 - 1) % 4 = 0; omega) (by dsimp only; omega)]
    unfold dF
    rw [FfnRow.sum_blocks (a := 4) (b := 2048) rfl, Fin.sum_univ_four]
    rfl
  refine (congrArg _ (eq_ix2 y)).trans ((fin (y 0) (y 1) ⟨t.val / 4 * 1408 + (y 0).val, by have : (y 0).val < 1408 := (y 0).isLt; omega⟩ rfl).trans ?_)
  blk_ext [idx t]
end Kernel

section Reference
open Cert.DwRefIdeal Cert.DwRefIdeal.Read Idealize.ShloMosaic Idealize.ShloMosaic.TcCoe Idealize.SL.Sem
open Cert.K

theorem d_eq (x0 : FVec Ideal S8192x2816 .f32) (x1 : FVec Ideal S8192x1024 .f32) : val_main_v4 (F := Ideal) x0 x1 = dF x0 x1 := by
  funext i
  have h (r : Fin 2816) (k : Fin 1024) : val_main_v4 (F := Ideal) x0 x1 (ix2 r k) = dF x0 x1 (ix2 r k) := by
    pointwise [val_main_v2, val_main_v3, val_main_v4]
    exact Finset.sum_congr rfl fun n _ => mul_comm (G := EReal) (x1 (ix2 n k)) (x0 (ix2 n r))
  exact (congrArg _ (eq_ix2 i)).trans ((h (i 0) (i 1)).trans (congrArg _ (eq_ix2 i).symm))
end Reference

open Idealize.ShloMosaic Idealize.ShloMosaic.TcCoe Idealize.SL.Sem

/-- The reference keeps its arguments and declares no semaphore. -/
theorem refFrame : Cert.quiescent_DwRefIdeal := fun m g _ =>
  (θ_run Cert.DwRefIdeal.defs _ _).mono (fun r h => ⟨fun c => (h c).2, sem_eq_zero_of_no_sems (by decide) r.2⟩)
    (Cert.DwRefIdeal.Value.run (F := Ideal) m g)

/-- Kernel and reference end with the same gradient of the weight, whatever the arguments. -/
theorem algebraic : Cert.algebraic_DwIdeal_DwRefIdeal := by
  pair_intro
  · run_from Cert.DwIdeal.Value.run_blocks m g
  · run_from Cert.DwRefIdeal.Value.run m' g'
    · exact (d_eq _ _).trans (final_d m _).symm

end Cert.Proof.DwVal
-- ==== Proof.lean ====
/- The certificate's last step: every claim of the statement, each from the module that proves it. -/
module

public import proofs.«01_k».proof.Defs
public import proofs.«01_k».proof.Proof.Gen.MixNorm.Frame
public import proofs.«01_k».proof.Proof.Norm
public import proofs.«01_k».proof.Proof.Gen.Loss.Frame
public import proofs.«01_k».proof.Proof.LossHead
public import proofs.«01_k».proof.Proof.Gen.Conv.Frame
public import proofs.«01_k».proof.Proof.ConvGrad
public import proofs.«01_k».proof.Proof.Gen.Merge.Frame
public import proofs.«01_k».proof.Proof.MergeGrad
public import proofs.«01_k».proof.Proof.AttGrad
public import proofs.«01_k».proof.Proof.Gen.AttFwd.Frame
public import proofs.«01_k».proof.Proof.AttFwdVal
public import proofs.«01_k».proof.Proof.Gen.Bias.Frame
public import proofs.«01_k».proof.Proof.BiasGrad
public import proofs.«01_k».proof.Proof.FfnFrame
public import proofs.«01_k».proof.Proof.FfnGrad
public import proofs.«01_k».proof.Proof.FfnFwdFrame
public import proofs.«01_k».proof.Proof.FfnFwdVal
public import proofs.«01_k».proof.Proof.Gen.MergeFwd.Frame
public import proofs.«01_k».proof.Proof.MergeFwdVal
public import proofs.«01_k».proof.Proof.Gen.NormFwd.Frame
public import proofs.«01_k».proof.Proof.NormFwdVal
public import proofs.«01_k».proof.Proof.Gen.ConvFwd.Frame
public import proofs.«01_k».proof.Proof.ConvFwdVal
public import proofs.«01_k».proof.Proof.Gen.BiasFwd.Frame
public import proofs.«01_k».proof.Proof.BiasFwdVal
public import proofs.«01_k».proof.Proof.Gen.OutDm.Frame
public import proofs.«01_k».proof.Proof.OutDmVal
public import proofs.«01_k».proof.Proof.Gen.InProj.Frame
public import proofs.«01_k».proof.Proof.InProjVal
public import proofs.«01_k».proof.Proof.Gen.Adam.Frame
public import proofs.«01_k».proof.Proof.AdamVal
public import proofs.«01_k».proof.Proof.Gen.Dw.Frame
public import proofs.«01_k».proof.Proof.DwVal
public import Idealize.ShloMosaic.Adequacy
public import Idealize.ShloMosaic.Init

@[expose] public section

noncomputable section

namespace Cert.Proof

open Idealize.ShloMosaic Idealize.SL.Sem

/-- Every claim: per call the frames of kernel, idealized kernel and reference, the idealization, the equality. -/
theorem claim : Cert.Claim := ⟨Cert.MixNorm.Gen.facts, Cert.MixNormIdeal.Gen.facts, Cert.MixNormRefIdeal.Gen.facts, Cert.Loss.Gen.facts, Cert.LossIdeal.Gen.facts, Cert.LossRefIdeal.Gen.facts, Cert.Conv.Gen.facts, Cert.ConvIdeal.Gen.facts, Cert.ConvRefIdeal.Gen.facts, Cert.Merge.Gen.facts, Cert.MergeIdeal.Gen.facts, Cert.MergeRefIdeal.Gen.facts, Cert.Att.Gen.facts, Cert.AttIdeal.Gen.facts, Cert.AttRefIdeal.Gen.facts, Cert.AttFwd.Gen.facts, Cert.AttFwdIdeal.Gen.facts, Cert.AttFwdRefIdeal.Gen.facts, Cert.Bias.Gen.facts, Cert.BiasIdeal.Gen.facts, Cert.BiasRefIdeal.Gen.facts, Cert.Ffn.Gen.facts, Cert.FfnIdeal.Gen.facts, Cert.FfnRefIdeal.Gen.facts, Cert.FfnFwd.Gen.facts, Cert.FfnFwdIdeal.Gen.facts, Cert.FfnFwdRefIdeal.Gen.facts, Cert.MergeFwd.Gen.facts, Cert.MergeFwdIdeal.Gen.facts, Cert.MergeFwdRefIdeal.Gen.facts, Cert.NormFwd.Gen.facts, Cert.NormFwdIdeal.Gen.facts, Cert.NormFwdRefIdeal.Gen.facts, Cert.ConvFwd.Gen.facts, Cert.ConvFwdIdeal.Gen.facts, Cert.ConvFwdRefIdeal.Gen.facts, Cert.BiasFwd.Gen.facts, Cert.BiasFwdIdeal.Gen.facts, Cert.BiasFwdRefIdeal.Gen.facts, Cert.OutDm.Gen.facts, Cert.OutDmIdeal.Gen.facts, Cert.OutDmRefIdeal.Gen.facts, Cert.InProj.Gen.facts, Cert.InProjIdeal.Gen.facts, Cert.InProjRefIdeal.Gen.facts, Cert.Adam.Gen.facts, Cert.AdamIdeal.Gen.facts, Cert.AdamRefIdeal.Gen.facts, Cert.Dw.Gen.facts, Cert.DwIdeal.Gen.facts, Cert.DwRefIdeal.Gen.facts, AttGrad.preFacts, AttFwdVal.preFacts, BiasGrad.preFacts, FfnGrad.preFacts, BiasFwdVal.preFacts,
  fun m g _ => Cert.MixNorm.Gen.frame m g, fun m g _ => Cert.MixNormIdeal.Gen.frame m g, Norm.refFrame,
  fun m g _ => Cert.Loss.Gen.frame m g, fun m g _ => Cert.LossIdeal.Gen.frame m g, LossHead.refFrame,
  fun m g _ => Cert.Conv.Gen.frame m g, fun m g _ => Cert.ConvIdeal.Gen.frame m g, ConvGrad.refFrame,
  fun m g _ => Cert.Merge.Gen.frame m g, fun m g _ => Cert.MergeIdeal.Gen.frame m g, MergeGrad.refFrame,
  fun m g _ => Cert.Att.Hand.frame m g, fun m g _ => Cert.AttIdeal.Hand.frame m g, fun m g _ => Cert.AttIdeal.Hand.frame m g, AttGrad.refFrame, fun m g _ => AttGrad.refFrame m g trivial,
  fun m g _ => Cert.AttFwd.Gen.frame m g, fun m g _ => Cert.AttFwdIdeal.Gen.frame m g, fun m g _ => Cert.AttFwdIdeal.Gen.frame m g, AttFwdVal.refFrame, fun m g _ => AttFwdVal.refFrame m g trivial,
  fun m g _ => Cert.Bias.Gen.frame m g, fun m g _ => Cert.BiasIdeal.Gen.frame m g, fun m g _ => Cert.BiasIdeal.Gen.frame m g, BiasGrad.refFrame, fun m g _ => BiasGrad.refFrame m g trivial,
  fun m g _ => Cert.Ffn.Hand.frame m g, fun m g _ => Cert.FfnIdeal.Hand.frame m g, fun m g _ => Cert.FfnIdeal.Hand.frame m g, FfnGrad.refFrame, fun m g _ => FfnGrad.refFrame m g trivial,
  fun m g _ => Cert.FfnFwd.Hand.frame m g, fun m g _ => Cert.FfnFwdIdeal.Hand.frame m g, FfnFwdVal.refFrame,
  fun m g _ => Cert.MergeFwd.Gen.frame m g, fun m g _ => Cert.MergeFwdIdeal.Gen.frame m g, MergeFwdVal.refFrame,
  fun m g _ => Cert.NormFwd.Gen.frame m g, fun m g _ => Cert.NormFwdIdeal.Gen.frame m g, NormFwdVal.refFrame,
  fun m g _ => Cert.ConvFwd.Gen.frame m g, fun m g _ => Cert.ConvFwdIdeal.Gen.frame m g, ConvFwdVal.refFrame,
  fun m g _ => Cert.BiasFwd.Gen.frame m g, fun m g _ => Cert.BiasFwdIdeal.Gen.frame m g, fun m g _ => Cert.BiasFwdIdeal.Gen.frame m g, BiasFwdVal.refFrame, fun m g _ => BiasFwdVal.refFrame m g trivial,
  fun m g _ => Cert.OutDm.Gen.frame m g, fun m g _ => Cert.OutDmIdeal.Gen.frame m g, OutDmVal.refFrame,
  fun m g _ => Cert.InProj.Gen.frame m g, fun m g _ => Cert.InProjIdeal.Gen.frame m g, InProjVal.refFrame,
  fun m g _ => Cert.Adam.Gen.frame m g, fun m g _ => Cert.AdamIdeal.Gen.frame m g, AdamVal.refFrame,
  fun m g _ => Cert.Dw.Gen.frame m g, fun m g _ => Cert.DwIdeal.Gen.frame m g, DwVal.refFrame,
  trivial, Norm.algebraic,
  trivial, LossHead.algebraic,
  trivial, ConvGrad.algebraic,
  trivial, MergeGrad.algebraic,
  AttGrad.preserves, AttGrad.algebraic,
  trivial, AttFwdVal.algebraic,
  trivial, BiasGrad.algebraic,
  trivial, FfnGrad.algebraic,
  trivial, FfnFwdVal.algebraic,
  trivial, MergeFwdVal.algebraic,
  trivial, NormFwdVal.algebraic,
  trivial, ConvFwdVal.algebraic,
  trivial, BiasFwdVal.algebraic,
  trivial, OutDmVal.algebraic,
  trivial, InProjVal.algebraic,
  trivial, AdamVal.algebraic,
  trivial, DwVal.algebraic⟩

end Cert.Proof

end
